-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite12 [hPre_finite12 : Cert.Pre_finite12.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.1 = (fun _ => 1#1)
    ∧ (Cert.Pre_finite12.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2))).2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite12 [hPre_finite12 : Cert.Pre_finite12.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.1 = (fun _ => 1#1)
    ∧ (Cert.Pre_finite12.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2))).2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Kernel12Ideal_pre_finite12 [hKernel12Ideal : Cert.Kernel12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite12 m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Reference12Ideal_pre_finite12 [hReference12Ideal : Cert.Reference12Ideal.Facts] [hPre_finite12 : Cert.Pre_finite12.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite12 m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7)
      ∧ r.2.mem ((c.tc : Thread Cert.Kernel29.nD Cert.Kernel29.τ).loc Cert.Kernel29.main_arg8) = m ((c.tc : Thread Cert.Kernel29.nD Cert.Kernel29.τ).loc Cert.Kernel29.main_arg8)
      ∧ r.2.mem ((c.tc : Thread Cert.Kernel29.nD Cert.Kernel29.τ).loc Cert.Kernel29.main_arg9) = m ((c.tc : Thread Cert.Kernel29.nD Cert.Kernel29.τ).loc Cert.Kernel29.main_arg9)
      ∧ r.2.mem ((c.tc : Thread Cert.Kernel29.nD Cert.Kernel29.τ).loc Cert.Kernel29.main_arg10) = m ((c.tc : Thread Cert.Kernel29.nD Cert.Kernel29.τ).loc Cert.Kernel29.main_arg10)
      ∧ r.2.mem ((c.tc : Thread Cert.Kernel29.nD Cert.Kernel29.τ).loc Cert.Kernel29.main_arg11) = m ((c.tc : Thread Cert.Kernel29.nD Cert.Kernel29.τ).loc Cert.Kernel29.main_arg11)
      ∧ r.2.mem ((c.tc : Thread Cert.Kernel29.nD Cert.Kernel29.τ).loc Cert.Kernel29.main_arg12) = m ((c.tc : Thread Cert.Kernel29.nD Cert.Kernel29.τ).loc Cert.Kernel29.main_arg12)
      ∧ r.2.mem ((c.tc : Thread Cert.Kernel29.nD Cert.Kernel29.τ).loc Cert.Kernel29.main_arg13) = m ((c.tc : Thread Cert.Kernel29.nD Cert.Kernel29.τ).loc Cert.Kernel29.main_arg13)
      ∧ r.2.mem ((c.tc : Thread Cert.Kernel29.nD Cert.Kernel29.τ).loc Cert.Kernel29.main_arg14) = m ((c.tc : Thread Cert.Kernel29.nD Cert.Kernel29.τ).loc Cert.Kernel29.main_arg14)
      ∧ r.2.mem ((c.tc : Thread Cert.Kernel29.nD Cert.Kernel29.τ).loc Cert.Kernel29.main_arg15) = m ((c.tc : Thread Cert.Kernel29.nD Cert.Kernel29.τ).loc Cert.Kernel29.main_arg15)
      ∧ r.2.mem ((c.tc : Thread Cert.Kernel29.nD Cert.Kernel29.τ).loc Cert.Kernel29.main_arg16) = m ((c.tc : Thread Cert.Kernel29.nD Cert.Kernel29.τ).loc Cert.Kernel29.main_arg16)
      ∧ r.2.mem ((c.tc : Thread Cert.Kernel29.nD Cert.Kernel29.τ).loc Cert.Kernel29.main_arg17) = m ((c.tc : Thread Cert.Kernel29.nD Cert.Kernel29.τ).loc Cert.Kernel29.main_arg17)
      ∧ r.2.mem ((c.tc : Thread Cert.Kernel29.nD Cert.Kernel29.τ).loc Cert.Kernel29.main_arg18) = m ((c.tc : Thread Cert.Kernel29.nD Cert.Kernel29.τ).loc Cert.Kernel29.main_arg18)
      ∧ r.2.mem ((c.tc : Thread Cert.Kernel29.nD Cert.Kernel29.τ).loc Cert.Kernel29.main_arg19) = m ((c.tc : Thread Cert.Kernel29.nD Cert.Kernel29.τ).loc Cert.Kernel29.main_arg19)
      ∧ r.2.mem ((c.tc : Thread Cert.Kernel29.nD Cert.Kernel29.τ).loc Cert.Kernel29.main_arg20) = m ((c.tc : Thread Cert.Kernel29.nD Cert.Kernel29.τ).loc Cert.Kernel29.main_arg20)
      ∧ r.2.mem ((c.tc : Thread Cert.Kernel29.nD Cert.Kernel29.τ).loc Cert.Kernel29.main_arg21) = m ((c.tc : Thread Cert.Kernel29.nD Cert.Kernel29.τ).loc Cert.Kernel29.main_arg21)
      ∧ r.2.mem ((c.tc : Thread Cert.Kernel29.nD Cert.Kernel29.τ).loc Cert.Kernel29.main_arg22) = m ((c.tc : Thread Cert.Kernel29.nD Cert.Kernel29.τ).loc Cert.Kernel29.main_arg22)
      ∧ r.2.mem ((c.tc : Thread Cert.Kernel29.nD Cert.Kernel29.τ).loc Cert.Kernel29.main_arg23) = m ((c.tc : Thread Cert.Kernel29.nD Cert.Kernel29.τ).loc Cert.Kernel29.main_arg23)
      ∧ r.2.mem ((c.tc : Thread Cert.Kernel29.nD Cert.Kernel29.τ).loc Cert.Kernel29.main_arg24) = m ((c.tc : Thread Cert.Kernel29.nD Cert.Kernel29.τ).loc Cert.Kernel29.main_arg24)
      ∧ r.2.mem ((c.tc : Thread Cert.Kernel29.nD Cert.Kernel29.τ).loc Cert.Kernel29.main_arg25) = m ((c.tc : Thread Cert.Kernel29.nD Cert.Kernel29.τ).loc Cert.Kernel29.main_arg25)
      ∧ r.2.mem ((c.tc : Thread Cert.Kernel29.nD Cert.Kernel29.τ).loc Cert.Kernel29.main_arg26) = m ((c.tc : Thread Cert.Kernel29.nD Cert.Kernel29.τ).loc Cert.Kernel29.main_arg26)
      ∧ r.2.mem ((c.tc : Thread Cert.Kernel29.nD Cert.Kernel29.τ).loc Cert.Kernel29.main_arg27) = m ((c.tc : Thread Cert.Kernel29.nD Cert.Kernel29.τ).loc Cert.Kernel29.main_arg27)
      ∧ r.2.mem ((c.tc : Thread Cert.Kernel29.nD Cert.Kernel29.τ).loc Cert.Kernel29.main_arg28) = m ((c.tc : Thread Cert.Kernel29.nD Cert.Kernel29.τ).loc Cert.Kernel29.main_arg28)
      ∧ r.2.mem ((c.tc : Thread Cert.Kernel29.nD Cert.Kernel29.τ).loc Cert.Kernel29.main_arg29) = m ((c.tc : Thread Cert.Kernel29.nD Cert.Kernel29.τ).loc Cert.Kernel29.main_arg29)
      ∧ r.2.mem ((c.tc : Thread Cert.Kernel29.nD Cert.Kernel29.τ).loc Cert.Kernel29.main_arg30) = m ((c.tc : Thread Cert.Kernel29.nD Cert.Kernel29.τ).loc Cert.Kernel29.main_arg30)
      ∧ r.2.mem ((c.tc : Thread Cert.Kernel29.nD Cert.Kernel29.τ).loc Cert.Kernel29.main_arg31) = m ((c.tc : Thread Cert.Kernel29.nD Cert.Kernel29.τ).loc Cert.Kernel29.main_arg31)
      ∧ r.2.mem ((c.tc : Thread Cert.Kernel29.nD Cert.Kernel29.τ).loc Cert.Kernel29.main_arg32) = m ((c.tc : Thread Cert.Kernel29.nD Cert.Kernel29.τ).loc Cert.Kernel29.main_arg32)
      ∧ r.2.mem ((c.tc : Thread Cert.Kernel29.nD Cert.Kernel29.τ).loc Cert.Kernel29.main_arg33) = m ((c.tc : Thread Cert.Kernel29.nD Cert.Kernel29.τ).loc Cert.Kernel29.main_arg33)
      ∧ r.2.mem ((c.tc : Thread Cert.Kernel29.nD Cert.Kernel29.τ).loc Cert.Kernel29.main_arg34) = m ((c.tc : Thread Cert.Kernel29.nD Cert.Kernel29.τ).loc Cert.Kernel29.main_arg34)
      ∧ r.2.mem ((c.tc : Thread Cert.Kernel29.nD Cert.Kernel29.τ).loc Cert.Kernel29.main_arg35) = m ((c.tc : Thread Cert.Kernel29.nD Cert.Kernel29.τ).loc Cert.Kernel29.main_arg35)
      ∧ r.2.mem ((c.tc : Thread Cert.Kernel29.nD Cert.Kernel29.τ).loc Cert.Kernel29.main_arg36) = m ((c.tc : Thread Cert.Kernel29.nD Cert.Kernel29.τ).loc Cert.Kernel29.main_arg36)
      ∧ r.2.mem ((c.tc : Thread Cert.Kernel29.nD Cert.Kernel29.τ).loc Cert.Kernel29.main_arg37) = m ((c.tc : Thread Cert.Kernel29.nD Cert.Kernel29.τ).loc Cert.Kernel29.main_arg37)
      ∧ r.2.mem ((c.tc : Thread Cert.Kernel29.nD Cert.Kernel29.τ).loc Cert.Kernel29.main_arg38) = m ((c.tc : Thread Cert.Kernel29.nD Cert.Kernel29.τ).loc Cert.Kernel29.main_arg38)
      ∧ r.2.mem ((c.tc : Thread Cert.Kernel29.nD Cert.Kernel29.τ).loc Cert.Kernel29.main_arg39) = m ((c.tc : Thread Cert.Kernel29.nD Cert.Kernel29.τ).loc Cert.Kernel29.main_arg39)
      ∧ r.2.mem ((c.tc : Thread Cert.Kernel29.nD Cert.Kernel29.τ).loc Cert.Kernel29.main_arg40) = m ((c.tc : Thread Cert.Kernel29.nD Cert.Kernel29.τ).loc Cert.Kernel29.main_arg40)
      ∧ r.2.mem ((c.tc : Thread Cert.Kernel29.nD Cert.Kernel29.τ).loc Cert.Kernel29.main_arg41) = m ((c.tc : Thread Cert.Kernel29.nD Cert.Kernel29.τ).loc Cert.Kernel29.main_arg41)
      ∧ r.2.mem ((c.tc : Thread Cert.Kernel29.nD Cert.Kernel29.τ).loc Cert.Kernel29.main_arg42) = m ((c.tc : Thread Cert.Kernel29.nD Cert.Kernel29.τ).loc Cert.Kernel29.main_arg42)
      ∧ r.2.mem ((c.tc : Thread Cert.Kernel29.nD Cert.Kernel29.τ).loc Cert.Kernel29.main_arg43) = m ((c.tc : Thread Cert.Kernel29.nD Cert.Kernel29.τ).loc Cert.Kernel29.main_arg43)
      ∧ r.2.mem ((c.tc : Thread Cert.Kernel29.nD Cert.Kernel29.τ).loc Cert.Kernel29.main_arg44) = m ((c.tc : Thread Cert.Kernel29.nD Cert.Kernel29.τ).loc Cert.Kernel29.main_arg44)
      ∧ r.2.mem ((c.tc : Thread Cert.Kernel29.nD Cert.Kernel29.τ).loc Cert.Kernel29.main_arg45) = m ((c.tc : Thread Cert.Kernel29.nD Cert.Kernel29.τ).loc Cert.Kernel29.main_arg45)
      ∧ r.2.mem ((c.tc : Thread Cert.Kernel29.nD Cert.Kernel29.τ).loc Cert.Kernel29.main_arg46) = m ((c.tc : Thread Cert.Kernel29.nD Cert.Kernel29.τ).loc Cert.Kernel29.main_arg46)
      ∧ r.2.mem ((c.tc : Thread Cert.Kernel29.nD Cert.Kernel29.τ).loc Cert.Kernel29.main_arg47) = m ((c.tc : Thread Cert.Kernel29.nD Cert.Kernel29.τ).loc Cert.Kernel29.main_arg47)
      ∧ r.2.mem ((c.tc : Thread Cert.Kernel29.nD Cert.Kernel29.τ).loc Cert.Kernel29.main_arg48) = m ((c.tc : Thread Cert.Kernel29.nD Cert.Kernel29.τ).loc Cert.Kernel29.main_arg48)
      ∧ r.2.mem ((c.tc : Thread Cert.Kernel29.nD Cert.Kernel29.τ).loc Cert.Kernel29.main_arg49) = m ((c.tc : Thread Cert.Kernel29.nD Cert.Kernel29.τ).loc Cert.Kernel29.main_arg49)
      ∧ r.2.mem ((c.tc : Thread Cert.Kernel29.nD Cert.Kernel29.τ).loc Cert.Kernel29.main_arg50) = m ((c.tc : Thread Cert.Kernel29.nD Cert.Kernel29.τ).loc Cert.Kernel29.main_arg50)
      ∧ r.2.mem ((c.tc : Thread Cert.Kernel29.nD Cert.Kernel29.τ).loc Cert.Kernel29.main_arg51) = m ((c.tc : Thread Cert.Kernel29.nD Cert.Kernel29.τ).loc Cert.Kernel29.main_arg51)
      ∧ r.2.mem ((c.tc : Thread Cert.Kernel29.nD Cert.Kernel29.τ).loc Cert.Kernel29.main_arg52) = m ((c.tc : Thread Cert.Kernel29.nD Cert.Kernel29.τ).loc Cert.Kernel29.main_arg52)
      ∧ r.2.mem ((c.tc : Thread Cert.Kernel29.nD Cert.Kernel29.τ).loc Cert.Kernel29.main_arg53) = m ((c.tc : Thread Cert.Kernel29.nD Cert.Kernel29.τ).loc Cert.Kernel29.main_arg53)
      ∧ r.2.mem ((c.tc : Thread Cert.Kernel29.nD Cert.Kernel29.τ).loc Cert.Kernel29.main_arg54) = m ((c.tc : Thread Cert.Kernel29.nD Cert.Kernel29.τ).loc Cert.Kernel29.main_arg54)
      ∧ r.2.mem ((c.tc : Thread Cert.Kernel29.nD Cert.Kernel29.τ).loc Cert.Kernel29.main_arg55) = m ((c.tc : Thread Cert.Kernel29.nD Cert.Kernel29.τ).loc Cert.Kernel29.main_arg55)
      ∧ r.2.mem ((c.tc : Thread Cert.Kernel29.nD Cert.Kernel29.τ).loc Cert.Kernel29.main_arg56) = m ((c.tc : Thread Cert.Kernel29.nD Cert.Kernel29.τ).loc Cert.Kernel29.main_arg56)
      ∧ r.2.mem ((c.tc : Thread Cert.Kernel29.nD Cert.Kernel29.τ).loc Cert.Kernel29.main_arg57) = m ((c.tc : Thread Cert.Kernel29.nD Cert.Kernel29.τ).loc Cert.Kernel29.main_arg57)
      ∧ r.2.mem ((c.tc : Thread Cert.Kernel29.nD Cert.Kernel29.τ).loc Cert.Kernel29.main_arg58) = m ((c.tc : Thread Cert.Kernel29.nD Cert.Kernel29.τ).loc Cert.Kernel29.main_arg58)
      ∧ r.2.mem ((c.tc : Thread Cert.Kernel29.nD Cert.Kernel29.τ).loc Cert.Kernel29.main_arg59) = m ((c.tc : Thread Cert.Kernel29.nD Cert.Kernel29.τ).loc Cert.Kernel29.main_arg59)
      ∧ r.2.mem ((c.tc : Thread Cert.Kernel29.nD Cert.Kernel29.τ).loc Cert.Kernel29.main_arg60) = m ((c.tc : Thread Cert.Kernel29.nD Cert.Kernel29.τ).loc Cert.Kernel29.main_arg60)
      ∧ r.2.mem ((c.tc : Thread Cert.Kernel29.nD Cert.Kernel29.τ).loc Cert.Kernel29.main_arg61) = m ((c.tc : Thread Cert.Kernel29.nD Cert.Kernel29.τ).loc Cert.Kernel29.main_arg61)
      ∧ r.2.mem ((c.tc : Thread Cert.Kernel29.nD Cert.Kernel29.τ).loc Cert.Kernel29.main_arg62) = m ((c.tc : Thread Cert.Kernel29.nD Cert.Kernel29.τ).loc Cert.Kernel29.main_arg62)
      ∧ r.2.mem ((c.tc : Thread Cert.Kernel29.nD Cert.Kernel29.τ).loc Cert.Kernel29.main_arg63) = m ((c.tc : Thread Cert.Kernel29.nD Cert.Kernel29.τ).loc Cert.Kernel29.main_arg63)
      ∧ r.2.mem ((c.tc : Thread Cert.Kernel29.nD Cert.Kernel29.τ).loc Cert.Kernel29.main_arg64) = m ((c.tc : Thread Cert.Kernel29.nD Cert.Kernel29.τ).loc Cert.Kernel29.main_arg64))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
      ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
      ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
      ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
      ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11)
      ∧ r.2.mem ((c.tc : Thread Cert.Kernel29Ideal.nD Cert.Kernel29Ideal.τ).loc Cert.Kernel29Ideal.main_arg12) = m ((c.tc : Thread Cert.Kernel29Ideal.nD Cert.Kernel29Ideal.τ).loc Cert.Kernel29Ideal.main_arg12)
      ∧ r.2.mem ((c.tc : Thread Cert.Kernel29Ideal.nD Cert.Kernel29Ideal.τ).loc Cert.Kernel29Ideal.main_arg13) = m ((c.tc : Thread Cert.Kernel29Ideal.nD Cert.Kernel29Ideal.τ).loc Cert.Kernel29Ideal.main_arg13)
      ∧ r.2.mem ((c.tc : Thread Cert.Kernel29Ideal.nD Cert.Kernel29Ideal.τ).loc Cert.Kernel29Ideal.main_arg14) = m ((c.tc : Thread Cert.Kernel29Ideal.nD Cert.Kernel29Ideal.τ).loc Cert.Kernel29Ideal.main_arg14)
      ∧ r.2.mem ((c.tc : Thread Cert.Kernel29Ideal.nD Cert.Kernel29Ideal.τ).loc Cert.Kernel29Ideal.main_arg15) = m ((c.tc : Thread Cert.Kernel29Ideal.nD Cert.Kernel29Ideal.τ).loc Cert.Kernel29Ideal.main_arg15)
      ∧ r.2.mem ((c.tc : Thread Cert.Kernel29Ideal.nD Cert.Kernel29Ideal.τ).loc Cert.Kernel29Ideal.main_arg16) = m ((c.tc : Thread Cert.Kernel29Ideal.nD Cert.Kernel29Ideal.τ).loc Cert.Kernel29Ideal.main_arg16)
      ∧ r.2.mem ((c.tc : Thread Cert.Kernel29Ideal.nD Cert.Kernel29Ideal.τ).loc Cert.Kernel29Ideal.main_arg17) = m ((c.tc : Thread Cert.Kernel29Ideal.nD Cert.Kernel29Ideal.τ).loc Cert.Kernel29Ideal.main_arg17)
      ∧ r.2.mem ((c.tc : Thread Cert.Kernel29Ideal.nD Cert.Kernel29Ideal.τ).loc Cert.Kernel29Ideal.main_arg18) = m ((c.tc : Thread Cert.Kernel29Ideal.nD Cert.Kernel29Ideal.τ).loc Cert.Kernel29Ideal.main_arg18)
      ∧ r.2.mem ((c.tc : Thread Cert.Kernel29Ideal.nD Cert.Kernel29Ideal.τ).loc Cert.Kernel29Ideal.main_arg19) = m ((c.tc : Thread Cert.Kernel29Ideal.nD Cert.Kernel29Ideal.τ).loc Cert.Kernel29Ideal.main_arg19)
      ∧ r.2.mem ((c.tc : Thread Cert.Kernel29Ideal.nD Cert.Kernel29Ideal.τ).loc Cert.Kernel29Ideal.main_arg20) = m ((c.tc : Thread Cert.Kernel29Ideal.nD Cert.Kernel29Ideal.τ).loc Cert.Kernel29Ideal.main_arg20)
      ∧ r.2.mem ((c.tc : Thread Cert.Kernel29Ideal.nD Cert.Kernel29Ideal.τ).loc Cert.Kernel29Ideal.main_arg21) = m ((c.tc : Thread Cert.Kernel29Ideal.nD Cert.Kernel29Ideal.τ).loc Cert.Kernel29Ideal.main_arg21)
      ∧ r.2.mem ((c.tc : Thread Cert.Kernel29Ideal.nD Cert.Kernel29Ideal.τ).loc Cert.Kernel29Ideal.main_arg22) = m ((c.tc : Thread Cert.Kernel29Ideal.nD Cert.Kernel29Ideal.τ).loc Cert.Kernel29Ideal.main_arg22)
      ∧ r.2.mem ((c.tc : Thread Cert.Kernel29Ideal.nD Cert.Kernel29Ideal.τ).loc Cert.Kernel29Ideal.main_arg23) = m ((c.tc : Thread Cert.Kernel29Ideal.nD Cert.Kernel29Ideal.τ).loc Cert.Kernel29Ideal.main_arg23)
      ∧ r.2.mem ((c.tc : Thread Cert.Kernel29Ideal.nD Cert.Kernel29Ideal.τ).loc Cert.Kernel29Ideal.main_arg24) = m ((c.tc : Thread Cert.Kernel29Ideal.nD Cert.Kernel29Ideal.τ).loc Cert.Kernel29Ideal.main_arg24)
      ∧ r.2.mem ((c.tc : Thread Cert.Kernel29Ideal.nD Cert.Kernel29Ideal.τ).loc Cert.Kernel29Ideal.main_arg25) = m ((c.tc : Thread Cert.Kernel29Ideal.nD Cert.Kernel29Ideal.τ).loc Cert.Kernel29Ideal.main_arg25)
      ∧ r.2.mem ((c.tc : Thread Cert.Kernel29Ideal.nD Cert.Kernel29Ideal.τ).loc Cert.Kernel29Ideal.main_arg26) = m ((c.tc : Thread Cert.Kernel29Ideal.nD Cert.Kernel29Ideal.τ).loc Cert.Kernel29Ideal.main_arg26)
      ∧ r.2.mem ((c.tc : Thread Cert.Kernel29Ideal.nD Cert.Kernel29Ideal.τ).loc Cert.Kernel29Ideal.main_arg27) = m ((c.tc : Thread Cert.Kernel29Ideal.nD Cert.Kernel29Ideal.τ).loc Cert.Kernel29Ideal.main_arg27)
      ∧ r.2.mem ((c.tc : Thread Cert.Kernel29Ideal.nD Cert.Kernel29Ideal.τ).loc Cert.Kernel29Ideal.main_arg28) = m ((c.tc : Thread Cert.Kernel29Ideal.nD Cert.Kernel29Ideal.τ).loc Cert.Kernel29Ideal.main_arg28)
      ∧ r.2.mem ((c.tc : Thread Cert.Kernel29Ideal.nD Cert.Kernel29Ideal.τ).loc Cert.Kernel29Ideal.main_arg29) = m ((c.tc : Thread Cert.Kernel29Ideal.nD Cert.Kernel29Ideal.τ).loc Cert.Kernel29Ideal.main_arg29)
      ∧ r.2.mem ((c.tc : Thread Cert.Kernel29Ideal.nD Cert.Kernel29Ideal.τ).loc Cert.Kernel29Ideal.main_arg30) = m ((c.tc : Thread Cert.Kernel29Ideal.nD Cert.Kernel29Ideal.τ).loc Cert.Kernel29Ideal.main_arg30)
      ∧ r.2.mem ((c.tc : Thread Cert.Kernel29Ideal.nD Cert.Kernel29Ideal.τ).loc Cert.Kernel29Ideal.main_arg31) = m ((c.tc : Thread Cert.Kernel29Ideal.nD Cert.Kernel29Ideal.τ).loc Cert.Kernel29Ideal.main_arg31)
      ∧ r.2.mem ((c.tc : Thread Cert.Kernel29Ideal.nD Cert.Kernel29Ideal.τ).loc Cert.Kernel29Ideal.main_arg32) = m ((c.tc : Thread Cert.Kernel29Ideal.nD Cert.Kernel29Ideal.τ).loc Cert.Kernel29Ideal.main_arg32)
      ∧ r.2.mem ((c.tc : Thread Cert.Kernel29Ideal.nD Cert.Kernel29Ideal.τ).loc Cert.Kernel29Ideal.main_arg33) = m ((c.tc : Thread Cert.Kernel29Ideal.nD Cert.Kernel29Ideal.τ).loc Cert.Kernel29Ideal.main_arg33)
      ∧ r.2.mem ((c.tc : Thread Cert.Kernel29Ideal.nD Cert.Kernel29Ideal.τ).loc Cert.Kernel29Ideal.main_arg34) = m ((c.tc : Thread Cert.Kernel29Ideal.nD Cert.Kernel29Ideal.τ).loc Cert.Kernel29Ideal.main_arg34)
      ∧ r.2.mem ((c.tc : Thread Cert.Kernel29Ideal.nD Cert.Kernel29Ideal.τ).loc Cert.Kernel29Ideal.main_arg35) = m ((c.tc : Thread Cert.Kernel29Ideal.nD Cert.Kernel29Ideal.τ).loc Cert.Kernel29Ideal.main_arg35)
      ∧ r.2.mem ((c.tc : Thread Cert.Kernel29Ideal.nD Cert.Kernel29Ideal.τ).loc Cert.Kernel29Ideal.main_arg36) = m ((c.tc : Thread Cert.Kernel29Ideal.nD Cert.Kernel29Ideal.τ).loc Cert.Kernel29Ideal.main_arg36)
      ∧ r.2.mem ((c.tc : Thread Cert.Kernel29Ideal.nD Cert.Kernel29Ideal.τ).loc Cert.Kernel29Ideal.main_arg37) = m ((c.tc : Thread Cert.Kernel29Ideal.nD Cert.Kernel29Ideal.τ).loc Cert.Kernel29Ideal.main_arg37)
      ∧ r.2.mem ((c.tc : Thread Cert.Kernel29Ideal.nD Cert.Kernel29Ideal.τ).loc Cert.Kernel29Ideal.main_arg38) = m ((c.tc : Thread Cert.Kernel29Ideal.nD Cert.Kernel29Ideal.τ).loc Cert.Kernel29Ideal.main_arg38)
      ∧ r.2.mem ((c.tc : Thread Cert.Kernel29Ideal.nD Cert.Kernel29Ideal.τ).loc Cert.Kernel29Ideal.main_arg39) = m ((c.tc : Thread Cert.Kernel29Ideal.nD Cert.Kernel29Ideal.τ).loc Cert.Kernel29Ideal.main_arg39)
      ∧ r.2.mem ((c.tc : Thread Cert.Kernel29Ideal.nD Cert.Kernel29Ideal.τ).loc Cert.Kernel29Ideal.main_arg40) = m ((c.tc : Thread Cert.Kernel29Ideal.nD Cert.Kernel29Ideal.τ).loc Cert.Kernel29Ideal.main_arg40)
      ∧ r.2.mem ((c.tc : Thread Cert.Kernel29Ideal.nD Cert.Kernel29Ideal.τ).loc Cert.Kernel29Ideal.main_arg41) = m ((c.tc : Thread Cert.Kernel29Ideal.nD Cert.Kernel29Ideal.τ).loc Cert.Kernel29Ideal.main_arg41)
      ∧ r.2.mem ((c.tc : Thread Cert.Kernel29Ideal.nD Cert.Kernel29Ideal.τ).loc Cert.Kernel29Ideal.main_arg42) = m ((c.tc : Thread Cert.Kernel29Ideal.nD Cert.Kernel29Ideal.τ).loc Cert.Kernel29Ideal.main_arg42)
      ∧ r.2.mem ((c.tc : Thread Cert.Kernel29Ideal.nD Cert.Kernel29Ideal.τ).loc Cert.Kernel29Ideal.main_arg43) = m ((c.tc : Thread Cert.Kernel29Ideal.nD Cert.Kernel29Ideal.τ).loc Cert.Kernel29Ideal.main_arg43)
      ∧ r.2.mem ((c.tc : Thread Cert.Kernel29Ideal.nD Cert.Kernel29Ideal.τ).loc Cert.Kernel29Ideal.main_arg44) = m ((c.tc : Thread Cert.Kernel29Ideal.nD Cert.Kernel29Ideal.τ).loc Cert.Kernel29Ideal.main_arg44)
      ∧ r.2.mem ((c.tc : Thread Cert.Kernel29Ideal.nD Cert.Kernel29Ideal.τ).loc Cert.Kernel29Ideal.main_arg45) = m ((c.tc : Thread Cert.Kernel29Ideal.nD Cert.Kernel29Ideal.τ).loc Cert.Kernel29Ideal.main_arg45)
      ∧ r.2.mem ((c.tc : Thread Cert.Kernel29Ideal.nD Cert.Kernel29Ideal.τ).loc Cert.Kernel29Ideal.main_arg46) = m ((c.tc : Thread Cert.Kernel29Ideal.nD Cert.Kernel29Ideal.τ).loc Cert.Kernel29Ideal.main_arg46)
      ∧ r.2.mem ((c.tc : Thread Cert.Kernel29Ideal.nD Cert.Kernel29Ideal.τ).loc Cert.Kernel29Ideal.main_arg47) = m ((c.tc : Thread Cert.Kernel29Ideal.nD Cert.Kernel29Ideal.τ).loc Cert.Kernel29Ideal.main_arg47)
      ∧ r.2.mem ((c.tc : Thread Cert.Kernel29Ideal.nD Cert.Kernel29Ideal.τ).loc Cert.Kernel29Ideal.main_arg48) = m ((c.tc : Thread Cert.Kernel29Ideal.nD Cert.Kernel29Ideal.τ).loc Cert.Kernel29Ideal.main_arg48)
      ∧ r.2.mem ((c.tc : Thread Cert.Kernel29Ideal.nD Cert.Kernel29Ideal.τ).loc Cert.Kernel29Ideal.main_arg49) = m ((c.tc : Thread Cert.Kernel29Ideal.nD Cert.Kernel29Ideal.τ).loc Cert.Kernel29Ideal.main_arg49)
      ∧ r.2.mem ((c.tc : Thread Cert.Kernel29Ideal.nD Cert.Kernel29Ideal.τ).loc Cert.Kernel29Ideal.main_arg50) = m ((c.tc : Thread Cert.Kernel29Ideal.nD Cert.Kernel29Ideal.τ).loc Cert.Kernel29Ideal.main_arg50)
      ∧ r.2.mem ((c.tc : Thread Cert.Kernel29Ideal.nD Cert.Kernel29Ideal.τ).loc Cert.Kernel29Ideal.main_arg51) = m ((c.tc : Thread Cert.Kernel29Ideal.nD Cert.Kernel29Ideal.τ).loc Cert.Kernel29Ideal.main_arg51)
      ∧ r.2.mem ((c.tc : Thread Cert.Kernel29Ideal.nD Cert.Kernel29Ideal.τ).loc Cert.Kernel29Ideal.main_arg52) = m ((c.tc : Thread Cert.Kernel29Ideal.nD Cert.Kernel29Ideal.τ).loc Cert.Kernel29Ideal.main_arg52)
      ∧ r.2.mem ((c.tc : Thread Cert.Kernel29Ideal.nD Cert.Kernel29Ideal.τ).loc Cert.Kernel29Ideal.main_arg53) = m ((c.tc : Thread Cert.Kernel29Ideal.nD Cert.Kernel29Ideal.τ).loc Cert.Kernel29Ideal.main_arg53)
      ∧ r.2.mem ((c.tc : Thread Cert.Kernel29Ideal.nD Cert.Kernel29Ideal.τ).loc Cert.Kernel29Ideal.main_arg54) = m ((c.tc : Thread Cert.Kernel29Ideal.nD Cert.Kernel29Ideal.τ).loc Cert.Kernel29Ideal.main_arg54)
      ∧ r.2.mem ((c.tc : Thread Cert.Kernel29Ideal.nD Cert.Kernel29Ideal.τ).loc Cert.Kernel29Ideal.main_arg55) = m ((c.tc : Thread Cert.Kernel29Ideal.nD Cert.Kernel29Ideal.τ).loc Cert.Kernel29Ideal.main_arg55)
      ∧ r.2.mem ((c.tc : Thread Cert.Kernel29Ideal.nD Cert.Kernel29Ideal.τ).loc Cert.Kernel29Ideal.main_arg56) = m ((c.tc : Thread Cert.Kernel29Ideal.nD Cert.Kernel29Ideal.τ).loc Cert.Kernel29Ideal.main_arg56)
      ∧ r.2.mem ((c.tc : Thread Cert.Kernel29Ideal.nD Cert.Kernel29Ideal.τ).loc Cert.Kernel29Ideal.main_arg57) = m ((c.tc : Thread Cert.Kernel29Ideal.nD Cert.Kernel29Ideal.τ).loc Cert.Kernel29Ideal.main_arg57)
      ∧ r.2.mem ((c.tc : Thread Cert.Kernel29Ideal.nD Cert.Kernel29Ideal.τ).loc Cert.Kernel29Ideal.main_arg58) = m ((c.tc : Thread Cert.Kernel29Ideal.nD Cert.Kernel29Ideal.τ).loc Cert.Kernel29Ideal.main_arg58)
      ∧ r.2.mem ((c.tc : Thread Cert.Kernel29Ideal.nD Cert.Kernel29Ideal.τ).loc Cert.Kernel29Ideal.main_arg59) = m ((c.tc : Thread Cert.Kernel29Ideal.nD Cert.Kernel29Ideal.τ).loc Cert.Kernel29Ideal.main_arg59)
      ∧ r.2.mem ((c.tc : Thread Cert.Kernel29Ideal.nD Cert.Kernel29Ideal.τ).loc Cert.Kernel29Ideal.main_arg60) = m ((c.tc : Thread Cert.Kernel29Ideal.nD Cert.Kernel29Ideal.τ).loc Cert.Kernel29Ideal.main_arg60)
      ∧ r.2.mem ((c.tc : Thread Cert.Kernel29Ideal.nD Cert.Kernel29Ideal.τ).loc Cert.Kernel29Ideal.main_arg61) = m ((c.tc : Thread Cert.Kernel29Ideal.nD Cert.Kernel29Ideal.τ).loc Cert.Kernel29Ideal.main_arg61)
      ∧ r.2.mem ((c.tc : Thread Cert.Kernel29Ideal.nD Cert.Kernel29Ideal.τ).loc Cert.Kernel29Ideal.main_arg62) = m ((c.tc : Thread Cert.Kernel29Ideal.nD Cert.Kernel29Ideal.τ).loc Cert.Kernel29Ideal.main_arg62)
      ∧ r.2.mem ((c.tc : Thread Cert.Kernel29Ideal.nD Cert.Kernel29Ideal.τ).loc Cert.Kernel29Ideal.main_arg63) = m ((c.tc : Thread Cert.Kernel29Ideal.nD Cert.Kernel29Ideal.τ).loc Cert.Kernel29Ideal.main_arg63)
      ∧ r.2.mem ((c.tc : Thread Cert.Kernel29Ideal.nD Cert.Kernel29Ideal.τ).loc Cert.Kernel29Ideal.main_arg64) = m ((c.tc : Thread Cert.Kernel29Ideal.nD Cert.Kernel29Ideal.τ).loc Cert.Kernel29Ideal.main_arg64))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7)
      ∧ r.2.mem ((c.tc : Thread Cert.Reference29Ideal.nD Cert.Reference29Ideal.τ).loc Cert.Reference29Ideal.main_arg8) = m ((c.tc : Thread Cert.Reference29Ideal.nD Cert.Reference29Ideal.τ).loc Cert.Reference29Ideal.main_arg8)
      ∧ r.2.mem ((c.tc : Thread Cert.Reference29Ideal.nD Cert.Reference29Ideal.τ).loc Cert.Reference29Ideal.main_arg9) = m ((c.tc : Thread Cert.Reference29Ideal.nD Cert.Reference29Ideal.τ).loc Cert.Reference29Ideal.main_arg9)
      ∧ r.2.mem ((c.tc : Thread Cert.Reference29Ideal.nD Cert.Reference29Ideal.τ).loc Cert.Reference29Ideal.main_arg10) = m ((c.tc : Thread Cert.Reference29Ideal.nD Cert.Reference29Ideal.τ).loc Cert.Reference29Ideal.main_arg10)
      ∧ r.2.mem ((c.tc : Thread Cert.Reference29Ideal.nD Cert.Reference29Ideal.τ).loc Cert.Reference29Ideal.main_arg11) = m ((c.tc : Thread Cert.Reference29Ideal.nD Cert.Reference29Ideal.τ).loc Cert.Reference29Ideal.main_arg11)
      ∧ r.2.mem ((c.tc : Thread Cert.Reference29Ideal.nD Cert.Reference29Ideal.τ).loc Cert.Reference29Ideal.main_arg12) = m ((c.tc : Thread Cert.Reference29Ideal.nD Cert.Reference29Ideal.τ).loc Cert.Reference29Ideal.main_arg12)
      ∧ r.2.mem ((c.tc : Thread Cert.Reference29Ideal.nD Cert.Reference29Ideal.τ).loc Cert.Reference29Ideal.main_arg13) = m ((c.tc : Thread Cert.Reference29Ideal.nD Cert.Reference29Ideal.τ).loc Cert.Reference29Ideal.main_arg13)
      ∧ r.2.mem ((c.tc : Thread Cert.Reference29Ideal.nD Cert.Reference29Ideal.τ).loc Cert.Reference29Ideal.main_arg14) = m ((c.tc : Thread Cert.Reference29Ideal.nD Cert.Reference29Ideal.τ).loc Cert.Reference29Ideal.main_arg14)
      ∧ r.2.mem ((c.tc : Thread Cert.Reference29Ideal.nD Cert.Reference29Ideal.τ).loc Cert.Reference29Ideal.main_arg15) = m ((c.tc : Thread Cert.Reference29Ideal.nD Cert.Reference29Ideal.τ).loc Cert.Reference29Ideal.main_arg15)
      ∧ r.2.mem ((c.tc : Thread Cert.Reference29Ideal.nD Cert.Reference29Ideal.τ).loc Cert.Reference29Ideal.main_arg16) = m ((c.tc : Thread Cert.Reference29Ideal.nD Cert.Reference29Ideal.τ).loc Cert.Reference29Ideal.main_arg16)
      ∧ r.2.mem ((c.tc : Thread Cert.Reference29Ideal.nD Cert.Reference29Ideal.τ).loc Cert.Reference29Ideal.main_arg17) = m ((c.tc : Thread Cert.Reference29Ideal.nD Cert.Reference29Ideal.τ).loc Cert.Reference29Ideal.main_arg17)
      ∧ r.2.mem ((c.tc : Thread Cert.Reference29Ideal.nD Cert.Reference29Ideal.τ).loc Cert.Reference29Ideal.main_arg18) = m ((c.tc : Thread Cert.Reference29Ideal.nD Cert.Reference29Ideal.τ).loc Cert.Reference29Ideal.main_arg18)
      ∧ r.2.mem ((c.tc : Thread Cert.Reference29Ideal.nD Cert.Reference29Ideal.τ).loc Cert.Reference29Ideal.main_arg19) = m ((c.tc : Thread Cert.Reference29Ideal.nD Cert.Reference29Ideal.τ).loc Cert.Reference29Ideal.main_arg19)
      ∧ r.2.mem ((c.tc : Thread Cert.Reference29Ideal.nD Cert.Reference29Ideal.τ).loc Cert.Reference29Ideal.main_arg20) = m ((c.tc : Thread Cert.Reference29Ideal.nD Cert.Reference29Ideal.τ).loc Cert.Reference29Ideal.main_arg20)
      ∧ r.2.mem ((c.tc : Thread Cert.Reference29Ideal.nD Cert.Reference29Ideal.τ).loc Cert.Reference29Ideal.main_arg21) = m ((c.tc : Thread Cert.Reference29Ideal.nD Cert.Reference29Ideal.τ).loc Cert.Reference29Ideal.main_arg21)
      ∧ r.2.mem ((c.tc : Thread Cert.Reference29Ideal.nD Cert.Reference29Ideal.τ).loc Cert.Reference29Ideal.main_arg22) = m ((c.tc : Thread Cert.Reference29Ideal.nD Cert.Reference29Ideal.τ).loc Cert.Reference29Ideal.main_arg22)
      ∧ r.2.mem ((c.tc : Thread Cert.Reference29Ideal.nD Cert.Reference29Ideal.τ).loc Cert.Reference29Ideal.main_arg23) = m ((c.tc : Thread Cert.Reference29Ideal.nD Cert.Reference29Ideal.τ).loc Cert.Reference29Ideal.main_arg23)
      ∧ r.2.mem ((c.tc : Thread Cert.Reference29Ideal.nD Cert.Reference29Ideal.τ).loc Cert.Reference29Ideal.main_arg24) = m ((c.tc : Thread Cert.Reference29Ideal.nD Cert.Reference29Ideal.τ).loc Cert.Reference29Ideal.main_arg24)
      ∧ r.2.mem ((c.tc : Thread Cert.Reference29Ideal.nD Cert.Reference29Ideal.τ).loc Cert.Reference29Ideal.main_arg25) = m ((c.tc : Thread Cert.Reference29Ideal.nD Cert.Reference29Ideal.τ).loc Cert.Reference29Ideal.main_arg25)
      ∧ r.2.mem ((c.tc : Thread Cert.Reference29Ideal.nD Cert.Reference29Ideal.τ).loc Cert.Reference29Ideal.main_arg26) = m ((c.tc : Thread Cert.Reference29Ideal.nD Cert.Reference29Ideal.τ).loc Cert.Reference29Ideal.main_arg26)
      ∧ r.2.mem ((c.tc : Thread Cert.Reference29Ideal.nD Cert.Reference29Ideal.τ).loc Cert.Reference29Ideal.main_arg27) = m ((c.tc : Thread Cert.Reference29Ideal.nD Cert.Reference29Ideal.τ).loc Cert.Reference29Ideal.main_arg27)
      ∧ r.2.mem ((c.tc : Thread Cert.Reference29Ideal.nD Cert.Reference29Ideal.τ).loc Cert.Reference29Ideal.main_arg28) = m ((c.tc : Thread Cert.Reference29Ideal.nD Cert.Reference29Ideal.τ).loc Cert.Reference29Ideal.main_arg28)
      ∧ r.2.mem ((c.tc : Thread Cert.Reference29Ideal.nD Cert.Reference29Ideal.τ).loc Cert.Reference29Ideal.main_arg29) = m ((c.tc : Thread Cert.Reference29Ideal.nD Cert.Reference29Ideal.τ).loc Cert.Reference29Ideal.main_arg29)
      ∧ r.2.mem ((c.tc : Thread Cert.Reference29Ideal.nD Cert.Reference29Ideal.τ).loc Cert.Reference29Ideal.main_arg30) = m ((c.tc : Thread Cert.Reference29Ideal.nD Cert.Reference29Ideal.τ).loc Cert.Reference29Ideal.main_arg30)
      ∧ r.2.mem ((c.tc : Thread Cert.Reference29Ideal.nD Cert.Reference29Ideal.τ).loc Cert.Reference29Ideal.main_arg31) = m ((c.tc : Thread Cert.Reference29Ideal.nD Cert.Reference29Ideal.τ).loc Cert.Reference29Ideal.main_arg31)
      ∧ r.2.mem ((c.tc : Thread Cert.Reference29Ideal.nD Cert.Reference29Ideal.τ).loc Cert.Reference29Ideal.main_arg32) = m ((c.tc : Thread Cert.Reference29Ideal.nD Cert.Reference29Ideal.τ).loc Cert.Reference29Ideal.main_arg32)
      ∧ r.2.mem ((c.tc : Thread Cert.Reference29Ideal.nD Cert.Reference29Ideal.τ).loc Cert.Reference29Ideal.main_arg33) = m ((c.tc : Thread Cert.Reference29Ideal.nD Cert.Reference29Ideal.τ).loc Cert.Reference29Ideal.main_arg33)
      ∧ r.2.mem ((c.tc : Thread Cert.Reference29Ideal.nD Cert.Reference29Ideal.τ).loc Cert.Reference29Ideal.main_arg34) = m ((c.tc : Thread Cert.Reference29Ideal.nD Cert.Reference29Ideal.τ).loc Cert.Reference29Ideal.main_arg34)
      ∧ r.2.mem ((c.tc : Thread Cert.Reference29Ideal.nD Cert.Reference29Ideal.τ).loc Cert.Reference29Ideal.main_arg35) = m ((c.tc : Thread Cert.Reference29Ideal.nD Cert.Reference29Ideal.τ).loc Cert.Reference29Ideal.main_arg35)
      ∧ r.2.mem ((c.tc : Thread Cert.Reference29Ideal.nD Cert.Reference29Ideal.τ).loc Cert.Reference29Ideal.main_arg36) = m ((c.tc : Thread Cert.Reference29Ideal.nD Cert.Reference29Ideal.τ).loc Cert.Reference29Ideal.main_arg36)
      ∧ r.2.mem ((c.tc : Thread Cert.Reference29Ideal.nD Cert.Reference29Ideal.τ).loc Cert.Reference29Ideal.main_arg37) = m ((c.tc : Thread Cert.Reference29Ideal.nD Cert.Reference29Ideal.τ).loc Cert.Reference29Ideal.main_arg37)
      ∧ r.2.mem ((c.tc : Thread Cert.Reference29Ideal.nD Cert.Reference29Ideal.τ).loc Cert.Reference29Ideal.main_arg38) = m ((c.tc : Thread Cert.Reference29Ideal.nD Cert.Reference29Ideal.τ).loc Cert.Reference29Ideal.main_arg38)
      ∧ r.2.mem ((c.tc : Thread Cert.Reference29Ideal.nD Cert.Reference29Ideal.τ).loc Cert.Reference29Ideal.main_arg39) = m ((c.tc : Thread Cert.Reference29Ideal.nD Cert.Reference29Ideal.τ).loc Cert.Reference29Ideal.main_arg39)
      ∧ r.2.mem ((c.tc : Thread Cert.Reference29Ideal.nD Cert.Reference29Ideal.τ).loc Cert.Reference29Ideal.main_arg40) = m ((c.tc : Thread Cert.Reference29Ideal.nD Cert.Reference29Ideal.τ).loc Cert.Reference29Ideal.main_arg40)
      ∧ r.2.mem ((c.tc : Thread Cert.Reference29Ideal.nD Cert.Reference29Ideal.τ).loc Cert.Reference29Ideal.main_arg41) = m ((c.tc : Thread Cert.Reference29Ideal.nD Cert.Reference29Ideal.τ).loc Cert.Reference29Ideal.main_arg41)
      ∧ r.2.mem ((c.tc : Thread Cert.Reference29Ideal.nD Cert.Reference29Ideal.τ).loc Cert.Reference29Ideal.main_arg42) = m ((c.tc : Thread Cert.Reference29Ideal.nD Cert.Reference29Ideal.τ).loc Cert.Reference29Ideal.main_arg42)
      ∧ r.2.mem ((c.tc : Thread Cert.Reference29Ideal.nD Cert.Reference29Ideal.τ).loc Cert.Reference29Ideal.main_arg43) = m ((c.tc : Thread Cert.Reference29Ideal.nD Cert.Reference29Ideal.τ).loc Cert.Reference29Ideal.main_arg43)
      ∧ r.2.mem ((c.tc : Thread Cert.Reference29Ideal.nD Cert.Reference29Ideal.τ).loc Cert.Reference29Ideal.main_arg44) = m ((c.tc : Thread Cert.Reference29Ideal.nD Cert.Reference29Ideal.τ).loc Cert.Reference29Ideal.main_arg44)
      ∧ r.2.mem ((c.tc : Thread Cert.Reference29Ideal.nD Cert.Reference29Ideal.τ).loc Cert.Reference29Ideal.main_arg45) = m ((c.tc : Thread Cert.Reference29Ideal.nD Cert.Reference29Ideal.τ).loc Cert.Reference29Ideal.main_arg45)
      ∧ r.2.mem ((c.tc : Thread Cert.Reference29Ideal.nD Cert.Reference29Ideal.τ).loc Cert.Reference29Ideal.main_arg46) = m ((c.tc : Thread Cert.Reference29Ideal.nD Cert.Reference29Ideal.τ).loc Cert.Reference29Ideal.main_arg46)
      ∧ r.2.mem ((c.tc : Thread Cert.Reference29Ideal.nD Cert.Reference29Ideal.τ).loc Cert.Reference29Ideal.main_arg47) = m ((c.tc : Thread Cert.Reference29Ideal.nD Cert.Reference29Ideal.τ).loc Cert.Reference29Ideal.main_arg47)
      ∧ r.2.mem ((c.tc : Thread Cert.Reference29Ideal.nD Cert.Reference29Ideal.τ).loc Cert.Reference29Ideal.main_arg48) = m ((c.tc : Thread Cert.Reference29Ideal.nD Cert.Reference29Ideal.τ).loc Cert.Reference29Ideal.main_arg48)
      ∧ r.2.mem ((c.tc : Thread Cert.Reference29Ideal.nD Cert.Reference29Ideal.τ).loc Cert.Reference29Ideal.main_arg49) = m ((c.tc : Thread Cert.Reference29Ideal.nD Cert.Reference29Ideal.τ).loc Cert.Reference29Ideal.main_arg49)
      ∧ r.2.mem ((c.tc : Thread Cert.Reference29Ideal.nD Cert.Reference29Ideal.τ).loc Cert.Reference29Ideal.main_arg50) = m ((c.tc : Thread Cert.Reference29Ideal.nD Cert.Reference29Ideal.τ).loc Cert.Reference29Ideal.main_arg50)
      ∧ r.2.mem ((c.tc : Thread Cert.Reference29Ideal.nD Cert.Reference29Ideal.τ).loc Cert.Reference29Ideal.main_arg51) = m ((c.tc : Thread Cert.Reference29Ideal.nD Cert.Reference29Ideal.τ).loc Cert.Reference29Ideal.main_arg51)
      ∧ r.2.mem ((c.tc : Thread Cert.Reference29Ideal.nD Cert.Reference29Ideal.τ).loc Cert.Reference29Ideal.main_arg52) = m ((c.tc : Thread Cert.Reference29Ideal.nD Cert.Reference29Ideal.τ).loc Cert.Reference29Ideal.main_arg52)
      ∧ r.2.mem ((c.tc : Thread Cert.Reference29Ideal.nD Cert.Reference29Ideal.τ).loc Cert.Reference29Ideal.main_arg53) = m ((c.tc : Thread Cert.Reference29Ideal.nD Cert.Reference29Ideal.τ).loc Cert.Reference29Ideal.main_arg53)
      ∧ r.2.mem ((c.tc : Thread Cert.Reference29Ideal.nD Cert.Reference29Ideal.τ).loc Cert.Reference29Ideal.main_arg54) = m ((c.tc : Thread Cert.Reference29Ideal.nD Cert.Reference29Ideal.τ).loc Cert.Reference29Ideal.main_arg54)
      ∧ r.2.mem ((c.tc : Thread Cert.Reference29Ideal.nD Cert.Reference29Ideal.τ).loc Cert.Reference29Ideal.main_arg55) = m ((c.tc : Thread Cert.Reference29Ideal.nD Cert.Reference29Ideal.τ).loc Cert.Reference29Ideal.main_arg55)
      ∧ r.2.mem ((c.tc : Thread Cert.Reference29Ideal.nD Cert.Reference29Ideal.τ).loc Cert.Reference29Ideal.main_arg56) = m ((c.tc : Thread Cert.Reference29Ideal.nD Cert.Reference29Ideal.τ).loc Cert.Reference29Ideal.main_arg56)
      ∧ r.2.mem ((c.tc : Thread Cert.Reference29Ideal.nD Cert.Reference29Ideal.τ).loc Cert.Reference29Ideal.main_arg57) = m ((c.tc : Thread Cert.Reference29Ideal.nD Cert.Reference29Ideal.τ).loc Cert.Reference29Ideal.main_arg57)
      ∧ r.2.mem ((c.tc : Thread Cert.Reference29Ideal.nD Cert.Reference29Ideal.τ).loc Cert.Reference29Ideal.main_arg58) = m ((c.tc : Thread Cert.Reference29Ideal.nD Cert.Reference29Ideal.τ).loc Cert.Reference29Ideal.main_arg58)
      ∧ r.2.mem ((c.tc : Thread Cert.Reference29Ideal.nD Cert.Reference29Ideal.τ).loc Cert.Reference29Ideal.main_arg59) = m ((c.tc : Thread Cert.Reference29Ideal.nD Cert.Reference29Ideal.τ).loc Cert.Reference29Ideal.main_arg59)
      ∧ r.2.mem ((c.tc : Thread Cert.Reference29Ideal.nD Cert.Reference29Ideal.τ).loc Cert.Reference29Ideal.main_arg60) = m ((c.tc : Thread Cert.Reference29Ideal.nD Cert.Reference29Ideal.τ).loc Cert.Reference29Ideal.main_arg60)
      ∧ r.2.mem ((c.tc : Thread Cert.Reference29Ideal.nD Cert.Reference29Ideal.τ).loc Cert.Reference29Ideal.main_arg61) = m ((c.tc : Thread Cert.Reference29Ideal.nD Cert.Reference29Ideal.τ).loc Cert.Reference29Ideal.main_arg61)
      ∧ r.2.mem ((c.tc : Thread Cert.Reference29Ideal.nD Cert.Reference29Ideal.τ).loc Cert.Reference29Ideal.main_arg62) = m ((c.tc : Thread Cert.Reference29Ideal.nD Cert.Reference29Ideal.τ).loc Cert.Reference29Ideal.main_arg62)
      ∧ r.2.mem ((c.tc : Thread Cert.Reference29Ideal.nD Cert.Reference29Ideal.τ).loc Cert.Reference29Ideal.main_arg63) = m ((c.tc : Thread Cert.Reference29Ideal.nD Cert.Reference29Ideal.τ).loc Cert.Reference29Ideal.main_arg63)
      ∧ r.2.mem ((c.tc : Thread Cert.Reference29Ideal.nD Cert.Reference29Ideal.τ).loc Cert.Reference29Ideal.main_arg64) = m ((c.tc : Thread Cert.Reference29Ideal.nD Cert.Reference29Ideal.τ).loc Cert.Reference29Ideal.main_arg64))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal_pre_finite12 [hKernel12Ideal : Cert.Kernel12Ideal.Facts] [hReference12Ideal : Cert.Reference12Ideal.Facts] [hPre_finite12 : Cert.Pre_finite12.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite12 m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v57) = v0 c
          ∧ r.2.mem ((c.tc : Thread Cert.Reference13Ideal.nD Cert.Reference13Ideal.τ).loc Cert.Reference13Ideal.main_v68) = v1 c
          ∧ r.2.mem ((c.tc : Thread Cert.Reference13Ideal.nD Cert.Reference13Ideal.τ).loc Cert.Reference13Ideal.main_v40) = v2 c
          ∧ r.2.mem ((c.tc : Thread Cert.Reference13Ideal.nD Cert.Reference13Ideal.τ).loc Cert.Reference13Ideal.main_v67) = v3 c
          ∧ r.2.mem ((c.tc : Thread Cert.Reference13Ideal.nD Cert.Reference13Ideal.τ).loc Cert.Reference13Ideal.main_v66) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v118) = v0 c
          ∧ r.2.mem ((c.tc : Thread Cert.Reference14Ideal.nD Cert.Reference14Ideal.τ).loc Cert.Reference14Ideal.main_v100) = v1 c
          ∧ r.2.mem ((c.tc : Thread Cert.Reference14Ideal.nD Cert.Reference14Ideal.τ).loc Cert.Reference14Ideal.main_v96) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)) (v4 : (c : Dev Cert.Kernel15Ideal.nD) → Buf (Elt Ideal) ((c.tc : Thread Cert.Kernel15Ideal.nD Cert.Kernel15Ideal.τ).loc Cert.Kernel15Ideal.main_v0_4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_v0_4) = v4 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v143) = v0 c
          ∧ r.2.mem ((c.tc : Thread Cert.Reference15Ideal.nD Cert.Reference15Ideal.τ).loc Cert.Reference15Ideal.main_v145) = v1 c
          ∧ r.2.mem ((c.tc : Thread Cert.Reference15Ideal.nD Cert.Reference15Ideal.τ).loc Cert.Reference15Ideal.main_v114) = v2 c
          ∧ r.2.mem ((c.tc : Thread Cert.Reference15Ideal.nD Cert.Reference15Ideal.τ).loc Cert.Reference15Ideal.main_v142) = v3 c
          ∧ r.2.mem ((c.tc : Thread Cert.Reference15Ideal.nD Cert.Reference15Ideal.τ).loc Cert.Reference15Ideal.main_v140) = v4 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_v14) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_v14) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v41) = v0 c
          ∧ r.2.mem ((c.tc : Thread Cert.Reference21Ideal.nD Cert.Reference21Ideal.τ).loc Cert.Reference21Ideal.main_v44) = v1 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v0) = v0 c
          ∧ r.2.mem ((c.tc : Thread Cert.Reference22Ideal.nD Cert.Reference22Ideal.τ).loc Cert.Reference22Ideal.main_v24) = v1 c
          ∧ r.2.mem ((c.tc : Thread Cert.Reference22Ideal.nD Cert.Reference22Ideal.τ).loc Cert.Reference22Ideal.main_v5) = v2 c
          ∧ r.2.mem ((c.tc : Thread Cert.Reference22Ideal.nD Cert.Reference22Ideal.τ).loc Cert.Reference22Ideal.main_v11) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v4) = v0 c
          ∧ r.2.mem ((c.tc : Thread Cert.Reference23Ideal.nD Cert.Reference23Ideal.τ).loc Cert.Reference23Ideal.main_v28) = v1 c
          ∧ r.2.mem ((c.tc : Thread Cert.Reference23Ideal.nD Cert.Reference23Ideal.τ).loc Cert.Reference23Ideal.main_v9) = v2 c
          ∧ r.2.mem ((c.tc : Thread Cert.Reference23Ideal.nD Cert.Reference23Ideal.τ).loc Cert.Reference23Ideal.main_v15) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_v28) = v1 c
          ∧ r.2.mem ((c.tc : Thread Cert.Reference24Ideal.nD Cert.Reference24Ideal.τ).loc Cert.Reference24Ideal.main_v9) = v2 c
          ∧ r.2.mem ((c.tc : Thread Cert.Reference24Ideal.nD Cert.Reference24Ideal.τ).loc Cert.Reference24Ideal.main_v15) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v1) = v0 c
          ∧ r.2.mem ((c.tc : Thread Cert.Reference25Ideal.nD Cert.Reference25Ideal.τ).loc Cert.Reference25Ideal.main_v25) = v1 c
          ∧ r.2.mem ((c.tc : Thread Cert.Reference25Ideal.nD Cert.Reference25Ideal.τ).loc Cert.Reference25Ideal.main_v6) = v2 c
          ∧ r.2.mem ((c.tc : Thread Cert.Reference25Ideal.nD Cert.Reference25Ideal.τ).loc Cert.Reference25Ideal.main_v12) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v1) = v0 c
          ∧ r.2.mem ((c.tc : Thread Cert.Reference27Ideal.nD Cert.Reference27Ideal.τ).loc Cert.Reference27Ideal.main_v25) = v1 c
          ∧ r.2.mem ((c.tc : Thread Cert.Reference27Ideal.nD Cert.Reference27Ideal.τ).loc Cert.Reference27Ideal.main_v6) = v2 c
          ∧ r.2.mem ((c.tc : Thread Cert.Reference27Ideal.nD Cert.Reference27Ideal.τ).loc Cert.Reference27Ideal.main_v12) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
      ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
      ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)
      ∧ m' ((c.tc : Thread Cert.Reference29Ideal.nD Cert.Reference29Ideal.τ).loc Cert.Reference29Ideal.main_arg10) = m ((c.tc : Thread Cert.Kernel29Ideal.nD Cert.Kernel29Ideal.τ).loc Cert.Kernel29Ideal.main_arg10)
      ∧ m' ((c.tc : Thread Cert.Reference29Ideal.nD Cert.Reference29Ideal.τ).loc Cert.Reference29Ideal.main_arg11) = m ((c.tc : Thread Cert.Kernel29Ideal.nD Cert.Kernel29Ideal.τ).loc Cert.Kernel29Ideal.main_arg11)
      ∧ m' ((c.tc : Thread Cert.Reference29Ideal.nD Cert.Reference29Ideal.τ).loc Cert.Reference29Ideal.main_arg12) = m ((c.tc : Thread Cert.Kernel29Ideal.nD Cert.Kernel29Ideal.τ).loc Cert.Kernel29Ideal.main_arg12)
      ∧ m' ((c.tc : Thread Cert.Reference29Ideal.nD Cert.Reference29Ideal.τ).loc Cert.Reference29Ideal.main_arg13) = m ((c.tc : Thread Cert.Kernel29Ideal.nD Cert.Kernel29Ideal.τ).loc Cert.Kernel29Ideal.main_arg13)
      ∧ m' ((c.tc : Thread Cert.Reference29Ideal.nD Cert.Reference29Ideal.τ).loc Cert.Reference29Ideal.main_arg14) = m ((c.tc : Thread Cert.Kernel29Ideal.nD Cert.Kernel29Ideal.τ).loc Cert.Kernel29Ideal.main_arg14)
      ∧ m' ((c.tc : Thread Cert.Reference29Ideal.nD Cert.Reference29Ideal.τ).loc Cert.Reference29Ideal.main_arg15) = m ((c.tc : Thread Cert.Kernel29Ideal.nD Cert.Kernel29Ideal.τ).loc Cert.Kernel29Ideal.main_arg15)
      ∧ m' ((c.tc : Thread Cert.Reference29Ideal.nD Cert.Reference29Ideal.τ).loc Cert.Reference29Ideal.main_arg16) = m ((c.tc : Thread Cert.Kernel29Ideal.nD Cert.Kernel29Ideal.τ).loc Cert.Kernel29Ideal.main_arg16)
      ∧ m' ((c.tc : Thread Cert.Reference29Ideal.nD Cert.Reference29Ideal.τ).loc Cert.Reference29Ideal.main_arg17) = m ((c.tc : Thread Cert.Kernel29Ideal.nD Cert.Kernel29Ideal.τ).loc Cert.Kernel29Ideal.main_arg17)
      ∧ m' ((c.tc : Thread Cert.Reference29Ideal.nD Cert.Reference29Ideal.τ).loc Cert.Reference29Ideal.main_arg18) = m ((c.tc : Thread Cert.Kernel29Ideal.nD Cert.Kernel29Ideal.τ).loc Cert.Kernel29Ideal.main_arg18)
      ∧ m' ((c.tc : Thread Cert.Reference29Ideal.nD Cert.Reference29Ideal.τ).loc Cert.Reference29Ideal.main_arg19) = m ((c.tc : Thread Cert.Kernel29Ideal.nD Cert.Kernel29Ideal.τ).loc Cert.Kernel29Ideal.main_arg19)
      ∧ m' ((c.tc : Thread Cert.Reference29Ideal.nD Cert.Reference29Ideal.τ).loc Cert.Reference29Ideal.main_arg20) = m ((c.tc : Thread Cert.Kernel29Ideal.nD Cert.Kernel29Ideal.τ).loc Cert.Kernel29Ideal.main_arg20)
      ∧ m' ((c.tc : Thread Cert.Reference29Ideal.nD Cert.Reference29Ideal.τ).loc Cert.Reference29Ideal.main_arg21) = m ((c.tc : Thread Cert.Kernel29Ideal.nD Cert.Kernel29Ideal.τ).loc Cert.Kernel29Ideal.main_arg21)
      ∧ m' ((c.tc : Thread Cert.Reference29Ideal.nD Cert.Reference29Ideal.τ).loc Cert.Reference29Ideal.main_arg22) = m ((c.tc : Thread Cert.Kernel29Ideal.nD Cert.Kernel29Ideal.τ).loc Cert.Kernel29Ideal.main_arg22)
      ∧ m' ((c.tc : Thread Cert.Reference29Ideal.nD Cert.Reference29Ideal.τ).loc Cert.Reference29Ideal.main_arg23) = m ((c.tc : Thread Cert.Kernel29Ideal.nD Cert.Kernel29Ideal.τ).loc Cert.Kernel29Ideal.main_arg23)
      ∧ m' ((c.tc : Thread Cert.Reference29Ideal.nD Cert.Reference29Ideal.τ).loc Cert.Reference29Ideal.main_arg24) = m ((c.tc : Thread Cert.Kernel29Ideal.nD Cert.Kernel29Ideal.τ).loc Cert.Kernel29Ideal.main_arg24)
      ∧ m' ((c.tc : Thread Cert.Reference29Ideal.nD Cert.Reference29Ideal.τ).loc Cert.Reference29Ideal.main_arg25) = m ((c.tc : Thread Cert.Kernel29Ideal.nD Cert.Kernel29Ideal.τ).loc Cert.Kernel29Ideal.main_arg25)
      ∧ m' ((c.tc : Thread Cert.Reference29Ideal.nD Cert.Reference29Ideal.τ).loc Cert.Reference29Ideal.main_arg26) = m ((c.tc : Thread Cert.Kernel29Ideal.nD Cert.Kernel29Ideal.τ).loc Cert.Kernel29Ideal.main_arg26)
      ∧ m' ((c.tc : Thread Cert.Reference29Ideal.nD Cert.Reference29Ideal.τ).loc Cert.Reference29Ideal.main_arg27) = m ((c.tc : Thread Cert.Kernel29Ideal.nD Cert.Kernel29Ideal.τ).loc Cert.Kernel29Ideal.main_arg27)
      ∧ m' ((c.tc : Thread Cert.Reference29Ideal.nD Cert.Reference29Ideal.τ).loc Cert.Reference29Ideal.main_arg28) = m ((c.tc : Thread Cert.Kernel29Ideal.nD Cert.Kernel29Ideal.τ).loc Cert.Kernel29Ideal.main_arg28)
      ∧ m' ((c.tc : Thread Cert.Reference29Ideal.nD Cert.Reference29Ideal.τ).loc Cert.Reference29Ideal.main_arg29) = m ((c.tc : Thread Cert.Kernel29Ideal.nD Cert.Kernel29Ideal.τ).loc Cert.Kernel29Ideal.main_arg29)
      ∧ m' ((c.tc : Thread Cert.Reference29Ideal.nD Cert.Reference29Ideal.τ).loc Cert.Reference29Ideal.main_arg30) = m ((c.tc : Thread Cert.Kernel29Ideal.nD Cert.Kernel29Ideal.τ).loc Cert.Kernel29Ideal.main_arg30)
      ∧ m' ((c.tc : Thread Cert.Reference29Ideal.nD Cert.Reference29Ideal.τ).loc Cert.Reference29Ideal.main_arg31) = m ((c.tc : Thread Cert.Kernel29Ideal.nD Cert.Kernel29Ideal.τ).loc Cert.Kernel29Ideal.main_arg31)
      ∧ m' ((c.tc : Thread Cert.Reference29Ideal.nD Cert.Reference29Ideal.τ).loc Cert.Reference29Ideal.main_arg32) = m ((c.tc : Thread Cert.Kernel29Ideal.nD Cert.Kernel29Ideal.τ).loc Cert.Kernel29Ideal.main_arg32)
      ∧ m' ((c.tc : Thread Cert.Reference29Ideal.nD Cert.Reference29Ideal.τ).loc Cert.Reference29Ideal.main_arg33) = m ((c.tc : Thread Cert.Kernel29Ideal.nD Cert.Kernel29Ideal.τ).loc Cert.Kernel29Ideal.main_arg33)
      ∧ m' ((c.tc : Thread Cert.Reference29Ideal.nD Cert.Reference29Ideal.τ).loc Cert.Reference29Ideal.main_arg34) = m ((c.tc : Thread Cert.Kernel29Ideal.nD Cert.Kernel29Ideal.τ).loc Cert.Kernel29Ideal.main_arg34)
      ∧ m' ((c.tc : Thread Cert.Reference29Ideal.nD Cert.Reference29Ideal.τ).loc Cert.Reference29Ideal.main_arg35) = m ((c.tc : Thread Cert.Kernel29Ideal.nD Cert.Kernel29Ideal.τ).loc Cert.Kernel29Ideal.main_arg35)
      ∧ m' ((c.tc : Thread Cert.Reference29Ideal.nD Cert.Reference29Ideal.τ).loc Cert.Reference29Ideal.main_arg36) = m ((c.tc : Thread Cert.Kernel29Ideal.nD Cert.Kernel29Ideal.τ).loc Cert.Kernel29Ideal.main_arg36)
      ∧ m' ((c.tc : Thread Cert.Reference29Ideal.nD Cert.Reference29Ideal.τ).loc Cert.Reference29Ideal.main_arg37) = m ((c.tc : Thread Cert.Kernel29Ideal.nD Cert.Kernel29Ideal.τ).loc Cert.Kernel29Ideal.main_arg37)
      ∧ m' ((c.tc : Thread Cert.Reference29Ideal.nD Cert.Reference29Ideal.τ).loc Cert.Reference29Ideal.main_arg38) = m ((c.tc : Thread Cert.Kernel29Ideal.nD Cert.Kernel29Ideal.τ).loc Cert.Kernel29Ideal.main_arg38)
      ∧ m' ((c.tc : Thread Cert.Reference29Ideal.nD Cert.Reference29Ideal.τ).loc Cert.Reference29Ideal.main_arg39) = m ((c.tc : Thread Cert.Kernel29Ideal.nD Cert.Kernel29Ideal.τ).loc Cert.Kernel29Ideal.main_arg39)
      ∧ m' ((c.tc : Thread Cert.Reference29Ideal.nD Cert.Reference29Ideal.τ).loc Cert.Reference29Ideal.main_arg40) = m ((c.tc : Thread Cert.Kernel29Ideal.nD Cert.Kernel29Ideal.τ).loc Cert.Kernel29Ideal.main_arg40)
      ∧ m' ((c.tc : Thread Cert.Reference29Ideal.nD Cert.Reference29Ideal.τ).loc Cert.Reference29Ideal.main_arg41) = m ((c.tc : Thread Cert.Kernel29Ideal.nD Cert.Kernel29Ideal.τ).loc Cert.Kernel29Ideal.main_arg41)
      ∧ m' ((c.tc : Thread Cert.Reference29Ideal.nD Cert.Reference29Ideal.τ).loc Cert.Reference29Ideal.main_arg42) = m ((c.tc : Thread Cert.Kernel29Ideal.nD Cert.Kernel29Ideal.τ).loc Cert.Kernel29Ideal.main_arg42)
      ∧ m' ((c.tc : Thread Cert.Reference29Ideal.nD Cert.Reference29Ideal.τ).loc Cert.Reference29Ideal.main_arg43) = m ((c.tc : Thread Cert.Kernel29Ideal.nD Cert.Kernel29Ideal.τ).loc Cert.Kernel29Ideal.main_arg43)
      ∧ m' ((c.tc : Thread Cert.Reference29Ideal.nD Cert.Reference29Ideal.τ).loc Cert.Reference29Ideal.main_arg44) = m ((c.tc : Thread Cert.Kernel29Ideal.nD Cert.Kernel29Ideal.τ).loc Cert.Kernel29Ideal.main_arg44)
      ∧ m' ((c.tc : Thread Cert.Reference29Ideal.nD Cert.Reference29Ideal.τ).loc Cert.Reference29Ideal.main_arg45) = m ((c.tc : Thread Cert.Kernel29Ideal.nD Cert.Kernel29Ideal.τ).loc Cert.Kernel29Ideal.main_arg45)
      ∧ m' ((c.tc : Thread Cert.Reference29Ideal.nD Cert.Reference29Ideal.τ).loc Cert.Reference29Ideal.main_arg46) = m ((c.tc : Thread Cert.Kernel29Ideal.nD Cert.Kernel29Ideal.τ).loc Cert.Kernel29Ideal.main_arg46)
      ∧ m' ((c.tc : Thread Cert.Reference29Ideal.nD Cert.Reference29Ideal.τ).loc Cert.Reference29Ideal.main_arg47) = m ((c.tc : Thread Cert.Kernel29Ideal.nD Cert.Kernel29Ideal.τ).loc Cert.Kernel29Ideal.main_arg47)
      ∧ m' ((c.tc : Thread Cert.Reference29Ideal.nD Cert.Reference29Ideal.τ).loc Cert.Reference29Ideal.main_arg48) = m ((c.tc : Thread Cert.Kernel29Ideal.nD Cert.Kernel29Ideal.τ).loc Cert.Kernel29Ideal.main_arg48)
      ∧ m' ((c.tc : Thread Cert.Reference29Ideal.nD Cert.Reference29Ideal.τ).loc Cert.Reference29Ideal.main_arg49) = m ((c.tc : Thread Cert.Kernel29Ideal.nD Cert.Kernel29Ideal.τ).loc Cert.Kernel29Ideal.main_arg49)
      ∧ m' ((c.tc : Thread Cert.Reference29Ideal.nD Cert.Reference29Ideal.τ).loc Cert.Reference29Ideal.main_arg50) = m ((c.tc : Thread Cert.Kernel29Ideal.nD Cert.Kernel29Ideal.τ).loc Cert.Kernel29Ideal.main_arg50)
      ∧ m' ((c.tc : Thread Cert.Reference29Ideal.nD Cert.Reference29Ideal.τ).loc Cert.Reference29Ideal.main_arg51) = m ((c.tc : Thread Cert.Kernel29Ideal.nD Cert.Kernel29Ideal.τ).loc Cert.Kernel29Ideal.main_arg51)
      ∧ m' ((c.tc : Thread Cert.Reference29Ideal.nD Cert.Reference29Ideal.τ).loc Cert.Reference29Ideal.main_arg52) = m ((c.tc : Thread Cert.Kernel29Ideal.nD Cert.Kernel29Ideal.τ).loc Cert.Kernel29Ideal.main_arg52)
      ∧ m' ((c.tc : Thread Cert.Reference29Ideal.nD Cert.Reference29Ideal.τ).loc Cert.Reference29Ideal.main_arg53) = m ((c.tc : Thread Cert.Kernel29Ideal.nD Cert.Kernel29Ideal.τ).loc Cert.Kernel29Ideal.main_arg53)
      ∧ m' ((c.tc : Thread Cert.Reference29Ideal.nD Cert.Reference29Ideal.τ).loc Cert.Reference29Ideal.main_arg54) = m ((c.tc : Thread Cert.Kernel29Ideal.nD Cert.Kernel29Ideal.τ).loc Cert.Kernel29Ideal.main_arg54)
      ∧ m' ((c.tc : Thread Cert.Reference29Ideal.nD Cert.Reference29Ideal.τ).loc Cert.Reference29Ideal.main_arg55) = m ((c.tc : Thread Cert.Kernel29Ideal.nD Cert.Kernel29Ideal.τ).loc Cert.Kernel29Ideal.main_arg55)
      ∧ m' ((c.tc : Thread Cert.Reference29Ideal.nD Cert.Reference29Ideal.τ).loc Cert.Reference29Ideal.main_arg56) = m ((c.tc : Thread Cert.Kernel29Ideal.nD Cert.Kernel29Ideal.τ).loc Cert.Kernel29Ideal.main_arg56)
      ∧ m' ((c.tc : Thread Cert.Reference29Ideal.nD Cert.Reference29Ideal.τ).loc Cert.Reference29Ideal.main_arg57) = m ((c.tc : Thread Cert.Kernel29Ideal.nD Cert.Kernel29Ideal.τ).loc Cert.Kernel29Ideal.main_arg57)
      ∧ m' ((c.tc : Thread Cert.Reference29Ideal.nD Cert.Reference29Ideal.τ).loc Cert.Reference29Ideal.main_arg58) = m ((c.tc : Thread Cert.Kernel29Ideal.nD Cert.Kernel29Ideal.τ).loc Cert.Kernel29Ideal.main_arg58)
      ∧ m' ((c.tc : Thread Cert.Reference29Ideal.nD Cert.Reference29Ideal.τ).loc Cert.Reference29Ideal.main_arg59) = m ((c.tc : Thread Cert.Kernel29Ideal.nD Cert.Kernel29Ideal.τ).loc Cert.Kernel29Ideal.main_arg59)
      ∧ m' ((c.tc : Thread Cert.Reference29Ideal.nD Cert.Reference29Ideal.τ).loc Cert.Reference29Ideal.main_arg60) = m ((c.tc : Thread Cert.Kernel29Ideal.nD Cert.Kernel29Ideal.τ).loc Cert.Kernel29Ideal.main_arg60)
      ∧ m' ((c.tc : Thread Cert.Reference29Ideal.nD Cert.Reference29Ideal.τ).loc Cert.Reference29Ideal.main_arg61) = m ((c.tc : Thread Cert.Kernel29Ideal.nD Cert.Kernel29Ideal.τ).loc Cert.Kernel29Ideal.main_arg61)
      ∧ m' ((c.tc : Thread Cert.Reference29Ideal.nD Cert.Reference29Ideal.τ).loc Cert.Reference29Ideal.main_arg62) = m ((c.tc : Thread Cert.Kernel29Ideal.nD Cert.Kernel29Ideal.τ).loc Cert.Kernel29Ideal.main_arg62)
      ∧ m' ((c.tc : Thread Cert.Reference29Ideal.nD Cert.Reference29Ideal.τ).loc Cert.Reference29Ideal.main_arg63) = m ((c.tc : Thread Cert.Kernel29Ideal.nD Cert.Kernel29Ideal.τ).loc Cert.Kernel29Ideal.main_arg63)
      ∧ m' ((c.tc : Thread Cert.Reference29Ideal.nD Cert.Reference29Ideal.τ).loc Cert.Reference29Ideal.main_arg64) = m ((c.tc : Thread Cert.Kernel29Ideal.nD Cert.Kernel29Ideal.τ).loc Cert.Kernel29Ideal.main_arg64)) →
    ∃ (v0 : (c : Dev Cert.Kernel29Ideal.nD) → Buf (Elt Ideal) ((c.tc : Thread Cert.Kernel29Ideal.nD Cert.Kernel29Ideal.τ).loc Cert.Kernel29Ideal.main_v69_0)) (v1 : (c : Dev Cert.Kernel29Ideal.nD) → Buf (Elt Ideal) ((c.tc : Thread Cert.Kernel29Ideal.nD Cert.Kernel29Ideal.τ).loc Cert.Kernel29Ideal.main_v69_1)) (v2 : (c : Dev Cert.Kernel29Ideal.nD) → Buf (Elt Ideal) ((c.tc : Thread Cert.Kernel29Ideal.nD Cert.Kernel29Ideal.τ).loc Cert.Kernel29Ideal.main_v69_2)) (v3 : (c : Dev Cert.Kernel29Ideal.nD) → Buf (Elt Ideal) ((c.tc : Thread Cert.Kernel29Ideal.nD Cert.Kernel29Ideal.τ).loc Cert.Kernel29Ideal.main_v69_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v69_0) = v0 c
          ∧ r.2.mem ((c.tc : Thread Cert.Kernel29Ideal.nD Cert.Kernel29Ideal.τ).loc Cert.Kernel29Ideal.main_v69_1) = v1 c
          ∧ r.2.mem ((c.tc : Thread Cert.Kernel29Ideal.nD Cert.Kernel29Ideal.τ).loc Cert.Kernel29Ideal.main_v69_2) = v2 c
          ∧ r.2.mem ((c.tc : Thread Cert.Kernel29Ideal.nD Cert.Kernel29Ideal.τ).loc Cert.Kernel29Ideal.main_v69_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7)
          ∧ r.2.mem ((c.tc : Thread Cert.Kernel29Ideal.nD Cert.Kernel29Ideal.τ).loc Cert.Kernel29Ideal.main_arg8) = m ((c.tc : Thread Cert.Kernel29Ideal.nD Cert.Kernel29Ideal.τ).loc Cert.Kernel29Ideal.main_arg8)
          ∧ r.2.mem ((c.tc : Thread Cert.Kernel29Ideal.nD Cert.Kernel29Ideal.τ).loc Cert.Kernel29Ideal.main_arg9) = m ((c.tc : Thread Cert.Kernel29Ideal.nD Cert.Kernel29Ideal.τ).loc Cert.Kernel29Ideal.main_arg9)
          ∧ r.2.mem ((c.tc : Thread Cert.Kernel29Ideal.nD Cert.Kernel29Ideal.τ).loc Cert.Kernel29Ideal.main_arg10) = m ((c.tc : Thread Cert.Kernel29Ideal.nD Cert.Kernel29Ideal.τ).loc Cert.Kernel29Ideal.main_arg10)
          ∧ r.2.mem ((c.tc : Thread Cert.Kernel29Ideal.nD Cert.Kernel29Ideal.τ).loc Cert.Kernel29Ideal.main_arg11) = m ((c.tc : Thread Cert.Kernel29Ideal.nD Cert.Kernel29Ideal.τ).loc Cert.Kernel29Ideal.main_arg11)
          ∧ r.2.mem ((c.tc : Thread Cert.Kernel29Ideal.nD Cert.Kernel29Ideal.τ).loc Cert.Kernel29Ideal.main_arg12) = m ((c.tc : Thread Cert.Kernel29Ideal.nD Cert.Kernel29Ideal.τ).loc Cert.Kernel29Ideal.main_arg12)
          ∧ r.2.mem ((c.tc : Thread Cert.Kernel29Ideal.nD Cert.Kernel29Ideal.τ).loc Cert.Kernel29Ideal.main_arg13) = m ((c.tc : Thread Cert.Kernel29Ideal.nD Cert.Kernel29Ideal.τ).loc Cert.Kernel29Ideal.main_arg13)
          ∧ r.2.mem ((c.tc : Thread Cert.Kernel29Ideal.nD Cert.Kernel29Ideal.τ).loc Cert.Kernel29Ideal.main_arg14) = m ((c.tc : Thread Cert.Kernel29Ideal.nD Cert.Kernel29Ideal.τ).loc Cert.Kernel29Ideal.main_arg14)
          ∧ r.2.mem ((c.tc : Thread Cert.Kernel29Ideal.nD Cert.Kernel29Ideal.τ).loc Cert.Kernel29Ideal.main_arg15) = m ((c.tc : Thread Cert.Kernel29Ideal.nD Cert.Kernel29Ideal.τ).loc Cert.Kernel29Ideal.main_arg15)
          ∧ r.2.mem ((c.tc : Thread Cert.Kernel29Ideal.nD Cert.Kernel29Ideal.τ).loc Cert.Kernel29Ideal.main_arg16) = m ((c.tc : Thread Cert.Kernel29Ideal.nD Cert.Kernel29Ideal.τ).loc Cert.Kernel29Ideal.main_arg16)
          ∧ r.2.mem ((c.tc : Thread Cert.Kernel29Ideal.nD Cert.Kernel29Ideal.τ).loc Cert.Kernel29Ideal.main_arg17) = m ((c.tc : Thread Cert.Kernel29Ideal.nD Cert.Kernel29Ideal.τ).loc Cert.Kernel29Ideal.main_arg17)
          ∧ r.2.mem ((c.tc : Thread Cert.Kernel29Ideal.nD Cert.Kernel29Ideal.τ).loc Cert.Kernel29Ideal.main_arg18) = m ((c.tc : Thread Cert.Kernel29Ideal.nD Cert.Kernel29Ideal.τ).loc Cert.Kernel29Ideal.main_arg18)
          ∧ r.2.mem ((c.tc : Thread Cert.Kernel29Ideal.nD Cert.Kernel29Ideal.τ).loc Cert.Kernel29Ideal.main_arg19) = m ((c.tc : Thread Cert.Kernel29Ideal.nD Cert.Kernel29Ideal.τ).loc Cert.Kernel29Ideal.main_arg19)
          ∧ r.2.mem ((c.tc : Thread Cert.Kernel29Ideal.nD Cert.Kernel29Ideal.τ).loc Cert.Kernel29Ideal.main_arg20) = m ((c.tc : Thread Cert.Kernel29Ideal.nD Cert.Kernel29Ideal.τ).loc Cert.Kernel29Ideal.main_arg20)
          ∧ r.2.mem ((c.tc : Thread Cert.Kernel29Ideal.nD Cert.Kernel29Ideal.τ).loc Cert.Kernel29Ideal.main_arg21) = m ((c.tc : Thread Cert.Kernel29Ideal.nD Cert.Kernel29Ideal.τ).loc Cert.Kernel29Ideal.main_arg21)
          ∧ r.2.mem ((c.tc : Thread Cert.Kernel29Ideal.nD Cert.Kernel29Ideal.τ).loc Cert.Kernel29Ideal.main_arg22) = m ((c.tc : Thread Cert.Kernel29Ideal.nD Cert.Kernel29Ideal.τ).loc Cert.Kernel29Ideal.main_arg22)
          ∧ r.2.mem ((c.tc : Thread Cert.Kernel29Ideal.nD Cert.Kernel29Ideal.τ).loc Cert.Kernel29Ideal.main_arg23) = m ((c.tc : Thread Cert.Kernel29Ideal.nD Cert.Kernel29Ideal.τ).loc Cert.Kernel29Ideal.main_arg23)
          ∧ r.2.mem ((c.tc : Thread Cert.Kernel29Ideal.nD Cert.Kernel29Ideal.τ).loc Cert.Kernel29Ideal.main_arg24) = m ((c.tc : Thread Cert.Kernel29Ideal.nD Cert.Kernel29Ideal.τ).loc Cert.Kernel29Ideal.main_arg24)
          ∧ r.2.mem ((c.tc : Thread Cert.Kernel29Ideal.nD Cert.Kernel29Ideal.τ).loc Cert.Kernel29Ideal.main_arg25) = m ((c.tc : Thread Cert.Kernel29Ideal.nD Cert.Kernel29Ideal.τ).loc Cert.Kernel29Ideal.main_arg25)
          ∧ r.2.mem ((c.tc : Thread Cert.Kernel29Ideal.nD Cert.Kernel29Ideal.τ).loc Cert.Kernel29Ideal.main_arg26) = m ((c.tc : Thread Cert.Kernel29Ideal.nD Cert.Kernel29Ideal.τ).loc Cert.Kernel29Ideal.main_arg26)
          ∧ r.2.mem ((c.tc : Thread Cert.Kernel29Ideal.nD Cert.Kernel29Ideal.τ).loc Cert.Kernel29Ideal.main_arg27) = m ((c.tc : Thread Cert.Kernel29Ideal.nD Cert.Kernel29Ideal.τ).loc Cert.Kernel29Ideal.main_arg27)
          ∧ r.2.mem ((c.tc : Thread Cert.Kernel29Ideal.nD Cert.Kernel29Ideal.τ).loc Cert.Kernel29Ideal.main_arg28) = m ((c.tc : Thread Cert.Kernel29Ideal.nD Cert.Kernel29Ideal.τ).loc Cert.Kernel29Ideal.main_arg28)
          ∧ r.2.mem ((c.tc : Thread Cert.Kernel29Ideal.nD Cert.Kernel29Ideal.τ).loc Cert.Kernel29Ideal.main_arg29) = m ((c.tc : Thread Cert.Kernel29Ideal.nD Cert.Kernel29Ideal.τ).loc Cert.Kernel29Ideal.main_arg29)
          ∧ r.2.mem ((c.tc : Thread Cert.Kernel29Ideal.nD Cert.Kernel29Ideal.τ).loc Cert.Kernel29Ideal.main_arg30) = m ((c.tc : Thread Cert.Kernel29Ideal.nD Cert.Kernel29Ideal.τ).loc Cert.Kernel29Ideal.main_arg30)
          ∧ r.2.mem ((c.tc : Thread Cert.Kernel29Ideal.nD Cert.Kernel29Ideal.τ).loc Cert.Kernel29Ideal.main_arg31) = m ((c.tc : Thread Cert.Kernel29Ideal.nD Cert.Kernel29Ideal.τ).loc Cert.Kernel29Ideal.main_arg31)
          ∧ r.2.mem ((c.tc : Thread Cert.Kernel29Ideal.nD Cert.Kernel29Ideal.τ).loc Cert.Kernel29Ideal.main_arg32) = m ((c.tc : Thread Cert.Kernel29Ideal.nD Cert.Kernel29Ideal.τ).loc Cert.Kernel29Ideal.main_arg32)
          ∧ r.2.mem ((c.tc : Thread Cert.Kernel29Ideal.nD Cert.Kernel29Ideal.τ).loc Cert.Kernel29Ideal.main_arg33) = m ((c.tc : Thread Cert.Kernel29Ideal.nD Cert.Kernel29Ideal.τ).loc Cert.Kernel29Ideal.main_arg33)
          ∧ r.2.mem ((c.tc : Thread Cert.Kernel29Ideal.nD Cert.Kernel29Ideal.τ).loc Cert.Kernel29Ideal.main_arg34) = m ((c.tc : Thread Cert.Kernel29Ideal.nD Cert.Kernel29Ideal.τ).loc Cert.Kernel29Ideal.main_arg34)
          ∧ r.2.mem ((c.tc : Thread Cert.Kernel29Ideal.nD Cert.Kernel29Ideal.τ).loc Cert.Kernel29Ideal.main_arg35) = m ((c.tc : Thread Cert.Kernel29Ideal.nD Cert.Kernel29Ideal.τ).loc Cert.Kernel29Ideal.main_arg35)
          ∧ r.2.mem ((c.tc : Thread Cert.Kernel29Ideal.nD Cert.Kernel29Ideal.τ).loc Cert.Kernel29Ideal.main_arg36) = m ((c.tc : Thread Cert.Kernel29Ideal.nD Cert.Kernel29Ideal.τ).loc Cert.Kernel29Ideal.main_arg36)
          ∧ r.2.mem ((c.tc : Thread Cert.Kernel29Ideal.nD Cert.Kernel29Ideal.τ).loc Cert.Kernel29Ideal.main_arg37) = m ((c.tc : Thread Cert.Kernel29Ideal.nD Cert.Kernel29Ideal.τ).loc Cert.Kernel29Ideal.main_arg37)
          ∧ r.2.mem ((c.tc : Thread Cert.Kernel29Ideal.nD Cert.Kernel29Ideal.τ).loc Cert.Kernel29Ideal.main_arg38) = m ((c.tc : Thread Cert.Kernel29Ideal.nD Cert.Kernel29Ideal.τ).loc Cert.Kernel29Ideal.main_arg38)
          ∧ r.2.mem ((c.tc : Thread Cert.Kernel29Ideal.nD Cert.Kernel29Ideal.τ).loc Cert.Kernel29Ideal.main_arg39) = m ((c.tc : Thread Cert.Kernel29Ideal.nD Cert.Kernel29Ideal.τ).loc Cert.Kernel29Ideal.main_arg39)
          ∧ r.2.mem ((c.tc : Thread Cert.Kernel29Ideal.nD Cert.Kernel29Ideal.τ).loc Cert.Kernel29Ideal.main_arg40) = m ((c.tc : Thread Cert.Kernel29Ideal.nD Cert.Kernel29Ideal.τ).loc Cert.Kernel29Ideal.main_arg40)
          ∧ r.2.mem ((c.tc : Thread Cert.Kernel29Ideal.nD Cert.Kernel29Ideal.τ).loc Cert.Kernel29Ideal.main_arg41) = m ((c.tc : Thread Cert.Kernel29Ideal.nD Cert.Kernel29Ideal.τ).loc Cert.Kernel29Ideal.main_arg41)
          ∧ r.2.mem ((c.tc : Thread Cert.Kernel29Ideal.nD Cert.Kernel29Ideal.τ).loc Cert.Kernel29Ideal.main_arg42) = m ((c.tc : Thread Cert.Kernel29Ideal.nD Cert.Kernel29Ideal.τ).loc Cert.Kernel29Ideal.main_arg42)
          ∧ r.2.mem ((c.tc : Thread Cert.Kernel29Ideal.nD Cert.Kernel29Ideal.τ).loc Cert.Kernel29Ideal.main_arg43) = m ((c.tc : Thread Cert.Kernel29Ideal.nD Cert.Kernel29Ideal.τ).loc Cert.Kernel29Ideal.main_arg43)
          ∧ r.2.mem ((c.tc : Thread Cert.Kernel29Ideal.nD Cert.Kernel29Ideal.τ).loc Cert.Kernel29Ideal.main_arg44) = m ((c.tc : Thread Cert.Kernel29Ideal.nD Cert.Kernel29Ideal.τ).loc Cert.Kernel29Ideal.main_arg44)
          ∧ r.2.mem ((c.tc : Thread Cert.Kernel29Ideal.nD Cert.Kernel29Ideal.τ).loc Cert.Kernel29Ideal.main_arg45) = m ((c.tc : Thread Cert.Kernel29Ideal.nD Cert.Kernel29Ideal.τ).loc Cert.Kernel29Ideal.main_arg45)
          ∧ r.2.mem ((c.tc : Thread Cert.Kernel29Ideal.nD Cert.Kernel29Ideal.τ).loc Cert.Kernel29Ideal.main_arg46) = m ((c.tc : Thread Cert.Kernel29Ideal.nD Cert.Kernel29Ideal.τ).loc Cert.Kernel29Ideal.main_arg46)
          ∧ r.2.mem ((c.tc : Thread Cert.Kernel29Ideal.nD Cert.Kernel29Ideal.τ).loc Cert.Kernel29Ideal.main_arg47) = m ((c.tc : Thread Cert.Kernel29Ideal.nD Cert.Kernel29Ideal.τ).loc Cert.Kernel29Ideal.main_arg47)
          ∧ r.2.mem ((c.tc : Thread Cert.Kernel29Ideal.nD Cert.Kernel29Ideal.τ).loc Cert.Kernel29Ideal.main_arg48) = m ((c.tc : Thread Cert.Kernel29Ideal.nD Cert.Kernel29Ideal.τ).loc Cert.Kernel29Ideal.main_arg48)
          ∧ r.2.mem ((c.tc : Thread Cert.Kernel29Ideal.nD Cert.Kernel29Ideal.τ).loc Cert.Kernel29Ideal.main_arg49) = m ((c.tc : Thread Cert.Kernel29Ideal.nD Cert.Kernel29Ideal.τ).loc Cert.Kernel29Ideal.main_arg49)
          ∧ r.2.mem ((c.tc : Thread Cert.Kernel29Ideal.nD Cert.Kernel29Ideal.τ).loc Cert.Kernel29Ideal.main_arg50) = m ((c.tc : Thread Cert.Kernel29Ideal.nD Cert.Kernel29Ideal.τ).loc Cert.Kernel29Ideal.main_arg50)
          ∧ r.2.mem ((c.tc : Thread Cert.Kernel29Ideal.nD Cert.Kernel29Ideal.τ).loc Cert.Kernel29Ideal.main_arg51) = m ((c.tc : Thread Cert.Kernel29Ideal.nD Cert.Kernel29Ideal.τ).loc Cert.Kernel29Ideal.main_arg51)
          ∧ r.2.mem ((c.tc : Thread Cert.Kernel29Ideal.nD Cert.Kernel29Ideal.τ).loc Cert.Kernel29Ideal.main_arg52) = m ((c.tc : Thread Cert.Kernel29Ideal.nD Cert.Kernel29Ideal.τ).loc Cert.Kernel29Ideal.main_arg52)
          ∧ r.2.mem ((c.tc : Thread Cert.Kernel29Ideal.nD Cert.Kernel29Ideal.τ).loc Cert.Kernel29Ideal.main_arg53) = m ((c.tc : Thread Cert.Kernel29Ideal.nD Cert.Kernel29Ideal.τ).loc Cert.Kernel29Ideal.main_arg53)
          ∧ r.2.mem ((c.tc : Thread Cert.Kernel29Ideal.nD Cert.Kernel29Ideal.τ).loc Cert.Kernel29Ideal.main_arg54) = m ((c.tc : Thread Cert.Kernel29Ideal.nD Cert.Kernel29Ideal.τ).loc Cert.Kernel29Ideal.main_arg54)
          ∧ r.2.mem ((c.tc : Thread Cert.Kernel29Ideal.nD Cert.Kernel29Ideal.τ).loc Cert.Kernel29Ideal.main_arg55) = m ((c.tc : Thread Cert.Kernel29Ideal.nD Cert.Kernel29Ideal.τ).loc Cert.Kernel29Ideal.main_arg55)
          ∧ r.2.mem ((c.tc : Thread Cert.Kernel29Ideal.nD Cert.Kernel29Ideal.τ).loc Cert.Kernel29Ideal.main_arg56) = m ((c.tc : Thread Cert.Kernel29Ideal.nD Cert.Kernel29Ideal.τ).loc Cert.Kernel29Ideal.main_arg56)
          ∧ r.2.mem ((c.tc : Thread Cert.Kernel29Ideal.nD Cert.Kernel29Ideal.τ).loc Cert.Kernel29Ideal.main_arg57) = m ((c.tc : Thread Cert.Kernel29Ideal.nD Cert.Kernel29Ideal.τ).loc Cert.Kernel29Ideal.main_arg57)
          ∧ r.2.mem ((c.tc : Thread Cert.Kernel29Ideal.nD Cert.Kernel29Ideal.τ).loc Cert.Kernel29Ideal.main_arg58) = m ((c.tc : Thread Cert.Kernel29Ideal.nD Cert.Kernel29Ideal.τ).loc Cert.Kernel29Ideal.main_arg58)
          ∧ r.2.mem ((c.tc : Thread Cert.Kernel29Ideal.nD Cert.Kernel29Ideal.τ).loc Cert.Kernel29Ideal.main_arg59) = m ((c.tc : Thread Cert.Kernel29Ideal.nD Cert.Kernel29Ideal.τ).loc Cert.Kernel29Ideal.main_arg59)
          ∧ r.2.mem ((c.tc : Thread Cert.Kernel29Ideal.nD Cert.Kernel29Ideal.τ).loc Cert.Kernel29Ideal.main_arg60) = m ((c.tc : Thread Cert.Kernel29Ideal.nD Cert.Kernel29Ideal.τ).loc Cert.Kernel29Ideal.main_arg60)
          ∧ r.2.mem ((c.tc : Thread Cert.Kernel29Ideal.nD Cert.Kernel29Ideal.τ).loc Cert.Kernel29Ideal.main_arg61) = m ((c.tc : Thread Cert.Kernel29Ideal.nD Cert.Kernel29Ideal.τ).loc Cert.Kernel29Ideal.main_arg61)
          ∧ r.2.mem ((c.tc : Thread Cert.Kernel29Ideal.nD Cert.Kernel29Ideal.τ).loc Cert.Kernel29Ideal.main_arg62) = m ((c.tc : Thread Cert.Kernel29Ideal.nD Cert.Kernel29Ideal.τ).loc Cert.Kernel29Ideal.main_arg62)
          ∧ r.2.mem ((c.tc : Thread Cert.Kernel29Ideal.nD Cert.Kernel29Ideal.τ).loc Cert.Kernel29Ideal.main_arg63) = m ((c.tc : Thread Cert.Kernel29Ideal.nD Cert.Kernel29Ideal.τ).loc Cert.Kernel29Ideal.main_arg63)
          ∧ r.2.mem ((c.tc : Thread Cert.Kernel29Ideal.nD Cert.Kernel29Ideal.τ).loc Cert.Kernel29Ideal.main_arg64) = m ((c.tc : Thread Cert.Kernel29Ideal.nD Cert.Kernel29Ideal.τ).loc Cert.Kernel29Ideal.main_arg64))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v401) = v0 c
          ∧ r.2.mem ((c.tc : Thread Cert.Reference29Ideal.nD Cert.Reference29Ideal.τ).loc Cert.Reference29Ideal.main_v419) = v1 c
          ∧ r.2.mem ((c.tc : Thread Cert.Reference29Ideal.nD Cert.Reference29Ideal.τ).loc Cert.Reference29Ideal.main_v437) = v2 c
          ∧ r.2.mem ((c.tc : Thread Cert.Reference29Ideal.nD Cert.Reference29Ideal.τ).loc Cert.Reference29Ideal.main_v455) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7)
          ∧ r.2.mem ((c.tc : Thread Cert.Reference29Ideal.nD Cert.Reference29Ideal.τ).loc Cert.Reference29Ideal.main_arg8) = m' ((c.tc : Thread Cert.Reference29Ideal.nD Cert.Reference29Ideal.τ).loc Cert.Reference29Ideal.main_arg8)
          ∧ r.2.mem ((c.tc : Thread Cert.Reference29Ideal.nD Cert.Reference29Ideal.τ).loc Cert.Reference29Ideal.main_arg9) = m' ((c.tc : Thread Cert.Reference29Ideal.nD Cert.Reference29Ideal.τ).loc Cert.Reference29Ideal.main_arg9)
          ∧ r.2.mem ((c.tc : Thread Cert.Reference29Ideal.nD Cert.Reference29Ideal.τ).loc Cert.Reference29Ideal.main_arg10) = m' ((c.tc : Thread Cert.Reference29Ideal.nD Cert.Reference29Ideal.τ).loc Cert.Reference29Ideal.main_arg10)
          ∧ r.2.mem ((c.tc : Thread Cert.Reference29Ideal.nD Cert.Reference29Ideal.τ).loc Cert.Reference29Ideal.main_arg11) = m' ((c.tc : Thread Cert.Reference29Ideal.nD Cert.Reference29Ideal.τ).loc Cert.Reference29Ideal.main_arg11)
          ∧ r.2.mem ((c.tc : Thread Cert.Reference29Ideal.nD Cert.Reference29Ideal.τ).loc Cert.Reference29Ideal.main_arg12) = m' ((c.tc : Thread Cert.Reference29Ideal.nD Cert.Reference29Ideal.τ).loc Cert.Reference29Ideal.main_arg12)
          ∧ r.2.mem ((c.tc : Thread Cert.Reference29Ideal.nD Cert.Reference29Ideal.τ).loc Cert.Reference29Ideal.main_arg13) = m' ((c.tc : Thread Cert.Reference29Ideal.nD Cert.Reference29Ideal.τ).loc Cert.Reference29Ideal.main_arg13)
          ∧ r.2.mem ((c.tc : Thread Cert.Reference29Ideal.nD Cert.Reference29Ideal.τ).loc Cert.Reference29Ideal.main_arg14) = m' ((c.tc : Thread Cert.Reference29Ideal.nD Cert.Reference29Ideal.τ).loc Cert.Reference29Ideal.main_arg14)
          ∧ r.2.mem ((c.tc : Thread Cert.Reference29Ideal.nD Cert.Reference29Ideal.τ).loc Cert.Reference29Ideal.main_arg15) = m' ((c.tc : Thread Cert.Reference29Ideal.nD Cert.Reference29Ideal.τ).loc Cert.Reference29Ideal.main_arg15)
          ∧ r.2.mem ((c.tc : Thread Cert.Reference29Ideal.nD Cert.Reference29Ideal.τ).loc Cert.Reference29Ideal.main_arg16) = m' ((c.tc : Thread Cert.Reference29Ideal.nD Cert.Reference29Ideal.τ).loc Cert.Reference29Ideal.main_arg16)
          ∧ r.2.mem ((c.tc : Thread Cert.Reference29Ideal.nD Cert.Reference29Ideal.τ).loc Cert.Reference29Ideal.main_arg17) = m' ((c.tc : Thread Cert.Reference29Ideal.nD Cert.Reference29Ideal.τ).loc Cert.Reference29Ideal.main_arg17)
          ∧ r.2.mem ((c.tc : Thread Cert.Reference29Ideal.nD Cert.Reference29Ideal.τ).loc Cert.Reference29Ideal.main_arg18) = m' ((c.tc : Thread Cert.Reference29Ideal.nD Cert.Reference29Ideal.τ).loc Cert.Reference29Ideal.main_arg18)
          ∧ r.2.mem ((c.tc : Thread Cert.Reference29Ideal.nD Cert.Reference29Ideal.τ).loc Cert.Reference29Ideal.main_arg19) = m' ((c.tc : Thread Cert.Reference29Ideal.nD Cert.Reference29Ideal.τ).loc Cert.Reference29Ideal.main_arg19)
          ∧ r.2.mem ((c.tc : Thread Cert.Reference29Ideal.nD Cert.Reference29Ideal.τ).loc Cert.Reference29Ideal.main_arg20) = m' ((c.tc : Thread Cert.Reference29Ideal.nD Cert.Reference29Ideal.τ).loc Cert.Reference29Ideal.main_arg20)
          ∧ r.2.mem ((c.tc : Thread Cert.Reference29Ideal.nD Cert.Reference29Ideal.τ).loc Cert.Reference29Ideal.main_arg21) = m' ((c.tc : Thread Cert.Reference29Ideal.nD Cert.Reference29Ideal.τ).loc Cert.Reference29Ideal.main_arg21)
          ∧ r.2.mem ((c.tc : Thread Cert.Reference29Ideal.nD Cert.Reference29Ideal.τ).loc Cert.Reference29Ideal.main_arg22) = m' ((c.tc : Thread Cert.Reference29Ideal.nD Cert.Reference29Ideal.τ).loc Cert.Reference29Ideal.main_arg22)
          ∧ r.2.mem ((c.tc : Thread Cert.Reference29Ideal.nD Cert.Reference29Ideal.τ).loc Cert.Reference29Ideal.main_arg23) = m' ((c.tc : Thread Cert.Reference29Ideal.nD Cert.Reference29Ideal.τ).loc Cert.Reference29Ideal.main_arg23)
          ∧ r.2.mem ((c.tc : Thread Cert.Reference29Ideal.nD Cert.Reference29Ideal.τ).loc Cert.Reference29Ideal.main_arg24) = m' ((c.tc : Thread Cert.Reference29Ideal.nD Cert.Reference29Ideal.τ).loc Cert.Reference29Ideal.main_arg24)
          ∧ r.2.mem ((c.tc : Thread Cert.Reference29Ideal.nD Cert.Reference29Ideal.τ).loc Cert.Reference29Ideal.main_arg25) = m' ((c.tc : Thread Cert.Reference29Ideal.nD Cert.Reference29Ideal.τ).loc Cert.Reference29Ideal.main_arg25)
          ∧ r.2.mem ((c.tc : Thread Cert.Reference29Ideal.nD Cert.Reference29Ideal.τ).loc Cert.Reference29Ideal.main_arg26) = m' ((c.tc : Thread Cert.Reference29Ideal.nD Cert.Reference29Ideal.τ).loc Cert.Reference29Ideal.main_arg26)
          ∧ r.2.mem ((c.tc : Thread Cert.Reference29Ideal.nD Cert.Reference29Ideal.τ).loc Cert.Reference29Ideal.main_arg27) = m' ((c.tc : Thread Cert.Reference29Ideal.nD Cert.Reference29Ideal.τ).loc Cert.Reference29Ideal.main_arg27)
          ∧ r.2.mem ((c.tc : Thread Cert.Reference29Ideal.nD Cert.Reference29Ideal.τ).loc Cert.Reference29Ideal.main_arg28) = m' ((c.tc : Thread Cert.Reference29Ideal.nD Cert.Reference29Ideal.τ).loc Cert.Reference29Ideal.main_arg28)
          ∧ r.2.mem ((c.tc : Thread Cert.Reference29Ideal.nD Cert.Reference29Ideal.τ).loc Cert.Reference29Ideal.main_arg29) = m' ((c.tc : Thread Cert.Reference29Ideal.nD Cert.Reference29Ideal.τ).loc Cert.Reference29Ideal.main_arg29)
          ∧ r.2.mem ((c.tc : Thread Cert.Reference29Ideal.nD Cert.Reference29Ideal.τ).loc Cert.Reference29Ideal.main_arg30) = m' ((c.tc : Thread Cert.Reference29Ideal.nD Cert.Reference29Ideal.τ).loc Cert.Reference29Ideal.main_arg30)
          ∧ r.2.mem ((c.tc : Thread Cert.Reference29Ideal.nD Cert.Reference29Ideal.τ).loc Cert.Reference29Ideal.main_arg31) = m' ((c.tc : Thread Cert.Reference29Ideal.nD Cert.Reference29Ideal.τ).loc Cert.Reference29Ideal.main_arg31)
          ∧ r.2.mem ((c.tc : Thread Cert.Reference29Ideal.nD Cert.Reference29Ideal.τ).loc Cert.Reference29Ideal.main_arg32) = m' ((c.tc : Thread Cert.Reference29Ideal.nD Cert.Reference29Ideal.τ).loc Cert.Reference29Ideal.main_arg32)
          ∧ r.2.mem ((c.tc : Thread Cert.Reference29Ideal.nD Cert.Reference29Ideal.τ).loc Cert.Reference29Ideal.main_arg33) = m' ((c.tc : Thread Cert.Reference29Ideal.nD Cert.Reference29Ideal.τ).loc Cert.Reference29Ideal.main_arg33)
          ∧ r.2.mem ((c.tc : Thread Cert.Reference29Ideal.nD Cert.Reference29Ideal.τ).loc Cert.Reference29Ideal.main_arg34) = m' ((c.tc : Thread Cert.Reference29Ideal.nD Cert.Reference29Ideal.τ).loc Cert.Reference29Ideal.main_arg34)
          ∧ r.2.mem ((c.tc : Thread Cert.Reference29Ideal.nD Cert.Reference29Ideal.τ).loc Cert.Reference29Ideal.main_arg35) = m' ((c.tc : Thread Cert.Reference29Ideal.nD Cert.Reference29Ideal.τ).loc Cert.Reference29Ideal.main_arg35)
          ∧ r.2.mem ((c.tc : Thread Cert.Reference29Ideal.nD Cert.Reference29Ideal.τ).loc Cert.Reference29Ideal.main_arg36) = m' ((c.tc : Thread Cert.Reference29Ideal.nD Cert.Reference29Ideal.τ).loc Cert.Reference29Ideal.main_arg36)
          ∧ r.2.mem ((c.tc : Thread Cert.Reference29Ideal.nD Cert.Reference29Ideal.τ).loc Cert.Reference29Ideal.main_arg37) = m' ((c.tc : Thread Cert.Reference29Ideal.nD Cert.Reference29Ideal.τ).loc Cert.Reference29Ideal.main_arg37)
          ∧ r.2.mem ((c.tc : Thread Cert.Reference29Ideal.nD Cert.Reference29Ideal.τ).loc Cert.Reference29Ideal.main_arg38) = m' ((c.tc : Thread Cert.Reference29Ideal.nD Cert.Reference29Ideal.τ).loc Cert.Reference29Ideal.main_arg38)
          ∧ r.2.mem ((c.tc : Thread Cert.Reference29Ideal.nD Cert.Reference29Ideal.τ).loc Cert.Reference29Ideal.main_arg39) = m' ((c.tc : Thread Cert.Reference29Ideal.nD Cert.Reference29Ideal.τ).loc Cert.Reference29Ideal.main_arg39)
          ∧ r.2.mem ((c.tc : Thread Cert.Reference29Ideal.nD Cert.Reference29Ideal.τ).loc Cert.Reference29Ideal.main_arg40) = m' ((c.tc : Thread Cert.Reference29Ideal.nD Cert.Reference29Ideal.τ).loc Cert.Reference29Ideal.main_arg40)
          ∧ r.2.mem ((c.tc : Thread Cert.Reference29Ideal.nD Cert.Reference29Ideal.τ).loc Cert.Reference29Ideal.main_arg41) = m' ((c.tc : Thread Cert.Reference29Ideal.nD Cert.Reference29Ideal.τ).loc Cert.Reference29Ideal.main_arg41)
          ∧ r.2.mem ((c.tc : Thread Cert.Reference29Ideal.nD Cert.Reference29Ideal.τ).loc Cert.Reference29Ideal.main_arg42) = m' ((c.tc : Thread Cert.Reference29Ideal.nD Cert.Reference29Ideal.τ).loc Cert.Reference29Ideal.main_arg42)
          ∧ r.2.mem ((c.tc : Thread Cert.Reference29Ideal.nD Cert.Reference29Ideal.τ).loc Cert.Reference29Ideal.main_arg43) = m' ((c.tc : Thread Cert.Reference29Ideal.nD Cert.Reference29Ideal.τ).loc Cert.Reference29Ideal.main_arg43)
          ∧ r.2.mem ((c.tc : Thread Cert.Reference29Ideal.nD Cert.Reference29Ideal.τ).loc Cert.Reference29Ideal.main_arg44) = m' ((c.tc : Thread Cert.Reference29Ideal.nD Cert.Reference29Ideal.τ).loc Cert.Reference29Ideal.main_arg44)
          ∧ r.2.mem ((c.tc : Thread Cert.Reference29Ideal.nD Cert.Reference29Ideal.τ).loc Cert.Reference29Ideal.main_arg45) = m' ((c.tc : Thread Cert.Reference29Ideal.nD Cert.Reference29Ideal.τ).loc Cert.Reference29Ideal.main_arg45)
          ∧ r.2.mem ((c.tc : Thread Cert.Reference29Ideal.nD Cert.Reference29Ideal.τ).loc Cert.Reference29Ideal.main_arg46) = m' ((c.tc : Thread Cert.Reference29Ideal.nD Cert.Reference29Ideal.τ).loc Cert.Reference29Ideal.main_arg46)
          ∧ r.2.mem ((c.tc : Thread Cert.Reference29Ideal.nD Cert.Reference29Ideal.τ).loc Cert.Reference29Ideal.main_arg47) = m' ((c.tc : Thread Cert.Reference29Ideal.nD Cert.Reference29Ideal.τ).loc Cert.Reference29Ideal.main_arg47)
          ∧ r.2.mem ((c.tc : Thread Cert.Reference29Ideal.nD Cert.Reference29Ideal.τ).loc Cert.Reference29Ideal.main_arg48) = m' ((c.tc : Thread Cert.Reference29Ideal.nD Cert.Reference29Ideal.τ).loc Cert.Reference29Ideal.main_arg48)
          ∧ r.2.mem ((c.tc : Thread Cert.Reference29Ideal.nD Cert.Reference29Ideal.τ).loc Cert.Reference29Ideal.main_arg49) = m' ((c.tc : Thread Cert.Reference29Ideal.nD Cert.Reference29Ideal.τ).loc Cert.Reference29Ideal.main_arg49)
          ∧ r.2.mem ((c.tc : Thread Cert.Reference29Ideal.nD Cert.Reference29Ideal.τ).loc Cert.Reference29Ideal.main_arg50) = m' ((c.tc : Thread Cert.Reference29Ideal.nD Cert.Reference29Ideal.τ).loc Cert.Reference29Ideal.main_arg50)
          ∧ r.2.mem ((c.tc : Thread Cert.Reference29Ideal.nD Cert.Reference29Ideal.τ).loc Cert.Reference29Ideal.main_arg51) = m' ((c.tc : Thread Cert.Reference29Ideal.nD Cert.Reference29Ideal.τ).loc Cert.Reference29Ideal.main_arg51)
          ∧ r.2.mem ((c.tc : Thread Cert.Reference29Ideal.nD Cert.Reference29Ideal.τ).loc Cert.Reference29Ideal.main_arg52) = m' ((c.tc : Thread Cert.Reference29Ideal.nD Cert.Reference29Ideal.τ).loc Cert.Reference29Ideal.main_arg52)
          ∧ r.2.mem ((c.tc : Thread Cert.Reference29Ideal.nD Cert.Reference29Ideal.τ).loc Cert.Reference29Ideal.main_arg53) = m' ((c.tc : Thread Cert.Reference29Ideal.nD Cert.Reference29Ideal.τ).loc Cert.Reference29Ideal.main_arg53)
          ∧ r.2.mem ((c.tc : Thread Cert.Reference29Ideal.nD Cert.Reference29Ideal.τ).loc Cert.Reference29Ideal.main_arg54) = m' ((c.tc : Thread Cert.Reference29Ideal.nD Cert.Reference29Ideal.τ).loc Cert.Reference29Ideal.main_arg54)
          ∧ r.2.mem ((c.tc : Thread Cert.Reference29Ideal.nD Cert.Reference29Ideal.τ).loc Cert.Reference29Ideal.main_arg55) = m' ((c.tc : Thread Cert.Reference29Ideal.nD Cert.Reference29Ideal.τ).loc Cert.Reference29Ideal.main_arg55)
          ∧ r.2.mem ((c.tc : Thread Cert.Reference29Ideal.nD Cert.Reference29Ideal.τ).loc Cert.Reference29Ideal.main_arg56) = m' ((c.tc : Thread Cert.Reference29Ideal.nD Cert.Reference29Ideal.τ).loc Cert.Reference29Ideal.main_arg56)
          ∧ r.2.mem ((c.tc : Thread Cert.Reference29Ideal.nD Cert.Reference29Ideal.τ).loc Cert.Reference29Ideal.main_arg57) = m' ((c.tc : Thread Cert.Reference29Ideal.nD Cert.Reference29Ideal.τ).loc Cert.Reference29Ideal.main_arg57)
          ∧ r.2.mem ((c.tc : Thread Cert.Reference29Ideal.nD Cert.Reference29Ideal.τ).loc Cert.Reference29Ideal.main_arg58) = m' ((c.tc : Thread Cert.Reference29Ideal.nD Cert.Reference29Ideal.τ).loc Cert.Reference29Ideal.main_arg58)
          ∧ r.2.mem ((c.tc : Thread Cert.Reference29Ideal.nD Cert.Reference29Ideal.τ).loc Cert.Reference29Ideal.main_arg59) = m' ((c.tc : Thread Cert.Reference29Ideal.nD Cert.Reference29Ideal.τ).loc Cert.Reference29Ideal.main_arg59)
          ∧ r.2.mem ((c.tc : Thread Cert.Reference29Ideal.nD Cert.Reference29Ideal.τ).loc Cert.Reference29Ideal.main_arg60) = m' ((c.tc : Thread Cert.Reference29Ideal.nD Cert.Reference29Ideal.τ).loc Cert.Reference29Ideal.main_arg60)
          ∧ r.2.mem ((c.tc : Thread Cert.Reference29Ideal.nD Cert.Reference29Ideal.τ).loc Cert.Reference29Ideal.main_arg61) = m' ((c.tc : Thread Cert.Reference29Ideal.nD Cert.Reference29Ideal.τ).loc Cert.Reference29Ideal.main_arg61)
          ∧ r.2.mem ((c.tc : Thread Cert.Reference29Ideal.nD Cert.Reference29Ideal.τ).loc Cert.Reference29Ideal.main_arg62) = m' ((c.tc : Thread Cert.Reference29Ideal.nD Cert.Reference29Ideal.τ).loc Cert.Reference29Ideal.main_arg62)
          ∧ r.2.mem ((c.tc : Thread Cert.Reference29Ideal.nD Cert.Reference29Ideal.τ).loc Cert.Reference29Ideal.main_arg63) = m' ((c.tc : Thread Cert.Reference29Ideal.nD Cert.Reference29Ideal.τ).loc Cert.Reference29Ideal.main_arg63)
          ∧ r.2.mem ((c.tc : Thread Cert.Reference29Ideal.nD Cert.Reference29Ideal.τ).loc Cert.Reference29Ideal.main_arg64) = m' ((c.tc : Thread Cert.Reference29Ideal.nD Cert.Reference29Ideal.τ).loc Cert.Reference29Ideal.main_arg64))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_finite2 : Cert.Pre_finite2.Facts) (hPre_finite12 : Cert.Pre_finite12.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite12 (hKernel12Ideal := hKernel12Ideal) (hPre_finite12 := hPre_finite12)
    ∧ quiescent_Reference12Ideal (hReference12Ideal := hReference12Ideal)
    ∧ quiescent_Reference12Ideal_pre_finite12 (hReference12Ideal := hReference12Ideal) (hPre_finite12 := hPre_finite12)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite12 (hKernel12Ideal := hKernel12Ideal) (hReference12Ideal := hReference12Ideal) (hPre_finite12 := hPre_finite12)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
-- ==== Pre_finite12.lean ====
abbrev S4352x1024 : Shape := ⟨2, ![4352, 1024]⟩
abbrev S2816x1024 : Shape := ⟨2, ![2816, 1024]⟩
abbrev S2x4352x2816 : Shape := ⟨3, ![2, 4352, 2816]⟩
abbrev S_ : Shape := ⟨0, ![]⟩

class Facts : Prop where
  bitsLt_bf16_f32 : FTy.bits .bf16 < FTy.bits .f32
  bcast_S_S4352x1024 : S_.BroadcastsInDim S4352x1024 (![] : Fin 0 → Fin S4352x1024.rank)
  bcast_S_S2816x1024 : S_.BroadcastsInDim S2816x1024 (![] : Fin 0 → Fin S2816x1024.rank)
  bcast_S_S2x4352x2816 : S_.BroadcastsInDim S2x4352x2816 (![] : Fin 0 → Fin S2x4352x2816.rank)

variable [Facts]

def fn {F : FTy → Type} [FloatOps F] (main_arg0 : FVec F S4352x1024 .bf16) (main_arg1 : FVec F S2816x1024 .bf16) (main_arg2 : FVec F S2x4352x2816 .bf16) : IVec S4352x1024 1 × IVec S2816x1024 1 × IVec S2x4352x2816 1 :=
  let main_v0 : FVec F S4352x1024 .f32 := (extf .f32 · bitsLt_bf16_f32) main_arg0
  let main_v1 : FVec F S4352x1024 .f32 := Host.absf main_v0
  let main_cst : FVec F S_ .f32 := constant S_ .f32 0x7F800000#32
  let main_v2 : FVec F S4352x1024 .f32 := broadcastInDim S4352x1024 ![] bcast_S_S4352x1024 main_cst
  let main_v3 : IVec S4352x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2x4352x2816 .f32 := (extf .f32 · bitsLt_bf16_f32) main_arg2
  let main_v9 : FVec F S2x4352x2816 .f32 := Host.absf main_v8
  let main_cst_1 : FVec F S_ .f32 := constant S_ .f32 0x7F800000#32
  let main_v10 : FVec F S2x4352x2816 .f32 := broadcastInDim S2x4352x2816 ![] bcast_S_S2x4352x2816 main_cst_1
  let main_v11 : IVec S2x4352x2816 1 := cmpf .olt main_v9 main_v10
  (main_v3, main_v7, main_v11)
-- ==== Pre_finite2.lean ====
abbrev S4096x1024 : Shape := ⟨2, ![4096, 1024]⟩
abbrev S2816x1024 : Shape := ⟨2, ![2816, 1024]⟩
abbrev S2x4096x2816 : Shape := ⟨3, ![2, 4096, 2816]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S2x4096x2816 : S_.BroadcastsInDim S2x4096x2816 (![] : Fin 0 → Fin S2x4096x2816.rank)

variable [Facts]

def fn {F : FTy → Type} [FloatOps F] (main_arg0 : FVec F S4096x1024 .bf16) (main_arg1 : FVec F S2816x1024 .bf16) (main_arg2 : FVec F S2x4096x2816 .bf16) : IVec S4096x1024 1 × IVec S2816x1024 1 × IVec S2x4096x2816 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_v4 : FVec F S2816x1024 .f32 := (extf .f32 · bitsLt_bf16_f32) main_arg1
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S2x4096x2816 .f32 := (extf .f32 · bitsLt_bf16_f32) main_arg2
  let main_v9 : FVec F S2x4096x2816 .f32 := Host.absf main_v8
  let main_cst_1 : FVec F S_ .f32 := constant S_ .f32 0x7F800000#32
  let main_v10 : FVec F S2x4096x2816 .f32 := broadcastInDim S2x4096x2816 ![] bcast_S_S2x4096x2816 main_cst_1
  let main_v11 : IVec S2x4096x2816 1 := cmpf .olt main_v9 main_v10
  (main_v3, main_v7, main_v11)
-- ==== Kernel.lean ====
abbrev S4352x512 : Shape := ⟨2, ![4352, 512]⟩
abbrev S4352x2816 : Shape := ⟨2, ![4352, 2816]⟩
abbrev S1x512 : Shape := ⟨2, ![1, 512]⟩
abbrev S512x128 : Shape := ⟨2, ![512, 128]⟩
abbrev S128x4 : Shape := ⟨2, ![128, 4]⟩
abbrev S4352x1024 : Shape := ⟨2, ![4352, 1024]⟩
abbrev S128x512 : Shape := ⟨2, ![128, 512]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S128x3 : Shape := ⟨2, ![128, 3]⟩
abbrev S128x384 : Shape := ⟨2, ![128, 384]⟩
abbrev S384x128 : Shape := ⟨2, ![384, 128]⟩
abbrev S128x2 : Shape := ⟨2, ![128, 2]⟩
abbrev S128x256 : Shape := ⟨2, ![128, 256]⟩
abbrev S256x128 : Shape := ⟨2, ![256, 128]⟩
abbrev S512 : Shape := ⟨1, ![512]⟩

abbrev nBuf : Space → Nat
  | .hbm => 15
  | .vmem => 26
  | .smem => 0
  | _ => 0

abbrev bufTy : (tb : Table) → Fin (tcTables nBuf tb) → BufTy
  | .hbm, ⟨0, _⟩ => ⟨S4352x512, .f32⟩
  | .hbm, ⟨1, _⟩ => ⟨S4352x2816, .f32⟩
  | .hbm, ⟨2, _⟩ => ⟨S1x512, .f32⟩
  | .hbm, ⟨3, _⟩ => ⟨S1x512, .f32⟩
  | .hbm, ⟨4, _⟩ => ⟨S512x128, .f32⟩
  | .hbm, ⟨5, _⟩ => ⟨S128x4, .f32⟩
  | .hbm, ⟨6, _⟩ => ⟨S4352x1024, .bf16⟩
  | .hbm, ⟨7, _⟩ => ⟨S4352x512, .f32⟩
  | .hbm, ⟨8, _⟩ => ⟨S4352x512, .bf16⟩
  | .hbm, ⟨9, _⟩ => ⟨S4352x512, .bf16⟩
  | .hbm, ⟨10, _⟩ => ⟨S4352x512, .bf16⟩
  | .hbm, ⟨11, _⟩ => ⟨S1x512, .f32⟩
  | .hbm, ⟨12, _⟩ => ⟨S1x512, .f32⟩
  | .hbm, ⟨13, _⟩ => ⟨S512x128, .f32⟩
  | .hbm, ⟨14, _⟩ => ⟨S128x4, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S1x512, .f32⟩
  | .local _ .vmem, ⟨9, _⟩ => ⟨S1x512, .f32⟩
  | .local _ .vmem, ⟨10, _⟩ => ⟨S512x128, .f32⟩
  | .local _ .vmem, ⟨11, _⟩ => ⟨S128x4, .f32⟩
  | .local _ .vmem, ⟨12, _⟩ => ⟨S128x1024, .bf16⟩
  | .local _ .vmem, ⟨13, _⟩ => ⟨S128x1024, .bf16⟩
  | .local _ .vmem, ⟨14, _⟩ => ⟨S128x512, .f32⟩
  | .local _ .vmem, ⟨15, _⟩ => ⟨S128x512, .f32⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .bf16⟩
  | .local _ .vmem, ⟨21, _⟩ => ⟨S128x512, .bf16⟩
  | .local _ .vmem, ⟨22, _⟩ => ⟨S1x512, .f32⟩
  | .local _ .vmem, ⟨23, _⟩ => ⟨S1x512, .f32⟩
  | .local _ .vmem, ⟨24, _⟩ => ⟨S512x128, .f32⟩
  | .local _ .vmem, ⟨25, _⟩ => ⟨S128x4, .f32⟩
  | _, _ => ⟨S4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev main_v0_7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![34], ![false]⟩

def k0_cond1 (i : grid0.Coords) : BitVec 1 :=
  let arg0 : BitVec 32 := BitVec.ofNat 32 (i 0).val
  let c34_i32 : BitVec 32 := 34#32
  let v410 : BitVec 1 := Scalar.cmpi .slt arg0 c34_i32
  let v411 : BitVec 32 := Scalar.extui v410
  let c0_i32 : BitVec 32 := 0#32
  let v412 : BitVec 1 := Scalar.cmpi .ne v411 c0_i32
  v412

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c33_i32 : BitVec 32 := 33#32
  let v0 : BitVec 32 := Scalar.minsi arg0 c33_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c33_i32 : BitVec 32 := 33#32
  let v0 : BitVec 32 := Scalar.minsi arg0 c33_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c33_i32 : BitVec 32 := 33#32
  let v0 : BitVec 32 := Scalar.minsi arg0 c33_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c33_i32 : BitVec 32 := 33#32
  let v0 : BitVec 32 := Scalar.minsi arg0 c33_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x4 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x4 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceIdeal.lean ====
abbrev S4352x512 : Shape := ⟨2, ![4352, 512]⟩
abbrev S4352x2816 : Shape := ⟨2, ![4352, 2816]⟩
abbrev S1x512 : Shape := ⟨2, ![1, 512]⟩
abbrev S512x128 : Shape := ⟨2, ![512, 128]⟩
abbrev S128x4 : Shape := ⟨2, ![128, 4]⟩
abbrev S4352x1024 : Shape := ⟨2, ![4352, 1024]⟩
abbrev S4x128x128 : Shape := ⟨3, ![4, 128, 128]⟩
abbrev S4x128 : Shape := ⟨2, ![4, 128]⟩
abbrev S4352x4x128 : Shape := ⟨3, ![4352, 4, 128]⟩
abbrev S_ : Shape := ⟨0, ![]⟩
abbrev S4352x4 : Shape := ⟨2, ![4352, 4]⟩
abbrev S4352x4x1 : Shape := ⟨3, ![4352, 4, 1]⟩
abbrev S4352 : Shape := ⟨1, ![4352]⟩
abbrev S4352x1 : Shape := ⟨2, ![4352, 1]⟩
abbrev S34x128x4x128 : Shape := ⟨4, ![34, 128, 4, 128]⟩
abbrev S4x34x128x128 : Shape := ⟨4, ![4, 34, 128, 128]⟩
abbrev S128x4x1 : Shape := ⟨3, ![128, 4, 1]⟩
abbrev S1x128x4x1 : Shape := ⟨4, ![1, 128, 4, 1]⟩
abbrev S512 : Shape := ⟨1, ![512]⟩

abbrev nBuf : Space → Nat
  | .hbm => 269
  | .vmem => 0
  | .smem => 0
  | _ => 0

abbrev hbmTy0_0 (i : Nat) : BufTy := match i % 128 with
  | 0 => ⟨S4352x512, .f32⟩
  | 1 => ⟨S4352x2816, .f32⟩
  | 2 => ⟨S1x512, .f32⟩
  | 3 => ⟨S1x512, .f32⟩
  | 4 => ⟨S512x128, .f32⟩
  | 5 => ⟨S128x4, .f32⟩
  | 6 => ⟨S4352x1024, .bf16⟩
  | 7 => ⟨S4352x512, .f32⟩
  | 8 => ⟨S4352x512, .f32⟩
  | 9 => ⟨S4352x512, .f32⟩
  | 10 => ⟨S4x128x128, .f32⟩
  | 11 => ⟨S4x128, .f32⟩
  | 12 => ⟨S4352x4x128, .f32⟩
  | 13 => ⟨S4352x4x128, .f32⟩
  | 14 => ⟨S_, .f32⟩
  | 15 => ⟨S4352x4, .f32⟩
  | 16 => ⟨S4352x4x1, .f32⟩
  | 17 => ⟨S_, .f32⟩
  | 18 => ⟨S4352x4x1, .f32⟩
  | 19 => ⟨S4352x4x1, .f32⟩
  | 20 => ⟨S_, .f32⟩
  | 21 => ⟨S4352x4x1, .f32⟩
  | 22 => ⟨S4352x4x1, .f32⟩
  | 23 => ⟨S4352x4x1, .f32⟩
  | 24 => ⟨S4352x4x1, .f32⟩
  | 25 => ⟨S_, .f32⟩
  | 26 => ⟨S4352x4x1, .f32⟩
  | 27 => ⟨S4352x4x1, .f32⟩
  | 28 => ⟨S4352x4x128, .f32⟩
  | 29 => ⟨S4352x4x128, .f32⟩
  | 30 => ⟨S4352x512, .f32⟩
  | 31 => ⟨S4352x512, .f32⟩
  | 32 => ⟨S4352x512, .f32⟩
  | 33 => ⟨S4352x512, .f32⟩
  | 34 => ⟨S4352x512, .f32⟩
  | 35 => ⟨S_, .f32⟩
  | 36 => ⟨S4352x512, .f32⟩
  | 37 => ⟨S4352x512, .f32⟩
  | 38 => ⟨S_, .f32⟩
  | 39 => ⟨S4352x512, .f32⟩
  | 40 => ⟨S4352x512, .f32⟩
  | 41 => ⟨S_, .f32⟩
  | 42 => ⟨S4352x512, .f32⟩
  | 43 => ⟨S4352x512, .f32⟩
  | 44 => ⟨S4352x512, .f32⟩
  | 45 => ⟨S4352x512, .f32⟩
  | 46 => ⟨S4352x512, .f32⟩
  | 47 => ⟨S4352x512, .f32⟩
  | 48 => ⟨S4352x512, .f32⟩
  | 49 => ⟨S4352x512, .f32⟩
  | 50 => ⟨S_, .f32⟩
  | 51 => ⟨S4352x512, .f32⟩
  | 52 => ⟨S4352x512, .f32⟩
  | 53 => ⟨S_, .f32⟩
  | 54 => ⟨S4352x512, .f32⟩
  | 55 => ⟨S4352x512, .f32⟩
  | 56 => ⟨S4352x512, .f32⟩
  | 57 => ⟨S_, .f32⟩
  | 58 => ⟨S4352x512, .f32⟩
  | 59 => ⟨S4352x512, .f32⟩
  | 60 => ⟨S4352x512, .f32⟩
  | 61 => ⟨S_, .f32⟩
  | 62 => ⟨S4352x512, .f32⟩
  | 63 => ⟨S4352x512, .f32⟩
  | 64 => ⟨S_, .f32⟩
  | 65 => ⟨S4352x512, .f32⟩
  | 66 => ⟨S4352x512, .f32⟩
  | 67 => ⟨S4352x512, .f32⟩
  | 68 => ⟨S_, .f32⟩
  | 69 => ⟨S4352x512, .f32⟩
  | 70 => ⟨S4352x512, .f32⟩
  | 71 => ⟨S_, .f32⟩
  | 72 => ⟨S4352x512, .f32⟩
  | 73 => ⟨S4352x512, .f32⟩
  | 74 => ⟨S4352x512, .f32⟩
  | 75 => ⟨S4352x512, .f32⟩
  | 76 => ⟨S4352x512, .f32⟩
  | 77 => ⟨S4352x512, .f32⟩
  | 78 => ⟨S_, .f32⟩
  | 79 => ⟨S4352x512, .f32⟩
  | 80 => ⟨S4352x512, .f32⟩
  | 81 => ⟨S_, .f32⟩
  | 82 => ⟨S4352x512, .f32⟩
  | 83 => ⟨S4352x512, .f32⟩
  | 84 => ⟨S4352x512, .f32⟩
  | 85 => ⟨S_, .f32⟩
  | 86 => ⟨S4352x512, .f32⟩
  | 87 => ⟨S4352x512, .f32⟩
  | 88 => ⟨S4352x512, .f32⟩
  | 89 => ⟨S_, .f32⟩
  | 90 => ⟨S4352x512, .f32⟩
  | 91 => ⟨S4352x512, .f32⟩
  | 92 => ⟨S_, .f32⟩
  | 93 => ⟨S4352x512, .f32⟩
  | 94 => ⟨S4352x512, .f32⟩
  | 95 => ⟨S4352x512, .f32⟩
  | 96 => ⟨S_, .f32⟩
  | 97 => ⟨S4352x512, .f32⟩
  | 98 => ⟨S4352x512, .f32⟩
  | 99 => ⟨S_, .f32⟩
  | 100 => ⟨S4352x512, .f32⟩
  | 101 => ⟨S4352x512, .f32⟩
  | 102 => ⟨S4352x512, .f32⟩
  | 103 => ⟨S_, .f32⟩
  | 104 => ⟨S4352, .f32⟩
  | 105 => ⟨S4352x1, .f32⟩
  | 106 => ⟨S_, .f32⟩
  | 107 => ⟨S4352x1, .f32⟩
  | 108 => ⟨S4352x1, .f32⟩
  | 109 => ⟨S4352x512, .f32⟩
  | 110 => ⟨S4352x512, .f32⟩
  | 111 => ⟨S4352x512, .f32⟩
  | 112 => ⟨S_, .f32⟩
  | 113 => ⟨S4352x512, .f32⟩
  | 114 => ⟨S4352x512, .f32⟩
  | 115 => ⟨S_, .f32⟩
  | 116 => ⟨S4352, .f32⟩
  | 117 => ⟨S4352x1, .f32⟩
  | 118 => ⟨S_, .f32⟩
  | 119 => ⟨S4352x1, .f32⟩
  | 120 => ⟨S4352x1, .f32⟩
  | 121 => ⟨S4352x512, .f32⟩
  | 122 => ⟨S4352x512, .f32⟩
  | 123 => ⟨S_, .f32⟩
  | 124 => ⟨S4352x1, .f32⟩
  | 125 => ⟨S4352x1, .f32⟩
  | 126 => ⟨S4352x1, .f32⟩
  | 127 => ⟨S4352x1, .f32⟩
  | _ => ⟨S4352x512, .f32⟩

abbrev hbmTy0_1 (i : Nat) : BufTy := match i % 128 with
  | 0 => ⟨S_, .f32⟩
  | 1 => ⟨S4352x1, .f32⟩
  | 2 => ⟨S4352x1, .f32⟩
  | 3 => ⟨S4352x512, .f32⟩
  | 4 => ⟨S4352x512, .f32⟩
  | 5 => ⟨S4352x512, .f32⟩
  | 6 => ⟨S4352x512, .f32⟩
  | 7 => ⟨S34x128x4x128, .f32⟩
  | 8 => ⟨S4x34x128x128, .f32⟩
  | 9 => ⟨S34x128x4x128, .f32⟩
  | 10 => ⟨S128x4, .f32⟩
  | 11 => ⟨S128x4x1, .f32⟩
  | 12 => ⟨S1x128x4x1, .f32⟩
  | 13 => ⟨S34x128x4x128, .f32⟩
  | 14 => ⟨S34x128x4x128, .f32⟩
  | 15 => ⟨S4352x512, .f32⟩
  | 16 => ⟨S4352x512, .f32⟩
  | 17 => ⟨S4352x1024, .f32⟩
  | 18 => ⟨S4352x1024, .f32⟩
  | 19 => ⟨S4352x512, .f32⟩
  | 20 => ⟨S4352x512, .f32⟩
  | 21 => ⟨S4352x512, .f32⟩
  | 22 => ⟨S4352x512, .f32⟩
  | 23 => ⟨S34x128x4x128, .f32⟩
  | 24 => ⟨S_, .f32⟩
  | 25 => ⟨S128x4, .f32⟩
  | 26 => ⟨S1x128x4x1, .f32⟩
  | 27 => ⟨S_, .f32⟩
  | 28 => ⟨S128x4, .f32⟩
  | 29 => ⟨S128x4x1, .f32⟩
  | 30 => ⟨S_, .f32⟩
  | 31 => ⟨S128x4, .f32⟩
  | 32 => ⟨S4x128, .f32⟩
  | 33 => ⟨S4x34x128x128, .f32⟩
  | 34 => ⟨S4x128x128, .f32⟩
  | 35 => ⟨S4x34x128x128, .f32⟩
  | 36 => ⟨S34x128x4x128, .f32⟩
  | 37 => ⟨S4352x512, .f32⟩
  | 38 => ⟨S4352x512, .f32⟩
  | 39 => ⟨S_, .f32⟩
  | 40 => ⟨S512, .f32⟩
  | 41 => ⟨S1x512, .f32⟩
  | 42 => ⟨S4352x512, .f32⟩
  | 43 => ⟨S4352x512, .f32⟩
  | 44 => ⟨S4352x512, .f32⟩
  | 45 => ⟨S_, .f32⟩
  | 46 => ⟨S4352, .f32⟩
  | 47 => ⟨S4352x1, .f32⟩
  | 48 => ⟨S4352x512, .f32⟩
  | 49 => ⟨S4352x512, .f32⟩
  | 50 => ⟨S4352x1, .f32⟩
  | 51 => ⟨S4352x512, .f32⟩
  | 52 => ⟨S_, .f32⟩
  | 53 => ⟨S4352, .f32⟩
  | 54 => ⟨S4352x1, .f32⟩
  | 55 => ⟨S_, .f32⟩
  | 56 => ⟨S4352x1, .f32⟩
  | 57 => ⟨S4352x1, .f32⟩
  | 58 => ⟨S_, .f32⟩
  | 59 => ⟨S4352, .f32⟩
  | 60 => ⟨S4352x512, .f32⟩
  | 61 => ⟨S4352x512, .f32⟩
  | 62 => ⟨S4352x512, .f32⟩
  | 63 => ⟨S_, .f32⟩
  | 64 => ⟨S4352, .f32⟩
  | 65 => ⟨S4352x1, .f32⟩
  | 66 => ⟨S4352x512, .f32⟩
  | 67 => ⟨S4352x1, .f32⟩
  | 68 => ⟨S_, .f32⟩
  | 69 => ⟨S4352x1, .f32⟩
  | 70 => ⟨S4352x1, .f32⟩
  | 71 => ⟨S_, .f32⟩
  | 72 => ⟨S4352, .f32⟩
  | 73 => ⟨S4352x512, .f32⟩
  | 74 => ⟨S4352x512, .f32⟩
  | 75 => ⟨S4352x512, .f32⟩
  | 76 => ⟨S4352x512, .f32⟩
  | 77 => ⟨S_, .f32⟩
  | 78 => ⟨S4352x512, .f32⟩
  | 79 => ⟨S4352x512, .f32⟩
  | 80 => ⟨S4352x512, .f32⟩
  | 81 => ⟨S_, .f32⟩
  | 82 => ⟨S4352x512, .f32⟩
  | 83 => ⟨S4352x512, .f32⟩
  | 84 => ⟨S4352x512, .f32⟩
  | 85 => ⟨S_, .f32⟩
  | 86 => ⟨S4352x512, .f32⟩
  | 87 => ⟨S4352x512, .f32⟩
  | 88 => ⟨S4352x512, .f32⟩
  | 89 => ⟨S4352x512, .f32⟩
  | 90 => ⟨S4352x512, .f32⟩
  | 91 => ⟨S4352x512, .f32⟩
  | 92 => ⟨S_, .f32⟩
  | 93 => ⟨S4352x512, .f32⟩
  | 94 => ⟨S4352x512, .f32⟩
  | 95 => ⟨S4352x512, .f32⟩
  | 96 => ⟨S_, .f32⟩
  | 97 => ⟨S4352x512, .f32⟩
  | 98 => ⟨S4352x512, .f32⟩
  | 99 => ⟨S4352x512, .f32⟩
  | 100 => ⟨S_, .f32⟩
  | 101 => ⟨S4352x512, .f32⟩
  | 102 => ⟨S4352x512, .f32⟩
  | 103 => ⟨S4352x512, .f32⟩
  | 104 => ⟨S4352x512, .f32⟩
  | 105 => ⟨S4352x512, .f32⟩
  | 106 => ⟨S4352x512, .f32⟩
  | 107 => ⟨S4352x512, .f32⟩
  | 108 => ⟨S4352x512, .f32⟩
  | 109 => ⟨S4352x512, .f32⟩
  | 110 => ⟨S4352x512, .f32⟩
  | 111 => ⟨S4352x512, .f32⟩
  | 112 => ⟨S_, .f32⟩
  | 113 => ⟨S512, .f32⟩
  | 114 => ⟨S1x512, .f32⟩
  | 115 => ⟨S4352x512, .f32⟩
  | 116 => ⟨S4352x512, .f32⟩
  | 117 => ⟨S4352x4x128, .f32⟩
  | 118 => ⟨S4352x4x128, .f32⟩
  | 119 => ⟨S_, .f32⟩
  | 120 => ⟨S4352x4, .f32⟩
  | 121 => ⟨S4352x4x1, .f32⟩
  | 122 => ⟨S4352x4x128, .f32⟩
  | 123 => ⟨S4352x4x128, .f32⟩
  | 124 => ⟨S4352x4x1, .f32⟩
  | 125 => ⟨S_, .f32⟩
  | 126 => ⟨S4352x4x1, .f32⟩
  | 127 => ⟨S4352x4x1, .f32⟩
  | _ => ⟨S4352x512, .f32⟩

abbrev hbmTy0_2 (i : Nat) : BufTy := match i % 128 with
  | 0 => ⟨S_, .f32⟩
  | 1 => ⟨S4352x4, .f32⟩
  | 2 => ⟨S4352x4x128, .f32⟩
  | 3 => ⟨S4352x4x128, .f32⟩
  | 4 => ⟨S4352x4x128, .f32⟩
  | 5 => ⟨S4352x4x128, .f32⟩
  | 6 => ⟨S4352x4x128, .f32⟩
  | 7 => ⟨S4352x512, .f32⟩
  | 8 => ⟨S4352x512, .bf16⟩
  | 9 => ⟨S4352x512, .bf16⟩
  | 10 => ⟨S4352x512, .bf16⟩
  | 11 => ⟨S512x128, .f32⟩
  | 12 => ⟨S128x4, .f32⟩
  | _ => ⟨S4352x512, .f32⟩

abbrev hbmTy (i : Nat) : BufTy := match i / 128 with
  | 0 => hbmTy0_0 i
  | 1 => hbmTy0_1 i
  | 2 => hbmTy0_2 i
  | _ => ⟨S4352x512, .f32⟩

abbrev bufTy : (tb : Table) → Fin (tcTables nBuf tb) → BufTy
  | .hbm, ⟨i, _⟩ => hbmTy i
  | _, _ => ⟨S4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v22_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v22_1 : Ref sig .tc := ⟨.hbm, 44, rfl⟩
abbrev main_v22_0 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_3 : Ref sig .tc := ⟨.hbm, 50, rfl⟩
abbrev main_v27 : Ref sig .tc := ⟨.hbm, 51, rfl⟩
abbrev main_v28 : Ref sig .tc := ⟨.hbm, 52, rfl⟩
abbrev main_cst_4 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_5 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_6 : Ref sig .tc := ⟨.hbm, 61, rfl⟩
abbrev main_v35 : Ref sig .tc := ⟨.hbm, 62, rfl⟩
abbrev main_v36 : Ref sig .tc := ⟨.hbm, 63, rfl⟩
abbrev main_cst_7 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_cst_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_10 : Ref sig .tc := ⟨.hbm, 78, rfl⟩
abbrev main_v48 : Ref sig .tc := ⟨.hbm, 79, rfl⟩
abbrev main_v49 : Ref sig .tc := ⟨.hbm, 80, rfl⟩
abbrev main_cst_11 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_12 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_13 : Ref sig .tc := ⟨.hbm, 89, rfl⟩
abbrev main_v56 : Ref sig .tc := ⟨.hbm, 90, rfl⟩
abbrev main_v57 : Ref sig .tc := ⟨.hbm, 91, rfl⟩
abbrev main_cst_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_15 : Ref sig .tc := ⟨.hbm, 96, rfl⟩
abbrev main_v61 : Ref sig .tc := ⟨.hbm, 97, rfl⟩
abbrev main_v62 : Ref sig .tc := ⟨.hbm, 98, rfl⟩
abbrev main_cst_16 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_17 : Ref sig .tc := ⟨.hbm, 103, rfl⟩
abbrev main_v66 : Ref sig .tc := ⟨.hbm, 104, rfl⟩
abbrev main_v67 : Ref sig .tc := ⟨.hbm, 105, rfl⟩
abbrev main_cst_18 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_cst_19 : Ref sig .tc := ⟨.hbm, 112, rfl⟩
abbrev main_v73 : Ref sig .tc := ⟨.hbm, 113, rfl⟩
abbrev main_v74 : Ref sig .tc := ⟨.hbm, 114, rfl⟩
abbrev main_cst_20 : Ref sig .tc := ⟨.hbm, 115, rfl⟩
abbrev main_v75 : Ref sig .tc := ⟨.hbm, 116, rfl⟩
abbrev main_v76 : Ref sig .tc := ⟨.hbm, 117, rfl⟩
abbrev main_cst_21 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_22 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_cst_23 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_cst_24 : Ref sig .tc := ⟨.hbm, 152, rfl⟩
abbrev main_v108 : Ref sig .tc := ⟨.hbm, 153, rfl⟩
abbrev main_v109 : Ref sig .tc := ⟨.hbm, 154, rfl⟩
abbrev main_cst_25 : Ref sig .tc := ⟨.hbm, 155, rfl⟩
abbrev main_v110 : Ref sig .tc := ⟨.hbm, 156, rfl⟩
abbrev main_v111 : Ref sig .tc := ⟨.hbm, 157, rfl⟩
abbrev main_cst_26 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_cst_27 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_cst_28 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_29 : Ref sig .tc := ⟨.hbm, 180, rfl⟩
abbrev main_v131 : Ref sig .tc := ⟨.hbm, 181, rfl⟩
abbrev main_v132 : Ref sig .tc := ⟨.hbm, 182, rfl⟩
abbrev main_cst_30 : Ref sig .tc := ⟨.hbm, 183, rfl⟩
abbrev main_v133 : Ref sig .tc := ⟨.hbm, 184, rfl⟩
abbrev main_v134 : Ref sig .tc := ⟨.hbm, 185, rfl⟩
abbrev main_cst_31 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_cst_32 : Ref sig .tc := ⟨.hbm, 191, rfl⟩
abbrev main_v139 : Ref sig .tc := ⟨.hbm, 192, rfl⟩
abbrev main_v140 : Ref sig .tc := ⟨.hbm, 193, rfl⟩
abbrev main_v141 : Ref sig .tc := ⟨.hbm, 194, rfl⟩
abbrev main_v142 : Ref sig .tc := ⟨.hbm, 195, rfl⟩
abbrev main_cst_33 : Ref sig .tc := ⟨.hbm, 196, rfl⟩
abbrev main_v143 : Ref sig .tc := ⟨.hbm, 197, rfl⟩
abbrev main_v144 : Ref sig .tc := ⟨.hbm, 198, rfl⟩
abbrev main_cst_34 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_35 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_36 : Ref sig .tc := ⟨.hbm, 209, rfl⟩
abbrev main_v153 : Ref sig .tc := ⟨.hbm, 210, rfl⟩
abbrev main_v154 : Ref sig .tc := ⟨.hbm, 211, rfl⟩
abbrev main_v155 : Ref sig .tc := ⟨.hbm, 212, rfl⟩
abbrev main_cst_37 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_cst_38 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_cst_39 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_cst_40 : Ref sig .tc := ⟨.hbm, 228, rfl⟩
abbrev main_v168 : Ref sig .tc := ⟨.hbm, 229, rfl⟩
abbrev main_v169 : Ref sig .tc := ⟨.hbm, 230, rfl⟩
abbrev main_v170 : Ref sig .tc := ⟨.hbm, 231, rfl⟩
abbrev main_v171 : Ref sig .tc := ⟨.hbm, 232, rfl⟩
abbrev main_v172 : Ref sig .tc := ⟨.hbm, 233, rfl⟩
abbrev main_v173 : Ref sig .tc := ⟨.hbm, 234, rfl⟩
abbrev main_call1_v0 : Ref sig .tc := ⟨.hbm, 235, rfl⟩
abbrev main_call1_v1 : Ref sig .tc := ⟨.hbm, 236, rfl⟩
abbrev main_call1_v2 : Ref sig .tc := ⟨.hbm, 237, rfl⟩
abbrev main_v174 : Ref sig .tc := ⟨.hbm, 238, rfl⟩
abbrev main_v175 : Ref sig .tc := ⟨.hbm, 239, rfl⟩
abbrev main_cst_41 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_v181 : Ref sig .tc := ⟨.hbm, 246, rfl⟩
abbrev main_cst_42 : Ref sig .tc := ⟨.hbm, 247, rfl⟩
abbrev main_v182 : Ref sig .tc := ⟨.hbm, 248, rfl⟩
abbrev main_v183 : Ref sig .tc := ⟨.hbm, 249, rfl⟩
abbrev main_v184 : Ref sig .tc := ⟨.hbm, 250, rfl⟩
abbrev main_v185 : Ref sig .tc := ⟨.hbm, 251, rfl⟩
abbrev main_v186 : Ref sig .tc := ⟨.hbm, 252, rfl⟩
abbrev main_cst_43 : Ref sig .tc := ⟨.hbm, 253, rfl⟩
abbrev main_v187 : Ref sig .tc := ⟨.hbm, 254, rfl⟩
abbrev main_v188 : Ref sig .tc := ⟨.hbm, 255, rfl⟩
abbrev main_cst_44 : Ref sig .tc := ⟨.hbm, 256, rfl⟩
abbrev main_v189 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_v198 : Ref sig .tc := ⟨.hbm, 266, rfl⟩
abbrev main_v199 : Ref sig .tc := ⟨.hbm, 267, rfl⟩
abbrev main_v200 : Ref sig .tc := ⟨.hbm, 268, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S2x4096x2816 : Shape := ⟨3, ![2, 4096, 2816]⟩
abbrev S4096x5632 : Shape := ⟨2, ![4096, 5632]⟩
abbrev S256x1024 : Shape := ⟨2, ![256, 1024]⟩
abbrev S2x256x2816 : Shape := ⟨3, ![2, 256, 2816]⟩
abbrev S256x5632 : Shape := ⟨2, ![256, 5632]⟩
abbrev S256x2816 : Shape := ⟨2, ![256, 2816]⟩
abbrev S1x256x2816 : Shape := ⟨3, ![1, 256, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S2x256x2816, .bf16⟩
  | .local _ .vmem, ⟨4, _⟩ => ⟨S2x256x2816, .bf16⟩
  | .local _ .vmem, ⟨5, _⟩ => ⟨S256x5632, .bf16⟩
  | .local _ .vmem, ⟨6, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S2816x1024 : Shape := ⟨2, ![2816, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S4096x5632 : Shape := ⟨2, ![4096, 5632]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S2x4096x2816, .bf16⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S2816x1024, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x1024, .f32⟩
  | .hbm, ⟨25, _⟩ => ⟨S4096x1024, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x5632, .f32⟩
  | .hbm, ⟨34, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Kernel3.lean ====
abbrev S4096x1024 : Shape := ⟨2, ![4096, 1024]⟩
abbrev S4096x5632 : Shape := ⟨2, ![4096, 5632]⟩
abbrev S1024x5632 : Shape := ⟨2, ![1024, 5632]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .bf16⟩
  | .local _ .vmem, ⟨0, _⟩ => ⟨S4096x1024, .bf16⟩
  | .local _ .vmem, ⟨1, _⟩ => ⟨S4096x512, .bf16⟩
  | .local _ .vmem, ⟨2, _⟩ => ⟨S4096x512, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4352x1024 : Shape := ⟨2, ![4352, 1024]⟩
abbrev S4352x5376 : Shape := ⟨2, ![4352, 5376]⟩
abbrev S1024x5376 : Shape := ⟨2, ![1024, 5376]⟩
abbrev S4352x768 : Shape := ⟨2, ![4352, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x5376, .bf16⟩
  | .hbm, ⟨2, _⟩ => ⟨S1024x5376, .f32⟩
  | .local _ .vmem, ⟨0, _⟩ => ⟨S4352x1024, .bf16⟩
  | .local _ .vmem, ⟨1, _⟩ => ⟨S4352x768, .bf16⟩
  | .local _ .vmem, ⟨2, _⟩ => ⟨S4352x768, .bf16⟩
  | .local _ .vmem, ⟨3, _⟩ => ⟨S1024x768, .f32⟩
  | .local _ .vmem, ⟨4, _⟩ => ⟨S1024x768, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 7, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4352x1024 : Shape := ⟨2, ![4352, 1024]⟩
abbrev S4352x5376 : Shape := ⟨2, ![4352, 5376]⟩
abbrev S_ : Shape := ⟨0, ![]⟩
abbrev S1024x5376 : Shape := ⟨2, ![1024, 5376]⟩
abbrev S5376x1024 : Shape := ⟨2, ![5376, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5376, .bf16⟩
  | .hbm, ⟨2, _⟩ => ⟨S_, .f32⟩
  | .hbm, ⟨3, _⟩ => ⟨S1024x5376, .f32⟩
  | .hbm, ⟨4, _⟩ => ⟨S4352x1024, .f32⟩
  | .hbm, ⟨5, _⟩ => ⟨S4352x5376, .f32⟩
  | .hbm, ⟨6, _⟩ => ⟨S4352x5376, .f32⟩
  | .hbm, ⟨7, _⟩ => ⟨S5376x1024, .f32⟩
  | .hbm, ⟨8, _⟩ => ⟨S1024x5376, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4352x1024 : Shape := ⟨2, ![4352, 1024]⟩
abbrev S4352x5632 : Shape := ⟨2, ![4352, 5632]⟩
abbrev S1024x5632 : Shape := ⟨2, ![1024, 5632]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S1024x5632, .bf16⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .bf16⟩
  | .local _ .vmem, ⟨4, _⟩ => ⟨S1024x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4352x1024 : Shape := ⟨2, ![4352, 1024]⟩
abbrev S4352x5632 : Shape := ⟨2, ![4352, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x5632, .bf16⟩
  | .hbm, ⟨2, _⟩ => ⟨S_, .f32⟩
  | .hbm, ⟨3, _⟩ => ⟨S1024x5632, .f32⟩
  | .hbm, ⟨4, _⟩ => ⟨S4352x1024, .f32⟩
  | .hbm, ⟨5, _⟩ => ⟨S4352x5632, .f32⟩
  | .hbm, ⟨6, _⟩ => ⟨S4352x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel6.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4352x2816 : Shape := ⟨2, ![4352, 2816]⟩
abbrev S4352x1024 : Shape := ⟨2, ![4352, 1024]⟩
abbrev S2816x1024 : Shape := ⟨2, ![2816, 1024]⟩
abbrev S4352x1408 : Shape := ⟨2, ![4352, 1408]⟩
abbrev S4352x512 : Shape := ⟨2, ![4352, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S2816x1024, .bf16⟩
  | .local _ .vmem, ⟨0, _⟩ => ⟨S4352x1408, .bf16⟩
  | .local _ .vmem, ⟨1, _⟩ => ⟨S4352x1408, .bf16⟩
  | .local _ .vmem, ⟨2, _⟩ => ⟨S4352x512, .bf16⟩
  | .local _ .vmem, ⟨3, _⟩ => ⟨S4352x512, .bf16⟩
  | .local _ .vmem, ⟨4, _⟩ => ⟨S1408x512, .bf16⟩
  | .local _ .vmem, ⟨5, _⟩ => ⟨S1408x512, .bf16⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4352x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4352x2816 : Shape := ⟨2, ![4352, 2816]⟩
abbrev S4352x1024 : Shape := ⟨2, ![4352, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S4352x1024, .bf16⟩
  | .hbm, ⟨2, _⟩ => ⟨S_, .f32⟩
  | .hbm, ⟨3, _⟩ => ⟨S2816x1024, .f32⟩
  | .hbm, ⟨4, _⟩ => ⟨S4352x2816, .f32⟩
  | .hbm, ⟨5, _⟩ => ⟨S4352x1024, .f32⟩
  | .hbm, ⟨6, _⟩ => ⟨S4352x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S2048x1024 : Shape := ⟨2, ![2048, 1024]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S2048x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x1024 : Shape := ⟨2, ![4096, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x1024, .bf16⟩
  | .hbm, ⟨2, _⟩ => ⟨S_, .f32⟩
  | .hbm, ⟨3, _⟩ => ⟨S2048x1024, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S1024x2048, .f32⟩
  | .hbm, ⟨8, _⟩ => ⟨S2048x1024, .f32⟩
  | .hbm, ⟨9, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4352x1024 : Shape := ⟨2, ![4352, 1024]⟩
abbrev S4352x2816 : Shape := ⟨2, ![4352, 2816]⟩
abbrev S1024x2816 : Shape := ⟨2, ![1024, 2816]⟩
abbrev S4352x256 : Shape := ⟨2, ![4352, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S1024x2816, .f32⟩
  | .local _ .vmem, ⟨0, _⟩ => ⟨S4352x1024, .bf16⟩
  | .local _ .vmem, ⟨1, _⟩ => ⟨S4352x256, .bf16⟩
  | .local _ .vmem, ⟨2, _⟩ => ⟨S4352x256, .bf16⟩
  | .local _ .vmem, ⟨3, _⟩ => ⟨S1024x256, .f32⟩
  | .local _ .vmem, ⟨4, _⟩ => ⟨S1024x256, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4352x1024 : Shape := ⟨2, ![4352, 1024]⟩
abbrev S4352x2816 : Shape := ⟨2, ![4352, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x2816, .bf16⟩
  | .hbm, ⟨2, _⟩ => ⟨S_, .f32⟩
  | .hbm, ⟨3, _⟩ => ⟨S1024x2816, .f32⟩
  | .hbm, ⟨4, _⟩ => ⟨S4352x1024, .f32⟩
  | .hbm, ⟨5, _⟩ => ⟨S4352x2816, .f32⟩
  | .hbm, ⟨6, _⟩ => ⟨S4352x2816, .f32⟩
  | .hbm, ⟨7, _⟩ => ⟨S2816x1024, .f32⟩
  | .hbm, ⟨8, _⟩ => ⟨S1024x2816, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel10.lean ====
abbrev S4352x1024 : Shape := ⟨2, ![4352, 1024]⟩
abbrev S1024x1024 : Shape := ⟨2, ![1024, 1024]⟩
abbrev S4352x512 : Shape := ⟨2, ![4352, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S1024x1024, .bf16⟩
  | .local _ .vmem, ⟨0, _⟩ => ⟨S4352x1024, .bf16⟩
  | .local _ .vmem, ⟨1, _⟩ => ⟨S4352x512, .bf16⟩
  | .local _ .vmem, ⟨2, _⟩ => ⟨S4352x512, .bf16⟩
  | .local _ .vmem, ⟨3, _⟩ => ⟨S1024x512, .bf16⟩
  | .local _ .vmem, ⟨4, _⟩ => ⟨S1024x512, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S4352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4352x1024 : Shape := ⟨2, ![4352, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x1024, .bf16⟩
  | .hbm, ⟨2, _⟩ => ⟨S_, .f32⟩
  | .hbm, ⟨3, _⟩ => ⟨S1024x1024, .f32⟩
  | .hbm, ⟨4, _⟩ => ⟨S4352x1024, .f32⟩
  | .hbm, ⟨5, _⟩ => ⟨S4352x1024, .f32⟩
  | .hbm, ⟨6, _⟩ => ⟨S4352x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .bf16⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .bf16⟩
  | .local _ .vmem, ⟨4, _⟩ => ⟨S1088x1024, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4352x1024 : Shape := ⟨2, ![4352, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S_, .f32⟩
  | .hbm, ⟨3, _⟩ => ⟨S4352x1024, .f32⟩
  | .hbm, ⟨4, _⟩ => ⟨S1024x1024, .f32⟩
  | .hbm, ⟨5, _⟩ => ⟨S4352x1024, .f32⟩
  | .hbm, ⟨6, _⟩ => ⟨S4352x1024, .f32⟩
  | .hbm, ⟨7, _⟩ => ⟨S4352x1024, .f32⟩
  | .hbm, ⟨8, _⟩ => ⟨S4352x1024, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4352x1024 : Shape := ⟨2, ![4352, 1024]⟩
abbrev S2816x1024 : Shape := ⟨2, ![2816, 1024]⟩
abbrev S2x4352x2816 : Shape := ⟨3, ![2, 4352, 2816]⟩
abbrev S4352x5632 : Shape := ⟨2, ![4352, 5632]⟩
abbrev S272x1024 : Shape := ⟨2, ![272, 1024]⟩
abbrev S2x272x2816 : Shape := ⟨3, ![2, 272, 2816]⟩
abbrev S272x5632 : Shape := ⟨2, ![272, 5632]⟩
abbrev S272x2816 : Shape := ⟨2, ![272, 2816]⟩
abbrev S1x272x2816 : Shape := ⟨3, ![1, 272, 2816]⟩

abbrev nBuf : Space → Nat
  | .hbm => 4
  | .vmem => 7
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S2x4352x2816, .bf16⟩
  | .hbm, ⟨3, _⟩ => ⟨S4352x5632, .bf16⟩
  | .local _ .vmem, ⟨0, _⟩ => ⟨S272x1024, .bf16⟩
  | .local _ .vmem, ⟨1, _⟩ => ⟨S272x1024, .bf16⟩
  | .local _ .vmem, ⟨2, _⟩ => ⟨S2816x1024, .bf16⟩
  | .local _ .vmem, ⟨3, _⟩ => ⟨S2x272x2816, .bf16⟩
  | .local _ .vmem, ⟨4, _⟩ => ⟨S2x272x2816, .bf16⟩
  | .local _ .vmem, ⟨5, _⟩ => ⟨S272x5632, .bf16⟩
  | .local _ .vmem, ⟨6, _⟩ => ⟨S272x5632, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x272x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4352x1024 : Shape := ⟨2, ![4352, 1024]⟩
abbrev S2816x1024 : Shape := ⟨2, ![2816, 1024]⟩
abbrev S2x4352x2816 : Shape := ⟨3, ![2, 4352, 2816]⟩
abbrev S1x4352x2816 : Shape := ⟨3, ![1, 4352, 2816]⟩
abbrev S4352x2816 : Shape := ⟨2, ![4352, 2816]⟩
abbrev S_ : Shape := ⟨0, ![]⟩
abbrev S4352x5632 : Shape := ⟨2, ![4352, 5632]⟩

abbrev nBuf : Space → Nat
  | .hbm => 35
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S2816x1024, .bf16⟩
  | .hbm, ⟨2, _⟩ => ⟨S2x4352x2816, .bf16⟩
  | .hbm, ⟨3, _⟩ => ⟨S1x4352x2816, .bf16⟩
  | .hbm, ⟨4, _⟩ => ⟨S4352x2816, .bf16⟩
  | .hbm, ⟨5, _⟩ => ⟨S4352x2816, .f32⟩
  | .hbm, ⟨6, _⟩ => ⟨S1x4352x2816, .bf16⟩
  | .hbm, ⟨7, _⟩ => ⟨S4352x2816, .bf16⟩
  | .hbm, ⟨8, _⟩ => ⟨S4352x2816, .f32⟩
  | .hbm, ⟨9, _⟩ => ⟨S2816x1024, .f32⟩
  | .hbm, ⟨10, _⟩ => ⟨S4352x2816, .f32⟩
  | .hbm, ⟨11, _⟩ => ⟨S4352x2816, .f32⟩
  | .hbm, ⟨12, _⟩ => ⟨S_, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S_, .f32⟩
  | .hbm, ⟨19, _⟩ => ⟨S4352x2816, .f32⟩
  | .hbm, ⟨20, _⟩ => ⟨S4352x2816, .f32⟩
  | .hbm, ⟨21, _⟩ => ⟨S4352x2816, .f32⟩
  | .hbm, ⟨22, _⟩ => ⟨S4352x2816, .f32⟩
  | .hbm, ⟨23, _⟩ => ⟨S4352x2816, .f32⟩
  | .hbm, ⟨24, _⟩ => ⟨S4352x1024, .f32⟩
  | .hbm, ⟨25, _⟩ => ⟨S4352x1024, .f32⟩
  | .hbm, ⟨26, _⟩ => ⟨S4352x2816, .f32⟩
  | .hbm, ⟨27, _⟩ => ⟨S4352x2816, .f32⟩
  | .hbm, ⟨28, _⟩ => ⟨S4352x2816, .f32⟩
  | .hbm, ⟨29, _⟩ => ⟨S4352x2816, .f32⟩
  | .hbm, ⟨30, _⟩ => ⟨S4352x2816, .f32⟩
  | .hbm, ⟨31, _⟩ => ⟨S4352x2816, .f32⟩
  | .hbm, ⟨32, _⟩ => ⟨S4352x2816, .f32⟩
  | .hbm, ⟨33, _⟩ => ⟨S4352x5632, .f32⟩
  | .hbm, ⟨34, _⟩ => ⟨S4352x5632, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩

abbrev nD : Nat := 1
abbrev τ : Topo := Topo.v7x

variable {F : FTy → Type} [FloatOps F]
-- ==== Kernel13.lean ====
abbrev S4096x1024 : Shape := ⟨2, ![4096, 1024]⟩
abbrev S1x1024 : Shape := ⟨2, ![1, 1024]⟩
abbrev S16x1024 : Shape := ⟨2, ![16, 1024]⟩
abbrev S4096x5632 : Shape := ⟨2, ![4096, 5632]⟩
abbrev S1024x5632 : Shape := ⟨2, ![1024, 5632]⟩
abbrev S256x1024 : Shape := ⟨2, ![256, 1024]⟩
abbrev S256x5632 : Shape := ⟨2, ![256, 5632]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S3x1024 : Shape := ⟨2, ![3, 1024]⟩
abbrev S4x1024 : Shape := ⟨2, ![4, 1024]⟩
abbrev S5x1024 : Shape := ⟨2, ![5, 1024]⟩
abbrev S2x1024 : Shape := ⟨2, ![2, 1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S16x1024, .f32⟩
  | .hbm, ⟨4, _⟩ => ⟨S16x1024, .f32⟩
  | .hbm, ⟨5, _⟩ => ⟨S4096x1024, .f32⟩
  | .hbm, ⟨6, _⟩ => ⟨S4096x5632, .bf16⟩
  | .hbm, ⟨7, _⟩ => ⟨S1024x5632, .bf16⟩
  | .hbm, ⟨8, _⟩ => ⟨S4096x1024, .f32⟩
  | .hbm, ⟨9, _⟩ => ⟨S4096x1024, .bf16⟩
  | .hbm, ⟨10, _⟩ => ⟨S1x1024, .f32⟩
  | .hbm, ⟨11, _⟩ => ⟨S16x1024, .f32⟩
  | .hbm, ⟨12, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S16x1024, .f32⟩
  | .local _ .vmem, ⟨6, _⟩ => ⟨S16x1024, .f32⟩
  | .local _ .vmem, ⟨7, _⟩ => ⟨S256x1024, .f32⟩
  | .local _ .vmem, ⟨8, _⟩ => ⟨S256x1024, .f32⟩
  | .local _ .vmem, ⟨9, _⟩ => ⟨S256x5632, .bf16⟩
  | .local _ .vmem, ⟨10, _⟩ => ⟨S256x5632, .bf16⟩
  | .local _ .vmem, ⟨11, _⟩ => ⟨S1024x5632, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S1x1024, .f32⟩
  | .local _ .vmem, ⟨17, _⟩ => ⟨S16x1024, .f32⟩
  | .local _ .vmem, ⟨18, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c16_i32_36 : BitVec 32 := 16#32
  let v117 : BitVec 1 := Scalar.cmpi .slt arg0 c16_i32_36
  let v118 : BitVec 32 := Scalar.extui v117
  let c0_i32 : BitVec 32 := 0#32
  let v119 : BitVec 1 := Scalar.cmpi .ne v118 c0_i32
  v119

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference13Ideal.lean ====
abbrev S4096x1024 : Shape := ⟨2, ![4096, 1024]⟩
abbrev S1x1024 : Shape := ⟨2, ![1, 1024]⟩
abbrev S16x1024 : Shape := ⟨2, ![16, 1024]⟩
abbrev S4096x5632 : Shape := ⟨2, ![4096, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S16x1024, .f32⟩
  | .hbm, ⟨4, _⟩ => ⟨S16x1024, .f32⟩
  | .hbm, ⟨5, _⟩ => ⟨S4096x1024, .f32⟩
  | .hbm, ⟨6, _⟩ => ⟨S4096x5632, .bf16⟩
  | .hbm, ⟨7, _⟩ => ⟨S1024x5632, .bf16⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1024x5632, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S1x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x5632, .f32⟩
  | .hbm, ⟨42, _⟩ => ⟨S4096x5632, .f32⟩
  | .hbm, ⟨43, _⟩ => ⟨S4096x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S4096x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S_, .f32⟩
  | .hbm, ⟨82, _⟩ => ⟨S1024, .f32⟩
  | .hbm, ⟨83, _⟩ => ⟨S1x1024, .f32⟩
  | .hbm, ⟨84, _⟩ => ⟨S_, .f32⟩
  | .hbm, ⟨85, _⟩ => ⟨S16x1024, .f32⟩
  | .hbm, ⟨86, _⟩ => ⟨S_, .f32⟩
  | .hbm, ⟨87, _⟩ => ⟨S16x1024, .f32⟩
  | .hbm, ⟨88, _⟩ => ⟨S16x1024, .f32⟩
  | .hbm, ⟨89, _⟩ => ⟨S_, .f32⟩
  | .hbm, ⟨90, _⟩ => ⟨S16x1024, .f32⟩
  | .hbm, ⟨91, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_cst_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_10 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_v64 : Ref sig .tc := ⟨.hbm, 85, rfl⟩
abbrev main_cst_12 : Ref sig .tc := ⟨.hbm, 86, rfl⟩
abbrev main_v65 : Ref sig .tc := ⟨.hbm, 87, rfl⟩
abbrev main_v66 : Ref sig .tc := ⟨.hbm, 88, rfl⟩
abbrev main_cst_13 : Ref sig .tc := ⟨.hbm, 89, rfl⟩
abbrev main_v67 : Ref sig .tc := ⟨.hbm, 90, rfl⟩
abbrev main_v68 : Ref sig .tc := ⟨.hbm, 91, rfl⟩

abbrev nD : Nat := 1
abbrev τ : Topo := Topo.v7x

variable {F : FTy → Type} [FloatOps F]
-- ==== Kernel14.lean ====
abbrev S4352x1024 : Shape := ⟨2, ![4352, 1024]⟩
abbrev S1x1024 : Shape := ⟨2, ![1, 1024]⟩
abbrev S16x1024 : Shape := ⟨2, ![16, 1024]⟩
abbrev S4352x5376 : Shape := ⟨2, ![4352, 5376]⟩
abbrev S4096x1024 : Shape := ⟨2, ![4096, 1024]⟩
abbrev S1024x5376 : Shape := ⟨2, ![1024, 5376]⟩
abbrev S256x1024 : Shape := ⟨2, ![256, 1024]⟩
abbrev S256x5376 : Shape := ⟨2, ![256, 5376]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S7x1024 : Shape := ⟨2, ![7, 1024]⟩
abbrev S2x1024 : Shape := ⟨2, ![2, 1024]⟩
abbrev S6x1024 : Shape := ⟨2, ![6, 1024]⟩

abbrev nBuf : Space → Nat
  | .hbm => 9
  | .vmem => 13
  | .smem => 0
  | _ => 0

abbrev bufTy : (tb : Table) → Fin (tcTables nBuf tb) → BufTy
  | .hbm, ⟨0, _⟩ => ⟨S4352x1024, .f32⟩
  | .hbm, ⟨1, _⟩ => ⟨S1x1024, .f32⟩
  | .hbm, ⟨2, _⟩ => ⟨S16x1024, .f32⟩
  | .hbm, ⟨3, _⟩ => ⟨S4352x5376, .bf16⟩
  | .hbm, ⟨4, _⟩ => ⟨S4096x1024, .f32⟩
  | .hbm, ⟨5, _⟩ => ⟨S1024x5376, .bf16⟩
  | .hbm, ⟨6, _⟩ => ⟨S4352x1024, .f32⟩
  | .hbm, ⟨7, _⟩ => ⟨S1x1024, .f32⟩
  | .hbm, ⟨8, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S16x1024, .f32⟩
  | .local _ .vmem, ⟨4, _⟩ => ⟨S256x5376, .bf16⟩
  | .local _ .vmem, ⟨5, _⟩ => ⟨S256x5376, .bf16⟩
  | .local _ .vmem, ⟨6, _⟩ => ⟨S256x1024, .f32⟩
  | .local _ .vmem, ⟨7, _⟩ => ⟨S256x1024, .f32⟩
  | .local _ .vmem, ⟨8, _⟩ => ⟨S1024x5376, .bf16⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S16x1024, .f32⟩
  | _, _ => ⟨S4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c17_i32 : BitVec 32 := 17#32
  let v85 : BitVec 1 := Scalar.cmpi .slt arg0 c17_i32
  let v86 : BitVec 32 := Scalar.extui v85
  let c0_i32 : BitVec 32 := 0#32
  let v87 : BitVec 1 := Scalar.cmpi .ne v86 c0_i32
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x5376 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x5376 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference14Ideal.lean ====
abbrev S4352x1024 : Shape := ⟨2, ![4352, 1024]⟩
abbrev S1x1024 : Shape := ⟨2, ![1, 1024]⟩
abbrev S16x1024 : Shape := ⟨2, ![16, 1024]⟩
abbrev S4352x5376 : Shape := ⟨2, ![4352, 5376]⟩
abbrev S4096x1024 : Shape := ⟨2, ![4096, 1024]⟩
abbrev S1024x5376 : Shape := ⟨2, ![1024, 5376]⟩
abbrev S256x1024 : Shape := ⟨2, ![256, 1024]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4096x5376 : Shape := ⟨2, ![4096, 5376]⟩
abbrev S256x5376 : Shape := ⟨2, ![256, 5376]⟩
abbrev S1024 : Shape := ⟨1, ![1024]⟩

abbrev nBuf : Space → Nat
  | .hbm => 151
  | .vmem => 0
  | .smem => 0
  | _ => 0

abbrev hbmTy0_0 (i : Nat) : BufTy := match i % 128 with
  | 0 => ⟨S4352x1024, .f32⟩
  | 1 => ⟨S1x1024, .f32⟩
  | 2 => ⟨S16x1024, .f32⟩
  | 3 => ⟨S4352x5376, .bf16⟩
  | 4 => ⟨S4096x1024, .f32⟩
  | 5 => ⟨S1024x5376, .bf16⟩
  | 6 => ⟨S4096x1024, .f32⟩
  | 7 => ⟨S256x1024, .f32⟩
  | 8 => ⟨S1024x5376, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S4096x1024, .f32⟩
  | 27 => ⟨S4096x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S4096x1024, .f32⟩
  | 34 => ⟨S4096x1024, .f32⟩
  | 35 => ⟨S4096x1024, .f32⟩
  | 36 => ⟨S4096x1024, .f32⟩
  | 37 => ⟨S256x1024, .f32⟩
  | 38 => ⟨S_, .f32⟩
  | 39 => ⟨S256, .f32⟩
  | 40 => ⟨S256x1, .f32⟩
  | 41 => ⟨S_, .f32⟩
  | 42 => ⟨S256x1, .f32⟩
  | 43 => ⟨S256x1, .f32⟩
  | 44 => ⟨S_, .f32⟩
  | 45 => ⟨S256x1, .f32⟩
  | 46 => ⟨S256x1, .f32⟩
  | 47 => ⟨S256x1, .f32⟩
  | 48 => ⟨S256x1, .f32⟩
  | 49 => ⟨S_, .f32⟩
  | 50 => ⟨S256x1, .f32⟩
  | 51 => ⟨S256x1, .f32⟩
  | 52 => ⟨S256x1024, .f32⟩
  | 53 => ⟨S256x1024, .f32⟩
  | 54 => ⟨S256x1024, .f32⟩
  | 55 => ⟨S256x1024, .f32⟩
  | 56 => ⟨S1x1024, .f32⟩
  | 57 => ⟨S1x1024, .f32⟩
  | 58 => ⟨S_, .f32⟩
  | 59 => ⟨S1x1024, .f32⟩
  | 60 => ⟨S1x1024, .f32⟩
  | 61 => ⟨S256x1024, .f32⟩
  | 62 => ⟨S256x1024, .f32⟩
  | 63 => ⟨S256x1024, .f32⟩
  | 64 => ⟨S256x1024, .f32⟩
  | 65 => ⟨S4096x5376, .f32⟩
  | 66 => ⟨S256x5376, .f32⟩
  | 67 => ⟨S4096x5376, .bf16⟩
  | 68 => ⟨S4096x5376, .f32⟩
  | 69 => ⟨S256x5376, .bf16⟩
  | 70 => ⟨S256x5376, .f32⟩
  | 71 => ⟨S256x1024, .f32⟩
  | 72 => ⟨S4096x1024, .f32⟩
  | 73 => ⟨S_, .f32⟩
  | 74 => ⟨S1024, .f32⟩
  | 75 => ⟨S1x1024, .f32⟩
  | 76 => ⟨S256x1024, .f32⟩
  | 77 => ⟨S_, .f32⟩
  | 78 => ⟨S1024, .f32⟩
  | 79 => ⟨S1x1024, .f32⟩
  | 80 => ⟨S256x1024, .f32⟩
  | 81 => ⟨S256x1024, .f32⟩
  | 82 => ⟨S_, .f32⟩
  | 83 => ⟨S16x1024, .f32⟩
  | 84 => ⟨S_, .f32⟩
  | 85 => ⟨S16x1024, .f32⟩
  | 86 => ⟨S16x1024, .f32⟩
  | 87 => ⟨S256x1024, .f32⟩
  | 88 => ⟨S_, .f32⟩
  | 89 => ⟨S1024, .f32⟩
  | 90 => ⟨S1x1024, .f32⟩
  | 91 => ⟨S256x1024, .f32⟩
  | 92 => ⟨S256x1024, .f32⟩
  | 93 => ⟨S256x1024, .f32⟩
  | 94 => ⟨S_, .f32⟩
  | 95 => ⟨S256, .f32⟩
  | 96 => ⟨S256x1, .f32⟩
  | 97 => ⟨S256x1024, .f32⟩
  | 98 => ⟨S256x1024, .f32⟩
  | 99 => ⟨S256x1, .f32⟩
  | 100 => ⟨S_, .f32⟩
  | 101 => ⟨S256x1, .f32⟩
  | 102 => ⟨S256x1, .f32⟩
  | 103 => ⟨S_, .f32⟩
  | 104 => ⟨S256, .f32⟩
  | 105 => ⟨S256x1024, .f32⟩
  | 106 => ⟨S256x1024, .f32⟩
  | 107 => ⟨S256x1024, .f32⟩
  | 108 => ⟨S256x1024, .f32⟩
  | 109 => ⟨S256x1024, .f32⟩
  | 110 => ⟨S_, .f32⟩
  | 111 => ⟨S1024, .f32⟩
  | 112 => ⟨S1x1024, .f32⟩
  | 113 => ⟨S4096x1024, .f32⟩
  | 114 => ⟨S_, .f32⟩
  | 115 => ⟨S1024, .f32⟩
  | 116 => ⟨S1x1024, .f32⟩
  | 117 => ⟨S4096x1024, .f32⟩
  | 118 => ⟨S4096x1024, .f32⟩
  | 119 => ⟨S_, .f32⟩
  | 120 => ⟨S16x1024, .f32⟩
  | 121 => ⟨S16x1024, .f32⟩
  | 122 => ⟨S_, .f32⟩
  | 123 => ⟨S16x1024, .f32⟩
  | 124 => ⟨S16x1024, .f32⟩
  | 125 => ⟨S4096x1024, .f32⟩
  | 126 => ⟨S_, .f32⟩
  | 127 => ⟨S1024, .f32⟩
  | _ => ⟨S4352x1024, .f32⟩

abbrev hbmTy0_1 (i : Nat) : BufTy := match i % 128 with
  | 0 => ⟨S1x1024, .f32⟩
  | 1 => ⟨S1x1024, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S4096x1024, .f32⟩
  | 9 => ⟨S4096x1024, .f32⟩
  | 10 => ⟨S4096x1024, .f32⟩
  | 11 => ⟨S4096x1, .f32⟩
  | 12 => ⟨S_, .f32⟩
  | 13 => ⟨S4096x1, .f32⟩
  | 14 => ⟨S4096x1, .f32⟩
  | 15 => ⟨S_, .f32⟩
  | 16 => ⟨S4096, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4352x1024, .f32⟩
  | _ => ⟨S4352x1024, .f32⟩

abbrev hbmTy (i : Nat) : BufTy := match i / 128 with
  | 0 => hbmTy0_0 i
  | 1 => hbmTy0_1 i
  | _ => ⟨S4352x1024, .f32⟩

abbrev bufTy : (tb : Table) → Fin (tcTables nBuf tb) → BufTy
  | .hbm, ⟨i, _⟩ => hbmTy i
  | _, _ => ⟨S4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_11 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst_13 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_14 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_18 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_19 : Ref sig .tc := ⟨.hbm, 119, rfl⟩
abbrev main_v93 : Ref sig .tc := ⟨.hbm, 120, rfl⟩
abbrev main_v94 : Ref sig .tc := ⟨.hbm, 121, rfl⟩
abbrev main_cst_20 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_21 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_cst_22 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_23 : Ref sig .tc := ⟨.hbm, 140, rfl⟩
abbrev main_v110 : Ref sig .tc := ⟨.hbm, 141, rfl⟩
abbrev main_v111 : Ref sig .tc := ⟨.hbm, 142, rfl⟩
abbrev main_cst_24 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩

abbrev nD : Nat := 1
abbrev τ : Topo := Topo.v7x

variable {F : FTy → Type} [FloatOps F]
-- ==== Kernel15.lean ====
abbrev S4096x1024 : Shape := ⟨2, ![4096, 1024]⟩
abbrev S256x1024 : Shape := ⟨2, ![256, 1024]⟩
abbrev S4352x1024 : Shape := ⟨2, ![4352, 1024]⟩
abbrev S1x1024 : Shape := ⟨2, ![1, 1024]⟩
abbrev S16x1024 : Shape := ⟨2, ![16, 1024]⟩
abbrev S4352x5632 : Shape := ⟨2, ![4352, 5632]⟩
abbrev S1024x5632 : Shape := ⟨2, ![1024, 5632]⟩
abbrev S256x5632 : Shape := ⟨2, ![256, 5632]⟩
abbrev S8x1024 : Shape := ⟨2, ![8, 1024]⟩
abbrev S256 : Shape := ⟨1, ![256]⟩
abbrev S256x1 : Shape := ⟨2, ![256, 1]⟩
abbrev S1024 : Shape := ⟨1, ![1024]⟩
abbrev S3x1024 : Shape := ⟨2, ![3, 1024]⟩
abbrev S4x1024 : Shape := ⟨2, ![4, 1024]⟩
abbrev S5x1024 : Shape := ⟨2, ![5, 1024]⟩
abbrev S2x1024 : Shape := ⟨2, ![2, 1024]⟩

abbrev nBuf : Space → Nat
  | .hbm => 14
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S4352x1024, .f32⟩
  | .hbm, ⟨3, _⟩ => ⟨S1x1024, .f32⟩
  | .hbm, ⟨4, _⟩ => ⟨S16x1024, .f32⟩
  | .hbm, ⟨5, _⟩ => ⟨S16x1024, .f32⟩
  | .hbm, ⟨6, _⟩ => ⟨S4352x1024, .f32⟩
  | .hbm, ⟨7, _⟩ => ⟨S4352x5632, .bf16⟩
  | .hbm, ⟨8, _⟩ => ⟨S1024x5632, .bf16⟩
  | .hbm, ⟨9, _⟩ => ⟨S4352x1024, .f32⟩
  | .hbm, ⟨10, _⟩ => ⟨S4352x1024, .bf16⟩
  | .hbm, ⟨11, _⟩ => ⟨S1x1024, .f32⟩
  | .hbm, ⟨12, _⟩ => ⟨S16x1024, .f32⟩
  | .hbm, ⟨13, _⟩ => ⟨S16x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S16x1024, .f32⟩
  | .local _ .vmem, ⟨7, _⟩ => ⟨S16x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .bf16⟩
  | .local _ .vmem, ⟨11, _⟩ => ⟨S256x5632, .bf16⟩
  | .local _ .vmem, ⟨12, _⟩ => ⟨S1024x5632, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S16x1024, .f32⟩
  | .local _ .vmem, ⟨19, _⟩ => ⟨S16x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c17_i32 : BitVec 32 := 17#32
  let v121 : BitVec 1 := Scalar.cmpi .slt arg0 c17_i32
  let v122 : BitVec 32 := Scalar.extui v121
  let c0_i32 : BitVec 32 := 0#32
  let v123 : BitVec 1 := Scalar.cmpi .ne v122 c0_i32
  v123

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c16_i32 : BitVec 32 := 16#32
  let v0 : BitVec 32 := Scalar.minsi arg0 c16_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x5632 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference15Ideal.lean ====
abbrev S4096x1024 : Shape := ⟨2, ![4096, 1024]⟩
abbrev S256x1024 : Shape := ⟨2, ![256, 1024]⟩
abbrev S4352x1024 : Shape := ⟨2, ![4352, 1024]⟩
abbrev S1x1024 : Shape := ⟨2, ![1, 1024]⟩
abbrev S16x1024 : Shape := ⟨2, ![16, 1024]⟩
abbrev S4352x5632 : Shape := ⟨2, ![4352, 5632]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S256 : Shape := ⟨1, ![256]⟩
abbrev S256x1 : Shape := ⟨2, ![256, 1]⟩
abbrev S256x5632 : Shape := ⟨2, ![256, 5632]⟩
abbrev S1024 : Shape := ⟨1, ![1024]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S256x1024, .f32⟩
  | 2 => ⟨S4352x1024, .f32⟩
  | 3 => ⟨S1x1024, .f32⟩
  | 4 => ⟨S16x1024, .f32⟩
  | 5 => ⟨S16x1024, .f32⟩
  | 6 => ⟨S4352x1024, .f32⟩
  | 7 => ⟨S4352x5632, .bf16⟩
  | 8 => ⟨S1024x5632, .bf16⟩
  | 9 => ⟨S4096x1024, .f32⟩
  | 10 => ⟨S256x1024, .f32⟩
  | 11 => ⟨S1x1024, .f32⟩
  | 12 => ⟨S1x1024, .f32⟩
  | 13 => ⟨S1x1024, .f32⟩
  | 14 => ⟨S1024x5632, .f32⟩
  | 15 => ⟨S4096x1024, .f32⟩
  | 16 => ⟨S4096x1024, .f32⟩
  | 17 => ⟨S4096x1024, .f32⟩
  | 18 => ⟨S4096x1024, .f32⟩
  | 19 => ⟨S_, .f32⟩
  | 20 => ⟨S4096, .f32⟩
  | 21 => ⟨S4096x1, .f32⟩
  | 22 => ⟨S_, .f32⟩
  | 23 => ⟨S4096x1, .f32⟩
  | 24 => ⟨S4096x1, .f32⟩
  | 25 => ⟨S_, .f32⟩
  | 26 => ⟨S4096x1, .f32⟩
  | 27 => ⟨S4096x1, .f32⟩
  | 28 => ⟨S4096x1, .f32⟩
  | 29 => ⟨S4096x1, .f32⟩
  | 30 => ⟨S_, .f32⟩
  | 31 => ⟨S4096x1, .f32⟩
  | 32 => ⟨S4096x1, .f32⟩
  | 33 => ⟨S4096x1024, .f32⟩
  | 34 => ⟨S4096x1024, .f32⟩
  | 35 => ⟨S4096x1024, .f32⟩
  | 36 => ⟨S4096x1024, .f32⟩
  | 37 => ⟨S_, .f32⟩
  | 38 => ⟨S1x1024, .f32⟩
  | 39 => ⟨S1x1024, .f32⟩
  | 40 => ⟨S4096x1024, .f32⟩
  | 41 => ⟨S4096x1024, .f32⟩
  | 42 => ⟨S4096x1024, .f32⟩
  | 43 => ⟨S4096x1024, .f32⟩
  | 44 => ⟨S4096x5632, .f32⟩
  | 45 => ⟨S1x1024, .f32⟩
  | 46 => ⟨S1x1024, .f32⟩
  | 47 => ⟨S1x1024, .f32⟩
  | 48 => ⟨S1024x5632, .f32⟩
  | 49 => ⟨S256x1024, .f32⟩
  | 50 => ⟨S256x1024, .f32⟩
  | 51 => ⟨S256x1024, .f32⟩
  | 52 => ⟨S256x1024, .f32⟩
  | 53 => ⟨S_, .f32⟩
  | 54 => ⟨S256, .f32⟩
  | 55 => ⟨S256x1, .f32⟩
  | 56 => ⟨S_, .f32⟩
  | 57 => ⟨S256x1, .f32⟩
  | 58 => ⟨S256x1, .f32⟩
  | 59 => ⟨S_, .f32⟩
  | 60 => ⟨S256x1, .f32⟩
  | 61 => ⟨S256x1, .f32⟩
  | 62 => ⟨S256x1, .f32⟩
  | 63 => ⟨S256x1, .f32⟩
  | 64 => ⟨S_, .f32⟩
  | 65 => ⟨S256x1, .f32⟩
  | 66 => ⟨S256x1, .f32⟩
  | 67 => ⟨S256x1024, .f32⟩
  | 68 => ⟨S256x1024, .f32⟩
  | 69 => ⟨S256x1024, .f32⟩
  | 70 => ⟨S256x1024, .f32⟩
  | 71 => ⟨S_, .f32⟩
  | 72 => ⟨S1x1024, .f32⟩
  | 73 => ⟨S1x1024, .f32⟩
  | 74 => ⟨S256x1024, .f32⟩
  | 75 => ⟨S256x1024, .f32⟩
  | 76 => ⟨S256x1024, .f32⟩
  | 77 => ⟨S256x1024, .f32⟩
  | 78 => ⟨S256x5632, .f32⟩
  | 79 => ⟨S4096x1024, .f32⟩
  | 80 => ⟨S4096x5632, .bf16⟩
  | 81 => ⟨S4096x5632, .f32⟩
  | 82 => ⟨S256x1024, .f32⟩
  | 83 => ⟨S256x5632, .bf16⟩
  | 84 => ⟨S256x5632, .f32⟩
  | 85 => ⟨S256x1024, .f32⟩
  | 86 => ⟨S_, .f32⟩
  | 87 => ⟨S1024, .f32⟩
  | 88 => ⟨S1x1024, .f32⟩
  | 89 => ⟨S256x1024, .f32⟩
  | 90 => ⟨S_, .f32⟩
  | 91 => ⟨S1024, .f32⟩
  | 92 => ⟨S1x1024, .f32⟩
  | 93 => ⟨S256x1024, .f32⟩
  | 94 => ⟨S256x1024, .f32⟩
  | 95 => ⟨S256x1024, .f32⟩
  | 96 => ⟨S_, .f32⟩
  | 97 => ⟨S1024, .f32⟩
  | 98 => ⟨S1x1024, .f32⟩
  | 99 => ⟨S256x1024, .f32⟩
  | 100 => ⟨S256x1024, .f32⟩
  | 101 => ⟨S256x1024, .f32⟩
  | 102 => ⟨S_, .f32⟩
  | 103 => ⟨S256, .f32⟩
  | 104 => ⟨S256x1, .f32⟩
  | 105 => ⟨S256x1024, .f32⟩
  | 106 => ⟨S256x1024, .f32⟩
  | 107 => ⟨S256x1024, .f32⟩
  | 108 => ⟨S256x1, .f32⟩
  | 109 => ⟨S_, .f32⟩
  | 110 => ⟨S256x1, .f32⟩
  | 111 => ⟨S256x1, .f32⟩
  | 112 => ⟨S_, .f32⟩
  | 113 => ⟨S256, .f32⟩
  | 114 => ⟨S256x1024, .f32⟩
  | 115 => ⟨S256x1024, .f32⟩
  | 116 => ⟨S256x1024, .f32⟩
  | 117 => ⟨S256x1024, .f32⟩
  | 118 => ⟨S256x1024, .f32⟩
  | 119 => ⟨S256x1024, .f32⟩
  | 120 => ⟨S256x1024, .f32⟩
  | 121 => ⟨S256x1024, .f32⟩
  | 122 => ⟨S_, .f32⟩
  | 123 => ⟨S1024, .f32⟩
  | 124 => ⟨S1x1024, .f32⟩
  | 125 => ⟨S_, .f32⟩
  | 126 => ⟨S16x1024, .f32⟩
  | 127 => ⟨S_, .f32⟩
  | _ => ⟨S4096x1024, .f32⟩

abbrev hbmTy0_1 (i : Nat) : BufTy := match i % 128 with
  | 0 => ⟨S16x1024, .f32⟩
  | 1 => ⟨S16x1024, .f32⟩
  | 2 => ⟨S_, .f32⟩
  | 3 => ⟨S16x1024, .f32⟩
  | 4 => ⟨S4096x1024, .f32⟩
  | 5 => ⟨S_, .f32⟩
  | 6 => ⟨S1024, .f32⟩
  | 7 => ⟨S1x1024, .f32⟩
  | 8 => ⟨S4096x1024, .f32⟩
  | 9 => ⟨S_, .f32⟩
  | 10 => ⟨S1024, .f32⟩
  | 11 => ⟨S1x1024, .f32⟩
  | 12 => ⟨S4096x1024, .f32⟩
  | 13 => ⟨S4096x1024, .f32⟩
  | 14 => ⟨S4096x1024, .f32⟩
  | 15 => ⟨S_, .f32⟩
  | 16 => ⟨S1024, .f32⟩
  | 17 => ⟨S1x1024, .f32⟩
  | 18 => ⟨S1x1024, .f32⟩
  | 19 => ⟨S4096x1024, .f32⟩
  | 20 => ⟨S4096x1024, .f32⟩
  | 21 => ⟨S4096x1024, .f32⟩
  | 22 => ⟨S_, .f32⟩
  | 23 => ⟨S4096, .f32⟩
  | 24 => ⟨S4096x1, .f32⟩
  | 25 => ⟨S4096x1024, .f32⟩
  | 26 => ⟨S4096x1024, .f32⟩
  | 27 => ⟨S4096x1024, .f32⟩
  | 28 => ⟨S4096x1, .f32⟩
  | 29 => ⟨S_, .f32⟩
  | 30 => ⟨S4096x1, .f32⟩
  | 31 => ⟨S4096x1, .f32⟩
  | 32 => ⟨S_, .f32⟩
  | 33 => ⟨S4096, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S_, .f32⟩
  | 43 => ⟨S1024, .f32⟩
  | 44 => ⟨S1x1024, .f32⟩
  | 45 => ⟨S_, .f32⟩
  | 46 => ⟨S16x1024, .f32⟩
  | 47 => ⟨S16x1024, .f32⟩
  | 48 => ⟨S_, .f32⟩
  | 49 => ⟨S16x1024, .f32⟩
  | 50 => ⟨S16x1024, .f32⟩
  | 51 => ⟨S_, .f32⟩
  | 52 => ⟨S16x1024, .f32⟩
  | 53 => ⟨S16x1024, .f32⟩
  | 54 => ⟨S4352x1024, .f32⟩
  | 55 => ⟨S4352x1024, .f32⟩
  | 56 => ⟨S4352x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_7 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_9 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_10 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_11 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_cst_12 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_cst_13 : Ref sig .tc := ⟨.hbm, 109, rfl⟩
abbrev main_v86 : Ref sig .tc := ⟨.hbm, 110, rfl⟩
abbrev main_v87 : Ref sig .tc := ⟨.hbm, 111, rfl⟩
abbrev main_cst_14 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_15 : Ref sig .tc := ⟨.hbm, 122, rfl⟩
abbrev main_v97 : Ref sig .tc := ⟨.hbm, 123, rfl⟩
abbrev main_v98 : Ref sig .tc := ⟨.hbm, 124, rfl⟩
abbrev main_cst_16 : Ref sig .tc := ⟨.hbm, 125, rfl⟩
abbrev main_v99 : Ref sig .tc := ⟨.hbm, 126, rfl⟩
abbrev main_cst_17 : Ref sig .tc := ⟨.hbm, 127, rfl⟩
abbrev main_v100 : Ref sig .tc := ⟨.hbm, 128, rfl⟩
abbrev main_v101 : Ref sig .tc := ⟨.hbm, 129, rfl⟩
abbrev main_cst_18 : Ref sig .tc := ⟨.hbm, 130, rfl⟩
abbrev main_v102 : Ref sig .tc := ⟨.hbm, 131, rfl⟩
abbrev main_v103 : Ref sig .tc := ⟨.hbm, 132, rfl⟩
abbrev main_cst_19 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_20 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_21 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_cst_22 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_cst_23 : Ref sig .tc := ⟨.hbm, 157, rfl⟩
abbrev main_v124 : Ref sig .tc := ⟨.hbm, 158, rfl⟩
abbrev main_v125 : Ref sig .tc := ⟨.hbm, 159, rfl⟩
abbrev main_cst_24 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_cst_25 : Ref sig .tc := ⟨.hbm, 170, rfl⟩
abbrev main_v135 : Ref sig .tc := ⟨.hbm, 171, rfl⟩
abbrev main_v136 : Ref sig .tc := ⟨.hbm, 172, rfl⟩
abbrev main_cst_26 : Ref sig .tc := ⟨.hbm, 173, rfl⟩
abbrev main_v137 : Ref sig .tc := ⟨.hbm, 174, rfl⟩
abbrev main_v138 : Ref sig .tc := ⟨.hbm, 175, rfl⟩
abbrev main_cst_27 : Ref sig .tc := ⟨.hbm, 176, rfl⟩
abbrev main_v139 : Ref sig .tc := ⟨.hbm, 177, rfl⟩
abbrev main_v140 : Ref sig .tc := ⟨.hbm, 178, rfl⟩
abbrev main_cst_28 : Ref sig .tc := ⟨.hbm, 179, rfl⟩
abbrev main_v141 : Ref sig .tc := ⟨.hbm, 180, rfl⟩
abbrev main_v142 : Ref sig .tc := ⟨.hbm, 181, rfl⟩
abbrev main_v143 : Ref sig .tc := ⟨.hbm, 182, rfl⟩
abbrev main_v144 : Ref sig .tc := ⟨.hbm, 183, rfl⟩
abbrev main_v145 : Ref sig .tc := ⟨.hbm, 184, rfl⟩

abbrev nD : Nat := 1
abbrev τ : Topo := Topo.v7x

variable {F : FTy → Type} [FloatOps F]
-- ==== Kernel16.lean ====
abbrev S4096x1024 : Shape := ⟨2, ![4096, 1024]⟩
abbrev S1024x5632 : Shape := ⟨2, ![1024, 5632]⟩
abbrev S2x4096x2816 : Shape := ⟨3, ![2, 4096, 2816]⟩
abbrev S4096x2816 : Shape := ⟨2, ![4096, 2816]⟩
abbrev S256x1024 : Shape := ⟨2, ![256, 1024]⟩
abbrev S1024x2816 : Shape := ⟨2, ![1024, 2816]⟩
abbrev S2x256x2816 : Shape := ⟨3, ![2, 256, 2816]⟩
abbrev S256x2816 : Shape := ⟨2, ![256, 2816]⟩
abbrev S1x256x2816 : Shape := ⟨3, ![1, 256, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S2x4096x2816, .bf16⟩
  | .hbm, ⟨3, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x256x2816, .bf16⟩
  | .local _ .vmem, ⟨5, _⟩ => ⟨S2x256x2816, .bf16⟩
  | .local _ .vmem, ⟨6, _⟩ => ⟨S256x2816, .bf16⟩
  | .local _ .vmem, ⟨7, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S4096x2816, .bf16⟩
  | .hbm, ⟨8, _⟩ => ⟨S4096x2816, .bf16⟩
  | .hbm, ⟨9, _⟩ => ⟨S1x4096x2816, .bf16⟩
  | .hbm, ⟨10, _⟩ => ⟨S1x4096x2816, .bf16⟩
  | .hbm, ⟨11, _⟩ => ⟨S2x4096x2816, .bf16⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel17.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4352x1024 : Shape := ⟨2, ![4352, 1024]⟩
abbrev S1024x5632 : Shape := ⟨2, ![1024, 5632]⟩
abbrev S2x4352x2816 : Shape := ⟨3, ![2, 4352, 2816]⟩
abbrev S4352x2816 : Shape := ⟨2, ![4352, 2816]⟩
abbrev S272x1024 : Shape := ⟨2, ![272, 1024]⟩
abbrev S1024x2816 : Shape := ⟨2, ![1024, 2816]⟩
abbrev S2x272x2816 : Shape := ⟨3, ![2, 272, 2816]⟩
abbrev S272x2816 : Shape := ⟨2, ![272, 2816]⟩
abbrev S1x272x2816 : Shape := ⟨3, ![1, 272, 2816]⟩

abbrev nBuf : Space → Nat
  | .hbm => 4
  | .vmem => 8
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S2x4352x2816, .bf16⟩
  | .hbm, ⟨3, _⟩ => ⟨S4352x2816, .bf16⟩
  | .local _ .vmem, ⟨0, _⟩ => ⟨S272x1024, .bf16⟩
  | .local _ .vmem, ⟨1, _⟩ => ⟨S272x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2x272x2816, .bf16⟩
  | .local _ .vmem, ⟨5, _⟩ => ⟨S2x272x2816, .bf16⟩
  | .local _ .vmem, ⟨6, _⟩ => ⟨S272x2816, .bf16⟩
  | .local _ .vmem, ⟨7, _⟩ => ⟨S272x2816, .bf16⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x272x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4352x1024 : Shape := ⟨2, ![4352, 1024]⟩
abbrev S1024x5632 : Shape := ⟨2, ![1024, 5632]⟩
abbrev S4352x5632 : Shape := ⟨2, ![4352, 5632]⟩
abbrev S4352x2816 : Shape := ⟨2, ![4352, 2816]⟩
abbrev S1x4352x2816 : Shape := ⟨3, ![1, 4352, 2816]⟩
abbrev S2x4352x2816 : Shape := ⟨3, ![2, 4352, 2816]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x5632, .bf16⟩
  | .hbm, ⟨2, _⟩ => ⟨S4352x1024, .f32⟩
  | .hbm, ⟨3, _⟩ => ⟨S1024x5632, .f32⟩
  | .hbm, ⟨4, _⟩ => ⟨S4352x5632, .f32⟩
  | .hbm, ⟨5, _⟩ => ⟨S4352x2816, .f32⟩
  | .hbm, ⟨6, _⟩ => ⟨S4352x2816, .f32⟩
  | .hbm, ⟨7, _⟩ => ⟨S4352x2816, .bf16⟩
  | .hbm, ⟨8, _⟩ => ⟨S4352x2816, .bf16⟩
  | .hbm, ⟨9, _⟩ => ⟨S1x4352x2816, .bf16⟩
  | .hbm, ⟨10, _⟩ => ⟨S1x4352x2816, .bf16⟩
  | .hbm, ⟨11, _⟩ => ⟨S2x4352x2816, .bf16⟩
  | .hbm, ⟨12, _⟩ => ⟨S4352x2816, .f32⟩
  | .hbm, ⟨13, _⟩ => ⟨S4352x2816, .f32⟩
  | .hbm, ⟨14, _⟩ => ⟨S4352x2816, .f32⟩
  | .hbm, ⟨15, _⟩ => ⟨S_, .f32⟩
  | .hbm, ⟨16, _⟩ => ⟨S4352x2816, .f32⟩
  | .hbm, ⟨17, _⟩ => ⟨S4352x2816, .f32⟩
  | .hbm, ⟨18, _⟩ => ⟨S_, .f32⟩
  | .hbm, ⟨19, _⟩ => ⟨S4352x2816, .f32⟩
  | .hbm, ⟨20, _⟩ => ⟨S4352x2816, .f32⟩
  | .hbm, ⟨21, _⟩ => ⟨S4352x2816, .f32⟩
  | .hbm, ⟨22, _⟩ => ⟨S4352x2816, .f32⟩
  | .hbm, ⟨23, _⟩ => ⟨S4352x2816, .f32⟩
  | .hbm, ⟨24, _⟩ => ⟨S4352x2816, .bf16⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel19.lean ====
abbrev S4352x2816 : Shape := ⟨2, ![4352, 2816]⟩
abbrev S2816x1024 : Shape := ⟨2, ![2816, 1024]⟩
abbrev S4352x1024 : Shape := ⟨2, ![4352, 1024]⟩
abbrev S1088x2816 : Shape := ⟨2, ![1088, 2816]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x1024, .f32⟩
  | .local _ .vmem, ⟨0, _⟩ => ⟨S1088x2816, .bf16⟩
  | .local _ .vmem, ⟨1, _⟩ => ⟨S1088x2816, .bf16⟩
  | .local _ .vmem, ⟨2, _⟩ => ⟨S2816x1024, .bf16⟩
  | .local _ .vmem, ⟨3, _⟩ => ⟨S1088x1024, .f32⟩
  | .local _ .vmem, ⟨4, _⟩ => ⟨S1088x1024, .f32⟩
  | _, _ => ⟨S4352x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4352x2816 : Shape := ⟨2, ![4352, 2816]⟩
abbrev S2816x1024 : Shape := ⟨2, ![2816, 1024]⟩
abbrev S4352x1024 : Shape := ⟨2, ![4352, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x2816, .bf16⟩
  | .hbm, ⟨1, _⟩ => ⟨S2816x1024, .bf16⟩
  | .hbm, ⟨2, _⟩ => ⟨S4352x2816, .f32⟩
  | .hbm, ⟨3, _⟩ => ⟨S2816x1024, .f32⟩
  | .hbm, ⟨4, _⟩ => ⟨S4352x1024, .f32⟩
  | _, _ => ⟨S4352x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel20.lean ====
abbrev S4352x1024 : Shape := ⟨2, ![4352, 1024]⟩
abbrev S1024x1024 : Shape := ⟨2, ![1024, 1024]⟩
abbrev S1088x1024 : Shape := ⟨2, ![1088, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .local _ .vmem, ⟨0, _⟩ => ⟨S1088x1024, .bf16⟩
  | .local _ .vmem, ⟨1, _⟩ => ⟨S1088x1024, .bf16⟩
  | .local _ .vmem, ⟨2, _⟩ => ⟨S1024x1024, .bf16⟩
  | .local _ .vmem, ⟨3, _⟩ => ⟨S1088x1024, .f32⟩
  | .local _ .vmem, ⟨4, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S4352x1024 : Shape := ⟨2, ![4352, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S1024x1024, .bf16⟩
  | .hbm, ⟨2, _⟩ => ⟨S4352x1024, .f32⟩
  | .hbm, ⟨3, _⟩ => ⟨S1024x1024, .f32⟩
  | .hbm, ⟨4, _⟩ => ⟨S4352x1024, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x1024 : Shape := ⟨2, ![4096, 1024]⟩
abbrev S256x1024 : Shape := ⟨2, ![256, 1024]⟩
abbrev S1x1024 : Shape := ⟨2, ![1, 1024]⟩
abbrev S16x1024 : Shape := ⟨2, ![16, 1024]⟩
abbrev S1024x2816 : Shape := ⟨2, ![1024, 2816]⟩
abbrev S4352x1024 : Shape := ⟨2, ![4352, 1024]⟩
abbrev S4352x2816 : Shape := ⟨2, ![4352, 2816]⟩
abbrev S256x2816 : Shape := ⟨2, ![256, 2816]⟩
abbrev S8x1024 : Shape := ⟨2, ![8, 1024]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1x1024, .f32⟩
  | .hbm, ⟨3, _⟩ => ⟨S16x1024, .f32⟩
  | .hbm, ⟨4, _⟩ => ⟨S1024x2816, .bf16⟩
  | .hbm, ⟨5, _⟩ => ⟨S4352x1024, .bf16⟩
  | .hbm, ⟨6, _⟩ => ⟨S4352x2816, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S1x1024, .f32⟩
  | .local _ .vmem, ⟨4, _⟩ => ⟨S16x1024, .f32⟩
  | .local _ .vmem, ⟨5, _⟩ => ⟨S1024x2816, .bf16⟩
  | .local _ .vmem, ⟨6, _⟩ => ⟨S256x1024, .bf16⟩
  | .local _ .vmem, ⟨7, _⟩ => ⟨S256x1024, .bf16⟩
  | .local _ .vmem, ⟨8, _⟩ => ⟨S256x2816, .f32⟩
  | .local _ .vmem, ⟨9, _⟩ => ⟨S256x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference21Ideal.lean ====
abbrev S4096x1024 : Shape := ⟨2, ![4096, 1024]⟩
abbrev S256x1024 : Shape := ⟨2, ![256, 1024]⟩
abbrev S1x1024 : Shape := ⟨2, ![1, 1024]⟩
abbrev S16x1024 : Shape := ⟨2, ![16, 1024]⟩
abbrev S1024x2816 : Shape := ⟨2, ![1024, 2816]⟩
abbrev S_ : Shape := ⟨0, ![]⟩
abbrev S4096 : Shape := ⟨1, ![4096]⟩
abbrev S4096x1 : Shape := ⟨2, ![4096, 1]⟩
abbrev S256 : Shape := ⟨1, ![256]⟩
abbrev S256x1 : Shape := ⟨2, ![256, 1]⟩
abbrev S4352x1024 : Shape := ⟨2, ![4352, 1024]⟩
abbrev S4352x2816 : Shape := ⟨2, ![4352, 2816]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S256x1024, .f32⟩
  | .hbm, ⟨2, _⟩ => ⟨S1x1024, .f32⟩
  | .hbm, ⟨3, _⟩ => ⟨S16x1024, .f32⟩
  | .hbm, ⟨4, _⟩ => ⟨S1024x2816, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S1x1024, .f32⟩
  | .hbm, ⟨22, _⟩ => ⟨S_, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S256x1024, .f32⟩
  | .hbm, ⟨30, _⟩ => ⟨S_, .f32⟩
  | .hbm, ⟨31, _⟩ => ⟨S256, .f32⟩
  | .hbm, ⟨32, _⟩ => ⟨S256x1, .f32⟩
  | .hbm, ⟨33, _⟩ => ⟨S_, .f32⟩
  | .hbm, ⟨34, _⟩ => ⟨S256x1, .f32⟩
  | .hbm, ⟨35, _⟩ => ⟨S256x1, .f32⟩
  | .hbm, ⟨36, _⟩ => ⟨S_, .f32⟩
  | .hbm, ⟨37, _⟩ => ⟨S256x1, .f32⟩
  | .hbm, ⟨38, _⟩ => ⟨S256x1, .f32⟩
  | .hbm, ⟨39, _⟩ => ⟨S256x1, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S1x1024, .f32⟩
  | .hbm, ⟨45, _⟩ => ⟨S1x1024, .f32⟩
  | .hbm, ⟨46, _⟩ => ⟨S_, .f32⟩
  | .hbm, ⟨47, _⟩ => ⟨S1x1024, .f32⟩
  | .hbm, ⟨48, _⟩ => ⟨S1x1024, .f32⟩
  | .hbm, ⟨49, _⟩ => ⟨S256x1024, .f32⟩
  | .hbm, ⟨50, _⟩ => ⟨S256x1024, .f32⟩
  | .hbm, ⟨51, _⟩ => ⟨S256x1024, .f32⟩
  | .hbm, ⟨52, _⟩ => ⟨S256x1024, .f32⟩
  | .hbm, ⟨53, _⟩ => ⟨S4352x1024, .f32⟩
  | .hbm, ⟨54, _⟩ => ⟨S4352x1024, .bf16⟩
  | .hbm, ⟨55, _⟩ => ⟨S4352x1024, .f32⟩
  | .hbm, ⟨56, _⟩ => ⟨S1024x2816, .f32⟩
  | .hbm, ⟨57, _⟩ => ⟨S4352x2816, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Kernel22.lean ====
abbrev S2048x768 : Shape := ⟨2, ![2048, 768]⟩
abbrev S1x2048x768 : Shape := ⟨3, ![1, 2048, 768]⟩
abbrev S8x128 : Shape := ⟨2, ![8, 128]⟩
abbrev S256x768 : Shape := ⟨2, ![256, 768]⟩
abbrev S1x256x768 : Shape := ⟨3, ![1, 256, 768]⟩

abbrev nBuf : Space → Nat
  | .hbm => 9
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S1x2048x768, .f32⟩
  | .hbm, ⟨2, _⟩ => ⟨S2048x768, .f32⟩
  | .hbm, ⟨3, _⟩ => ⟨S2048x768, .f32⟩
  | .hbm, ⟨4, _⟩ => ⟨S8x128, .f32⟩
  | .hbm, ⟨5, _⟩ => ⟨S2048x768, .f32⟩
  | .hbm, ⟨6, _⟩ => ⟨S2048x768, .f32⟩
  | .hbm, ⟨7, _⟩ => ⟨S2048x768, .f32⟩
  | .hbm, ⟨8, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S1x256x768, .f32⟩
  | .local _ .vmem, ⟨3, _⟩ => ⟨S1x256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c8_i32 : BitVec 32 := 8#32
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let v0 : BitVec 32 := Scalar.divsi arg0 c8_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S2048x768 : Shape := ⟨2, ![2048, 768]⟩
abbrev S1x2048x768 : Shape := ⟨3, ![1, 2048, 768]⟩
abbrev S8x128 : Shape := ⟨2, ![8, 128]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S1x2048x768, .f32⟩
  | .hbm, ⟨2, _⟩ => ⟨S2048x768, .f32⟩
  | .hbm, ⟨3, _⟩ => ⟨S2048x768, .f32⟩
  | .hbm, ⟨4, _⟩ => ⟨S8x128, .f32⟩
  | .hbm, ⟨5, _⟩ => ⟨S_, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S_, .f32⟩
  | .hbm, ⟨11, _⟩ => ⟨S2048x768, .f32⟩
  | .hbm, ⟨12, _⟩ => ⟨S2048x768, .f32⟩
  | .hbm, ⟨13, _⟩ => ⟨S2048x768, .f32⟩
  | .hbm, ⟨14, _⟩ => ⟨S_, .f32⟩
  | .hbm, ⟨15, _⟩ => ⟨S2048x768, .f32⟩
  | .hbm, ⟨16, _⟩ => ⟨S2048x768, .f32⟩
  | .hbm, ⟨17, _⟩ => ⟨S2048x768, .f32⟩
  | .hbm, ⟨18, _⟩ => ⟨S_, .f32⟩
  | .hbm, ⟨19, _⟩ => ⟨S2048x768, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S_, .f32⟩
  | .hbm, ⟨26, _⟩ => ⟨S2048x768, .f32⟩
  | .hbm, ⟨27, _⟩ => ⟨S2048x768, .f32⟩
  | .hbm, ⟨28, _⟩ => ⟨S2048x768, .f32⟩
  | .hbm, ⟨29, _⟩ => ⟨S_, .f32⟩
  | .hbm, ⟨30, _⟩ => ⟨S2048x768, .f32⟩
  | .hbm, ⟨31, _⟩ => ⟨S2048x768, .f32⟩
  | .hbm, ⟨32, _⟩ => ⟨S2048x768, .f32⟩
  | .hbm, ⟨33, _⟩ => ⟨S_, .f32⟩
  | .hbm, ⟨34, _⟩ => ⟨S2048x768, .f32⟩
  | .hbm, ⟨35, _⟩ => ⟨S2048x768, .f32⟩
  | .hbm, ⟨36, _⟩ => ⟨S2048x768, .f32⟩
  | .hbm, ⟨37, _⟩ => ⟨S_, .f32⟩
  | .hbm, ⟨38, _⟩ => ⟨S2048x768, .f32⟩
  | .hbm, ⟨39, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_3 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_cst_5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_6 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_7 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_8 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel23.lean ====
abbrev S2048x704 : Shape := ⟨2, ![2048, 704]⟩
abbrev S8x1024x704 : Shape := ⟨3, ![8, 1024, 704]⟩
abbrev S8x128 : Shape := ⟨2, ![8, 128]⟩
abbrev S256x704 : Shape := ⟨2, ![256, 704]⟩
abbrev S8x256x704 : Shape := ⟨3, ![8, 256, 704]⟩
abbrev S1x256x704 : Shape := ⟨3, ![1, 256, 704]⟩

abbrev nBuf : Space → Nat
  | .hbm => 10
  | .vmem => 18
  | .smem => 0
  | _ => 0

abbrev bufTy : (tb : Table) → Fin (tcTables nBuf tb) → BufTy
  | .hbm, ⟨0, _⟩ => ⟨S2048x704, .f32⟩
  | .hbm, ⟨1, _⟩ => ⟨S8x1024x704, .bf16⟩
  | .hbm, ⟨2, _⟩ => ⟨S8x1024x704, .bf16⟩
  | .hbm, ⟨3, _⟩ => ⟨S2048x704, .f32⟩
  | .hbm, ⟨4, _⟩ => ⟨S2048x704, .f32⟩
  | .hbm, ⟨5, _⟩ => ⟨S8x128, .f32⟩
  | .hbm, ⟨6, _⟩ => ⟨S2048x704, .f32⟩
  | .hbm, ⟨7, _⟩ => ⟨S2048x704, .f32⟩
  | .hbm, ⟨8, _⟩ => ⟨S2048x704, .f32⟩
  | .hbm, ⟨9, _⟩ => ⟨S2048x704, .f32⟩
  | .local _ .vmem, ⟨0, _⟩ => ⟨S256x704, .f32⟩
  | .local _ .vmem, ⟨1, _⟩ => ⟨S256x704, .f32⟩
  | .local _ .vmem, ⟨2, _⟩ => ⟨S8x256x704, .bf16⟩
  | .local _ .vmem, ⟨3, _⟩ => ⟨S8x256x704, .bf16⟩
  | .local _ .vmem, ⟨4, _⟩ => ⟨S8x256x704, .bf16⟩
  | .local _ .vmem, ⟨5, _⟩ => ⟨S8x256x704, .bf16⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | .local _ .vmem, ⟨14, _⟩ => ⟨S256x704, .f32⟩
  | .local _ .vmem, ⟨15, _⟩ => ⟨S256x704, .f32⟩
  | .local _ .vmem, ⟨16, _⟩ => ⟨S256x704, .f32⟩
  | .local _ .vmem, ⟨17, _⟩ => ⟨S256x704, .f32⟩
  | _, _ => ⟨S2048x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c4_i32 : BitVec 32 := 4#32
  let v0 : BitVec 32 := Scalar.subi arg0 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference23Ideal.lean ====
abbrev S2048x704 : Shape := ⟨2, ![2048, 704]⟩
abbrev S8x1024x704 : Shape := ⟨3, ![8, 1024, 704]⟩
abbrev S8x128 : Shape := ⟨2, ![8, 128]⟩
abbrev S_ : Shape := ⟨0, ![]⟩
abbrev S1024x704 : Shape := ⟨2, ![1024, 704]⟩

abbrev nBuf : Space → Nat
  | .hbm => 46
  | .vmem => 0
  | .smem => 0
  | _ => 0

abbrev bufTy : (tb : Table) → Fin (tcTables nBuf tb) → BufTy
  | .hbm, ⟨0, _⟩ => ⟨S2048x704, .f32⟩
  | .hbm, ⟨1, _⟩ => ⟨S8x1024x704, .bf16⟩
  | .hbm, ⟨2, _⟩ => ⟨S8x1024x704, .bf16⟩
  | .hbm, ⟨3, _⟩ => ⟨S2048x704, .f32⟩
  | .hbm, ⟨4, _⟩ => ⟨S2048x704, .f32⟩
  | .hbm, ⟨5, _⟩ => ⟨S8x128, .f32⟩
  | .hbm, ⟨6, _⟩ => ⟨S8x1024x704, .f32⟩
  | .hbm, ⟨7, _⟩ => ⟨S_, .f32⟩
  | .hbm, ⟨8, _⟩ => ⟨S1024x704, .f32⟩
  | .hbm, ⟨9, _⟩ => ⟨S8x1024x704, .f32⟩
  | .hbm, ⟨10, _⟩ => ⟨S_, .f32⟩
  | .hbm, ⟨11, _⟩ => ⟨S1024x704, .f32⟩
  | .hbm, ⟨12, _⟩ => ⟨S2048x704, .f32⟩
  | .hbm, ⟨13, _⟩ => ⟨S_, .f32⟩
  | .hbm, ⟨14, _⟩ => ⟨S2048x704, .f32⟩
  | .hbm, ⟨15, _⟩ => ⟨S2048x704, .f32⟩
  | .hbm, ⟨16, _⟩ => ⟨S_, .f32⟩
  | .hbm, ⟨17, _⟩ => ⟨S2048x704, .f32⟩
  | .hbm, ⟨18, _⟩ => ⟨S2048x704, .f32⟩
  | .hbm, ⟨19, _⟩ => ⟨S2048x704, .f32⟩
  | .hbm, ⟨20, _⟩ => ⟨S_, .f32⟩
  | .hbm, ⟨21, _⟩ => ⟨S2048x704, .f32⟩
  | .hbm, ⟨22, _⟩ => ⟨S2048x704, .f32⟩
  | .hbm, ⟨23, _⟩ => ⟨S2048x704, .f32⟩
  | .hbm, ⟨24, _⟩ => ⟨S_, .f32⟩
  | .hbm, ⟨25, _⟩ => ⟨S2048x704, .f32⟩
  | .hbm, ⟨26, _⟩ => ⟨S2048x704, .f32⟩
  | .hbm, ⟨27, _⟩ => ⟨S2048x704, .f32⟩
  | .hbm, ⟨28, _⟩ => ⟨S_, .f32⟩
  | .hbm, ⟨29, _⟩ => ⟨S2048x704, .f32⟩
  | .hbm, ⟨30, _⟩ => ⟨S2048x704, .f32⟩
  | .hbm, ⟨31, _⟩ => ⟨S_, .f32⟩
  | .hbm, ⟨32, _⟩ => ⟨S2048x704, .f32⟩
  | .hbm, ⟨33, _⟩ => ⟨S2048x704, .f32⟩
  | .hbm, ⟨34, _⟩ => ⟨S2048x704, .f32⟩
  | .hbm, ⟨35, _⟩ => ⟨S_, .f32⟩
  | .hbm, ⟨36, _⟩ => ⟨S2048x704, .f32⟩
  | .hbm, ⟨37, _⟩ => ⟨S2048x704, .f32⟩
  | .hbm, ⟨38, _⟩ => ⟨S2048x704, .f32⟩
  | .hbm, ⟨39, _⟩ => ⟨S_, .f32⟩
  | .hbm, ⟨40, _⟩ => ⟨S2048x704, .f32⟩
  | .hbm, ⟨41, _⟩ => ⟨S2048x704, .f32⟩
  | .hbm, ⟨42, _⟩ => ⟨S2048x704, .f32⟩
  | .hbm, ⟨43, _⟩ => ⟨S_, .f32⟩
  | .hbm, ⟨44, _⟩ => ⟨S2048x704, .f32⟩
  | .hbm, ⟨45, _⟩ => ⟨S2048x704, .f32⟩
  | _, _ => ⟨S2048x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel24.lean ====
abbrev S704x1024 : Shape := ⟨2, ![704, 1024]⟩
abbrev S8x352x1024 : Shape := ⟨3, ![8, 352, 1024]⟩
abbrev S8x128 : Shape := ⟨2, ![8, 128]⟩
abbrev S32x1024 : Shape := ⟨2, ![32, 1024]⟩
abbrev S8x32x1024 : Shape := ⟨3, ![8, 32, 1024]⟩
abbrev S1x32x1024 : Shape := ⟨3, ![1, 32, 1024]⟩

abbrev nBuf : Space → Nat
  | .hbm => 10
  | .vmem => 18
  | .smem => 0
  | _ => 0

abbrev bufTy : (tb : Table) → Fin (tcTables nBuf tb) → BufTy
  | .hbm, ⟨0, _⟩ => ⟨S704x1024, .f32⟩
  | .hbm, ⟨1, _⟩ => ⟨S8x352x1024, .bf16⟩
  | .hbm, ⟨2, _⟩ => ⟨S8x352x1024, .bf16⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S32x1024, .f32⟩
  | .local _ .vmem, ⟨1, _⟩ => ⟨S32x1024, .f32⟩
  | .local _ .vmem, ⟨2, _⟩ => ⟨S8x32x1024, .bf16⟩
  | .local _ .vmem, ⟨3, _⟩ => ⟨S8x32x1024, .bf16⟩
  | .local _ .vmem, ⟨4, _⟩ => ⟨S8x32x1024, .bf16⟩
  | .local _ .vmem, ⟨5, _⟩ => ⟨S8x32x1024, .bf16⟩
  | .local _ .vmem, ⟨6, _⟩ => ⟨S32x1024, .f32⟩
  | .local _ .vmem, ⟨7, _⟩ => ⟨S32x1024, .f32⟩
  | .local _ .vmem, ⟨8, _⟩ => ⟨S32x1024, .f32⟩
  | .local _ .vmem, ⟨9, _⟩ => ⟨S32x1024, .f32⟩
  | .local _ .vmem, ⟨10, _⟩ => ⟨S32x1024, .f32⟩
  | .local _ .vmem, ⟨11, _⟩ => ⟨S32x1024, .f32⟩
  | .local _ .vmem, ⟨12, _⟩ => ⟨S32x1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def k0_cond2 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c11_i32 : BitVec 32 := 11#32
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let v0 : BitVec 32 := Scalar.divsi arg0 c11_i32
  let c1_i32 : BitVec 32 := 1#32
  let v15 : BitVec 32 := Scalar.subi v0 c1_i32
  let v16 : BitVec 32 := Scalar.select v14 v15 v0
  let c1_i32_6 : BitVec 32 := 1#32
  let v20 : BitVec 1 := Scalar.cmpi .eq v16 c1_i32_6
  let v21 : BitVec 32 := Scalar.extui v20
  let c0_i32_7 : BitVec 32 := 0#32
  let v22 : BitVec 1 := Scalar.cmpi .ne v21 c0_i32_7
  v22

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c10_i32 : BitVec 32 := 10#32
  let v1 : BitVec 32 := Scalar.maxsi c0_i32_0 v0
  let v2 : BitVec 32 := Scalar.minsi c10_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let c10_i32 : BitVec 32 := 10#32
  let v1 : BitVec 32 := Scalar.maxsi c0_i32 v0
  let v2 : BitVec 32 := Scalar.minsi c10_i32 v1
  let c0_i32_0 : BitVec 32 := 0#32
  let c0_i32_1 : BitVec 32 := 0#32
  let c0_i32_2 : BitVec 32 := 0#32
  ![c0_i32_0.toNat, v2.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S32x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference24Ideal.lean ====
abbrev S704x1024 : Shape := ⟨2, ![704, 1024]⟩
abbrev S8x352x1024 : Shape := ⟨3, ![8, 352, 1024]⟩
abbrev S8x128 : Shape := ⟨2, ![8, 128]⟩
abbrev S_ : Shape := ⟨0, ![]⟩
abbrev S352x1024 : Shape := ⟨2, ![352, 1024]⟩

abbrev nBuf : Space → Nat
  | .hbm => 46
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S8x352x1024, .bf16⟩
  | .hbm, ⟨2, _⟩ => ⟨S8x352x1024, .bf16⟩
  | .hbm, ⟨3, _⟩ => ⟨S704x1024, .f32⟩
  | .hbm, ⟨4, _⟩ => ⟨S704x1024, .f32⟩
  | .hbm, ⟨5, _⟩ => ⟨S8x128, .f32⟩
  | .hbm, ⟨6, _⟩ => ⟨S8x352x1024, .f32⟩
  | .hbm, ⟨7, _⟩ => ⟨S_, .f32⟩
  | .hbm, ⟨8, _⟩ => ⟨S352x1024, .f32⟩
  | .hbm, ⟨9, _⟩ => ⟨S8x352x1024, .f32⟩
  | .hbm, ⟨10, _⟩ => ⟨S_, .f32⟩
  | .hbm, ⟨11, _⟩ => ⟨S352x1024, .f32⟩
  | .hbm, ⟨12, _⟩ => ⟨S704x1024, .f32⟩
  | .hbm, ⟨13, _⟩ => ⟨S_, .f32⟩
  | .hbm, ⟨14, _⟩ => ⟨S704x1024, .f32⟩
  | .hbm, ⟨15, _⟩ => ⟨S704x1024, .f32⟩
  | .hbm, ⟨16, _⟩ => ⟨S_, .f32⟩
  | .hbm, ⟨17, _⟩ => ⟨S704x1024, .f32⟩
  | .hbm, ⟨18, _⟩ => ⟨S704x1024, .f32⟩
  | .hbm, ⟨19, _⟩ => ⟨S704x1024, .f32⟩
  | .hbm, ⟨20, _⟩ => ⟨S_, .f32⟩
  | .hbm, ⟨21, _⟩ => ⟨S704x1024, .f32⟩
  | .hbm, ⟨22, _⟩ => ⟨S704x1024, .f32⟩
  | .hbm, ⟨23, _⟩ => ⟨S704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S704x1024, .f32⟩
  | .hbm, ⟨28, _⟩ => ⟨S_, .f32⟩
  | .hbm, ⟨29, _⟩ => ⟨S704x1024, .f32⟩
  | .hbm, ⟨30, _⟩ => ⟨S704x1024, .f32⟩
  | .hbm, ⟨31, _⟩ => ⟨S_, .f32⟩
  | .hbm, ⟨32, _⟩ => ⟨S704x1024, .f32⟩
  | .hbm, ⟨33, _⟩ => ⟨S704x1024, .f32⟩
  | .hbm, ⟨34, _⟩ => ⟨S704x1024, .f32⟩
  | .hbm, ⟨35, _⟩ => ⟨S_, .f32⟩
  | .hbm, ⟨36, _⟩ => ⟨S704x1024, .f32⟩
  | .hbm, ⟨37, _⟩ => ⟨S704x1024, .f32⟩
  | .hbm, ⟨38, _⟩ => ⟨S704x1024, .f32⟩
  | .hbm, ⟨39, _⟩ => ⟨S_, .f32⟩
  | .hbm, ⟨40, _⟩ => ⟨S704x1024, .f32⟩
  | .hbm, ⟨41, _⟩ => ⟨S704x1024, .f32⟩
  | .hbm, ⟨42, _⟩ => ⟨S704x1024, .f32⟩
  | .hbm, ⟨43, _⟩ => ⟨S_, .f32⟩
  | .hbm, ⟨44, _⟩ => ⟨S704x1024, .f32⟩
  | .hbm, ⟨45, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Kernel25.lean ====
abbrev S1024x648 : Shape := ⟨2, ![1024, 648]⟩
abbrev S8x1024x648 : Shape := ⟨3, ![8, 1024, 648]⟩
abbrev S8x128 : Shape := ⟨2, ![8, 128]⟩
abbrev S256x648 : Shape := ⟨2, ![256, 648]⟩
abbrev S8x256x648 : Shape := ⟨3, ![8, 256, 648]⟩
abbrev S1x256x648 : Shape := ⟨3, ![1, 256, 648]⟩

abbrev nBuf : Space → Nat
  | .hbm => 9
  | .vmem => 16
  | .smem => 0
  | _ => 0

abbrev bufTy : (tb : Table) → Fin (tcTables nBuf tb) → BufTy
  | .hbm, ⟨0, _⟩ => ⟨S1024x648, .f32⟩
  | .hbm, ⟨1, _⟩ => ⟨S8x1024x648, .bf16⟩
  | .hbm, ⟨2, _⟩ => ⟨S1024x648, .f32⟩
  | .hbm, ⟨3, _⟩ => ⟨S1024x648, .f32⟩
  | .hbm, ⟨4, _⟩ => ⟨S8x128, .f32⟩
  | .hbm, ⟨5, _⟩ => ⟨S1024x648, .f32⟩
  | .hbm, ⟨6, _⟩ => ⟨S1024x648, .f32⟩
  | .hbm, ⟨7, _⟩ => ⟨S1024x648, .f32⟩
  | .hbm, ⟨8, _⟩ => ⟨S1024x648, .f32⟩
  | .local _ .vmem, ⟨0, _⟩ => ⟨S256x648, .f32⟩
  | .local _ .vmem, ⟨1, _⟩ => ⟨S256x648, .f32⟩
  | .local _ .vmem, ⟨2, _⟩ => ⟨S8x256x648, .bf16⟩
  | .local _ .vmem, ⟨3, _⟩ => ⟨S8x256x648, .bf16⟩
  | .local _ .vmem, ⟨4, _⟩ => ⟨S256x648, .f32⟩
  | .local _ .vmem, ⟨5, _⟩ => ⟨S256x648, .f32⟩
  | .local _ .vmem, ⟨6, _⟩ => ⟨S256x648, .f32⟩
  | .local _ .vmem, ⟨7, _⟩ => ⟨S256x648, .f32⟩
  | .local _ .vmem, ⟨8, _⟩ => ⟨S256x648, .f32⟩
  | .local _ .vmem, ⟨9, _⟩ => ⟨S256x648, .f32⟩
  | .local _ .vmem, ⟨10, _⟩ => ⟨S256x648, .f32⟩
  | .local _ .vmem, ⟨11, _⟩ => ⟨S256x648, .f32⟩
  | .local _ .vmem, ⟨12, _⟩ => ⟨S256x648, .f32⟩
  | .local _ .vmem, ⟨13, _⟩ => ⟨S256x648, .f32⟩
  | .local _ .vmem, ⟨14, _⟩ => ⟨S256x648, .f32⟩
  | .local _ .vmem, ⟨15, _⟩ => ⟨S256x648, .f32⟩
  | _, _ => ⟨S1024x648, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x648 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x648 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x648 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x648 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x648 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x648 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x648 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x648 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1024x648 : Shape := ⟨2, ![1024, 648]⟩
abbrev S8x1024x648 : Shape := ⟨3, ![8, 1024, 648]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x648, .f32⟩
  | .hbm, ⟨1, _⟩ => ⟨S8x1024x648, .bf16⟩
  | .hbm, ⟨2, _⟩ => ⟨S1024x648, .f32⟩
  | .hbm, ⟨3, _⟩ => ⟨S1024x648, .f32⟩
  | .hbm, ⟨4, _⟩ => ⟨S8x128, .f32⟩
  | .hbm, ⟨5, _⟩ => ⟨S8x1024x648, .f32⟩
  | .hbm, ⟨6, _⟩ => ⟨S_, .f32⟩
  | .hbm, ⟨7, _⟩ => ⟨S1024x648, .f32⟩
  | .hbm, ⟨8, _⟩ => ⟨S_, .f32⟩
  | .hbm, ⟨9, _⟩ => ⟨S1024x648, .f32⟩
  | .hbm, ⟨10, _⟩ => ⟨S1024x648, .f32⟩
  | .hbm, ⟨11, _⟩ => ⟨S_, .f32⟩
  | .hbm, ⟨12, _⟩ => ⟨S1024x648, .f32⟩
  | .hbm, ⟨13, _⟩ => ⟨S1024x648, .f32⟩
  | .hbm, ⟨14, _⟩ => ⟨S1024x648, .f32⟩
  | .hbm, ⟨15, _⟩ => ⟨S_, .f32⟩
  | .hbm, ⟨16, _⟩ => ⟨S1024x648, .f32⟩
  | .hbm, ⟨17, _⟩ => ⟨S1024x648, .f32⟩
  | .hbm, ⟨18, _⟩ => ⟨S1024x648, .f32⟩
  | .hbm, ⟨19, _⟩ => ⟨S_, .f32⟩
  | .hbm, ⟨20, _⟩ => ⟨S1024x648, .f32⟩
  | .hbm, ⟨21, _⟩ => ⟨S1024x648, .f32⟩
  | .hbm, ⟨22, _⟩ => ⟨S1024x648, .f32⟩
  | .hbm, ⟨23, _⟩ => ⟨S_, .f32⟩
  | .hbm, ⟨24, _⟩ => ⟨S1024x648, .f32⟩
  | .hbm, ⟨25, _⟩ => ⟨S1024x648, .f32⟩
  | .hbm, ⟨26, _⟩ => ⟨S_, .f32⟩
  | .hbm, ⟨27, _⟩ => ⟨S1024x648, .f32⟩
  | .hbm, ⟨28, _⟩ => ⟨S1024x648, .f32⟩
  | .hbm, ⟨29, _⟩ => ⟨S1024x648, .f32⟩
  | .hbm, ⟨30, _⟩ => ⟨S_, .f32⟩
  | .hbm, ⟨31, _⟩ => ⟨S1024x648, .f32⟩
  | .hbm, ⟨32, _⟩ => ⟨S1024x648, .f32⟩
  | .hbm, ⟨33, _⟩ => ⟨S1024x648, .f32⟩
  | .hbm, ⟨34, _⟩ => ⟨S_, .f32⟩
  | .hbm, ⟨35, _⟩ => ⟨S1024x648, .f32⟩
  | .hbm, ⟨36, _⟩ => ⟨S1024x648, .f32⟩
  | .hbm, ⟨37, _⟩ => ⟨S1024x648, .f32⟩
  | .hbm, ⟨38, _⟩ => ⟨S_, .f32⟩
  | .hbm, ⟨39, _⟩ => ⟨S1024x648, .f32⟩
  | .hbm, ⟨40, _⟩ => ⟨S1024x648, .f32⟩
  | _, _ => ⟨S1024x648, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel26.lean ====
abbrev S256x1024 : Shape := ⟨2, ![256, 1024]⟩
abbrev S8x256x1024 : Shape := ⟨3, ![8, 256, 1024]⟩
abbrev S8x128 : Shape := ⟨2, ![8, 128]⟩
abbrev S1x256x1024 : Shape := ⟨3, ![1, 256, 1024]⟩

abbrev nBuf : Space → Nat
  | .hbm => 9
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S256x1024, .f32⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S256x1024 : Shape := ⟨2, ![256, 1024]⟩
abbrev S8x256x1024 : Shape := ⟨3, ![8, 256, 1024]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S8x256x1024, .bf16⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S8x256x1024, .f32⟩
  | .hbm, ⟨6, _⟩ => ⟨S_, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel27.lean ====
abbrev S1024x324 : Shape := ⟨2, ![1024, 324]⟩
abbrev S8x1024x324 : Shape := ⟨3, ![8, 1024, 324]⟩
abbrev S8x128 : Shape := ⟨2, ![8, 128]⟩
abbrev S256x324 : Shape := ⟨2, ![256, 324]⟩
abbrev S8x256x324 : Shape := ⟨3, ![8, 256, 324]⟩
abbrev S1x256x324 : Shape := ⟨3, ![1, 256, 324]⟩

abbrev nBuf : Space → Nat
  | .hbm => 9
  | .vmem => 16
  | .smem => 0
  | _ => 0

abbrev bufTy : (tb : Table) → Fin (tcTables nBuf tb) → BufTy
  | .hbm, ⟨0, _⟩ => ⟨S1024x324, .f32⟩
  | .hbm, ⟨1, _⟩ => ⟨S8x1024x324, .bf16⟩
  | .hbm, ⟨2, _⟩ => ⟨S1024x324, .f32⟩
  | .hbm, ⟨3, _⟩ => ⟨S1024x324, .f32⟩
  | .hbm, ⟨4, _⟩ => ⟨S8x128, .f32⟩
  | .hbm, ⟨5, _⟩ => ⟨S1024x324, .f32⟩
  | .hbm, ⟨6, _⟩ => ⟨S1024x324, .f32⟩
  | .hbm, ⟨7, _⟩ => ⟨S1024x324, .f32⟩
  | .hbm, ⟨8, _⟩ => ⟨S1024x324, .f32⟩
  | .local _ .vmem, ⟨0, _⟩ => ⟨S256x324, .f32⟩
  | .local _ .vmem, ⟨1, _⟩ => ⟨S256x324, .f32⟩
  | .local _ .vmem, ⟨2, _⟩ => ⟨S8x256x324, .bf16⟩
  | .local _ .vmem, ⟨3, _⟩ => ⟨S8x256x324, .bf16⟩
  | .local _ .vmem, ⟨4, _⟩ => ⟨S256x324, .f32⟩
  | .local _ .vmem, ⟨5, _⟩ => ⟨S256x324, .f32⟩
  | .local _ .vmem, ⟨6, _⟩ => ⟨S256x324, .f32⟩
  | .local _ .vmem, ⟨7, _⟩ => ⟨S256x324, .f32⟩
  | .local _ .vmem, ⟨8, _⟩ => ⟨S256x324, .f32⟩
  | .local _ .vmem, ⟨9, _⟩ => ⟨S256x324, .f32⟩
  | .local _ .vmem, ⟨10, _⟩ => ⟨S256x324, .f32⟩
  | .local _ .vmem, ⟨11, _⟩ => ⟨S256x324, .f32⟩
  | .local _ .vmem, ⟨12, _⟩ => ⟨S256x324, .f32⟩
  | .local _ .vmem, ⟨13, _⟩ => ⟨S256x324, .f32⟩
  | .local _ .vmem, ⟨14, _⟩ => ⟨S256x324, .f32⟩
  | .local _ .vmem, ⟨15, _⟩ => ⟨S256x324, .f32⟩
  | _, _ => ⟨S1024x324, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let v0 : BitVec 32 := Scalar.divsi arg0 c4_i32
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let v18 : BitVec 32 := Scalar.extui v17
  let c0_i32_5 : BitVec 32 := 0#32
  let v19 : BitVec 1 := Scalar.cmpi .ne v18 c0_i32_5
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x324 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x324 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x324 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x324 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x324 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x324 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x324 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x324 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S1024x324 : Shape := ⟨2, ![1024, 324]⟩
abbrev S8x1024x324 : Shape := ⟨3, ![8, 1024, 324]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S1024x324, .f32⟩
  | .hbm, ⟨1, _⟩ => ⟨S8x1024x324, .bf16⟩
  | .hbm, ⟨2, _⟩ => ⟨S1024x324, .f32⟩
  | .hbm, ⟨3, _⟩ => ⟨S1024x324, .f32⟩
  | .hbm, ⟨4, _⟩ => ⟨S8x128, .f32⟩
  | .hbm, ⟨5, _⟩ => ⟨S8x1024x324, .f32⟩
  | .hbm, ⟨6, _⟩ => ⟨S_, .f32⟩
  | .hbm, ⟨7, _⟩ => ⟨S1024x324, .f32⟩
  | .hbm, ⟨8, _⟩ => ⟨S_, .f32⟩
  | .hbm, ⟨9, _⟩ => ⟨S1024x324, .f32⟩
  | .hbm, ⟨10, _⟩ => ⟨S1024x324, .f32⟩
  | .hbm, ⟨11, _⟩ => ⟨S_, .f32⟩
  | .hbm, ⟨12, _⟩ => ⟨S1024x324, .f32⟩
  | .hbm, ⟨13, _⟩ => ⟨S1024x324, .f32⟩
  | .hbm, ⟨14, _⟩ => ⟨S1024x324, .f32⟩
  | .hbm, ⟨15, _⟩ => ⟨S_, .f32⟩
  | .hbm, ⟨16, _⟩ => ⟨S1024x324, .f32⟩
  | .hbm, ⟨17, _⟩ => ⟨S1024x324, .f32⟩
  | .hbm, ⟨18, _⟩ => ⟨S1024x324, .f32⟩
  | .hbm, ⟨19, _⟩ => ⟨S_, .f32⟩
  | .hbm, ⟨20, _⟩ => ⟨S1024x324, .f32⟩
  | .hbm, ⟨21, _⟩ => ⟨S1024x324, .f32⟩
  | .hbm, ⟨22, _⟩ => ⟨S1024x324, .f32⟩
  | .hbm, ⟨23, _⟩ => ⟨S_, .f32⟩
  | .hbm, ⟨24, _⟩ => ⟨S1024x324, .f32⟩
  | .hbm, ⟨25, _⟩ => ⟨S1024x324, .f32⟩
  | .hbm, ⟨26, _⟩ => ⟨S_, .f32⟩
  | .hbm, ⟨27, _⟩ => ⟨S1024x324, .f32⟩
  | .hbm, ⟨28, _⟩ => ⟨S1024x324, .f32⟩
  | .hbm, ⟨29, _⟩ => ⟨S1024x324, .f32⟩
  | .hbm, ⟨30, _⟩ => ⟨S_, .f32⟩
  | .hbm, ⟨31, _⟩ => ⟨S1024x324, .f32⟩
  | .hbm, ⟨32, _⟩ => ⟨S1024x324, .f32⟩
  | .hbm, ⟨33, _⟩ => ⟨S1024x324, .f32⟩
  | .hbm, ⟨34, _⟩ => ⟨S_, .f32⟩
  | .hbm, ⟨35, _⟩ => ⟨S1024x324, .f32⟩
  | .hbm, ⟨36, _⟩ => ⟨S1024x324, .f32⟩
  | .hbm, ⟨37, _⟩ => ⟨S1024x324, .f32⟩
  | .hbm, ⟨38, _⟩ => ⟨S_, .f32⟩
  | .hbm, ⟨39, _⟩ => ⟨S1024x324, .f32⟩
  | .hbm, ⟨40, _⟩ => ⟨S1024x324, .f32⟩
  | _, _ => ⟨S1024x324, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel28.lean ====
abbrev S128x1024 : Shape := ⟨2, ![128, 1024]⟩
abbrev S8x128x1024 : Shape := ⟨3, ![8, 128, 1024]⟩
abbrev S8x128 : Shape := ⟨2, ![8, 128]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S128x1024, .f32⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S128x1024 : Shape := ⟨2, ![128, 1024]⟩
abbrev S8x128x1024 : Shape := ⟨3, ![8, 128, 1024]⟩
abbrev S8x128 : Shape := ⟨2, ![8, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x128x1024, .bf16⟩
  | .hbm, ⟨2, _⟩ => ⟨S128x1024, .f32⟩
  | .hbm, ⟨3, _⟩ => ⟨S128x1024, .f32⟩
  | .hbm, ⟨4, _⟩ => ⟨S8x128, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S_, .f32⟩
  | .hbm, ⟨12, _⟩ => ⟨S128x1024, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel29.lean ====
abbrev S1024 : Shape := ⟨1, ![1024]⟩
abbrev S2x6144 : Shape := ⟨2, ![2, 6144]⟩
abbrev S2x2x128 : Shape := ⟨3, ![2, 2, 128]⟩
abbrev S1x2x16x32 : Shape := ⟨4, ![1, 2, 16, 32]⟩
abbrev S1x2x32 : Shape := ⟨3, ![1, 2, 32]⟩
abbrev S1x512 : Shape := ⟨2, ![1, 512]⟩
abbrev S1x4x128x128 : Shape := ⟨4, ![1, 4, 128, 128]⟩
abbrev S1x4x128 : Shape := ⟨3, ![1, 4, 128]⟩
abbrev S1x5x384 : Shape := ⟨3, ![1, 5, 384]⟩
abbrev S1x384 : Shape := ⟨2, ![1, 384]⟩
abbrev S1x32 : Shape := ⟨2, ![1, 32]⟩
abbrev S1x256 : Shape := ⟨2, ![1, 256]⟩
abbrev S8x128 : Shape := ⟨2, ![8, 128]⟩
abbrev S12288 : Shape := ⟨1, ![12288]⟩
abbrev S512 : Shape := ⟨1, ![512]⟩
abbrev S64 : Shape := ⟨1, ![64]⟩
abbrev S65536 : Shape := ⟨1, ![65536]⟩
abbrev S1920 : Shape := ⟨1, ![1920]⟩
abbrev S384 : Shape := ⟨1, ![384]⟩
abbrev S32 : Shape := ⟨1, ![32]⟩
abbrev S256 : Shape := ⟨1, ![256]⟩
abbrev S85728 : Shape := ⟨1, ![85728]⟩
abbrev S_ : Shape := ⟨0, ![]⟩
abbrev S90112 : Shape := ⟨1, ![90112]⟩
abbrev S88x1024 : Shape := ⟨2, ![88, 1024]⟩
abbrev S1x88x1024 : Shape := ⟨3, ![1, 88, 1024]⟩

abbrev nBuf : Space → Nat
  | .hbm => 146
  | .vmem => 8
  | .smem => 0
  | _ => 0

abbrev hbmTy0_0 (i : Nat) : BufTy := match i % 128 with
  | 0 => ⟨S1024, .f32⟩
  | 1 => ⟨S2x6144, .f32⟩
  | 2 => ⟨S2x2x128, .f32⟩
  | 3 => ⟨S1x2x16x32, .f32⟩
  | 4 => ⟨S1x2x32, .f32⟩
  | 5 => ⟨S1x512, .f32⟩
  | 6 => ⟨S1x512, .f32⟩
  | 7 => ⟨S1x4x128x128, .f32⟩
  | 8 => ⟨S1x4x128, .f32⟩
  | 9 => ⟨S1x5x384, .f32⟩
  | 10 => ⟨S1x384, .f32⟩
  | 11 => ⟨S1x2x32, .f32⟩
  | 12 => ⟨S1x2x32, .f32⟩
  | 13 => ⟨S1x32, .f32⟩
  | 14 => ⟨S1x256, .f32⟩
  | 15 => ⟨S1024, .f32⟩
  | 16 => ⟨S1024, .f32⟩
  | 17 => ⟨S2x6144, .f32⟩
  | 18 => ⟨S2x2x128, .f32⟩
  | 19 => ⟨S1x2x16x32, .f32⟩
  | 20 => ⟨S1x2x32, .f32⟩
  | 21 => ⟨S1x512, .f32⟩
  | 22 => ⟨S1x512, .f32⟩
  | 23 => ⟨S1x4x128x128, .f32⟩
  | 24 => ⟨S1x4x128, .f32⟩
  | 25 => ⟨S1x5x384, .f32⟩
  | 26 => ⟨S1x384, .f32⟩
  | 27 => ⟨S1x2x32, .f32⟩
  | 28 => ⟨S1x2x32, .f32⟩
  | 29 => ⟨S1x32, .f32⟩
  | 30 => ⟨S1x256, .f32⟩
  | 31 => ⟨S1024, .f32⟩
  | 32 => ⟨S1024, .f32⟩
  | 33 => ⟨S2x6144, .f32⟩
  | 34 => ⟨S2x2x128, .f32⟩
  | 35 => ⟨S1x2x16x32, .f32⟩
  | 36 => ⟨S1x2x32, .f32⟩
  | 37 => ⟨S1x512, .f32⟩
  | 38 => ⟨S1x512, .f32⟩
  | 39 => ⟨S1x4x128x128, .f32⟩
  | 40 => ⟨S1x4x128, .f32⟩
  | 41 => ⟨S1x5x384, .f32⟩
  | 42 => ⟨S1x384, .f32⟩
  | 43 => ⟨S1x2x32, .f32⟩
  | 44 => ⟨S1x2x32, .f32⟩
  | 45 => ⟨S1x32, .f32⟩
  | 46 => ⟨S1x256, .f32⟩
  | 47 => ⟨S1024, .f32⟩
  | 48 => ⟨S1024, .f32⟩
  | 49 => ⟨S2x6144, .f32⟩
  | 50 => ⟨S2x2x128, .f32⟩
  | 51 => ⟨S1x2x16x32, .f32⟩
  | 52 => ⟨S1x2x32, .f32⟩
  | 53 => ⟨S1x512, .f32⟩
  | 54 => ⟨S1x512, .f32⟩
  | 55 => ⟨S1x4x128x128, .f32⟩
  | 56 => ⟨S1x4x128, .f32⟩
  | 57 => ⟨S1x5x384, .f32⟩
  | 58 => ⟨S1x384, .f32⟩
  | 59 => ⟨S1x2x32, .f32⟩
  | 60 => ⟨S1x2x32, .f32⟩
  | 61 => ⟨S1x32, .f32⟩
  | 62 => ⟨S1x256, .f32⟩
  | 63 => ⟨S1024, .f32⟩
  | 64 => ⟨S8x128, .f32⟩
  | 65 => ⟨S12288, .f32⟩
  | 66 => ⟨S512, .f32⟩
  | 67 => ⟨S1024, .f32⟩
  | 68 => ⟨S64, .f32⟩
  | 69 => ⟨S512, .f32⟩
  | 70 => ⟨S512, .f32⟩
  | 71 => ⟨S65536, .f32⟩
  | 72 => ⟨S512, .f32⟩
  | 73 => ⟨S1920, .f32⟩
  | 74 => ⟨S384, .f32⟩
  | 75 => ⟨S64, .f32⟩
  | 76 => ⟨S64, .f32⟩
  | 77 => ⟨S32, .f32⟩
  | 78 => ⟨S256, .f32⟩
  | 79 => ⟨S85728, .f32⟩
  | 80 => ⟨S_, .i32⟩
  | 81 => ⟨S_, .f32⟩
  | 82 => ⟨S90112, .f32⟩
  | 83 => ⟨S88x1024, .f32⟩
  | 84 => ⟨S12288, .f32⟩
  | 85 => ⟨S512, .f32⟩
  | 86 => ⟨S1024, .f32⟩
  | 87 => ⟨S64, .f32⟩
  | 88 => ⟨S512, .f32⟩
  | 89 => ⟨S512, .f32⟩
  | 90 => ⟨S65536, .f32⟩
  | 91 => ⟨S512, .f32⟩
  | 92 => ⟨S1920, .f32⟩
  | 93 => ⟨S384, .f32⟩
  | 94 => ⟨S64, .f32⟩
  | 95 => ⟨S64, .f32⟩
  | 96 => ⟨S32, .f32⟩
  | 97 => ⟨S256, .f32⟩
  | 98 => ⟨S85728, .f32⟩
  | 99 => ⟨S_, .i32⟩
  | 100 => ⟨S_, .f32⟩
  | 101 => ⟨S90112, .f32⟩
  | 102 => ⟨S88x1024, .f32⟩
  | 103 => ⟨S1x88x1024, .f32⟩
  | 104 => ⟨S12288, .f32⟩
  | 105 => ⟨S512, .f32⟩
  | 106 => ⟨S1024, .f32⟩
  | 107 => ⟨S64, .f32⟩
  | 108 => ⟨S512, .f32⟩
  | 109 => ⟨S512, .f32⟩
  | 110 => ⟨S65536, .f32⟩
  | 111 => ⟨S512, .f32⟩
  | 112 => ⟨S1920, .f32⟩
  | 113 => ⟨S384, .f32⟩
  | 114 => ⟨S64, .f32⟩
  | 115 => ⟨S64, .f32⟩
  | 116 => ⟨S32, .f32⟩
  | 117 => ⟨S256, .f32⟩
  | 118 => ⟨S85728, .f32⟩
  | 119 => ⟨S_, .i32⟩
  | 120 => ⟨S_, .f32⟩
  | 121 => ⟨S90112, .f32⟩
  | 122 => ⟨S88x1024, .f32⟩
  | 123 => ⟨S12288, .f32⟩
  | 124 => ⟨S512, .f32⟩
  | 125 => ⟨S1024, .f32⟩
  | 126 => ⟨S64, .f32⟩
  | 127 => ⟨S512, .f32⟩
  | _ => ⟨S1024, .f32⟩

abbrev hbmTy0_1 (i : Nat) : BufTy := match i % 128 with
  | 0 => ⟨S512, .f32⟩
  | 1 => ⟨S65536, .f32⟩
  | 2 => ⟨S512, .f32⟩
  | 3 => ⟨S1920, .f32⟩
  | 4 => ⟨S384, .f32⟩
  | 5 => ⟨S64, .f32⟩
  | 6 => ⟨S64, .f32⟩
  | 7 => ⟨S32, .f32⟩
  | 8 => ⟨S256, .f32⟩
  | 9 => ⟨S85728, .f32⟩
  | 10 => ⟨S_, .i32⟩
  | 11 => ⟨S_, .f32⟩
  | 12 => ⟨S90112, .f32⟩
  | 13 => ⟨S88x1024, .f32⟩
  | 14 => ⟨S88x1024, .f32⟩
  | 15 => ⟨S88x1024, .f32⟩
  | 16 => ⟨S88x1024, .f32⟩
  | 17 => ⟨S88x1024, .f32⟩
  | _ => ⟨S1024, .f32⟩

abbrev hbmTy (i : Nat) : BufTy := match i / 128 with
  | 0 => hbmTy0_0 i
  | 1 => hbmTy0_1 i
  | _ => ⟨S1024, .f32⟩

abbrev bufTy : (tb : Table) → Fin (tcTables nBuf tb) → BufTy
  | .hbm, ⟨i, _⟩ => hbmTy i
  | .local _ .vmem, ⟨0, _⟩ => ⟨S88x1024, .f32⟩
  | .local _ .vmem, ⟨1, _⟩ => ⟨S1x88x1024, .f32⟩
  | .local _ .vmem, ⟨2, _⟩ => ⟨S88x1024, .f32⟩
  | .local _ .vmem, ⟨3, _⟩ => ⟨S88x1024, .f32⟩
  | .local _ .vmem, ⟨4, _⟩ => ⟨S88x1024, .f32⟩
  | .local _ .vmem, ⟨5, _⟩ => ⟨S88x1024, .f32⟩
  | .local _ .vmem, ⟨6, _⟩ => ⟨S88x1024, .f32⟩
  | .local _ .vmem, ⟨7, _⟩ => ⟨S88x1024, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_v0 : Ref sig .tc := ⟨.hbm, 65, rfl⟩
abbrev main_v1 : Ref sig .tc := ⟨.hbm, 66, rfl⟩
abbrev main_v2 : Ref sig .tc := ⟨.hbm, 67, rfl⟩
abbrev main_v3 : Ref sig .tc := ⟨.hbm, 68, rfl⟩
abbrev main_v4 : Ref sig .tc := ⟨.hbm, 69, rfl⟩
abbrev main_v5 : Ref sig .tc := ⟨.hbm, 70, rfl⟩
abbrev main_v6 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_v10 : Ref sig .tc := ⟨.hbm, 75, rfl⟩
abbrev main_v11 : Ref sig .tc := ⟨.hbm, 76, rfl⟩
abbrev main_v12 : Ref sig .tc := ⟨.hbm, 77, rfl⟩
abbrev main_v13 : Ref sig .tc := ⟨.hbm, 78, rfl⟩
abbrev main_v14 : Ref sig .tc := ⟨.hbm, 79, rfl⟩
abbrev main_c : Ref sig .tc := ⟨.hbm, 80, rfl⟩
abbrev main_call0_v0 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_v23 : Ref sig .tc := ⟨.hbm, 90, rfl⟩
abbrev main_v24 : Ref sig .tc := ⟨.hbm, 91, rfl⟩
abbrev main_v25 : Ref sig .tc := ⟨.hbm, 92, rfl⟩
abbrev main_v26 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_c_0 : Ref sig .tc := ⟨.hbm, 99, rfl⟩
abbrev main_call1_v0 : Ref sig .tc := ⟨.hbm, 100, rfl⟩
abbrev main_v32 : Ref sig .tc := ⟨.hbm, 101, rfl⟩
abbrev main_v33 : Ref sig .tc := ⟨.hbm, 102, rfl⟩
abbrev main_v34 : Ref sig .tc := ⟨.hbm, 103, rfl⟩
abbrev main_v35 : Ref sig .tc := ⟨.hbm, 104, rfl⟩
abbrev main_v36 : Ref sig .tc := ⟨.hbm, 105, rfl⟩
abbrev main_v37 : Ref sig .tc := ⟨.hbm, 106, rfl⟩
abbrev main_v38 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_v42 : Ref sig .tc := ⟨.hbm, 111, rfl⟩
abbrev main_v43 : Ref sig .tc := ⟨.hbm, 112, rfl⟩
abbrev main_v44 : Ref sig .tc := ⟨.hbm, 113, rfl⟩
abbrev main_v45 : Ref sig .tc := ⟨.hbm, 114, rfl⟩
abbrev main_v46 : Ref sig .tc := ⟨.hbm, 115, rfl⟩
abbrev main_v47 : Ref sig .tc := ⟨.hbm, 116, rfl⟩
abbrev main_v48 : Ref sig .tc := ⟨.hbm, 117, rfl⟩
abbrev main_v49 : Ref sig .tc := ⟨.hbm, 118, rfl⟩
abbrev main_c_1 : Ref sig .tc := ⟨.hbm, 119, rfl⟩
abbrev main_call2_v0 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_c_2 : Ref sig .tc := ⟨.hbm, 138, rfl⟩
abbrev main_call3_v0 : Ref sig .tc := ⟨.hbm, 139, rfl⟩
abbrev main_v67 : Ref sig .tc := ⟨.hbm, 140, rfl⟩
abbrev main_v68 : Ref sig .tc := ⟨.hbm, 141, rfl⟩
abbrev main_v69_0 : Ref sig .tc := ⟨.hbm, 142, rfl⟩
abbrev main_v69_1 : Ref sig .tc := ⟨.hbm, 143, rfl⟩
abbrev main_v69_2 : Ref sig .tc := ⟨.hbm, 144, rfl⟩
abbrev main_v69_3 : Ref sig .tc := ⟨.hbm, 145, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let v0 : BitVec 32 := Scalar.divsi arg0 c1_i32
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let v18 : BitVec 32 := Scalar.extui v17
  let c0_i32_6 : BitVec 32 := 0#32
  let v19 : BitVec 1 := Scalar.cmpi .ne v18 c0_i32_6
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S88x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x88x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S88x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S88x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S88x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S88x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S88x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S88x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S1024 : Shape := ⟨1, ![1024]⟩
abbrev S2x6144 : Shape := ⟨2, ![2, 6144]⟩
abbrev S2x2x128 : Shape := ⟨3, ![2, 2, 128]⟩
abbrev S1x2x16x32 : Shape := ⟨4, ![1, 2, 16, 32]⟩
abbrev S1x2x32 : Shape := ⟨3, ![1, 2, 32]⟩
abbrev S1x512 : Shape := ⟨2, ![1, 512]⟩
abbrev S1x4x128x128 : Shape := ⟨4, ![1, 4, 128, 128]⟩
abbrev S1x4x128 : Shape := ⟨3, ![1, 4, 128]⟩
abbrev S1x5x384 : Shape := ⟨3, ![1, 5, 384]⟩
abbrev S1x384 : Shape := ⟨2, ![1, 384]⟩
abbrev S1x32 : Shape := ⟨2, ![1, 32]⟩
abbrev S1x256 : Shape := ⟨2, ![1, 256]⟩
abbrev S8x128 : Shape := ⟨2, ![8, 128]⟩
abbrev S_ : Shape := ⟨0, ![]⟩
abbrev S12288 : Shape := ⟨1, ![12288]⟩
abbrev S512 : Shape := ⟨1, ![512]⟩
abbrev S64 : Shape := ⟨1, ![64]⟩
abbrev S65536 : Shape := ⟨1, ![65536]⟩
abbrev S1920 : Shape := ⟨1, ![1920]⟩
abbrev S384 : Shape := ⟨1, ![384]⟩
abbrev S32 : Shape := ⟨1, ![32]⟩
abbrev S256 : Shape := ⟨1, ![256]⟩
abbrev S85728 : Shape := ⟨1, ![85728]⟩
abbrev S4384 : Shape := ⟨1, ![4384]⟩
abbrev S90112 : Shape := ⟨1, ![90112]⟩
abbrev S88x1024 : Shape := ⟨2, ![88, 1024]⟩

abbrev nBuf : Space → Nat
  | .hbm => 669
  | .vmem => 0
  | .smem => 0
  | _ => 0

abbrev hbmTy0_0 (i : Nat) : BufTy := match i % 128 with
  | 0 => ⟨S1024, .f32⟩
  | 1 => ⟨S2x6144, .f32⟩
  | 2 => ⟨S2x2x128, .f32⟩
  | 3 => ⟨S1x2x16x32, .f32⟩
  | 4 => ⟨S1x2x32, .f32⟩
  | 5 => ⟨S1x512, .f32⟩
  | 6 => ⟨S1x512, .f32⟩
  | 7 => ⟨S1x4x128x128, .f32⟩
  | 8 => ⟨S1x4x128, .f32⟩
  | 9 => ⟨S1x5x384, .f32⟩
  | 10 => ⟨S1x384, .f32⟩
  | 11 => ⟨S1x2x32, .f32⟩
  | 12 => ⟨S1x2x32, .f32⟩
  | 13 => ⟨S1x32, .f32⟩
  | 14 => ⟨S1x256, .f32⟩
  | 15 => ⟨S1024, .f32⟩
  | 16 => ⟨S1024, .f32⟩
  | 17 => ⟨S2x6144, .f32⟩
  | 18 => ⟨S2x2x128, .f32⟩
  | 19 => ⟨S1x2x16x32, .f32⟩
  | 20 => ⟨S1x2x32, .f32⟩
  | 21 => ⟨S1x512, .f32⟩
  | 22 => ⟨S1x512, .f32⟩
  | 23 => ⟨S1x4x128x128, .f32⟩
  | 24 => ⟨S1x4x128, .f32⟩
  | 25 => ⟨S1x5x384, .f32⟩
  | 26 => ⟨S1x384, .f32⟩
  | 27 => ⟨S1x2x32, .f32⟩
  | 28 => ⟨S1x2x32, .f32⟩
  | 29 => ⟨S1x32, .f32⟩
  | 30 => ⟨S1x256, .f32⟩
  | 31 => ⟨S1024, .f32⟩
  | 32 => ⟨S1024, .f32⟩
  | 33 => ⟨S2x6144, .f32⟩
  | 34 => ⟨S2x2x128, .f32⟩
  | 35 => ⟨S1x2x16x32, .f32⟩
  | 36 => ⟨S1x2x32, .f32⟩
  | 37 => ⟨S1x512, .f32⟩
  | 38 => ⟨S1x512, .f32⟩
  | 39 => ⟨S1x4x128x128, .f32⟩
  | 40 => ⟨S1x4x128, .f32⟩
  | 41 => ⟨S1x5x384, .f32⟩
  | 42 => ⟨S1x384, .f32⟩
  | 43 => ⟨S1x2x32, .f32⟩
  | 44 => ⟨S1x2x32, .f32⟩
  | 45 => ⟨S1x32, .f32⟩
  | 46 => ⟨S1x256, .f32⟩
  | 47 => ⟨S1024, .f32⟩
  | 48 => ⟨S1024, .f32⟩
  | 49 => ⟨S2x6144, .f32⟩
  | 50 => ⟨S2x2x128, .f32⟩
  | 51 => ⟨S1x2x16x32, .f32⟩
  | 52 => ⟨S1x2x32, .f32⟩
  | 53 => ⟨S1x512, .f32⟩
  | 54 => ⟨S1x512, .f32⟩
  | 55 => ⟨S1x4x128x128, .f32⟩
  | 56 => ⟨S1x4x128, .f32⟩
  | 57 => ⟨S1x5x384, .f32⟩
  | 58 => ⟨S1x384, .f32⟩
  | 59 => ⟨S1x2x32, .f32⟩
  | 60 => ⟨S1x2x32, .f32⟩
  | 61 => ⟨S1x32, .f32⟩
  | 62 => ⟨S1x256, .f32⟩
  | 63 => ⟨S1024, .f32⟩
  | 64 => ⟨S8x128, .f32⟩
  | 65 => ⟨S_, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S_, .f32⟩
  | 73 => ⟨S1024, .f32⟩
  | 74 => ⟨S1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S_, .f32⟩
  | 81 => ⟨S1024, .f32⟩
  | 82 => ⟨S1024, .f32⟩
  | 83 => ⟨S_, .f32⟩
  | 84 => ⟨S1024, .f32⟩
  | 85 => ⟨S1024, .f32⟩
  | 86 => ⟨S1024, .f32⟩
  | 87 => ⟨S_, .f32⟩
  | 88 => ⟨S1024, .f32⟩
  | 89 => ⟨S1024, .f32⟩
  | 90 => ⟨S1024, .f32⟩
  | 91 => ⟨S_, .f32⟩
  | 92 => ⟨S1024, .f32⟩
  | 93 => ⟨S1024, .f32⟩
  | 94 => ⟨S1024, .f32⟩
  | 95 => ⟨S_, .f32⟩
  | 96 => ⟨S1024, .f32⟩
  | 97 => ⟨S1024, .f32⟩
  | 98 => ⟨S_, .f32⟩
  | 99 => ⟨S2x6144, .f32⟩
  | 100 => ⟨S2x6144, .f32⟩
  | 101 => ⟨S_, .f32⟩
  | 102 => ⟨S2x6144, .f32⟩
  | 103 => ⟨S2x6144, .f32⟩
  | 104 => ⟨S2x6144, .f32⟩
  | 105 => ⟨S_, .f32⟩
  | 106 => ⟨S2x6144, .f32⟩
  | 107 => ⟨S2x6144, .f32⟩
  | 108 => ⟨S2x6144, .f32⟩
  | 109 => ⟨S_, .f32⟩
  | 110 => ⟨S2x6144, .f32⟩
  | 111 => ⟨S2x6144, .f32⟩
  | 112 => ⟨S2x6144, .f32⟩
  | 113 => ⟨S_, .f32⟩
  | 114 => ⟨S2x6144, .f32⟩
  | 115 => ⟨S2x6144, .f32⟩
  | 116 => ⟨S_, .f32⟩
  | 117 => ⟨S2x6144, .f32⟩
  | 118 => ⟨S2x6144, .f32⟩
  | 119 => ⟨S2x6144, .f32⟩
  | 120 => ⟨S_, .f32⟩
  | 121 => ⟨S2x6144, .f32⟩
  | 122 => ⟨S2x6144, .f32⟩
  | 123 => ⟨S2x6144, .f32⟩
  | 124 => ⟨S_, .f32⟩
  | 125 => ⟨S2x6144, .f32⟩
  | 126 => ⟨S2x6144, .f32⟩
  | 127 => ⟨S2x6144, .f32⟩
  | _ => ⟨S1024, .f32⟩

abbrev hbmTy0_1 (i : Nat) : BufTy := match i % 128 with
  | 0 => ⟨S_, .f32⟩
  | 1 => ⟨S2x6144, .f32⟩
  | 2 => ⟨S2x6144, .f32⟩
  | 3 => ⟨S_, .f32⟩
  | 4 => ⟨S2x2x128, .f32⟩
  | 5 => ⟨S2x2x128, .f32⟩
  | 6 => ⟨S_, .f32⟩
  | 7 => ⟨S2x2x128, .f32⟩
  | 8 => ⟨S2x2x128, .f32⟩
  | 9 => ⟨S2x2x128, .f32⟩
  | 10 => ⟨S_, .f32⟩
  | 11 => ⟨S2x2x128, .f32⟩
  | 12 => ⟨S2x2x128, .f32⟩
  | 13 => ⟨S2x2x128, .f32⟩
  | 14 => ⟨S_, .f32⟩
  | 15 => ⟨S2x2x128, .f32⟩
  | 16 => ⟨S2x2x128, .f32⟩
  | 17 => ⟨S2x2x128, .f32⟩
  | 18 => ⟨S_, .f32⟩
  | 19 => ⟨S2x2x128, .f32⟩
  | 20 => ⟨S2x2x128, .f32⟩
  | 21 => ⟨S_, .f32⟩
  | 22 => ⟨S2x2x128, .f32⟩
  | 23 => ⟨S2x2x128, .f32⟩
  | 24 => ⟨S2x2x128, .f32⟩
  | 25 => ⟨S_, .f32⟩
  | 26 => ⟨S2x2x128, .f32⟩
  | 27 => ⟨S2x2x128, .f32⟩
  | 28 => ⟨S2x2x128, .f32⟩
  | 29 => ⟨S_, .f32⟩
  | 30 => ⟨S2x2x128, .f32⟩
  | 31 => ⟨S2x2x128, .f32⟩
  | 32 => ⟨S2x2x128, .f32⟩
  | 33 => ⟨S_, .f32⟩
  | 34 => ⟨S2x2x128, .f32⟩
  | 35 => ⟨S2x2x128, .f32⟩
  | 36 => ⟨S_, .f32⟩
  | 37 => ⟨S1x2x16x32, .f32⟩
  | 38 => ⟨S1x2x16x32, .f32⟩
  | 39 => ⟨S_, .f32⟩
  | 40 => ⟨S1x2x16x32, .f32⟩
  | 41 => ⟨S1x2x16x32, .f32⟩
  | 42 => ⟨S1x2x16x32, .f32⟩
  | 43 => ⟨S_, .f32⟩
  | 44 => ⟨S1x2x16x32, .f32⟩
  | 45 => ⟨S1x2x16x32, .f32⟩
  | 46 => ⟨S1x2x16x32, .f32⟩
  | 47 => ⟨S_, .f32⟩
  | 48 => ⟨S1x2x16x32, .f32⟩
  | 49 => ⟨S1x2x16x32, .f32⟩
  | 50 => ⟨S1x2x16x32, .f32⟩
  | 51 => ⟨S_, .f32⟩
  | 52 => ⟨S1x2x16x32, .f32⟩
  | 53 => ⟨S1x2x16x32, .f32⟩
  | 54 => ⟨S_, .f32⟩
  | 55 => ⟨S1x2x16x32, .f32⟩
  | 56 => ⟨S1x2x16x32, .f32⟩
  | 57 => ⟨S1x2x16x32, .f32⟩
  | 58 => ⟨S_, .f32⟩
  | 59 => ⟨S1x2x16x32, .f32⟩
  | 60 => ⟨S1x2x16x32, .f32⟩
  | 61 => ⟨S1x2x16x32, .f32⟩
  | 62 => ⟨S_, .f32⟩
  | 63 => ⟨S1x2x16x32, .f32⟩
  | 64 => ⟨S1x2x16x32, .f32⟩
  | 65 => ⟨S1x2x16x32, .f32⟩
  | 66 => ⟨S_, .f32⟩
  | 67 => ⟨S1x2x16x32, .f32⟩
  | 68 => ⟨S1x2x16x32, .f32⟩
  | 69 => ⟨S_, .f32⟩
  | 70 => ⟨S1x2x32, .f32⟩
  | 71 => ⟨S1x2x32, .f32⟩
  | 72 => ⟨S_, .f32⟩
  | 73 => ⟨S1x2x32, .f32⟩
  | 74 => ⟨S1x2x32, .f32⟩
  | 75 => ⟨S1x2x32, .f32⟩
  | 76 => ⟨S_, .f32⟩
  | 77 => ⟨S1x2x32, .f32⟩
  | 78 => ⟨S1x2x32, .f32⟩
  | 79 => ⟨S1x2x32, .f32⟩
  | 80 => ⟨S_, .f32⟩
  | 81 => ⟨S1x2x32, .f32⟩
  | 82 => ⟨S1x2x32, .f32⟩
  | 83 => ⟨S1x2x32, .f32⟩
  | 84 => ⟨S_, .f32⟩
  | 85 => ⟨S1x2x32, .f32⟩
  | 86 => ⟨S1x2x32, .f32⟩
  | 87 => ⟨S_, .f32⟩
  | 88 => ⟨S1x2x32, .f32⟩
  | 89 => ⟨S1x2x32, .f32⟩
  | 90 => ⟨S1x2x32, .f32⟩
  | 91 => ⟨S_, .f32⟩
  | 92 => ⟨S1x2x32, .f32⟩
  | 93 => ⟨S1x2x32, .f32⟩
  | 94 => ⟨S1x2x32, .f32⟩
  | 95 => ⟨S_, .f32⟩
  | 96 => ⟨S1x2x32, .f32⟩
  | 97 => ⟨S1x2x32, .f32⟩
  | 98 => ⟨S1x2x32, .f32⟩
  | 99 => ⟨S_, .f32⟩
  | 100 => ⟨S1x2x32, .f32⟩
  | 101 => ⟨S1x2x32, .f32⟩
  | 102 => ⟨S_, .f32⟩
  | 103 => ⟨S1x512, .f32⟩
  | 104 => ⟨S1x512, .f32⟩
  | 105 => ⟨S_, .f32⟩
  | 106 => ⟨S1x512, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S_, .f32⟩
  | 121 => ⟨S1x512, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S1x512, .f32⟩
  | _ => ⟨S1024, .f32⟩

abbrev hbmTy0_2 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S_, .f32⟩
  | 11 => ⟨S1x512, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S_, .f32⟩
  | 26 => ⟨S1x512, .f32⟩
  | 27 => ⟨S1x512, .f32⟩
  | 28 => ⟨S1x512, .f32⟩
  | 29 => ⟨S_, .f32⟩
  | 30 => ⟨S1x512, .f32⟩
  | 31 => ⟨S1x512, .f32⟩
  | 32 => ⟨S1x512, .f32⟩
  | 33 => ⟨S_, .f32⟩
  | 34 => ⟨S1x512, .f32⟩
  | 35 => ⟨S1x512, .f32⟩
  | 36 => ⟨S1x512, .f32⟩
  | 37 => ⟨S_, .f32⟩
  | 38 => ⟨S1x512, .f32⟩
  | 39 => ⟨S1x512, .f32⟩
  | 40 => ⟨S_, .f32⟩
  | 41 => ⟨S1x4x128x128, .f32⟩
  | 42 => ⟨S1x4x128x128, .f32⟩
  | 43 => ⟨S_, .f32⟩
  | 44 => ⟨S1x4x128x128, .f32⟩
  | 45 => ⟨S1x4x128x128, .f32⟩
  | 46 => ⟨S1x4x128x128, .f32⟩
  | 47 => ⟨S_, .f32⟩
  | 48 => ⟨S1x4x128x128, .f32⟩
  | 49 => ⟨S1x4x128x128, .f32⟩
  | 50 => ⟨S1x4x128x128, .f32⟩
  | 51 => ⟨S_, .f32⟩
  | 52 => ⟨S1x4x128x128, .f32⟩
  | 53 => ⟨S1x4x128x128, .f32⟩
  | 54 => ⟨S1x4x128x128, .f32⟩
  | 55 => ⟨S_, .f32⟩
  | 56 => ⟨S1x4x128x128, .f32⟩
  | 57 => ⟨S1x4x128x128, .f32⟩
  | 58 => ⟨S_, .f32⟩
  | 59 => ⟨S1x4x128x128, .f32⟩
  | 60 => ⟨S1x4x128x128, .f32⟩
  | 61 => ⟨S1x4x128x128, .f32⟩
  | 62 => ⟨S_, .f32⟩
  | 63 => ⟨S1x4x128x128, .f32⟩
  | 64 => ⟨S1x4x128x128, .f32⟩
  | 65 => ⟨S1x4x128x128, .f32⟩
  | 66 => ⟨S_, .f32⟩
  | 67 => ⟨S1x4x128x128, .f32⟩
  | 68 => ⟨S1x4x128x128, .f32⟩
  | 69 => ⟨S1x4x128x128, .f32⟩
  | 70 => ⟨S_, .f32⟩
  | 71 => ⟨S1x4x128x128, .f32⟩
  | 72 => ⟨S1x4x128x128, .f32⟩
  | 73 => ⟨S_, .f32⟩
  | 74 => ⟨S1x4x128, .f32⟩
  | 75 => ⟨S1x4x128, .f32⟩
  | 76 => ⟨S_, .f32⟩
  | 77 => ⟨S1x4x128, .f32⟩
  | 78 => ⟨S1x4x128, .f32⟩
  | 79 => ⟨S1x4x128, .f32⟩
  | 80 => ⟨S_, .f32⟩
  | 81 => ⟨S1x4x128, .f32⟩
  | 82 => ⟨S1x4x128, .f32⟩
  | 83 => ⟨S1x4x128, .f32⟩
  | 84 => ⟨S_, .f32⟩
  | 85 => ⟨S1x4x128, .f32⟩
  | 86 => ⟨S1x4x128, .f32⟩
  | 87 => ⟨S1x4x128, .f32⟩
  | 88 => ⟨S_, .f32⟩
  | 89 => ⟨S1x4x128, .f32⟩
  | 90 => ⟨S1x4x128, .f32⟩
  | 91 => ⟨S_, .f32⟩
  | 92 => ⟨S1x4x128, .f32⟩
  | 93 => ⟨S1x4x128, .f32⟩
  | 94 => ⟨S1x4x128, .f32⟩
  | 95 => ⟨S_, .f32⟩
  | 96 => ⟨S1x4x128, .f32⟩
  | 97 => ⟨S1x4x128, .f32⟩
  | 98 => ⟨S1x4x128, .f32⟩
  | 99 => ⟨S_, .f32⟩
  | 100 => ⟨S1x4x128, .f32⟩
  | 101 => ⟨S1x4x128, .f32⟩
  | 102 => ⟨S1x4x128, .f32⟩
  | 103 => ⟨S_, .f32⟩
  | 104 => ⟨S1x4x128, .f32⟩
  | 105 => ⟨S1x4x128, .f32⟩
  | 106 => ⟨S_, .f32⟩
  | 107 => ⟨S1x5x384, .f32⟩
  | 108 => ⟨S1x5x384, .f32⟩
  | 109 => ⟨S_, .f32⟩
  | 110 => ⟨S1x5x384, .f32⟩
  | 111 => ⟨S1x5x384, .f32⟩
  | 112 => ⟨S1x5x384, .f32⟩
  | 113 => ⟨S_, .f32⟩
  | 114 => ⟨S1x5x384, .f32⟩
  | 115 => ⟨S1x5x384, .f32⟩
  | 116 => ⟨S1x5x384, .f32⟩
  | 117 => ⟨S_, .f32⟩
  | 118 => ⟨S1x5x384, .f32⟩
  | 119 => ⟨S1x5x384, .f32⟩
  | 120 => ⟨S1x5x384, .f32⟩
  | 121 => ⟨S_, .f32⟩
  | 122 => ⟨S1x5x384, .f32⟩
  | 123 => ⟨S1x5x384, .f32⟩
  | 124 => ⟨S_, .f32⟩
  | 125 => ⟨S1x5x384, .f32⟩
  | 126 => ⟨S1x5x384, .f32⟩
  | 127 => ⟨S1x5x384, .f32⟩
  | _ => ⟨S1024, .f32⟩

abbrev hbmTy0_3 (i : Nat) : BufTy := match i % 128 with
  | 0 => ⟨S_, .f32⟩
  | 1 => ⟨S1x5x384, .f32⟩
  | 2 => ⟨S1x5x384, .f32⟩
  | 3 => ⟨S1x5x384, .f32⟩
  | 4 => ⟨S_, .f32⟩
  | 5 => ⟨S1x5x384, .f32⟩
  | 6 => ⟨S1x5x384, .f32⟩
  | 7 => ⟨S1x5x384, .f32⟩
  | 8 => ⟨S_, .f32⟩
  | 9 => ⟨S1x5x384, .f32⟩
  | 10 => ⟨S1x5x384, .f32⟩
  | 11 => ⟨S_, .f32⟩
  | 12 => ⟨S1x384, .f32⟩
  | 13 => ⟨S1x384, .f32⟩
  | 14 => ⟨S_, .f32⟩
  | 15 => ⟨S1x384, .f32⟩
  | 16 => ⟨S1x384, .f32⟩
  | 17 => ⟨S1x384, .f32⟩
  | 18 => ⟨S_, .f32⟩
  | 19 => ⟨S1x384, .f32⟩
  | 20 => ⟨S1x384, .f32⟩
  | 21 => ⟨S1x384, .f32⟩
  | 22 => ⟨S_, .f32⟩
  | 23 => ⟨S1x384, .f32⟩
  | 24 => ⟨S1x384, .f32⟩
  | 25 => ⟨S1x384, .f32⟩
  | 26 => ⟨S_, .f32⟩
  | 27 => ⟨S1x384, .f32⟩
  | 28 => ⟨S1x384, .f32⟩
  | 29 => ⟨S_, .f32⟩
  | 30 => ⟨S1x384, .f32⟩
  | 31 => ⟨S1x384, .f32⟩
  | 32 => ⟨S1x384, .f32⟩
  | 33 => ⟨S_, .f32⟩
  | 34 => ⟨S1x384, .f32⟩
  | 35 => ⟨S1x384, .f32⟩
  | 36 => ⟨S1x384, .f32⟩
  | 37 => ⟨S_, .f32⟩
  | 38 => ⟨S1x384, .f32⟩
  | 39 => ⟨S1x384, .f32⟩
  | 40 => ⟨S1x384, .f32⟩
  | 41 => ⟨S_, .f32⟩
  | 42 => ⟨S1x384, .f32⟩
  | 43 => ⟨S1x384, .f32⟩
  | 44 => ⟨S_, .f32⟩
  | 45 => ⟨S1x2x32, .f32⟩
  | 46 => ⟨S1x2x32, .f32⟩
  | 47 => ⟨S_, .f32⟩
  | 48 => ⟨S1x2x32, .f32⟩
  | 49 => ⟨S1x2x32, .f32⟩
  | 50 => ⟨S1x2x32, .f32⟩
  | 51 => ⟨S_, .f32⟩
  | 52 => ⟨S1x2x32, .f32⟩
  | 53 => ⟨S1x2x32, .f32⟩
  | 54 => ⟨S1x2x32, .f32⟩
  | 55 => ⟨S_, .f32⟩
  | 56 => ⟨S1x2x32, .f32⟩
  | 57 => ⟨S1x2x32, .f32⟩
  | 58 => ⟨S1x2x32, .f32⟩
  | 59 => ⟨S_, .f32⟩
  | 60 => ⟨S1x2x32, .f32⟩
  | 61 => ⟨S1x2x32, .f32⟩
  | 62 => ⟨S_, .f32⟩
  | 63 => ⟨S1x2x32, .f32⟩
  | 64 => ⟨S1x2x32, .f32⟩
  | 65 => ⟨S1x2x32, .f32⟩
  | 66 => ⟨S_, .f32⟩
  | 67 => ⟨S1x2x32, .f32⟩
  | 68 => ⟨S1x2x32, .f32⟩
  | 69 => ⟨S1x2x32, .f32⟩
  | 70 => ⟨S_, .f32⟩
  | 71 => ⟨S1x2x32, .f32⟩
  | 72 => ⟨S1x2x32, .f32⟩
  | 73 => ⟨S1x2x32, .f32⟩
  | 74 => ⟨S_, .f32⟩
  | 75 => ⟨S1x2x32, .f32⟩
  | 76 => ⟨S1x2x32, .f32⟩
  | 77 => ⟨S_, .f32⟩
  | 78 => ⟨S1x2x32, .f32⟩
  | 79 => ⟨S1x2x32, .f32⟩
  | 80 => ⟨S_, .f32⟩
  | 81 => ⟨S1x2x32, .f32⟩
  | 82 => ⟨S1x2x32, .f32⟩
  | 83 => ⟨S1x2x32, .f32⟩
  | 84 => ⟨S_, .f32⟩
  | 85 => ⟨S1x2x32, .f32⟩
  | 86 => ⟨S1x2x32, .f32⟩
  | 87 => ⟨S1x2x32, .f32⟩
  | 88 => ⟨S_, .f32⟩
  | 89 => ⟨S1x2x32, .f32⟩
  | 90 => ⟨S1x2x32, .f32⟩
  | 91 => ⟨S1x2x32, .f32⟩
  | 92 => ⟨S_, .f32⟩
  | 93 => ⟨S1x2x32, .f32⟩
  | 94 => ⟨S1x2x32, .f32⟩
  | 95 => ⟨S_, .f32⟩
  | 96 => ⟨S1x2x32, .f32⟩
  | 97 => ⟨S1x2x32, .f32⟩
  | 98 => ⟨S1x2x32, .f32⟩
  | 99 => ⟨S_, .f32⟩
  | 100 => ⟨S1x2x32, .f32⟩
  | 101 => ⟨S1x2x32, .f32⟩
  | 102 => ⟨S1x2x32, .f32⟩
  | 103 => ⟨S_, .f32⟩
  | 104 => ⟨S1x2x32, .f32⟩
  | 105 => ⟨S1x2x32, .f32⟩
  | 106 => ⟨S1x2x32, .f32⟩
  | 107 => ⟨S_, .f32⟩
  | 108 => ⟨S1x2x32, .f32⟩
  | 109 => ⟨S1x2x32, .f32⟩
  | 110 => ⟨S_, .f32⟩
  | 111 => ⟨S1x32, .f32⟩
  | 112 => ⟨S1x32, .f32⟩
  | 113 => ⟨S_, .f32⟩
  | 114 => ⟨S1x32, .f32⟩
  | 115 => ⟨S1x32, .f32⟩
  | 116 => ⟨S1x32, .f32⟩
  | 117 => ⟨S_, .f32⟩
  | 118 => ⟨S1x32, .f32⟩
  | 119 => ⟨S1x32, .f32⟩
  | 120 => ⟨S1x32, .f32⟩
  | 121 => ⟨S_, .f32⟩
  | 122 => ⟨S1x32, .f32⟩
  | 123 => ⟨S1x32, .f32⟩
  | 124 => ⟨S1x32, .f32⟩
  | 125 => ⟨S_, .f32⟩
  | 126 => ⟨S1x32, .f32⟩
  | 127 => ⟨S1x32, .f32⟩
  | _ => ⟨S1024, .f32⟩

abbrev hbmTy0_4 (i : Nat) : BufTy := match i % 128 with
  | 0 => ⟨S_, .f32⟩
  | 1 => ⟨S1x32, .f32⟩
  | 2 => ⟨S1x32, .f32⟩
  | 3 => ⟨S1x32, .f32⟩
  | 4 => ⟨S_, .f32⟩
  | 5 => ⟨S1x32, .f32⟩
  | 6 => ⟨S1x32, .f32⟩
  | 7 => ⟨S1x32, .f32⟩
  | 8 => ⟨S_, .f32⟩
  | 9 => ⟨S1x32, .f32⟩
  | 10 => ⟨S1x32, .f32⟩
  | 11 => ⟨S1x32, .f32⟩
  | 12 => ⟨S_, .f32⟩
  | 13 => ⟨S1x32, .f32⟩
  | 14 => ⟨S1x32, .f32⟩
  | 15 => ⟨S_, .f32⟩
  | 16 => ⟨S1x256, .f32⟩
  | 17 => ⟨S1x256, .f32⟩
  | 18 => ⟨S_, .f32⟩
  | 19 => ⟨S1x256, .f32⟩
  | 20 => ⟨S1x256, .f32⟩
  | 21 => ⟨S1x256, .f32⟩
  | 22 => ⟨S_, .f32⟩
  | 23 => ⟨S1x256, .f32⟩
  | 24 => ⟨S1x256, .f32⟩
  | 25 => ⟨S1x256, .f32⟩
  | 26 => ⟨S_, .f32⟩
  | 27 => ⟨S1x256, .f32⟩
  | 28 => ⟨S1x256, .f32⟩
  | 29 => ⟨S1x256, .f32⟩
  | 30 => ⟨S_, .f32⟩
  | 31 => ⟨S1x256, .f32⟩
  | 32 => ⟨S1x256, .f32⟩
  | 33 => ⟨S_, .f32⟩
  | 34 => ⟨S1x256, .f32⟩
  | 35 => ⟨S1x256, .f32⟩
  | 36 => ⟨S1x256, .f32⟩
  | 37 => ⟨S_, .f32⟩
  | 38 => ⟨S1x256, .f32⟩
  | 39 => ⟨S1x256, .f32⟩
  | 40 => ⟨S1x256, .f32⟩
  | 41 => ⟨S_, .f32⟩
  | 42 => ⟨S1x256, .f32⟩
  | 43 => ⟨S1x256, .f32⟩
  | 44 => ⟨S1x256, .f32⟩
  | 45 => ⟨S_, .f32⟩
  | 46 => ⟨S1x256, .f32⟩
  | 47 => ⟨S1x256, .f32⟩
  | 48 => ⟨S_, .f32⟩
  | 49 => ⟨S1024, .f32⟩
  | 50 => ⟨S1024, .f32⟩
  | 51 => ⟨S_, .f32⟩
  | 52 => ⟨S1024, .f32⟩
  | 53 => ⟨S1024, .f32⟩
  | 54 => ⟨S1024, .f32⟩
  | 55 => ⟨S_, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S1024, .f32⟩
  | 63 => ⟨S_, .f32⟩
  | 64 => ⟨S1024, .f32⟩
  | 65 => ⟨S1024, .f32⟩
  | 66 => ⟨S_, .f32⟩
  | 67 => ⟨S1024, .f32⟩
  | 68 => ⟨S1024, .f32⟩
  | 69 => ⟨S1024, .f32⟩
  | 70 => ⟨S_, .f32⟩
  | 71 => ⟨S1024, .f32⟩
  | 72 => ⟨S1024, .f32⟩
  | 73 => ⟨S1024, .f32⟩
  | 74 => ⟨S_, .f32⟩
  | 75 => ⟨S1024, .f32⟩
  | 76 => ⟨S1024, .f32⟩
  | 77 => ⟨S1024, .f32⟩
  | 78 => ⟨S_, .f32⟩
  | 79 => ⟨S1024, .f32⟩
  | 80 => ⟨S1024, .f32⟩
  | 81 => ⟨S12288, .f32⟩
  | 82 => ⟨S512, .f32⟩
  | 83 => ⟨S1024, .f32⟩
  | 84 => ⟨S64, .f32⟩
  | 85 => ⟨S512, .f32⟩
  | 86 => ⟨S512, .f32⟩
  | 87 => ⟨S65536, .f32⟩
  | 88 => ⟨S512, .f32⟩
  | 89 => ⟨S1920, .f32⟩
  | 90 => ⟨S384, .f32⟩
  | 91 => ⟨S64, .f32⟩
  | 92 => ⟨S64, .f32⟩
  | 93 => ⟨S32, .f32⟩
  | 94 => ⟨S256, .f32⟩
  | 95 => ⟨S85728, .f32⟩
  | 96 => ⟨S_, .f32⟩
  | 97 => ⟨S4384, .f32⟩
  | 98 => ⟨S90112, .f32⟩
  | 99 => ⟨S88x1024, .f32⟩
  | 100 => ⟨S12288, .f32⟩
  | 101 => ⟨S512, .f32⟩
  | 102 => ⟨S1024, .f32⟩
  | 103 => ⟨S64, .f32⟩
  | 104 => ⟨S512, .f32⟩
  | 105 => ⟨S512, .f32⟩
  | 106 => ⟨S65536, .f32⟩
  | 107 => ⟨S512, .f32⟩
  | 108 => ⟨S1920, .f32⟩
  | 109 => ⟨S384, .f32⟩
  | 110 => ⟨S64, .f32⟩
  | 111 => ⟨S64, .f32⟩
  | 112 => ⟨S32, .f32⟩
  | 113 => ⟨S256, .f32⟩
  | 114 => ⟨S85728, .f32⟩
  | 115 => ⟨S_, .f32⟩
  | 116 => ⟨S4384, .f32⟩
  | 117 => ⟨S90112, .f32⟩
  | 118 => ⟨S88x1024, .f32⟩
  | 119 => ⟨S12288, .f32⟩
  | 120 => ⟨S512, .f32⟩
  | 121 => ⟨S1024, .f32⟩
  | 122 => ⟨S64, .f32⟩
  | 123 => ⟨S512, .f32⟩
  | 124 => ⟨S512, .f32⟩
  | 125 => ⟨S65536, .f32⟩
  | 126 => ⟨S512, .f32⟩
  | 127 => ⟨S1920, .f32⟩
  | _ => ⟨S1024, .f32⟩

abbrev hbmTy0_5 (i : Nat) : BufTy := match i % 128 with
  | 0 => ⟨S384, .f32⟩
  | 1 => ⟨S64, .f32⟩
  | 2 => ⟨S64, .f32⟩
  | 3 => ⟨S32, .f32⟩
  | 4 => ⟨S256, .f32⟩
  | 5 => ⟨S85728, .f32⟩
  | 6 => ⟨S_, .f32⟩
  | 7 => ⟨S4384, .f32⟩
  | 8 => ⟨S90112, .f32⟩
  | 9 => ⟨S88x1024, .f32⟩
  | 10 => ⟨S12288, .f32⟩
  | 11 => ⟨S512, .f32⟩
  | 12 => ⟨S1024, .f32⟩
  | 13 => ⟨S64, .f32⟩
  | 14 => ⟨S512, .f32⟩
  | 15 => ⟨S512, .f32⟩
  | 16 => ⟨S65536, .f32⟩
  | 17 => ⟨S512, .f32⟩
  | 18 => ⟨S1920, .f32⟩
  | 19 => ⟨S384, .f32⟩
  | 20 => ⟨S64, .f32⟩
  | 21 => ⟨S64, .f32⟩
  | 22 => ⟨S32, .f32⟩
  | 23 => ⟨S256, .f32⟩
  | 24 => ⟨S85728, .f32⟩
  | 25 => ⟨S_, .f32⟩
  | 26 => ⟨S4384, .f32⟩
  | 27 => ⟨S90112, .f32⟩
  | 28 => ⟨S88x1024, .f32⟩
  | _ => ⟨S1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S1024, .f32⟩

abbrev bufTy : (tb : Table) → Fin (tcTables nBuf tb) → BufTy
  | .hbm, ⟨i, _⟩ => hbmTy i
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_arg61 : Ref sig .tc := ⟨.hbm, 61, rfl⟩
abbrev main_arg62 : Ref sig .tc := ⟨.hbm, 62, rfl⟩
abbrev main_arg63 : Ref sig .tc := ⟨.hbm, 63, rfl⟩
abbrev main_arg64 : Ref sig .tc := ⟨.hbm, 64, rfl⟩
abbrev main_cst : Ref sig .tc := ⟨.hbm, 65, rfl⟩
abbrev main_v0 : Ref sig .tc := ⟨.hbm, 66, rfl⟩
abbrev main_v1 : Ref sig .tc := ⟨.hbm, 67, rfl⟩
abbrev main_cst_0 : Ref sig .tc := ⟨.hbm, 68, rfl⟩
abbrev main_v2 : Ref sig .tc := ⟨.hbm, 69, rfl⟩
abbrev main_v3 : Ref sig .tc := ⟨.hbm, 70, rfl⟩
abbrev main_v4 : Ref sig .tc := ⟨.hbm, 71, rfl⟩
abbrev main_cst_1 : Ref sig .tc := ⟨.hbm, 72, rfl⟩
abbrev main_v5 : Ref sig .tc := ⟨.hbm, 73, rfl⟩
abbrev main_v6 : Ref sig .tc := ⟨.hbm, 74, rfl⟩
abbrev main_v7 : Ref sig .tc := ⟨.hbm, 75, rfl⟩
abbrev main_cst_2 : Ref sig .tc := ⟨.hbm, 76, rfl⟩
abbrev main_v8 : Ref sig .tc := ⟨.hbm, 77, rfl⟩
abbrev main_v9 : Ref sig .tc := ⟨.hbm, 78, rfl⟩
abbrev main_v10 : Ref sig .tc := ⟨.hbm, 79, rfl⟩
abbrev main_cst_3 : Ref sig .tc := ⟨.hbm, 80, rfl⟩
abbrev main_v11 : Ref sig .tc := ⟨.hbm, 81, rfl⟩
abbrev main_v12 : Ref sig .tc := ⟨.hbm, 82, rfl⟩
abbrev main_cst_4 : Ref sig .tc := ⟨.hbm, 83, rfl⟩
abbrev main_v13 : Ref sig .tc := ⟨.hbm, 84, rfl⟩
abbrev main_v14 : Ref sig .tc := ⟨.hbm, 85, rfl⟩
abbrev main_v15 : Ref sig .tc := ⟨.hbm, 86, rfl⟩
abbrev main_cst_5 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_cst_6 : Ref sig .tc := ⟨.hbm, 91, rfl⟩
abbrev main_v19 : Ref sig .tc := ⟨.hbm, 92, rfl⟩
abbrev main_v20 : Ref sig .tc := ⟨.hbm, 93, rfl⟩
abbrev main_v21 : Ref sig .tc := ⟨.hbm, 94, rfl⟩
abbrev main_cst_7 : Ref sig .tc := ⟨.hbm, 95, rfl⟩
abbrev main_v22 : Ref sig .tc := ⟨.hbm, 96, rfl⟩
abbrev main_v23 : Ref sig .tc := ⟨.hbm, 97, rfl⟩
abbrev main_cst_8 : Ref sig .tc := ⟨.hbm, 98, rfl⟩
abbrev main_v24 : Ref sig .tc := ⟨.hbm, 99, rfl⟩
abbrev main_v25 : Ref sig .tc := ⟨.hbm, 100, rfl⟩
abbrev main_cst_9 : Ref sig .tc := ⟨.hbm, 101, rfl⟩
abbrev main_v26 : Ref sig .tc := ⟨.hbm, 102, rfl⟩
abbrev main_v27 : Ref sig .tc := ⟨.hbm, 103, rfl⟩
abbrev main_v28 : Ref sig .tc := ⟨.hbm, 104, rfl⟩
abbrev main_cst_10 : Ref sig .tc := ⟨.hbm, 105, rfl⟩
abbrev main_v29 : Ref sig .tc := ⟨.hbm, 106, rfl⟩
abbrev main_v30 : Ref sig .tc := ⟨.hbm, 107, rfl⟩
abbrev main_v31 : Ref sig .tc := ⟨.hbm, 108, rfl⟩
abbrev main_cst_11 : Ref sig .tc := ⟨.hbm, 109, rfl⟩
abbrev main_v32 : Ref sig .tc := ⟨.hbm, 110, rfl⟩
abbrev main_v33 : Ref sig .tc := ⟨.hbm, 111, rfl⟩
abbrev main_v34 : Ref sig .tc := ⟨.hbm, 112, rfl⟩
abbrev main_cst_12 : Ref sig .tc := ⟨.hbm, 113, rfl⟩
abbrev main_v35 : Ref sig .tc := ⟨.hbm, 114, rfl⟩
abbrev main_v36 : Ref sig .tc := ⟨.hbm, 115, rfl⟩
abbrev main_cst_13 : Ref sig .tc := ⟨.hbm, 116, rfl⟩
abbrev main_v37 : Ref sig .tc := ⟨.hbm, 117, rfl⟩
abbrev main_v38 : Ref sig .tc := ⟨.hbm, 118, rfl⟩
abbrev main_v39 : Ref sig .tc := ⟨.hbm, 119, rfl⟩
abbrev main_cst_14 : Ref sig .tc := ⟨.hbm, 120, rfl⟩
abbrev main_v40 : Ref sig .tc := ⟨.hbm, 121, rfl⟩
abbrev main_v41 : Ref sig .tc := ⟨.hbm, 122, rfl⟩
abbrev main_v42 : Ref sig .tc := ⟨.hbm, 123, rfl⟩
abbrev main_cst_15 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_cst_16 : Ref sig .tc := ⟨.hbm, 128, rfl⟩
abbrev main_v46 : Ref sig .tc := ⟨.hbm, 129, rfl⟩
abbrev main_v47 : Ref sig .tc := ⟨.hbm, 130, rfl⟩
abbrev main_cst_17 : Ref sig .tc := ⟨.hbm, 131, rfl⟩
abbrev main_v48 : Ref sig .tc := ⟨.hbm, 132, rfl⟩
abbrev main_v49 : Ref sig .tc := ⟨.hbm, 133, rfl⟩
abbrev main_cst_18 : Ref sig .tc := ⟨.hbm, 134, rfl⟩
abbrev main_v50 : Ref sig .tc := ⟨.hbm, 135, rfl⟩
abbrev main_v51 : Ref sig .tc := ⟨.hbm, 136, rfl⟩
abbrev main_v52 : Ref sig .tc := ⟨.hbm, 137, rfl⟩
abbrev main_cst_19 : Ref sig .tc := ⟨.hbm, 138, rfl⟩
abbrev main_v53 : Ref sig .tc := ⟨.hbm, 139, rfl⟩
abbrev main_v54 : Ref sig .tc := ⟨.hbm, 140, rfl⟩
abbrev main_v55 : Ref sig .tc := ⟨.hbm, 141, rfl⟩
abbrev main_cst_20 : Ref sig .tc := ⟨.hbm, 142, rfl⟩
abbrev main_v56 : Ref sig .tc := ⟨.hbm, 143, rfl⟩
abbrev main_v57 : Ref sig .tc := ⟨.hbm, 144, rfl⟩
abbrev main_v58 : Ref sig .tc := ⟨.hbm, 145, rfl⟩
abbrev main_cst_21 : Ref sig .tc := ⟨.hbm, 146, rfl⟩
abbrev main_v59 : Ref sig .tc := ⟨.hbm, 147, rfl⟩
abbrev main_v60 : Ref sig .tc := ⟨.hbm, 148, rfl⟩
abbrev main_cst_22 : Ref sig .tc := ⟨.hbm, 149, rfl⟩
abbrev main_v61 : Ref sig .tc := ⟨.hbm, 150, rfl⟩
abbrev main_v62 : Ref sig .tc := ⟨.hbm, 151, rfl⟩
abbrev main_v63 : Ref sig .tc := ⟨.hbm, 152, rfl⟩
abbrev main_cst_23 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_cst_24 : Ref sig .tc := ⟨.hbm, 157, rfl⟩
abbrev main_v67 : Ref sig .tc := ⟨.hbm, 158, rfl⟩
abbrev main_v68 : Ref sig .tc := ⟨.hbm, 159, rfl⟩
abbrev main_v69 : Ref sig .tc := ⟨.hbm, 160, rfl⟩
abbrev main_cst_25 : Ref sig .tc := ⟨.hbm, 161, rfl⟩
abbrev main_v70 : Ref sig .tc := ⟨.hbm, 162, rfl⟩
abbrev main_v71 : Ref sig .tc := ⟨.hbm, 163, rfl⟩
abbrev main_cst_26 : Ref sig .tc := ⟨.hbm, 164, rfl⟩
abbrev main_v72 : Ref sig .tc := ⟨.hbm, 165, rfl⟩
abbrev main_v73 : Ref sig .tc := ⟨.hbm, 166, rfl⟩
abbrev main_cst_27 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_cst_28 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_cst_29 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_cst_30 : Ref sig .tc := ⟨.hbm, 179, rfl⟩
abbrev main_v83 : Ref sig .tc := ⟨.hbm, 180, rfl⟩
abbrev main_v84 : Ref sig .tc := ⟨.hbm, 181, rfl⟩
abbrev main_cst_31 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_cst_32 : Ref sig .tc := ⟨.hbm, 186, rfl⟩
abbrev main_v88 : Ref sig .tc := ⟨.hbm, 187, rfl⟩
abbrev main_v89 : Ref sig .tc := ⟨.hbm, 188, rfl⟩
abbrev main_v90 : Ref sig .tc := ⟨.hbm, 189, rfl⟩
abbrev main_cst_33 : Ref sig .tc := ⟨.hbm, 190, rfl⟩
abbrev main_v91 : Ref sig .tc := ⟨.hbm, 191, rfl⟩
abbrev main_v92 : Ref sig .tc := ⟨.hbm, 192, rfl⟩
abbrev main_v93 : Ref sig .tc := ⟨.hbm, 193, rfl⟩
abbrev main_cst_34 : Ref sig .tc := ⟨.hbm, 194, rfl⟩
abbrev main_v94 : Ref sig .tc := ⟨.hbm, 195, rfl⟩
abbrev main_v95 : Ref sig .tc := ⟨.hbm, 196, rfl⟩
abbrev main_cst_35 : Ref sig .tc := ⟨.hbm, 197, rfl⟩
abbrev main_v96 : Ref sig .tc := ⟨.hbm, 198, rfl⟩
abbrev main_v97 : Ref sig .tc := ⟨.hbm, 199, rfl⟩
abbrev main_cst_36 : Ref sig .tc := ⟨.hbm, 200, rfl⟩
abbrev main_v98 : Ref sig .tc := ⟨.hbm, 201, rfl⟩
abbrev main_v99 : Ref sig .tc := ⟨.hbm, 202, rfl⟩
abbrev main_v100 : Ref sig .tc := ⟨.hbm, 203, rfl⟩
abbrev main_cst_37 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_cst_38 : Ref sig .tc := ⟨.hbm, 208, rfl⟩
abbrev main_v104 : Ref sig .tc := ⟨.hbm, 209, rfl⟩
abbrev main_v105 : Ref sig .tc := ⟨.hbm, 210, rfl⟩
abbrev main_v106 : Ref sig .tc := ⟨.hbm, 211, rfl⟩
abbrev main_cst_39 : Ref sig .tc := ⟨.hbm, 212, rfl⟩
abbrev main_v107 : Ref sig .tc := ⟨.hbm, 213, rfl⟩
abbrev main_v108 : Ref sig .tc := ⟨.hbm, 214, rfl⟩
abbrev main_cst_40 : Ref sig .tc := ⟨.hbm, 215, rfl⟩
abbrev main_v109 : Ref sig .tc := ⟨.hbm, 216, rfl⟩
abbrev main_v110 : Ref sig .tc := ⟨.hbm, 217, rfl⟩
abbrev main_v111 : Ref sig .tc := ⟨.hbm, 218, rfl⟩
abbrev main_cst_41 : Ref sig .tc := ⟨.hbm, 219, rfl⟩
abbrev main_v112 : Ref sig .tc := ⟨.hbm, 220, rfl⟩
abbrev main_v113 : Ref sig .tc := ⟨.hbm, 221, rfl⟩
abbrev main_v114 : Ref sig .tc := ⟨.hbm, 222, rfl⟩
abbrev main_cst_42 : Ref sig .tc := ⟨.hbm, 223, rfl⟩
abbrev main_v115 : Ref sig .tc := ⟨.hbm, 224, rfl⟩
abbrev main_v116 : Ref sig .tc := ⟨.hbm, 225, rfl⟩
abbrev main_v117 : Ref sig .tc := ⟨.hbm, 226, rfl⟩
abbrev main_cst_43 : Ref sig .tc := ⟨.hbm, 227, rfl⟩
abbrev main_v118 : Ref sig .tc := ⟨.hbm, 228, rfl⟩
abbrev main_v119 : Ref sig .tc := ⟨.hbm, 229, rfl⟩
abbrev main_cst_44 : Ref sig .tc := ⟨.hbm, 230, rfl⟩
abbrev main_v120 : Ref sig .tc := ⟨.hbm, 231, rfl⟩
abbrev main_v121 : Ref sig .tc := ⟨.hbm, 232, rfl⟩
abbrev main_cst_45 : Ref sig .tc := ⟨.hbm, 233, rfl⟩
abbrev main_v122 : Ref sig .tc := ⟨.hbm, 234, rfl⟩
abbrev main_v123 : Ref sig .tc := ⟨.hbm, 235, rfl⟩
abbrev main_v124 : Ref sig .tc := ⟨.hbm, 236, rfl⟩
abbrev main_cst_46 : Ref sig .tc := ⟨.hbm, 237, rfl⟩
abbrev main_v125 : Ref sig .tc := ⟨.hbm, 238, rfl⟩
abbrev main_v126 : Ref sig .tc := ⟨.hbm, 239, rfl⟩
abbrev main_v127 : Ref sig .tc := ⟨.hbm, 240, rfl⟩
abbrev main_cst_47 : Ref sig .tc := ⟨.hbm, 241, rfl⟩
abbrev main_v128 : Ref sig .tc := ⟨.hbm, 242, rfl⟩
abbrev main_v129 : Ref sig .tc := ⟨.hbm, 243, rfl⟩
abbrev main_v130 : Ref sig .tc := ⟨.hbm, 244, rfl⟩
abbrev main_cst_48 : Ref sig .tc := ⟨.hbm, 245, rfl⟩
abbrev main_v131 : Ref sig .tc := ⟨.hbm, 246, rfl⟩
abbrev main_v132 : Ref sig .tc := ⟨.hbm, 247, rfl⟩
abbrev main_cst_49 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_cst_50 : Ref sig .tc := ⟨.hbm, 252, rfl⟩
abbrev main_v136 : Ref sig .tc := ⟨.hbm, 253, rfl⟩
abbrev main_v137 : Ref sig .tc := ⟨.hbm, 254, rfl⟩
abbrev main_v138 : Ref sig .tc := ⟨.hbm, 255, rfl⟩
abbrev main_cst_51 : Ref sig .tc := ⟨.hbm, 256, rfl⟩
abbrev main_v139 : Ref sig .tc := ⟨.hbm, 257, rfl⟩
abbrev main_v140 : Ref sig .tc := ⟨.hbm, 258, rfl⟩
abbrev main_v141 : Ref sig .tc := ⟨.hbm, 259, rfl⟩
abbrev main_cst_52 : Ref sig .tc := ⟨.hbm, 260, rfl⟩
abbrev main_v142 : Ref sig .tc := ⟨.hbm, 261, rfl⟩
abbrev main_v143 : Ref sig .tc := ⟨.hbm, 262, rfl⟩
abbrev main_cst_53 : Ref sig .tc := ⟨.hbm, 263, rfl⟩
abbrev main_v144 : Ref sig .tc := ⟨.hbm, 264, rfl⟩
abbrev main_v145 : Ref sig .tc := ⟨.hbm, 265, rfl⟩
abbrev main_cst_54 : Ref sig .tc := ⟨.hbm, 266, rfl⟩
abbrev main_v146 : Ref sig .tc := ⟨.hbm, 267, rfl⟩
abbrev main_v147 : Ref sig .tc := ⟨.hbm, 268, rfl⟩
abbrev main_v148 : Ref sig .tc := ⟨.hbm, 269, rfl⟩
abbrev main_cst_55 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_cst_56 : Ref sig .tc := ⟨.hbm, 274, rfl⟩
abbrev main_v152 : Ref sig .tc := ⟨.hbm, 275, rfl⟩
abbrev main_v153 : Ref sig .tc := ⟨.hbm, 276, rfl⟩
abbrev main_v154 : Ref sig .tc := ⟨.hbm, 277, rfl⟩
abbrev main_cst_57 : Ref sig .tc := ⟨.hbm, 278, rfl⟩
abbrev main_v155 : Ref sig .tc := ⟨.hbm, 279, rfl⟩
abbrev main_v156 : Ref sig .tc := ⟨.hbm, 280, rfl⟩
abbrev main_cst_58 : Ref sig .tc := ⟨.hbm, 281, rfl⟩
abbrev main_v157 : Ref sig .tc := ⟨.hbm, 282, rfl⟩
abbrev main_v158 : Ref sig .tc := ⟨.hbm, 283, rfl⟩
abbrev main_v159 : Ref sig .tc := ⟨.hbm, 284, rfl⟩
abbrev main_cst_59 : Ref sig .tc := ⟨.hbm, 285, rfl⟩
abbrev main_v160 : Ref sig .tc := ⟨.hbm, 286, rfl⟩
abbrev main_v161 : Ref sig .tc := ⟨.hbm, 287, rfl⟩
abbrev main_v162 : Ref sig .tc := ⟨.hbm, 288, rfl⟩
abbrev main_cst_60 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_cst_61 : Ref sig .tc := ⟨.hbm, 293, rfl⟩
abbrev main_v166 : Ref sig .tc := ⟨.hbm, 294, rfl⟩
abbrev main_v167 : Ref sig .tc := ⟨.hbm, 295, rfl⟩
abbrev main_cst_62 : Ref sig .tc := ⟨.hbm, 296, rfl⟩
abbrev main_v168 : Ref sig .tc := ⟨.hbm, 297, rfl⟩
abbrev main_v169 : Ref sig .tc := ⟨.hbm, 298, rfl⟩
abbrev main_cst_63 : Ref sig .tc := ⟨.hbm, 299, rfl⟩
abbrev main_v170 : Ref sig .tc := ⟨.hbm, 300, rfl⟩
abbrev main_v171 : Ref sig .tc := ⟨.hbm, 301, rfl⟩
abbrev main_v172 : Ref sig .tc := ⟨.hbm, 302, rfl⟩
abbrev main_cst_64 : Ref sig .tc := ⟨.hbm, 303, rfl⟩
abbrev main_v173 : Ref sig .tc := ⟨.hbm, 304, rfl⟩
abbrev main_v174 : Ref sig .tc := ⟨.hbm, 305, rfl⟩
abbrev main_v175 : Ref sig .tc := ⟨.hbm, 306, rfl⟩
abbrev main_cst_65 : Ref sig .tc := ⟨.hbm, 307, rfl⟩
abbrev main_v176 : Ref sig .tc := ⟨.hbm, 308, rfl⟩
abbrev main_v177 : Ref sig .tc := ⟨.hbm, 309, rfl⟩
abbrev main_v178 : Ref sig .tc := ⟨.hbm, 310, rfl⟩
abbrev main_cst_66 : Ref sig .tc := ⟨.hbm, 311, rfl⟩
abbrev main_v179 : Ref sig .tc := ⟨.hbm, 312, rfl⟩
abbrev main_v180 : Ref sig .tc := ⟨.hbm, 313, rfl⟩
abbrev main_cst_67 : Ref sig .tc := ⟨.hbm, 314, rfl⟩
abbrev main_v181 : Ref sig .tc := ⟨.hbm, 315, rfl⟩
abbrev main_v182 : Ref sig .tc := ⟨.hbm, 316, rfl⟩
abbrev main_v183 : Ref sig .tc := ⟨.hbm, 317, rfl⟩
abbrev main_cst_68 : Ref sig .tc := ⟨.hbm, 318, rfl⟩
abbrev main_v184 : Ref sig .tc := ⟨.hbm, 319, rfl⟩
abbrev main_v185 : Ref sig .tc := ⟨.hbm, 320, rfl⟩
abbrev main_v186 : Ref sig .tc := ⟨.hbm, 321, rfl⟩
abbrev main_cst_69 : Ref sig .tc := ⟨.hbm, 322, rfl⟩
abbrev main_v187 : Ref sig .tc := ⟨.hbm, 323, rfl⟩
abbrev main_v188 : Ref sig .tc := ⟨.hbm, 324, rfl⟩
abbrev main_v189 : Ref sig .tc := ⟨.hbm, 325, rfl⟩
abbrev main_cst_70 : Ref sig .tc := ⟨.hbm, 326, rfl⟩
abbrev main_v190 : Ref sig .tc := ⟨.hbm, 327, rfl⟩
abbrev main_v191 : Ref sig .tc := ⟨.hbm, 328, rfl⟩
abbrev main_cst_71 : Ref sig .tc := ⟨.hbm, 329, rfl⟩
abbrev main_v192 : Ref sig .tc := ⟨.hbm, 330, rfl⟩
abbrev main_v193 : Ref sig .tc := ⟨.hbm, 331, rfl⟩
abbrev main_cst_72 : Ref sig .tc := ⟨.hbm, 332, rfl⟩
abbrev main_v194 : Ref sig .tc := ⟨.hbm, 333, rfl⟩
abbrev main_v195 : Ref sig .tc := ⟨.hbm, 334, rfl⟩
abbrev main_v196 : Ref sig .tc := ⟨.hbm, 335, rfl⟩
abbrev main_cst_73 : Ref sig .tc := ⟨.hbm, 336, rfl⟩
abbrev main_v197 : Ref sig .tc := ⟨.hbm, 337, rfl⟩
abbrev main_v198 : Ref sig .tc := ⟨.hbm, 338, rfl⟩
abbrev main_v199 : Ref sig .tc := ⟨.hbm, 339, rfl⟩
abbrev main_cst_74 : Ref sig .tc := ⟨.hbm, 340, rfl⟩
abbrev main_v200 : Ref sig .tc := ⟨.hbm, 341, rfl⟩
abbrev main_v201 : Ref sig .tc := ⟨.hbm, 342, rfl⟩
abbrev main_v202 : Ref sig .tc := ⟨.hbm, 343, rfl⟩
abbrev main_cst_75 : Ref sig .tc := ⟨.hbm, 344, rfl⟩
abbrev main_v203 : Ref sig .tc := ⟨.hbm, 345, rfl⟩
abbrev main_v204 : Ref sig .tc := ⟨.hbm, 346, rfl⟩
abbrev main_cst_76 : Ref sig .tc := ⟨.hbm, 347, rfl⟩
abbrev main_v205 : Ref sig .tc := ⟨.hbm, 348, rfl⟩
abbrev main_v206 : Ref sig .tc := ⟨.hbm, 349, rfl⟩
abbrev main_v207 : Ref sig .tc := ⟨.hbm, 350, rfl⟩
abbrev main_cst_77 : Ref sig .tc := ⟨.hbm, 351, rfl⟩
abbrev main_v208 : Ref sig .tc := ⟨.hbm, 352, rfl⟩
abbrev main_v209 : Ref sig .tc := ⟨.hbm, 353, rfl⟩
abbrev main_v210 : Ref sig .tc := ⟨.hbm, 354, rfl⟩
abbrev main_cst_78 : Ref sig .tc := ⟨.hbm, 355, rfl⟩
abbrev main_v211 : Ref sig .tc := ⟨.hbm, 356, rfl⟩
abbrev main_v212 : Ref sig .tc := ⟨.hbm, 357, rfl⟩
abbrev main_v213 : Ref sig .tc := ⟨.hbm, 358, rfl⟩
abbrev main_cst_79 : Ref sig .tc := ⟨.hbm, 359, rfl⟩
abbrev main_v214 : Ref sig .tc := ⟨.hbm, 360, rfl⟩
abbrev main_v215 : Ref sig .tc := ⟨.hbm, 361, rfl⟩
abbrev main_cst_80 : Ref sig .tc := ⟨.hbm, 362, rfl⟩
abbrev main_v216 : Ref sig .tc := ⟨.hbm, 363, rfl⟩
abbrev main_v217 : Ref sig .tc := ⟨.hbm, 364, rfl⟩
abbrev main_cst_81 : Ref sig .tc := ⟨.hbm, 365, rfl⟩
abbrev main_v218 : Ref sig .tc := ⟨.hbm, 366, rfl⟩
abbrev main_v219 : Ref sig .tc := ⟨.hbm, 367, rfl⟩
abbrev main_v220 : Ref sig .tc := ⟨.hbm, 368, rfl⟩
abbrev main_cst_82 : Ref sig .tc := ⟨.hbm, 369, rfl⟩
abbrev main_v221 : Ref sig .tc := ⟨.hbm, 370, rfl⟩
abbrev main_v222 : Ref sig .tc := ⟨.hbm, 371, rfl⟩
abbrev main_v223 : Ref sig .tc := ⟨.hbm, 372, rfl⟩
abbrev main_cst_83 : Ref sig .tc := ⟨.hbm, 373, rfl⟩
abbrev main_v224 : Ref sig .tc := ⟨.hbm, 374, rfl⟩
abbrev main_v225 : Ref sig .tc := ⟨.hbm, 375, rfl⟩
abbrev main_v226 : Ref sig .tc := ⟨.hbm, 376, rfl⟩
abbrev main_cst_84 : Ref sig .tc := ⟨.hbm, 377, rfl⟩
abbrev main_v227 : Ref sig .tc := ⟨.hbm, 378, rfl⟩
abbrev main_v228 : Ref sig .tc := ⟨.hbm, 379, rfl⟩
abbrev main_cst_85 : Ref sig .tc := ⟨.hbm, 380, rfl⟩
abbrev main_v229 : Ref sig .tc := ⟨.hbm, 381, rfl⟩
abbrev main_v230 : Ref sig .tc := ⟨.hbm, 382, rfl⟩
abbrev main_v231 : Ref sig .tc := ⟨.hbm, 383, rfl⟩
abbrev main_cst_86 : Ref sig .tc := ⟨.hbm, 384, rfl⟩
abbrev main_v232 : Ref sig .tc := ⟨.hbm, 385, rfl⟩
abbrev main_v233 : Ref sig .tc := ⟨.hbm, 386, rfl⟩
abbrev main_v234 : Ref sig .tc := ⟨.hbm, 387, rfl⟩
abbrev main_cst_87 : Ref sig .tc := ⟨.hbm, 388, rfl⟩
abbrev main_v235 : Ref sig .tc := ⟨.hbm, 389, rfl⟩
abbrev main_v236 : Ref sig .tc := ⟨.hbm, 390, rfl⟩
abbrev main_v237 : Ref sig .tc := ⟨.hbm, 391, rfl⟩
abbrev main_cst_88 : Ref sig .tc := ⟨.hbm, 392, rfl⟩
abbrev main_v238 : Ref sig .tc := ⟨.hbm, 393, rfl⟩
abbrev main_v239 : Ref sig .tc := ⟨.hbm, 394, rfl⟩
abbrev main_cst_89 : Ref sig .tc := ⟨.hbm, 395, rfl⟩
abbrev main_v240 : Ref sig .tc := ⟨.hbm, 396, rfl⟩
abbrev main_v241 : Ref sig .tc := ⟨.hbm, 397, rfl⟩
abbrev main_cst_90 : Ref sig .tc := ⟨.hbm, 398, rfl⟩
abbrev main_v242 : Ref sig .tc := ⟨.hbm, 399, rfl⟩
abbrev main_v243 : Ref sig .tc := ⟨.hbm, 400, rfl⟩
abbrev main_v244 : Ref sig .tc := ⟨.hbm, 401, rfl⟩
abbrev main_cst_91 : Ref sig .tc := ⟨.hbm, 402, rfl⟩
abbrev main_v245 : Ref sig .tc := ⟨.hbm, 403, rfl⟩
abbrev main_v246 : Ref sig .tc := ⟨.hbm, 404, rfl⟩
abbrev main_v247 : Ref sig .tc := ⟨.hbm, 405, rfl⟩
abbrev main_cst_92 : Ref sig .tc := ⟨.hbm, 406, rfl⟩
abbrev main_v248 : Ref sig .tc := ⟨.hbm, 407, rfl⟩
abbrev main_v249 : Ref sig .tc := ⟨.hbm, 408, rfl⟩
abbrev main_v250 : Ref sig .tc := ⟨.hbm, 409, rfl⟩
abbrev main_cst_93 : Ref sig .tc := ⟨.hbm, 410, rfl⟩
abbrev main_v251 : Ref sig .tc := ⟨.hbm, 411, rfl⟩
abbrev main_v252 : Ref sig .tc := ⟨.hbm, 412, rfl⟩
abbrev main_cst_94 : Ref sig .tc := ⟨.hbm, 413, rfl⟩
abbrev main_v253 : Ref sig .tc := ⟨.hbm, 414, rfl⟩
abbrev main_v254 : Ref sig .tc := ⟨.hbm, 415, rfl⟩
abbrev main_v255 : Ref sig .tc := ⟨.hbm, 416, rfl⟩
abbrev main_cst_95 : Ref sig .tc := ⟨.hbm, 417, rfl⟩
abbrev main_v256 : Ref sig .tc := ⟨.hbm, 418, rfl⟩
abbrev main_v257 : Ref sig .tc := ⟨.hbm, 419, rfl⟩
abbrev main_v258 : Ref sig .tc := ⟨.hbm, 420, rfl⟩
abbrev main_cst_96 : Ref sig .tc := ⟨.hbm, 421, rfl⟩
abbrev main_v259 : Ref sig .tc := ⟨.hbm, 422, rfl⟩
abbrev main_v260 : Ref sig .tc := ⟨.hbm, 423, rfl⟩
abbrev main_v261 : Ref sig .tc := ⟨.hbm, 424, rfl⟩
abbrev main_cst_97 : Ref sig .tc := ⟨.hbm, 425, rfl⟩
abbrev main_v262 : Ref sig .tc := ⟨.hbm, 426, rfl⟩
abbrev main_v263 : Ref sig .tc := ⟨.hbm, 427, rfl⟩
abbrev main_cst_98 : Ref sig .tc := ⟨.hbm, 428, rfl⟩
abbrev main_v264 : Ref sig .tc := ⟨.hbm, 429, rfl⟩
abbrev main_v265 : Ref sig .tc := ⟨.hbm, 430, rfl⟩
abbrev main_cst_99 : Ref sig .tc := ⟨.hbm, 431, rfl⟩
abbrev main_v266 : Ref sig .tc := ⟨.hbm, 432, rfl⟩
abbrev main_v267 : Ref sig .tc := ⟨.hbm, 433, rfl⟩
abbrev main_v268 : Ref sig .tc := ⟨.hbm, 434, rfl⟩
abbrev main_cst_100 : Ref sig .tc := ⟨.hbm, 435, rfl⟩
abbrev main_v269 : Ref sig .tc := ⟨.hbm, 436, rfl⟩
abbrev main_v270 : Ref sig .tc := ⟨.hbm, 437, rfl⟩
abbrev main_v271 : Ref sig .tc := ⟨.hbm, 438, rfl⟩
abbrev main_cst_101 : Ref sig .tc := ⟨.hbm, 439, rfl⟩
abbrev main_v272 : Ref sig .tc := ⟨.hbm, 440, rfl⟩
abbrev main_v273 : Ref sig .tc := ⟨.hbm, 441, rfl⟩
abbrev main_v274 : Ref sig .tc := ⟨.hbm, 442, rfl⟩
abbrev main_cst_102 : Ref sig .tc := ⟨.hbm, 443, rfl⟩
abbrev main_v275 : Ref sig .tc := ⟨.hbm, 444, rfl⟩
abbrev main_v276 : Ref sig .tc := ⟨.hbm, 445, rfl⟩
abbrev main_cst_103 : Ref sig .tc := ⟨.hbm, 446, rfl⟩
abbrev main_v277 : Ref sig .tc := ⟨.hbm, 447, rfl⟩
abbrev main_v278 : Ref sig .tc := ⟨.hbm, 448, rfl⟩
abbrev main_v279 : Ref sig .tc := ⟨.hbm, 449, rfl⟩
abbrev main_cst_104 : Ref sig .tc := ⟨.hbm, 450, rfl⟩
abbrev main_v280 : Ref sig .tc := ⟨.hbm, 451, rfl⟩
abbrev main_v281 : Ref sig .tc := ⟨.hbm, 452, rfl⟩
abbrev main_v282 : Ref sig .tc := ⟨.hbm, 453, rfl⟩
abbrev main_cst_105 : Ref sig .tc := ⟨.hbm, 454, rfl⟩
abbrev main_v283 : Ref sig .tc := ⟨.hbm, 455, rfl⟩
abbrev main_v284 : Ref sig .tc := ⟨.hbm, 456, rfl⟩
abbrev main_v285 : Ref sig .tc := ⟨.hbm, 457, rfl⟩
abbrev main_cst_106 : Ref sig .tc := ⟨.hbm, 458, rfl⟩
abbrev main_v286 : Ref sig .tc := ⟨.hbm, 459, rfl⟩
abbrev main_v287 : Ref sig .tc := ⟨.hbm, 460, rfl⟩
abbrev main_cst_107 : Ref sig .tc := ⟨.hbm, 461, rfl⟩
abbrev main_v288 : Ref sig .tc := ⟨.hbm, 462, rfl⟩
abbrev main_v289 : Ref sig .tc := ⟨.hbm, 463, rfl⟩
abbrev main_cst_108 : Ref sig .tc := ⟨.hbm, 464, rfl⟩
abbrev main_v290 : Ref sig .tc := ⟨.hbm, 465, rfl⟩
abbrev main_v291 : Ref sig .tc := ⟨.hbm, 466, rfl⟩
abbrev main_v292 : Ref sig .tc := ⟨.hbm, 467, rfl⟩
abbrev main_cst_109 : Ref sig .tc := ⟨.hbm, 468, rfl⟩
abbrev main_v293 : Ref sig .tc := ⟨.hbm, 469, rfl⟩
abbrev main_v294 : Ref sig .tc := ⟨.hbm, 470, rfl⟩
abbrev main_v295 : Ref sig .tc := ⟨.hbm, 471, rfl⟩
abbrev main_cst_110 : Ref sig .tc := ⟨.hbm, 472, rfl⟩
abbrev main_v296 : Ref sig .tc := ⟨.hbm, 473, rfl⟩
abbrev main_v297 : Ref sig .tc := ⟨.hbm, 474, rfl⟩
abbrev main_v298 : Ref sig .tc := ⟨.hbm, 475, rfl⟩
abbrev main_cst_111 : Ref sig .tc := ⟨.hbm, 476, rfl⟩
abbrev main_v299 : Ref sig .tc := ⟨.hbm, 477, rfl⟩
abbrev main_v300 : Ref sig .tc := ⟨.hbm, 478, rfl⟩
abbrev main_cst_112 : Ref sig .tc := ⟨.hbm, 479, rfl⟩
abbrev main_v301 : Ref sig .tc := ⟨.hbm, 480, rfl⟩
abbrev main_v302 : Ref sig .tc := ⟨.hbm, 481, rfl⟩
abbrev main_v303 : Ref sig .tc := ⟨.hbm, 482, rfl⟩
abbrev main_cst_113 : Ref sig .tc := ⟨.hbm, 483, rfl⟩
abbrev main_v304 : Ref sig .tc := ⟨.hbm, 484, rfl⟩
abbrev main_v305 : Ref sig .tc := ⟨.hbm, 485, rfl⟩
abbrev main_v306 : Ref sig .tc := ⟨.hbm, 486, rfl⟩
abbrev main_cst_114 : Ref sig .tc := ⟨.hbm, 487, rfl⟩
abbrev main_v307 : Ref sig .tc := ⟨.hbm, 488, rfl⟩
abbrev main_v308 : Ref sig .tc := ⟨.hbm, 489, rfl⟩
abbrev main_v309 : Ref sig .tc := ⟨.hbm, 490, rfl⟩
abbrev main_cst_115 : Ref sig .tc := ⟨.hbm, 491, rfl⟩
abbrev main_v310 : Ref sig .tc := ⟨.hbm, 492, rfl⟩
abbrev main_v311 : Ref sig .tc := ⟨.hbm, 493, rfl⟩
abbrev main_cst_116 : Ref sig .tc := ⟨.hbm, 494, rfl⟩
abbrev main_v312 : Ref sig .tc := ⟨.hbm, 495, rfl⟩
abbrev main_v313 : Ref sig .tc := ⟨.hbm, 496, rfl⟩
abbrev main_cst_117 : Ref sig .tc := ⟨.hbm, 497, rfl⟩
abbrev main_v314 : Ref sig .tc := ⟨.hbm, 498, rfl⟩
abbrev main_v315 : Ref sig .tc := ⟨.hbm, 499, rfl⟩
abbrev main_v316 : Ref sig .tc := ⟨.hbm, 500, rfl⟩
abbrev main_cst_118 : Ref sig .tc := ⟨.hbm, 501, rfl⟩
abbrev main_v317 : Ref sig .tc := ⟨.hbm, 502, rfl⟩
abbrev main_v318 : Ref sig .tc := ⟨.hbm, 503, rfl⟩
abbrev main_v319 : Ref sig .tc := ⟨.hbm, 504, rfl⟩
abbrev main_cst_119 : Ref sig .tc := ⟨.hbm, 505, rfl⟩
abbrev main_v320 : Ref sig .tc := ⟨.hbm, 506, rfl⟩
abbrev main_v321 : Ref sig .tc := ⟨.hbm, 507, rfl⟩
abbrev main_v322 : Ref sig .tc := ⟨.hbm, 508, rfl⟩
abbrev main_cst_120 : Ref sig .tc := ⟨.hbm, 509, rfl⟩
abbrev main_v323 : Ref sig .tc := ⟨.hbm, 510, rfl⟩
abbrev main_v324 : Ref sig .tc := ⟨.hbm, 511, rfl⟩
abbrev main_cst_121 : Ref sig .tc := ⟨.hbm, 512, rfl⟩
abbrev main_v325 : Ref sig .tc := ⟨.hbm, 513, rfl⟩
abbrev main_v326 : Ref sig .tc := ⟨.hbm, 514, rfl⟩
abbrev main_v327 : Ref sig .tc := ⟨.hbm, 515, rfl⟩
abbrev main_cst_122 : Ref sig .tc := ⟨.hbm, 516, rfl⟩
abbrev main_v328 : Ref sig .tc := ⟨.hbm, 517, rfl⟩
abbrev main_v329 : Ref sig .tc := ⟨.hbm, 518, rfl⟩
abbrev main_v330 : Ref sig .tc := ⟨.hbm, 519, rfl⟩
abbrev main_cst_123 : Ref sig .tc := ⟨.hbm, 520, rfl⟩
abbrev main_v331 : Ref sig .tc := ⟨.hbm, 521, rfl⟩
abbrev main_v332 : Ref sig .tc := ⟨.hbm, 522, rfl⟩
abbrev main_v333 : Ref sig .tc := ⟨.hbm, 523, rfl⟩
abbrev main_cst_124 : Ref sig .tc := ⟨.hbm, 524, rfl⟩
abbrev main_v334 : Ref sig .tc := ⟨.hbm, 525, rfl⟩
abbrev main_v335 : Ref sig .tc := ⟨.hbm, 526, rfl⟩
abbrev main_cst_125 : Ref sig .tc := ⟨.hbm, 527, rfl⟩
abbrev main_v336 : Ref sig .tc := ⟨.hbm, 528, rfl⟩
abbrev main_v337 : Ref sig .tc := ⟨.hbm, 529, rfl⟩
abbrev main_cst_126 : Ref sig .tc := ⟨.hbm, 530, rfl⟩
abbrev main_v338 : Ref sig .tc := ⟨.hbm, 531, rfl⟩
abbrev main_v339 : Ref sig .tc := ⟨.hbm, 532, rfl⟩
abbrev main_v340 : Ref sig .tc := ⟨.hbm, 533, rfl⟩
abbrev main_cst_127 : Ref sig .tc := ⟨.hbm, 534, rfl⟩
abbrev main_v341 : Ref sig .tc := ⟨.hbm, 535, rfl⟩
abbrev main_v342 : Ref sig .tc := ⟨.hbm, 536, rfl⟩
abbrev main_v343 : Ref sig .tc := ⟨.hbm, 537, rfl⟩
abbrev main_cst_128 : Ref sig .tc := ⟨.hbm, 538, rfl⟩
abbrev main_v344 : Ref sig .tc := ⟨.hbm, 539, rfl⟩
abbrev main_v345 : Ref sig .tc := ⟨.hbm, 540, rfl⟩
abbrev main_v346 : Ref sig .tc := ⟨.hbm, 541, rfl⟩
abbrev main_cst_129 : Ref sig .tc := ⟨.hbm, 542, rfl⟩
abbrev main_v347 : Ref sig .tc := ⟨.hbm, 543, rfl⟩
abbrev main_v348 : Ref sig .tc := ⟨.hbm, 544, rfl⟩
abbrev main_cst_130 : Ref sig .tc := ⟨.hbm, 545, rfl⟩
abbrev main_v349 : Ref sig .tc := ⟨.hbm, 546, rfl⟩
abbrev main_v350 : Ref sig .tc := ⟨.hbm, 547, rfl⟩
abbrev main_v351 : Ref sig .tc := ⟨.hbm, 548, rfl⟩
abbrev main_cst_131 : Ref sig .tc := ⟨.hbm, 549, rfl⟩
abbrev main_v352 : Ref sig .tc := ⟨.hbm, 550, rfl⟩
abbrev main_v353 : Ref sig .tc := ⟨.hbm, 551, rfl⟩
abbrev main_v354 : Ref sig .tc := ⟨.hbm, 552, rfl⟩
abbrev main_cst_132 : Ref sig .tc := ⟨.hbm, 553, rfl⟩
abbrev main_v355 : Ref sig .tc := ⟨.hbm, 554, rfl⟩
abbrev main_v356 : Ref sig .tc := ⟨.hbm, 555, rfl⟩
abbrev main_v357 : Ref sig .tc := ⟨.hbm, 556, rfl⟩
abbrev main_cst_133 : Ref sig .tc := ⟨.hbm, 557, rfl⟩
abbrev main_v358 : Ref sig .tc := ⟨.hbm, 558, rfl⟩
abbrev main_v359 : Ref sig .tc := ⟨.hbm, 559, rfl⟩
abbrev main_cst_134 : Ref sig .tc := ⟨.hbm, 560, rfl⟩
abbrev main_v360 : Ref sig .tc := ⟨.hbm, 561, rfl⟩
abbrev main_v361 : Ref sig .tc := ⟨.hbm, 562, rfl⟩
abbrev main_cst_135 : Ref sig .tc := ⟨.hbm, 563, rfl⟩
abbrev main_v362 : Ref sig .tc := ⟨.hbm, 564, rfl⟩
abbrev main_v363 : Ref sig .tc := ⟨.hbm, 565, rfl⟩
abbrev main_v364 : Ref sig .tc := ⟨.hbm, 566, rfl⟩
abbrev main_cst_136 : Ref sig .tc := ⟨.hbm, 567, rfl⟩
abbrev main_v365 : Ref sig .tc := ⟨.hbm, 568, rfl⟩
abbrev main_v366 : Ref sig .tc := ⟨.hbm, 569, rfl⟩
abbrev main_v367 : Ref sig .tc := ⟨.hbm, 570, rfl⟩
abbrev main_cst_137 : Ref sig .tc := ⟨.hbm, 571, rfl⟩
abbrev main_v368 : Ref sig .tc := ⟨.hbm, 572, rfl⟩
abbrev main_v369 : Ref sig .tc := ⟨.hbm, 573, rfl⟩
abbrev main_v370 : Ref sig .tc := ⟨.hbm, 574, rfl⟩
abbrev main_cst_138 : Ref sig .tc := ⟨.hbm, 575, rfl⟩
abbrev main_v371 : Ref sig .tc := ⟨.hbm, 576, rfl⟩
abbrev main_v372 : Ref sig .tc := ⟨.hbm, 577, rfl⟩
abbrev main_cst_139 : Ref sig .tc := ⟨.hbm, 578, rfl⟩
abbrev main_v373 : Ref sig .tc := ⟨.hbm, 579, rfl⟩
abbrev main_v374 : Ref sig .tc := ⟨.hbm, 580, rfl⟩
abbrev main_v375 : Ref sig .tc := ⟨.hbm, 581, rfl⟩
abbrev main_cst_140 : Ref sig .tc := ⟨.hbm, 582, rfl⟩
abbrev main_v376 : Ref sig .tc := ⟨.hbm, 583, rfl⟩
abbrev main_v377 : Ref sig .tc := ⟨.hbm, 584, rfl⟩
abbrev main_v378 : Ref sig .tc := ⟨.hbm, 585, rfl⟩
abbrev main_cst_141 : Ref sig .tc := ⟨.hbm, 586, rfl⟩
abbrev main_v379 : Ref sig .tc := ⟨.hbm, 587, rfl⟩
abbrev main_v380 : Ref sig .tc := ⟨.hbm, 588, rfl⟩
abbrev main_v381 : Ref sig .tc := ⟨.hbm, 589, rfl⟩
abbrev main_cst_142 : Ref sig .tc := ⟨.hbm, 590, rfl⟩
abbrev main_v382 : Ref sig .tc := ⟨.hbm, 591, rfl⟩
abbrev main_v383 : Ref sig .tc := ⟨.hbm, 592, rfl⟩
abbrev main_v384 : Ref sig .tc := ⟨.hbm, 593, rfl⟩
abbrev main_v385 : Ref sig .tc := ⟨.hbm, 594, rfl⟩
abbrev main_v386 : Ref sig .tc := ⟨.hbm, 595, rfl⟩
abbrev main_v387 : Ref sig .tc := ⟨.hbm, 596, rfl⟩
abbrev main_v388 : Ref sig .tc := ⟨.hbm, 597, rfl⟩
abbrev main_v389 : Ref sig .tc := ⟨.hbm, 598, rfl⟩
abbrev main_v390 : Ref sig .tc := ⟨.hbm, 599, rfl⟩
abbrev main_v391 : Ref sig .tc := ⟨.hbm, 600, rfl⟩
abbrev main_v392 : Ref sig .tc := ⟨.hbm, 601, rfl⟩
abbrev main_v393 : Ref sig .tc := ⟨.hbm, 602, rfl⟩
abbrev main_v394 : Ref sig .tc := ⟨.hbm, 603, rfl⟩
abbrev main_v395 : Ref sig .tc := ⟨.hbm, 604, rfl⟩
abbrev main_v396 : Ref sig .tc := ⟨.hbm, 605, rfl⟩
abbrev main_v397 : Ref sig .tc := ⟨.hbm, 606, rfl⟩
abbrev main_v398 : Ref sig .tc := ⟨.hbm, 607, rfl⟩
abbrev main_cst_143 : Ref sig .tc := ⟨.hbm, 608, rfl⟩
abbrev main_v399 : Ref sig .tc := ⟨.hbm, 609, rfl⟩
abbrev main_v400 : Ref sig .tc := ⟨.hbm, 610, rfl⟩
abbrev main_v401 : Ref sig .tc := ⟨.hbm, 611, rfl⟩
abbrev main_v402 : Ref sig .tc := ⟨.hbm, 612, rfl⟩
abbrev main_v403 : Ref sig .tc := ⟨.hbm, 613, rfl⟩
abbrev main_v404 : Ref sig .tc := ⟨.hbm, 614, rfl⟩
abbrev main_v405 : Ref sig .tc := ⟨.hbm, 615, rfl⟩
abbrev main_v406 : Ref sig .tc := ⟨.hbm, 616, rfl⟩
abbrev main_v407 : Ref sig .tc := ⟨.hbm, 617, rfl⟩
abbrev main_v408 : Ref sig .tc := ⟨.hbm, 618, rfl⟩
abbrev main_v409 : Ref sig .tc := ⟨.hbm, 619, rfl⟩
abbrev main_v410 : Ref sig .tc := ⟨.hbm, 620, rfl⟩
abbrev main_v411 : Ref sig .tc := ⟨.hbm, 621, rfl⟩
abbrev main_v412 : Ref sig .tc := ⟨.hbm, 622, rfl⟩
abbrev main_v413 : Ref sig .tc := ⟨.hbm, 623, rfl⟩
abbrev main_v414 : Ref sig .tc := ⟨.hbm, 624, rfl⟩
abbrev main_v415 : Ref sig .tc := ⟨.hbm, 625, rfl⟩
abbrev main_v416 : Ref sig .tc := ⟨.hbm, 626, rfl⟩
abbrev main_cst_144 : Ref sig .tc := ⟨.hbm, 627, rfl⟩
abbrev main_v417 : Ref sig .tc := ⟨.hbm, 628, rfl⟩
abbrev main_v418 : Ref sig .tc := ⟨.hbm, 629, rfl⟩
abbrev main_v419 : Ref sig .tc := ⟨.hbm, 630, rfl⟩
abbrev main_v420 : Ref sig .tc := ⟨.hbm, 631, rfl⟩
abbrev main_v421 : Ref sig .tc := ⟨.hbm, 632, rfl⟩
abbrev main_v422 : Ref sig .tc := ⟨.hbm, 633, rfl⟩
abbrev main_v423 : Ref sig .tc := ⟨.hbm, 634, rfl⟩
abbrev main_v424 : Ref sig .tc := ⟨.hbm, 635, rfl⟩
abbrev main_v425 : Ref sig .tc := ⟨.hbm, 636, rfl⟩
abbrev main_v426 : Ref sig .tc := ⟨.hbm, 637, rfl⟩
abbrev main_v427 : Ref sig .tc := ⟨.hbm, 638, rfl⟩
abbrev main_v428 : Ref sig .tc := ⟨.hbm, 639, rfl⟩
abbrev main_v429 : Ref sig .tc := ⟨.hbm, 640, rfl⟩
abbrev main_v430 : Ref sig .tc := ⟨.hbm, 641, rfl⟩
abbrev main_v431 : Ref sig .tc := ⟨.hbm, 642, rfl⟩
abbrev main_v432 : Ref sig .tc := ⟨.hbm, 643, rfl⟩
abbrev main_v433 : Ref sig .tc := ⟨.hbm, 644, rfl⟩
abbrev main_v434 : Ref sig .tc := ⟨.hbm, 645, rfl⟩
abbrev main_cst_145 : Ref sig .tc := ⟨.hbm, 646, rfl⟩
abbrev main_v435 : Ref sig .tc := ⟨.hbm, 647, rfl⟩
abbrev main_v436 : Ref sig .tc := ⟨.hbm, 648, rfl⟩
abbrev main_v437 : Ref sig .tc := ⟨.hbm, 649, rfl⟩
abbrev main_v438 : Ref sig .tc := ⟨.hbm, 650, rfl⟩
abbrev main_v439 : Ref sig .tc := ⟨.hbm, 651, rfl⟩
abbrev main_v440 : Ref sig .tc := ⟨.hbm, 652, rfl⟩
abbrev main_v441 : Ref sig .tc := ⟨.hbm, 653, rfl⟩
abbrev main_v442 : Ref sig .tc := ⟨.hbm, 654, rfl⟩
abbrev main_v443 : Ref sig .tc := ⟨.hbm, 655, rfl⟩
abbrev main_v444 : Ref sig .tc := ⟨.hbm, 656, rfl⟩
abbrev main_v445 : Ref sig .tc := ⟨.hbm, 657, rfl⟩
abbrev main_v446 : Ref sig .tc := ⟨.hbm, 658, rfl⟩
abbrev main_v447 : Ref sig .tc := ⟨.hbm, 659, rfl⟩
abbrev main_v448 : Ref sig .tc := ⟨.hbm, 660, rfl⟩
abbrev main_v449 : Ref sig .tc := ⟨.hbm, 661, rfl⟩
abbrev main_v450 : Ref sig .tc := ⟨.hbm, 662, rfl⟩
abbrev main_v451 : Ref sig .tc := ⟨.hbm, 663, rfl⟩
abbrev main_v452 : Ref sig .tc := ⟨.hbm, 664, rfl⟩
abbrev main_cst_146 : Ref sig .tc := ⟨.hbm, 665, rfl⟩
abbrev main_v453 : Ref sig .tc := ⟨.hbm, 666, rfl⟩
abbrev main_v454 : Ref sig .tc := ⟨.hbm, 667, rfl⟩
abbrev main_v455 : Ref sig .tc := ⟨.hbm, 668, rfl⟩

abbrev nD : Nat := 1
abbrev τ : Topo := Topo.v7x

variable {F : FTy → Type} [FloatOps F]
-- ==== Proof.GateGrad.lean ====
/-
  The gradient of layer 1's gated unit `silu(g) · u`, taken back through the output projection.
-/
module

public import proofs.«01_k».proof.Defs
public import proofs.«01_k».proof.Proof.Gen.Kernel2Ideal.Value
public import proofs.«01_k».proof.Proof.Gen.Reference2Ideal.Run
public import proofs.«01_k».proof.Proof.Gen.Pre_finite2
public import Idealize.ShloMosaic.Lib.Pipeline.Value
public import Idealize.ShloMosaic.Lib.Pipeline.ValueKit.Tiles
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel2Ideal.Grad

open Cert.Kernel2Ideal Cert.Kernel2Ideal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The gradient at the gate, of the back-projected cotangent `d`, the gate `g` and the other half `u`. -/
def toGate (d g u : EReal) : EReal := d * u * (Ideal.logistic g * (1 + g * (1 - Ideal.logistic g)))

/-- The gradient at the other half: the cotangent times `silu g`. -/
def toUp (d g : EReal) : EReal := d * (g * Ideal.logistic g)

theorem gate_apply (x : Vec Ideal S256x1024 .bf16) (w : Vec Ideal S2816x1024 .bf16) (g u : Vec Ideal S1x256x2816 .bf16) (j : S256x2816.Idx) :
    k0_pay4 x w g u j = toGate (∑ k : Fin 1024, (x (ix2 (j 0) k) : EReal) * w (ix2 (j 1) k)) (g (ix3 0 (j 0) (j 1))) (u (ix3 0 (j 0) (j 1))) := by
  unfold k0_pay4 k0_pay3 k0_pay2 k0_pay1 toGate
  pointwise

theorem up_apply (x : Vec Ideal S256x1024 .bf16) (w : Vec Ideal S2816x1024 .bf16) (g : Vec Ideal S1x256x2816 .bf16) (j : S256x2816.Idx) :
    k0_pay5 x w g j = toUp (∑ k : Fin 1024, (x (ix2 (j 0) k) : EReal) * w (ix2 (j 1) k)) (g (ix3 0 (j 0) (j 1))) := by
  unfold k0_pay5 k0_pay3 k0_pay2 k0_pay1 toUp
  pointwise

/-- Entry `(r, l)` of the gate's half. -/
def gateAt {n : Nat} (x : (⟨2, ![n, 1024]⟩ : Shape).Idx → EReal) (w : S2816x1024.Idx → EReal) (p : (⟨3, ![2, n, 2816]⟩ : Shape).Idx → EReal)
    (r : Fin n) (l : Fin 2816) : EReal :=
  toGate (∑ k : Fin 1024, x (ix2 r k) * w (ix2 l k)) (p (ix3 0 r l)) (p (ix3 1 r l))

/-- Entry `(r, l)` of the other half. -/
def upAt {n : Nat} (x : (⟨2, ![n, 1024]⟩ : Shape).Idx → EReal) (w : S2816x1024.Idx → EReal) (p : (⟨3, ![2, n, 2816]⟩ : Shape).Idx → EReal)
    (r : Fin n) (l : Fin 2816) : EReal :=
  toUp (∑ k : Fin 1024, x (ix2 r k) * w (ix2 l k)) (p (ix3 0 r l))

/-- Both halves side by side, for any number of rows. -/
def halvesAt {n : Nat} (x : (⟨2, ![n, 1024]⟩ : Shape).Idx → EReal) (w : S2816x1024.Idx → EReal) (p : (⟨3, ![2, n, 2816]⟩ : Shape).Idx → EReal)
    (r : Fin n) (l : Fin 5632) : EReal :=
  if h : l.val < 2816 then gateAt x w p r ⟨l.val, h⟩ else upAt x w p r ⟨l.val - 2816, by omega⟩

/-- The same as an array. -/
def halves {n : Nat} (x : (⟨2, ![n, 1024]⟩ : Shape).Idx → EReal) (w : S2816x1024.Idx → EReal) (p : (⟨3, ![2, n, 2816]⟩ : Shape).Idx → EReal)
    (i : (⟨2, ![n, 5632]⟩ : Shape).Idx) : EReal := halvesAt x w p (i 0) (i 1)

theorem ld_gate (p : Vec Ideal S2x256x2816 .bf16) (r : Fin 256) (l : Fin 2816) : View.ld p r0_2 (ix3 0 r l) = p (ix3 0 r l) := by
  refine View.ld_unit_apply_of p _ _ _ _ _ fun a => ?_
  match a with
  | ⟨0, _⟩ => rfl
  | ⟨1, _⟩ => exact (Nat.zero_add _).symm
  | ⟨2, _⟩ => exact (Nat.zero_add _).symm

theorem ld_other (p : Vec Ideal S2x256x2816 .bf16) (r : Fin 256) (l : Fin 2816) : View.ld p r0_3 (ix3 0 r l) = p (ix3 1 r l) := by
  refine View.ld_unit_apply_of p _ _ _ _ _ fun a => ?_
  match a with
  | ⟨0, _⟩ => rfl
  | ⟨1, _⟩ => exact (Nat.zero_add _).symm
  | ⟨2, _⟩ => exact (Nat.zero_add _).symm

/-- What the body leaves in its buffer: the two stores, side by side. -/
theorem out_apply (x : Vec Ideal S256x1024 .bf16) (w : Vec Ideal S2816x1024 .bf16) (p : Vec Ideal S2x256x2816 .bf16) (y : S256x5632.Idx) :
    out0_3 x w p y = halves x w p y := by
  unfold out0_3
  refine View.canon_eq_of_allAt _ _ _ (cover0_3 _ _ y) ?_
  intro q hq z hz
  rw [View.ld_unit_zero zero_offsets, View.ld_unit_zero zero_offsets] at hq
  simp only [List.mem_cons, List.not_mem_nil, or_false] at hq
  rcases hq with rfl | rfl
  · subst hz
    show k0_pay5 (F := Ideal) _ _ _ z = halves x w p (r0_5.emb z)
    rw [up_apply]
    have hc : ¬((r0_5.emb z) 1 : Nat) < 2816 := by show ¬ 2816 + 1 * (z 1 : Nat) < 2816; omega
    unfold halves halvesAt
    rw [dif_neg hc]
    unfold upAt
    have e0 : r0_5.emb z 0 = z 0 := Fin.ext (by show 0 + 1 * (z 0 : Nat) = z 0; omega)
    have e1 : ∀ h, (⟨(r0_5.emb z 1 : Nat) - 2816, h⟩ : Fin 2816) = z 1 := fun h => Fin.ext (by show 2816 + 1 * (z 1 : Nat) - 2816 = z 1; omega)
    rw [e0, e1]
    exact congrArg (toUp _) (ld_gate p _ _)
  · subst hz
    show k0_pay4 (F := Ideal) _ _ _ _ z = halves x w p (r0_4.emb z)
    rw [gate_apply]
    have hz1 : (z 1 : Nat) < 2816 := (z 1).isLt
    have hc : ((r0_4.emb z) 1 : Nat) < 2816 := by show 0 + 1 * (z 1 : Nat) < 2816; omega
    unfold halves halvesAt
    rw [dif_pos hc]
    unfold gateAt
    have e0 : r0_4.emb z 0 = z 0 := Fin.ext (by show 0 + 1 * (z 0 : Nat) = z 0; omega)
    have e1 : ∀ h, (⟨(r0_4.emb z 1 : Nat), h⟩ : Fin 2816) = z 1 := fun h => Fin.ext (by show 0 + 1 * (z 1 : Nat) = z 1; omega)
    rw [e0, e1]
    exact congrArg₂ (toGate _) (ld_gate p _ _) (ld_other p _ _)

/-- The gradient of the whole batch row. -/
abbrev grad (c : Dev nD) : Buf (Elt Ideal) ((c : Thread nD τ).loc main_v0) := fun i =>
  halves (n := 4096) (m ((c : Thread nD τ).loc main_arg0)) (m ((c : Thread nD τ).loc main_arg1)) (m ((c : Thread nD τ).loc main_arg2)) i

/-- The windows' block indices: rows advance with the point, the weight stays. -/
theorem blocks_at : ∀ t : Fin grid0.N, (win0_0.index t 0 = t.val ∧ win0_0.index t 1 = 0) ∧ (win0_1.index t 0 = 0 ∧ win0_1.index t 1 = 0)
    ∧ (win0_2.index t 0 = 0 ∧ win0_2.index t 1 = t.val ∧ win0_2.index t 2 = 0) ∧ (win0_3.index t 0 = t.val ∧ win0_3.index t 1 = 0) := by decide +kernel

/-- Row `r` of a block is row `f r` of the array. -/
theorem halves_block {n n' : Nat} (f : Fin n → Fin n') (x : (⟨2, ![n, 1024]⟩ : Shape).Idx → EReal) (w : S2816x1024.Idx → EReal) (p : (⟨3, ![2, n, 2816]⟩ : Shape).Idx → EReal)
    (X : (⟨2, ![n', 1024]⟩ : Shape).Idx → EReal) (P : (⟨3, ![2, n', 2816]⟩ : Shape).Idx → EReal)
    (hx : ∀ r k, x (ix2 r k) = X (ix2 (f r) k)) (hp : ∀ a r k, p (ix3 a r k) = P (ix3 a (f r) k))
    (i : (⟨2, ![n, 5632]⟩ : Shape).Idx) (i' : (⟨2, ![n', 5632]⟩ : Shape).Idx) (h0 : i' 0 = f (i 0)) (h1 : i' 1 = i 1) :
    halves x w p i = halves X w P i' := by
  have key : ∀ r l, halvesAt x w p r l = halvesAt X w P (f r) l := fun r l => by
    unfold halvesAt gateAt upAt
    simp only [hx, hp]
  unfold halves
  rw [h0, h1]
  exact key _ _

theorem flushed_eq (c : Dev nD) (t : Fin cfg0.N) :
    (dats m 0 c).flushed 3 t = ((cfg0.win 3).blk t).view.read (Elt Ideal) (grad m c) := by
  obtain ⟨⟨e0, e1⟩, ⟨e2, e3⟩, ⟨e4, e5, e6⟩, e7, e8⟩ := blocks_at t
  have ht : t.val < 16 := by have := t.isLt; have hN : cfg0.N = 16 := N_0; omega
  rw [Value.flushed3]
  funext j
  rw [View.read_apply]
  show out0_3 _ _ _ ((cfg0.win 3).xinj (grid0.coords t) j) = grad m c (((cfg0.win 3).blk t).view.emb j)
  rw [out_apply]
  have hw : iblk m c 1 t = m ((c : Thread nD τ).loc main_arg1) := by
    funext i
    show V m c main_arg1 _ = m _ _
    rw [V_main_arg1]
    congr 1
    funext a
    apply Fin.ext
    match a with
    | ⟨0, _⟩ => show win0_1.index t 0 * 2816 + 1 * (i 0).val = (i 0).val; rw [e2]; omega
    | ⟨1, _⟩ => show win0_1.index t 1 * 1024 + 1 * (i 1).val = (i 1).val; rw [e3]; omega
  rw [hw]
  refine halves_block (n := 256) (n' := 4096) (fun r => ⟨t.val * 256 + r.val, by omega⟩) _ _ _ _ _ (fun r k => ?_) (fun a r k => ?_) _ _ ?_ ?_
  · show V m c main_arg0 _ = m _ _
    rw [V_main_arg0]
    congr 1
    funext a
    apply Fin.ext
    match a with
    | ⟨0, _⟩ => show win0_0.index t 0 * 256 + 1 * r.val = t.val * 256 + r.val; rw [e0]; omega
    | ⟨1, _⟩ => show win0_0.index t 1 * 1024 + 1 * k.val = k.val; rw [e1]; omega
  · show V m c main_arg2 _ = m _ _
    rw [V_main_arg2]
    congr 1
    funext b
    apply Fin.ext
    match b with
    | ⟨0, _⟩ => show win0_2.index t 0 * 2 + 1 * a.val = a.val; rw [e4]; omega
    | ⟨1, _⟩ => show win0_2.index t 1 * 256 + 1 * r.val = t.val * 256 + r.val; rw [e5]; omega
    | ⟨2, _⟩ => show win0_2.index t 2 * 2816 + 1 * k.val = k.val; rw [e6]; omega
  · exact Fin.ext (by show win0_3.index t 0 * 256 + 1 * (j 0).val = t.val * 256 + (j 0).val; rw [e7]; omega)
  · exact Fin.ext (by show win0_3.index t 1 * 5632 + 1 * (j 1).val = (j 1).val; rw [e8]; omega)

theorem cover (i : S4096x5632.Idx) : ∃ t : Fin cfg0.N, (cfg0.win 3).flush t = true ∧ i ∈ ((cfg0.win 3).blk t).view.set := by
  have h0 : (i 0 : Nat) < 4096 := (i 0).isLt
  have h1 : (i 1 : Nat) < 5632 := (i 1).isLt
  have hN : cfg0.N = 16 := N_0
  obtain ⟨t, ht⟩ : ∃ t : Fin cfg0.N, t.val = (i 0 : Nat) / 256 := ⟨⟨(i 0 : Nat) / 256, by omega⟩, rfl⟩
  obtain ⟨-, -, -, e7, e8⟩ := blocks_at t
  refine ⟨t, flush0_3 _, ?_⟩
  show i ∈ ((View.whole main_v0).slice (win0_3.rect t)).set
  rw [View.set_slice_whole, Rect.mem_set_unit]
  intro a
  match a with
  | ⟨0, _⟩ => show win0_3.index t 0 * 256 ≤ (i 0 : Nat) ∧ (i 0 : Nat) < win0_3.index t 0 * 256 + 256; rw [e7]; omega
  | ⟨1, _⟩ => show win0_3.index t 1 * 5632 ≤ (i 1 : Nat) ∧ (i 1 : Nat) < win0_3.index t 1 * 5632 + 5632; rw [e8]; omega

theorem final (c : Dev nD) : (dats m 0 c).arrAt 3 cfg0.N = grad m c :=
  (dats m 0 c).arrAt_eq_of_cover 3 (grad m c) (fun t _ => flushed_eq m c t) cover

end Cert.Kernel2Ideal.Grad

namespace Cert.Reference2Ideal.Grad

open Cert.Reference2Ideal Cert.Reference2Ideal.Gen

/-- The reference's three intermediate arrays: the gate, the other half, the back-projected cotangent. -/
def gate (p : FVec Ideal S2x4096x2816 .bf16) : FVec Ideal S4096x2816 .f32 :=
  extf .f32 (shapeCast S4096x2816 (extractStridedSlice S1x4096x2816 ![0, 0, 0] p slices_S2x4096x2816_S1x4096x2816_0_0_0) shapeCasts_S1x4096x2816_S4096x2816) bitsLt_bf16_f32
def other (p : FVec Ideal S2x4096x2816 .bf16) : FVec Ideal S4096x2816 .f32 :=
  extf .f32 (shapeCast S4096x2816 (extractStridedSlice S1x4096x2816 ![1, 0, 0] p slices_S2x4096x2816_S1x4096x2816_1_0_0) shapeCasts_S1x4096x2816_S4096x2816) bitsLt_bf16_f32
def back (x : FVec Ideal S4096x1024 .bf16) (w : FVec Ideal S2816x1024 .bf16) : FVec Ideal S4096x2816 .f32 :=
  Host.dotGeneral dot_S4096x1024_S2816x1024_S4096x2816_1_1_0_0_n_n none (extf .f32 x bitsLt_bf16_f32) (extf .f32 w bitsLt_bf16_f32)
def ones : FVec Ideal S4096x2816 .f32 := broadcastInDim S4096x2816 ![] bcast_S_S4096x2816 (constant S_ .f32 0x3F800000#32)
def sig (p : FVec Ideal S2x4096x2816 .bf16) : FVec Ideal S4096x2816 .f32 := Host.divf ones (addf ones (Host.exp (Host.negf (gate p))))

/-- The reference's result. -/
def grad (x : FVec Ideal S4096x1024 .bf16) (w : FVec Ideal S2816x1024 .bf16) (p : FVec Ideal S2x4096x2816 .bf16) : FVec Ideal S4096x5632 .bf16 :=
  truncf .bf16 (concatenate S4096x5632 1
    [⟨S4096x2816, addf (mulf (mulf (back x w) (other p)) (sig p))
        (mulf (mulf (gate p) (mulf (back x w) (other p))) (mulf (sig p) (subf ones (sig p))))⟩,
     ⟨S4096x2816, mulf (mulf (gate p) (sig p)) (back x w)⟩] concatenates_S4096x2816_S4096x2816_S4096x5632_d1) bitsLt_bf16_f32

theorem gate_at (p : FVec Ideal S2x4096x2816 .bf16) (j : S4096x2816.Idx) : gate p j = p (ix3 0 (j 0) (j 1)) := by
  unfold gate; pointwise
theorem other_at (p : FVec Ideal S2x4096x2816 .bf16) (j : S4096x2816.Idx) : other p j = p (ix3 1 (j 0) (j 1)) := by
  unfold other; pointwise
theorem back_at (x : FVec Ideal S4096x1024 .bf16) (w : FVec Ideal S2816x1024 .bf16) (j : S4096x2816.Idx) :
    back x w j = ∑ k : Fin 1024, (x (ix2 (j 0) k) : EReal) * w (ix2 (j 1) k) := by
  unfold back; pointwise
theorem ones_at (j : S4096x2816.Idx) : ones j = (1 : EReal) := by
  unfold ones; pointwise
theorem sig_at (p : FVec Ideal S2x4096x2816 .bf16) (j : S4096x2816.Idx) : sig p j = Ideal.logistic (p (ix3 0 (j 0) (j 1))) := by
  rw [← gate_at p j]
  show Ideal.div (ones j) (ones j + Ideal.exp (-(gate p j))) = _
  rw [ones_at]
  rfl

/-- A sum of products of real numbers is a real number. -/
theorem real_sum {n : Nat} (f g : Fin n → EReal) (hf : ∀ k, ∃ r : ℝ, f k = r) (hg : ∀ k, ∃ r : ℝ, g k = r) : ∃ r : ℝ, ∑ k, f k * g k = (r : EReal) := by
  refine Finset.sum_induction _ (fun e : EReal => ∃ r : ℝ, e = r) ?_ ⟨0, rfl⟩ fun k _ => ?_
  · rintro _ _ ⟨a, rfl⟩ ⟨b, rfl⟩; exact ⟨a + b, (EReal.coe_add a b).symm⟩
  · obtain ⟨a, ha⟩ := hf k; obtain ⟨b, hb⟩ := hg k
    exact ⟨a * b, by rw [ha, hb, EReal.coe_mul]⟩

/-- Among real numbers the two spellings of `silu`'s derivative agree: `s + g s (1 - s) = s (1 + g (1 - s))`. -/
theorem toGate_real (d g u : ℝ) : (d : EReal) * u * Ideal.logistic g + g * (d * u) * (Ideal.logistic g * (1 - Ideal.logistic g))
    = Cert.Kernel2Ideal.Grad.toGate d g u := by
  unfold Cert.Kernel2Ideal.Grad.toGate
  rw [Ideal.logistic_coe]
  norm_cast
  ring

theorem grad_at (x : FVec Ideal S4096x1024 .bf16) (w : FVec Ideal S2816x1024 .bf16) (p : FVec Ideal S2x4096x2816 .bf16)
    (hx : ∀ i, ∃ r : ℝ, x i = (r : EReal)) (hw : ∀ i, ∃ r : ℝ, w i = (r : EReal)) (hp : ∀ i, ∃ r : ℝ, p i = (r : EReal)) (i : S4096x5632.Idx) :
    grad x w p i = Cert.Kernel2Ideal.Grad.halves (n := 4096) x w p i := by
  unfold grad
  pointwise
  unfold Cert.Kernel2Ideal.Grad.halves Cert.Kernel2Ideal.Grad.halvesAt
  refine dite_congr rfl (fun h => ?_) (fun h => ?_)
  · rw [back_at, other_at, sig_at, gate_at, ones_at]
    obtain ⟨d, hd⟩ := real_sum (fun k : Fin 1024 => (x (ix2 (i 0) k) : EReal)) (fun k => w (ix2 ⟨(i 1).val, h⟩ k)) (fun _ => hx _) fun _ => hw _
    obtain ⟨g, hg⟩ := hp (ix3 0 (i 0) ⟨(i 1).val, h⟩)
    obtain ⟨u, hu⟩ := hp (ix3 1 (i 0) ⟨(i 1).val, h⟩)
    unfold Cert.Kernel2Ideal.Grad.gateAt
    refine Eq.trans ?_ ((toGate_real d g u).trans ?_)
    · show (∑ k : Fin 1024, (x (ix2 (i 0) k) : EReal) * w (ix2 ⟨(i 1).val, h⟩ k)) * p (ix3 1 (i 0) ⟨(i 1).val, h⟩) * Ideal.logistic (p (ix3 0 (i 0) ⟨(i 1).val, h⟩))
        + p (ix3 0 (i 0) ⟨(i 1).val, h⟩) * ((∑ k : Fin 1024, (x (ix2 (i 0) k) : EReal) * w (ix2 ⟨(i 1).val, h⟩ k)) * p (ix3 1 (i 0) ⟨(i 1).val, h⟩))
          * (Ideal.logistic (p (ix3 0 (i 0) ⟨(i 1).val, h⟩)) * (1 - Ideal.logistic (p (ix3 0 (i 0) ⟨(i 1).val, h⟩)))) = _
      rw [hd, hg, hu]
    · rw [← hd, ← hg, ← hu]
  · rw [back_at, sig_at, gate_at]
    exact mul_comm (G := EReal) _ _

/-- An extended real below `+∞` in absolute value is a real number. -/
theorem real_of_lt (x : EReal) (h : BitVec.ofBool (decide (max x (-x) < Ideal.ofBits .f32 2139095040#32)) = 1#1) : ∃ r : ℝ, x = r := by
  have hinf : Ideal.ofBits .f32 2139095040#32 = (⊤ : EReal) := by rfl
  rw [hinf] at h
  have hlt : max x (-x) < ⊤ := by
    by_contra hn
    rw [decide_eq_false hn] at h
    exact absurd h (by decide)
  induction x with
  | bot => exact absurd hlt (by simp)
  | top => exact absurd hlt (by simp)
  | coe r => exact ⟨r, rfl⟩

end Cert.Reference2Ideal.Grad

namespace Cert.Proof.GateGrad

open Cert.Reference2Ideal.Grad (real_of_lt)

variable (x : FVec Ideal Cert.Kernel2Ideal.S4096x1024 .bf16) (w : FVec Ideal Cert.Kernel2Ideal.S2816x1024 .bf16) (p : FVec Ideal Cert.Kernel2Ideal.S2x4096x2816 .bf16)

/-! The precondition, entry by entry: every entry of the three arguments is a real number. -/

theorem real_x (h : (Cert.Pre_finite2.fn (F := Ideal) x w p).1 = fun _ => 1#1) (i : Cert.Kernel2Ideal.S4096x1024.Idx) : ∃ r : ℝ, x i = (r : EReal) := by
  have e := congrFun h i
  unfold Cert.Pre_finite2.fn at e
  pointwise at e
  exact real_of_lt _ e

theorem real_w (h : (Cert.Pre_finite2.fn (F := Ideal) x w p).2.1 = fun _ => 1#1) (i : Cert.Kernel2Ideal.S2816x1024.Idx) : ∃ r : ℝ, w i = (r : EReal) := by
  have e := congrFun h i
  unfold Cert.Pre_finite2.fn at e
  pointwise at e
  exact real_of_lt _ e

theorem real_p (h : (Cert.Pre_finite2.fn (F := Ideal) x w p).2.2 = fun _ => 1#1) (i : Cert.Kernel2Ideal.S2x4096x2816.Idx) : ∃ r : ℝ, p i = (r : EReal) := by
  have e := congrFun h i
  unfold Cert.Pre_finite2.fn at e
  pointwise at e
  exact real_of_lt _ e

/-- On finite arguments, at exact arithmetic, the kernel's blocks and the derivative of `(silu g · u) · w` are one array. -/
theorem algebraic : Cert.algebraic_Kernel2Ideal_Reference2Ideal_pre_finite2 := by
  intro m ρ m' ρ' pre agree
  refine ⟨fun c => Cert.Kernel2Ideal.Grad.grad m c,
    (θ_run Cert.Kernel2Ideal.defs _ _).mono (fun _ h c => ⟨(h c).1.trans (Cert.Kernel2Ideal.Grad.final m c), (h c).2⟩)
      (Cert.Kernel2Ideal.Value.run_blocks m ρ), ?_⟩
  refine (θ_run Cert.Reference2Ideal.defs _ _).mono (fun _ h c => ⟨(h c).1.trans ?_, (h c).2⟩)
    (Cert.Reference2Ideal.Value.run (F := Ideal) m' ρ')
  rw [(agree c).1, (agree c).2.1, (agree c).2.2]
  funext i
  exact Cert.Reference2Ideal.Grad.grad_at _ _ _ (real_x _ _ _ (pre c).1) (real_w _ _ _ (pre c).2.1) (real_p _ _ _ (pre c).2.2) i

end Cert.Proof.GateGrad
-- ==== Proof.Products.lean ====
/-
  The two shapes of matrix product the backward pass takes, entry by entry over the extended reals.
-/
module

public import Idealize.ShloMosaic.PureOps.Ideal
public import Idealize.ShloMosaic.Lib.Pointwise

@[expose] public section

noncomputable section

open Idealize.ShloMosaic

namespace Cert.Products

theorem zero_offsets : (![0, 0] : Fin 2 → Nat) = fun _ => 0 := funext fun a => by fin_cases a <;> rfl

/-- A weight's gradient `hᵀ · d`: entry `(a, b)` is `∑ₖ h[k, a] · d[k, b]`, the sum running over the tokens. -/
def columns {K M N : Nat} (h : (⟨2, ![K, M]⟩ : Shape).Idx → EReal) (d : (⟨2, ![K, N]⟩ : Shape).Idx → EReal)
    (i : (⟨2, ![M, N]⟩ : Shape).Idx) : EReal := ∑ k : Fin K, h (ix2 k (i 0)) * d (ix2 k (i 1))

/-- A gradient taken back through a weight, `d · wᵀ`: entry `(r, a)` is `∑ₖ d[r, k] · w[a, k]`. -/
def rows {K M N : Nat} (d : (⟨2, ![M, K]⟩ : Shape).Idx → EReal) (w : (⟨2, ![N, K]⟩ : Shape).Idx → EReal)
    (i : (⟨2, ![M, N]⟩ : Shape).Idx) : EReal := ∑ k : Fin K, d (ix2 (i 0) k) * w (ix2 (i 1) k)

/-- The order of the two factors does not matter. -/
theorem columns_comm {K M N : Nat} (h : (⟨2, ![K, M]⟩ : Shape).Idx → EReal) (d : (⟨2, ![K, N]⟩ : Shape).Idx → EReal)
    (i : (⟨2, ![M, N]⟩ : Shape).Idx) : ∑ k : Fin K, d (ix2 k (i 1)) * h (ix2 k (i 0)) = columns h d i :=
  Finset.sum_congr rfl fun _ _ => mul_comm _ _

end Cert.Products
-- ==== Proof.FfnIn1.lean ====
/-
  `l1_ffn_in_dw`: the weight gradient of layer 1's feed-forward entry. The kernel's tiles are the blocks of one matrix product.
-/
module

public import proofs.«01_k».proof.Defs
public import proofs.«01_k».proof.Proof.Products
public import proofs.«01_k».proof.Proof.Gen.Kernel3Ideal.Value
public import proofs.«01_k».proof.Proof.Gen.Reference3Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel3Ideal.Grad

open Cert.Kernel3Ideal Cert.Kernel3Ideal.Gen

variable (m : (ℓ : Loc nD τ sig) → Buf (Elt Ideal) ℓ) (ρ : Dev nD → PrngReg)

/-- One tile, entry by entry. -/
theorem tile_apply (x : Vec Ideal S4096x1024 .bf16) (y : Vec Ideal S4096x512 .bf16) (j : S1024x512.Idx) :
    k0_pay1 x y j = ∑ k : Fin 4096, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4096 + 1 * k.val = k.val; rw [e0]; omega
    | ⟨1, _⟩ => show win0_0.index t 1 * 1024 + 1 * (j 0).val = win0_2.index t 0 * 1024 + 1 * (j 0).val; rw [e1, e4]
  · show V m c main_arg1 _ = m _ _
    rw [V_main_arg1]
    congr 1
    funext a
    apply Fin.ext
    match a with
    | ⟨0, _⟩ => show win0_1.index t 0 * 4096 + 1 * k.val = k.val; rw [e2]; omega
    | ⟨1, _⟩ => show win0_1.index t 1 * 512 + 1 * (j 1).val = win0_2.index t 1 * 512 + 1 * (j 1).val; rw [e3, e5]

/-- Every entry lies in one of the tiles. -/
theorem cover (i : S1024x5632.Idx) : ∃ t : Fin cfg0.N, (cfg0.win 2).flush t = true ∧ i ∈ ((cfg0.win 2).blk t).view.set := by
  have h0 : (i 0 : Nat) < 1024 := (i 0).isLt
  have h1 : (i 1 : Nat) < 5632 := (i 1).isLt
  have hN : cfg0.N = 11 := N_0
  obtain ⟨t, ht⟩ : ∃ t : Fin cfg0.N, t.val = (i 0 : Nat) / 1024 * 11 + (i 1 : Nat) / 512 :=
    ⟨⟨(i 0 : Nat) / 1024 * 11 + (i 1 : Nat) / 512, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 512 ≤ (i 1 : Nat) ∧ (i 1 : Nat) < win0_2.index t 1 * 512 + 512; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel3Ideal.Grad

namespace Cert.Reference3Ideal.Grad

open Cert.Reference3Ideal Cert.Reference3Ideal.Gen

/-- The reference's operations, composed. -/
theorem host_product (h : FVec Ideal S4096x1024 .bf16) (d : FVec Ideal S4096x5632 .bf16) (e : FTy.bf16.bits < FTy.f32.bits) (p) :
    truncf .bf16 (transpose S1024x5632 [1, 0] (Host.dotGeneral (F := Ideal) dot_S4096x5632_S4096x1024_S5632x1024_0_0_1_1_n_n none (extf .f32 d e) (extf .f32 h e)) p) e = (columns h d : FVec Ideal S1024x5632 .bf16) := by
  funext i
  unfold columns
  pointwise
  exact Cert.Products.columns_comm _ _ i

end Cert.Reference3Ideal.Grad

namespace Cert.Proof.FfnIn1

/-- At exact arithmetic the kernel's tiles and the reference's derivative are one array. -/
theorem algebraic : Cert.algebraic_Kernel3Ideal_Reference3Ideal := by
  intro m ρ m' ρ' _ agree
  refine ⟨fun c => Cert.Kernel3Ideal.Grad.grad m c,
    (θ_run Cert.Kernel3Ideal.defs _ _).mono (fun _ h c => ⟨(h c).1.trans (Cert.Kernel3Ideal.Grad.final m c), (h c).2⟩)
      (Cert.Kernel3Ideal.Value.run_blocks m ρ), ?_⟩
  refine (θ_run Cert.Reference3Ideal.defs _ _).mono (fun _ h c => ⟨(h c).1.trans ?_, (h c).2⟩)
    (Cert.Reference3Ideal.Value.run (F := Ideal) m' ρ')
  rw [(agree c).1, (agree c).2]
  exact Cert.Reference3Ideal.Grad.host_product _ _ _ _

end Cert.Proof.FfnIn1
-- ==== Proof.ScanIn1.lean ====
/-
  `l1_in_dw`: the weight gradient of layer 1's input projection. The kernel's tiles are the blocks of one matrix product.
-/
module

public import proofs.«01_k».proof.Defs
public import proofs.«01_k».proof.Proof.Products
public import proofs.«01_k».proof.Proof.Gen.Kernel4Ideal.Value
public import proofs.«01_k».proof.Proof.Gen.Reference4Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel4Ideal.Grad

open Cert.Kernel4Ideal Cert.Kernel4Ideal.Gen

variable (m : (ℓ : Loc nD τ sig) → Buf (Elt Ideal) ℓ) (ρ : Dev nD → PrngReg)

/-- One tile, entry by entry. -/
theorem tile_apply (x : Vec Ideal S4352x1024 .bf16) (y : Vec Ideal S4352x768 .bf16) (j : S1024x768.Idx) :
    k0_pay1 x y j = ∑ k : Fin 4352, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4352 + 1 * k.val = k.val; rw [e0]; omega
    | ⟨1, _⟩ => show win0_0.index t 1 * 1024 + 1 * (j 0).val = win0_2.index t 0 * 1024 + 1 * (j 0).val; rw [e1, e4]
  · show V m c main_arg1 _ = m _ _
    rw [V_main_arg1]
    congr 1
    funext a
    apply Fin.ext
    match a with
    | ⟨0, _⟩ => show win0_1.index t 0 * 4352 + 1 * k.val = k.val; rw [e2]; omega
    | ⟨1, _⟩ => show win0_1.index t 1 * 768 + 1 * (j 1).val = win0_2.index t 1 * 768 + 1 * (j 1).val; rw [e3, e5]

/-- Every entry lies in one of the tiles. -/
theorem cover (i : S1024x5376.Idx) : ∃ t : Fin cfg0.N, (cfg0.win 2).flush t = true ∧ i ∈ ((cfg0.win 2).blk t).view.set := by
  have h0 : (i 0 : Nat) < 1024 := (i 0).isLt
  have h1 : (i 1 : Nat) < 5376 := (i 1).isLt
  have hN : cfg0.N = 7 := N_0
  obtain ⟨t, ht⟩ : ∃ t : Fin cfg0.N, t.val = (i 0 : Nat) / 1024 * 7 + (i 1 : Nat) / 768 :=
    ⟨⟨(i 0 : Nat) / 1024 * 7 + (i 1 : Nat) / 768, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 768 ≤ (i 1 : Nat) ∧ (i 1 : Nat) < win0_2.index t 1 * 768 + 768; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel4Ideal.Grad

namespace Cert.Reference4Ideal.Grad

open Cert.Reference4Ideal Cert.Reference4Ideal.Gen

/-- The reference's operations, composed. -/
theorem host_product (h : FVec Ideal S4352x1024 .bf16) (d : FVec Ideal S4352x5376 .bf16) (e : FTy.bf16.bits < FTy.f32.bits) (p) :
    transpose S1024x5376 [1, 0] (Host.dotGeneral (F := Ideal) dot_S4352x5376_S4352x1024_S5376x1024_0_0_1_1_n_n none (extf .f32 d e) (extf .f32 h e)) p = (columns h d : FVec Ideal S1024x5376 .f32) := by
  funext i
  unfold columns
  pointwise
  exact Cert.Products.columns_comm _ _ i

end Cert.Reference4Ideal.Grad

namespace Cert.Proof.ScanIn1

/-- At exact arithmetic the kernel's tiles and the reference's derivative are one array. -/
theorem algebraic : Cert.algebraic_Kernel4Ideal_Reference4Ideal := by
  intro m ρ m' ρ' _ agree
  refine ⟨fun c => Cert.Kernel4Ideal.Grad.grad m c,
    (θ_run Cert.Kernel4Ideal.defs _ _).mono (fun _ h c => ⟨(h c).1.trans (Cert.Kernel4Ideal.Grad.final m c), (h c).2⟩)
      (Cert.Kernel4Ideal.Value.run_blocks m ρ), ?_⟩
  refine (θ_run Cert.Reference4Ideal.defs _ _).mono (fun _ h c => ⟨(h c).1.trans ?_, (h c).2⟩)
    (Cert.Reference4Ideal.Value.run (F := Ideal) m' ρ')
  rw [(agree c).1, (agree c).2]
  exact Cert.Reference4Ideal.Grad.host_product _ _ _ _

end Cert.Proof.ScanIn1
-- ==== Proof.FfnIn0.lean ====
/-
  `l0_ffn_in_dw`: the weight gradient of layer 0's feed-forward entry. The kernel's tiles are the blocks of one matrix product.
-/
module

public import proofs.«01_k».proof.Defs
public import proofs.«01_k».proof.Proof.Products
public import proofs.«01_k».proof.Proof.Gen.Kernel5Ideal.Value
public import proofs.«01_k».proof.Proof.Gen.Reference5Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel5Ideal.Grad

open Cert.Kernel5Ideal Cert.Kernel5Ideal.Gen

variable (m : (ℓ : Loc nD τ sig) → Buf (Elt Ideal) ℓ) (ρ : Dev nD → PrngReg)

/-- One tile, entry by entry. -/
theorem tile_apply (x : Vec Ideal S4352x1024 .bf16) (y : Vec Ideal S4352x512 .bf16) (j : S1024x512.Idx) :
    k0_pay1 x y j = ∑ k : Fin 4352, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4352 + 1 * k.val = k.val; rw [e0]; omega
    | ⟨1, _⟩ => show win0_0.index t 1 * 1024 + 1 * (j 0).val = win0_2.index t 0 * 1024 + 1 * (j 0).val; rw [e1, e4]
  · show V m c main_arg1 _ = m _ _
    rw [V_main_arg1]
    congr 1
    funext a
    apply Fin.ext
    match a with
    | ⟨0, _⟩ => show win0_1.index t 0 * 4352 + 1 * k.val = k.val; rw [e2]; omega
    | ⟨1, _⟩ => show win0_1.index t 1 * 512 + 1 * (j 1).val = win0_2.index t 1 * 512 + 1 * (j 1).val; rw [e3, e5]

/-- Every entry lies in one of the tiles. -/
theorem cover (i : S1024x5632.Idx) : ∃ t : Fin cfg0.N, (cfg0.win 2).flush t = true ∧ i ∈ ((cfg0.win 2).blk t).view.set := by
  have h0 : (i 0 : Nat) < 1024 := (i 0).isLt
  have h1 : (i 1 : Nat) < 5632 := (i 1).isLt
  have hN : cfg0.N = 11 := N_0
  obtain ⟨t, ht⟩ : ∃ t : Fin cfg0.N, t.val = (i 0 : Nat) / 1024 * 11 + (i 1 : Nat) / 512 :=
    ⟨⟨(i 0 : Nat) / 1024 * 11 + (i 1 : Nat) / 512, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 512 ≤ (i 1 : Nat) ∧ (i 1 : Nat) < win0_2.index t 1 * 512 + 512; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel5Ideal.Grad

namespace Cert.Reference5Ideal.Grad

open Cert.Reference5Ideal Cert.Reference5Ideal.Gen

/-- The reference's operations, composed. -/
theorem host_product (h : FVec Ideal S4352x1024 .bf16) (d : FVec Ideal S4352x5632 .bf16) (e : FTy.bf16.bits < FTy.f32.bits) (p) :
    truncf .bf16 (transpose S1024x5632 [1, 0] (Host.dotGeneral (F := Ideal) dot_S4352x5632_S4352x1024_S5632x1024_0_0_1_1_n_n none (extf .f32 d e) (extf .f32 h e)) p) e = (columns h d : FVec Ideal S1024x5632 .bf16) := by
  funext i
  unfold columns
  pointwise
  exact Cert.Products.columns_comm _ _ i

end Cert.Reference5Ideal.Grad

namespace Cert.Proof.FfnIn0

/-- At exact arithmetic the kernel's tiles and the reference's derivative are one array. -/
theorem algebraic : Cert.algebraic_Kernel5Ideal_Reference5Ideal := by
  intro m ρ m' ρ' _ agree
  refine ⟨fun c => Cert.Kernel5Ideal.Grad.grad m c,
    (θ_run Cert.Kernel5Ideal.defs _ _).mono (fun _ h c => ⟨(h c).1.trans (Cert.Kernel5Ideal.Grad.final m c), (h c).2⟩)
      (Cert.Kernel5Ideal.Value.run_blocks m ρ), ?_⟩
  refine (θ_run Cert.Reference5Ideal.defs _ _).mono (fun _ h c => ⟨(h c).1.trans ?_, (h c).2⟩)
    (Cert.Reference5Ideal.Value.run (F := Ideal) m' ρ')
  rw [(agree c).1, (agree c).2]
  exact Cert.Reference5Ideal.Grad.host_product _ _ _ _

end Cert.Proof.FfnIn0
-- ==== Proof.FfnOut1.lean ====
/-
  `l1_ffn_out_dw`: the weight gradient of layer 1's feed-forward exit. The kernel's tiles are the blocks of one matrix product.
-/
module

public import proofs.«01_k».proof.Defs
public import proofs.«01_k».proof.Proof.Products
public import proofs.«01_k».proof.Proof.Gen.Kernel6Ideal.Value
public import proofs.«01_k».proof.Proof.Gen.Reference6Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel6Ideal.Grad

open Cert.Kernel6Ideal Cert.Kernel6Ideal.Gen

variable (m : (ℓ : Loc nD τ sig) → Buf (Elt Ideal) ℓ) (ρ : Dev nD → PrngReg)

/-- One tile, entry by entry. -/
theorem tile_apply (x : Vec Ideal S4096x1408 .bf16) (y : Vec Ideal S4096x512 .bf16) (j : S1408x512.Idx) :
    k0_pay1 x y j = ∑ k : Fin 4096, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4096 + 1 * k.val = k.val; rw [e0]; omega
    | ⟨1, _⟩ => show win0_0.index t 1 * 1408 + 1 * (j 0).val = win0_2.index t 0 * 1408 + 1 * (j 0).val; rw [e1, e4]
  · show V m c main_arg1 _ = m _ _
    rw [V_main_arg1]
    congr 1
    funext a
    apply Fin.ext
    match a with
    | ⟨0, _⟩ => show win0_1.index t 0 * 4096 + 1 * k.val = k.val; rw [e2]; omega
    | ⟨1, _⟩ => show win0_1.index t 1 * 512 + 1 * (j 1).val = win0_2.index t 1 * 512 + 1 * (j 1).val; rw [e3, e5]

/-- Every entry lies in one of the tiles. -/
theorem cover (i : S2816x1024.Idx) : ∃ t : Fin cfg0.N, (cfg0.win 2).flush t = true ∧ i ∈ ((cfg0.win 2).blk t).view.set := by
  have h0 : (i 0 : Nat) < 2816 := (i 0).isLt
  have h1 : (i 1 : Nat) < 1024 := (i 1).isLt
  have hN : cfg0.N = 4 := N_0
  obtain ⟨t, ht⟩ : ∃ t : Fin cfg0.N, t.val = (i 0 : Nat) / 1408 * 2 + (i 1 : Nat) / 512 :=
    ⟨⟨(i 0 : Nat) / 1408 * 2 + (i 1 : Nat) / 512, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1408 ≤ (i 0 : Nat) ∧ (i 0 : Nat) < win0_2.index t 0 * 1408 + 1408; rw [e4]; omega
  | ⟨1, _⟩ => show win0_2.index t 1 * 512 ≤ (i 1 : Nat) ∧ (i 1 : Nat) < win0_2.index t 1 * 512 + 512; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel6Ideal.Grad

namespace Cert.Reference6Ideal.Grad

open Cert.Reference6Ideal Cert.Reference6Ideal.Gen

/-- The reference's operations, composed. -/
theorem host_product (h : FVec Ideal S4096x2816 .bf16) (d : FVec Ideal S4096x1024 .bf16) (e : FTy.bf16.bits < FTy.f32.bits) (p) :
    truncf .bf16 (transpose S2816x1024 [1, 0] (Host.dotGeneral (F := Ideal) dot_S4096x1024_S4096x2816_S1024x2816_0_0_1_1_n_n none (extf .f32 d e) (extf .f32 h e)) p) e = (columns h d : FVec Ideal S2816x1024 .bf16) := by
  funext i
  unfold columns
  pointwise
  exact Cert.Products.columns_comm _ _ i

end Cert.Reference6Ideal.Grad

namespace Cert.Proof.FfnOut1

/-- At exact arithmetic the kernel's tiles and the reference's derivative are one array. -/
theorem algebraic : Cert.algebraic_Kernel6Ideal_Reference6Ideal := by
  intro m ρ m' ρ' _ agree
  refine ⟨fun c => Cert.Kernel6Ideal.Grad.grad m c,
    (θ_run Cert.Kernel6Ideal.defs _ _).mono (fun _ h c => ⟨(h c).1.trans (Cert.Kernel6Ideal.Grad.final m c), (h c).2⟩)
      (Cert.Kernel6Ideal.Value.run_blocks m ρ), ?_⟩
  refine (θ_run Cert.Reference6Ideal.defs _ _).mono (fun _ h c => ⟨(h c).1.trans ?_, (h c).2⟩)
    (Cert.Reference6Ideal.Value.run (F := Ideal) m' ρ')
  rw [(agree c).1, (agree c).2]
  exact Cert.Reference6Ideal.Grad.host_product _ _ _ _

end Cert.Proof.FfnOut1
-- ==== Proof.FfnOut0.lean ====
/-
  `l0_ffn_out_dw`: the weight gradient of layer 0's feed-forward exit. The kernel's tiles are the blocks of one matrix product.
-/
module

public import proofs.«01_k».proof.Defs
public import proofs.«01_k».proof.Proof.Products
public import proofs.«01_k».proof.Proof.Gen.Kernel7Ideal.Value
public import proofs.«01_k».proof.Proof.Gen.Reference7Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel7Ideal.Grad

open Cert.Kernel7Ideal Cert.Kernel7Ideal.Gen

variable (m : (ℓ : Loc nD τ sig) → Buf (Elt Ideal) ℓ) (ρ : Dev nD → PrngReg)

/-- One tile, entry by entry. -/
theorem tile_apply (x : Vec Ideal S4352x1408 .bf16) (y : Vec Ideal S4352x512 .bf16) (j : S1408x512.Idx) :
    k0_pay1 x y j = ∑ k : Fin 4352, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4352 + 1 * k.val = k.val; rw [e0]; omega
    | ⟨1, _⟩ => show win0_0.index t 1 * 1408 + 1 * (j 0).val = win0_2.index t 0 * 1408 + 1 * (j 0).val; rw [e1, e4]
  · show V m c main_arg1 _ = m _ _
    rw [V_main_arg1]
    congr 1
    funext a
    apply Fin.ext
    match a with
    | ⟨0, _⟩ => show win0_1.index t 0 * 4352 + 1 * k.val = k.val; rw [e2]; omega
    | ⟨1, _⟩ => show win0_1.index t 1 * 512 + 1 * (j 1).val = win0_2.index t 1 * 512 + 1 * (j 1).val; rw [e3, e5]

/-- Every entry lies in one of the tiles. -/
theorem cover (i : S2816x1024.Idx) : ∃ t : Fin cfg0.N, (cfg0.win 2).flush t = true ∧ i ∈ ((cfg0.win 2).blk t).view.set := by
  have h0 : (i 0 : Nat) < 2816 := (i 0).isLt
  have h1 : (i 1 : Nat) < 1024 := (i 1).isLt
  have hN : cfg0.N = 4 := N_0
  obtain ⟨t, ht⟩ : ∃ t : Fin cfg0.N, t.val = (i 0 : Nat) / 1408 * 2 + (i 1 : Nat) / 512 :=
    ⟨⟨(i 0 : Nat) / 1408 * 2 + (i 1 : Nat) / 512, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1408 ≤ (i 0 : Nat) ∧ (i 0 : Nat) < win0_2.index t 0 * 1408 + 1408; rw [e4]; omega
  | ⟨1, _⟩ => show win0_2.index t 1 * 512 ≤ (i 1 : Nat) ∧ (i 1 : Nat) < win0_2.index t 1 * 512 + 512; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel7Ideal.Grad

namespace Cert.Reference7Ideal.Grad

open Cert.Reference7Ideal Cert.Reference7Ideal.Gen

/-- The reference's operations, composed. -/
theorem host_product (h : FVec Ideal S4352x2816 .bf16) (d : FVec Ideal S4352x1024 .bf16) (e : FTy.bf16.bits < FTy.f32.bits) (p) :
    truncf .bf16 (transpose S2816x1024 [1, 0] (Host.dotGeneral (F := Ideal) dot_S4352x1024_S4352x2816_S1024x2816_0_0_1_1_n_n none (extf .f32 d e) (extf .f32 h e)) p) e = (columns h d : FVec Ideal S2816x1024 .bf16) := by
  funext i
  unfold columns
  pointwise
  exact Cert.Products.columns_comm _ _ i

end Cert.Reference7Ideal.Grad

namespace Cert.Proof.FfnOut0

/-- At exact arithmetic the kernel's tiles and the reference's derivative are one array. -/
theorem algebraic : Cert.algebraic_Kernel7Ideal_Reference7Ideal := by
  intro m ρ m' ρ' _ agree
  refine ⟨fun c => Cert.Kernel7Ideal.Grad.grad m c,
    (θ_run Cert.Kernel7Ideal.defs _ _).mono (fun _ h c => ⟨(h c).1.trans (Cert.Kernel7Ideal.Grad.final m c), (h c).2⟩)
      (Cert.Kernel7Ideal.Value.run_blocks m ρ), ?_⟩
  refine (θ_run Cert.Reference7Ideal.defs _ _).mono (fun _ h c => ⟨(h c).1.trans ?_, (h c).2⟩)
    (Cert.Reference7Ideal.Value.run (F := Ideal) m' ρ')
  rw [(agree c).1, (agree c).2]
  exact Cert.Reference7Ideal.Grad.host_product _ _ _ _

end Cert.Proof.FfnOut0
-- ==== Proof.ScanOut1.lean ====
/-
  `l1_out_dw`: the weight gradient of layer 1's output projection. The kernel's tiles are the blocks of one matrix product.
-/
module

public import proofs.«01_k».proof.Defs
public import proofs.«01_k».proof.Proof.Products
public import proofs.«01_k».proof.Proof.Gen.Kernel8Ideal.Value
public import proofs.«01_k».proof.Proof.Gen.Reference8Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel8Ideal.Grad

open Cert.Kernel8Ideal Cert.Kernel8Ideal.Gen

variable (m : (ℓ : Loc nD τ sig) → Buf (Elt Ideal) ℓ) (ρ : Dev nD → PrngReg)

/-- One tile, entry by entry. -/
theorem tile_apply (x : Vec Ideal S4096x1024 .bf16) (y : Vec Ideal S4096x512 .bf16) (j : S1024x512.Idx) :
    k0_pay1 x y j = ∑ k : Fin 4096, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = t.val / 2)
    ∧ (win0_1.index t 0 = 0 ∧ win0_1.index t 1 = t.val % 2) ∧ (win0_2.index t 0 = t.val / 2 ∧ win0_2.index t 1 = t.val % 2) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4096 + 1 * k.val = k.val; rw [e0]; omega
    | ⟨1, _⟩ => show win0_0.index t 1 * 1024 + 1 * (j 0).val = win0_2.index t 0 * 1024 + 1 * (j 0).val; rw [e1, e4]
  · show V m c main_arg1 _ = m _ _
    rw [V_main_arg1]
    congr 1
    funext a
    apply Fin.ext
    match a with
    | ⟨0, _⟩ => show win0_1.index t 0 * 4096 + 1 * k.val = k.val; rw [e2]; omega
    | ⟨1, _⟩ => show win0_1.index t 1 * 512 + 1 * (j 1).val = win0_2.index t 1 * 512 + 1 * (j 1).val; rw [e3, e5]

/-- Every entry lies in one of the tiles. -/
theorem cover (i : S2048x1024.Idx) : ∃ t : Fin cfg0.N, (cfg0.win 2).flush t = true ∧ i ∈ ((cfg0.win 2).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0 : Nat) / 1024 * 2 + (i 1 : Nat) / 512 :=
    ⟨⟨(i 0 : Nat) / 1024 * 2 + (i 1 : Nat) / 512, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 512 ≤ (i 1 : Nat) ∧ (i 1 : Nat) < win0_2.index t 1 * 512 + 512; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel8Ideal.Grad

namespace Cert.Reference8Ideal.Grad

open Cert.Reference8Ideal Cert.Reference8Ideal.Gen

/-- The reference's operations, composed. -/
theorem host_product (h : FVec Ideal S4096x2048 .bf16) (d : FVec Ideal S4096x1024 .bf16) (e : FTy.bf16.bits < FTy.f32.bits) (p) :
    truncf .bf16 (transpose S2048x1024 [1, 0] (Host.dotGeneral (F := Ideal) dot_S4096x1024_S4096x2048_S1024x2048_0_0_1_1_n_n none (extf .f32 d e) (extf .f32 h e)) p) e = (columns h d : FVec Ideal S2048x1024 .bf16) := by
  funext i
  unfold columns
  pointwise
  exact Cert.Products.columns_comm _ _ i

end Cert.Reference8Ideal.Grad

namespace Cert.Proof.ScanOut1

/-- At exact arithmetic the kernel's tiles and the reference's derivative are one array. -/
theorem algebraic : Cert.algebraic_Kernel8Ideal_Reference8Ideal := by
  intro m ρ m' ρ' _ agree
  refine ⟨fun c => Cert.Kernel8Ideal.Grad.grad m c,
    (θ_run Cert.Kernel8Ideal.defs _ _).mono (fun _ h c => ⟨(h c).1.trans (Cert.Kernel8Ideal.Grad.final m c), (h c).2⟩)
      (Cert.Kernel8Ideal.Value.run_blocks m ρ), ?_⟩
  refine (θ_run Cert.Reference8Ideal.defs _ _).mono (fun _ h c => ⟨(h c).1.trans ?_, (h c).2⟩)
    (Cert.Reference8Ideal.Value.run (F := Ideal) m' ρ')
  rw [(agree c).1, (agree c).2]
  exact Cert.Reference8Ideal.Grad.host_product _ _ _ _

end Cert.Proof.ScanOut1
-- ==== Proof.MixIn0.lean ====
/-
  `l0_in_dw`: the weight gradient of layer 0's input projection. The kernel's tiles are the blocks of one matrix product.
-/
module

public import proofs.«01_k».proof.Defs
public import proofs.«01_k».proof.Proof.Products
public import proofs.«01_k».proof.Proof.Gen.Kernel9Ideal.Value
public import proofs.«01_k».proof.Proof.Gen.Reference9Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel9Ideal.Grad

open Cert.Kernel9Ideal Cert.Kernel9Ideal.Gen

variable (m : (ℓ : Loc nD τ sig) → Buf (Elt Ideal) ℓ) (ρ : Dev nD → PrngReg)

/-- One tile, entry by entry. -/
theorem tile_apply (x : Vec Ideal S4352x1024 .bf16) (y : Vec Ideal S4352x256 .bf16) (j : S1024x256.Idx) :
    k0_pay1 x y j = ∑ k : Fin 4352, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4352 + 1 * k.val = k.val; rw [e0]; omega
    | ⟨1, _⟩ => show win0_0.index t 1 * 1024 + 1 * (j 0).val = win0_2.index t 0 * 1024 + 1 * (j 0).val; rw [e1, e4]
  · show V m c main_arg1 _ = m _ _
    rw [V_main_arg1]
    congr 1
    funext a
    apply Fin.ext
    match a with
    | ⟨0, _⟩ => show win0_1.index t 0 * 4352 + 1 * k.val = k.val; rw [e2]; omega
    | ⟨1, _⟩ => show win0_1.index t 1 * 256 + 1 * (j 1).val = win0_2.index t 1 * 256 + 1 * (j 1).val; rw [e3, e5]

/-- Every entry lies in one of the tiles. -/
theorem cover (i : S1024x2816.Idx) : ∃ t : Fin cfg0.N, (cfg0.win 2).flush t = true ∧ i ∈ ((cfg0.win 2).blk t).view.set := by
  have h0 : (i 0 : Nat) < 1024 := (i 0).isLt
  have h1 : (i 1 : Nat) < 2816 := (i 1).isLt
  have hN : cfg0.N = 11 := N_0
  obtain ⟨t, ht⟩ : ∃ t : Fin cfg0.N, t.val = (i 0 : Nat) / 1024 * 11 + (i 1 : Nat) / 256 :=
    ⟨⟨(i 0 : Nat) / 1024 * 11 + (i 1 : Nat) / 256, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 256 ≤ (i 1 : Nat) ∧ (i 1 : Nat) < win0_2.index t 1 * 256 + 256; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel9Ideal.Grad

namespace Cert.Reference9Ideal.Grad

open Cert.Reference9Ideal Cert.Reference9Ideal.Gen

/-- The reference's operations, composed. -/
theorem host_product (h : FVec Ideal S4352x1024 .bf16) (d : FVec Ideal S4352x2816 .bf16) (e : FTy.bf16.bits < FTy.f32.bits) (p) :
    transpose S1024x2816 [1, 0] (Host.dotGeneral (F := Ideal) dot_S4352x2816_S4352x1024_S2816x1024_0_0_1_1_n_n none (extf .f32 d e) (extf .f32 h e)) p = (columns h d : FVec Ideal S1024x2816 .f32) := by
  funext i
  unfold columns
  pointwise
  exact Cert.Products.columns_comm _ _ i

end Cert.Reference9Ideal.Grad

namespace Cert.Proof.MixIn0

/-- At exact arithmetic the kernel's tiles and the reference's derivative are one array. -/
theorem algebraic : Cert.algebraic_Kernel9Ideal_Reference9Ideal := by
  intro m ρ m' ρ' _ agree
  refine ⟨fun c => Cert.Kernel9Ideal.Grad.grad m c,
    (θ_run Cert.Kernel9Ideal.defs _ _).mono (fun _ h c => ⟨(h c).1.trans (Cert.Kernel9Ideal.Grad.final m c), (h c).2⟩)
      (Cert.Kernel9Ideal.Value.run_blocks m ρ), ?_⟩
  refine (θ_run Cert.Reference9Ideal.defs _ _).mono (fun _ h c => ⟨(h c).1.trans ?_, (h c).2⟩)
    (Cert.Reference9Ideal.Value.run (F := Ideal) m' ρ')
  rw [(agree c).1, (agree c).2]
  exact Cert.Reference9Ideal.Grad.host_product _ _ _ _

end Cert.Proof.MixIn0
-- ==== Proof.MixOut0.lean ====
/-
  `l0_out_dw`: the weight gradient of layer 0's output projection. The kernel's tiles are the blocks of one matrix product.
-/
module

public import proofs.«01_k».proof.Defs
public import proofs.«01_k».proof.Proof.Products
public import proofs.«01_k».proof.Proof.Gen.Kernel10Ideal.Value
public import proofs.«01_k».proof.Proof.Gen.Reference10Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets columns)

namespace Cert.Kernel10Ideal.Grad

open Cert.Kernel10Ideal Cert.Kernel10Ideal.Gen

variable (m : (ℓ : Loc nD τ sig) → Buf (Elt Ideal) ℓ) (ρ : Dev nD → PrngReg)

/-- One tile, entry by entry. -/
theorem tile_apply (x : Vec Ideal S4352x1024 .bf16) (y : Vec Ideal S4352x512 .bf16) (j : S1024x512.Idx) :
    k0_pay1 x y j = ∑ k : Fin 4352, (x (ix2 k (j 0)) : EReal) * y (ix2 k (j 1)) := by
  unfold k0_pay1
  pointwise

/-- The whole product. -/
def grad (c : Dev nD) : Buf (Elt Ideal) ((c : Thread nD τ).loc main_v0) :=
  columns (m ((c : Thread nD τ).loc main_arg0)) (m ((c : Thread nD τ).loc main_arg1))

/-- Which blocks the point `t` reads and which tile it writes. -/
theorem blocks_at : ∀ t : Fin grid0.N, (win0_0.index t 0 = 0 ∧ win0_0.index t 1 = 0)
    ∧ (win0_1.index t 0 = 0 ∧ win0_1.index t 1 = t.val) ∧ (win0_2.index t 0 = 0 ∧ win0_2.index t 1 = t.val) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = columns _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 4352 + 1 * k.val = k.val; rw [e0]; omega
    | ⟨1, _⟩ => show win0_0.index t 1 * 1024 + 1 * (j 0).val = win0_2.index t 0 * 1024 + 1 * (j 0).val; rw [e1, e4]
  · show V m c main_arg1 _ = m _ _
    rw [V_main_arg1]
    congr 1
    funext a
    apply Fin.ext
    match a with
    | ⟨0, _⟩ => show win0_1.index t 0 * 4352 + 1 * k.val = k.val; rw [e2]; omega
    | ⟨1, _⟩ => show win0_1.index t 1 * 512 + 1 * (j 1).val = win0_2.index t 1 * 512 + 1 * (j 1).val; rw [e3, e5]

/-- Every entry lies in one of the tiles. -/
theorem cover (i : S1024x1024.Idx) : ∃ t : Fin cfg0.N, (cfg0.win 2).flush t = true ∧ i ∈ ((cfg0.win 2).blk t).view.set := by
  have h0 : (i 0 : Nat) < 1024 := (i 0).isLt
  have h1 : (i 1 : Nat) < 1024 := (i 1).isLt
  have hN : cfg0.N = 2 := N_0
  obtain ⟨t, ht⟩ : ∃ t : Fin cfg0.N, t.val = (i 0 : Nat) / 1024 * 2 + (i 1 : Nat) / 512 :=
    ⟨⟨(i 0 : Nat) / 1024 * 2 + (i 1 : Nat) / 512, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 512 ≤ (i 1 : Nat) ∧ (i 1 : Nat) < win0_2.index t 1 * 512 + 512; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel10Ideal.Grad

namespace Cert.Reference10Ideal.Grad

open Cert.Reference10Ideal Cert.Reference10Ideal.Gen

/-- The reference's operations, composed. -/
theorem host_product (h : FVec Ideal S4352x1024 .bf16) (d : FVec Ideal S4352x1024 .bf16) (e : FTy.bf16.bits < FTy.f32.bits) (p) :
    truncf .bf16 (transpose S1024x1024 [1, 0] (Host.dotGeneral (F := Ideal) dot_S4352x1024_S4352x1024_S1024x1024_0_0_1_1_n_n none (extf .f32 d e) (extf .f32 h e)) p) e = (columns h d : FVec Ideal S1024x1024 .bf16) := by
  funext i
  unfold columns
  pointwise
  exact Cert.Products.columns_comm _ _ i

end Cert.Reference10Ideal.Grad

namespace Cert.Proof.MixOut0

/-- At exact arithmetic the kernel's tiles and the reference's derivative are one array. -/
theorem algebraic : Cert.algebraic_Kernel10Ideal_Reference10Ideal := by
  intro m ρ m' ρ' _ agree
  refine ⟨fun c => Cert.Kernel10Ideal.Grad.grad m c,
    (θ_run Cert.Kernel10Ideal.defs _ _).mono (fun _ h c => ⟨(h c).1.trans (Cert.Kernel10Ideal.Grad.final m c), (h c).2⟩)
      (Cert.Kernel10Ideal.Value.run_blocks m ρ), ?_⟩
  refine (θ_run Cert.Reference10Ideal.defs _ _).mono (fun _ h c => ⟨(h c).1.trans ?_, (h c).2⟩)
    (Cert.Reference10Ideal.Value.run (F := Ideal) m' ρ')
  rw [(agree c).1, (agree c).2]
  exact Cert.Reference10Ideal.Grad.host_product _ _ _ _

end Cert.Proof.MixOut0
-- ==== Proof.MixBack0.lean ====
/-
  `l0_out_dx`: the gradient taken back through layer 0's output projection. The kernel's tiles are the blocks of one matrix product.
-/
module

public import proofs.«01_k».proof.Defs
public import proofs.«01_k».proof.Proof.Products
public import proofs.«01_k».proof.Proof.Gen.Kernel11Ideal.Value
public import proofs.«01_k».proof.Proof.Gen.Reference11Ideal.Run
public import Idealize.ShloMosaic.Lib.Pipeline.Value
public import Idealize.ShloMosaic.Lib.Quiescent

@[expose] public section

noncomputable section

open Idealize.ShloMosaic Idealize.ShloMosaic.TcCoe Idealize.SL.Sem
open Idealize.ShloMosaic.Pipeline (Dat)
open Cert.Products (zero_offsets rows)

namespace Cert.Kernel11Ideal.Grad

open Cert.Kernel11Ideal Cert.Kernel11Ideal.Gen

variable (m : (ℓ : Loc nD τ sig) → Buf (Elt Ideal) ℓ) (ρ : Dev nD → PrngReg)

/-- One tile, entry by entry. -/
theorem tile_apply (x : Vec Ideal S1088x1024 .bf16) (y : Vec Ideal S1024x1024 .bf16) (j : S1088x1024.Idx) :
    k0_pay1 x y j = ∑ k : Fin 1024, (x (ix2 (j 0) k) : EReal) * y (ix2 (j 1) k) := by
  unfold k0_pay1
  pointwise

/-- The whole product. -/
def grad (c : Dev nD) : Buf (Elt Ideal) ((c : Thread nD τ).loc main_v0) :=
  rows (m ((c : Thread nD τ).loc main_arg0)) (m ((c : Thread nD τ).loc main_arg1))

/-- Which blocks the point `t` reads and which tile it writes. -/
theorem blocks_at : ∀ t : Fin grid0.N, (win0_0.index t 0 = t.val ∧ win0_0.index t 1 = 0)
    ∧ (win0_1.index t 0 = 0 ∧ win0_1.index t 1 = 0) ∧ (win0_2.index t 0 = t.val ∧ win0_2.index t 1 = 0) := by
  decide +kernel

/-- What the point `t` writes back is its tile of the whole product. -/
theorem flushed_eq (c : Dev nD) (t : Fin cfg0.N) :
    (dats m 0 c).flushed 2 t = ((cfg0.win 2).blk t).view.read (Elt Ideal) (grad m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = rows _ _ (((cfg0.win 2).blk t).view.emb j)
  rw [tile_apply]
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 1088 + 1 * (j 0).val = win0_2.index t 0 * 1088 + 1 * (j 0).val; rw [e0, e4]
    | ⟨1, _⟩ => show win0_0.index t 1 * 1024 + 1 * k.val = k.val; rw [e1]; omega
  · show V m c main_arg1 _ = m _ _
    rw [V_main_arg1]
    congr 1
    funext a
    apply Fin.ext
    match a with
    | ⟨0, _⟩ => show win0_1.index t 0 * 1024 + 1 * (j 1).val = win0_2.index t 1 * 1024 + 1 * (j 1).val; rw [e2, e5]
    | ⟨1, _⟩ => show win0_1.index t 1 * 1024 + 1 * k.val = k.val; rw [e3]; omega

/-- Every entry lies in one of the tiles. -/
theorem cover (i : S4352x1024.Idx) : ∃ t : Fin cfg0.N, (cfg0.win 2).flush t = true ∧ i ∈ ((cfg0.win 2).blk t).view.set := by
  have h0 : (i 0 : Nat) < 4352 := (i 0).isLt
  have h1 : (i 1 : Nat) < 1024 := (i 1).isLt
  have hN : cfg0.N = 4 := N_0
  obtain ⟨t, ht⟩ : ∃ t : Fin cfg0.N, t.val = (i 0 : Nat) / 1088 * 1 + (i 1 : Nat) / 1024 :=
    ⟨⟨(i 0 : Nat) / 1088 * 1 + (i 1 : Nat) / 1024, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1088 ≤ (i 0 : Nat) ∧ (i 0 : Nat) < win0_2.index t 0 * 1088 + 1088; rw [e4]; omega
  | ⟨1, _⟩ => show win0_2.index t 1 * 1024 ≤ (i 1 : Nat) ∧ (i 1 : Nat) < win0_2.index t 1 * 1024 + 1024; rw [e5]; omega

/-- The result array after the run. -/
theorem final (c : Dev nD) : (dats m 0 c).arrAt 2 cfg0.N = grad m c :=
  (dats m 0 c).arrAt_eq_of_cover 2 (grad m c) (fun t _ => flushed_eq m c t) cover

end Cert.Kernel11Ideal.Grad

namespace Cert.Reference11Ideal.Grad

open Cert.Reference11Ideal Cert.Reference11Ideal.Gen

/-- The reference's operations, composed. -/
theorem host_product (h : FVec Ideal S4352x1024 .bf16) (d : FVec Ideal S1024x1024 .bf16) (e : FTy.bf16.bits < FTy.f32.bits)  :
    truncf .bf16 (Host.dotGeneral (F := Ideal) dot_S4352x1024_S1024x1024_S4352x1024_1_1_0_0_n_n none (extf .f32 h e) (extf .f32 d e)) e = (rows h d : FVec Ideal S4352x1024 .bf16) := by
  funext i
  unfold rows
  pointwise

end Cert.Reference11Ideal.Grad

namespace Cert.Proof.MixBack0

/-- At exact arithmetic the kernel's tiles and the reference's derivative are one array. -/
theorem algebraic : Cert.algebraic_Kernel11Ideal_Reference11Ideal := by
  intro m ρ m' ρ' _ agree
  refine ⟨fun c => Cert.Kernel11Ideal.Grad.grad m c,
    (θ_run Cert.Kernel11Ideal.defs _ _).mono (fun _ h c => ⟨(h c).1.trans (Cert.Kernel11Ideal.Grad.final m c), (h c).2⟩)
      (Cert.Kernel11Ideal.Value.run_blocks m ρ), ?_⟩
  refine (θ_run Cert.Reference11Ideal.defs _ _).mono (fun _ h c => ⟨(h c).1.trans ?_, (h c).2⟩)
    (Cert.Reference11Ideal.Value.run (F := Ideal) m' ρ')
  rw [(agree c).1, (agree c).2]
  exact Cert.Reference11Ideal.Grad.host_product _ _ _

end Cert.Proof.MixBack0
-- ==== Proof.GateGrad0.lean ====
/-
  The gradient of layer 0's gated unit `silu(g) · u`, taken back through the output projection.
-/
module

public import proofs.«01_k».proof.Defs
public import proofs.«01_k».proof.Proof.Gen.Kernel12Ideal.Value
public import proofs.«01_k».proof.Proof.Gen.Reference12Ideal.Run
public import proofs.«01_k».proof.Proof.Gen.Pre_finite12
public import Idealize.ShloMosaic.Lib.Pipeline.Value
public import Idealize.ShloMosaic.Lib.Pipeline.ValueKit.Tiles
public import Idealize.ShloMosaic.Lib.Pointwise
public import Idealize.ShloMosaic.Lib.Quiescent

@[expose] public section

noncomputable section

open Idealize.ShloMosaic Idealize.ShloMosaic.TcCoe Idealize.SL.Sem
open Idealize.ShloMosaic.Pipeline (Dat)

namespace Cert.Kernel12Ideal.Grad

open Cert.Kernel12Ideal Cert.Kernel12Ideal.Gen

variable (m : (ℓ : Loc nD τ sig) → Buf (Elt Ideal) ℓ) (ρ : Dev nD → PrngReg)

theorem zero_offsets : (![0, 0] : Fin 2 → Nat) = fun _ => 0 := funext fun a => by fin_cases a <;> rfl

/-- The gradient at the gate, of the back-projected cotangent `d`, the gate `g` and the other half `u`. -/
def toGate (d g u : EReal) : EReal := d * u * (Ideal.logistic g * (1 + g * (1 - Ideal.logistic g)))

/-- The gradient at the other half: the cotangent times `silu g`. -/
def toUp (d g : EReal) : EReal := d * (g * Ideal.logistic g)

theorem gate_apply (x : Vec Ideal S272x1024 .bf16) (w : Vec Ideal S2816x1024 .bf16) (g u : Vec Ideal S1x272x2816 .bf16) (j : S272x2816.Idx) :
    k0_pay4 x w g u j = toGate (∑ k : Fin 1024, (x (ix2 (j 0) k) : EReal) * w (ix2 (j 1) k)) (g (ix3 0 (j 0) (j 1))) (u (ix3 0 (j 0) (j 1))) := by
  unfold k0_pay4 k0_pay3 k0_pay2 k0_pay1 toGate
  pointwise

theorem up_apply (x : Vec Ideal S272x1024 .bf16) (w : Vec Ideal S2816x1024 .bf16) (g : Vec Ideal S1x272x2816 .bf16) (j : S272x2816.Idx) :
    k0_pay5 x w g j = toUp (∑ k : Fin 1024, (x (ix2 (j 0) k) : EReal) * w (ix2 (j 1) k)) (g (ix3 0 (j 0) (j 1))) := by
  unfold k0_pay5 k0_pay3 k0_pay2 k0_pay1 toUp
  pointwise

/-- Entry `(r, l)` of the gate's half. -/
def gateAt {n : Nat} (x : (⟨2, ![n, 1024]⟩ : Shape).Idx → EReal) (w : S2816x1024.Idx → EReal) (p : (⟨3, ![2, n, 2816]⟩ : Shape).Idx → EReal)
    (r : Fin n) (l : Fin 2816) : EReal :=
  toGate (∑ k : Fin 1024, x (ix2 r k) * w (ix2 l k)) (p (ix3 0 r l)) (p (ix3 1 r l))

/-- Entry `(r, l)` of the other half. -/
def upAt {n : Nat} (x : (⟨2, ![n, 1024]⟩ : Shape).Idx → EReal) (w : S2816x1024.Idx → EReal) (p : (⟨3, ![2, n, 2816]⟩ : Shape).Idx → EReal)
    (r : Fin n) (l : Fin 2816) : EReal :=
  toUp (∑ k : Fin 1024, x (ix2 r k) * w (ix2 l k)) (p (ix3 0 r l))

/-- Both halves side by side, for any number of rows. -/
def halvesAt {n : Nat} (x : (⟨2, ![n, 1024]⟩ : Shape).Idx → EReal) (w : S2816x1024.Idx → EReal) (p : (⟨3, ![2, n, 2816]⟩ : Shape).Idx → EReal)
    (r : Fin n) (l : Fin 5632) : EReal :=
  if h : l.val < 2816 then gateAt x w p r ⟨l.val, h⟩ else upAt x w p r ⟨l.val - 2816, by omega⟩

/-- The same as an array. -/
def halves {n : Nat} (x : (⟨2, ![n, 1024]⟩ : Shape).Idx → EReal) (w : S2816x1024.Idx → EReal) (p : (⟨3, ![2, n, 2816]⟩ : Shape).Idx → EReal)
    (i : (⟨2, ![n, 5632]⟩ : Shape).Idx) : EReal := halvesAt x w p (i 0) (i 1)

theorem ld_gate (p : Vec Ideal S2x272x2816 .bf16) (r : Fin 272) (l : Fin 2816) : View.ld p r0_2 (ix3 0 r l) = p (ix3 0 r l) := by
  refine View.ld_unit_apply_of p _ _ _ _ _ fun a => ?_
  match a with
  | ⟨0, _⟩ => rfl
  | ⟨1, _⟩ => exact (Nat.zero_add _).symm
  | ⟨2, _⟩ => exact (Nat.zero_add _).symm

theorem ld_other (p : Vec Ideal S2x272x2816 .bf16) (r : Fin 272) (l : Fin 2816) : View.ld p r0_3 (ix3 0 r l) = p (ix3 1 r l) := by
  refine View.ld_unit_apply_of p _ _ _ _ _ fun a => ?_
  match a with
  | ⟨0, _⟩ => rfl
  | ⟨1, _⟩ => exact (Nat.zero_add _).symm
  | ⟨2, _⟩ => exact (Nat.zero_add _).symm

/-- What the body leaves in its buffer: the two stores, side by side. -/
theorem out_apply (x : Vec Ideal S272x1024 .bf16) (w : Vec Ideal S2816x1024 .bf16) (p : Vec Ideal S2x272x2816 .bf16) (y : S272x5632.Idx) :
    out0_3 x w p y = halves x w p y := by
  unfold out0_3
  refine View.canon_eq_of_allAt _ _ _ (cover0_3 _ _ y) ?_
  intro q hq z hz
  rw [View.ld_unit_zero zero_offsets, View.ld_unit_zero zero_offsets] at hq
  simp only [List.mem_cons, List.not_mem_nil, or_false] at hq
  rcases hq with rfl | rfl
  · subst hz
    show k0_pay5 (F := Ideal) _ _ _ z = halves x w p (r0_5.emb z)
    rw [up_apply]
    have hc : ¬((r0_5.emb z) 1 : Nat) < 2816 := by show ¬ 2816 + 1 * (z 1 : Nat) < 2816; omega
    unfold halves halvesAt
    rw [dif_neg hc]
    unfold upAt
    have e0 : r0_5.emb z 0 = z 0 := Fin.ext (by show 0 + 1 * (z 0 : Nat) = z 0; omega)
    have e1 : ∀ h, (⟨(r0_5.emb z 1 : Nat) - 2816, h⟩ : Fin 2816) = z 1 := fun h => Fin.ext (by show 2816 + 1 * (z 1 : Nat) - 2816 = z 1; omega)
    rw [e0, e1]
    exact congrArg (toUp _) (ld_gate p _ _)
  · subst hz
    show k0_pay4 (F := Ideal) _ _ _ _ z = halves x w p (r0_4.emb z)
    rw [gate_apply]
    have hz1 : (z 1 : Nat) < 2816 := (z 1).isLt
    have hc : ((r0_4.emb z) 1 : Nat) < 2816 := by show 0 + 1 * (z 1 : Nat) < 2816; omega
    unfold halves halvesAt
    rw [dif_pos hc]
    unfold gateAt
    have e0 : r0_4.emb z 0 = z 0 := Fin.ext (by show 0 + 1 * (z 0 : Nat) = z 0; omega)
    have e1 : ∀ h, (⟨(r0_4.emb z 1 : Nat), h⟩ : Fin 2816) = z 1 := fun h => Fin.ext (by show 0 + 1 * (z 1 : Nat) = z 1; omega)
    rw [e0, e1]
    exact congrArg₂ (toGate _) (ld_gate p _ _) (ld_other p _ _)

/-- The gradient of the whole batch row. -/
abbrev grad (c : Dev nD) : Buf (Elt Ideal) ((c : Thread nD τ).loc main_v0) := fun i =>
  halves (n := 4352) (m ((c : Thread nD τ).loc main_arg0)) (m ((c : Thread nD τ).loc main_arg1)) (m ((c : Thread nD τ).loc main_arg2)) i

/-- The windows' block indices: rows advance with the point, the weight stays. -/
theorem blocks_at : ∀ t : Fin grid0.N, (win0_0.index t 0 = t.val ∧ win0_0.index t 1 = 0) ∧ (win0_1.index t 0 = 0 ∧ win0_1.index t 1 = 0)
    ∧ (win0_2.index t 0 = 0 ∧ win0_2.index t 1 = t.val ∧ win0_2.index t 2 = 0) ∧ (win0_3.index t 0 = t.val ∧ win0_3.index t 1 = 0) := by decide +kernel

/-- Row `r` of a block is row `f r` of the array. -/
theorem halves_block {n n' : Nat} (f : Fin n → Fin n') (x : (⟨2, ![n, 1024]⟩ : Shape).Idx → EReal) (w : S2816x1024.Idx → EReal) (p : (⟨3, ![2, n, 2816]⟩ : Shape).Idx → EReal)
    (X : (⟨2, ![n', 1024]⟩ : Shape).Idx → EReal) (P : (⟨3, ![2, n', 2816]⟩ : Shape).Idx → EReal)
    (hx : ∀ r k, x (ix2 r k) = X (ix2 (f r) k)) (hp : ∀ a r k, p (ix3 a r k) = P (ix3 a (f r) k))
    (i : (⟨2, ![n, 5632]⟩ : Shape).Idx) (i' : (⟨2, ![n', 5632]⟩ : Shape).Idx) (h0 : i' 0 = f (i 0)) (h1 : i' 1 = i 1) :
    halves x w p i = halves X w P i' := by
  have key : ∀ r l, halvesAt x w p r l = halvesAt X w P (f r) l := fun r l => by
    unfold halvesAt gateAt upAt
    simp only [hx, hp]
  unfold halves
  rw [h0, h1]
  exact key _ _

theorem flushed_eq (c : Dev nD) (t : Fin cfg0.N) :
    (dats m 0 c).flushed 3 t = ((cfg0.win 3).blk t).view.read (Elt Ideal) (grad m c) := by
  obtain ⟨⟨e0, e1⟩, ⟨e2, e3⟩, ⟨e4, e5, e6⟩, e7, e8⟩ := blocks_at t
  have ht : t.val < 16 := by have := t.isLt; have hN : cfg0.N = 16 := N_0; omega
  rw [Value.flushed3]
  funext j
  rw [View.read_apply]
  show out0_3 _ _ _ ((cfg0.win 3).xinj (grid0.coords t) j) = grad m c (((cfg0.win 3).blk t).view.emb j)
  rw [out_apply]
  have hw : iblk m c 1 t = m ((c : Thread nD τ).loc main_arg1) := by
    funext i
    show V m c main_arg1 _ = m _ _
    rw [V_main_arg1]
    congr 1
    funext a
    apply Fin.ext
    match a with
    | ⟨0, _⟩ => show win0_1.index t 0 * 2816 + 1 * (i 0).val = (i 0).val; rw [e2]; omega
    | ⟨1, _⟩ => show win0_1.index t 1 * 1024 + 1 * (i 1).val = (i 1).val; rw [e3]; omega
  rw [hw]
  refine halves_block (n := 272) (n' := 4352) (fun r => ⟨t.val * 272 + r.val, by omega⟩) _ _ _ _ _ (fun r k => ?_) (fun a r k => ?_) _ _ ?_ ?_
  · show V m c main_arg0 _ = m _ _
    rw [V_main_arg0]
    congr 1
    funext a
    apply Fin.ext
    match a with
    | ⟨0, _⟩ => show win0_0.index t 0 * 272 + 1 * r.val = t.val * 272 + r.val; rw [e0]; omega
    | ⟨1, _⟩ => show win0_0.index t 1 * 1024 + 1 * k.val = k.val; rw [e1]; omega
  · show V m c main_arg2 _ = m _ _
    rw [V_main_arg2]
    congr 1
    funext b
    apply Fin.ext
    match b with
    | ⟨0, _⟩ => show win0_2.index t 0 * 2 + 1 * a.val = a.val; rw [e4]; omega
    | ⟨1, _⟩ => show win0_2.index t 1 * 272 + 1 * r.val = t.val * 272 + r.val; rw [e5]; omega
    | ⟨2, _⟩ => show win0_2.index t 2 * 2816 + 1 * k.val = k.val; rw [e6]; omega
  · exact Fin.ext (by show win0_3.index t 0 * 272 + 1 * (j 0).val = t.val * 272 + (j 0).val; rw [e7]; omega)
  · exact Fin.ext (by show win0_3.index t 1 * 5632 + 1 * (j 1).val = (j 1).val; rw [e8]; omega)

theorem cover (i : S4352x5632.Idx) : ∃ t : Fin cfg0.N, (cfg0.win 3).flush t = true ∧ i ∈ ((cfg0.win 3).blk t).view.set := by
  have h0 : (i 0 : Nat) < 4352 := (i 0).isLt
  have h1 : (i 1 : Nat) < 5632 := (i 1).isLt
  have hN : cfg0.N = 16 := N_0
  obtain ⟨t, ht⟩ : ∃ t : Fin cfg0.N, t.val = (i 0 : Nat) / 272 := ⟨⟨(i 0 : Nat) / 272, by omega⟩, rfl⟩
  obtain ⟨-, -, -, e7, e8⟩ := blocks_at t
  refine ⟨t, flush0_3 _, ?_⟩
  show i ∈ ((View.whole main_v0).slice (win0_3.rect t)).set
  rw [View.set_slice_whole, Rect.mem_set_unit]
  intro a
  match a with
  | ⟨0, _⟩ => show win0_3.index t 0 * 272 ≤ (i 0 : Nat) ∧ (i 0 : Nat) < win0_3.index t 0 * 272 + 272; rw [e7]; omega
  | ⟨1, _⟩ => show win0_3.index t 1 * 5632 ≤ (i 1 : Nat) ∧ (i 1 : Nat) < win0_3.index t 1 * 5632 + 5632; rw [e8]; omega

theorem final (c : Dev nD) : (dats m 0 c).arrAt 3 cfg0.N = grad m c :=
  (dats m 0 c).arrAt_eq_of_cover 3 (grad m c) (fun t _ => flushed_eq m c t) cover

end Cert.Kernel12Ideal.Grad

namespace Cert.Reference12Ideal.Grad

open Cert.Reference12Ideal Cert.Reference12Ideal.Gen

/-- The reference's three intermediate arrays: the gate, the other half, the back-projected cotangent. -/
def gate (p : FVec Ideal S2x4352x2816 .bf16) : FVec Ideal S4352x2816 .f32 :=
  extf .f32 (shapeCast S4352x2816 (extractStridedSlice S1x4352x2816 ![0, 0, 0] p slices_S2x4352x2816_S1x4352x2816_0_0_0) shapeCasts_S1x4352x2816_S4352x2816) bitsLt_bf16_f32
def other (p : FVec Ideal S2x4352x2816 .bf16) : FVec Ideal S4352x2816 .f32 :=
  extf .f32 (shapeCast S4352x2816 (extractStridedSlice S1x4352x2816 ![1, 0, 0] p slices_S2x4352x2816_S1x4352x2816_1_0_0) shapeCasts_S1x4352x2816_S4352x2816) bitsLt_bf16_f32
def back (x : FVec Ideal S4352x1024 .bf16) (w : FVec Ideal S2816x1024 .bf16) : FVec Ideal S4352x2816 .f32 :=
  Host.dotGeneral dot_S4352x1024_S2816x1024_S4352x2816_1_1_0_0_n_n none (extf .f32 x bitsLt_bf16_f32) (extf .f32 w bitsLt_bf16_f32)
def ones : FVec Ideal S4352x2816 .f32 := broadcastInDim S4352x2816 ![] bcast_S_S4352x2816 (constant S_ .f32 0x3F800000#32)
def sig (p : FVec Ideal S2x4352x2816 .bf16) : FVec Ideal S4352x2816 .f32 := Host.divf ones (addf ones (Host.exp (Host.negf (gate p))))

/-- The reference's result. -/
def grad (x : FVec Ideal S4352x1024 .bf16) (w : FVec Ideal S2816x1024 .bf16) (p : FVec Ideal S2x4352x2816 .bf16) : FVec Ideal S4352x5632 .bf16 :=
  truncf .bf16 (concatenate S4352x5632 1
    [⟨S4352x2816, addf (mulf (mulf (back x w) (other p)) (sig p))
        (mulf (mulf (gate p) (mulf (back x w) (other p))) (mulf (sig p) (subf ones (sig p))))⟩,
     ⟨S4352x2816, mulf (mulf (gate p) (sig p)) (back x w)⟩] concatenates_S4352x2816_S4352x2816_S4352x5632_d1) bitsLt_bf16_f32

theorem gate_at (p : FVec Ideal S2x4352x2816 .bf16) (j : S4352x2816.Idx) : gate p j = p (ix3 0 (j 0) (j 1)) := by
  unfold gate; pointwise
theorem other_at (p : FVec Ideal S2x4352x2816 .bf16) (j : S4352x2816.Idx) : other p j = p (ix3 1 (j 0) (j 1)) := by
  unfold other; pointwise
theorem back_at (x : FVec Ideal S4352x1024 .bf16) (w : FVec Ideal S2816x1024 .bf16) (j : S4352x2816.Idx) :
    back x w j = ∑ k : Fin 1024, (x (ix2 (j 0) k) : EReal) * w (ix2 (j 1) k) := by
  unfold back; pointwise
theorem ones_at (j : S4352x2816.Idx) : ones j = (1 : EReal) := by
  unfold ones; pointwise
theorem sig_at (p : FVec Ideal S2x4352x2816 .bf16) (j : S4352x2816.Idx) : sig p j = Ideal.logistic (p (ix3 0 (j 0) (j 1))) := by
  rw [← gate_at p j]
  show Ideal.div (ones j) (ones j + Ideal.exp (-(gate p j))) = _
  rw [ones_at]
  rfl

/-- A sum of products of real numbers is a real number. -/
theorem real_sum {n : Nat} (f g : Fin n → EReal) (hf : ∀ k, ∃ r : ℝ, f k = r) (hg : ∀ k, ∃ r : ℝ, g k = r) : ∃ r : ℝ, ∑ k, f k * g k = (r : EReal) := by
  refine Finset.sum_induction _ (fun e : EReal => ∃ r : ℝ, e = r) ?_ ⟨0, rfl⟩ fun k _ => ?_
  · rintro _ _ ⟨a, rfl⟩ ⟨b, rfl⟩; exact ⟨a + b, (EReal.coe_add a b).symm⟩
  · obtain ⟨a, ha⟩ := hf k; obtain ⟨b, hb⟩ := hg k
    exact ⟨a * b, by rw [ha, hb, EReal.coe_mul]⟩

/-- Among real numbers the two spellings of `silu`'s derivative agree: `s + g s (1 - s) = s (1 + g (1 - s))`. -/
theorem toGate_real (d g u : ℝ) : (d : EReal) * u * Ideal.logistic g + g * (d * u) * (Ideal.logistic g * (1 - Ideal.logistic g))
    = Cert.Kernel12Ideal.Grad.toGate d g u := by
  unfold Cert.Kernel12Ideal.Grad.toGate
  rw [Ideal.logistic_coe]
  norm_cast
  ring

theorem grad_at (x : FVec Ideal S4352x1024 .bf16) (w : FVec Ideal S2816x1024 .bf16) (p : FVec Ideal S2x4352x2816 .bf16)
    (hx : ∀ i, ∃ r : ℝ, x i = (r : EReal)) (hw : ∀ i, ∃ r : ℝ, w i = (r : EReal)) (hp : ∀ i, ∃ r : ℝ, p i = (r : EReal)) (i : S4352x5632.Idx) :
    grad x w p i = Cert.Kernel12Ideal.Grad.halves (n := 4352) x w p i := by
  unfold grad
  pointwise
  unfold Cert.Kernel12Ideal.Grad.halves Cert.Kernel12Ideal.Grad.halvesAt
  refine dite_congr rfl (fun h => ?_) (fun h => ?_)
  · rw [back_at, other_at, sig_at, gate_at, ones_at]
    obtain ⟨d, hd⟩ := real_sum (fun k : Fin 1024 => (x (ix2 (i 0) k) : EReal)) (fun k => w (ix2 ⟨(i 1).val, h⟩ k)) (fun _ => hx _) fun _ => hw _
    obtain ⟨g, hg⟩ := hp (ix3 0 (i 0) ⟨(i 1).val, h⟩)
    obtain ⟨u, hu⟩ := hp (ix3 1 (i 0) ⟨(i 1).val, h⟩)
    unfold Cert.Kernel12Ideal.Grad.gateAt
    refine Eq.trans ?_ ((toGate_real d g u).trans ?_)
    · show (∑ k : Fin 1024, (x (ix2 (i 0) k) : EReal) * w (ix2 ⟨(i 1).val, h⟩ k)) * p (ix3 1 (i 0) ⟨(i 1).val, h⟩) * Ideal.logistic (p (ix3 0 (i 0) ⟨(i 1).val, h⟩))
        + p (ix3 0 (i 0) ⟨(i 1).val, h⟩) * ((∑ k : Fin 1024, (x (ix2 (i 0) k) : EReal) * w (ix2 ⟨(i 1).val, h⟩ k)) * p (ix3 1 (i 0) ⟨(i 1).val, h⟩))
          * (Ideal.logistic (p (ix3 0 (i 0) ⟨(i 1).val, h⟩)) * (1 - Ideal.logistic (p (ix3 0 (i 0) ⟨(i 1).val, h⟩)))) = _
      rw [hd, hg, hu]
    · rw [← hd, ← hg, ← hu]
  · rw [back_at, sig_at, gate_at]
    exact mul_comm (G := EReal) _ _

/-- An extended real below `+∞` in absolute value is a real number. -/
theorem real_of_lt (x : EReal) (h : BitVec.ofBool (decide (max x (-x) < Ideal.ofBits .f32 2139095040#32)) = 1#1) : ∃ r : ℝ, x = r := by
  have hinf : Ideal.ofBits .f32 2139095040#32 = (⊤ : EReal) := by rfl
  rw [hinf] at h
  have hlt : max x (-x) < ⊤ := by
    by_contra hn
    rw [decide_eq_false hn] at h
    exact absurd h (by decide)
  induction x with
  | bot => exact absurd hlt (by simp)
  | top => exact absurd hlt (by simp)
  | coe r => exact ⟨r, rfl⟩

end Cert.Reference12Ideal.Grad

namespace Cert.Proof.GateGrad0

open Cert.Reference12Ideal.Grad (real_of_lt)

variable (x : FVec Ideal Cert.Kernel12Ideal.S4352x1024 .bf16) (w : FVec Ideal Cert.Kernel12Ideal.S2816x1024 .bf16) (p : FVec Ideal Cert.Kernel12Ideal.S2x4352x2816 .bf16)

/-! The precondition, entry by entry: every entry of the three arguments is a real number. -/

theorem real_x (h : (Cert.Pre_finite12.fn (F := Ideal) x w p).1 = fun _ => 1#1) (i : Cert.Kernel12Ideal.S4352x1024.Idx) : ∃ r : ℝ, x i = (r : EReal) := by
  have e := congrFun h i
  unfold Cert.Pre_finite12.fn at e
  pointwise at e
  exact real_of_lt _ e

theorem real_w (h : (Cert.Pre_finite12.fn (F := Ideal) x w p).2.1 = fun _ => 1#1) (i : Cert.Kernel12Ideal.S2816x1024.Idx) : ∃ r : ℝ, w i = (r : EReal) := by
  have e := congrFun h i
  unfold Cert.Pre_finite12.fn at e
  pointwise at e
  exact real_of_lt _ e

theorem real_p (h : (Cert.Pre_finite12.fn (F := Ideal) x w p).2.2 = fun _ => 1#1) (i : Cert.Kernel12Ideal.S2x4352x2816.Idx) : ∃ r : ℝ, p i = (r : EReal) := by
  have e := congrFun h i
  unfold Cert.Pre_finite12.fn at e
  pointwise at e
  exact real_of_lt _ e

/-- On finite arguments, at exact arithmetic, the kernel's blocks and the derivative of `(silu g · u) · w` are one array. -/
theorem algebraic : Cert.algebraic_Kernel12Ideal_Reference12Ideal_pre_finite12 := by
  intro m ρ m' ρ' pre agree
  refine ⟨fun c => Cert.Kernel12Ideal.Grad.grad m c,
    (θ_run Cert.Kernel12Ideal.defs _ _).mono (fun _ h c => ⟨(h c).1.trans (Cert.Kernel12Ideal.Grad.final m c), (h c).2⟩)
      (Cert.Kernel12Ideal.Value.run_blocks m ρ), ?_⟩
  refine (θ_run Cert.Reference12Ideal.defs _ _).mono (fun _ h c => ⟨(h c).1.trans ?_, (h c).2⟩)
    (Cert.Reference12Ideal.Value.run (F := Ideal) m' ρ')
  rw [(agree c).1, (agree c).2.1, (agree c).2.2]
  funext i
  exact Cert.Reference12Ideal.Grad.grad_at _ _ _ (real_x _ _ _ (pre c).1) (real_w _ _ _ (pre c).2.1) (real_p _ _ _ (pre c).2.2) i

end Cert.Proof.GateGrad0
-- ==== Proof.PreNorm.lean ====
/-
  The gradient of a residual stream's modulated root-mean-square norm, one token at a time over the extended reals.

  A token `x` (1024 channels) is normed, scaled and shifted, `h = x · ρ(x) · g · (1 + s) + b` with
  `ρ(x) = rsqrt (mean x² + ε)`. Given the gradient `dh` of `h`, the definitions below are the gradients of `x`, of the
  gain `g`, of the scale `s` and of the shift `b`, as the chain rule writes them.
-/
module

public import Idealize.ShloMosaic.PureOps.Ideal
public import Idealize.ShloMosaic.Lib.Pointwise

@[expose] public section

noncomputable section

open Idealize.ShloMosaic

namespace Cert.PreNorm

/-- One token's channels. -/
abbrev Row := Fin 1024 → EReal

/-- A rank-2 array of extended reals. -/
abbrev Mat (a b : Nat) := (⟨2, ![a, b]⟩ : Shape).Idx → EReal

/-- Row `r` of an array. -/
def row {n : Nat} (a : Mat n 1024) (r : Fin n) : Row := fun k => a (ix2 r k)

/-- A token's gradient taken back through a weight. -/
def through {n K : Nat} (d : Mat n K) (w : Mat 1024 K) (r : Fin n) : Row := fun k => ∑ j : Fin K, d (ix2 r j) * w (ix2 k j)

/-- A token after the gated residual addition. -/
def resid {n : Nat} (x y : Mat n 1024) (gate : Row) (r : Fin n) : Row := fun k => x (ix2 r k) + gate k * y (ix2 r k)

/-- The mean square plus `ε`. -/
def meanSq (x : Row) : EReal :=
  Ideal.div (∑ k, x k * x k) (Ideal.ofBits .f32 1149239296#32) + Ideal.ofBits .f32 897988541#32

/-- The factor a token is divided by. -/
def inv (x : Row) : EReal := Ideal.rsqrt (meanSq x)

/-- The gradient of the token after the division. -/
def dNormed (g s dh : Row) : Row := fun k => dh k * (1 + s k) * g k

/-- The gradient of the mean square, spread over the channels. -/
def dSquare (x g s dh : Row) : EReal :=
  ∑ _u : Fin 1, Ideal.div ((∑ k, x k * dNormed g s dh k) * (Ideal.ofBits .f32 3204448256#32 * Ideal.div (inv x) (meanSq x)))
    (Ideal.ofBits .f32 1149239296#32)

/-- The gradient of the token: what reaches it past the norm (`d`), plus what comes through the norm. -/
def back (d x g s dh : Row) : Row := fun k =>
  d k + dNormed g s dh k * inv x + x k * dSquare x g s dh + dSquare x g s dh * x k

/-- What comes through the norm alone. -/
def backNorm (x g s dh : Row) : Row := fun k =>
  dNormed g s dh k * inv x + x k * dSquare x g s dh + dSquare x g s dh * x k

theorem back_eq (d x g s dh : Row) (k : Fin 1024) : backNorm x g s dh k + d k = back d x g s dh k := by
  unfold backNorm back
  rw [add_comm (G := EReal), ← add_assoc (G := EReal), ← add_assoc (G := EReal)]

theorem back_zero (x g s dh : Row) : back 0 x g s dh = backNorm x g s dh := by
  funext k
  rw [← back_eq]
  exact add_zero (M := EReal) _

/-- A token's part of the scale's gradient. -/
def dScale (x g dh : Row) : Row := fun k => x k * inv x * g k * dh k

/-- A token's part of the gain's gradient. -/
def dGain (x s dh : Row) : Row := fun k => x k * inv x * (dh k * (1 + s k))

/-- The modulation row used at a block of tokens: row `a` where `t = 0`, row `8 + a` where `t = 1`. -/
def pick (t : EReal) (m : Mat 16 1024) (a b : Fin 16) : Row := fun k => m (ix2 a k) * (1 - t) + m (ix2 b k) * t

theorem pick_zero (m : Mat 16 1024) (a b : Fin 16) : pick 0 m a b = row m a := by
  funext k; unfold pick row; simp

theorem one_sub_one : (1 : EReal) - 1 = 0 := by
  rw [show (1 : EReal) = ((1 : ℝ) : EReal) from rfl, ← EReal.coe_sub]; simp

theorem pick_one (m : Mat 16 1024) (a b : Fin 16) : pick 1 m a b = row m b := by
  funext k
  unfold pick row
  rw [one_sub_one]; simp

/-- A sum over tokens is the sum over blocks of the blocks' sums. -/
theorem sum_blocks {a b n : Nat} (h : a * b = n) (f : Fin n → EReal) :
    ∑ s : Fin a, ∑ r : Fin b, f ⟨s.val * b + r.val, by
      have := s.isLt; have := r.isLt
      calc s.val * b + r.val < s.val * b + b := by omega
        _ = (s.val + 1) * b := by ring
        _ ≤ a * b := Nat.mul_le_mul_right b (by omega)
        _ = n := h⟩ = ∑ r : Fin n, f r := by
  subst h
  rw [← Fintype.sum_prod_type' (f := fun (s : Fin a) (r : Fin b) => f ⟨s.val * b + r.val, _⟩)]
  refine Fintype.sum_equiv finProdFinEquiv _ _ fun p => ?_
  congr 1
  apply Fin.ext
  simp [finProdFinEquiv]
  ring

/-! A block's token is the array's token. -/

theorem row_block {n n' : Nat} (f : Fin n → Fin n') {x : Mat n 1024} {x' : Mat n' 1024} (hx : ∀ r k, x (ix2 r k) = x' (ix2 (f r) k)) (r : Fin n) :
    row x r = row x' (f r) := by
  funext k; exact hx r k

theorem through_block {n n' K : Nat} (f : Fin n → Fin n') {d : Mat n K} {d' : Mat n' K} (hd : ∀ r k, d (ix2 r k) = d' (ix2 (f r) k))
    (w : Mat 1024 K) (r : Fin n) : through d w r = through d' w (f r) := by
  funext k; unfold through; simp only [hd]

theorem resid_block {n n' : Nat} (f : Fin n → Fin n') {x y : Mat n 1024} {x' y' : Mat n' 1024} (hx : ∀ r k, x (ix2 r k) = x' (ix2 (f r) k))
    (hy : ∀ r k, y (ix2 r k) = y' (ix2 (f r) k)) (gate : Row) (r : Fin n) : resid x y gate r = resid x' y' gate (f r) := by
  funext k; unfold resid; rw [hx, hy]

/-- A running sum that starts afresh at the first block is the sum of the blocks so far. -/
theorem running {N : Nat} (acc : (n : Nat) → n < N → EReal) (part : Fin N → EReal) (h0 : ∀ h, acc 0 h = part ⟨0, h⟩)
    (hs : ∀ n h, acc (n + 1) h = acc n (by omega) + part ⟨n + 1, h⟩) :
    ∀ n h, acc n h = ∑ s : Fin (n + 1), part ⟨s.val, by have := s.isLt; omega⟩ := by
  intro n
  induction n with
  | zero => intro h; rw [h0, Fin.sum_univ_one]; rfl
  | succ n ih =>
    intro h
    rw [hs, ih]
    exact (Fin.sum_univ_castSucc (n := n + 1) fun s : Fin (n + 1 + 1) => part ⟨s.val, by have := s.isLt; omega⟩).symm

/-! The latent tokens (the first 4096) and the context's (the last 256). -/

/-- Whether a token is of the context. -/
def flag (r : Fin 4352) : EReal := if r.val < 4096 then 0 else 1

abbrev inLat (r : Fin 4096) : Fin 4352 := ⟨r.val, by omega⟩
abbrev inCtx (r : Fin 256) : Fin 4352 := ⟨4096 + r.val, by omega⟩

theorem flag_lat (r : Fin 4096) : flag (inLat r) = 0 := if_pos r.isLt
theorem flag_ctx (r : Fin 256) : flag (inCtx r) = 1 := if_neg (by show ¬ 4096 + r.val < 4096; omega)

def latAt {K : Nat} (a : Mat 4352 K) (r : Fin 4096) (k : Fin K) : EReal := a (ix2 (inLat r) k)
def ctxAt {K : Nat} (a : Mat 4352 K) (r : Fin 256) (k : Fin K) : EReal := a (ix2 (inCtx r) k)
def joinAt {K : Nat} (a : Mat 4096 K) (b : Mat 256 K) (r : Fin 4352) (k : Fin K) : EReal :=
  if h : r.val < 4096 then a (ix2 ⟨r.val, h⟩ k) else b (ix2 ⟨r.val - 4096, by omega⟩ k)

/-- The latent rows, the context's rows, the two below each other. -/
def latOf {K : Nat} (a : Mat 4352 K) : Mat 4096 K := fun i => latAt a (i 0) (i 1)
def ctxOf {K : Nat} (a : Mat 4352 K) : Mat 256 K := fun i => ctxAt a (i 0) (i 1)
def joined {K : Nat} (a : Mat 4096 K) (b : Mat 256 K) : Mat 4352 K := fun i => joinAt a b (i 0) (i 1)

theorem joined_lat {K : Nat} (a : Mat 4096 K) (b : Mat 256 K) (r : Fin 4096) (k : Fin K) : joined a b (ix2 (inLat r) k) = a (ix2 r k) := by
  show joinAt a b (inLat r) k = _
  unfold joinAt
  rw [dif_pos r.isLt]

theorem joined_ctx {K : Nat} (a : Mat 4096 K) (b : Mat 256 K) (r : Fin 256) (k : Fin K) : joined a b (ix2 (inCtx r) k) = b (ix2 r k) := by
  show joinAt a b (inCtx r) k = _
  unfold joinAt
  rw [dif_neg (by show ¬ 4096 + r.val < 4096; omega)]
  have e : ∀ h, (⟨(inCtx r).val - 4096, h⟩ : Fin 256) = r := fun h => Fin.ext (by show 4096 + r.val - 4096 = r.val; omega)
  rw [e]

/-- A sum over the tokens is the latents' sum plus the context's. -/
theorem sum_tokens (f : Fin 4352 → EReal) : ∑ r, f r = ∑ r : Fin 4096, f (inLat r) + ∑ r : Fin 256, f (inCtx r) :=
  Fin.sum_univ_add (a := 4096) (b := 256) f

/-- Every token is one or the other. -/
theorem token_cases (r : Fin 4352) : (∃ s : Fin 4096, r = inLat s) ∨ ∃ s : Fin 256, r = inCtx s := by
  by_cases h : r.val < 4096
  · exact .inl ⟨⟨r.val, h⟩, rfl⟩
  · exact .inr ⟨⟨r.val - 4096, by omega⟩, Fin.ext (by show r.val = 4096 + (r.val - 4096); omega)⟩

/-- An index of a rank-2 array is a row and a column. -/
theorem idx2 {a b : Nat} (i : (⟨2, ![a, b]⟩ : Shape).Idx) : ∃ (r : Fin a) (k : Fin b), i = ix2 r k :=
  ⟨i 0, i 1, by funext a; match a with | ⟨0, _⟩ => rfl | ⟨1, _⟩ => rfl⟩

theorem sum_ite {n : Nat} (p : Prop) [Decidable p] (f g : Fin n → EReal) :
    ∑ s, (if p then f s else g s) = if p then ∑ s, f s else ∑ s, g s := by split <;> rfl

theorem sum_ite_zero {n : Nat} (p : Prop) [Decidable p] (f : Fin n → EReal) :
    ∑ s, (if p then f s else 0) = if p then ∑ s, f s else 0 := by rw [sum_ite, Finset.sum_const_zero]

theorem sum_ite_ite_zero {n : Nat} (p q : Prop) [Decidable p] [Decidable q] (f g : Fin n → EReal) :
    ∑ s, (if p then f s else if q then g s else 0) = if p then ∑ s, f s else if q then ∑ s, g s else 0 := by
  rw [sum_ite, sum_ite_zero]

end Cert.PreNorm
-- ==== Proof.FfnEntry1.lean ====
/-
  `l1_ffn_in_dx_prenorm_bwd`, the kernel: the gradient taken back through layer 1's feed-forward entry — the product, the
  modulated norm and the gated residual. The token rows are written block by block; the gradients of the gain and of the
  modulation rows are summed over the blocks.
-/
module

public import proofs.«01_k».proof.Defs
public import proofs.«01_k».proof.Proof.Products
public import proofs.«01_k».proof.Proof.PreNorm
public import proofs.«01_k».proof.Proof.Gen.Kernel13Ideal.Value
public import proofs.«01_k».proof.Proof.Gen.Reference13Ideal.Run
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)
open Cert.Products (zero_offsets)
open Cert.PreNorm

namespace Cert.Kernel13Ideal.Grad

open Cert.Kernel13Ideal Cert.Kernel13Ideal.Gen

section Block

variable (i : grid0.Coords)
variable (x y : Vec Ideal S256x1024 .f32) (g : Vec Ideal S1x1024 .f32) (ma mb : Vec Ideal S16x1024 .f32) (dx : Vec Ideal S256x1024 .f32)
  (dp : Vec Ideal S256x5632 .bf16) (w : Vec Ideal S1024x5632 .bf16)

/-! ## One block's terms -/

/-- Zero on the blocks of latent tokens. -/
abbrev late : EReal := k0_pay3 (F := Ideal) i

abbrev width : Ideal .f32 := Scalar.ofBits .f32 0x44800000#32

abbrev token := k0_pay9 i x y ma
abbrev square := k0_pay10 i x y ma
abbrev dh := k0_pay4 dp w
abbrev shifts := k0_pay7 i mb
abbrev direct := k0_pay18 g dx (dh dp w) (shifts i mb) (square i x y ma) width
abbrev spread := k0_pay19 g (dh dp w) (shifts i mb) (token i x y ma) (square i x y ma) width
abbrev spreadX := k0_pay20 g (dh dp w) (shifts i mb) (token i x y ma) (square i x y ma) width

/-- The block of the tokens' gradient. -/
abbrev blkX := k0_pay21 (token i x y ma) (direct i x y g ma mb dx dp w) (spread i x y g ma mb dp w) (spreadX i x y g ma mb dp w)
/-- The block of the residual branch's gradient. -/
abbrev blkY := k0_pay25 (k0_pay8 i ma) (token i x y ma) (direct i x y g ma mb dx dp w) (spread i x y g ma mb dp w) (spreadX i x y g ma mb dp w)
/-- The gain's gradient, the block's part added to `p`. -/
abbrev addG (p : Vec Ideal S1x1024 .f32) :=
  k0_pay29 (k0_pay16 (dh dp w) (shifts i mb) (token i x y ma) (square i x y ma) width) p
/-- The gate's gradient, the block's part added to `p`. -/
abbrev addA (p : Vec Ideal S16x1024 .f32) :=
  k0_pay1 (k0_pay24 (k0_pay3 (F := Ideal) i) y (k0_pay5 (F := Ideal) i) (token i x y ma) (direct i x y g ma mb dx dp w) (spread i x y g ma mb dp w)
    (spreadX i x y g ma mb dp w)) p
/-- The shift's and the scale's gradient, the block's part added to `p`. -/
abbrev addB (p : Vec Ideal S16x1024 .f32) :=
  k0_pay2 (k0_pay23 (k0_pay3 (F := Ideal) i) (k0_pay6 (F := Ideal) i) (k0_pay15 g (dh dp w) (token i x y ma) (square i x y ma) width)) p

/-! ## The same, entry by entry -/

theorem dh_apply (r : Fin 256) (k : Fin 1024) : k0_pay4 dp w (ix2 r k) = through dp w r k := by
  unfold k0_pay4 through
  pointwise

theorem scale_row (k : Fin 1024) : k0_pay7 i mb (ix2 4 k) = pick (late i) mb 4 12 k := by
  unfold k0_pay7 k0_pay6 pick
  pointwise

theorem gate_row (k : Fin 1024) : k0_pay8 i ma (ix2 0 k) = pick (late i) ma 2 10 k := by
  unfold k0_pay8 k0_pay5 pick
  pointwise

theorem token_apply (r : Fin 256) (k : Fin 1024) : k0_pay9 i x y ma (ix2 r k) = resid x y (pick (late i) ma 2 10) r k := by
  unfold k0_pay9 resid
  pointwise
  simp only [gate_row]

theorem square_apply (r : Fin 256) (u : Fin 1) : k0_pay10 i x y ma (ix2 r u)
    = ∑ k, resid x y (pick (late i) ma 2 10) r k * resid x y (pick (late i) ma 2 10) r k := by
  unfold k0_pay10
  pointwise
  simp only [token_apply]

theorem blkX_apply (r : Fin 256) (k : Fin 1024) : blkX i x y g ma mb dx dp w (ix2 r k)
    = back (row dx r) (resid x y (pick (late i) ma 2 10) r) (row g 0) (pick (late i) mb 4 12) (through dp w r) k := by
  unfold blkX direct spreadX spread dh token shifts square width k0_pay21 k0_pay20 k0_pay19 k0_pay18 k0_pay17 k0_pay14 k0_pay12 k0_pay11
  pointwise
  simp only [dh_apply, scale_row, token_apply, square_apply]
  rfl

theorem blkY_apply (r : Fin 256) (k : Fin 1024) : blkY i x y g ma mb dx dp w (ix2 r k)
    = pick (late i) ma 2 10 k
      * back (row dx r) (resid x y (pick (late i) ma 2 10) r) (row g 0) (pick (late i) mb 4 12) (through dp w r) k := by
  rw [← blkX_apply i x y g ma mb dx dp w r k, ← gate_row i ma k]
  unfold blkY k0_pay25 k0_pay22
  pointwise

theorem addG_apply (p : Vec Ideal S1x1024 .f32) (k : Fin 1024) : addG i x y ma mb dp w p (ix2 0 k)
    = p (ix2 0 k) + ∑ r, dGain (resid x y (pick (late i) ma 2 10) r) (pick (late i) mb 4 12) (through dp w r) k := by
  unfold addG dh token shifts square width k0_pay29 k0_pay16 k0_pay14 k0_pay13 k0_pay12 k0_pay11
  pointwise
  simp only [dh_apply, scale_row, token_apply, square_apply]
  rfl

/-- On latent tokens only row 2 receives the gate's gradient. -/
theorem addA_apply (h : late i = 0) (p : Vec Ideal S16x1024 .f32) (a : Fin 16) (k : Fin 1024) :
    addA i x y g ma mb dx dp w p (ix2 a k) = p (ix2 a k)
      + if a = 2 then ∑ r, back (row dx r) (resid x y (pick (late i) ma 2 10) r) (row g 0) (pick (late i) mb 4 12) (through dp w r) k
          * y (ix2 r k) else 0 := by
  simp only [← blkX_apply i x y g ma mb dx dp w]
  unfold addA k0_pay1 k0_pay24 k0_pay22 k0_pay5
  pointwise
  have h' : (k0_pay3 (F := Ideal) i : EReal) = 0 := h
  rw [h']
  congr 1
  fin_cases a <;> simp

/-- On latent tokens only rows 3 and 4 receive the shift's and the scale's gradient. -/
theorem addB_apply (h : late i = 0) (p : Vec Ideal S16x1024 .f32) (a : Fin 16) (k : Fin 1024) :
    addB i x y g ma dp w p (ix2 a k) = p (ix2 a k)
      + if a = 3 then ∑ r, through dp w r k
        else if a = 4 then ∑ r, dScale (resid x y (pick (late i) ma 2 10) r) (row g 0) (through dp w r) k else 0 := by
  unfold addB dh token square width k0_pay2 k0_pay23 k0_pay15 k0_pay13 k0_pay12 k0_pay11 k0_pay6
  pointwise
  have h' : (k0_pay3 (F := Ideal) i : EReal) = 0 := h
  simp only [dh_apply, token_apply, square_apply, h']
  unfold dScale PreNorm.inv meanSq row
  congr 1
  fin_cases a <;> simp

end Block

variable (m : (ℓ : Loc nD τ sig) → Buf (Elt Ideal) ℓ) (c : Dev nD)

/-! ## What a grid point leaves in its output buffers -/

theorem out8_A (t : Fin cfg0.N) (h : t.val % 16 = 0) : (outsAt0 m c t.val t.isLt).1
    = blkX (grid0.coords t) (iblk m c 0 t) (iblk m c 1 t) (iblk m c 2 t) (iblk m c 3 t) (iblk m c 4 t) (iblk m c 5 t) (iblk m c 6 t) (iblk m c 7 t) := by
  rw [outsAt0_A m c t h]
  dsimp only
  unfold out0_A_8
  rw [View.read_writes_eq_canon _ _ _ (fun _ => cover0_A_8 ..)]
  unfold kernelRun0_A
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out8_B (t : Fin cfg0.N) (h : ¬t.val % 16 = 0) : (outsAt0 m c t.val t.isLt).1
    = blkX (grid0.coords t) (iblk m c 0 t) (iblk m c 1 t) (iblk m c 2 t) (iblk m c 3 t) (iblk m c 4 t) (iblk m c 5 t) (iblk m c 6 t) (iblk m c 7 t) := by
  rw [outsAt0_B m c t h]
  dsimp only
  unfold out0_B_8
  rw [View.read_writes_eq_canon _ _ _ (fun _ => cover0_B_8 ..)]
  unfold kernelRun0_B
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out8 (t : Fin cfg0.N) : (outsAt0 m c t.val t.isLt).1
    = blkX (grid0.coords t) (iblk m c 0 t) (iblk m c 1 t) (iblk m c 2 t) (iblk m c 3 t) (iblk m c 4 t) (iblk m c 5 t) (iblk m c 6 t) (iblk m c 7 t) :=
  if h : t.val % 16 = 0 then out8_A m c t h else out8_B m c t h

theorem out9_A (t : Fin cfg0.N) (h : t.val % 16 = 0) : (outsAt0 m c t.val t.isLt).2.1
    = blkY (grid0.coords t) (iblk m c 0 t) (iblk m c 1 t) (iblk m c 2 t) (iblk m c 3 t) (iblk m c 4 t) (iblk m c 5 t) (iblk m c 6 t) (iblk m c 7 t) := by
  rw [outsAt0_A m c t h]
  dsimp only
  unfold out0_A_9
  rw [View.read_writes_eq_canon _ _ _ (fun _ => cover0_A_9 ..)]
  unfold kernelRun0_A
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out9_B (t : Fin cfg0.N) (h : ¬t.val % 16 = 0) : (outsAt0 m c t.val t.isLt).2.1
    = blkY (grid0.coords t) (iblk m c 0 t) (iblk m c 1 t) (iblk m c 2 t) (iblk m c 3 t) (iblk m c 4 t) (iblk m c 5 t) (iblk m c 6 t) (iblk m c 7 t) := by
  rw [outsAt0_B m c t h]
  dsimp only
  unfold out0_B_9
  rw [View.read_writes_eq_canon _ _ _ (fun _ => cover0_B_9 ..)]
  unfold kernelRun0_B
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out9 (t : Fin cfg0.N) : (outsAt0 m c t.val t.isLt).2.1
    = blkY (grid0.coords t) (iblk m c 0 t) (iblk m c 1 t) (iblk m c 2 t) (iblk m c 3 t) (iblk m c 4 t) (iblk m c 5 t) (iblk m c 6 t) (iblk m c 7 t) :=
  if h : t.val % 16 = 0 then out9_A m c t h else out9_B m c t h

theorem out10_A (t : Fin cfg0.N) (h : t.val % 16 = 0) : (outsAt0 m c t.val t.isLt).2.2.1
    = addG (grid0.coords t) (iblk m c 0 t) (iblk m c 1 t) (iblk m c 3 t) (iblk m c 4 t) (iblk m c 6 t) (iblk m c 7 t)
      (k0_pay26 (F := Ideal)) := by
  rw [outsAt0_A m c t h]
  dsimp only
  unfold out0_A_10
  rw [View.read_writes_eq_canon _ _ _ (fun _ => cover0_A_10 ..)]
  unfold kernelRun0_A
  dsimp only
  sl_unfold_words
  simp only [View.canon_cons_unit_zero (S := S1x1024) zero_offsets, View.canon_unit_zero (S := S1x1024) zero_offsets,
    View.readCov_unit_zero (S := S1x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out10_B (t : Fin cfg0.N) (h : ¬t.val % 16 = 0) : (outsAt0 m c t.val t.isLt).2.2.1
    = addG (grid0.coords t) (iblk m c 0 t) (iblk m c 1 t) (iblk m c 3 t) (iblk m c 4 t) (iblk m c 6 t) (iblk m c 7 t)
      (outsAt0 m c (t.val - 1) (Nat.lt_of_le_of_lt (Nat.sub_le _ _) t.isLt)).2.2.1 := by
  rw [outsAt0_B m c t h]
  dsimp only
  unfold out0_B_10
  rw [View.read_writes_eq_canon _ _ _ (fun _ => cover0_B_10 ..)]
  unfold kernelRun0_B
  dsimp only
  sl_unfold_words
  simp only [View.canon_cons_unit_zero (S := S1x1024) zero_offsets, View.canon_unit_zero (S := S1x1024) zero_offsets,
    View.readCov_unit_zero (S := S1x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_10 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out11_A (t : Fin cfg0.N) (h : t.val % 16 = 0) : (outsAt0 m c t.val t.isLt).2.2.2.1
    = addA (grid0.coords t) (iblk m c 0 t) (iblk m c 1 t) (iblk m c 2 t) (iblk m c 3 t) (iblk m c 4 t) (iblk m c 5 t) (iblk m c 6 t) (iblk m c 7 t)
      (k0_pay27 (F := Ideal)) := by
  rw [outsAt0_A m c t h]
  dsimp only
  unfold out0_A_11
  rw [View.read_writes_eq_canon _ _ _ (fun _ => cover0_A_11 ..)]
  unfold kernelRun0_A
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out11_B (t : Fin cfg0.N) (h : ¬t.val % 16 = 0) : (outsAt0 m c t.val t.isLt).2.2.2.1
    = addA (grid0.coords t) (iblk m c 0 t) (iblk m c 1 t) (iblk m c 2 t) (iblk m c 3 t) (iblk m c 4 t) (iblk m c 5 t) (iblk m c 6 t) (iblk m c 7 t)
      (outsAt0 m c (t.val - 1) (Nat.lt_of_le_of_lt (Nat.sub_le _ _) t.isLt)).2.2.2.1 := by
  rw [outsAt0_B m c t h]
  dsimp only
  unfold out0_B_11
  rw [View.read_writes_eq_canon _ _ _ (fun _ => cover0_B_11 ..)]
  unfold kernelRun0_B
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_11 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out12_A (t : Fin cfg0.N) (h : t.val % 16 = 0) : (outsAt0 m c t.val t.isLt).2.2.2.2
    = addB (grid0.coords t) (iblk m c 0 t) (iblk m c 1 t) (iblk m c 2 t) (iblk m c 3 t) (iblk m c 6 t) (iblk m c 7 t)
      (k0_pay28 (F := Ideal)) := by
  rw [outsAt0_A m c t h]
  dsimp only
  unfold out0_A_12
  rw [View.read_writes_eq_canon _ _ _ (fun _ => cover0_A_12 ..)]
  unfold kernelRun0_A
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

theorem out12_B (t : Fin cfg0.N) (h : ¬t.val % 16 = 0) : (outsAt0 m c t.val t.isLt).2.2.2.2
    = addB (grid0.coords t) (iblk m c 0 t) (iblk m c 1 t) (iblk m c 2 t) (iblk m c 3 t) (iblk m c 6 t) (iblk m c 7 t)
      (outsAt0 m c (t.val - 1) (Nat.lt_of_le_of_lt (Nat.sub_le _ _) t.isLt)).2.2.2.2 := by
  rw [outsAt0_B m c t h]
  dsimp only
  unfold out0_B_12
  rw [View.read_writes_eq_canon _ _ _ (fun _ => cover0_B_12 ..)]
  unfold kernelRun0_B
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_12 t).read_unread,
    View.ld_unit_zero (S := S256x1024) zero_offsets, View.ld_unit_zero (S := S1x1024) zero_offsets, View.ld_unit_zero (S := S16x1024) zero_offsets,
    View.ld_unit_zero (S := S256x5632) zero_offsets, View.ld_unit_zero (S := S1024x5632) zero_offsets]

/-! ## The blocks the point reads -/

theorem lt16 (t : Fin cfg0.N) : t.val < 16 := by have := t.isLt; have hN : cfg0.N = 16 := N_0; omega

/-- The windows' block indices: the tokens' blocks advance with the point, the others stay. -/
theorem blocks_at : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0) ∧ (win0_4.index t 0 = 0 ∧ win0_4.index t 1 = 0)
    ∧ (win0_5.index t 0 = t.val ∧ win0_5.index t 1 = 0) ∧ (win0_6.index t 0 = t.val ∧ win0_6.index t 1 = 0)
    ∧ (win0_7.index t 0 = 0 ∧ win0_7.index t 1 = 0) := by decide +kernel

theorem blocks_out : ∀ t : Fin grid0.N, (win0_8.index t 0 = t.val ∧ win0_8.index t 1 = 0) ∧ (win0_9.index t 0 = t.val ∧ win0_9.index t 1 = 0)
    ∧ (win0_10.index t 0 = 0 ∧ win0_10.index t 1 = 0) ∧ (win0_11.index t 0 = 0 ∧ win0_11.index t 1 = 0)
    ∧ (win0_12.index t 0 = 0 ∧ win0_12.index t 1 = 0) := by decide +kernel

/-- All the blocks hold latent tokens. -/
theorem latent : ∀ t : Fin grid0.N, (Scalar.extui (Scalar.cmpi .sge (BitVec.ofNat 32 (grid0.coords t 0).val) 16#32) : BitVec 32) = 0#32 := by decide +kernel

theorem late_zero (t : Fin cfg0.N) : late (grid0.coords t) = 0 := by
  unfold late k0_pay3
  pointwise
  have h := latent t
  rw [h]
  simp

/-- Token `r` of block `t`. -/
abbrev tok (t : Fin cfg0.N) (r : Fin 256) : Fin 4096 := ⟨t.val * 256 + r.val, by have := lt16 t; omega⟩

section Arrays

/-! The arguments. -/

abbrev aX := m ((c : Thread nD τ).loc main_arg0)
abbrev aY := m ((c : Thread nD τ).loc main_arg1)
abbrev aG := m ((c : Thread nD τ).loc main_arg2)
abbrev aA := m ((c : Thread nD τ).loc main_arg3)
abbrev aB := m ((c : Thread nD τ).loc main_arg4)
abbrev aD := m ((c : Thread nD τ).loc main_arg5)
abbrev aP := m ((c : Thread nD τ).loc main_arg6)
abbrev aW := m ((c : Thread nD τ).loc main_arg7)

theorem read_x (t : Fin cfg0.N) (r : Fin 256) (k : Fin 1024) : iblk m c 0 t (ix2 r k) = aX m c (ix2 (tok t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem read_y (t : Fin cfg0.N) (r : Fin 256) (k : Fin 1024) : iblk m c 1 t (ix2 r k) = aY m c (ix2 (tok t r) k) := by
  have e := (blocks_at t).2.1
  show V m c main_arg1 _ = m _ _
  rw [V_main_arg1]
  congr 1
  funext a
  apply Fin.ext
  match a with
  | ⟨0, _⟩ => show win0_1.index t 0 * 256 + 1 * r.val = t.val * 256 + r.val; rw [e.1]; omega
  | ⟨1, _⟩ => show win0_1.index t 1 * 1024 + 1 * k.val = k.val; rw [e.2]; omega

theorem read_d (t : Fin cfg0.N) (r : Fin 256) (k : Fin 1024) : iblk m c 5 t (ix2 r k) = aD m c (ix2 (tok t r) k) := by
  have e := (blocks_at t).2.2.2.2.2.1
  show V m c main_arg5 _ = m _ _
  rw [V_main_arg5]
  congr 1
  funext a
  apply Fin.ext
  match a with
  | ⟨0, _⟩ => show win0_5.index t 0 * 256 + 1 * r.val = t.val * 256 + r.val; rw [e.1]; omega
  | ⟨1, _⟩ => show win0_5.index t 1 * 1024 + 1 * k.val = k.val; rw [e.2]; omega

theorem read_p (t : Fin cfg0.N) (r : Fin 256) (k : Fin 5632) : iblk m c 6 t (ix2 r k) = aP m c (ix2 (tok t r) k) := by
  have e := (blocks_at t).2.2.2.2.2.2.1
  show V m c main_arg6 _ = m _ _
  rw [V_main_arg6]
  congr 1
  funext a
  apply Fin.ext
  match a with
  | ⟨0, _⟩ => show win0_6.index t 0 * 256 + 1 * r.val = t.val * 256 + r.val; rw [e.1]; omega
  | ⟨1, _⟩ => show win0_6.index t 1 * 5632 + 1 * k.val = k.val; rw [e.2]; omega

theorem read_g (t : Fin cfg0.N) : iblk m c 2 t = aG m c := by
  have e := (blocks_at t).2.2.1
  funext i
  show V m c main_arg2 _ = m _ _
  rw [V_main_arg2]
  congr 1
  funext a
  apply Fin.ext
  match a with
  | ⟨0, _⟩ => show win0_2.index t 0 * 1 + 1 * (i 0).val = (i 0).val; rw [e.1]; omega
  | ⟨1, _⟩ => show win0_2.index t 1 * 1024 + 1 * (i 1).val = (i 1).val; rw [e.2]; omega

theorem read_a (t : Fin cfg0.N) : iblk m c 3 t = aA m c := by
  have e := (blocks_at t).2.2.2.1
  funext i
  show V m c main_arg3 _ = m _ _
  rw [V_main_arg3]
  congr 1
  funext a
  apply Fin.ext
  match a with
  | ⟨0, _⟩ => show win0_3.index t 0 * 16 + 1 * (i 0).val = (i 0).val; rw [e.1]; omega
  | ⟨1, _⟩ => show win0_3.index t 1 * 1024 + 1 * (i 1).val = (i 1).val; rw [e.2]; omega

theorem read_b (t : Fin cfg0.N) : iblk m c 4 t = aB m c := by
  have e := (blocks_at t).2.2.2.2.1
  funext i
  show V m c main_arg4 _ = m _ _
  rw [V_main_arg4]
  congr 1
  funext a
  apply Fin.ext
  match a with
  | ⟨0, _⟩ => show win0_4.index t 0 * 16 + 1 * (i 0).val = (i 0).val; rw [e.1]; omega
  | ⟨1, _⟩ => show win0_4.index t 1 * 1024 + 1 * (i 1).val = (i 1).val; rw [e.2]; omega

theorem read_w (t : Fin cfg0.N) : iblk m c 7 t = aW m c := by
  have e := (blocks_at t).2.2.2.2.2.2.2
  funext i
  show V m c main_arg7 _ = m _ _
  rw [V_main_arg7]
  congr 1
  funext a
  apply Fin.ext
  match a with
  | ⟨0, _⟩ => show win0_7.index t 0 * 1024 + 1 * (i 0).val = (i 0).val; rw [e.1]; omega
  | ⟨1, _⟩ => show win0_7.index t 1 * 5632 + 1 * (i 1).val = (i 1).val; rw [e.2]; omega

/-! ## The results, token by token -/

/-- A token after the residual. -/
abbrev hidden (r : Fin 4096) : Row := resid (aX m c) (aY m c) (row (aA m c) 2) r
/-- A token's gradient before the norm. -/
abbrev grown (r : Fin 4096) : Row := through (aP m c) (aW m c) r
/-- A token's gradient after it. -/
abbrev tokenGrad (r : Fin 4096) : Row := back (row (aD m c) r) (hidden m c r) (row (aG m c) 0) (row (aB m c) 4) (grown m c r)

abbrev resX : Buf (Elt Ideal) ((c : Thread nD τ).loc main_v0_0) := fun i => tokenGrad m c (i 0) (i 1)
abbrev resY : Buf (Elt Ideal) ((c : Thread nD τ).loc main_v0_1) := fun i => row (aA m c) 2 (i 1) * tokenGrad m c (i 0) (i 1)
def resGt (k : Fin 1024) : EReal := ∑ r : Fin 4096, dGain (hidden m c r) (row (aB m c) 4) (grown m c r) k
abbrev resG : Buf (Elt Ideal) ((c : Thread nD τ).loc main_v0_2) := fun i => resGt m c (i 1)
def resAt (a : Fin 16) (k : Fin 1024) : EReal := if a = 2 then ∑ r : Fin 4096, tokenGrad m c r k * aY m c (ix2 r k) else 0
def resBt (a : Fin 16) (k : Fin 1024) : EReal := if a = 3 then ∑ r : Fin 4096, grown m c r k
  else if a = 4 then ∑ r : Fin 4096, dScale (hidden m c r) (row (aG m c) 0) (grown m c r) k else 0
abbrev resA : Buf (Elt Ideal) ((c : Thread nD τ).loc main_v0_3) := fun i => resAt m c (i 0) (i 1)
abbrev resB : Buf (Elt Ideal) ((c : Thread nD τ).loc main_v0_4) := fun i => resBt m c (i 0) (i 1)

/-! ## Each block's part -/

theorem hidden_block (t : Fin cfg0.N) (r : Fin 256) : resid (iblk m c 0 t) (iblk m c 1 t) (pick (late (grid0.coords t)) (iblk m c 3 t) 2 10) r
    = hidden m c (tok t r) := by
  rw [late_zero, pick_zero, read_a]
  exact resid_block (tok t) (read_x m c t) (read_y m c t) _ r

theorem grown_block (t : Fin cfg0.N) (r : Fin 256) : through (iblk m c 6 t) (iblk m c 7 t) r = grown m c (tok t r) := by
  rw [read_w]
  exact through_block (tok t) (read_p m c t) _ r

theorem back_block (t : Fin cfg0.N) (r : Fin 256) :
    back (row (iblk m c 5 t) r) (resid (iblk m c 0 t) (iblk m c 1 t) (pick (late (grid0.coords t)) (iblk m c 3 t) 2 10) r) (row (iblk m c 2 t) 0)
      (pick (late (grid0.coords t)) (iblk m c 4 t) 4 12) (through (iblk m c 6 t) (iblk m c 7 t) r) = tokenGrad m c (tok t r) := by
  rw [hidden_block, grown_block, late_zero, pick_zero, read_g, read_b]
  exact congrArg (fun d => back d _ _ _ _) (row_block (tok t) (read_d m c t) r)

theorem at8 (t : Fin cfg0.N) (r : Fin 256) (k : Fin 1024) : (outsAt0 m c t.val t.isLt).1 (ix2 r k) = tokenGrad m c (tok t r) k := by
  rw [out8, blkX_apply, back_block]

theorem at9 (t : Fin cfg0.N) (r : Fin 256) (k : Fin 1024) :
    (outsAt0 m c t.val t.isLt).2.1 (ix2 r k) = row (aA m c) 2 k * tokenGrad m c (tok t r) k := by
  rw [out9, blkY_apply, back_block, late_zero, pick_zero, read_a]

abbrev partG (k : Fin 1024) (t : Fin cfg0.N) : EReal := ∑ r : Fin 256, dGain (hidden m c (tok t r)) (row (aB m c) 4) (grown m c (tok t r)) k
abbrev partA (a : Fin 16) (k : Fin 1024) (t : Fin cfg0.N) : EReal :=
  if a = 2 then ∑ r : Fin 256, tokenGrad m c (tok t r) k * aY m c (ix2 (tok t r) k) else 0
abbrev partB (a : Fin 16) (k : Fin 1024) (t : Fin cfg0.N) : EReal :=
  if a = 3 then ∑ r : Fin 256, grown m c (tok t r) k
  else if a = 4 then ∑ r : Fin 256, dScale (hidden m c (tok t r)) (row (aG m c) 0) (grown m c (tok t r)) k else 0

theorem stepG (t : Fin cfg0.N) (p : Vec Ideal S1x1024 .f32) (k : Fin 1024) :
    addG (grid0.coords t) (iblk m c 0 t) (iblk m c 1 t) (iblk m c 3 t) (iblk m c 4 t) (iblk m c 6 t) (iblk m c 7 t) p (ix2 0 k)
      = p (ix2 0 k) + partG m c k t := by
  rw [addG_apply]
  simp only [hidden_block, grown_block]
  rw [late_zero, pick_zero, read_b]

theorem stepA (t : Fin cfg0.N) (p : Vec Ideal S16x1024 .f32) (a : Fin 16) (k : Fin 1024) :
    addA (grid0.coords t) (iblk m c 0 t) (iblk m c 1 t) (iblk m c 2 t) (iblk m c 3 t) (iblk m c 4 t) (iblk m c 5 t) (iblk m c 6 t) (iblk m c 7 t) p (ix2 a k)
      = p (ix2 a k) + partA m c a k t := by
  rw [addA_apply _ _ _ _ _ _ _ _ _ (late_zero t)]
  simp only [back_block, read_y]

theorem stepB (t : Fin cfg0.N) (p : Vec Ideal S16x1024 .f32) (a : Fin 16) (k : Fin 1024) :
    addB (grid0.coords t) (iblk m c 0 t) (iblk m c 1 t) (iblk m c 2 t) (iblk m c 3 t) (iblk m c 6 t) (iblk m c 7 t) p (ix2 a k)
      = p (ix2 a k) + partB m c a k t := by
  rw [addB_apply _ _ _ _ _ _ _ (late_zero t)]
  simp only [hidden_block, grown_block, read_g]

/-! ## The sums over the blocks -/

theorem at10 (n : ℕ) (h : n < cfg0.N) (k : Fin 1024) :
    (outsAt0 m c n h).2.2.1 (ix2 0 k) = ∑ s : Fin (n + 1), partG m c k ⟨s.val, by have := s.isLt; omega⟩ := by
  refine running (fun n h => (outsAt0 m c n h).2.2.1 (ix2 0 k)) (partG m c k) (fun h => ?_) (fun n h => ?_) n h
  · have e := out10_A m c ⟨0, h⟩ (Nat.zero_mod _)
    refine (congrFun e (ix2 0 k)).trans ((stepG m c ⟨0, h⟩ _ k).trans ?_)
    rw [show (k0_pay26 (F := Ideal)) (ix2 0 k) = (0 : EReal) by unfold k0_pay26; pointwise]
    exact zero_add (M := EReal) _
  · have hN : cfg0.N = 16 := N_0
    have e := out10_B m c ⟨n + 1, h⟩ (by show ¬(n + 1) % 16 = 0; omega)
    exact (congrFun e (ix2 0 k)).trans (stepG m c ⟨n + 1, h⟩ _ k)

theorem at11 (n : ℕ) (h : n < cfg0.N) (a : Fin 16) (k : Fin 1024) :
    (outsAt0 m c n h).2.2.2.1 (ix2 a k) = ∑ s : Fin (n + 1), partA m c a k ⟨s.val, by have := s.isLt; omega⟩ := by
  refine running (fun n h => (outsAt0 m c n h).2.2.2.1 (ix2 a k)) (partA m c a k) (fun h => ?_) (fun n h => ?_) n h
  · have e := out11_A m c ⟨0, h⟩ (Nat.zero_mod _)
    refine (congrFun e (ix2 a k)).trans ((stepA m c ⟨0, h⟩ _ a k).trans ?_)
    rw [show (k0_pay27 (F := Ideal)) (ix2 a k) = (0 : EReal) by unfold k0_pay27; pointwise]
    exact zero_add (M := EReal) _
  · have hN : cfg0.N = 16 := N_0
    have e := out11_B m c ⟨n + 1, h⟩ (by show ¬(n + 1) % 16 = 0; omega)
    exact (congrFun e (ix2 a k)).trans (stepA m c ⟨n + 1, h⟩ _ a k)

theorem at12 (n : ℕ) (h : n < cfg0.N) (a : Fin 16) (k : Fin 1024) :
    (outsAt0 m c n h).2.2.2.2 (ix2 a k) = ∑ s : Fin (n + 1), partB m c a k ⟨s.val, by have := s.isLt; omega⟩ := by
  refine running (fun n h => (outsAt0 m c n h).2.2.2.2 (ix2 a k)) (partB m c a k) (fun h => ?_) (fun n h => ?_) n h
  · have e := out12_A m c ⟨0, h⟩ (Nat.zero_mod _)
    refine (congrFun e (ix2 a k)).trans ((stepB m c ⟨0, h⟩ _ a k).trans ?_)
    rw [show (k0_pay28 (F := Ideal)) (ix2 a k) = (0 : EReal) by unfold k0_pay28; pointwise]
    exact zero_add (M := EReal) _
  · have hN : cfg0.N = 16 := N_0
    have e := out12_B m c ⟨n + 1, h⟩ (by show ¬(n + 1) % 16 = 0; omega)
    exact (congrFun e (ix2 a k)).trans (stepB m c ⟨n + 1, h⟩ _ a k)

/-- After the last block a sum runs over all tokens. -/
theorem all_tokens (t : Fin cfg0.N) (ht : t.val = 15) (f : Fin 4096 → EReal) :
    ∑ s : Fin (t.val + 1), ∑ r : Fin 256, f (tok ⟨s.val, by have := s.isLt; have := t.isLt; omega⟩ r) = ∑ r : Fin 4096, f r := by
  obtain ⟨n, hn⟩ := t
  obtain rfl : n = 15 := ht
  exact sum_blocks (a := 16) (b := 256) rfl f

theorem sum_ite {n : Nat} (p : Prop) [Decidable p] (f g : Fin n → EReal) :
    ∑ s, (if p then f s else g s) = if p then ∑ s, f s else ∑ s, g s := by split <;> rfl

theorem last10 (t : Fin cfg0.N) (ht : t.val = 15) (k : Fin 1024) : (outsAt0 m c t.val t.isLt).2.2.1 (ix2 0 k) = resGt m c k := by
  rw [at10]
  exact all_tokens t ht fun r => dGain (hidden m c r) (row (aB m c) 4) (grown m c r) k

theorem last11 (t : Fin cfg0.N) (ht : t.val = 15) (a : Fin 16) (k : Fin 1024) : (outsAt0 m c t.val t.isLt).2.2.2.1 (ix2 a k) = resAt m c a k := by
  rw [at11, sum_ite, Finset.sum_const_zero]
  unfold resAt
  rw [← all_tokens t ht]

theorem last12 (t : Fin cfg0.N) (ht : t.val = 15) (a : Fin 16) (k : Fin 1024) : (outsAt0 m c t.val t.isLt).2.2.2.2 (ix2 a k) = resBt m c a k := by
  rw [at12, sum_ite, sum_ite, Finset.sum_const_zero]
  unfold resBt
  rw [← all_tokens t ht, ← all_tokens t ht]

/-! ## The arrays after the run -/

theorem flushed8_eq (t : Fin cfg0.N) : (dats m 0 c).flushed 8 t = ((cfg0.win 8).blk t).view.read (Elt Ideal) (resX m c) := by
  have e := (blocks_out t).1
  rw [Value.flushed8]
  funext j
  rw [View.read_apply]
  obtain ⟨r, k, rfl⟩ : ∃ (r : Fin 256) (k : Fin 1024), j = ix2 r k := ⟨j 0, j 1, by funext a; match a with | ⟨0, _⟩ => rfl | ⟨1, _⟩ => rfl⟩
  refine (at8 m c t r k).trans (congrArg₂ (tokenGrad m c) (Fin.ext ?_) (Fin.ext ?_))
  · show t.val * 256 + r.val = win0_8.index t 0 * 256 + 1 * r.val; rw [e.1]; omega
  · show k.val = win0_8.index t 1 * 1024 + 1 * k.val; rw [e.2]; omega

theorem flushed9_eq (t : Fin cfg0.N) : (dats m 0 c).flushed 9 t = ((cfg0.win 9).blk t).view.read (Elt Ideal) (resY m c) := by
  have e := (blocks_out t).2.1
  rw [Value.flushed9]
  funext j
  rw [View.read_apply]
  obtain ⟨r, k, rfl⟩ : ∃ (r : Fin 256) (k : Fin 1024), j = ix2 r k := ⟨j 0, j 1, by funext a; match a with | ⟨0, _⟩ => rfl | ⟨1, _⟩ => rfl⟩
  refine (at9 m c t r k).trans (congrArg₂ (fun r k => row (aA m c) 2 k * tokenGrad m c r k) (Fin.ext ?_) (Fin.ext ?_))
  · show t.val * 256 + r.val = win0_9.index t 0 * 256 + 1 * r.val; rw [e.1]; omega
  · show k.val = win0_9.index t 1 * 1024 + 1 * k.val; rw [e.2]; omega

theorem flushed10_eq (t : Fin cfg0.N) (hf : (cfg0.win 10).flush t = true) :
    (dats m 0 c).flushed 10 t = ((cfg0.win 10).blk t).view.read (Elt Ideal) (resG m c) := by
  have e := (blocks_out t).2.2.1
  have ht : t.val = 15 := by have := (flush0_10 t).mp hf; have := lt16 t; omega
  rw [Value.flushed10]
  funext j
  rw [View.read_apply]
  obtain ⟨r, k, rfl⟩ : ∃ (r : Fin 1) (k : Fin 1024), j = ix2 r k := ⟨j 0, j 1, by funext a; match a with | ⟨0, _⟩ => rfl | ⟨1, _⟩ => rfl⟩
  obtain rfl : r = 0 := Subsingleton.elim _ _
  refine (last10 m c t ht k).trans (congrArg (resGt m c) (Fin.ext ?_))
  show k.val = win0_10.index t 1 * 1024 + 1 * k.val; rw [e.2]; omega

theorem flushed11_eq (t : Fin cfg0.N) (hf : (cfg0.win 11).flush t = true) :
    (dats m 0 c).flushed 11 t = ((cfg0.win 11).blk t).view.read (Elt Ideal) (resA m c) := by
  have e := (blocks_out t).2.2.2.1
  have ht : t.val = 15 := by have := (flush0_11 t).mp hf; have := lt16 t; omega
  rw [Value.flushed11]
  funext j
  rw [View.read_apply]
  obtain ⟨r, k, rfl⟩ : ∃ (r : Fin 16) (k : Fin 1024), j = ix2 r k := ⟨j 0, j 1, by funext a; match a with | ⟨0, _⟩ => rfl | ⟨1, _⟩ => rfl⟩
  refine (last11 m c t ht r k).trans (congrArg₂ (resAt m c) (Fin.ext ?_) (Fin.ext ?_))
  · show r.val = win0_11.index t 0 * 16 + 1 * r.val; rw [e.1]; omega
  · show k.val = win0_11.index t 1 * 1024 + 1 * k.val; rw [e.2]; omega

theorem flushed12_eq (t : Fin cfg0.N) (hf : (cfg0.win 12).flush t = true) :
    (dats m 0 c).flushed 12 t = ((cfg0.win 12).blk t).view.read (Elt Ideal) (resB m c) := by
  have e := (blocks_out t).2.2.2.2
  have ht : t.val = 15 := by have := (flush0_12 t).mp hf; have := lt16 t; omega
  rw [Value.flushed12]
  funext j
  rw [View.read_apply]
  obtain ⟨r, k, rfl⟩ : ∃ (r : Fin 16) (k : Fin 1024), j = ix2 r k := ⟨j 0, j 1, by funext a; match a with | ⟨0, _⟩ => rfl | ⟨1, _⟩ => rfl⟩
  refine (last12 m c t ht r k).trans (congrArg₂ (resBt m c) (Fin.ext ?_) (Fin.ext ?_))
  · show r.val = win0_12.index t 0 * 16 + 1 * r.val; rw [e.1]; omega
  · show k.val = win0_12.index t 1 * 1024 + 1 * k.val; rw [e.2]; omega

theorem point (n : Nat) (h : n < 16) : ∃ t : Fin cfg0.N, t.val = n := ⟨⟨n, by have hN : cfg0.N = 16 := N_0; omega⟩, rfl⟩

theorem cover8 (i : S4096x1024.Idx) : ∃ t : Fin cfg0.N, (cfg0.win 8).flush t = true ∧ i ∈ ((cfg0.win 8).blk t).view.set := by
  have h0 : (i 0 : Nat) < 4096 := (i 0).isLt
  have h1 : (i 1 : Nat) < 1024 := (i 1).isLt
  obtain ⟨t, ht⟩ := point ((i 0 : Nat) / 256) (by omega)
  have e := (blocks_out t).1
  refine ⟨t, flush0_8 _, ?_⟩
  show i ∈ ((View.whole main_v0_0).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + 256; rw [e.1]; omega
  | ⟨1, _⟩ => show win0_8.index t 1 * 1024 ≤ (i 1 : Nat) ∧ (i 1 : Nat) < win0_8.index t 1 * 1024 + 1024; rw [e.2]; omega

theorem cover9 (i : S4096x1024.Idx) : ∃ t : Fin cfg0.N, (cfg0.win 9).flush t = true ∧ i ∈ ((cfg0.win 9).blk t).view.set := by
  have h0 : (i 0 : Nat) < 4096 := (i 0).isLt
  have h1 : (i 1 : Nat) < 1024 := (i 1).isLt
  obtain ⟨t, ht⟩ := point ((i 0 : Nat) / 256) (by omega)
  have e := (blocks_out t).2.1
  refine ⟨t, flush0_9 _, ?_⟩
  show i ∈ ((View.whole main_v0_1).slice (win0_9.rect t)).set
  rw [View.set_slice_whole, Rect.mem_set_unit]
  intro a
  match a with
  | ⟨0, _⟩ => show win0_9.index t 0 * 256 ≤ (i 0 : Nat) ∧ (i 0 : Nat) < win0_9.index t 0 * 256 + 256; rw [e.1]; omega
  | ⟨1, _⟩ => show win0_9.index t 1 * 1024 ≤ (i 1 : Nat) ∧ (i 1 : Nat) < win0_9.index t 1 * 1024 + 1024; rw [e.2]; omega

theorem cover10 (i : S1x1024.Idx) : ∃ t : Fin cfg0.N, (cfg0.win 10).flush t = true ∧ i ∈ ((cfg0.win 10).blk t).view.set := by
  have h0 : (i 0 : Nat) < 1 := (i 0).isLt
  have h1 : (i 1 : Nat) < 1024 := (i 1).isLt
  obtain ⟨t, ht⟩ := point 15 (by omega)
  have e := (blocks_out t).2.2.1
  refine ⟨t, (flush0_10 t).mpr (by omega), ?_⟩
  show i ∈ ((View.whole main_v0_2).slice (win0_10.rect t)).set
  rw [View.set_slice_whole, Rect.mem_set_unit]
  intro a
  match a with
  | ⟨0, _⟩ => show win0_10.index t 0 * 1 ≤ (i 0 : Nat) ∧ (i 0 : Nat) < win0_10.index t 0 * 1 + 1; rw [e.1]; omega
  | ⟨1, _⟩ => show win0_10.index t 1 * 1024 ≤ (i 1 : Nat) ∧ (i 1 : Nat) < win0_10.index t 1 * 1024 + 1024; rw [e.2]; omega

theorem cover11 (i : S16x1024.Idx) : ∃ t : Fin cfg0.N, (cfg0.win 11).flush t = true ∧ i ∈ ((cfg0.win 11).blk t).view.set := by
  have h0 : (i 0 : Nat) < 16 := (i 0).isLt
  have h1 : (i 1 : Nat) < 1024 := (i 1).isLt
  obtain ⟨t, ht⟩ := point 15 (by omega)
  have e := (blocks_out t).2.2.2.1
  refine ⟨t, (flush0_11 t).mpr (by omega), ?_⟩
  show i ∈ ((View.whole main_v0_3).slice (win0_11.rect t)).set
  rw [View.set_slice_whole, Rect.mem_set_unit]
  intro a
  match a with
  | ⟨0, _⟩ => show win0_11.index t 0 * 16 ≤ (i 0 : Nat) ∧ (i 0 : Nat) < win0_11.index t 0 * 16 + 16; rw [e.1]; omega
  | ⟨1, _⟩ => show win0_11.index t 1 * 1024 ≤ (i 1 : Nat) ∧ (i 1 : Nat) < win0_11.index t 1 * 1024 + 1024; rw [e.2]; omega

theorem cover12 (i : S16x1024.Idx) : ∃ t : Fin cfg0.N, (cfg0.win 12).flush t = true ∧ i ∈ ((cfg0.win 12).blk t).view.set := by
  have h0 : (i 0 : Nat) < 16 := (i 0).isLt
  have h1 : (i 1 : Nat) < 1024 := (i 1).isLt
  obtain ⟨t, ht⟩ := point 15 (by omega)
  have e := (blocks_out t).2.2.2.2
  refine ⟨t, (flush0_12 t).mpr (by omega), ?_⟩
  show i ∈ ((View.whole main_v0_4).slice (win0_12.rect t)).set
  rw [View.set_slice_whole, Rect.mem_set_unit]
  intro a
  match a with
  | ⟨0, _⟩ => show win0_12.index t 0 * 16 ≤ (i 0 : Nat) ∧ (i 0 : Nat) < win0_12.index t 0 * 16 + 16; rw [e.1]; omega
  | ⟨1, _⟩ => show win0_12.index t 1 * 1024 ≤ (i 1 : Nat) ∧ (i 1 : Nat) < win0_12.index t 1 * 1024 + 1024; rw [e.2]; omega

theorem final8 : (dats m 0 c).arrAt 8 cfg0.N = resX m c := (dats m 0 c).arrAt_eq_of_cover 8 (resX m c) (fun t _ => flushed8_eq m c t) cover8
theorem final9 : (dats m 0 c).arrAt 9 cfg0.N = resY m c := (dats m 0 c).arrAt_eq_of_cover 9 (resY m c) (fun t _ => flushed9_eq m c t) cover9
theorem final10 : (dats m 0 c).arrAt 10 cfg0.N = resG m c := (dats m 0 c).arrAt_eq_of_cover 10 (resG m c) (flushed10_eq m c) cover10
theorem final11 : (dats m 0 c).arrAt 11 cfg0.N = resA m c := (dats m 0 c).arrAt_eq_of_cover 11 (resA m c) (flushed11_eq m c) cover11
theorem final12 : (dats m 0 c).arrAt 12 cfg0.N = resB m c := (dats m 0 c).arrAt_eq_of_cover 12 (resB m c) (flushed12_eq m c) cover12

end Arrays

end Cert.Kernel13Ideal.Grad

namespace Cert.Proof.FfnEntry1

open Cert.Kernel13Ideal.Grad

/-- An index of a rank-2 array is a row and a column. -/
theorem idx2 {a b : Nat} (i : (⟨2, ![a, b]⟩ : Shape).Idx) : ∃ (r : Fin a) (k : Fin b), i = ix2 r k :=
  ⟨i 0, i 1, by funext a; match a with | ⟨0, _⟩ => rfl | ⟨1, _⟩ => rfl⟩

variable (m : (ℓ : Loc Cert.Kernel13Ideal.nD Cert.Kernel13Ideal.τ Cert.Kernel13Ideal.sig) → Buf (Elt Ideal) ℓ)
  (m' : (ℓ : Loc Cert.Reference13Ideal.nD Cert.Reference13Ideal.τ Cert.Reference13Ideal.sig) → Buf (Elt Ideal) ℓ) (c : Dev 1)

/-- Two memories with the same arguments. -/
abbrev Agree : Prop :=
  m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
  ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
  ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
  ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
  ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
  ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
  ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
  ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)

set_option maxHeartbeats 4000000 in
theorem tokens (h : Agree m m' c) : Cert.Reference13Ideal.Value.res_main_v57 m' c = resX m c := by
  obtain ⟨h0, h1, h2, h3, h4, h5, h6, h7⟩ := h
  unfold Cert.Reference13Ideal.Value.res_main_v57
  rw [h0, h1, h2, h3, h4, h5, h6, h7]
  funext i
  obtain ⟨r, k, rfl⟩ := idx2 i
  pointwise
  rfl

set_option maxHeartbeats 4000000 in
theorem branch (h : Agree m m' c) : Cert.Reference13Ideal.Value.res_main_v68 m' c = resY m c := by
  obtain ⟨h0, h1, h2, h3, h4, h5, h6, h7⟩ := h
  unfold Cert.Reference13Ideal.Value.res_main_v68
  rw [h0, h1, h2, h3, h4, h5, h6, h7]
  funext i
  obtain ⟨r, k, rfl⟩ := idx2 i
  pointwise
  rfl

set_option maxHeartbeats 4000000 in
theorem gate (h : Agree m m' c) : Cert.Reference13Ideal.Value.res_main_v67 m' c = resA m c := by
  obtain ⟨h0, h1, h2, h3, h4, h5, h6, h7⟩ := h
  unfold Cert.Reference13Ideal.Value.res_main_v67
  rw [h0, h1, h2, h3, h4, h5, h6, h7]
  funext i
  obtain ⟨a, k, rfl⟩ := idx2 i
  pointwise
  show (if h : 2 ≤ a.val ∧ a.val - 2 < 1 then ∑ r : Fin 4096, tokenGrad m c r k * aY m c (ix2 r k) else (0 : EReal)) = resAt m c a k
  unfold resAt
  fin_cases a <;> simp

set_option maxHeartbeats 4000000 in
/-- The kernel's five results are those of the derivative of the entry's forward lines. -/
theorem algebraic : Cert.algebraic_Kernel13Ideal_Reference13Ideal := by
  intro m ρ m' ρ' pre agree
  refine ⟨fun c => resX m c, fun c => resY m c, fun c => resG m c, fun c => resA m c, fun c => resB m c,
    (θ_run Cert.Kernel13Ideal.defs _ _).mono (fun _ h c => ⟨(h c).1.trans (final8 m c), (h c).2.1.trans (final9 m c), (h c).2.2.1.trans (final10 m c),
        (h c).2.2.2.1.trans (final11 m c), (h c).2.2.2.2.1.trans (final12 m c), (h c).2.2.2.2.2⟩)
      (Cert.Kernel13Ideal.Value.run_blocks m ρ), ?_⟩
  refine (θ_run Cert.Reference13Ideal.defs _ _).mono (fun _ h c => ⟨(h c).1.trans (tokens m m' c (agree c)), (h c).2.1.trans (branch m m' c (agree c)),
      (h c).2.2.1.trans ?_, (h c).2.2.2.1.trans (gate m m' c (agree c)), (h c).2.2.2.2.1.trans ?_, (h c).2.2.2.2.2⟩)
    (Cert.Reference13Ideal.Value.run (F := Ideal) m' ρ')
  · obtain ⟨h0, h1, h2, h3, h4, h5, h6, h7⟩ := agree c
    rw [h0, h1, h3, h4, h6, h7]
    funext i
    obtain ⟨r, k, rfl⟩ := idx2 i
    show _ = resGt m c k
    unfold resGt
    pointwise
    rfl
  · obtain ⟨h0, h1, h2, h3, h4, h5, h6, h7⟩ := agree c
    rw [h0, h1, h2, h3, h6, h7]
    funext i
    obtain ⟨a, k, rfl⟩ := idx2 i
    pointwise
    show ((if h : 4 ≤ a.val ∧ a.val - 4 < 1 then ∑ r : Fin 4096, dScale (hidden m c r) (row (aG m c) 0) (grown m c r) k else (0 : EReal))
      + if h : 3 ≤ a.val ∧ a.val - 3 < 1 then ∑ r : Fin 4096, grown m c r k else 0) = resBt m c a k
    unfold resBt
    fin_cases a <;> simp

end Cert.Proof.FfnEntry1
-- ==== Proof.ScanEntry1.lean ====
/-
  `l1_in_dx_prenorm_bwd`, the kernel: the gradient taken back through layer 1's entry — the product and the modulated norm —
  for the latent tokens and the context's below them, with what reaches the latents past the norm added. The token rows are
  written block by block; the gradients of the gain and of the modulation rows are summed over the blocks.
-/
module

public import proofs.«01_k».proof.Defs
public import proofs.«01_k».proof.Proof.Products
public import proofs.«01_k».proof.Proof.PreNorm
public import proofs.«01_k».proof.Proof.Gen.Kernel14Ideal.Value
public import proofs.«01_k».proof.Proof.Gen.Reference14Ideal.Run
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)
open Cert.Products (zero_offsets)
open Cert.PreNorm

namespace Cert.Kernel14Ideal.Grad

open Cert.Kernel14Ideal Cert.Kernel14Ideal.Gen

section Block

variable (i : grid0.Coords)
variable (x : Vec Ideal S256x1024 .f32) (g : Vec Ideal S1x1024 .f32) (b : Vec Ideal S16x1024 .f32) (dp : Vec Ideal S256x5376 .bf16)
  (dx : Vec Ideal S256x1024 .f32) (w : Vec Ideal S1024x5376 .bf16)

/-! ## One block's terms -/

/-- Zero on the blocks of latent tokens, one on the context's. -/
abbrev late : EReal := k0_pay5 (F := Ideal) i

/-- What reaches the block past the norm: nothing on the context's. -/
abbrev past := k0_pay6 i dx
abbrev dh := k0_pay7 dp w
abbrev shifts := k0_pay9 i b

/-- The block of the tokens' gradient. -/
abbrev blkX := k0_pay18 x g (past i dx) (dh dp w) (shifts i b) (k0_pay11 x) (k0_pay12 x)
/-- The gain's gradient, the block's part added to `p`. -/
abbrev addG (p : Vec Ideal S1x1024 .f32) := k0_pay3 (k0_pay16 (dh dp w) (shifts i b) (k0_pay13 x)) p
/-- The shift's and the scale's gradient, the block's part added to `p`. -/
abbrev addB (p : Vec Ideal S16x1024 .f32) := k0_pay4 (k0_pay17 (k0_pay5 (F := Ideal) i) (dh dp w) (k0_pay8 (F := Ideal) i) (k0_pay14 x g)) p

/-! ## The same, entry by entry -/

theorem dh_apply (r : Fin 256) (k : Fin 1024) : k0_pay7 dp w (ix2 r k) = through dp w r k := by
  unfold k0_pay7 through
  pointwise

theorem scale_row (k : Fin 1024) : k0_pay9 i b (ix2 1 k) = pick (late i) b 1 9 k := by
  unfold k0_pay9 k0_pay8 pick
  pointwise

theorem square_apply (r : Fin 256) (u : Fin 1) : k0_pay10 x (ix2 r u) = meanSq (row x r) := by
  unfold k0_pay10 meanSq
  pointwise
  rfl

theorem blkX_apply (r : Fin 256) (k : Fin 1024) : blkX i x g b dp dx w (ix2 r k)
    = back (row (past i dx) r) (row x r) (row g 0) (pick (late i) b 1 9) (through dp w r) k := by
  rw [← back_eq]
  unfold blkX dh shifts k0_pay18 k0_pay15 k0_pay12 k0_pay11
  pointwise
  simp only [dh_apply, scale_row, square_apply]
  rfl

theorem addG_apply (p : Vec Ideal S1x1024 .f32) (k : Fin 1024) : addG i x b dp w p (ix2 0 k)
    = p (ix2 0 k) + ∑ r, dGain (row x r) (pick (late i) b 1 9) (through dp w r) k := by
  unfold addG dh shifts k0_pay3 k0_pay16 k0_pay15 k0_pay13 k0_pay11
  pointwise
  simp only [dh_apply, scale_row, square_apply]
  rfl

/-- The shift's and the scale's go to rows 0 and 1 on a latent block, to rows 8 and 9 on the context's. -/
theorem addB_apply (h : late i = 0 ∨ late i = 1) (p : Vec Ideal S16x1024 .f32) (a : Fin 16) (k : Fin 1024) :
    addB i x g dp w p (ix2 a k) = p (ix2 a k)
      + if a = (if late i = 0 then 0 else 8) then ∑ r, through dp w r k
        else if a = (if late i = 0 then 1 else 9) then ∑ r, dScale (row x r) (row g 0) (through dp w r) k
        else 0 := by
  unfold addB dh k0_pay4 k0_pay17 k0_pay14 k0_pay13 k0_pay11 k0_pay8
  pointwise
  simp only [dh_apply, square_apply]
  unfold dScale PreNorm.inv row
  rcases h with h | h
  · have h' : (k0_pay5 (F := Ideal) i : EReal) = 0 := h
    simp only [h, h']
    congr 1
    fin_cases a <;> simp
  · have h' : (k0_pay5 (F := Ideal) i : EReal) = 1 := h
    simp only [h, h', one_sub_one]
    congr 1
    fin_cases a <;> simp

end Block

variable (m : (ℓ : Loc nD τ sig) → Buf (Elt Ideal) ℓ) (c : Dev nD)

/-! ## What a grid point leaves in its output buffers -/

theorem out6_A (t : Fin cfg0.N) (h : t.val % 17 = 0) : (outsAt0 m c t.val t.isLt).1
    = blkX (grid0.coords t) (iblk m c 0 t) (iblk m c 1 t) (iblk m c 2 t) (iblk m c 3 t) (iblk m c 4 t) (iblk m c 5 t) := by
  rw [outsAt0_A m c t h]
  dsimp only
  unfold out0_A_6
  rw [View.read_writes_eq_canon _ _ _ (fun _ => cover0_A_6 ..)]
  unfold kernelRun0_A
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread, (hs0_3 t).read_unread, (hs0_4 t).read_unread, (hs0_5 t).read_unread,
    View.ld_unit_zero (S := S256x1024) zero_offsets, View.ld_unit_zero (S := S1x1024) zero_offsets, View.ld_unit_zero (S := S16x1024) zero_offsets, View.ld_unit_zero (S := S256x5376) zero_offsets, View.ld_unit_zero (S := S1024x5376) zero_offsets]

theorem out6_B (t : Fin cfg0.N) (h : ¬t.val % 17 = 0) : (outsAt0 m c t.val t.isLt).1
    = blkX (grid0.coords t) (iblk m c 0 t) (iblk m c 1 t) (iblk m c 2 t) (iblk m c 3 t) (iblk m c 4 t) (iblk m c 5 t) := by
  rw [outsAt0_B m c t h]
  dsimp only
  unfold out0_B_6
  rw [View.read_writes_eq_canon _ _ _ (fun _ => cover0_B_6 ..)]
  unfold kernelRun0_B
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread, (hs0_3 t).read_unread, (hs0_4 t).read_unread, (hs0_5 t).read_unread,
    View.ld_unit_zero (S := S256x1024) zero_offsets, View.ld_unit_zero (S := S1x1024) zero_offsets, View.ld_unit_zero (S := S16x1024) zero_offsets, View.ld_unit_zero (S := S256x5376) zero_offsets, View.ld_unit_zero (S := S1024x5376) zero_offsets]

theorem out6 (t : Fin cfg0.N) : (outsAt0 m c t.val t.isLt).1
    = blkX (grid0.coords t) (iblk m c 0 t) (iblk m c 1 t) (iblk m c 2 t) (iblk m c 3 t) (iblk m c 4 t) (iblk m c 5 t) :=
  if h : t.val % 17 = 0 then out6_A m c t h else out6_B m c t h

theorem out7_A (t : Fin cfg0.N) (h : t.val % 17 = 0) : (outsAt0 m c t.val t.isLt).2.1
    = addG (grid0.coords t) (iblk m c 0 t) (iblk m c 2 t) (iblk m c 3 t) (iblk m c 5 t)
      (k0_pay1 (F := Ideal)) := by
  rw [outsAt0_A m c t h]
  dsimp only
  unfold out0_A_7
  rw [View.read_writes_eq_canon _ _ _ (fun _ => cover0_A_7 ..)]
  unfold kernelRun0_A
  dsimp only
  sl_unfold_words
  simp only [View.canon_cons_unit_zero (S := S1x1024) zero_offsets, View.canon_unit_zero (S := S1x1024) zero_offsets,
    View.readCov_unit_zero (S := S1x1024) _ zero_offsets, View.readAt_eq_ld, (hs0_0 t).read_unread, (hs0_1 t).read_unread, (hs0_2 t).read_unread, (hs0_3 t).read_unread, (hs0_4 t).read_unread, (hs0_5 t).read_unread,
    View.ld_unit_zero (S := S256x1024) zero_offsets, View.ld_unit_zero (S := S1x1024) zero_offsets, View.ld_unit_zero (S := S16x1024) zero_offsets, View.ld_unit_zero (S := S256x5376) zero_offsets, View.ld_unit_zero (S := S1024x5376) zero_offsets]

theorem out7_B (t : Fin cfg0.N) (h : ¬t.val % 17 = 0) : (outsAt0 m c t.val t.isLt).2.1
    = addG (grid0.coords t) (iblk m c 0 t) (iblk m c 2 t) (iblk m c 3 t) (iblk m c 5 t)
      (outsAt0 m c (t.val - 1) (Nat.lt_of_le_of_lt (Nat.sub_le _ _) t.isLt)).2.1 := by
  rw [outsAt0_B m c t h]
  dsimp only
  unfold out0_B_7
  rw [View.read_writes_eq_canon _ _ _ (fun _ => cover0_B_7 ..)]
  unfold kernelRun0_B
  dsimp only
  sl_unfold_words
  simp only [View.canon_cons_unit_zero (S := S1x1024) zero_offsets, View.canon_unit_zero (S := S1x1024) zero_offsets,
    View.readCov_unit_zero (S := S1x1024) _ zero_offsets, View.readAt_eq_ld, (hs0_0 t).read_unread, (hs0_1 t).read_unread, (hs0_2 t).read_unread, (hs0_3 t).read_unread, (hs0_4 t).read_unread, (hs0_5 t).read_unread, (hs0_7 t).read_unread,
    View.ld_unit_zero (S := S256x1024) zero_offsets, View.ld_unit_zero (S := S1x1024) zero_offsets, View.ld_unit_zero (S := S16x1024) zero_offsets, View.ld_unit_zero (S := S256x5376) zero_offsets, View.ld_unit_zero (S := S1024x5376) zero_offsets]

theorem out8_A (t : Fin cfg0.N) (h : t.val % 17 = 0) : (outsAt0 m c t.val t.isLt).2.2
    = addB (grid0.coords t) (iblk m c 0 t) (iblk m c 1 t) (iblk m c 3 t) (iblk m c 5 t)
      (k0_pay2 (F := Ideal)) := by
  rw [outsAt0_A m c t h]
  dsimp only
  unfold out0_A_8
  rw [View.read_writes_eq_canon _ _ _ (fun _ => cover0_A_8 ..)]
  unfold kernelRun0_A
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread, (hs0_3 t).read_unread, (hs0_4 t).read_unread, (hs0_5 t).read_unread,
    View.ld_unit_zero (S := S256x1024) zero_offsets, View.ld_unit_zero (S := S1x1024) zero_offsets, View.ld_unit_zero (S := S16x1024) zero_offsets, View.ld_unit_zero (S := S256x5376) zero_offsets, View.ld_unit_zero (S := S1024x5376) zero_offsets]

theorem out8_B (t : Fin cfg0.N) (h : ¬t.val % 17 = 0) : (outsAt0 m c t.val t.isLt).2.2
    = addB (grid0.coords t) (iblk m c 0 t) (iblk m c 1 t) (iblk m c 3 t) (iblk m c 5 t)
      (outsAt0 m c (t.val - 1) (Nat.lt_of_le_of_lt (Nat.sub_le _ _) t.isLt)).2.2 := by
  rw [outsAt0_B m c t h]
  dsimp only
  unfold out0_B_8
  rw [View.read_writes_eq_canon _ _ _ (fun _ => cover0_B_8 ..)]
  unfold kernelRun0_B
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread, (hs0_3 t).read_unread, (hs0_4 t).read_unread, (hs0_5 t).read_unread, (hs0_8 t).read_unread,
    View.ld_unit_zero (S := S256x1024) zero_offsets, View.ld_unit_zero (S := S1x1024) zero_offsets, View.ld_unit_zero (S := S16x1024) zero_offsets, View.ld_unit_zero (S := S256x5376) zero_offsets, View.ld_unit_zero (S := S1024x5376) zero_offsets]

/-! ## The blocks the point reads -/

theorem lt17 (t : Fin cfg0.N) : t.val < 17 := by have := t.isLt; have hN : cfg0.N = 17 := N_0; omega

/-- The windows' block indices. -/
theorem blocks_at : ∀ t : Fin grid0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0)
    ∧ (win0_4.index t 0 = min t.val 15 ∧ win0_4.index t 1 = 0)
    ∧ (win0_5.index t 0 = 0 ∧ win0_5.index t 1 = 0) := by decide +kernel

theorem blocks_out : ∀ t : Fin grid0.N, (win0_6.index t 0 = t.val ∧ win0_6.index t 1 = 0)
    ∧ (win0_7.index t 0 = 0 ∧ win0_7.index t 1 = 0)
    ∧ (win0_8.index t 0 = 0 ∧ win0_8.index t 1 = 0) := by decide +kernel

/-- Token `r` of block `t`. -/
abbrev tok (t : Fin cfg0.N) (r : Fin 256) : Fin 4352 := ⟨t.val * 256 + r.val, by have := lt17 t; omega⟩

/-- The first sixteen blocks hold latent tokens, the last the context's. -/
theorem late_word : ∀ t : Fin grid0.N, (Scalar.extui (Scalar.cmpi .sge (BitVec.ofNat 32 (grid0.coords t 0).val) 16#32) : BitVec 32)
    = if t.val < 16 then 0#32 else 1#32 := by decide +kernel

theorem flag_tok (t : Fin cfg0.N) (r : Fin 256) : flag (tok t r) = if t.val < 16 then 0 else 1 := by
  unfold flag
  have := lt17 t
  by_cases h : t.val < 16
  · rw [if_pos h, if_pos (by show t.val * 256 + r.val < 4096; omega)]
  · rw [if_neg h, if_neg (by show ¬ t.val * 256 + r.val < 4096; omega)]

theorem late_eq (t : Fin cfg0.N) : late (grid0.coords t) = if t.val < 16 then 0 else 1 := by
  unfold late k0_pay5
  pointwise
  rw [late_word t]
  split <;> simp

theorem late_tok (t : Fin cfg0.N) (r : Fin 256) : late (grid0.coords t) = flag (tok t r) := by rw [late_eq, flag_tok]

section Arrays

/-! The arguments. -/

abbrev aX := m ((c : Thread nD τ).loc main_arg0)
abbrev aG := m ((c : Thread nD τ).loc main_arg1)
abbrev aB := m ((c : Thread nD τ).loc main_arg2)
abbrev aP := m ((c : Thread nD τ).loc main_arg3)
abbrev aD := m ((c : Thread nD τ).loc main_arg4)
abbrev aW := m ((c : Thread nD τ).loc main_arg5)

theorem read_x (t : Fin cfg0.N) (r : Fin 256) (k : Fin 1024) : iblk m c 0 t (ix2 r k) = aX m c (ix2 (tok t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem read_g (t : Fin cfg0.N) : iblk m c 1 t = aG m c := by
  have e := (blocks_at t).2.1
  funext i
  show V m c main_arg1 _ = m _ _
  rw [V_main_arg1]
  congr 1
  funext a
  apply Fin.ext
  match a with
  | ⟨0, _⟩ => show win0_1.index t 0 * 1 + 1 * (i 0).val = (i 0).val; rw [e.1]; omega
  | ⟨1, _⟩ => show win0_1.index t 1 * 1024 + 1 * (i 1).val = (i 1).val; rw [e.2]; omega

theorem read_b (t : Fin cfg0.N) : iblk m c 2 t = aB m c := by
  have e := (blocks_at t).2.2.1
  funext i
  show V m c main_arg2 _ = m _ _
  rw [V_main_arg2]
  congr 1
  funext a
  apply Fin.ext
  match a with
  | ⟨0, _⟩ => show win0_2.index t 0 * 16 + 1 * (i 0).val = (i 0).val; rw [e.1]; omega
  | ⟨1, _⟩ => show win0_2.index t 1 * 1024 + 1 * (i 1).val = (i 1).val; rw [e.2]; omega

theorem read_p (t : Fin cfg0.N) (r : Fin 256) (k : Fin 5376) : iblk m c 3 t (ix2 r k) = aP m c (ix2 (tok t r) k) := by
  have e := (blocks_at t).2.2.2.1
  show V m c main_arg3 _ = m _ _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 5376 + 1 * k.val = k.val; rw [e.2]; omega

theorem read_d (t : Fin cfg0.N) (h : t.val < 16) (r : Fin 256) (k : Fin 1024) :
    iblk m c 4 t (ix2 r k) = aD m c (ix2 ⟨t.val * 256 + r.val, by omega⟩ k) := by
  have e := (blocks_at t).2.2.2.2.1
  have h' : min t.val 15 = t.val := by omega
  rw [h'] at e
  show V m c main_arg4 _ = m _ _
  rw [V_main_arg4]
  congr 1
  funext a
  apply Fin.ext
  match a with
  | ⟨0, _⟩ => show win0_4.index t 0 * 256 + 1 * r.val = t.val * 256 + r.val; rw [e.1]; omega
  | ⟨1, _⟩ => show win0_4.index t 1 * 1024 + 1 * k.val = k.val; rw [e.2]; omega

theorem read_w (t : Fin cfg0.N) : iblk m c 5 t = aW m c := by
  have e := (blocks_at t).2.2.2.2.2
  funext i
  show V m c main_arg5 _ = m _ _
  rw [V_main_arg5]
  congr 1
  funext a
  apply Fin.ext
  match a with
  | ⟨0, _⟩ => show win0_5.index t 0 * 1024 + 1 * (i 0).val = (i 0).val; rw [e.1]; omega
  | ⟨1, _⟩ => show win0_5.index t 1 * 5376 + 1 * (i 1).val = (i 1).val; rw [e.2]; omega

/-! ## The results, token by token -/

/-- A token's gradient before the norm. -/
def grown (r : Fin 4352) : Row := through (aP m c) (aW m c) r
/-- What reaches a token past the norm: nothing for the context's. -/
def pastOf (r : Fin 4352) : Row := fun k => joined (aD m c) (fun _ => 0) (ix2 r k)
/-- A token's gradient after it. -/
def tokenGrad (r : Fin 4352) : Row := back (pastOf m c r) (row (aX m c) r) (row (aG m c) 0) (pick (flag r) (aB m c) 1 9) (grown m c r)
/-- A token's part of the gain's gradient. -/
def gainOf (k : Fin 1024) (r : Fin 4352) : EReal := dGain (row (aX m c) r) (pick (flag r) (aB m c) 1 9) (grown m c r) k
/-- A token's part of the modulation's gradient. -/
def modOf (a : Fin 16) (k : Fin 1024) (r : Fin 4352) : EReal :=
  if a = (if flag r = 0 then 0 else 8) then grown m c r k
  else if a = (if flag r = 0 then 1 else 9) then dScale (row (aX m c) r) (row (aG m c) 0) (grown m c r) k else 0

def resGt (k : Fin 1024) : EReal := ∑ r : Fin 4352, gainOf m c k r
def resBt (a : Fin 16) (k : Fin 1024) : EReal := ∑ r : Fin 4352, modOf m c a k r
abbrev resX : Buf (Elt Ideal) ((c : Thread nD τ).loc main_v0_0) := fun i => tokenGrad m c (i 0) (i 1)
abbrev resG : Buf (Elt Ideal) ((c : Thread nD τ).loc main_v0_1) := fun i => resGt m c (i 1)
abbrev resB : Buf (Elt Ideal) ((c : Thread nD τ).loc main_v0_2) := fun i => resBt m c (i 0) (i 1)

/-! ## Each block's part -/

theorem early_word : ∀ t : Fin grid0.N, Scalar.cmpi .slt (BitVec.ofNat 32 (grid0.coords t 0).val) 16#32
    = if t.val < 16 then 1#1 else 0#1 := by decide +kernel

theorem past_block (t : Fin cfg0.N) (r : Fin 256) (k : Fin 1024) : past (grid0.coords t) (iblk m c 4 t) (ix2 r k) = pastOf m c (tok t r) k := by
  show _ = joinAt (aD m c) (fun _ => 0) (tok t r) k
  unfold past k0_pay6 joinAt
  dsimp only
  rw [early_word t]
  by_cases h : t.val < 16
  · rw [if_pos h, dif_pos (by show t.val * 256 + r.val < 4096; omega)]
    exact read_d m c t h r k
  · rw [if_neg h, dif_neg (by show ¬ t.val * 256 + r.val < 4096; omega)]
    show broadcast S256x1024 (Scalar.ofBits (F := Ideal) .f32 0x00000000#32) (ix2 r k) = (0 : EReal)
    pointwise

theorem token_block (t : Fin cfg0.N) (r : Fin 256) : row (iblk m c 0 t) r = row (aX m c) (tok t r) :=
  row_block (tok t) (read_x m c t) r

theorem grown_block (t : Fin cfg0.N) (r : Fin 256) : through (iblk m c 3 t) (iblk m c 5 t) r = grown m c (tok t r) := by
  unfold grown
  rw [read_w]
  exact through_block (tok t) (read_p m c t) _ r

theorem at6 (t : Fin cfg0.N) (r : Fin 256) (k : Fin 1024) : (outsAt0 m c t.val t.isLt).1 (ix2 r k) = tokenGrad m c (tok t r) k := by
  rw [out6, blkX_apply, grown_block, token_block, late_tok t r, read_g, read_b]
  unfold tokenGrad
  exact congrArg (fun d => back d _ _ _ _ k) (funext fun k => past_block m c t r k)

theorem late_cases (t : Fin cfg0.N) : late (grid0.coords t) = 0 ∨ late (grid0.coords t) = 1 := by
  rw [late_eq]; split
  · exact .inl rfl
  · exact .inr rfl

theorem stepG (t : Fin cfg0.N) (p : Vec Ideal S1x1024 .f32) (k : Fin 1024) :
    addG (grid0.coords t) (iblk m c 0 t) (iblk m c 2 t) (iblk m c 3 t) (iblk m c 5 t) p (ix2 0 k)
      = p (ix2 0 k) + ∑ r : Fin 256, gainOf m c k (tok t r) := by
  rw [addG_apply]
  refine congrArg (p (ix2 0 k) + ·) (Finset.sum_congr (M := EReal) rfl fun r _ => ?_)
  rw [token_block, grown_block, late_tok t r, read_b]
  rfl

theorem stepB (t : Fin cfg0.N) (p : Vec Ideal S16x1024 .f32) (a : Fin 16) (k : Fin 1024) :
    addB (grid0.coords t) (iblk m c 0 t) (iblk m c 1 t) (iblk m c 3 t) (iblk m c 5 t) p (ix2 a k)
      = p (ix2 a k) + ∑ r : Fin 256, modOf m c a k (tok t r) := by
  rw [addB_apply _ _ _ _ _ (late_cases t)]
  refine congrArg (p (ix2 a k) + ·) ?_
  rw [← sum_ite_ite_zero]
  refine Finset.sum_congr (M := EReal) rfl fun r _ => ?_
  rw [token_block, grown_block, read_g, late_tok t r]
  rfl

/-! ## The sums over the blocks -/

theorem at7 (n : ℕ) (h : n < cfg0.N) (k : Fin 1024) :
    (outsAt0 m c n h).2.1 (ix2 0 k) = ∑ s : Fin (n + 1), ∑ r : Fin 256, gainOf m c k (tok ⟨s.val, by have := s.isLt; omega⟩ r) := by
  refine running (fun n h => (outsAt0 m c n h).2.1 (ix2 0 k)) (fun t => ∑ r : Fin 256, gainOf m c k (tok t r)) (fun h => ?_) (fun n h => ?_) n h
  · have e := out7_A m c ⟨0, h⟩ (Nat.zero_mod _)
    refine (congrFun e (ix2 0 k)).trans ((stepG m c ⟨0, h⟩ _ k).trans ?_)
    rw [show (k0_pay1 (F := Ideal)) (ix2 0 k) = (0 : EReal) by unfold k0_pay1; pointwise]
    exact zero_add (M := EReal) _
  · have hN : cfg0.N = 17 := N_0
    have e := out7_B m c ⟨n + 1, h⟩ (by show ¬(n + 1) % 17 = 0; omega)
    exact (congrFun e (ix2 0 k)).trans (stepG m c ⟨n + 1, h⟩ _ k)

theorem at8 (n : ℕ) (h : n < cfg0.N) (a : Fin 16) (k : Fin 1024) :
    (outsAt0 m c n h).2.2 (ix2 a k) = ∑ s : Fin (n + 1), ∑ r : Fin 256, modOf m c a k (tok ⟨s.val, by have := s.isLt; omega⟩ r) := by
  refine running (fun n h => (outsAt0 m c n h).2.2 (ix2 a k)) (fun t => ∑ r : Fin 256, modOf m c a k (tok t r)) (fun h => ?_) (fun n h => ?_) n h
  · have e := out8_A m c ⟨0, h⟩ (Nat.zero_mod _)
    refine (congrFun e (ix2 a k)).trans ((stepB m c ⟨0, h⟩ _ a k).trans ?_)
    rw [show (k0_pay2 (F := Ideal)) (ix2 a k) = (0 : EReal) by unfold k0_pay2; pointwise]
    exact zero_add (M := EReal) _
  · have hN : cfg0.N = 17 := N_0
    have e := out8_B m c ⟨n + 1, h⟩ (by show ¬(n + 1) % 17 = 0; omega)
    exact (congrFun e (ix2 a k)).trans (stepB m c ⟨n + 1, h⟩ _ a k)

/-- After the last block a sum runs over all tokens. -/
theorem all_tokens (t : Fin cfg0.N) (ht : t.val = 16) (f : Fin 4352 → EReal) :
    ∑ s : Fin (t.val + 1), ∑ r : Fin 256, f (tok ⟨s.val, by have := s.isLt; have := t.isLt; omega⟩ r) = ∑ r : Fin 4352, f r := by
  obtain ⟨n, hn⟩ := t
  obtain rfl : n = 16 := ht
  exact sum_blocks (a := 17) (b := 256) rfl f

theorem last7 (t : Fin cfg0.N) (ht : t.val = 16) (k : Fin 1024) : (outsAt0 m c t.val t.isLt).2.1 (ix2 0 k) = resGt m c k := by
  rw [at7]
  exact all_tokens t ht (gainOf m c k)

theorem last8 (t : Fin cfg0.N) (ht : t.val = 16) (a : Fin 16) (k : Fin 1024) : (outsAt0 m c t.val t.isLt).2.2 (ix2 a k) = resBt m c a k := by
  rw [at8]
  exact all_tokens t ht (modOf m c a k)

/-! ## Latents and context apart -/

theorem tokenGrad_lat (r : Fin 4096) : tokenGrad m c (inLat r)
    = back (row (aD m c) r) (row (latOf (aX m c)) r) (row (aG m c) 0) (row (aB m c) 1) (through (latOf (aP m c)) (aW m c) r) := by
  unfold tokenGrad
  rw [flag_lat, pick_zero, show pastOf m c (inLat r) = row (aD m c) r from funext fun k => joined_lat _ _ r k]
  rfl

theorem tokenGrad_ctx (r : Fin 256) : tokenGrad m c (inCtx r)
    = backNorm (row (ctxOf (aX m c)) r) (row (aG m c) 0) (row (aB m c) 9) (through (ctxOf (aP m c)) (aW m c) r) := by
  unfold tokenGrad
  rw [flag_ctx, pick_one, show pastOf m c (inCtx r) = 0 from funext fun k => joined_ctx _ _ r k, back_zero]
  rfl

theorem resGt_eq (k : Fin 1024) : resGt m c k
    = (∑ r : Fin 4096, dGain (row (latOf (aX m c)) r) (row (aB m c) 1) (through (latOf (aP m c)) (aW m c) r) k)
      + ∑ r : Fin 256, dGain (row (ctxOf (aX m c)) r) (row (aB m c) 9) (through (ctxOf (aP m c)) (aW m c) r) k := by
  unfold resGt gainOf
  rw [sum_tokens]
  simp only [flag_lat, flag_ctx, pick_zero, pick_one]
  rfl

theorem resBt_eq (a : Fin 16) (k : Fin 1024) : resBt m c a k
    = (if a = 0 then ∑ r : Fin 4096, through (latOf (aP m c)) (aW m c) r k
        else if a = 1 then ∑ r : Fin 4096, dScale (row (latOf (aX m c)) r) (row (aG m c) 0) (through (latOf (aP m c)) (aW m c) r) k
        else 0)
      + if a = 8 then ∑ r : Fin 256, through (ctxOf (aP m c)) (aW m c) r k
        else if a = 9 then ∑ r : Fin 256, dScale (row (ctxOf (aX m c)) r) (row (aG m c) 0) (through (ctxOf (aP m c)) (aW m c) r) k
        else 0 := by
  unfold resBt modOf
  rw [sum_tokens]
  simp only [flag_lat, flag_ctx, one_ne_zero, if_true, if_false]
  rw [sum_ite_ite_zero, sum_ite_ite_zero]
  rfl

/-! ## The arrays after the run -/

theorem flushed6_eq (t : Fin cfg0.N) : (dats m 0 c).flushed 6 t = ((cfg0.win 6).blk t).view.read (Elt Ideal) (resX m c) := by
  have e := (blocks_out t).1
  rw [Value.flushed6]
  funext j
  rw [View.read_apply]
  obtain ⟨r, k, rfl⟩ : ∃ (r : Fin 256) (k : Fin 1024), j = ix2 r k := idx2 j
  refine (at6 m c t r k).trans (congrArg₂ (tokenGrad m c) (Fin.ext ?_) (Fin.ext ?_))
  · show t.val * 256 + r.val = win0_6.index t 0 * 256 + 1 * r.val; rw [e.1]; omega
  · show k.val = win0_6.index t 1 * 1024 + 1 * k.val; rw [e.2]; omega

theorem flushed7_eq (t : Fin cfg0.N) (hf : (cfg0.win 7).flush t = true) :
    (dats m 0 c).flushed 7 t = ((cfg0.win 7).blk t).view.read (Elt Ideal) (resG m c) := by
  have e := (blocks_out t).2.1
  have ht : t.val = 16 := by have := (flush0_7 t).mp hf; have := lt17 t; omega
  rw [Value.flushed7]
  funext j
  rw [View.read_apply]
  obtain ⟨r, k, rfl⟩ : ∃ (r : Fin 1) (k : Fin 1024), j = ix2 r k := idx2 j
  obtain rfl : r = 0 := Subsingleton.elim _ _
  refine (last7 m c t ht k).trans (congrArg (resGt m c) (Fin.ext ?_))
  show k.val = win0_7.index t 1 * 1024 + 1 * k.val; rw [e.2]; omega

theorem flushed8_eq (t : Fin cfg0.N) (hf : (cfg0.win 8).flush t = true) :
    (dats m 0 c).flushed 8 t = ((cfg0.win 8).blk t).view.read (Elt Ideal) (resB m c) := by
  have e := (blocks_out t).2.2
  have ht : t.val = 16 := by have := (flush0_8 t).mp hf; have := lt17 t; omega
  rw [Value.flushed8]
  funext j
  rw [View.read_apply]
  obtain ⟨r, k, rfl⟩ : ∃ (r : Fin 16) (k : Fin 1024), j = ix2 r k := idx2 j
  refine (last8 m c t ht r k).trans (congrArg₂ (resBt m c) (Fin.ext ?_) (Fin.ext ?_))
  · show r.val = win0_8.index t 0 * 16 + 1 * r.val; rw [e.1]; omega
  · show k.val = win0_8.index t 1 * 1024 + 1 * k.val; rw [e.2]; omega

theorem point (n : Nat) (h : n < 17) : ∃ t : Fin cfg0.N, t.val = n := ⟨⟨n, by have hN : cfg0.N = 17 := N_0; omega⟩, rfl⟩

theorem cover6 (i : S4352x1024.Idx) : ∃ t : Fin cfg0.N, (cfg0.win 6).flush t = true ∧ i ∈ ((cfg0.win 6).blk t).view.set := by
  have h0 : (i 0 : Nat) < 4352 := (i 0).isLt
  have h1 : (i 1 : Nat) < 1024 := (i 1).isLt
  obtain ⟨t, ht⟩ := point ((i 0 : Nat) / 256) (by omega)
  have e := (blocks_out t).1
  refine ⟨t, flush0_6 _, ?_⟩
  show i ∈ ((View.whole main_v0_0).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e.1]; omega
  | ⟨1, _⟩ => show win0_6.index t 1 * 1024 ≤ (i 1 : Nat) ∧ (i 1 : Nat) < win0_6.index t 1 * 1024 + 1024; rw [e.2]; omega

theorem cover7 (i : S1x1024.Idx) : ∃ t : Fin cfg0.N, (cfg0.win 7).flush t = true ∧ i ∈ ((cfg0.win 7).blk t).view.set := by
  have h0 : (i 0 : Nat) < 1 := (i 0).isLt
  have h1 : (i 1 : Nat) < 1024 := (i 1).isLt
  obtain ⟨t, ht⟩ := point 16 (by omega)
  have e := (blocks_out t).2.1
  refine ⟨t, (flush0_7 t).mpr (by omega), ?_⟩
  show i ∈ ((View.whole main_v0_1).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; rw [e.1]; omega
  | ⟨1, _⟩ => show win0_7.index t 1 * 1024 ≤ (i 1 : Nat) ∧ (i 1 : Nat) < win0_7.index t 1 * 1024 + 1024; rw [e.2]; omega

theorem cover8 (i : S16x1024.Idx) : ∃ t : Fin cfg0.N, (cfg0.win 8).flush t = true ∧ i ∈ ((cfg0.win 8).blk t).view.set := by
  have h0 : (i 0 : Nat) < 16 := (i 0).isLt
  have h1 : (i 1 : Nat) < 1024 := (i 1).isLt
  obtain ⟨t, ht⟩ := point 16 (by omega)
  have e := (blocks_out t).2.2
  refine ⟨t, (flush0_8 t).mpr (by omega), ?_⟩
  show i ∈ ((View.whole main_v0_2).slice (win0_8.rect t)).set
  rw [View.set_slice_whole, Rect.mem_set_unit]
  intro a
  match a with
  | ⟨0, _⟩ => show win0_8.index t 0 * 16 ≤ (i 0 : Nat) ∧ (i 0 : Nat) < win0_8.index t 0 * 16 + 16; rw [e.1]; omega
  | ⟨1, _⟩ => show win0_8.index t 1 * 1024 ≤ (i 1 : Nat) ∧ (i 1 : Nat) < win0_8.index t 1 * 1024 + 1024; rw [e.2]; omega

theorem final6 : (dats m 0 c).arrAt 6 cfg0.N = resX m c := (dats m 0 c).arrAt_eq_of_cover 6 (resX m c) (fun t _ => flushed6_eq m c t) cover6
theorem final7 : (dats m 0 c).arrAt 7 cfg0.N = resG m c := (dats m 0 c).arrAt_eq_of_cover 7 (resG m c) (flushed7_eq m c) cover7
theorem final8 : (dats m 0 c).arrAt 8 cfg0.N = resB m c := (dats m 0 c).arrAt_eq_of_cover 8 (resB m c) (flushed8_eq m c) cover8

end Arrays

end Cert.Kernel14Ideal.Grad

namespace Cert.Proof.ScanEntry1

open Cert.Kernel14Ideal.Grad

variable (m : (ℓ : Loc Cert.Kernel14Ideal.nD Cert.Kernel14Ideal.τ Cert.Kernel14Ideal.sig) → Buf (Elt Ideal) ℓ)
  (m' : (ℓ : Loc Cert.Reference14Ideal.nD Cert.Reference14Ideal.τ Cert.Reference14Ideal.sig) → Buf (Elt Ideal) ℓ) (c : Dev 1)

/-- Two memories with the same arguments. -/
abbrev Agree : Prop :=
  m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
  ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
  ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
  ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
  ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
  ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)

set_option maxHeartbeats 4000000 in
theorem ref0 (h : Agree m m' c) : Cert.Reference14Ideal.Value.res_main_v118 m' c = resX m c := by
  obtain ⟨h0, h1, h2, h3, h4, h5⟩ := h
  unfold Cert.Reference14Ideal.Value.res_main_v118
  rw [h0, h1, h2, h3, h4, h5]
  funext i
  obtain ⟨r, k, rfl⟩ := idx2 i
  pointwise
  show _ = tokenGrad m c r k
  by_cases h : r.val < 4096
  · exact (dif_pos h).trans (congrFun (tokenGrad_lat m c ⟨r.val, h⟩) k).symm
  · have e : inCtx ⟨r.val - 4096, by omega⟩ = r := Fin.ext (by show 4096 + (r.val - 4096) = r.val; omega)
    have := congrFun (tokenGrad_ctx m c ⟨r.val - 4096, by omega⟩) k
    rw [e] at this
    exact (dif_neg h).trans this.symm

set_option maxHeartbeats 8000000 in
/-- The kernel's results are those of the derivative of the entry's forward lines. -/
theorem algebraic : Cert.algebraic_Kernel14Ideal_Reference14Ideal := by
  intro m ρ m' ρ' pre agree
  refine ⟨fun c => resX m c, fun c => resG m c, fun c => resB m c,
    (θ_run Cert.Kernel14Ideal.defs _ _).mono (fun _ h c => ⟨(h c).1.trans (final6 m c), (h c).2.1.trans (final7 m c), (h c).2.2.1.trans (final8 m c), (h c).2.2.2⟩)
      (Cert.Kernel14Ideal.Value.run_blocks m ρ), ?_⟩
  refine (θ_run Cert.Reference14Ideal.defs _ _).mono (fun _ h c => ⟨(h c).1.trans (ref0 m m' c (agree c)), (h c).2.1.trans ?_, (h c).2.2.1.trans ?_, (h c).2.2.2⟩)
    (Cert.Reference14Ideal.Value.run (F := Ideal) m' ρ')
  · obtain ⟨h0, h1, h2, h3, h4, h5⟩ := agree c
    rw [h0, h2, h3, h5]
    funext i
    obtain ⟨r, k, rfl⟩ := idx2 i
    pointwise
    show _ = resGt m c k
    rw [resGt_eq, add_comm (G := EReal)]
    rfl
  · obtain ⟨h0, h1, h2, h3, h4, h5⟩ := agree c
    rw [h0, h1, h3, h5]
    funext i
    obtain ⟨r, k, rfl⟩ := idx2 i
    pointwise
    show ((((if h : 9 ≤ r.val ∧ r.val - 9 < 1 then ∑ s : Fin 256, dScale (row (ctxOf (aX m c)) s) (row (aG m c) 0)
          (through (ctxOf (aP m c)) (aW m c) s) k else (0 : EReal))
        + if h : 8 ≤ r.val ∧ r.val - 8 < 1 then ∑ s : Fin 256, through (ctxOf (aP m c)) (aW m c) s k else 0)
        + if h : 1 ≤ r.val ∧ r.val - 1 < 1 then ∑ s : Fin 4096, dScale (row (latOf (aX m c)) s) (row (aG m c) 0)
          (through (latOf (aP m c)) (aW m c) s) k else 0)
        + if h : r.val < 1 then ∑ s : Fin 4096, through (latOf (aP m c)) (aW m c) s k else 0) = resBt m c r k
    rw [resBt_eq]
    fin_cases r <;> simp

end Cert.Proof.ScanEntry1
-- ==== Proof.FfnEntry0.lean ====
/-
  `l0_ffn_in_dx_prenorm_bwd`, the kernel: the gradient taken back through layer 0's feed-forward entry — the product, the
  modulated norm and the gated residual — for the latent tokens and the context's below them. The token rows are written
  block by block; the gradients of the gain and of the modulation rows are summed over the blocks.
-/
module

public import proofs.«01_k».proof.Defs
public import proofs.«01_k».proof.Proof.Products
public import proofs.«01_k».proof.Proof.PreNorm
public import proofs.«01_k».proof.Proof.Gen.Kernel15Ideal.Value
public import proofs.«01_k».proof.Proof.Gen.Reference15Ideal.Run
public import Idealize.ShloMosaic.Lib.Pipeline.Value
public import Idealize.ShloMosaic.Lib.Tactic

@[expose] public section

noncomputable section

open Idealize.ShloMosaic Idealize.ShloMosaic.TcCoe Idealize.SL.Sem
open Idealize.ShloMosaic.Pipeline (Dat)
open Cert.Products (zero_offsets)
open Cert.PreNorm

namespace Cert.Kernel15Ideal.Grad

open Cert.Kernel15Ideal Cert.Kernel15Ideal.Gen

section Block

variable (i : grid0.Coords)
variable (x e y : Vec Ideal S256x1024 .f32) (g : Vec Ideal S1x1024 .f32) (ma mb : Vec Ideal S16x1024 .f32) (dx : Vec Ideal S256x1024 .f32)
  (dp : Vec Ideal S256x5632 .bf16) (w : Vec Ideal S1024x5632 .bf16)

/-! ## One block's terms -/

/-- Zero on the blocks of latent tokens, one on the context's. -/
abbrev late : EReal := k0_pay4 (F := Ideal) i

/-- The block's tokens: the latents', or on the last block the context's. -/
abbrev tokens := k0_pay5 i e x
abbrev dh := k0_pay6 dp w
abbrev shifts := k0_pay9 i mb
abbrev gated := k0_pay11 i y ma
abbrev token := k0_pay12 (tokens i x e) (gated i y ma)
abbrev direct := k0_pay20 (tokens i x e) g dx (dh dp w) (shifts i mb) (gated i y ma)
abbrev spread := k0_pay21 (tokens i x e) g (dh dp w) (shifts i mb) (gated i y ma)

/-- The block of the tokens' gradient. -/
abbrev blkX := k0_pay24 (token i x e y ma) (direct i x e y g ma mb dx dp w) (spread i x e y g ma mb dp w) (k0_pay22 (F := Ideal))
/-- The block of the residual branch's gradient. -/
abbrev blkY := k0_pay28 (k0_pay10 i ma) (token i x e y ma) (direct i x e y g ma mb dx dp w) (spread i x e y g ma mb dp w) (k0_pay22 (F := Ideal))
/-- The gain's gradient, the block's part added to `p`. -/
abbrev addG (p : Vec Ideal S1x1024 .f32) := k0_pay1 (k0_pay18 (tokens i x e) (dh dp w) (shifts i mb) (gated i y ma)) (k0_pay32 p)
/-- The gate's gradient, the block's part added to `p`. -/
abbrev addA (p : Vec Ideal S16x1024 .f32) :=
  k0_pay2 (k0_pay27 (k0_pay4 (F := Ideal) i) y (k0_pay7 (F := Ideal) i) (token i x e y ma) (direct i x e y g ma mb dx dp w) (spread i x e y g ma mb dp w)
    (k0_pay22 (F := Ideal))) p
/-- The shift's and the scale's gradient, the block's part added to `p`. -/
abbrev addB (p : Vec Ideal S16x1024 .f32) :=
  k0_pay3 (k0_pay26 (k0_pay4 (F := Ideal) i) (k0_pay8 (F := Ideal) i) (k0_pay17 (tokens i x e) g (dh dp w) (gated i y ma))) p

/-! ## The same, entry by entry -/

theorem dh_apply (r : Fin 256) (k : Fin 1024) : k0_pay6 dp w (ix2 r k) = through dp w r k := by
  unfold k0_pay6 through
  pointwise

theorem scale_row (k : Fin 1024) : k0_pay9 i mb (ix2 4 k) = pick (late i) mb 4 12 k := by
  unfold k0_pay9 k0_pay8 pick
  pointwise

theorem gate_row (k : Fin 1024) : k0_pay10 i ma (ix2 0 k) = pick (late i) ma 2 10 k := by
  unfold k0_pay10 k0_pay7 pick
  pointwise

theorem token_apply (r : Fin 256) (k : Fin 1024) : k0_pay12 (tokens i x e) (gated i y ma) (ix2 r k) = resid (tokens i x e) y (pick (late i) ma 2 10) r k := by
  unfold gated k0_pay12 k0_pay11 resid
  pointwise
  simp only [gate_row]

theorem square_apply (r : Fin 256) (u : Fin 1) : k0_pay13 (tokens i x e) (gated i y ma) (ix2 r u)
    = meanSq (resid (tokens i x e) y (pick (late i) ma 2 10) r) := by
  unfold k0_pay13 meanSq
  pointwise
  simp only [token_apply]

theorem blkX_apply (r : Fin 256) (k : Fin 1024) : blkX i x e y g ma mb dx dp w (ix2 r k)
    = back (row dx r) (resid (tokens i x e) y (pick (late i) ma 2 10) r) (row g 0) (pick (late i) mb 4 12) (through dp w r) k := by
  unfold blkX direct spread dh token shifts k0_pay24 k0_pay23 k0_pay22 k0_pay21 k0_pay20 k0_pay19 k0_pay16 k0_pay14
  pointwise
  simp only [dh_apply, scale_row, token_apply, square_apply]
  rfl

theorem blkY_apply (r : Fin 256) (k : Fin 1024) : blkY i x e y g ma mb dx dp w (ix2 r k)
    = pick (late i) ma 2 10 k
      * back (row dx r) (resid (tokens i x e) y (pick (late i) ma 2 10) r) (row g 0) (pick (late i) mb 4 12) (through dp w r) k := by
  rw [← blkX_apply i x e y g ma mb dx dp w r k, ← gate_row i ma k]
  unfold blkY blkX k0_pay28 k0_pay25 k0_pay24
  pointwise

theorem addG_apply (p : Vec Ideal S1x1024 .f32) (k : Fin 1024) : addG i x e y ma mb dp w p (ix2 0 k)
    = p (ix2 0 k) + ∑ r, dGain (resid (tokens i x e) y (pick (late i) ma 2 10) r) (pick (late i) mb 4 12) (through dp w r) k := by
  unfold addG dh shifts k0_pay1 k0_pay32 k0_pay18 k0_pay16 k0_pay15 k0_pay14
  pointwise
  simp only [dh_apply, scale_row, token_apply, square_apply]
  rfl

/-- The gate's gradient goes to row 2 on a latent block, to row 10 on the context's. -/
theorem addA_apply (h : late i = 0 ∨ late i = 1) (p : Vec Ideal S16x1024 .f32) (a : Fin 16) (k : Fin 1024) :
    addA i x e y g ma mb dx dp w p (ix2 a k) = p (ix2 a k)
      + if a = (if late i = 0 then 2 else 10) then ∑ r, back (row dx r) (resid (tokens i x e) y (pick (late i) ma 2 10) r) (row g 0)
          (pick (late i) mb 4 12) (through dp w r) k * y (ix2 r k) else 0 := by
  simp only [← blkX_apply i x e y g ma mb dx dp w]
  unfold addA blkX k0_pay2 k0_pay27 k0_pay25 k0_pay24 k0_pay7
  pointwise
  rcases h with h | h
  · have h' : (k0_pay4 (F := Ideal) i : EReal) = 0 := h
    rw [h, h']
    congr 1
    fin_cases a <;> simp
  · have h' : (k0_pay4 (F := Ideal) i : EReal) = 1 := h
    rw [h, h', one_sub_one]
    congr 1
    fin_cases a <;> simp

/-- The shift's and the scale's go to rows 3 and 4 on a latent block, to rows 11 and 12 on the context's. -/
theorem addB_apply (h : late i = 0 ∨ late i = 1) (p : Vec Ideal S16x1024 .f32) (a : Fin 16) (k : Fin 1024) :
    addB i x e y g ma dp w p (ix2 a k) = p (ix2 a k)
      + if a = (if late i = 0 then 3 else 11) then ∑ r, through dp w r k
        else if a = (if late i = 0 then 4 else 12) then ∑ r, dScale (resid (tokens i x e) y (pick (late i) ma 2 10) r) (row g 0) (through dp w r) k
        else 0 := by
  unfold addB dh k0_pay3 k0_pay26 k0_pay17 k0_pay15 k0_pay14 k0_pay8
  pointwise
  simp only [dh_apply, token_apply, square_apply]
  unfold dScale PreNorm.inv row
  rcases h with h | h
  · have h' : (k0_pay4 (F := Ideal) i : EReal) = 0 := h
    simp only [h, h']
    congr 1
    fin_cases a <;> simp
  · have h' : (k0_pay4 (F := Ideal) i : EReal) = 1 := h
    simp only [h, h', one_sub_one]
    congr 1
    fin_cases a <;> simp

end Block

variable (m : (ℓ : Loc nD τ sig) → Buf (Elt Ideal) ℓ) (c : Dev nD)

/-! ## What a grid point leaves in its output buffers -/

theorem out9_A (t : Fin cfg0.N) (h : t.val % 17 = 0) : (outsAt0 m c t.val t.isLt).1
    = blkX (grid0.coords t) (iblk m c 0 t) (iblk m c 1 t) (iblk m c 2 t) (iblk m c 3 t) (iblk m c 4 t) (iblk m c 5 t) (iblk m c 6 t) (iblk m c 7 t) (iblk m c 8 t) := by
  rw [outsAt0_A m c t h]
  dsimp only
  unfold out0_A_9
  rw [View.read_writes_eq_canon _ _ _ (fun _ => cover0_A_9 ..)]
  unfold kernelRun0_A
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out9_B (t : Fin cfg0.N) (h : ¬t.val % 17 = 0) : (outsAt0 m c t.val t.isLt).1
    = blkX (grid0.coords t) (iblk m c 0 t) (iblk m c 1 t) (iblk m c 2 t) (iblk m c 3 t) (iblk m c 4 t) (iblk m c 5 t) (iblk m c 6 t) (iblk m c 7 t) (iblk m c 8 t) := by
  rw [outsAt0_B m c t h]
  dsimp only
  unfold out0_B_9
  rw [View.read_writes_eq_canon _ _ _ (fun _ => cover0_B_9 ..)]
  unfold kernelRun0_B
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out9 (t : Fin cfg0.N) : (outsAt0 m c t.val t.isLt).1
    = blkX (grid0.coords t) (iblk m c 0 t) (iblk m c 1 t) (iblk m c 2 t) (iblk m c 3 t) (iblk m c 4 t) (iblk m c 5 t) (iblk m c 6 t) (iblk m c 7 t) (iblk m c 8 t) :=
  if h : t.val % 17 = 0 then out9_A m c t h else out9_B m c t h

theorem out10_A (t : Fin cfg0.N) (h : t.val % 17 = 0) : (outsAt0 m c t.val t.isLt).2.1
    = blkY (grid0.coords t) (iblk m c 0 t) (iblk m c 1 t) (iblk m c 2 t) (iblk m c 3 t) (iblk m c 4 t) (iblk m c 5 t) (iblk m c 6 t) (iblk m c 7 t) (iblk m c 8 t) := by
  rw [outsAt0_A m c t h]
  dsimp only
  unfold out0_A_10
  rw [View.read_writes_eq_canon _ _ _ (fun _ => cover0_A_10 ..)]
  unfold kernelRun0_A
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out10_B (t : Fin cfg0.N) (h : ¬t.val % 17 = 0) : (outsAt0 m c t.val t.isLt).2.1
    = blkY (grid0.coords t) (iblk m c 0 t) (iblk m c 1 t) (iblk m c 2 t) (iblk m c 3 t) (iblk m c 4 t) (iblk m c 5 t) (iblk m c 6 t) (iblk m c 7 t) (iblk m c 8 t) := by
  rw [outsAt0_B m c t h]
  dsimp only
  unfold out0_B_10
  rw [View.read_writes_eq_canon _ _ _ (fun _ => cover0_B_10 ..)]
  unfold kernelRun0_B
  dsimp only
  sl_unfold_words
  simp only [View.canon_cons_unit_zero (S := S256x1024) zero_offsets, View.canon_unit_zero (S := S256x1024) zero_offsets,
    View.readCov_unit_zero (S := S256x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out10 (t : Fin cfg0.N) : (outsAt0 m c t.val t.isLt).2.1
    = blkY (grid0.coords t) (iblk m c 0 t) (iblk m c 1 t) (iblk m c 2 t) (iblk m c 3 t) (iblk m c 4 t) (iblk m c 5 t) (iblk m c 6 t) (iblk m c 7 t) (iblk m c 8 t) :=
  if h : t.val % 17 = 0 then out10_A m c t h else out10_B m c t h

theorem out11_A (t : Fin cfg0.N) (h : t.val % 17 = 0) : (outsAt0 m c t.val t.isLt).2.2.1
    = addG (grid0.coords t) (iblk m c 0 t) (iblk m c 1 t) (iblk m c 2 t) (iblk m c 4 t) (iblk m c 5 t) (iblk m c 7 t) (iblk m c 8 t)
      (k0_pay29 (F := Ideal)) := by
  rw [outsAt0_A m c t h]
  dsimp only
  unfold out0_A_11
  rw [View.read_writes_eq_canon _ _ _ (fun _ => cover0_A_11 ..)]
  unfold kernelRun0_A
  dsimp only
  sl_unfold_words
  simp only [View.canon_cons_unit_zero (S := S1x1024) zero_offsets, View.canon_unit_zero (S := S1x1024) zero_offsets,
    View.readCov_unit_zero (S := S1x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out11_B (t : Fin cfg0.N) (h : ¬t.val % 17 = 0) : (outsAt0 m c t.val t.isLt).2.2.1
    = addG (grid0.coords t) (iblk m c 0 t) (iblk m c 1 t) (iblk m c 2 t) (iblk m c 4 t) (iblk m c 5 t) (iblk m c 7 t) (iblk m c 8 t)
      (outsAt0 m c (t.val - 1) (Nat.lt_of_le_of_lt (Nat.sub_le _ _) t.isLt)).2.2.1 := by
  rw [outsAt0_B m c t h]
  dsimp only
  unfold out0_B_11
  rw [View.read_writes_eq_canon _ _ _ (fun _ => cover0_B_11 ..)]
  unfold kernelRun0_B
  dsimp only
  sl_unfold_words
  simp only [View.canon_cons_unit_zero (S := S1x1024) zero_offsets, View.canon_unit_zero (S := S1x1024) zero_offsets,
    View.readCov_unit_zero (S := S1x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_11 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out12_A (t : Fin cfg0.N) (h : t.val % 17 = 0) : (outsAt0 m c t.val t.isLt).2.2.2.1
    = addA (grid0.coords t) (iblk m c 0 t) (iblk m c 1 t) (iblk m c 2 t) (iblk m c 3 t) (iblk m c 4 t) (iblk m c 5 t) (iblk m c 6 t) (iblk m c 7 t) (iblk m c 8 t)
      (k0_pay30 (F := Ideal)) := by
  rw [outsAt0_A m c t h]
  dsimp only
  unfold out0_A_12
  rw [View.read_writes_eq_canon _ _ _ (fun _ => cover0_A_12 ..)]
  unfold kernelRun0_A
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out12_B (t : Fin cfg0.N) (h : ¬t.val % 17 = 0) : (outsAt0 m c t.val t.isLt).2.2.2.1
    = addA (grid0.coords t) (iblk m c 0 t) (iblk m c 1 t) (iblk m c 2 t) (iblk m c 3 t) (iblk m c 4 t) (iblk m c 5 t) (iblk m c 6 t) (iblk m c 7 t) (iblk m c 8 t)
      (outsAt0 m c (t.val - 1) (Nat.lt_of_le_of_lt (Nat.sub_le _ _) t.isLt)).2.2.2.1 := by
  rw [outsAt0_B m c t h]
  dsimp only
  unfold out0_B_12
  rw [View.read_writes_eq_canon _ _ _ (fun _ => cover0_B_12 ..)]
  unfold kernelRun0_B
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_12 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out13_A (t : Fin cfg0.N) (h : t.val % 17 = 0) : (outsAt0 m c t.val t.isLt).2.2.2.2
    = addB (grid0.coords t) (iblk m c 0 t) (iblk m c 1 t) (iblk m c 2 t) (iblk m c 3 t) (iblk m c 4 t) (iblk m c 7 t) (iblk m c 8 t)
      (k0_pay31 (F := Ideal)) := by
  rw [outsAt0_A m c t h]
  dsimp only
  unfold out0_A_13
  rw [View.read_writes_eq_canon _ _ _ (fun _ => cover0_A_13 ..)]
  unfold kernelRun0_A
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

theorem out13_B (t : Fin cfg0.N) (h : ¬t.val % 17 = 0) : (outsAt0 m c t.val t.isLt).2.2.2.2
    = addB (grid0.coords t) (iblk m c 0 t) (iblk m c 1 t) (iblk m c 2 t) (iblk m c 3 t) (iblk m c 4 t) (iblk m c 7 t) (iblk m c 8 t)
      (outsAt0 m c (t.val - 1) (Nat.lt_of_le_of_lt (Nat.sub_le _ _) t.isLt)).2.2.2.2 := by
  rw [outsAt0_B m c t h]
  dsimp only
  unfold out0_B_13
  rw [View.read_writes_eq_canon _ _ _ (fun _ => cover0_B_13 ..)]
  unfold kernelRun0_B
  dsimp only
  sl_unfold_words
  simp only [View.canon_cons_unit_zero (S := S16x1024) zero_offsets, View.canon_unit_zero (S := S16x1024) zero_offsets,
    View.readCov_unit_zero (S := S16x1024) _ zero_offsets, View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_13 t).read_unread,
    View.ld_unit_zero (S := S256x1024) zero_offsets, View.ld_unit_zero (S := S1x1024) zero_offsets, View.ld_unit_zero (S := S16x1024) zero_offsets, View.ld_unit_zero (S := S256x5632) zero_offsets, View.ld_unit_zero (S := S1024x5632) zero_offsets]

/-! ## The blocks the point reads -/

theorem lt17 (t : Fin cfg0.N) : t.val < 17 := by have := t.isLt; have hN : cfg0.N = 17 := N_0; omega

/-- The windows' block indices. -/
theorem blocks_at : ∀ t : Fin grid0.N, (win0_0.index t 0 = min t.val 15 ∧ win0_0.index t 1 = 0)
    ∧ (win0_1.index t 0 = 0 ∧ win0_1.index t 1 = 0)
    ∧ (win0_2.index t 0 = t.val ∧ win0_2.index t 1 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = t.val ∧ win0_6.index t 1 = 0)
    ∧ (win0_7.index t 0 = t.val ∧ win0_7.index t 1 = 0)
    ∧ (win0_8.index t 0 = 0 ∧ win0_8.index t 1 = 0) := by decide +kernel

theorem blocks_out : ∀ t : Fin grid0.N, (win0_9.index t 0 = t.val ∧ win0_9.index t 1 = 0)
    ∧ (win0_10.index t 0 = t.val ∧ win0_10.index t 1 = 0)
    ∧ (win0_11.index t 0 = 0 ∧ win0_11.index t 1 = 0)
    ∧ (win0_12.index t 0 = 0 ∧ win0_12.index t 1 = 0)
    ∧ (win0_13.index t 0 = 0 ∧ win0_13.index t 1 = 0) := by decide +kernel

/-- Token `r` of block `t`. -/
abbrev tok (t : Fin cfg0.N) (r : Fin 256) : Fin 4352 := ⟨t.val * 256 + r.val, by have := lt17 t; omega⟩

/-- The first sixteen blocks hold latent tokens, the last the context's. -/
theorem late_word : ∀ t : Fin grid0.N, (Scalar.extui (Scalar.cmpi .sge (BitVec.ofNat 32 (grid0.coords t 0).val) 16#32) : BitVec 32)
    = if t.val < 16 then 0#32 else 1#32 := by decide +kernel

theorem flag_tok (t : Fin cfg0.N) (r : Fin 256) : flag (tok t r) = if t.val < 16 then 0 else 1 := by
  unfold flag
  have := lt17 t
  by_cases h : t.val < 16
  · rw [if_pos h, if_pos (by show t.val * 256 + r.val < 4096; omega)]
  · rw [if_neg h, if_neg (by show ¬ t.val * 256 + r.val < 4096; omega)]

theorem late_eq (t : Fin cfg0.N) : late (grid0.coords t) = if t.val < 16 then 0 else 1 := by
  unfold late k0_pay4
  pointwise
  rw [late_word t]
  split <;> simp

theorem late_tok (t : Fin cfg0.N) (r : Fin 256) : late (grid0.coords t) = flag (tok t r) := by rw [late_eq, flag_tok]

section Arrays

/-! The arguments. -/

abbrev aX := m ((c : Thread nD τ).loc main_arg0)
abbrev aE := m ((c : Thread nD τ).loc main_arg1)
abbrev aY := m ((c : Thread nD τ).loc main_arg2)
abbrev aG := m ((c : Thread nD τ).loc main_arg3)
abbrev aA := m ((c : Thread nD τ).loc main_arg4)
abbrev aB := m ((c : Thread nD τ).loc main_arg5)
abbrev aD := m ((c : Thread nD τ).loc main_arg6)
abbrev aP := m ((c : Thread nD τ).loc main_arg7)
abbrev aW := m ((c : Thread nD τ).loc main_arg8)

theorem read_x (t : Fin cfg0.N) (h : t.val < 16) (r : Fin 256) (k : Fin 1024) :
    iblk m c 0 t (ix2 r k) = aX m c (ix2 ⟨t.val * 256 + r.val, by omega⟩ k) := by
  have e := (blocks_at t).1
  have h' : min t.val 15 = t.val := by omega
  rw [h'] at e
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem read_e (t : Fin cfg0.N) : iblk m c 1 t = aE m c := by
  have e := (blocks_at t).2.1
  funext i
  show V m c main_arg1 _ = m _ _
  rw [V_main_arg1]
  congr 1
  funext a
  apply Fin.ext
  match a with
  | ⟨0, _⟩ => show win0_1.index t 0 * 256 + 1 * (i 0).val = (i 0).val; rw [e.1]; omega
  | ⟨1, _⟩ => show win0_1.index t 1 * 1024 + 1 * (i 1).val = (i 1).val; rw [e.2]; omega

theorem read_y (t : Fin cfg0.N) (r : Fin 256) (k : Fin 1024) : iblk m c 2 t (ix2 r k) = aY m c (ix2 (tok t r) k) := by
  have e := (blocks_at t).2.2.1
  show V m c main_arg2 _ = m _ _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 1024 + 1 * k.val = k.val; rw [e.2]; omega

theorem read_g (t : Fin cfg0.N) : iblk m c 3 t = aG m c := by
  have e := (blocks_at t).2.2.2.1
  funext i
  show V m c main_arg3 _ = m _ _
  rw [V_main_arg3]
  congr 1
  funext a
  apply Fin.ext
  match a with
  | ⟨0, _⟩ => show win0_3.index t 0 * 1 + 1 * (i 0).val = (i 0).val; rw [e.1]; omega
  | ⟨1, _⟩ => show win0_3.index t 1 * 1024 + 1 * (i 1).val = (i 1).val; rw [e.2]; omega

theorem read_a (t : Fin cfg0.N) : iblk m c 4 t = aA m c := by
  have e := (blocks_at t).2.2.2.2.1
  funext i
  show V m c main_arg4 _ = m _ _
  rw [V_main_arg4]
  congr 1
  funext a
  apply Fin.ext
  match a with
  | ⟨0, _⟩ => show win0_4.index t 0 * 16 + 1 * (i 0).val = (i 0).val; rw [e.1]; omega
  | ⟨1, _⟩ => show win0_4.index t 1 * 1024 + 1 * (i 1).val = (i 1).val; rw [e.2]; omega

theorem read_b (t : Fin cfg0.N) : iblk m c 5 t = aB m c := by
  have e := (blocks_at t).2.2.2.2.2.1
  funext i
  show V m c main_arg5 _ = m _ _
  rw [V_main_arg5]
  congr 1
  funext a
  apply Fin.ext
  match a with
  | ⟨0, _⟩ => show win0_5.index t 0 * 16 + 1 * (i 0).val = (i 0).val; rw [e.1]; omega
  | ⟨1, _⟩ => show win0_5.index t 1 * 1024 + 1 * (i 1).val = (i 1).val; rw [e.2]; omega

theorem read_d (t : Fin cfg0.N) (r : Fin 256) (k : Fin 1024) : iblk m c 6 t (ix2 r k) = aD m c (ix2 (tok t r) k) := by
  have e := (blocks_at t).2.2.2.2.2.2.1
  show V m c main_arg6 _ = m _ _
  rw [V_main_arg6]
  congr 1
  funext a
  apply Fin.ext
  match a with
  | ⟨0, _⟩ => show win0_6.index t 0 * 256 + 1 * r.val = t.val * 256 + r.val; rw [e.1]; omega
  | ⟨1, _⟩ => show win0_6.index t 1 * 1024 + 1 * k.val = k.val; rw [e.2]; omega

theorem read_p (t : Fin cfg0.N) (r : Fin 256) (k : Fin 5632) : iblk m c 7 t (ix2 r k) = aP m c (ix2 (tok t r) k) := by
  have e := (blocks_at t).2.2.2.2.2.2.2.1
  show V m c main_arg7 _ = m _ _
  rw [V_main_arg7]
  congr 1
  funext a
  apply Fin.ext
  match a with
  | ⟨0, _⟩ => show win0_7.index t 0 * 256 + 1 * r.val = t.val * 256 + r.val; rw [e.1]; omega
  | ⟨1, _⟩ => show win0_7.index t 1 * 5632 + 1 * k.val = k.val; rw [e.2]; omega

theorem read_w (t : Fin cfg0.N) : iblk m c 8 t = aW m c := by
  have e := (blocks_at t).2.2.2.2.2.2.2.2
  funext i
  show V m c main_arg8 _ = m _ _
  rw [V_main_arg8]
  congr 1
  funext a
  apply Fin.ext
  match a with
  | ⟨0, _⟩ => show win0_8.index t 0 * 1024 + 1 * (i 0).val = (i 0).val; rw [e.1]; omega
  | ⟨1, _⟩ => show win0_8.index t 1 * 5632 + 1 * (i 1).val = (i 1).val; rw [e.2]; omega

/-! ## The results, token by token -/

/-- A token after the residual. -/
def hidden (r : Fin 4352) : Row := resid (joined (aX m c) (aE m c)) (aY m c) (pick (flag r) (aA m c) 2 10) r
/-- A token's gradient before the norm. -/
def grown (r : Fin 4352) : Row := through (aP m c) (aW m c) r
/-- A token's gradient after it. -/
def tokenGrad (r : Fin 4352) : Row := back (row (aD m c) r) (hidden m c r) (row (aG m c) 0) (pick (flag r) (aB m c) 4 12) (grown m c r)
def branchGrad (r : Fin 4352) (k : Fin 1024) : EReal := pick (flag r) (aA m c) 2 10 k * tokenGrad m c r k
/-- A token's part of the gain's gradient. -/
def gainOf (k : Fin 1024) (r : Fin 4352) : EReal := dGain (hidden m c r) (pick (flag r) (aB m c) 4 12) (grown m c r) k
/-- A token's part of the modulations' gradients. -/
def gateOf (a : Fin 16) (k : Fin 1024) (r : Fin 4352) : EReal :=
  if a = (if flag r = 0 then 2 else 10) then tokenGrad m c r k * aY m c (ix2 r k) else 0
def modOf (a : Fin 16) (k : Fin 1024) (r : Fin 4352) : EReal :=
  if a = (if flag r = 0 then 3 else 11) then grown m c r k
  else if a = (if flag r = 0 then 4 else 12) then dScale (hidden m c r) (row (aG m c) 0) (grown m c r) k else 0

def resGt (k : Fin 1024) : EReal := ∑ r : Fin 4352, gainOf m c k r
def resAt (a : Fin 16) (k : Fin 1024) : EReal := ∑ r : Fin 4352, gateOf m c a k r
def resBt (a : Fin 16) (k : Fin 1024) : EReal := ∑ r : Fin 4352, modOf m c a k r
abbrev resX : Buf (Elt Ideal) ((c : Thread nD τ).loc main_v0_0) := fun i => tokenGrad m c (i 0) (i 1)
abbrev resY : Buf (Elt Ideal) ((c : Thread nD τ).loc main_v0_1) := fun i => branchGrad m c (i 0) (i 1)
abbrev resG : Buf (Elt Ideal) ((c : Thread nD τ).loc main_v0_2) := fun i => resGt m c (i 1)
abbrev resA : Buf (Elt Ideal) ((c : Thread nD τ).loc main_v0_3) := fun i => resAt m c (i 0) (i 1)
abbrev resB : Buf (Elt Ideal) ((c : Thread nD τ).loc main_v0_4) := fun i => resBt m c (i 0) (i 1)

/-! ## Each block's part -/

theorem last_word : ∀ t : Fin grid0.N, Scalar.cmpi .eq (BitVec.ofNat 32 (grid0.coords t 0).val) 16#32
    = if t.val < 16 then 0#1 else 1#1 := by decide +kernel

theorem tokens_block (t : Fin cfg0.N) (r : Fin 256) (k : Fin 1024) :
    tokens (grid0.coords t) (iblk m c 0 t) (iblk m c 1 t) (ix2 r k) = joined (aX m c) (aE m c) (ix2 (tok t r) k) := by
  have h17 := lt17 t
  show _ = joinAt (aX m c) (aE m c) (tok t r) k
  unfold tokens k0_pay5 joinAt
  dsimp only
  rw [last_word t]
  by_cases h : t.val < 16
  · rw [if_pos h, dif_pos (by show t.val * 256 + r.val < 4096; omega)]
    exact read_x m c t h r k
  · rw [if_neg h, dif_neg (by show ¬ t.val * 256 + r.val < 4096; omega), read_e]
    exact congrArg (fun r => aE m c (ix2 r k)) (Fin.ext (by show r.val = t.val * 256 + r.val - 4096; omega))

theorem hidden_block (t : Fin cfg0.N) (r : Fin 256) :
    resid (tokens (grid0.coords t) (iblk m c 0 t) (iblk m c 1 t)) (iblk m c 2 t) (pick (late (grid0.coords t)) (iblk m c 4 t) 2 10) r
    = hidden m c (tok t r) := by
  unfold hidden
  rw [late_tok t r, read_a]
  exact resid_block (tok t) (tokens_block m c t) (read_y m c t) _ r

theorem grown_block (t : Fin cfg0.N) (r : Fin 256) : through (iblk m c 7 t) (iblk m c 8 t) r = grown m c (tok t r) := by
  unfold grown
  rw [read_w]
  exact through_block (tok t) (read_p m c t) _ r

theorem back_block (t : Fin cfg0.N) (r : Fin 256) :
    back (row (iblk m c 6 t) r) (resid (tokens (grid0.coords t) (iblk m c 0 t) (iblk m c 1 t)) (iblk m c 2 t) (pick (late (grid0.coords t)) (iblk m c 4 t) 2 10) r)
      (row (iblk m c 3 t) 0) (pick (late (grid0.coords t)) (iblk m c 5 t) 4 12) (through (iblk m c 7 t) (iblk m c 8 t) r) = tokenGrad m c (tok t r) := by
  unfold tokenGrad
  rw [hidden_block, grown_block, late_tok t r, read_g, read_b]
  exact congrArg (fun d => back d _ _ _ _) (row_block (tok t) (read_d m c t) r)

theorem at9 (t : Fin cfg0.N) (r : Fin 256) (k : Fin 1024) : (outsAt0 m c t.val t.isLt).1 (ix2 r k) = tokenGrad m c (tok t r) k := by
  rw [out9, blkX_apply, back_block]

theorem at10 (t : Fin cfg0.N) (r : Fin 256) (k : Fin 1024) :
    (outsAt0 m c t.val t.isLt).2.1 (ix2 r k) = branchGrad m c (tok t r) k := by
  rw [out10, blkY_apply, back_block, late_tok t r, read_a]
  rfl

theorem late_cases (t : Fin cfg0.N) : late (grid0.coords t) = 0 ∨ late (grid0.coords t) = 1 := by
  rw [late_eq]; split
  · exact .inl rfl
  · exact .inr rfl

theorem stepG (t : Fin cfg0.N) (p : Vec Ideal S1x1024 .f32) (k : Fin 1024) :
    addG (grid0.coords t) (iblk m c 0 t) (iblk m c 1 t) (iblk m c 2 t) (iblk m c 4 t) (iblk m c 5 t) (iblk m c 7 t) (iblk m c 8 t) p (ix2 0 k)
      = p (ix2 0 k) + ∑ r : Fin 256, gainOf m c k (tok t r) := by
  rw [addG_apply]
  refine congrArg (p (ix2 0 k) + ·) (Finset.sum_congr (M := EReal) rfl fun r _ => ?_)
  rw [hidden_block, grown_block, late_tok t r, read_b]
  rfl

theorem stepA (t : Fin cfg0.N) (p : Vec Ideal S16x1024 .f32) (a : Fin 16) (k : Fin 1024) :
    addA (grid0.coords t) (iblk m c 0 t) (iblk m c 1 t) (iblk m c 2 t) (iblk m c 3 t) (iblk m c 4 t) (iblk m c 5 t) (iblk m c 6 t) (iblk m c 7 t)
      (iblk m c 8 t) p (ix2 a k) = p (ix2 a k) + ∑ r : Fin 256, gateOf m c a k (tok t r) := by
  rw [addA_apply _ _ _ _ _ _ _ _ _ _ (late_cases t)]
  refine congrArg (p (ix2 a k) + ·) ?_
  rw [← sum_ite_zero]
  refine Finset.sum_congr (M := EReal) rfl fun r _ => ?_
  rw [back_block, read_y, late_tok t r]
  rfl

theorem stepB (t : Fin cfg0.N) (p : Vec Ideal S16x1024 .f32) (a : Fin 16) (k : Fin 1024) :
    addB (grid0.coords t) (iblk m c 0 t) (iblk m c 1 t) (iblk m c 2 t) (iblk m c 3 t) (iblk m c 4 t) (iblk m c 7 t) (iblk m c 8 t) p (ix2 a k)
      = p (ix2 a k) + ∑ r : Fin 256, modOf m c a k (tok t r) := by
  rw [addB_apply _ _ _ _ _ _ _ _ (late_cases t)]
  refine congrArg (p (ix2 a k) + ·) ?_
  rw [← sum_ite_ite_zero]
  refine Finset.sum_congr (M := EReal) rfl fun r _ => ?_
  rw [hidden_block, grown_block, read_g, late_tok t r]
  rfl

/-! ## The sums over the blocks -/

theorem at11 (n : ℕ) (h : n < cfg0.N) (k : Fin 1024) :
    (outsAt0 m c n h).2.2.1 (ix2 0 k) = ∑ s : Fin (n + 1), ∑ r : Fin 256, gainOf m c k (tok ⟨s.val, by have := s.isLt; omega⟩ r) := by
  refine running (fun n h => (outsAt0 m c n h).2.2.1 (ix2 0 k)) (fun t => ∑ r : Fin 256, gainOf m c k (tok t r)) (fun h => ?_) (fun n h => ?_) n h
  · have e := out11_A m c ⟨0, h⟩ (Nat.zero_mod _)
    refine (congrFun e (ix2 0 k)).trans ((stepG m c ⟨0, h⟩ _ k).trans ?_)
    rw [show (k0_pay29 (F := Ideal)) (ix2 0 k) = (0 : EReal) by unfold k0_pay29; pointwise]
    exact zero_add (M := EReal) _
  · have hN : cfg0.N = 17 := N_0
    have e := out11_B m c ⟨n + 1, h⟩ (by show ¬(n + 1) % 17 = 0; omega)
    exact (congrFun e (ix2 0 k)).trans (stepG m c ⟨n + 1, h⟩ _ k)

theorem at12 (n : ℕ) (h : n < cfg0.N) (a : Fin 16) (k : Fin 1024) :
    (outsAt0 m c n h).2.2.2.1 (ix2 a k) = ∑ s : Fin (n + 1), ∑ r : Fin 256, gateOf m c a k (tok ⟨s.val, by have := s.isLt; omega⟩ r) := by
  refine running (fun n h => (outsAt0 m c n h).2.2.2.1 (ix2 a k)) (fun t => ∑ r : Fin 256, gateOf m c a k (tok t r)) (fun h => ?_) (fun n h => ?_) n h
  · have e := out12_A m c ⟨0, h⟩ (Nat.zero_mod _)
    refine (congrFun e (ix2 a k)).trans ((stepA m c ⟨0, h⟩ _ a k).trans ?_)
    rw [show (k0_pay30 (F := Ideal)) (ix2 a k) = (0 : EReal) by unfold k0_pay30; pointwise]
    exact zero_add (M := EReal) _
  · have hN : cfg0.N = 17 := N_0
    have e := out12_B m c ⟨n + 1, h⟩ (by show ¬(n + 1) % 17 = 0; omega)
    exact (congrFun e (ix2 a k)).trans (stepA m c ⟨n + 1, h⟩ _ a k)

theorem at13 (n : ℕ) (h : n < cfg0.N) (a : Fin 16) (k : Fin 1024) :
    (outsAt0 m c n h).2.2.2.2 (ix2 a k) = ∑ s : Fin (n + 1), ∑ r : Fin 256, modOf m c a k (tok ⟨s.val, by have := s.isLt; omega⟩ r) := by
  refine running (fun n h => (outsAt0 m c n h).2.2.2.2 (ix2 a k)) (fun t => ∑ r : Fin 256, modOf m c a k (tok t r)) (fun h => ?_) (fun n h => ?_) n h
  · have e := out13_A m c ⟨0, h⟩ (Nat.zero_mod _)
    refine (congrFun e (ix2 a k)).trans ((stepB m c ⟨0, h⟩ _ a k).trans ?_)
    rw [show (k0_pay31 (F := Ideal)) (ix2 a k) = (0 : EReal) by unfold k0_pay31; pointwise]
    exact zero_add (M := EReal) _
  · have hN : cfg0.N = 17 := N_0
    have e := out13_B m c ⟨n + 1, h⟩ (by show ¬(n + 1) % 17 = 0; omega)
    exact (congrFun e (ix2 a k)).trans (stepB m c ⟨n + 1, h⟩ _ a k)

/-- After the last block a sum runs over all tokens. -/
theorem all_tokens (t : Fin cfg0.N) (ht : t.val = 16) (f : Fin 4352 → EReal) :
    ∑ s : Fin (t.val + 1), ∑ r : Fin 256, f (tok ⟨s.val, by have := s.isLt; have := t.isLt; omega⟩ r) = ∑ r : Fin 4352, f r := by
  obtain ⟨n, hn⟩ := t
  obtain rfl : n = 16 := ht
  exact sum_blocks (a := 17) (b := 256) rfl f

theorem last11 (t : Fin cfg0.N) (ht : t.val = 16) (k : Fin 1024) : (outsAt0 m c t.val t.isLt).2.2.1 (ix2 0 k) = resGt m c k := by
  rw [at11]
  exact all_tokens t ht (gainOf m c k)

theorem last12 (t : Fin cfg0.N) (ht : t.val = 16) (a : Fin 16) (k : Fin 1024) : (outsAt0 m c t.val t.isLt).2.2.2.1 (ix2 a k) = resAt m c a k := by
  rw [at12]
  exact all_tokens t ht (gateOf m c a k)

theorem last13 (t : Fin cfg0.N) (ht : t.val = 16) (a : Fin 16) (k : Fin 1024) : (outsAt0 m c t.val t.isLt).2.2.2.2 (ix2 a k) = resBt m c a k := by
  rw [at13]
  exact all_tokens t ht (modOf m c a k)

/-! ## Latents and context apart -/

theorem hidden_lat (r : Fin 4096) : hidden m c (inLat r) = resid (aX m c) (latOf (aY m c)) (row (aA m c) 2) r := by
  unfold hidden
  rw [flag_lat, pick_zero]
  funext k
  unfold resid
  rw [joined_lat]
  rfl

theorem hidden_ctx (r : Fin 256) : hidden m c (inCtx r) = resid (aE m c) (ctxOf (aY m c)) (row (aA m c) 10) r := by
  unfold hidden
  rw [flag_ctx, pick_one]
  funext k
  unfold resid
  rw [joined_ctx]
  rfl

theorem tokenGrad_lat (r : Fin 4096) : tokenGrad m c (inLat r)
    = back (row (latOf (aD m c)) r) (resid (aX m c) (latOf (aY m c)) (row (aA m c) 2) r) (row (aG m c) 0) (row (aB m c) 4) (through (latOf (aP m c)) (aW m c) r) := by
  unfold tokenGrad
  rw [flag_lat, pick_zero, hidden_lat]
  rfl

theorem tokenGrad_ctx (r : Fin 256) : tokenGrad m c (inCtx r)
    = back (row (ctxOf (aD m c)) r) (resid (aE m c) (ctxOf (aY m c)) (row (aA m c) 10) r) (row (aG m c) 0) (row (aB m c) 12) (through (ctxOf (aP m c)) (aW m c) r) := by
  unfold tokenGrad
  rw [flag_ctx, pick_one, hidden_ctx]
  rfl

theorem branchGrad_lat (r : Fin 4096) (k : Fin 1024) : branchGrad m c (inLat r) k = row (aA m c) 2 k
    * back (row (latOf (aD m c)) r) (resid (aX m c) (latOf (aY m c)) (row (aA m c) 2) r) (row (aG m c) 0) (row (aB m c) 4) (through (latOf (aP m c)) (aW m c) r) k := by
  unfold branchGrad
  rw [flag_lat, pick_zero, tokenGrad_lat]

theorem branchGrad_ctx (r : Fin 256) (k : Fin 1024) : branchGrad m c (inCtx r) k = row (aA m c) 10 k
    * back (row (ctxOf (aD m c)) r) (resid (aE m c) (ctxOf (aY m c)) (row (aA m c) 10) r) (row (aG m c) 0) (row (aB m c) 12) (through (ctxOf (aP m c)) (aW m c) r) k := by
  unfold branchGrad
  rw [flag_ctx, pick_one, tokenGrad_ctx]

theorem resGt_eq (k : Fin 1024) : resGt m c k
    = (∑ r : Fin 4096, dGain (resid (aX m c) (latOf (aY m c)) (row (aA m c) 2) r) (row (aB m c) 4) (through (latOf (aP m c)) (aW m c) r) k)
      + ∑ r : Fin 256, dGain (resid (aE m c) (ctxOf (aY m c)) (row (aA m c) 10) r) (row (aB m c) 12) (through (ctxOf (aP m c)) (aW m c) r) k := by
  unfold resGt gainOf
  rw [sum_tokens]
  simp only [hidden_lat, hidden_ctx, flag_lat, flag_ctx, pick_zero, pick_one]
  rfl

theorem resAt_eq (a : Fin 16) (k : Fin 1024) : resAt m c a k
    = (if a = 2 then ∑ r : Fin 4096, tokenGrad m c (inLat r) k * latOf (aY m c) (ix2 r k) else 0)
      + if a = 10 then ∑ r : Fin 256, tokenGrad m c (inCtx r) k * ctxOf (aY m c) (ix2 r k) else 0 := by
  unfold resAt gateOf
  rw [sum_tokens]
  simp only [flag_lat, flag_ctx, one_ne_zero, if_true, if_false]
  rw [sum_ite_zero, sum_ite_zero]
  rfl

theorem resBt_eq (a : Fin 16) (k : Fin 1024) : resBt m c a k
    = (if a = 3 then ∑ r : Fin 4096, through (latOf (aP m c)) (aW m c) r k
        else if a = 4 then ∑ r : Fin 4096, dScale (resid (aX m c) (latOf (aY m c)) (row (aA m c) 2) r) (row (aG m c) 0) (through (latOf (aP m c)) (aW m c) r) k
        else 0)
      + if a = 11 then ∑ r : Fin 256, through (ctxOf (aP m c)) (aW m c) r k
        else if a = 12 then ∑ r : Fin 256, dScale (resid (aE m c) (ctxOf (aY m c)) (row (aA m c) 10) r) (row (aG m c) 0) (through (ctxOf (aP m c)) (aW m c) r) k
        else 0 := by
  unfold resBt modOf
  rw [sum_tokens]
  simp only [flag_lat, flag_ctx, one_ne_zero, if_true, if_false, hidden_lat, hidden_ctx]
  rw [sum_ite_ite_zero, sum_ite_ite_zero]
  rfl

/-! ## The arrays after the run -/

theorem flushed9_eq (t : Fin cfg0.N) : (dats m 0 c).flushed 9 t = ((cfg0.win 9).blk t).view.read (Elt Ideal) (resX m c) := by
  have e := (blocks_out t).1
  rw [Value.flushed9]
  funext j
  rw [View.read_apply]
  obtain ⟨r, k, rfl⟩ : ∃ (r : Fin 256) (k : Fin 1024), j = ix2 r k := idx2 j
  refine (at9 m c t r k).trans (congrArg₂ (tokenGrad m c) (Fin.ext ?_) (Fin.ext ?_))
  · show t.val * 256 + r.val = win0_9.index t 0 * 256 + 1 * r.val; rw [e.1]; omega
  · show k.val = win0_9.index t 1 * 1024 + 1 * k.val; rw [e.2]; omega

theorem flushed10_eq (t : Fin cfg0.N) : (dats m 0 c).flushed 10 t = ((cfg0.win 10).blk t).view.read (Elt Ideal) (resY m c) := by
  have e := (blocks_out t).2.1
  rw [Value.flushed10]
  funext j
  rw [View.read_apply]
  obtain ⟨r, k, rfl⟩ : ∃ (r : Fin 256) (k : Fin 1024), j = ix2 r k := idx2 j
  refine (at10 m c t r k).trans (congrArg₂ (branchGrad m c) (Fin.ext ?_) (Fin.ext ?_))
  · show t.val * 256 + r.val = win0_10.index t 0 * 256 + 1 * r.val; rw [e.1]; omega
  · show k.val = win0_10.index t 1 * 1024 + 1 * k.val; rw [e.2]; omega

theorem flushed11_eq (t : Fin cfg0.N) (hf : (cfg0.win 11).flush t = true) :
    (dats m 0 c).flushed 11 t = ((cfg0.win 11).blk t).view.read (Elt Ideal) (resG m c) := by
  have e := (blocks_out t).2.2.1
  have ht : t.val = 16 := by have := (flush0_11 t).mp hf; have := lt17 t; omega
  rw [Value.flushed11]
  funext j
  rw [View.read_apply]
  obtain ⟨r, k, rfl⟩ : ∃ (r : Fin 1) (k : Fin 1024), j = ix2 r k := idx2 j
  obtain rfl : r = 0 := Subsingleton.elim _ _
  refine (last11 m c t ht k).trans (congrArg (resGt m c) (Fin.ext ?_))
  show k.val = win0_11.index t 1 * 1024 + 1 * k.val; rw [e.2]; omega

theorem flushed12_eq (t : Fin cfg0.N) (hf : (cfg0.win 12).flush t = true) :
    (dats m 0 c).flushed 12 t = ((cfg0.win 12).blk t).view.read (Elt Ideal) (resA m c) := by
  have e := (blocks_out t).2.2.2.1
  have ht : t.val = 16 := by have := (flush0_12 t).mp hf; have := lt17 t; omega
  rw [Value.flushed12]
  funext j
  rw [View.read_apply]
  obtain ⟨r, k, rfl⟩ : ∃ (r : Fin 16) (k : Fin 1024), j = ix2 r k := idx2 j
  refine (last12 m c t ht r k).trans (congrArg₂ (resAt m c) (Fin.ext ?_) (Fin.ext ?_))
  · show r.val = win0_12.index t 0 * 16 + 1 * r.val; rw [e.1]; omega
  · show k.val = win0_12.index t 1 * 1024 + 1 * k.val; rw [e.2]; omega

theorem flushed13_eq (t : Fin cfg0.N) (hf : (cfg0.win 13).flush t = true) :
    (dats m 0 c).flushed 13 t = ((cfg0.win 13).blk t).view.read (Elt Ideal) (resB m c) := by
  have e := (blocks_out t).2.2.2.2
  have ht : t.val = 16 := by have := (flush0_13 t).mp hf; have := lt17 t; omega
  rw [Value.flushed13]
  funext j
  rw [View.read_apply]
  obtain ⟨r, k, rfl⟩ : ∃ (r : Fin 16) (k : Fin 1024), j = ix2 r k := idx2 j
  refine (last13 m c t ht r k).trans (congrArg₂ (resBt m c) (Fin.ext ?_) (Fin.ext ?_))
  · show r.val = win0_13.index t 0 * 16 + 1 * r.val; rw [e.1]; omega
  · show k.val = win0_13.index t 1 * 1024 + 1 * k.val; rw [e.2]; omega

theorem point (n : Nat) (h : n < 17) : ∃ t : Fin cfg0.N, t.val = n := ⟨⟨n, by have hN : cfg0.N = 17 := N_0; omega⟩, rfl⟩

theorem cover9 (i : S4352x1024.Idx) : ∃ t : Fin cfg0.N, (cfg0.win 9).flush t = true ∧ i ∈ ((cfg0.win 9).blk t).view.set := by
  have h0 : (i 0 : Nat) < 4352 := (i 0).isLt
  have h1 : (i 1 : Nat) < 1024 := (i 1).isLt
  obtain ⟨t, ht⟩ := point ((i 0 : Nat) / 256) (by omega)
  have e := (blocks_out t).1
  refine ⟨t, flush0_9 _, ?_⟩
  show i ∈ ((View.whole main_v0_0).slice (win0_9.rect t)).set
  rw [View.set_slice_whole, Rect.mem_set_unit]
  intro a
  match a with
  | ⟨0, _⟩ => show win0_9.index t 0 * 256 ≤ (i 0 : Nat) ∧ (i 0 : Nat) < win0_9.index t 0 * 256 + 256; rw [e.1]; omega
  | ⟨1, _⟩ => show win0_9.index t 1 * 1024 ≤ (i 1 : Nat) ∧ (i 1 : Nat) < win0_9.index t 1 * 1024 + 1024; rw [e.2]; omega

theorem cover10 (i : S4352x1024.Idx) : ∃ t : Fin cfg0.N, (cfg0.win 10).flush t = true ∧ i ∈ ((cfg0.win 10).blk t).view.set := by
  have h0 : (i 0 : Nat) < 4352 := (i 0).isLt
  have h1 : (i 1 : Nat) < 1024 := (i 1).isLt
  obtain ⟨t, ht⟩ := point ((i 0 : Nat) / 256) (by omega)
  have e := (blocks_out t).2.1
  refine ⟨t, flush0_10 _, ?_⟩
  show i ∈ ((View.whole main_v0_1).slice (win0_10.rect t)).set
  rw [View.set_slice_whole, Rect.mem_set_unit]
  intro a
  match a with
  | ⟨0, _⟩ => show win0_10.index t 0 * 256 ≤ (i 0 : Nat) ∧ (i 0 : Nat) < win0_10.index t 0 * 256 + 256; rw [e.1]; omega
  | ⟨1, _⟩ => show win0_10.index t 1 * 1024 ≤ (i 1 : Nat) ∧ (i 1 : Nat) < win0_10.index t 1 * 1024 + 1024; rw [e.2]; omega

theorem cover11 (i : S1x1024.Idx) : ∃ t : Fin cfg0.N, (cfg0.win 11).flush t = true ∧ i ∈ ((cfg0.win 11).blk t).view.set := by
  have h0 : (i 0 : Nat) < 1 := (i 0).isLt
  have h1 : (i 1 : Nat) < 1024 := (i 1).isLt
  obtain ⟨t, ht⟩ := point 16 (by omega)
  have e := (blocks_out t).2.2.1
  refine ⟨t, (flush0_11 t).mpr (by omega), ?_⟩
  show i ∈ ((View.whole main_v0_2).slice (win0_11.rect t)).set
  rw [View.set_slice_whole, Rect.mem_set_unit]
  intro a
  match a with
  | ⟨0, _⟩ => show win0_11.index t 0 * 1 ≤ (i 0 : Nat) ∧ (i 0 : Nat) < win0_11.index t 0 * 1 + 1; rw [e.1]; omega
  | ⟨1, _⟩ => show win0_11.index t 1 * 1024 ≤ (i 1 : Nat) ∧ (i 1 : Nat) < win0_11.index t 1 * 1024 + 1024; rw [e.2]; omega

theorem cover12 (i : S16x1024.Idx) : ∃ t : Fin cfg0.N, (cfg0.win 12).flush t = true ∧ i ∈ ((cfg0.win 12).blk t).view.set := by
  have h0 : (i 0 : Nat) < 16 := (i 0).isLt
  have h1 : (i 1 : Nat) < 1024 := (i 1).isLt
  obtain ⟨t, ht⟩ := point 16 (by omega)
  have e := (blocks_out t).2.2.2.1
  refine ⟨t, (flush0_12 t).mpr (by omega), ?_⟩
  show i ∈ ((View.whole main_v0_3).slice (win0_12.rect t)).set
  rw [View.set_slice_whole, Rect.mem_set_unit]
  intro a
  match a with
  | ⟨0, _⟩ => show win0_12.index t 0 * 16 ≤ (i 0 : Nat) ∧ (i 0 : Nat) < win0_12.index t 0 * 16 + 16; rw [e.1]; omega
  | ⟨1, _⟩ => show win0_12.index t 1 * 1024 ≤ (i 1 : Nat) ∧ (i 1 : Nat) < win0_12.index t 1 * 1024 + 1024; rw [e.2]; omega

theorem cover13 (i : S16x1024.Idx) : ∃ t : Fin cfg0.N, (cfg0.win 13).flush t = true ∧ i ∈ ((cfg0.win 13).blk t).view.set := by
  have h0 : (i 0 : Nat) < 16 := (i 0).isLt
  have h1 : (i 1 : Nat) < 1024 := (i 1).isLt
  obtain ⟨t, ht⟩ := point 16 (by omega)
  have e := (blocks_out t).2.2.2.2
  refine ⟨t, (flush0_13 t).mpr (by omega), ?_⟩
  show i ∈ ((View.whole main_v0_4).slice (win0_13.rect t)).set
  rw [View.set_slice_whole, Rect.mem_set_unit]
  intro a
  match a with
  | ⟨0, _⟩ => show win0_13.index t 0 * 16 ≤ (i 0 : Nat) ∧ (i 0 : Nat) < win0_13.index t 0 * 16 + 16; rw [e.1]; omega
  | ⟨1, _⟩ => show win0_13.index t 1 * 1024 ≤ (i 1 : Nat) ∧ (i 1 : Nat) < win0_13.index t 1 * 1024 + 1024; rw [e.2]; omega

theorem final9 : (dats m 0 c).arrAt 9 cfg0.N = resX m c := (dats m 0 c).arrAt_eq_of_cover 9 (resX m c) (fun t _ => flushed9_eq m c t) cover9
theorem final10 : (dats m 0 c).arrAt 10 cfg0.N = resY m c := (dats m 0 c).arrAt_eq_of_cover 10 (resY m c) (fun t _ => flushed10_eq m c t) cover10
theorem final11 : (dats m 0 c).arrAt 11 cfg0.N = resG m c := (dats m 0 c).arrAt_eq_of_cover 11 (resG m c) (flushed11_eq m c) cover11
theorem final12 : (dats m 0 c).arrAt 12 cfg0.N = resA m c := (dats m 0 c).arrAt_eq_of_cover 12 (resA m c) (flushed12_eq m c) cover12
theorem final13 : (dats m 0 c).arrAt 13 cfg0.N = resB m c := (dats m 0 c).arrAt_eq_of_cover 13 (resB m c) (flushed13_eq m c) cover13

end Arrays

end Cert.Kernel15Ideal.Grad

namespace Cert.Proof.FfnEntry0

open Cert.Kernel15Ideal.Grad

variable (m : (ℓ : Loc Cert.Kernel15Ideal.nD Cert.Kernel15Ideal.τ Cert.Kernel15Ideal.sig) → Buf (Elt Ideal) ℓ)
  (m' : (ℓ : Loc Cert.Reference15Ideal.nD Cert.Reference15Ideal.τ Cert.Reference15Ideal.sig) → Buf (Elt Ideal) ℓ) (c : Dev 1)

/-- Two memories with the same arguments. -/
abbrev Agree : Prop :=
  m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
  ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
  ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
  ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
  ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
  ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
  ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
  ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
  ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)

set_option maxHeartbeats 4000000 in
theorem ref0 (h : Agree m m' c) : Cert.Reference15Ideal.Value.res_main_v143 m' c = resX m c := by
  obtain ⟨h0, h1, h2, h3, h4, h5, h6, h7, h8⟩ := h
  unfold Cert.Reference15Ideal.Value.res_main_v143
  rw [h0, h1, h2, h3, h4, h5, h6, h7, h8]
  funext i
  obtain ⟨r, k, rfl⟩ := idx2 i
  pointwise
  show _ = tokenGrad m c r k
  by_cases h : r.val < 4096
  · exact (dif_pos h).trans (congrFun (tokenGrad_lat m c ⟨r.val, h⟩) k).symm
  · have e : inCtx ⟨r.val - 4096, by omega⟩ = r := Fin.ext (by show 4096 + (r.val - 4096) = r.val; omega)
    have := congrFun (tokenGrad_ctx m c ⟨r.val - 4096, by omega⟩) k
    rw [e] at this
    exact (dif_neg h).trans this.symm

set_option maxHeartbeats 4000000 in
theorem ref1 (h : Agree m m' c) : Cert.Reference15Ideal.Value.res_main_v145 m' c = resY m c := by
  obtain ⟨h0, h1, h2, h3, h4, h5, h6, h7, h8⟩ := h
  unfold Cert.Reference15Ideal.Value.res_main_v145
  rw [h0, h1, h2, h3, h4, h5, h6, h7, h8]
  funext i
  obtain ⟨r, k, rfl⟩ := idx2 i
  pointwise
  show _ = branchGrad m c r k
  by_cases h : r.val < 4096
  · exact (dif_pos h).trans (branchGrad_lat m c ⟨r.val, h⟩ k).symm
  · have e : inCtx ⟨r.val - 4096, by omega⟩ = r := Fin.ext (by show 4096 + (r.val - 4096) = r.val; omega)
    have := branchGrad_ctx m c ⟨r.val - 4096, by omega⟩ k
    rw [e] at this
    exact (dif_neg h).trans this.symm

set_option maxHeartbeats 4000000 in
theorem ref2 (h : Agree m m' c) : Cert.Reference15Ideal.Value.res_main_v114 m' c = resG m c := by
  obtain ⟨h0, h1, h2, h3, h4, h5, h6, h7, h8⟩ := h
  unfold Cert.Reference15Ideal.Value.res_main_v114
  rw [h0, h1, h2, h4, h5, h7, h8]
  funext i
  obtain ⟨r, k, rfl⟩ := idx2 i
  pointwise
  show _ = resGt m c k
  rw [resGt_eq, add_comm (G := EReal)]
  rfl

set_option maxHeartbeats 4000000 in
theorem ref3 (h : Agree m m' c) : Cert.Reference15Ideal.Value.res_main_v142 m' c = resA m c := by
  obtain ⟨h0, h1, h2, h3, h4, h5, h6, h7, h8⟩ := h
  unfold Cert.Reference15Ideal.Value.res_main_v142
  rw [h0, h1, h2, h3, h4, h5, h6, h7, h8]
  funext i
  obtain ⟨r, k, rfl⟩ := idx2 i
  pointwise
  show ((if h : 10 ≤ r.val ∧ r.val - 10 < 1 then ∑ s : Fin 256, back (row (ctxOf (aD m c)) s) (resid (aE m c) (ctxOf (aY m c)) (row (aA m c) 10) s) (row (aG m c) 0) (row (aB m c) 12) (through (ctxOf (aP m c)) (aW m c) s) k * ctxOf (aY m c) (ix2 s k) else (0 : EReal))
      + if h : 2 ≤ r.val ∧ r.val - 2 < 1 then ∑ s : Fin 4096, back (row (latOf (aD m c)) s) (resid (aX m c) (latOf (aY m c)) (row (aA m c) 2) s) (row (aG m c) 0) (row (aB m c) 4) (through (latOf (aP m c)) (aW m c) s) k * latOf (aY m c) (ix2 s k) else 0) = resAt m c r k
  rw [resAt_eq]
  simp only [tokenGrad_lat, tokenGrad_ctx]
  fin_cases r <;> simp

set_option maxHeartbeats 4000000 in
theorem ref4 (h : Agree m m' c) : Cert.Reference15Ideal.Value.res_main_v140 m' c = resB m c := by
  obtain ⟨h0, h1, h2, h3, h4, h5, h6, h7, h8⟩ := h
  unfold Cert.Reference15Ideal.Value.res_main_v140
  rw [h0, h1, h2, h3, h4, h7, h8]
  funext i
  obtain ⟨r, k, rfl⟩ := idx2 i
  pointwise
  show ((((if h : 12 ≤ r.val ∧ r.val - 12 < 1 then ∑ s : Fin 256, dScale (resid (aE m c) (ctxOf (aY m c)) (row (aA m c) 10) s) (row (aG m c) 0)
        (through (ctxOf (aP m c)) (aW m c) s) k else (0 : EReal))
      + if h : 11 ≤ r.val ∧ r.val - 11 < 1 then ∑ s : Fin 256, through (ctxOf (aP m c)) (aW m c) s k else 0)
      + if h : 4 ≤ r.val ∧ r.val - 4 < 1 then ∑ s : Fin 4096, dScale (resid (aX m c) (latOf (aY m c)) (row (aA m c) 2) s) (row (aG m c) 0)
        (through (latOf (aP m c)) (aW m c) s) k else 0)
      + if h : 3 ≤ r.val ∧ r.val - 3 < 1 then ∑ s : Fin 4096, through (latOf (aP m c)) (aW m c) s k else 0) = resBt m c r k
  rw [resBt_eq]
  fin_cases r <;> simp

set_option maxHeartbeats 8000000 in
/-- The kernel's results are those of the derivative of the entry's forward lines. -/
theorem algebraic : Cert.algebraic_Kernel15Ideal_Reference15Ideal := by
  intro m ρ m' ρ' pre agree
  refine ⟨fun c => resX m c, fun c => resY m c, fun c => resG m c, fun c => resA m c, fun c => resB m c,
    (θ_run Cert.Kernel15Ideal.defs _ _).mono (fun _ h c => ⟨(h c).1.trans (final9 m c), (h c).2.1.trans (final10 m c), (h c).2.2.1.trans (final11 m c), (h c).2.2.2.1.trans (final12 m c), (h c).2.2.2.2.1.trans (final13 m c), (h c).2.2.2.2.2⟩)
      (Cert.Kernel15Ideal.Value.run_blocks m ρ), ?_⟩
  refine (θ_run Cert.Reference15Ideal.defs _ _).mono (fun _ h c => ⟨(h c).1.trans (ref0 m m' c (agree c)), (h c).2.1.trans (ref1 m m' c (agree c)), (h c).2.2.1.trans (ref2 m m' c (agree c)), (h c).2.2.2.1.trans (ref3 m m' c (agree c)), (h c).2.2.2.2.1.trans (ref4 m m' c (agree c)), (h c).2.2.2.2.2⟩)
    (Cert.Reference15Ideal.Value.run (F := Ideal) m' ρ')

end Cert.Proof.FfnEntry0
-- ==== Proof.Forward.lean ====
/-
  The forward pass's matrix product, gated unit and modulated norm, entry by entry over the extended reals.
-/
module

public import Idealize.ShloMosaic.PureOps.Ideal
public import Idealize.ShloMosaic.Lib.Pointwise
public import proofs.«01_k».proof.Proof.PreNorm

@[expose] public section

noncomputable section

open Idealize.ShloMosaic
open Cert.PreNorm

namespace Cert.Forward

/-- Entry `(r, l)` of `x · w`. -/
def plainAt {M K N : Nat} (x : Mat M K) (w : Mat K N) (r : Fin M) (l : Fin N) : EReal := ∑ k : Fin K, x (ix2 r k) * w (ix2 k l)

/-- The product `x · w`. -/
def plain {M K N : Nat} (x : Mat M K) (w : Mat K N) : Mat M N := fun i => plainAt x w (i 0) (i 1)

/-- The gated unit `silu g · u`. -/
def gated (g u : EReal) : EReal := g * Ideal.logistic g * u

/-- Column `l` of the projection's first half, and of its second. -/
abbrev first (l : Fin 2816) : Fin 5632 := ⟨l.val, by omega⟩
abbrev second (l : Fin 2816) : Fin 5632 := ⟨2816 + l.val, by omega⟩

/-- The two halves of the projection below each other: `a = 0` the gate, `a = 1` the other. -/
def stacked {n : Nat} (x : Mat n 1024) (w : Mat 1024 5632) : (⟨3, ![2, n, 2816]⟩ : Shape).Idx → EReal := fun i =>
  plainAt x w (i 1) (if (i 0).val = 0 then first (i 2) else second (i 2))

/-- The gated unit of every entry. -/
def unit {n : Nat} (x : Mat n 1024) (w : Mat 1024 5632) : Mat n 2816 := fun i =>
  gated (plainAt x w (i 0) (first (i 1))) (plainAt x w (i 0) (second (i 1)))

/-- A token normed, scaled and shifted. -/
def normed (x g s b : Row) : Row := fun k => x k * inv x * g k * (1 + s k) + b k

/-- Token `r` of the latents and the context below them, normed with its own rows of the modulation `mb`. -/
def tokenNormed (x : Mat 4096 1024) (e : Mat 256 1024) (g : Mat 1 1024) (mb : Mat 16 1024) (r : Fin 4352) : Row :=
  normed (row (joined x e) r) (row g 0) (pick (flag r) mb 1 9) (pick (flag r) mb 0 8)

/-- All tokens. -/
def tokensNormed (x : Mat 4096 1024) (e : Mat 256 1024) (g : Mat 1 1024) (mb : Mat 16 1024) : Mat 4352 1024 :=
  fun i => tokenNormed x e g mb (i 0) (i 1)

end Cert.Forward
-- ==== Proof.FfnGate1.lean ====
/-
  `l1_ffn_in`: layer 1's feed-forward entry, its two halves and their gated unit. The kernel's blocks of rows are the rows of one product.
-/
module

public import proofs.«01_k».proof.Defs
public import proofs.«01_k».proof.Proof.Products
public import proofs.«01_k».proof.Proof.Forward
public import proofs.«01_k».proof.Proof.Gen.Kernel16Ideal.Value
public import proofs.«01_k».proof.Proof.Gen.Reference16Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.Forward

namespace Cert.Kernel16Ideal.Result

open Cert.Kernel16Ideal Cert.Kernel16Ideal.Gen

variable (m : (ℓ : Loc nD τ sig) → Buf (Elt Ideal) ℓ) (ρ : Dev nD → PrngReg)

/-! ## One block, entry by entry -/

theorem gate_apply (x : Vec Ideal S256x1024 .bf16) (w : Vec Ideal S1024x2816 .bf16) (j : S1x256x2816.Idx) :
    k0_pay3 x w j = plainAt x w (j 1) (j 2) := by
  unfold k0_pay3 k0_pay1 plainAt
  pointwise

theorem other_apply (x : Vec Ideal S256x1024 .bf16) (w : Vec Ideal S1024x2816 .bf16) (j : S1x256x2816.Idx) :
    k0_pay4 x w j = plainAt x w (j 1) (j 2) := by
  unfold k0_pay4 k0_pay2 plainAt
  pointwise

theorem unit_apply (x : Vec Ideal S256x1024 .bf16) (w v : Vec Ideal S1024x2816 .bf16) (r : Fin 256) (l : Fin 2816) :
    k0_pay5 x w v (ix2 r l) = gated (plainAt x w r l) (plainAt x v r l) := by
  unfold k0_pay5 k0_pay1 k0_pay2 gated plainAt
  pointwise

/-- What the body leaves in its first buffer: the gate, and below it the other half. -/
theorem out_apply (x : Vec Ideal S256x1024 .bf16) (w v : Vec Ideal S1024x2816 .bf16) (y : S2x256x2816.Idx) :
    out0_3 x w v y = if (y 0).val = 0 then plainAt x w (y 1) (y 2) else plainAt x v (y 1) (y 2) := by
  unfold out0_3
  refine View.canon_eq_of_allAt _ _ _ (cover0_3 _ _ y) ?_
  intro q hq z hz
  rw [View.ld_unit_zero zero_offsets, View.ld_unit_zero zero_offsets, View.ld_unit_zero zero_offsets] at hq
  simp only [List.mem_cons, List.not_mem_nil, or_false] at hq
  rcases hq with rfl | rfl
  · subst hz
    have h0 : (z 0 : Nat) < 1 := (z 0).isLt
    show k0_pay4 (F := Ideal) _ _ z = _
    rw [other_apply, if_neg (by show ¬ 1 + 1 * (z 0 : Nat) = 0; omega)]
    have e1 : r0_3.emb z 1 = z 1 := Fin.ext (by show 0 + 1 * (z 1 : Nat) = z 1; omega)
    have e2 : r0_3.emb z 2 = z 2 := Fin.ext (by show 0 + 1 * (z 2 : Nat) = z 2; omega)
    rw [e1, e2]
  · subst hz
    have h0 : (z 0 : Nat) < 1 := (z 0).isLt
    show k0_pay3 (F := Ideal) _ _ z = _
    rw [gate_apply, if_pos (by show 0 + 1 * (z 0 : Nat) = 0; omega)]
    have e1 : r0_2.emb z 1 = z 1 := Fin.ext (by show 0 + 1 * (z 1 : Nat) = z 1; omega)
    have e2 : r0_2.emb z 2 = z 2 := Fin.ext (by show 0 + 1 * (z 2 : Nat) = z 2; omega)
    rw [e1, e2]

/-! ## The whole arrays -/

/-- The two halves of the projection. -/
def halves (c : Dev nD) : Buf (Elt Ideal) ((c : Thread nD τ).loc main_v0_0) :=
  stacked (n := 4096) (m ((c : Thread nD τ).loc main_arg0)) (m ((c : Thread nD τ).loc main_arg1))

/-- The gated unit. -/
def act (c : Dev nD) : Buf (Elt Ideal) ((c : Thread nD τ).loc main_v0_1) :=
  unit (n := 4096) (m ((c : Thread nD τ).loc main_arg0)) (m ((c : Thread nD τ).loc main_arg1))

/-- Which blocks the point `t` reads and which it writes. -/
theorem blocks_at : ∀ t : Fin grid0.N, (win0_0.index t 0 = t.val ∧ win0_0.index t 1 = 0)
    ∧ (win0_1.index t 0 = 0 ∧ win0_1.index t 1 = 0) ∧ (win0_2.index t 0 = 0 ∧ win0_2.index t 1 = 1)
    ∧ (win0_3.index t 0 = 0 ∧ win0_3.index t 1 = t.val ∧ win0_3.index t 2 = 0) ∧ (win0_4.index t 0 = t.val ∧ win0_4.index t 1 = 0) := by
  decide +kernel

theorem lt_points (t : Fin cfg0.N) : t.val < 16 := by have := t.isLt; have hN : cfg0.N = 16 := N_0; omega

/-- Row `r` of block `t`. -/
abbrev tok (t : Fin cfg0.N) (r : Fin 256) : Fin 4096 := ⟨t.val * 256 + r.val, by have := lt_points t; omega⟩

theorem read_x (c : Dev nD) (t : Fin cfg0.N) (r : Fin 256) (k : Fin 1024) :
    iblk m c 0 t (ix2 r k) = m ((c : Thread nD τ).loc main_arg0) (ix2 (tok t r) k) := by
  obtain ⟨⟨e0, e1⟩, -⟩ := blocks_at t
  show V m c main_arg0 _ = m _ _
  rw [V_main_arg0]
  congr 1
  funext a
  apply Fin.ext
  match a with
  | ⟨0, _⟩ => show win0_0.index t 0 * 256 + 1 * r.val = t.val * 256 + r.val; rw [e0]; omega
  | ⟨1, _⟩ => show win0_0.index t 1 * 1024 + 1 * k.val = k.val; rw [e1]; omega

theorem read_first (c : Dev nD) (t : Fin cfg0.N) (k : Fin 1024) (l : Fin 2816) :
    iblk m c 1 t (ix2 k l) = m ((c : Thread nD τ).loc main_arg1) (ix2 k (first l)) := by
  obtain ⟨-, ⟨e0, e1⟩, -⟩ := blocks_at t
  show V m c main_arg1 _ = m _ _
  rw [V_main_arg1]
  congr 1
  funext a
  apply Fin.ext
  match a with
  | ⟨0, _⟩ => show win0_1.index t 0 * 1024 + 1 * k.val = k.val; rw [e0]; omega
  | ⟨1, _⟩ => show win0_1.index t 1 * 2816 + 1 * l.val = l.val; rw [e1]; omega

theorem read_second (c : Dev nD) (t : Fin cfg0.N) (k : Fin 1024) (l : Fin 2816) :
    iblk m c 2 t (ix2 k l) = m ((c : Thread nD τ).loc main_arg1) (ix2 k (second l)) := by
  obtain ⟨-, -, ⟨e0, e1⟩, -⟩ := blocks_at t
  show V m c main_arg1 _ = m _ _
  rw [V_main_arg1]
  congr 1
  funext a
  apply Fin.ext
  match a with
  | ⟨0, _⟩ => show win0_2.index t 0 * 1024 + 1 * k.val = k.val; rw [e0]; omega
  | ⟨1, _⟩ => show win0_2.index t 1 * 2816 + 1 * l.val = 2816 + l.val; rw [e1]; omega

/-- Entry `(r, l)` of the two halves at block `t`. -/
theorem first_block (c : Dev nD) (t : Fin cfg0.N) (r : Fin 256) (l : Fin 2816) :
    plainAt (M := 256) (K := 1024) (N := 2816) (iblk m c 0 t) (iblk m c 1 t) r l
      = plainAt (M := 4096) (K := 1024) (N := 5632) (m ((c : Thread nD τ).loc main_arg0)) (m ((c : Thread nD τ).loc main_arg1)) (tok t r) (first l) := by
  unfold plainAt
  refine Finset.sum_congr (M := EReal) rfl fun k _ => ?_
  exact congrArg₂ (fun a b : EReal => a * b) (read_x m c t r k) (read_first m c t k l)

theorem second_block (c : Dev nD) (t : Fin cfg0.N) (r : Fin 256) (l : Fin 2816) :
    plainAt (M := 256) (K := 1024) (N := 2816) (iblk m c 0 t) (iblk m c 2 t) r l
      = plainAt (M := 4096) (K := 1024) (N := 5632) (m ((c : Thread nD τ).loc main_arg0)) (m ((c : Thread nD τ).loc main_arg1)) (tok t r) (second l) := by
  unfold plainAt
  refine Finset.sum_congr (M := EReal) rfl fun k _ => ?_
  exact congrArg₂ (fun a b : EReal => a * b) (read_x m c t r k) (read_second m c t k l)

theorem flushed3_eq (c : Dev nD) (t : Fin cfg0.N) :
    (dats m 0 c).flushed 3 t = ((cfg0.win 3).blk t).view.read (Elt Ideal) (halves m c) := by
  obtain ⟨-, -, -, ⟨e4, e5, e6⟩, -⟩ := blocks_at t
  rw [Value.flushed3]
  funext j
  rw [View.read_apply]
  show out0_3 _ _ _ ((cfg0.win 3).xinj (grid0.coords t) j) = halves m c (((cfg0.win 3).blk t).view.emb j)
  rw [out_apply]
  have j1 : (j 1 : Nat) < 256 := (j 1).isLt
  have j2 : (j 2 : Nat) < 2816 := (j 2).isLt
  have a0 : (((cfg0.win 3).blk t).view.emb j 0).val = (j 0).val := by show win0_3.index t 0 * 2 + 1 * (j 0).val = (j 0).val; rw [e4]; omega
  have a1 : ((cfg0.win 3).blk t).view.emb j 1 = tok t ⟨(j 1).val, j1⟩ := Fin.ext (by show win0_3.index t 1 * 256 + 1 * (j 1).val = t.val * 256 + (j 1).val; rw [e5]; omega)
  have a2 : ((cfg0.win 3).blk t).view.emb j 2 = (⟨(j 2).val, j2⟩ : Fin 2816) := Fin.ext (by show win0_3.index t 2 * 2816 + 1 * (j 2).val = (j 2).val; rw [e6]; omega)
  unfold halves stacked
  rw [a0, a1, a2]
  show (if (j 0).val = 0 then plainAt (M := 256) (K := 1024) (N := 2816) (iblk m c 0 t) (iblk m c 1 t) ⟨(j 1).val, j1⟩ ⟨(j 2).val, j2⟩
    else plainAt (M := 256) (K := 1024) (N := 2816) (iblk m c 0 t) (iblk m c 2 t) ⟨(j 1).val, j1⟩ ⟨(j 2).val, j2⟩) = _
  rw [first_block, second_block]
  split <;> rfl

theorem flushed4_eq (c : Dev nD) (t : Fin cfg0.N) :
    (dats m 0 c).flushed 4 t = ((cfg0.win 4).blk t).view.read (Elt Ideal) (act m c) := by
  obtain ⟨-, -, -, -, e4, e5⟩ := blocks_at t
  rw [Value.flushed4]
  unfold out0_4
  rw [View.canon_unit_zero zero_offsets, View.ld_unit_zero zero_offsets, View.ld_unit_zero zero_offsets, View.ld_unit_zero zero_offsets]
  funext j
  rw [View.read_apply]
  have j0 : (j 0 : Nat) < 256 := (j 0).isLt
  have j1 : (j 1 : Nat) < 2816 := (j 1).isLt
  have a0 : ((cfg0.win 4).blk t).view.emb j 0 = tok t ⟨(j 0).val, j0⟩ := Fin.ext (by show win0_4.index t 0 * 256 + 1 * (j 0).val = t.val * 256 + (j 0).val; rw [e4]; omega)
  have a1 : ((cfg0.win 4).blk t).view.emb j 1 = (⟨(j 1).val, j1⟩ : Fin 2816) := Fin.ext (by show win0_4.index t 1 * 2816 + 1 * (j 1).val = (j 1).val; rw [e5]; omega)
  have hj : (cfg0.win 4).xinj (grid0.coords t) j = ix2 (⟨(j 0).val, j0⟩ : Fin 256) (⟨(j 1).val, j1⟩ : Fin 2816) := by
    funext a
    match a with
    | ⟨0, _⟩ => rfl
    | ⟨1, _⟩ => rfl
  show k0_pay5 (F := Ideal) _ _ _ ((cfg0.win 4).xinj (grid0.coords t) j) = act m c (((cfg0.win 4).blk t).view.emb j)
  unfold act unit
  rw [a0, a1, hj, unit_apply, first_block, second_block]

/-- Every entry lies in one of the blocks. -/
theorem cover3 (i : S2x4096x2816.Idx) : ∃ t : Fin cfg0.N, (cfg0.win 3).flush t = true ∧ i ∈ ((cfg0.win 3).blk t).view.set := by
  have h0 : (i 0 : Nat) < 2 := (i 0).isLt
  have h1 : (i 1 : Nat) < 4096 := (i 1).isLt
  have h2 : (i 2 : Nat) < 2816 := (i 2).isLt
  have hN : cfg0.N = 16 := N_0
  obtain ⟨t, ht⟩ : ∃ t : Fin cfg0.N, t.val = (i 1 : Nat) / 256 := ⟨⟨(i 1 : Nat) / 256, by omega⟩, rfl⟩
  obtain ⟨-, -, -, ⟨e4, e5, e6⟩, -⟩ := blocks_at t
  refine ⟨t, flush0_3 _, ?_⟩
  show i ∈ ((View.whole main_v0_0).slice (win0_3.rect t)).set
  rw [View.set_slice_whole, Rect.mem_set_unit]
  intro a
  match a with
  | ⟨0, _⟩ => show win0_3.index t 0 * 2 ≤ (i 0 : Nat) ∧ (i 0 : Nat) < win0_3.index t 0 * 2 + 2; rw [e4]; omega
  | ⟨1, _⟩ => show win0_3.index t 1 * 256 ≤ (i 1 : Nat) ∧ (i 1 : Nat) < win0_3.index t 1 * 256 + 256; rw [e5]; omega
  | ⟨2, _⟩ => show win0_3.index t 2 * 2816 ≤ (i 2 : Nat) ∧ (i 2 : Nat) < win0_3.index t 2 * 2816 + 2816; rw [e6]; omega

theorem cover4 (i : S4096x2816.Idx) : ∃ t : Fin cfg0.N, (cfg0.win 4).flush t = true ∧ i ∈ ((cfg0.win 4).blk t).view.set := by
  have h0 : (i 0 : Nat) < 4096 := (i 0).isLt
  have h1 : (i 1 : Nat) < 2816 := (i 1).isLt
  have hN : cfg0.N = 16 := N_0
  obtain ⟨t, ht⟩ : ∃ t : Fin cfg0.N, t.val = (i 0 : Nat) / 256 := ⟨⟨(i 0 : Nat) / 256, by omega⟩, rfl⟩
  obtain ⟨-, -, -, -, e4, e5⟩ := blocks_at t
  refine ⟨t, flush0_4 _, ?_⟩
  show i ∈ ((View.whole main_v0_1).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; rw [e4]; omega
  | ⟨1, _⟩ => show win0_4.index t 1 * 2816 ≤ (i 1 : Nat) ∧ (i 1 : Nat) < win0_4.index t 1 * 2816 + 2816; rw [e5]; omega

/-- The result arrays after the run. -/
theorem final3 (c : Dev nD) : (dats m 0 c).arrAt 3 cfg0.N = halves m c :=
  (dats m 0 c).arrAt_eq_of_cover 3 (halves m c) (fun t _ => flushed3_eq m c t) cover3

theorem final4 (c : Dev nD) : (dats m 0 c).arrAt 4 cfg0.N = act m c :=
  (dats m 0 c).arrAt_eq_of_cover 4 (act m c) (fun t _ => flushed4_eq m c t) cover4

end Cert.Kernel16Ideal.Result

namespace Cert.Reference16Ideal.Result

open Cert.Reference16Ideal Cert.Reference16Ideal.Gen

/-- The reference's projection. -/
abbrev proj (x : FVec Ideal S4096x1024 .bf16) (w : FVec Ideal S1024x5632 .bf16) (e : FTy.bf16.bits < FTy.f32.bits) : FVec Ideal S4096x5632 .f32 :=
  Host.dotGeneral (F := Ideal) dot_S4096x1024_S1024x5632_S4096x5632_1_0_0_1_n_n none (extf .f32 x e) (extf .f32 w e)

abbrev gate (x : FVec Ideal S4096x1024 .bf16) (w : FVec Ideal S1024x5632 .bf16) : FVec Ideal S4096x2816 .bf16 :=
  truncf .bf16 (extractStridedSlice S4096x2816 ![0, 0] (proj x w bitsLt_bf16_f32) slices_S4096x5632_S4096x2816_0_0) bitsLt_bf16_f32
abbrev other (x : FVec Ideal S4096x1024 .bf16) (w : FVec Ideal S1024x5632 .bf16) : FVec Ideal S4096x2816 .bf16 :=
  truncf .bf16 (extractStridedSlice S4096x2816 ![0, 2816] (proj x w bitsLt_bf16_f32) slices_S4096x5632_S4096x2816_0_2816) bitsLt_bf16_f32

theorem gate_at (x : FVec Ideal S4096x1024 .bf16) (w : FVec Ideal S1024x5632 .bf16) (r : Fin 4096) (l : Fin 2816) :
    gate x w (ix2 r l) = plainAt x w r (first l) := by
  unfold gate plainAt; pointwise

theorem other_at (x : FVec Ideal S4096x1024 .bf16) (w : FVec Ideal S1024x5632 .bf16) (r : Fin 4096) (l : Fin 2816) :
    other x w (ix2 r l) = plainAt x w r (second l) := by
  unfold other plainAt; pointwise

/-- The reference's two halves below each other. -/
theorem host_stacked (x : FVec Ideal S4096x1024 .bf16) (w : FVec Ideal S1024x5632 .bf16) :
    concatenate S2x4096x2816 0 [⟨S1x4096x2816, broadcastInDim S1x4096x2816 ![1, 2] bcast_S4096x2816_S1x4096x2816_1_2 (gate x w)⟩,
      ⟨S1x4096x2816, broadcastInDim S1x4096x2816 ![1, 2] bcast_S4096x2816_S1x4096x2816_1_2 (other x w)⟩] concatenates_S1x4096x2816_S1x4096x2816_S2x4096x2816_d0
      = (stacked x w : FVec Ideal S2x4096x2816 .bf16) := by
  funext i
  obtain ⟨a, r, l, rfl⟩ : ∃ (a : Fin 2) (r : Fin 4096) (l : Fin 2816), i = ix3 a r l :=
    ⟨i 0, i 1, i 2, by funext b; match b with | ⟨0, _⟩ => rfl | ⟨1, _⟩ => rfl | ⟨2, _⟩ => rfl⟩
  show _ = plainAt x w r (if a.val = 0 then first l else second l)
  match a with
  | ⟨0, _⟩ =>
    rw [if_pos rfl, ← gate_at x w r l]
    generalize gate x w = g
    generalize other x w = u
    pointwise
  | ⟨1, _⟩ =>
    rw [if_neg (by simp), ← other_at x w r l]
    generalize gate x w = g
    generalize other x w = u
    pointwise

/-- The reference's gated unit. -/
theorem host_unit (x : FVec Ideal S4096x1024 .bf16) (w : FVec Ideal S1024x5632 .bf16) :
    truncf .bf16 (mulf (mulf (extf .f32 (gate x w) bitsLt_bf16_f32)
      (Host.divf (broadcastInDim S4096x2816 ![] bcast_S_S4096x2816 (constant S_ .f32 0x3F800000#32))
        (addf (broadcastInDim S4096x2816 ![] bcast_S_S4096x2816 (constant S_ .f32 0x3F800000#32)) (Host.exp (Host.negf (extf .f32 (gate x w) bitsLt_bf16_f32))))))
      (extf .f32 (other x w) bitsLt_bf16_f32)) bitsLt_bf16_f32
      = (unit x w : FVec Ideal S4096x2816 .bf16) := by
  funext i
  obtain ⟨r, l, rfl⟩ := PreNorm.idx2 i
  show _ = gated (plainAt x w r (first l)) (plainAt x w r (second l))
  rw [← gate_at x w r l, ← other_at x w r l]
  unfold gated
  generalize gate x w = g
  generalize other x w = u
  pointwise
  rfl

end Cert.Reference16Ideal.Result

namespace Cert.Proof.FfnGate1

/-- At exact arithmetic the kernel's blocks and the reference's two results are the same arrays. -/
theorem algebraic : Cert.algebraic_Kernel16Ideal_Reference16Ideal := by
  intro m ρ m' ρ' _ agree
  refine ⟨fun c => Cert.Kernel16Ideal.Result.halves m c, fun c => Cert.Kernel16Ideal.Result.act m c,
    (θ_run Cert.Kernel16Ideal.defs _ _).mono (fun _ h c => ⟨(h c).1.trans (Cert.Kernel16Ideal.Result.final3 m c),
      (h c).2.1.trans (Cert.Kernel16Ideal.Result.final4 m c), (h c).2.2⟩)
      (Cert.Kernel16Ideal.Value.run_blocks m ρ), ?_⟩
  refine (θ_run Cert.Reference16Ideal.defs _ _).mono (fun _ h c => ⟨(h c).1.trans ?_, (h c).2.1.trans ?_, (h c).2.2⟩)
    (Cert.Reference16Ideal.Value.run (F := Ideal) m' ρ')
  · rw [(agree c).1, (agree c).2]
    exact Cert.Reference16Ideal.Result.host_stacked _ _
  · rw [(agree c).1, (agree c).2]
    exact Cert.Reference16Ideal.Result.host_unit _ _

end Cert.Proof.FfnGate1
-- ==== Proof.FfnExit1.lean ====
/-
  `l1_ffn_out`: layer 1's feed-forward exit. The kernel's tiles are the blocks of one matrix product.
-/
module

public import proofs.«01_k».proof.Defs
public import proofs.«01_k».proof.Proof.Products
public import proofs.«01_k».proof.Proof.Forward
public import proofs.«01_k».proof.Proof.Gen.Kernel17Ideal.Value
public import proofs.«01_k».proof.Proof.Gen.Reference17Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.Forward

namespace Cert.Kernel17Ideal.Result

open Cert.Kernel17Ideal Cert.Kernel17Ideal.Gen

variable (m : (ℓ : Loc nD τ sig) → Buf (Elt Ideal) ℓ) (ρ : Dev nD → PrngReg)

/-- One tile, entry by entry. -/
theorem tile_apply (x : Vec Ideal S1024x2816 .bf16) (y : Vec Ideal S2816x1024 .bf16) (j : S1024x1024.Idx) :
    k0_pay1 x y j = ∑ k : Fin 2816, (x (ix2 (j 0) k) : EReal) * y (ix2 k (j 1)) := by
  unfold k0_pay1
  pointwise

/-- The whole product. -/
def result (c : Dev nD) : Buf (Elt Ideal) ((c : Thread nD τ).loc main_v0) :=
  plain (m ((c : Thread nD τ).loc main_arg0)) (m ((c : Thread nD τ).loc main_arg1))

/-- Which blocks the point `t` reads and which tile it writes. -/
theorem blocks_at : ∀ t : Fin grid0.N, (win0_0.index t 0 = t.val ∧ win0_0.index t 1 = 0)
    ∧ (win0_1.index t 0 = 0 ∧ win0_1.index t 1 = 0) ∧ (win0_2.index t 0 = t.val ∧ win0_2.index t 1 = 0) := by
  decide +kernel

/-- What the point `t` writes back is its tile of the whole product. -/
theorem flushed_eq (c : Dev nD) (t : Fin cfg0.N) :
    (dats m 0 c).flushed 2 t = ((cfg0.win 2).blk t).view.read (Elt Ideal) (result m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = plain _ _ (((cfg0.win 2).blk t).view.emb j)
  rw [tile_apply]
  unfold plain plainAt
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 1024 + 1 * (j 0).val = win0_2.index t 0 * 1024 + 1 * (j 0).val; rw [e0, e4]
    | ⟨1, _⟩ => show win0_0.index t 1 * 2816 + 1 * k.val = k.val; rw [e1]; omega
  · show V m c main_arg1 _ = m _ _
    rw [V_main_arg1]
    congr 1
    funext a
    apply Fin.ext
    match a with
    | ⟨0, _⟩ => show win0_1.index t 0 * 2816 + 1 * k.val = k.val; rw [e2]; omega
    | ⟨1, _⟩ => show win0_1.index t 1 * 1024 + 1 * (j 1).val = win0_2.index t 1 * 1024 + 1 * (j 1).val; rw [e3, e5]

/-- Every entry lies in one of the tiles. -/
theorem cover (i : S4096x1024.Idx) : ∃ t : Fin cfg0.N, (cfg0.win 2).flush t = true ∧ i ∈ ((cfg0.win 2).blk t).view.set := by
  have h0 : (i 0 : Nat) < 4096 := (i 0).isLt
  have h1 : (i 1 : Nat) < 1024 := (i 1).isLt
  have hN : cfg0.N = 4 := N_0
  obtain ⟨t, ht⟩ : ∃ t : Fin cfg0.N, t.val = (i 0 : Nat) / 1024 := ⟨⟨(i 0 : Nat) / 1024, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1024 ≤ (i 0 : Nat) ∧ (i 0 : Nat) < win0_2.index t 0 * 1024 + 1024; rw [e4]; omega
  | ⟨1, _⟩ => show win0_2.index t 1 * 1024 ≤ (i 1 : Nat) ∧ (i 1 : Nat) < win0_2.index t 1 * 1024 + 1024; rw [e5]; omega

/-- The result array after the run. -/
theorem final (c : Dev nD) : (dats m 0 c).arrAt 2 cfg0.N = result m c :=
  (dats m 0 c).arrAt_eq_of_cover 2 (result m c) (fun t _ => flushed_eq m c t) cover

end Cert.Kernel17Ideal.Result

namespace Cert.Reference17Ideal.Result

open Cert.Reference17Ideal Cert.Reference17Ideal.Gen

/-- The reference's product. -/
theorem host_product (x : FVec Ideal S4096x2816 .bf16) (w : FVec Ideal S2816x1024 .bf16) (e : FTy.bf16.bits < FTy.f32.bits) :
    Host.dotGeneral (F := Ideal) dot_S4096x2816_S2816x1024_S4096x1024_1_0_0_1_n_n none (extf .f32 x e) (extf .f32 w e)
      = (plain x w : FVec Ideal S4096x1024 .f32) := by
  funext i
  unfold plain plainAt
  pointwise

end Cert.Reference17Ideal.Result

namespace Cert.Proof.FfnExit1

/-- At exact arithmetic the kernel's tiles and the reference's product are one array. -/
theorem algebraic : Cert.algebraic_Kernel17Ideal_Reference17Ideal := by
  intro m ρ m' ρ' _ agree
  refine ⟨fun c => Cert.Kernel17Ideal.Result.result m c,
    (θ_run Cert.Kernel17Ideal.defs _ _).mono (fun _ h c => ⟨(h c).1.trans (Cert.Kernel17Ideal.Result.final m c), (h c).2⟩)
      (Cert.Kernel17Ideal.Value.run_blocks m ρ), ?_⟩
  refine (θ_run Cert.Reference17Ideal.defs _ _).mono (fun _ h c => ⟨(h c).1.trans ?_, (h c).2⟩)
    (Cert.Reference17Ideal.Value.run (F := Ideal) m' ρ')
  rw [(agree c).1, (agree c).2]
  exact Cert.Reference17Ideal.Result.host_product _ _ _

end Cert.Proof.FfnExit1
-- ==== Proof.FfnGate0.lean ====
/-
  `l0_ffn_in`: layer 0's feed-forward entry, its two halves and their gated unit. The kernel's blocks of rows are the rows of one product.
-/
module

public import proofs.«01_k».proof.Defs
public import proofs.«01_k».proof.Proof.Products
public import proofs.«01_k».proof.Proof.Forward
public import proofs.«01_k».proof.Proof.Gen.Kernel18Ideal.Value
public import proofs.«01_k».proof.Proof.Gen.Reference18Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.Forward

namespace Cert.Kernel18Ideal.Result

open Cert.Kernel18Ideal Cert.Kernel18Ideal.Gen

variable (m : (ℓ : Loc nD τ sig) → Buf (Elt Ideal) ℓ) (ρ : Dev nD → PrngReg)

/-! ## One block, entry by entry -/

theorem gate_apply (x : Vec Ideal S272x1024 .bf16) (w : Vec Ideal S1024x2816 .bf16) (j : S1x272x2816.Idx) :
    k0_pay3 x w j = plainAt x w (j 1) (j 2) := by
  unfold k0_pay3 k0_pay1 plainAt
  pointwise

theorem other_apply (x : Vec Ideal S272x1024 .bf16) (w : Vec Ideal S1024x2816 .bf16) (j : S1x272x2816.Idx) :
    k0_pay4 x w j = plainAt x w (j 1) (j 2) := by
  unfold k0_pay4 k0_pay2 plainAt
  pointwise

theorem unit_apply (x : Vec Ideal S272x1024 .bf16) (w v : Vec Ideal S1024x2816 .bf16) (r : Fin 272) (l : Fin 2816) :
    k0_pay5 x w v (ix2 r l) = gated (plainAt x w r l) (plainAt x v r l) := by
  unfold k0_pay5 k0_pay1 k0_pay2 gated plainAt
  pointwise

/-- What the body leaves in its first buffer: the gate, and below it the other half. -/
theorem out_apply (x : Vec Ideal S272x1024 .bf16) (w v : Vec Ideal S1024x2816 .bf16) (y : S2x272x2816.Idx) :
    out0_3 x w v y = if (y 0).val = 0 then plainAt x w (y 1) (y 2) else plainAt x v (y 1) (y 2) := by
  unfold out0_3
  refine View.canon_eq_of_allAt _ _ _ (cover0_3 _ _ y) ?_
  intro q hq z hz
  rw [View.ld_unit_zero zero_offsets, View.ld_unit_zero zero_offsets, View.ld_unit_zero zero_offsets] at hq
  simp only [List.mem_cons, List.not_mem_nil, or_false] at hq
  rcases hq with rfl | rfl
  · subst hz
    have h0 : (z 0 : Nat) < 1 := (z 0).isLt
    show k0_pay4 (F := Ideal) _ _ z = _
    rw [other_apply, if_neg (by show ¬ 1 + 1 * (z 0 : Nat) = 0; omega)]
    have e1 : r0_3.emb z 1 = z 1 := Fin.ext (by show 0 + 1 * (z 1 : Nat) = z 1; omega)
    have e2 : r0_3.emb z 2 = z 2 := Fin.ext (by show 0 + 1 * (z 2 : Nat) = z 2; omega)
    rw [e1, e2]
  · subst hz
    have h0 : (z 0 : Nat) < 1 := (z 0).isLt
    show k0_pay3 (F := Ideal) _ _ z = _
    rw [gate_apply, if_pos (by show 0 + 1 * (z 0 : Nat) = 0; omega)]
    have e1 : r0_2.emb z 1 = z 1 := Fin.ext (by show 0 + 1 * (z 1 : Nat) = z 1; omega)
    have e2 : r0_2.emb z 2 = z 2 := Fin.ext (by show 0 + 1 * (z 2 : Nat) = z 2; omega)
    rw [e1, e2]

/-! ## The whole arrays -/

/-- The two halves of the projection. -/
def halves (c : Dev nD) : Buf (Elt Ideal) ((c : Thread nD τ).loc main_v0_0) :=
  stacked (n := 4352) (m ((c : Thread nD τ).loc main_arg0)) (m ((c : Thread nD τ).loc main_arg1))

/-- The gated unit. -/
def act (c : Dev nD) : Buf (Elt Ideal) ((c : Thread nD τ).loc main_v0_1) :=
  unit (n := 4352) (m ((c : Thread nD τ).loc main_arg0)) (m ((c : Thread nD τ).loc main_arg1))

/-- Which blocks the point `t` reads and which it writes. -/
theorem blocks_at : ∀ t : Fin grid0.N, (win0_0.index t 0 = t.val ∧ win0_0.index t 1 = 0)
    ∧ (win0_1.index t 0 = 0 ∧ win0_1.index t 1 = 0) ∧ (win0_2.index t 0 = 0 ∧ win0_2.index t 1 = 1)
    ∧ (win0_3.index t 0 = 0 ∧ win0_3.index t 1 = t.val ∧ win0_3.index t 2 = 0) ∧ (win0_4.index t 0 = t.val ∧ win0_4.index t 1 = 0) := by
  decide +kernel

theorem lt_points (t : Fin cfg0.N) : t.val < 16 := by have := t.isLt; have hN : cfg0.N = 16 := N_0; omega

/-- Row `r` of block `t`. -/
abbrev tok (t : Fin cfg0.N) (r : Fin 272) : Fin 4352 := ⟨t.val * 272 + r.val, by have := lt_points t; omega⟩

theorem read_x (c : Dev nD) (t : Fin cfg0.N) (r : Fin 272) (k : Fin 1024) :
    iblk m c 0 t (ix2 r k) = m ((c : Thread nD τ).loc main_arg0) (ix2 (tok t r) k) := by
  obtain ⟨⟨e0, e1⟩, -⟩ := blocks_at t
  show V m c main_arg0 _ = m _ _
  rw [V_main_arg0]
  congr 1
  funext a
  apply Fin.ext
  match a with
  | ⟨0, _⟩ => show win0_0.index t 0 * 272 + 1 * r.val = t.val * 272 + r.val; rw [e0]; omega
  | ⟨1, _⟩ => show win0_0.index t 1 * 1024 + 1 * k.val = k.val; rw [e1]; omega

theorem read_first (c : Dev nD) (t : Fin cfg0.N) (k : Fin 1024) (l : Fin 2816) :
    iblk m c 1 t (ix2 k l) = m ((c : Thread nD τ).loc main_arg1) (ix2 k (first l)) := by
  obtain ⟨-, ⟨e0, e1⟩, -⟩ := blocks_at t
  show V m c main_arg1 _ = m _ _
  rw [V_main_arg1]
  congr 1
  funext a
  apply Fin.ext
  match a with
  | ⟨0, _⟩ => show win0_1.index t 0 * 1024 + 1 * k.val = k.val; rw [e0]; omega
  | ⟨1, _⟩ => show win0_1.index t 1 * 2816 + 1 * l.val = l.val; rw [e1]; omega

theorem read_second (c : Dev nD) (t : Fin cfg0.N) (k : Fin 1024) (l : Fin 2816) :
    iblk m c 2 t (ix2 k l) = m ((c : Thread nD τ).loc main_arg1) (ix2 k (second l)) := by
  obtain ⟨-, -, ⟨e0, e1⟩, -⟩ := blocks_at t
  show V m c main_arg1 _ = m _ _
  rw [V_main_arg1]
  congr 1
  funext a
  apply Fin.ext
  match a with
  | ⟨0, _⟩ => show win0_2.index t 0 * 1024 + 1 * k.val = k.val; rw [e0]; omega
  | ⟨1, _⟩ => show win0_2.index t 1 * 2816 + 1 * l.val = 2816 + l.val; rw [e1]; omega

/-- Entry `(r, l)` of the two halves at block `t`. -/
theorem first_block (c : Dev nD) (t : Fin cfg0.N) (r : Fin 272) (l : Fin 2816) :
    plainAt (M := 272) (K := 1024) (N := 2816) (iblk m c 0 t) (iblk m c 1 t) r l
      = plainAt (M := 4352) (K := 1024) (N := 5632) (m ((c : Thread nD τ).loc main_arg0)) (m ((c : Thread nD τ).loc main_arg1)) (tok t r) (first l) := by
  unfold plainAt
  refine Finset.sum_congr (M := EReal) rfl fun k _ => ?_
  exact congrArg₂ (fun a b : EReal => a * b) (read_x m c t r k) (read_first m c t k l)

theorem second_block (c : Dev nD) (t : Fin cfg0.N) (r : Fin 272) (l : Fin 2816) :
    plainAt (M := 272) (K := 1024) (N := 2816) (iblk m c 0 t) (iblk m c 2 t) r l
      = plainAt (M := 4352) (K := 1024) (N := 5632) (m ((c : Thread nD τ).loc main_arg0)) (m ((c : Thread nD τ).loc main_arg1)) (tok t r) (second l) := by
  unfold plainAt
  refine Finset.sum_congr (M := EReal) rfl fun k _ => ?_
  exact congrArg₂ (fun a b : EReal => a * b) (read_x m c t r k) (read_second m c t k l)

theorem flushed3_eq (c : Dev nD) (t : Fin cfg0.N) :
    (dats m 0 c).flushed 3 t = ((cfg0.win 3).blk t).view.read (Elt Ideal) (halves m c) := by
  obtain ⟨-, -, -, ⟨e4, e5, e6⟩, -⟩ := blocks_at t
  rw [Value.flushed3]
  funext j
  rw [View.read_apply]
  show out0_3 _ _ _ ((cfg0.win 3).xinj (grid0.coords t) j) = halves m c (((cfg0.win 3).blk t).view.emb j)
  rw [out_apply]
  have j1 : (j 1 : Nat) < 272 := (j 1).isLt
  have j2 : (j 2 : Nat) < 2816 := (j 2).isLt
  have a0 : (((cfg0.win 3).blk t).view.emb j 0).val = (j 0).val := by show win0_3.index t 0 * 2 + 1 * (j 0).val = (j 0).val; rw [e4]; omega
  have a1 : ((cfg0.win 3).blk t).view.emb j 1 = tok t ⟨(j 1).val, j1⟩ := Fin.ext (by show win0_3.index t 1 * 272 + 1 * (j 1).val = t.val * 272 + (j 1).val; rw [e5]; omega)
  have a2 : ((cfg0.win 3).blk t).view.emb j 2 = (⟨(j 2).val, j2⟩ : Fin 2816) := Fin.ext (by show win0_3.index t 2 * 2816 + 1 * (j 2).val = (j 2).val; rw [e6]; omega)
  unfold halves stacked
  rw [a0, a1, a2]
  show (if (j 0).val = 0 then plainAt (M := 272) (K := 1024) (N := 2816) (iblk m c 0 t) (iblk m c 1 t) ⟨(j 1).val, j1⟩ ⟨(j 2).val, j2⟩
    else plainAt (M := 272) (K := 1024) (N := 2816) (iblk m c 0 t) (iblk m c 2 t) ⟨(j 1).val, j1⟩ ⟨(j 2).val, j2⟩) = _
  rw [first_block, second_block]
  split <;> rfl

theorem flushed4_eq (c : Dev nD) (t : Fin cfg0.N) :
    (dats m 0 c).flushed 4 t = ((cfg0.win 4).blk t).view.read (Elt Ideal) (act m c) := by
  obtain ⟨-, -, -, -, e4, e5⟩ := blocks_at t
  rw [Value.flushed4]
  unfold out0_4
  rw [View.canon_unit_zero zero_offsets, View.ld_unit_zero zero_offsets, View.ld_unit_zero zero_offsets, View.ld_unit_zero zero_offsets]
  funext j
  rw [View.read_apply]
  have j0 : (j 0 : Nat) < 272 := (j 0).isLt
  have j1 : (j 1 : Nat) < 2816 := (j 1).isLt
  have a0 : ((cfg0.win 4).blk t).view.emb j 0 = tok t ⟨(j 0).val, j0⟩ := Fin.ext (by show win0_4.index t 0 * 272 + 1 * (j 0).val = t.val * 272 + (j 0).val; rw [e4]; omega)
  have a1 : ((cfg0.win 4).blk t).view.emb j 1 = (⟨(j 1).val, j1⟩ : Fin 2816) := Fin.ext (by show win0_4.index t 1 * 2816 + 1 * (j 1).val = (j 1).val; rw [e5]; omega)
  have hj : (cfg0.win 4).xinj (grid0.coords t) j = ix2 (⟨(j 0).val, j0⟩ : Fin 272) (⟨(j 1).val, j1⟩ : Fin 2816) := by
    funext a
    match a with
    | ⟨0, _⟩ => rfl
    | ⟨1, _⟩ => rfl
  show k0_pay5 (F := Ideal) _ _ _ ((cfg0.win 4).xinj (grid0.coords t) j) = act m c (((cfg0.win 4).blk t).view.emb j)
  unfold act unit
  rw [a0, a1, hj, unit_apply, first_block, second_block]

/-- Every entry lies in one of the blocks. -/
theorem cover3 (i : S2x4352x2816.Idx) : ∃ t : Fin cfg0.N, (cfg0.win 3).flush t = true ∧ i ∈ ((cfg0.win 3).blk t).view.set := by
  have h0 : (i 0 : Nat) < 2 := (i 0).isLt
  have h1 : (i 1 : Nat) < 4352 := (i 1).isLt
  have h2 : (i 2 : Nat) < 2816 := (i 2).isLt
  have hN : cfg0.N = 16 := N_0
  obtain ⟨t, ht⟩ : ∃ t : Fin cfg0.N, t.val = (i 1 : Nat) / 272 := ⟨⟨(i 1 : Nat) / 272, by omega⟩, rfl⟩
  obtain ⟨-, -, -, ⟨e4, e5, e6⟩, -⟩ := blocks_at t
  refine ⟨t, flush0_3 _, ?_⟩
  show i ∈ ((View.whole main_v0_0).slice (win0_3.rect t)).set
  rw [View.set_slice_whole, Rect.mem_set_unit]
  intro a
  match a with
  | ⟨0, _⟩ => show win0_3.index t 0 * 2 ≤ (i 0 : Nat) ∧ (i 0 : Nat) < win0_3.index t 0 * 2 + 2; rw [e4]; omega
  | ⟨1, _⟩ => show win0_3.index t 1 * 272 ≤ (i 1 : Nat) ∧ (i 1 : Nat) < win0_3.index t 1 * 272 + 272; rw [e5]; omega
  | ⟨2, _⟩ => show win0_3.index t 2 * 2816 ≤ (i 2 : Nat) ∧ (i 2 : Nat) < win0_3.index t 2 * 2816 + 2816; rw [e6]; omega

theorem cover4 (i : S4352x2816.Idx) : ∃ t : Fin cfg0.N, (cfg0.win 4).flush t = true ∧ i ∈ ((cfg0.win 4).blk t).view.set := by
  have h0 : (i 0 : Nat) < 4352 := (i 0).isLt
  have h1 : (i 1 : Nat) < 2816 := (i 1).isLt
  have hN : cfg0.N = 16 := N_0
  obtain ⟨t, ht⟩ : ∃ t : Fin cfg0.N, t.val = (i 0 : Nat) / 272 := ⟨⟨(i 0 : Nat) / 272, by omega⟩, rfl⟩
  obtain ⟨-, -, -, -, e4, e5⟩ := blocks_at t
  refine ⟨t, flush0_4 _, ?_⟩
  show i ∈ ((View.whole main_v0_1).slice (win0_4.rect t)).set
  rw [View.set_slice_whole, Rect.mem_set_unit]
  intro a
  match a with
  | ⟨0, _⟩ => show win0_4.index t 0 * 272 ≤ (i 0 : Nat) ∧ (i 0 : Nat) < win0_4.index t 0 * 272 + 272; rw [e4]; omega
  | ⟨1, _⟩ => show win0_4.index t 1 * 2816 ≤ (i 1 : Nat) ∧ (i 1 : Nat) < win0_4.index t 1 * 2816 + 2816; rw [e5]; omega

/-- The result arrays after the run. -/
theorem final3 (c : Dev nD) : (dats m 0 c).arrAt 3 cfg0.N = halves m c :=
  (dats m 0 c).arrAt_eq_of_cover 3 (halves m c) (fun t _ => flushed3_eq m c t) cover3

theorem final4 (c : Dev nD) : (dats m 0 c).arrAt 4 cfg0.N = act m c :=
  (dats m 0 c).arrAt_eq_of_cover 4 (act m c) (fun t _ => flushed4_eq m c t) cover4

end Cert.Kernel18Ideal.Result

namespace Cert.Reference18Ideal.Result

open Cert.Reference18Ideal Cert.Reference18Ideal.Gen

/-- The reference's projection. -/
abbrev proj (x : FVec Ideal S4352x1024 .bf16) (w : FVec Ideal S1024x5632 .bf16) (e : FTy.bf16.bits < FTy.f32.bits) : FVec Ideal S4352x5632 .f32 :=
  Host.dotGeneral (F := Ideal) dot_S4352x1024_S1024x5632_S4352x5632_1_0_0_1_n_n none (extf .f32 x e) (extf .f32 w e)

abbrev gate (x : FVec Ideal S4352x1024 .bf16) (w : FVec Ideal S1024x5632 .bf16) : FVec Ideal S4352x2816 .bf16 :=
  truncf .bf16 (extractStridedSlice S4352x2816 ![0, 0] (proj x w bitsLt_bf16_f32) slices_S4352x5632_S4352x2816_0_0) bitsLt_bf16_f32
abbrev other (x : FVec Ideal S4352x1024 .bf16) (w : FVec Ideal S1024x5632 .bf16) : FVec Ideal S4352x2816 .bf16 :=
  truncf .bf16 (extractStridedSlice S4352x2816 ![0, 2816] (proj x w bitsLt_bf16_f32) slices_S4352x5632_S4352x2816_0_2816) bitsLt_bf16_f32

theorem gate_at (x : FVec Ideal S4352x1024 .bf16) (w : FVec Ideal S1024x5632 .bf16) (r : Fin 4352) (l : Fin 2816) :
    gate x w (ix2 r l) = plainAt x w r (first l) := by
  unfold gate plainAt; pointwise

theorem other_at (x : FVec Ideal S4352x1024 .bf16) (w : FVec Ideal S1024x5632 .bf16) (r : Fin 4352) (l : Fin 2816) :
    other x w (ix2 r l) = plainAt x w r (second l) := by
  unfold other plainAt; pointwise

/-- The reference's two halves below each other. -/
theorem host_stacked (x : FVec Ideal S4352x1024 .bf16) (w : FVec Ideal S1024x5632 .bf16) :
    concatenate S2x4352x2816 0 [⟨S1x4352x2816, broadcastInDim S1x4352x2816 ![1, 2] bcast_S4352x2816_S1x4352x2816_1_2 (gate x w)⟩,
      ⟨S1x4352x2816, broadcastInDim S1x4352x2816 ![1, 2] bcast_S4352x2816_S1x4352x2816_1_2 (other x w)⟩] concatenates_S1x4352x2816_S1x4352x2816_S2x4352x2816_d0
      = (stacked x w : FVec Ideal S2x4352x2816 .bf16) := by
  funext i
  obtain ⟨a, r, l, rfl⟩ : ∃ (a : Fin 2) (r : Fin 4352) (l : Fin 2816), i = ix3 a r l :=
    ⟨i 0, i 1, i 2, by funext b; match b with | ⟨0, _⟩ => rfl | ⟨1, _⟩ => rfl | ⟨2, _⟩ => rfl⟩
  show _ = plainAt x w r (if a.val = 0 then first l else second l)
  match a with
  | ⟨0, _⟩ =>
    rw [if_pos rfl, ← gate_at x w r l]
    generalize gate x w = g
    generalize other x w = u
    pointwise
  | ⟨1, _⟩ =>
    rw [if_neg (by simp), ← other_at x w r l]
    generalize gate x w = g
    generalize other x w = u
    pointwise

/-- The reference's gated unit. -/
theorem host_unit (x : FVec Ideal S4352x1024 .bf16) (w : FVec Ideal S1024x5632 .bf16) :
    truncf .bf16 (mulf (mulf (extf .f32 (gate x w) bitsLt_bf16_f32)
      (Host.divf (broadcastInDim S4352x2816 ![] bcast_S_S4352x2816 (constant S_ .f32 0x3F800000#32))
        (addf (broadcastInDim S4352x2816 ![] bcast_S_S4352x2816 (constant S_ .f32 0x3F800000#32)) (Host.exp (Host.negf (extf .f32 (gate x w) bitsLt_bf16_f32))))))
      (extf .f32 (other x w) bitsLt_bf16_f32)) bitsLt_bf16_f32
      = (unit x w : FVec Ideal S4352x2816 .bf16) := by
  funext i
  obtain ⟨r, l, rfl⟩ := PreNorm.idx2 i
  show _ = gated (plainAt x w r (first l)) (plainAt x w r (second l))
  rw [← gate_at x w r l, ← other_at x w r l]
  unfold gated
  generalize gate x w = g
  generalize other x w = u
  pointwise
  rfl

end Cert.Reference18Ideal.Result

namespace Cert.Proof.FfnGate0

/-- At exact arithmetic the kernel's blocks and the reference's two results are the same arrays. -/
theorem algebraic : Cert.algebraic_Kernel18Ideal_Reference18Ideal := by
  intro m ρ m' ρ' _ agree
  refine ⟨fun c => Cert.Kernel18Ideal.Result.halves m c, fun c => Cert.Kernel18Ideal.Result.act m c,
    (θ_run Cert.Kernel18Ideal.defs _ _).mono (fun _ h c => ⟨(h c).1.trans (Cert.Kernel18Ideal.Result.final3 m c),
      (h c).2.1.trans (Cert.Kernel18Ideal.Result.final4 m c), (h c).2.2⟩)
      (Cert.Kernel18Ideal.Value.run_blocks m ρ), ?_⟩
  refine (θ_run Cert.Reference18Ideal.defs _ _).mono (fun _ h c => ⟨(h c).1.trans ?_, (h c).2.1.trans ?_, (h c).2.2⟩)
    (Cert.Reference18Ideal.Value.run (F := Ideal) m' ρ')
  · rw [(agree c).1, (agree c).2]
    exact Cert.Reference18Ideal.Result.host_stacked _ _
  · rw [(agree c).1, (agree c).2]
    exact Cert.Reference18Ideal.Result.host_unit _ _

end Cert.Proof.FfnGate0
-- ==== Proof.FfnExit0.lean ====
/-
  `l0_ffn_out`: layer 0's feed-forward exit. The kernel's tiles are the blocks of one matrix product.
-/
module

public import proofs.«01_k».proof.Defs
public import proofs.«01_k».proof.Proof.Products
public import proofs.«01_k».proof.Proof.Forward
public import proofs.«01_k».proof.Proof.Gen.Kernel19Ideal.Value
public import proofs.«01_k».proof.Proof.Gen.Reference19Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.Forward

namespace Cert.Kernel19Ideal.Result

open Cert.Kernel19Ideal Cert.Kernel19Ideal.Gen

variable (m : (ℓ : Loc nD τ sig) → Buf (Elt Ideal) ℓ) (ρ : Dev nD → PrngReg)

/-- One tile, entry by entry. -/
theorem tile_apply (x : Vec Ideal S1088x2816 .bf16) (y : Vec Ideal S2816x1024 .bf16) (j : S1088x1024.Idx) :
    k0_pay1 x y j = ∑ k : Fin 2816, (x (ix2 (j 0) k) : EReal) * y (ix2 k (j 1)) := by
  unfold k0_pay1
  pointwise

/-- The whole product. -/
def result (c : Dev nD) : Buf (Elt Ideal) ((c : Thread nD τ).loc main_v0) :=
  plain (m ((c : Thread nD τ).loc main_arg0)) (m ((c : Thread nD τ).loc main_arg1))

/-- Which blocks the point `t` reads and which tile it writes. -/
theorem blocks_at : ∀ t : Fin grid0.N, (win0_0.index t 0 = t.val ∧ win0_0.index t 1 = 0)
    ∧ (win0_1.index t 0 = 0 ∧ win0_1.index t 1 = 0) ∧ (win0_2.index t 0 = t.val ∧ win0_2.index t 1 = 0) := by
  decide +kernel

/-- What the point `t` writes back is its tile of the whole product. -/
theorem flushed_eq (c : Dev nD) (t : Fin cfg0.N) :
    (dats m 0 c).flushed 2 t = ((cfg0.win 2).blk t).view.read (Elt Ideal) (result m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = plain _ _ (((cfg0.win 2).blk t).view.emb j)
  rw [tile_apply]
  unfold plain plainAt
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 1088 + 1 * (j 0).val = win0_2.index t 0 * 1088 + 1 * (j 0).val; rw [e0, e4]
    | ⟨1, _⟩ => show win0_0.index t 1 * 2816 + 1 * k.val = k.val; rw [e1]; omega
  · show V m c main_arg1 _ = m _ _
    rw [V_main_arg1]
    congr 1
    funext a
    apply Fin.ext
    match a with
    | ⟨0, _⟩ => show win0_1.index t 0 * 2816 + 1 * k.val = k.val; rw [e2]; omega
    | ⟨1, _⟩ => show win0_1.index t 1 * 1024 + 1 * (j 1).val = win0_2.index t 1 * 1024 + 1 * (j 1).val; rw [e3, e5]

/-- Every entry lies in one of the tiles. -/
theorem cover (i : S4352x1024.Idx) : ∃ t : Fin cfg0.N, (cfg0.win 2).flush t = true ∧ i ∈ ((cfg0.win 2).blk t).view.set := by
  have h0 : (i 0 : Nat) < 4352 := (i 0).isLt
  have h1 : (i 1 : Nat) < 1024 := (i 1).isLt
  have hN : cfg0.N = 4 := N_0
  obtain ⟨t, ht⟩ : ∃ t : Fin cfg0.N, t.val = (i 0 : Nat) / 1088 := ⟨⟨(i 0 : Nat) / 1088, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1088 ≤ (i 0 : Nat) ∧ (i 0 : Nat) < win0_2.index t 0 * 1088 + 1088; rw [e4]; omega
  | ⟨1, _⟩ => show win0_2.index t 1 * 1024 ≤ (i 1 : Nat) ∧ (i 1 : Nat) < win0_2.index t 1 * 1024 + 1024; rw [e5]; omega

/-- The result array after the run. -/
theorem final (c : Dev nD) : (dats m 0 c).arrAt 2 cfg0.N = result m c :=
  (dats m 0 c).arrAt_eq_of_cover 2 (result m c) (fun t _ => flushed_eq m c t) cover

end Cert.Kernel19Ideal.Result

namespace Cert.Reference19Ideal.Result

open Cert.Reference19Ideal Cert.Reference19Ideal.Gen

/-- The reference's product. -/
theorem host_product (x : FVec Ideal S4352x2816 .bf16) (w : FVec Ideal S2816x1024 .bf16) (e : FTy.bf16.bits < FTy.f32.bits) :
    Host.dotGeneral (F := Ideal) dot_S4352x2816_S2816x1024_S4352x1024_1_0_0_1_n_n none (extf .f32 x e) (extf .f32 w e)
      = (plain x w : FVec Ideal S4352x1024 .f32) := by
  funext i
  unfold plain plainAt
  pointwise

end Cert.Reference19Ideal.Result

namespace Cert.Proof.FfnExit0

/-- At exact arithmetic the kernel's tiles and the reference's product are one array. -/
theorem algebraic : Cert.algebraic_Kernel19Ideal_Reference19Ideal := by
  intro m ρ m' ρ' _ agree
  refine ⟨fun c => Cert.Kernel19Ideal.Result.result m c,
    (θ_run Cert.Kernel19Ideal.defs _ _).mono (fun _ h c => ⟨(h c).1.trans (Cert.Kernel19Ideal.Result.final m c), (h c).2⟩)
      (Cert.Kernel19Ideal.Value.run_blocks m ρ), ?_⟩
  refine (θ_run Cert.Reference19Ideal.defs _ _).mono (fun _ h c => ⟨(h c).1.trans ?_, (h c).2⟩)
    (Cert.Reference19Ideal.Value.run (F := Ideal) m' ρ')
  rw [(agree c).1, (agree c).2]
  exact Cert.Reference19Ideal.Result.host_product _ _ _

end Cert.Proof.FfnExit0
-- ==== Proof.MixExit0.lean ====
/-
  `l0_out`: layer 0's output projection. The kernel's tiles are the blocks of one matrix product.
-/
module

public import proofs.«01_k».proof.Defs
public import proofs.«01_k».proof.Proof.Products
public import proofs.«01_k».proof.Proof.Forward
public import proofs.«01_k».proof.Proof.Gen.Kernel20Ideal.Value
public import proofs.«01_k».proof.Proof.Gen.Reference20Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.Forward

namespace Cert.Kernel20Ideal.Result

open Cert.Kernel20Ideal Cert.Kernel20Ideal.Gen

variable (m : (ℓ : Loc nD τ sig) → Buf (Elt Ideal) ℓ) (ρ : Dev nD → PrngReg)

/-- One tile, entry by entry. -/
theorem tile_apply (x : Vec Ideal S1088x1024 .bf16) (y : Vec Ideal S1024x1024 .bf16) (j : S1088x1024.Idx) :
    k0_pay1 x y j = ∑ k : Fin 1024, (x (ix2 (j 0) k) : EReal) * y (ix2 k (j 1)) := by
  unfold k0_pay1
  pointwise

/-- The whole product. -/
def result (c : Dev nD) : Buf (Elt Ideal) ((c : Thread nD τ).loc main_v0) :=
  plain (m ((c : Thread nD τ).loc main_arg0)) (m ((c : Thread nD τ).loc main_arg1))

/-- Which blocks the point `t` reads and which tile it writes. -/
theorem blocks_at : ∀ t : Fin grid0.N, (win0_0.index t 0 = t.val ∧ win0_0.index t 1 = 0)
    ∧ (win0_1.index t 0 = 0 ∧ win0_1.index t 1 = 0) ∧ (win0_2.index t 0 = t.val ∧ win0_2.index t 1 = 0) := by
  decide +kernel

/-- What the point `t` writes back is its tile of the whole product. -/
theorem flushed_eq (c : Dev nD) (t : Fin cfg0.N) :
    (dats m 0 c).flushed 2 t = ((cfg0.win 2).blk t).view.read (Elt Ideal) (result m c) := by
  obtain ⟨⟨e0, e1⟩, ⟨e2, e3⟩, e4, e5⟩ := blocks_at t
  rw [Value.flushed2]
  unfold out0_2
  rw [View.canon_unit_zero zero_offsets, View.ld_unit_zero zero_offsets, View.ld_unit_zero zero_offsets]
  funext j
  rw [View.read_apply]
  show k0_pay1 (F := Ideal) _ _ _ = plain _ _ (((cfg0.win 2).blk t).view.emb j)
  rw [tile_apply]
  unfold plain plainAt
  refine Finset.sum_congr (M := EReal) rfl fun k _ => ?_
  congr 1
  · show V m c main_arg0 _ = m _ _
    rw [V_main_arg0]
    congr 1
    funext a
    apply Fin.ext
    match a with
    | ⟨0, _⟩ => show win0_0.index t 0 * 1088 + 1 * (j 0).val = win0_2.index t 0 * 1088 + 1 * (j 0).val; rw [e0, e4]
    | ⟨1, _⟩ => show win0_0.index t 1 * 1024 + 1 * k.val = k.val; rw [e1]; omega
  · show V m c main_arg1 _ = m _ _
    rw [V_main_arg1]
    congr 1
    funext a
    apply Fin.ext
    match a with
    | ⟨0, _⟩ => show win0_1.index t 0 * 1024 + 1 * k.val = k.val; rw [e2]; omega
    | ⟨1, _⟩ => show win0_1.index t 1 * 1024 + 1 * (j 1).val = win0_2.index t 1 * 1024 + 1 * (j 1).val; rw [e3, e5]

/-- Every entry lies in one of the tiles. -/
theorem cover (i : S4352x1024.Idx) : ∃ t : Fin cfg0.N, (cfg0.win 2).flush t = true ∧ i ∈ ((cfg0.win 2).blk t).view.set := by
  have h0 : (i 0 : Nat) < 4352 := (i 0).isLt
  have h1 : (i 1 : Nat) < 1024 := (i 1).isLt
  have hN : cfg0.N = 4 := N_0
  obtain ⟨t, ht⟩ : ∃ t : Fin cfg0.N, t.val = (i 0 : Nat) / 1088 := ⟨⟨(i 0 : Nat) / 1088, by omega⟩, rfl⟩
  obtain ⟨-, -, e4, e5⟩ := blocks_at t
  refine ⟨t, flush0_2 _, ?_⟩
  show i ∈ ((View.whole main_v0).slice (win0_2.rect t)).set
  rw [View.set_slice_whole, Rect.mem_set_unit]
  intro a
  match a with
  | ⟨0, _⟩ => show win0_2.index t 0 * 1088 ≤ (i 0 : Nat) ∧ (i 0 : Nat) < win0_2.index t 0 * 1088 + 1088; rw [e4]; omega
  | ⟨1, _⟩ => show win0_2.index t 1 * 1024 ≤ (i 1 : Nat) ∧ (i 1 : Nat) < win0_2.index t 1 * 1024 + 1024; rw [e5]; omega

/-- The result array after the run. -/
theorem final (c : Dev nD) : (dats m 0 c).arrAt 2 cfg0.N = result m c :=
  (dats m 0 c).arrAt_eq_of_cover 2 (result m c) (fun t _ => flushed_eq m c t) cover

end Cert.Kernel20Ideal.Result

namespace Cert.Reference20Ideal.Result

open Cert.Reference20Ideal Cert.Reference20Ideal.Gen

/-- The reference's product. -/
theorem host_product (x : FVec Ideal S4352x1024 .bf16) (w : FVec Ideal S1024x1024 .bf16) (e : FTy.bf16.bits < FTy.f32.bits) :
    Host.dotGeneral (F := Ideal) dot_S4352x1024_S1024x1024_S4352x1024_1_0_0_1_n_n none (extf .f32 x e) (extf .f32 w e)
      = (plain x w : FVec Ideal S4352x1024 .f32) := by
  funext i
  unfold plain plainAt
  pointwise

end Cert.Reference20Ideal.Result

namespace Cert.Proof.MixExit0

/-- At exact arithmetic the kernel's tiles and the reference's product are one array. -/
theorem algebraic : Cert.algebraic_Kernel20Ideal_Reference20Ideal := by
  intro m ρ m' ρ' _ agree
  refine ⟨fun c => Cert.Kernel20Ideal.Result.result m c,
    (θ_run Cert.Kernel20Ideal.defs _ _).mono (fun _ h c => ⟨(h c).1.trans (Cert.Kernel20Ideal.Result.final m c), (h c).2⟩)
      (Cert.Kernel20Ideal.Value.run_blocks m ρ), ?_⟩
  refine (θ_run Cert.Reference20Ideal.defs _ _).mono (fun _ h c => ⟨(h c).1.trans ?_, (h c).2⟩)
    (Cert.Reference20Ideal.Value.run (F := Ideal) m' ρ')
  rw [(agree c).1, (agree c).2]
  exact Cert.Reference20Ideal.Result.host_product _ _ _

end Cert.Proof.MixExit0
-- ==== Proof.MixEntry0.lean ====
/-
  `l0_prenorm_in`: layer 0's modulated norm and the projection after it. The tokens are the latents' and the context's below them; the
  kernel takes them block by block, sixteen blocks of latents and one of context.
-/
module

public import proofs.«01_k».proof.Defs
public import proofs.«01_k».proof.Proof.Products
public import proofs.«01_k».proof.Proof.Forward
public import proofs.«01_k».proof.Proof.Gen.Kernel21Ideal.Value
public import proofs.«01_k».proof.Proof.Gen.Reference21Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.Forward
open Cert.PreNorm

namespace Cert.Kernel21Ideal.Result

open Cert.Kernel21Ideal Cert.Kernel21Ideal.Gen

section Block

variable (i : grid0.Coords) (e x : Vec Ideal S256x1024 .f32) (g : Vec Ideal S1x1024 .f32) (mb : Vec Ideal S16x1024 .f32)
  (w : Vec Ideal S1024x2816 .bf16)

/-- Zero on the blocks of latent tokens, one on the context's. -/
abbrev late : EReal := Scalar.sitofp (F := Ideal) .f32 (Scalar.extui (Scalar.cmpi .sge (BitVec.ofNat 32 (i 0).val) 16#32) : BitVec 32)

/-- The block's tokens: the latents', or on the last block the context's. -/
abbrev tokens : Vec Ideal S256x1024 .f32 := Scalar.select (Scalar.cmpi .eq (BitVec.ofNat 32 (i 0).val) 16#32) e x

theorem norm_apply (r : Fin 256) (k : Fin 1024) : k0_pay1 i e x g mb (ix2 r k)
    = normed (row (tokens i e x) r) (row g 0) (pick (late i) mb 1 9) (pick (late i) mb 0 8) k := by
  unfold k0_pay1 normed pick PreNorm.inv meanSq row
  pointwise

theorem proj_apply (r : Fin 256) (l : Fin 2816) : k0_pay2 i e x g mb w (ix2 r l)
    = ∑ k : Fin 1024, (k0_pay1 i e x g mb (ix2 r k) : EReal) * w (ix2 k l) := by
  unfold k0_pay2
  generalize k0_pay1 i e x g mb = h
  pointwise

theorem hid_apply (r : Fin 256) (k : Fin 1024) : k0_pay3 i e x g mb (ix2 r k) = k0_pay1 i e x g mb (ix2 r k) := by
  unfold k0_pay3
  generalize k0_pay1 i e x g mb = h
  pointwise

end Block

variable (m : (ℓ : Loc nD τ sig) → Buf (Elt Ideal) ℓ) (c : Dev nD)

/-! ## The blocks the point reads -/

theorem lt17 (t : Fin cfg0.N) : t.val < 17 := by have := t.isLt; have hN : cfg0.N = 17 := N_0; omega

/-- The windows' block indices. -/
theorem blocks_at : ∀ t : Fin grid0.N, (win0_0.index t 0 = min t.val 15 ∧ win0_0.index t 1 = 0)
    ∧ (win0_1.index t 0 = 0 ∧ win0_1.index t 1 = 0)
    ∧ (win0_2.index t 0 = 0 ∧ win0_2.index t 1 = 0)
    ∧ (win0_3.index t 0 = 0 ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0) := by decide +kernel

/-- Token `r` of block `t`. -/
abbrev tok (t : Fin cfg0.N) (r : Fin 256) : Fin 4352 := ⟨t.val * 256 + r.val, by have := lt17 t; omega⟩

/-- The first sixteen blocks hold latent tokens, the last the context's. -/
theorem late_word : ∀ t : Fin grid0.N, (Scalar.extui (Scalar.cmpi .sge (BitVec.ofNat 32 (grid0.coords t 0).val) 16#32) : BitVec 32)
    = if t.val < 16 then 0#32 else 1#32 := by decide +kernel

theorem last_word : ∀ t : Fin grid0.N, Scalar.cmpi .eq (BitVec.ofNat 32 (grid0.coords t 0).val) 16#32
    = if t.val < 16 then 0#1 else 1#1 := by decide +kernel

theorem late_tok (t : Fin cfg0.N) (r : Fin 256) : late (grid0.coords t) = flag (tok t r) := by
  have h17 := lt17 t
  unfold late flag
  rw [late_word t]
  by_cases h : t.val < 16
  · rw [if_pos h, if_pos (by show t.val * 256 + r.val < 4096; omega)]
    pointwise
    simp
  · rw [if_neg h, if_neg (by show ¬ t.val * 256 + r.val < 4096; omega)]
    pointwise
    simp

abbrev aX := m ((c : Thread nD τ).loc main_arg0)
abbrev aE := m ((c : Thread nD τ).loc main_arg1)
abbrev aG := m ((c : Thread nD τ).loc main_arg2)
abbrev aB := m ((c : Thread nD τ).loc main_arg3)
abbrev aW := m ((c : Thread nD τ).loc main_arg4)

theorem read_x (t : Fin cfg0.N) (h : t.val < 16) (r : Fin 256) (k : Fin 1024) :
    iblk m c 0 t (ix2 r k) = aX m c (ix2 ⟨t.val * 256 + r.val, by omega⟩ k) := by
  have e := (blocks_at t).1
  have h' : min t.val 15 = t.val := by omega
  rw [h'] at e
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem read_e (t : Fin cfg0.N) : iblk m c 1 t = aE m c := by
  have e := (blocks_at t).2.1
  funext i
  show V m c main_arg1 _ = m _ _
  rw [V_main_arg1]
  congr 1
  funext a
  apply Fin.ext
  match a with
  | ⟨0, _⟩ => show win0_1.index t 0 * 256 + 1 * (i 0).val = (i 0).val; rw [e.1]; omega
  | ⟨1, _⟩ => show win0_1.index t 1 * 1024 + 1 * (i 1).val = (i 1).val; rw [e.2]; omega

theorem read_g (t : Fin cfg0.N) : iblk m c 2 t = aG m c := by
  have e := (blocks_at t).2.2.1
  funext i
  show V m c main_arg2 _ = m _ _
  rw [V_main_arg2]
  congr 1
  funext a
  apply Fin.ext
  match a with
  | ⟨0, _⟩ => show win0_2.index t 0 * 1 + 1 * (i 0).val = (i 0).val; rw [e.1]; omega
  | ⟨1, _⟩ => show win0_2.index t 1 * 1024 + 1 * (i 1).val = (i 1).val; rw [e.2]; omega

theorem read_b (t : Fin cfg0.N) : iblk m c 3 t = aB m c := by
  have e := (blocks_at t).2.2.2.1
  funext i
  show V m c main_arg3 _ = m _ _
  rw [V_main_arg3]
  congr 1
  funext a
  apply Fin.ext
  match a with
  | ⟨0, _⟩ => show win0_3.index t 0 * 16 + 1 * (i 0).val = (i 0).val; rw [e.1]; omega
  | ⟨1, _⟩ => show win0_3.index t 1 * 1024 + 1 * (i 1).val = (i 1).val; rw [e.2]; omega

theorem read_w (t : Fin cfg0.N) : iblk m c 4 t = aW m c := by
  have e := (blocks_at t).2.2.2.2.1
  funext i
  show V m c main_arg4 _ = m _ _
  rw [V_main_arg4]
  congr 1
  funext a
  apply Fin.ext
  match a with
  | ⟨0, _⟩ => show win0_4.index t 0 * 1024 + 1 * (i 0).val = (i 0).val; rw [e.1]; omega
  | ⟨1, _⟩ => show win0_4.index t 1 * 2816 + 1 * (i 1).val = (i 1).val; rw [e.2]; omega

theorem tokens_block (t : Fin cfg0.N) (r : Fin 256) (k : Fin 1024) :
    tokens (grid0.coords t) (iblk m c 1 t) (iblk m c 0 t) (ix2 r k) = joined (aX m c) (aE m c) (ix2 (tok t r) k) := by
  have h17 := lt17 t
  show _ = joinAt (aX m c) (aE m c) (tok t r) k
  unfold tokens joinAt
  rw [last_word t]
  by_cases h : t.val < 16
  · rw [if_pos h, dif_pos (by show t.val * 256 + r.val < 4096; omega)]
    exact read_x m c t h r k
  · rw [if_neg h, dif_neg (by show ¬ t.val * 256 + r.val < 4096; omega), read_e]
    exact congrArg (fun r => aE m c (ix2 r k)) (Fin.ext (by show r.val = t.val * 256 + r.val - 4096; omega))

/-- The normed tokens, and the projection of them. -/
def hidden : Buf (Elt Ideal) ((c : Thread nD τ).loc main_v0_0) := tokensNormed (aX m c) (aE m c) (aG m c) (aB m c)
def projected : Buf (Elt Ideal) ((c : Thread nD τ).loc main_v0_1) := plain (tokensNormed (aX m c) (aE m c) (aG m c) (aB m c)) (aW m c)

theorem norm_block (t : Fin cfg0.N) (r : Fin 256) (k : Fin 1024) :
    k0_pay1 (grid0.coords t) (iblk m c 1 t) (iblk m c 0 t) (iblk m c 2 t) (iblk m c 3 t) (ix2 r k)
      = tokenNormed (aX m c) (aE m c) (aG m c) (aB m c) (tok t r) k := by
  rw [norm_apply, late_tok t r, read_g, read_b]
  exact congrArg (fun x => normed x _ _ _ k) (row_block (tok t) (tokens_block m c t) r)

set_option maxHeartbeats 2000000 in
theorem flushed5_eq (t : Fin cfg0.N) : (dats m 0 c).flushed 5 t = ((cfg0.win 5).blk t).view.read (Elt Ideal) (hidden m c) := by
  obtain ⟨-, -, -, -, -, ⟨e4, e5⟩, -⟩ := blocks_at t
  rw [Value.flushed5]
  unfold out0_5
  simp only [View.canon_unit_zero (S := S256x1024) zero_offsets, View.ld_unit_zero (S := S256x1024) zero_offsets, View.ld_unit_zero (S := S1x1024) zero_offsets,
    View.ld_unit_zero (S := S16x1024) zero_offsets, View.ld_unit_zero (S := S1024x2816) zero_offsets]
  funext j
  rw [View.read_apply]
  have j0 : (j 0 : Nat) < 256 := (j 0).isLt
  have j1 : (j 1 : Nat) < 1024 := (j 1).isLt
  have hj : (cfg0.win 5).xinj (grid0.coords t) j = ix2 (⟨(j 0).val, j0⟩ : Fin 256) (⟨(j 1).val, j1⟩ : Fin 1024) := by
    funext a
    match a with
    | ⟨0, _⟩ => rfl
    | ⟨1, _⟩ => rfl
  have a0 : ((cfg0.win 5).blk t).view.emb j 0 = tok t ⟨(j 0).val, j0⟩ := Fin.ext (by show win0_5.index t 0 * 256 + 1 * (j 0).val = t.val * 256 + (j 0).val; rw [e4]; omega)
  have a1 : ((cfg0.win 5).blk t).view.emb j 1 = (⟨(j 1).val, j1⟩ : Fin 1024) := Fin.ext (by show win0_5.index t 1 * 1024 + 1 * (j 1).val = (j 1).val; rw [e5]; omega)
  show k0_pay3 (F := Ideal) _ _ _ _ _ ((cfg0.win 5).xinj (grid0.coords t) j) = hidden m c (((cfg0.win 5).blk t).view.emb j)
  unfold hidden tokensNormed
  rw [a0, a1, hj, hid_apply, norm_block]

theorem cover5 (i : S4352x1024.Idx) : ∃ t : Fin cfg0.N, (cfg0.win 5).flush t = true ∧ i ∈ ((cfg0.win 5).blk t).view.set := by
  have h0 : (i 0 : Nat) < 4352 := (i 0).isLt
  have h1 : (i 1 : Nat) < 1024 := (i 1).isLt
  have hN : cfg0.N = 17 := N_0
  obtain ⟨t, ht⟩ : ∃ t : Fin cfg0.N, t.val = (i 0 : Nat) / 256 := ⟨⟨(i 0 : Nat) / 256, by omega⟩, rfl⟩
  obtain ⟨-, -, -, -, -, ⟨e4, e5⟩, -⟩ := blocks_at t
  refine ⟨t, flush0_5 _, ?_⟩
  show i ∈ ((View.whole main_v0_0).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [e4]; omega
  | ⟨1, _⟩ => show win0_5.index t 1 * 1024 ≤ (i 1 : Nat) ∧ (i 1 : Nat) < win0_5.index t 1 * 1024 + 1024; rw [e5]; omega

/-- The result array after the run. -/
theorem final5 : (dats m 0 c).arrAt 5 cfg0.N = hidden m c :=
  (dats m 0 c).arrAt_eq_of_cover 5 (hidden m c) (fun t _ => flushed5_eq m c t) cover5

set_option maxHeartbeats 2000000 in
theorem flushed6_eq (t : Fin cfg0.N) : (dats m 0 c).flushed 6 t = ((cfg0.win 6).blk t).view.read (Elt Ideal) (projected m c) := by
  obtain ⟨-, -, -, -, -, -, e4, e5⟩ := blocks_at t
  rw [Value.flushed6]
  unfold out0_6
  simp only [View.canon_unit_zero (S := S256x2816) zero_offsets, View.ld_unit_zero (S := S256x1024) zero_offsets, View.ld_unit_zero (S := S1x1024) zero_offsets,
    View.ld_unit_zero (S := S16x1024) zero_offsets, View.ld_unit_zero (S := S1024x2816) zero_offsets]
  funext j
  rw [View.read_apply]
  have j0 : (j 0 : Nat) < 256 := (j 0).isLt
  have j1 : (j 1 : Nat) < 2816 := (j 1).isLt
  have hj : (cfg0.win 6).xinj (grid0.coords t) j = ix2 (⟨(j 0).val, j0⟩ : Fin 256) (⟨(j 1).val, j1⟩ : Fin 2816) := by
    funext a
    match a with
    | ⟨0, _⟩ => rfl
    | ⟨1, _⟩ => rfl
  have a0 : ((cfg0.win 6).blk t).view.emb j 0 = tok t ⟨(j 0).val, j0⟩ := Fin.ext (by show win0_6.index t 0 * 256 + 1 * (j 0).val = t.val * 256 + (j 0).val; rw [e4]; omega)
  have a1 : ((cfg0.win 6).blk t).view.emb j 1 = (⟨(j 1).val, j1⟩ : Fin 2816) := Fin.ext (by show win0_6.index t 1 * 2816 + 1 * (j 1).val = (j 1).val; rw [e5]; omega)
  show k0_pay2 (F := Ideal) _ _ _ _ _ _ ((cfg0.win 6).xinj (grid0.coords t) j) = projected m c (((cfg0.win 6).blk t).view.emb j)
  unfold projected plain plainAt
  rw [a0, a1, hj, proj_apply, read_w]
  refine Finset.sum_congr (M := EReal) rfl fun k _ => ?_
  exact congrArg (fun a : EReal => a * _) (norm_block m c t _ k)

theorem cover6 (i : S4352x2816.Idx) : ∃ t : Fin cfg0.N, (cfg0.win 6).flush t = true ∧ i ∈ ((cfg0.win 6).blk t).view.set := by
  have h0 : (i 0 : Nat) < 4352 := (i 0).isLt
  have h1 : (i 1 : Nat) < 2816 := (i 1).isLt
  have hN : cfg0.N = 17 := N_0
  obtain ⟨t, ht⟩ : ∃ t : Fin cfg0.N, t.val = (i 0 : Nat) / 256 := ⟨⟨(i 0 : Nat) / 256, by omega⟩, rfl⟩
  obtain ⟨-, -, -, -, -, -, e4, e5⟩ := blocks_at t
  refine ⟨t, flush0_6 _, ?_⟩
  show i ∈ ((View.whole main_v0_1).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e4]; omega
  | ⟨1, _⟩ => show win0_6.index t 1 * 2816 ≤ (i 1 : Nat) ∧ (i 1 : Nat) < win0_6.index t 1 * 2816 + 2816; rw [e5]; omega

/-- The result array after the run. -/
theorem final6 : (dats m 0 c).arrAt 6 cfg0.N = projected m c :=
  (dats m 0 c).arrAt_eq_of_cover 6 (projected m c) (fun t _ => flushed6_eq m c t) cover6

end Cert.Kernel21Ideal.Result

namespace Cert.Reference21Ideal.Result

open Cert.Reference21Ideal Cert.Reference21Ideal.Gen

section Host

/-- The latent tokens, normed, scaled and shifted; the context's. -/
abbrev latents (x : FVec Ideal S4096x1024 .f32) (g : FVec Ideal S1x1024 .f32) (mb : FVec Ideal S16x1024 .f32) : FVec Ideal S4096x1024 .f32 :=
  addf (mulf (mulf (mulf x (broadcastInDim S4096x1024 ![0, 1] bcast_S4096x1_S4096x1024_0_1 (Host.rsqrt (addf (Host.divf (broadcastInDim S4096x1 ![0] bcast_S4096_S4096x1_0
      (Host.reduceAdd (mulf x x) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
      (broadcastInDim S4096x1024 ![0, 1] bcast_S1x1024_S4096x1024_0_1 g))
      (broadcastInDim S4096x1024 ![0, 1] bcast_S1x1024_S4096x1024_0_1 (addf (broadcastInDim S1x1024 ![] bcast_S_S1x1024 (constant S_ .f32 0x3F800000#32))
        (extractStridedSlice S1x1024 ![1, 0] mb slices_S16x1024_S1x1024_1_0))))
    (broadcastInDim S4096x1024 ![0, 1] bcast_S1x1024_S4096x1024_0_1 (extractStridedSlice S1x1024 ![0, 0] mb slices_S16x1024_S1x1024_0_0))
abbrev contexts (x : FVec Ideal S256x1024 .f32) (g : FVec Ideal S1x1024 .f32) (mb : FVec Ideal S16x1024 .f32) : FVec Ideal S256x1024 .f32 :=
  addf (mulf (mulf (mulf x (broadcastInDim S256x1024 ![0, 1] bcast_S256x1_S256x1024_0_1 (Host.rsqrt (addf (Host.divf (broadcastInDim S256x1 ![0] bcast_S256_S256x1_0
      (Host.reduceAdd (mulf x x) (constant S_ .f32 0x00000000#32) reducesTo_S256x1024_S256_d1 h_S_)) (broadcastInDim S256x1 ![] bcast_S_S256x1 (constant S_ .f32 0x44800000#32)))
      (broadcastInDim S256x1 ![] bcast_S_S256x1 (constant S_ .f32 0x358637BD#32))))))
      (broadcastInDim S256x1024 ![0, 1] bcast_S1x1024_S256x1024_0_1 g))
      (broadcastInDim S256x1024 ![0, 1] bcast_S1x1024_S256x1024_0_1 (addf (broadcastInDim S1x1024 ![] bcast_S_S1x1024 (constant S_ .f32 0x3F800000#32))
        (extractStridedSlice S1x1024 ![9, 0] mb slices_S16x1024_S1x1024_9_0))))
    (broadcastInDim S256x1024 ![0, 1] bcast_S1x1024_S256x1024_0_1 (extractStridedSlice S1x1024 ![8, 0] mb slices_S16x1024_S1x1024_8_0))

theorem latents_at (x : FVec Ideal S4096x1024 .f32) (g : FVec Ideal S1x1024 .f32) (mb : FVec Ideal S16x1024 .f32) (r : Fin 4096) (k : Fin 1024) :
    latents x g mb (ix2 r k) = normed (row x r) (row g 0) (row mb 1) (row mb 0) k := by
  unfold latents normed PreNorm.inv meanSq row
  pointwise

theorem contexts_at (x : FVec Ideal S256x1024 .f32) (g : FVec Ideal S1x1024 .f32) (mb : FVec Ideal S16x1024 .f32) (r : Fin 256) (k : Fin 1024) :
    contexts x g mb (ix2 r k) = normed (row x r) (row g 0) (row mb 9) (row mb 8) k := by
  unfold contexts normed PreNorm.inv meanSq row
  pointwise

theorem below_at (a : FVec Ideal S4096x1024 .f32) (b : FVec Ideal S256x1024 .f32) (r : Fin 4352) (k : Fin 1024) :
    concatenate S4352x1024 0 [⟨S4096x1024, a⟩, ⟨S256x1024, b⟩] concatenates_S4096x1024_S256x1024_S4352x1024_d0 (ix2 r k) = joined a b (ix2 r k) := by
  show _ = joinAt a b r k
  unfold joinAt
  pointwise

variable (x : FVec Ideal S4096x1024 .f32) (e : FVec Ideal S256x1024 .f32) (g : FVec Ideal S1x1024 .f32) (mb : FVec Ideal S16x1024 .f32)
  (w : FVec Ideal S1024x2816 .bf16)

/-- The reference's normed tokens. -/
abbrev below : FVec Ideal S4352x1024 .bf16 :=
  truncf .bf16 (concatenate S4352x1024 0 [⟨S4096x1024, latents x g mb⟩, ⟨S256x1024, contexts e g mb⟩] concatenates_S4096x1024_S256x1024_S4352x1024_d0) bitsLt_bf16_f32

theorem host_hidden : below x e g mb = (tokensNormed x e g mb : FVec Ideal S4352x1024 .bf16) := by
  funext i
  obtain ⟨r, k, rfl⟩ := PreNorm.idx2 i
  show _ = tokenNormed x e g mb r k
  refine (below_at _ _ r k).trans ?_
  unfold tokenNormed
  rcases token_cases r with ⟨s, rfl⟩ | ⟨s, rfl⟩
  · rw [joined_lat, latents_at, flag_lat, pick_zero, pick_zero]
    exact congrArg (fun x => normed x _ _ _ k) (funext fun l => (joined_lat x e s l).symm)
  · rw [joined_ctx, contexts_at, flag_ctx, pick_one, pick_one]
    exact congrArg (fun x => normed x _ _ _ k) (funext fun l => (joined_ctx x e s l).symm)

theorem host_projected (h : FTy.bf16.bits < FTy.f32.bits) : Host.dotGeneral (F := Ideal) dot_S4352x1024_S1024x2816_S4352x2816_1_0_0_1_n_n none
    (extf .f32 (below x e g mb) h) (extf .f32 w h) = (plain (tokensNormed x e g mb) w : FVec Ideal S4352x2816 .f32) := by
  rw [host_hidden]
  generalize (tokensNormed x e g mb : FVec Ideal S4352x1024 .bf16) = y
  funext i
  unfold plain plainAt
  pointwise

end Host

end Cert.Reference21Ideal.Result

namespace Cert.Proof.MixEntry0

/-- At exact arithmetic the kernel's blocks and the reference's two results are the same arrays. -/
theorem algebraic : Cert.algebraic_Kernel21Ideal_Reference21Ideal := by
  intro m ρ m' ρ' _ agree
  refine ⟨fun c => Cert.Kernel21Ideal.Result.hidden m c, fun c => Cert.Kernel21Ideal.Result.projected m c,
    (θ_run Cert.Kernel21Ideal.defs _ _).mono (fun _ h c => ⟨(h c).1.trans (Cert.Kernel21Ideal.Result.final5 m c),
      (h c).2.1.trans (Cert.Kernel21Ideal.Result.final6 m c), (h c).2.2⟩)
      (Cert.Kernel21Ideal.Value.run_blocks m ρ), ?_⟩
  refine (θ_run Cert.Reference21Ideal.defs _ _).mono (fun _ h c => ⟨(h c).1.trans ?_, (h c).2.1.trans ?_, (h c).2.2⟩)
    (Cert.Reference21Ideal.Value.run (F := Ideal) m' ρ')
  · rw [(agree c).1, (agree c).2.1, (agree c).2.2.1, (agree c).2.2.2.1]
    exact Cert.Reference21Ideal.Result.host_hidden _ _ _ _
  · rw [(agree c).1, (agree c).2.1, (agree c).2.2.1, (agree c).2.2.2.1, (agree c).2.2.2.2]
    exact Cert.Reference21Ideal.Result.host_projected _ _ _ _ _ _

end Cert.Proof.MixEntry0
-- ==== Proof.Adam.lean ====
/-
  The optimiser's update of one weight entry. AdamW keeps a running mean of the gradient and one of its square; the step
  is the first, corrected for its start, over the root of the second, plus a multiple of the weight, times minus the rate.
-/
module

public import Idealize.ShloMosaic.Lib.Pointwise
public import Idealize.ShloMosaic.Lib.Tactic
public import proofs.«01_k».proof.Proof.PreNorm

@[expose] public section

noncomputable section

open Idealize.ShloMosaic Idealize.ShloMosaic.TcCoe

namespace Cert.Adam

/-- The mean of the gradient after the step. -/
def newM (g m : EReal) : EReal := Ideal.ofBits FTy.f32 0x3F666666#32 * m + Ideal.ofBits FTy.f32 0x3DCCCCCD#32 * g
/-- The mean of the squared gradient after the step. -/
def newV (g v : EReal) : EReal := Ideal.ofBits FTy.f32 0x3F7FBE77#32 * v + Ideal.ofBits FTy.f32 0x3A83126F#32 * (g * g)
/-- What is added to the weight. -/
def delta (w g m v : EReal) : EReal :=
  Ideal.ofBits FTy.f32 0xBA83126F#32 * (Ideal.div (Ideal.div (newM g m) (Ideal.ofBits FTy.f32 0x3F26BD02#32))
      (Ideal.sqrt (Ideal.div (newV g v) (Ideal.ofBits FTy.f32 0x3C231ACC#32)) + Ideal.ofBits FTy.f32 0x322BCC77#32)
    + Ideal.ofBits FTy.f32 0x3C23D70A#32 * w)

end Cert.Adam
-- ==== Proof.AdamMod.lean ====
/-
  The update of the modulation weight. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel22Ideal.Value
public import proofs.«01_k».proof.Proof.Gen.Reference22Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel22Ideal.Result

open Cert.Kernel22Ideal Cert.Kernel22Ideal.Gen

variable (m : (ℓ : Loc nD τ sig) → Buf (Elt Ideal) ℓ) (c : Dev nD)

theorem zero_offsets3 : (![0, 0, 0] : Fin 3 → Nat) = fun _ => 0 := funext fun a => by fin_cases a <;> rfl

/-- The gradient's tile. -/
theorem grad_apply (p : Vec Ideal S1x256x768 .f32) (r : Fin 256) (k : Fin 768) : k0_pay1 p (ix2 r k) = ∑ d : Fin 1, p (ix3 d r k) := by
  unfold k0_pay1
  pointwise
  rw [Fin.sum_univ_one]

/-- The first mean's tile. -/
theorem newM_apply (p : Vec Ideal S1x256x768 .f32) (a : Vec Ideal S256x768 .f32) (r : Fin 256) (k : Fin 768) :
    k0_pay2 p a (ix2 r k) = newM (k0_pay1 p (ix2 r k)) (a (ix2 r k)) := by
  unfold k0_pay2
  generalize k0_pay1 p = g
  unfold newM
  pointwise

/-- The second mean's tile. -/
theorem newV_apply (p : Vec Ideal S1x256x768 .f32) (b : Vec Ideal S256x768 .f32) (r : Fin 256) (k : Fin 768) :
    k0_pay3 p b (ix2 r k) = newV (k0_pay1 p (ix2 r k)) (b (ix2 r k)) := by
  unfold k0_pay3
  generalize k0_pay1 p = g
  unfold newV
  pointwise

/-- The step's tile. -/
theorem delta_apply (p : Vec Ideal S1x256x768 .f32) (w a b : Vec Ideal S256x768 .f32) (r : Fin 256) (k : Fin 768) :
    k0_pay4 p w a b (ix2 r k) = delta (w (ix2 r k)) (k0_pay1 p (ix2 r k)) (a (ix2 r k)) (b (ix2 r k)) := by
  unfold k0_pay4 k0_pay2 k0_pay3
  generalize k0_pay1 p = g
  unfold delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg2) := m ((c : Thread nD τ).loc main_arg2)
/-- The mean of the squared gradient as an argument. -/
def aV : Buf (Elt Ideal) ((c : Thread nD τ).loc main_arg3) := m ((c : Thread nD τ).loc main_arg3)
/-- The devices' parts of the gradient. -/
def aP : Buf (Elt Ideal) ((c : Thread nD τ).loc main_arg1) := m ((c : Thread nD τ).loc main_arg1)

/-- The gradient. -/
def gAt (r : Fin 2048) (k : Fin 768) : EReal := ∑ d : Fin 1, (aP m c (ix3 d r k) : EReal)
/-- The step. -/
def dAt (r : Fin 2048) (k : Fin 768) : EReal := delta (aW m c (ix2 r k)) (gAt m c r k) (aM m c (ix2 r k)) (aV m c (ix2 r k))
/-- The first mean. -/
def mAt (r : Fin 2048) (k : Fin 768) : EReal := newM (gAt m c r k) (aM m c (ix2 r k))
/-- The second mean. -/
def vAt (r : Fin 2048) (k : Fin 768) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 8 := by have := t.isLt; have hN : cfg0.N = 8 := N_0; omega

/-- The row of the whole array that row `r` of the tile `t` is. -/
def at_ (t : Fin cfg0.N) (r : Fin 256) : Fin 2048 := ⟨t.val * 256 + r.val, by have := points t; omega⟩

/-- Which tiles the point `t` reads and writes. -/
theorem blocks_at : ∀ t : Fin grid0.N, (win0_0.index t 0 = t.val ∧ win0_0.index t 1 = 0)
    ∧ (win0_2.index t 0 = t.val ∧ win0_2.index t 1 = 0) ∧ (win0_3.index t 0 = t.val ∧ win0_3.index t 1 = 0) := by
  decide +kernel
theorem parts_at : ∀ t : Fin grid0.N, win0_1.index t 0 = 0 ∧ win0_1.index t 1 = t.val ∧ win0_1.index t 2 = 0 := by
  decide +kernel
theorem outs_at : ∀ t : Fin grid0.N, (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by
  decide +kernel

theorem read_w (t : Fin cfg0.N) (r : Fin 256) (k : Fin 768) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 768 + 1 * k.val = k.val; rw [e.2]; omega

theorem read_m (t : Fin cfg0.N) (r : Fin 256) (k : Fin 768) : iblk m c 2 t (ix2 r k) = aM m c (ix2 (at_ t r) k) := by
  have e := (blocks_at t).2.1
  show V m c main_arg2 _ = m _ _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 768 + 1 * k.val = k.val; rw [e.2]; omega

theorem read_v (t : Fin cfg0.N) (r : Fin 256) (k : Fin 768) : iblk m c 3 t (ix2 r k) = aV m c (ix2 (at_ t r) k) := by
  have e := (blocks_at t).2.2
  show V m c main_arg3 _ = m _ _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 768 + 1 * k.val = k.val; rw [e.2]; omega

theorem read_p (t : Fin cfg0.N) (d : Fin 1) (r : Fin 256) (k : Fin 768) :
    iblk m c 1 t (ix3 d r k) = aP m c (ix3 d (at_ t r) k) := by
  have e := parts_at t
  show V m c main_arg1 _ = m _ _
  rw [V_main_arg1]
  congr 1
  funext a
  apply Fin.ext
  match a with
  | ⟨0, _⟩ => show win0_1.index t 0 * 1 + 1 * d.val = d.val; rw [e.1]; omega
  | ⟨1, _⟩ => show win0_1.index t 1 * 256 + 1 * r.val = t.val * 256 + r.val; rw [e.2.1]; omega
  | ⟨2, _⟩ => show win0_1.index t 2 * 768 + 1 * k.val = k.val; rw [e.2.2]; omega

theorem gAt_tile (t : Fin cfg0.N) (r : Fin 256) (k : Fin 768) :
    gAt m c (at_ t r) k = Finset.sum (M := EReal) Finset.univ fun d : Fin 1 => iblk m c 1 t (ix3 d r k) :=
  Finset.sum_congr (M := EReal) rfl fun d _ => (read_p m c t d r k).symm

set_option maxHeartbeats 2000000 in
/-- What the point `t` writes back: its tile of the result. -/
theorem flushed4_A_eq (t : Fin cfg0.N)  :
    (dats m 0 c).flushed 4 t = ((cfg0.win 4).blk t).view.read (Elt Ideal) (resG m c) := by
  have e := (outs_at t).1
  rw [Value.flushed4_A m c t ]
  unfold out0_A_4
  rw [View.read_writes_eq_canon _ _ _ (fun _ => cover0_A_4 ..)]
  unfold kernelRun0_A
  dsimp only
  sl_unfold_words
  simp only [View.canon_unit_zero (S := S256x768) zero_offsets, View.readAt_eq_ld, (hs0_0 t).read_unread, (hs0_1 t).read_unread, (hs0_2 t).read_unread, (hs0_3 t).read_unread,
    View.ld_unit_zero (S := S256x768) zero_offsets, View.ld_unit_zero (S := S1x256x768) zero_offsets3]
  funext j
  rw [View.read_apply]
  obtain ⟨r, k, rfl⟩ : ∃ (r : Fin 256) (k : Fin 768), j = ix2 r k := idx2 j
  refine Eq.trans (b := gAt m c (at_ t r) k) ?_ (congrArg₂ (gAt m c) (Fin.ext ?_) (Fin.ext ?_))
  · exact (grad_apply (iblk m c 1 t) r k).trans (gAt_tile m c t r k).symm
  · show t.val * 256 + r.val = win0_4.index t 0 * 256 + 1 * r.val; rw [e.1]; omega
  · show k.val = win0_4.index t 1 * 768 + 1 * k.val; rw [e.2]; omega

theorem flushed4_eq (t : Fin cfg0.N) : (dats m 0 c).flushed 4 t = ((cfg0.win 4).blk t).view.read (Elt Ideal) (resG m c) :=
  flushed4_A_eq m c t

theorem cover4 (i : S2048x768.Idx) : ∃ t : Fin cfg0.N, (cfg0.win 4).flush t = true ∧ i ∈ ((cfg0.win 4).blk t).view.set := by
  have h0 : (i 0 : Nat) < 2048 := (i 0).isLt
  have h1 : (i 1 : Nat) < 768 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).1
  refine ⟨t, flush0_4 _, ?_⟩
  show i ∈ ((View.whole main_v0_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; rw [e.1]; omega
  | ⟨1, _⟩ => show win0_4.index t 1 * 768 ≤ (i 1 : Nat) ∧ (i 1 : Nat) < win0_4.index t 1 * 768 + 768; rw [e.2]; omega

/-- The result array after the run. -/
theorem final4 : (dats m 0 c).arrAt 4 cfg0.N = resG m c :=
  (dats m 0 c).arrAt_eq_of_cover 4 (resG m c) (fun t _ => flushed4_eq m c t) cover4

set_option maxHeartbeats 2000000 in
/-- What the point `t` writes back: its tile of the result. -/
theorem flushed5_A_eq (t : Fin cfg0.N)  :
    (dats m 0 c).flushed 5 t = ((cfg0.win 5).blk t).view.read (Elt Ideal) (resD m c) := by
  have e := (outs_at t).2.1
  rw [Value.flushed5_A m c t ]
  unfold out0_A_5
  rw [View.read_writes_eq_canon _ _ _ (fun _ => cover0_A_5 ..)]
  unfold kernelRun0_A
  dsimp only
  sl_unfold_words
  simp only [View.canon_unit_zero (S := S256x768) zero_offsets, View.readAt_eq_ld, (hs0_0 t).read_unread, (hs0_1 t).read_unread, (hs0_2 t).read_unread, (hs0_3 t).read_unread,
    View.ld_unit_zero (S := S256x768) zero_offsets, View.ld_unit_zero (S := S1x256x768) zero_offsets3]
  funext j
  rw [View.read_apply]
  obtain ⟨r, k, rfl⟩ : ∃ (r : Fin 256) (k : Fin 768), j = ix2 r k := idx2 j
  refine Eq.trans (b := dAt m c (at_ t r) k) ?_ (congrArg₂ (dAt m c) (Fin.ext ?_) (Fin.ext ?_))
  · refine (delta_apply ..).trans ?_
    unfold dAt
    rw [gAt_tile m c t r k, ← grad_apply, ← read_w m c, ← read_m m c, ← read_v m c]
  · show t.val * 256 + r.val = win0_5.index t 0 * 256 + 1 * r.val; rw [e.1]; omega
  · show k.val = win0_5.index t 1 * 768 + 1 * k.val; rw [e.2]; omega

theorem flushed5_eq (t : Fin cfg0.N) : (dats m 0 c).flushed 5 t = ((cfg0.win 5).blk t).view.read (Elt Ideal) (resD m c) :=
  flushed5_A_eq m c t

theorem cover5 (i : S2048x768.Idx) : ∃ t : Fin cfg0.N, (cfg0.win 5).flush t = true ∧ i ∈ ((cfg0.win 5).blk t).view.set := by
  have h0 : (i 0 : Nat) < 2048 := (i 0).isLt
  have h1 : (i 1 : Nat) < 768 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).2.1
  refine ⟨t, flush0_5 _, ?_⟩
  show i ∈ ((View.whole main_v0_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [e.1]; omega
  | ⟨1, _⟩ => show win0_5.index t 1 * 768 ≤ (i 1 : Nat) ∧ (i 1 : Nat) < win0_5.index t 1 * 768 + 768; rw [e.2]; omega

/-- The result array after the run. -/
theorem final5 : (dats m 0 c).arrAt 5 cfg0.N = resD m c :=
  (dats m 0 c).arrAt_eq_of_cover 5 (resD m c) (fun t _ => flushed5_eq m c t) cover5

set_option maxHeartbeats 2000000 in
/-- What the point `t` writes back: its tile of the result. -/
theorem flushed6_A_eq (t : Fin cfg0.N)  :
    (dats m 0 c).flushed 6 t = ((cfg0.win 6).blk t).view.read (Elt Ideal) (resM m c) := by
  have e := (outs_at t).2.2.1
  rw [Value.flushed6_A m c t ]
  unfold out0_A_6
  rw [View.read_writes_eq_canon _ _ _ (fun _ => cover0_A_6 ..)]
  unfold kernelRun0_A
  dsimp only
  sl_unfold_words
  simp only [View.canon_unit_zero (S := S256x768) zero_offsets, View.readAt_eq_ld, (hs0_0 t).read_unread, (hs0_1 t).read_unread, (hs0_2 t).read_unread, (hs0_3 t).read_unread,
    View.ld_unit_zero (S := S256x768) zero_offsets, View.ld_unit_zero (S := S1x256x768) zero_offsets3]
  funext j
  rw [View.read_apply]
  obtain ⟨r, k, rfl⟩ : ∃ (r : Fin 256) (k : Fin 768), j = ix2 r k := idx2 j
  refine Eq.trans (b := mAt m c (at_ t r) k) ?_ (congrArg₂ (mAt m c) (Fin.ext ?_) (Fin.ext ?_))
  · refine (newM_apply ..).trans ?_
    unfold mAt
    rw [gAt_tile m c t r k, ← grad_apply, ← read_m m c]
  · show t.val * 256 + r.val = win0_6.index t 0 * 256 + 1 * r.val; rw [e.1]; omega
  · show k.val = win0_6.index t 1 * 768 + 1 * k.val; rw [e.2]; omega

theorem flushed6_eq (t : Fin cfg0.N) : (dats m 0 c).flushed 6 t = ((cfg0.win 6).blk t).view.read (Elt Ideal) (resM m c) :=
  flushed6_A_eq m c t

theorem cover6 (i : S2048x768.Idx) : ∃ t : Fin cfg0.N, (cfg0.win 6).flush t = true ∧ i ∈ ((cfg0.win 6).blk t).view.set := by
  have h0 : (i 0 : Nat) < 2048 := (i 0).isLt
  have h1 : (i 1 : Nat) < 768 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).2.2.1
  refine ⟨t, flush0_6 _, ?_⟩
  show i ∈ ((View.whole main_v0_2).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e.1]; omega
  | ⟨1, _⟩ => show win0_6.index t 1 * 768 ≤ (i 1 : Nat) ∧ (i 1 : Nat) < win0_6.index t 1 * 768 + 768; rw [e.2]; omega

/-- The result array after the run. -/
theorem final6 : (dats m 0 c).arrAt 6 cfg0.N = resM m c :=
  (dats m 0 c).arrAt_eq_of_cover 6 (resM m c) (fun t _ => flushed6_eq m c t) cover6

set_option maxHeartbeats 2000000 in
/-- What the point `t` writes back: its tile of the result. -/
theorem flushed7_A_eq (t : Fin cfg0.N)  :
    (dats m 0 c).flushed 7 t = ((cfg0.win 7).blk t).view.read (Elt Ideal) (resV m c) := by
  have e := (outs_at t).2.2.2
  rw [Value.flushed7_A m c t ]
  unfold out0_A_7
  rw [View.read_writes_eq_canon _ _ _ (fun _ => cover0_A_7 ..)]
  unfold kernelRun0_A
  dsimp only
  sl_unfold_words
  simp only [View.canon_unit_zero (S := S256x768) zero_offsets, View.readAt_eq_ld, (hs0_0 t).read_unread, (hs0_1 t).read_unread, (hs0_2 t).read_unread, (hs0_3 t).read_unread,
    View.ld_unit_zero (S := S256x768) zero_offsets, View.ld_unit_zero (S := S1x256x768) zero_offsets3]
  funext j
  rw [View.read_apply]
  obtain ⟨r, k, rfl⟩ : ∃ (r : Fin 256) (k : Fin 768), j = ix2 r k := idx2 j
  refine Eq.trans (b := vAt m c (at_ t r) k) ?_ (congrArg₂ (vAt m c) (Fin.ext ?_) (Fin.ext ?_))
  · refine (newV_apply ..).trans ?_
    unfold vAt
    rw [gAt_tile m c t r k, ← grad_apply, ← read_v m c]
  · show t.val * 256 + r.val = win0_7.index t 0 * 256 + 1 * r.val; rw [e.1]; omega
  · show k.val = win0_7.index t 1 * 768 + 1 * k.val; rw [e.2]; omega

theorem flushed7_eq (t : Fin cfg0.N) : (dats m 0 c).flushed 7 t = ((cfg0.win 7).blk t).view.read (Elt Ideal) (resV m c) :=
  flushed7_A_eq m c t

theorem cover7 (i : S2048x768.Idx) : ∃ t : Fin cfg0.N, (cfg0.win 7).flush t = true ∧ i ∈ ((cfg0.win 7).blk t).view.set := by
  have h0 : (i 0 : Nat) < 2048 := (i 0).isLt
  have h1 : (i 1 : Nat) < 768 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).2.2.2
  refine ⟨t, flush0_7 _, ?_⟩
  show i ∈ ((View.whole main_v0_3).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256; rw [e.1]; omega
  | ⟨1, _⟩ => show win0_7.index t 1 * 768 ≤ (i 1 : Nat) ∧ (i 1 : Nat) < win0_7.index t 1 * 768 + 768; rw [e.2]; omega

/-- The result array after the run. -/
theorem final7 : (dats m 0 c).arrAt 7 cfg0.N = resV m c :=
  (dats m 0 c).arrAt_eq_of_cover 7 (resV m c) (fun t _ => flushed7_eq m c t) cover7

end Cert.Kernel22Ideal.Result

namespace Cert.Proof.AdamMod

open Cert.Kernel22Ideal.Result

section
open Cert.Reference22Ideal Cert.Reference22Ideal.Gen
set_option maxHeartbeats 2000000 in
/-- The reference's gradient, entry by entry. -/
theorem refG_apply (x1 : FVec Ideal S1x2048x768 .f32) (r : Fin 2048) (k : Fin 768) :
    (Host.reduceAdd x1 (constant S_ .f32 0x00000000#32) reducesTo_S1x2048x768_S2048x768_d0 h_S_ : FVec Ideal Cert.Reference22Ideal.S2048x768 .f32) (ix2 r k)
      = (∑ d : Fin 1, (x1 (ix3 d r k) : EReal)) := by
  pointwise
end

section
open Cert.Reference22Ideal Cert.Reference22Ideal.Gen
set_option maxHeartbeats 2000000 in
/-- The reference's step, entry by entry. -/
theorem refD_apply (x0 : FVec Ideal S2048x768 .f32) (x1 : FVec Ideal S1x2048x768 .f32) (x2 : FVec Ideal S2048x768 .f32) (x3 : FVec Ideal S2048x768 .f32) (r : Fin 2048) (k : Fin 768) :
    (mulf (broadcastInDim S2048x768 ![] bcast_S_S2048x768 (constant S_ .f32 0xBA83126F#32)) (addf (Host.divf (Host.divf (addf (mulf (broadcastInDim S2048x768 ![] bcast_S_S2048x768 (constant S_ .f32 0x3F666666#32)) x2) (mulf (broadcastInDim S2048x768 ![] bcast_S_S2048x768 (constant S_ .f32 0x3DCCCCCD#32)) (Host.reduceAdd x1 (constant S_ .f32 0x00000000#32) reducesTo_S1x2048x768_S2048x768_d0 h_S_))) (broadcastInDim S2048x768 ![] bcast_S_S2048x768 (constant S_ .f32 0x3F26BD02#32))) (addf (Host.sqrt (Host.divf (addf (mulf (broadcastInDim S2048x768 ![] bcast_S_S2048x768 (constant S_ .f32 0x3F7FBE77#32)) x3) (mulf (broadcastInDim S2048x768 ![] bcast_S_S2048x768 (constant S_ .f32 0x3A83126F#32)) (mulf (Host.reduceAdd x1 (constant S_ .f32 0x00000000#32) reducesTo_S1x2048x768_S2048x768_d0 h_S_) (Host.reduceAdd x1 (constant S_ .f32 0x00000000#32) reducesTo_S1x2048x768_S2048x768_d0 h_S_)))) (broadcastInDim S2048x768 ![] bcast_S_S2048x768 (constant S_ .f32 0x3C231ACC#32)))) (broadcastInDim S2048x768 ![] bcast_S_S2048x768 (constant S_ .f32 0x322BCC77#32)))) (mulf (broadcastInDim S2048x768 ![] bcast_S_S2048x768 (constant S_ .f32 0x3C23D70A#32)) x0)) : FVec Ideal Cert.Reference22Ideal.S2048x768 .f32) (ix2 r k)
      = delta (x0 (ix2 r k)) (∑ d : Fin 1, (x1 (ix3 d r k) : EReal)) (x2 (ix2 r k)) (x3 (ix2 r k)) := by
  unfold delta newM newV
  pointwise
end

section
open Cert.Reference22Ideal Cert.Reference22Ideal.Gen
set_option maxHeartbeats 2000000 in
/-- The reference's first mean, entry by entry. -/
theorem refM_apply (x1 : FVec Ideal S1x2048x768 .f32) (x2 : FVec Ideal S2048x768 .f32) (r : Fin 2048) (k : Fin 768) :
    (addf (mulf (broadcastInDim S2048x768 ![] bcast_S_S2048x768 (constant S_ .f32 0x3F666666#32)) x2) (mulf (broadcastInDim S2048x768 ![] bcast_S_S2048x768 (constant S_ .f32 0x3DCCCCCD#32)) (Host.reduceAdd x1 (constant S_ .f32 0x00000000#32) reducesTo_S1x2048x768_S2048x768_d0 h_S_)) : FVec Ideal Cert.Reference22Ideal.S2048x768 .f32) (ix2 r k)
      = newM (∑ d : Fin 1, (x1 (ix3 d r k) : EReal)) (x2 (ix2 r k)) := by
  unfold newM
  pointwise
end

section
open Cert.Reference22Ideal Cert.Reference22Ideal.Gen
set_option maxHeartbeats 2000000 in
/-- The reference's second mean, entry by entry. -/
theorem refV_apply (x1 : FVec Ideal S1x2048x768 .f32) (x3 : FVec Ideal S2048x768 .f32) (r : Fin 2048) (k : Fin 768) :
    (addf (mulf (broadcastInDim S2048x768 ![] bcast_S_S2048x768 (constant S_ .f32 0x3F7FBE77#32)) x3) (mulf (broadcastInDim S2048x768 ![] bcast_S_S2048x768 (constant S_ .f32 0x3A83126F#32)) (mulf (Host.reduceAdd x1 (constant S_ .f32 0x00000000#32) reducesTo_S1x2048x768_S2048x768_d0 h_S_) (Host.reduceAdd x1 (constant S_ .f32 0x00000000#32) reducesTo_S1x2048x768_S2048x768_d0 h_S_))) : FVec Ideal Cert.Reference22Ideal.S2048x768 .f32) (ix2 r k)
      = newV (∑ d : Fin 1, (x1 (ix3 d r k) : EReal)) (x3 (ix2 r k)) := by
  unfold newV
  pointwise
end

set_option maxHeartbeats 4000000 in
/-- At exact arithmetic the kernel's results are those of AdamW on the summed gradient. -/
theorem algebraic : Cert.algebraic_Kernel22Ideal_Reference22Ideal := by
  intro m ρ m' ρ' _ agree
  refine ⟨fun c => resG m c, fun c => resD m c, fun c => resM m c, fun c => resV m c,
    (θ_run Cert.Kernel22Ideal.defs _ _).mono (fun _ h c => ⟨(h c).1.trans (final4 m c), (h c).2.1.trans (final5 m c), (h c).2.2.1.trans (final6 m c), (h c).2.2.2.1.trans (final7 m c), (h c).2.2.2.2⟩)
      (Cert.Kernel22Ideal.Value.run_blocks m ρ), ?_⟩
  refine (θ_run Cert.Reference22Ideal.defs _ _).mono (fun _ h c => ⟨(h c).1.trans ?_, (h c).2.1.trans ?_, (h c).2.2.1.trans ?_, (h c).2.2.2.1.trans ?_, (h c).2.2.2.2⟩)
    (Cert.Reference22Ideal.Value.run (F := Ideal) m' ρ')
  · rw [(agree c).2.1]
    funext i
    obtain ⟨r, k, rfl⟩ : ∃ (r : Fin 2048) (k : Fin 768), i = ix2 r k := idx2 i
    exact refG_apply ..
  · rw [(agree c).1, (agree c).2.1, (agree c).2.2.1, (agree c).2.2.2.1]
    funext i
    obtain ⟨r, k, rfl⟩ : ∃ (r : Fin 2048) (k : Fin 768), i = ix2 r k := idx2 i
    exact refD_apply ..
  · rw [(agree c).2.1, (agree c).2.2.1]
    funext i
    obtain ⟨r, k, rfl⟩ : ∃ (r : Fin 2048) (k : Fin 768), i = ix2 r k := idx2 i
    exact refM_apply ..
  · rw [(agree c).2.1, (agree c).2.2.2.1]
    funext i
    obtain ⟨r, k, rfl⟩ : ∃ (r : Fin 2048) (k : Fin 768), i = ix2 r k := idx2 i
    exact refV_apply ..

end Cert.Proof.AdamMod
-- ==== Proof.AdamFfnIn.lean ====
/-
  The update of the feed-forward's input weight, both layers at once. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel23Ideal.Value
public import proofs.«01_k».proof.Proof.Gen.Reference23Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel23Ideal.Result

open Cert.Kernel23Ideal Cert.Kernel23Ideal.Gen

variable (m : (ℓ : Loc nD τ sig) → Buf (Elt Ideal) ℓ) (c : Dev nD)

/-- The slices of a block of parts, as the kernel loads them. -/
abbrev slice (b : Vec Ideal S8x256x704 .bf16) (a : Nat)
    (inb : ∀ d : Fin 3, (![a, 0, 0] : Fin 3 → Nat) d + (![1, 256, 704] : Fin 3 → Nat) d ≤ S8x256x704.size d) : Vec Ideal S1x256x704 .bf16 :=
  View.ld b (Rect.unit ![a, 0, 0] ![1, 256, 704] inb)

/-- The gradient's tile: the devices' parts summed. -/
theorem grad_apply (b : Vec Ideal S8x256x704 .bf16) (r : Fin 256) (k : Fin 704) :
    k0_pay7 (slice b 0 inb_S8x256x704_S1x256x704_0_0_0) (slice b 1 inb_S8x256x704_S1x256x704_1_0_0) (slice b 2 inb_S8x256x704_S1x256x704_2_0_0) (slice b 3 inb_S8x256x704_S1x256x704_3_0_0) (slice b 4 inb_S8x256x704_S1x256x704_4_0_0) (slice b 5 inb_S8x256x704_S1x256x704_5_0_0) (slice b 6 inb_S8x256x704_S1x256x704_6_0_0) (slice b 7 inb_S8x256x704_S1x256x704_7_0_0) (ix2 r k)
      = ∑ d : Fin 8, (b (ix3 d r k) : EReal) := by
  unfold k0_pay7 slice
  pointwise
  rw [Fin.sum_univ_eight]

/-- The first mean's tile. -/
theorem newM_apply (g a : Vec Ideal S256x704 .f32) (r : Fin 256) (k : Fin 704) :
    k0_pay1 g a (ix2 r k) = newM (g (ix2 r k)) (a (ix2 r k)) := by
  unfold k0_pay1 newM
  pointwise

/-- The second mean's tile. -/
theorem newV_apply (g b : Vec Ideal S256x704 .f32) (r : Fin 256) (k : Fin 704) :
    k0_pay2 g b (ix2 r k) = newV (g (ix2 r k)) (b (ix2 r k)) := by
  unfold k0_pay2 newV
  pointwise

/-- The step's tile. -/
theorem delta_apply (g w a b : Vec Ideal S256x704 .f32) (r : Fin 256) (k : Fin 704) :
    k0_pay3 g w a b (ix2 r k) = delta (w (ix2 r k)) (g (ix2 r k)) (a (ix2 r k)) (b (ix2 r k)) := by
  unfold k0_pay3 k0_pay1 k0_pay2 delta newM newV
  pointwise

/-- The gradient's tile: the devices' parts summed. -/
theorem grad_apply' (b : Vec Ideal S8x256x704 .bf16) (r : Fin 256) (k : Fin 704) :
    k0_pay8 (slice b 0 inb_S8x256x704_S1x256x704_0_0_0) (slice b 1 inb_S8x256x704_S1x256x704_1_0_0) (slice b 2 inb_S8x256x704_S1x256x704_2_0_0) (slice b 3 inb_S8x256x704_S1x256x704_3_0_0) (slice b 4 inb_S8x256x704_S1x256x704_4_0_0) (slice b 5 inb_S8x256x704_S1x256x704_5_0_0) (slice b 6 inb_S8x256x704_S1x256x704_6_0_0) (slice b 7 inb_S8x256x704_S1x256x704_7_0_0) (ix2 r k)
      = ∑ d : Fin 8, (b (ix3 d r k) : EReal) := by
  unfold k0_pay8 slice
  pointwise
  rw [Fin.sum_univ_eight]

/-- The first mean's tile. -/
theorem newM_apply' (g a : Vec Ideal S256x704 .f32) (r : Fin 256) (k : Fin 704) :
    k0_pay4 g a (ix2 r k) = newM (g (ix2 r k)) (a (ix2 r k)) := by
  unfold k0_pay4 newM
  pointwise

/-- The second mean's tile. -/
theorem newV_apply' (g b : Vec Ideal S256x704 .f32) (r : Fin 256) (k : Fin 704) :
    k0_pay5 g b (ix2 r k) = newV (g (ix2 r k)) (b (ix2 r k)) := by
  unfold k0_pay5 newV
  pointwise

/-- The step's tile. -/
theorem delta_apply' (g w a b : Vec Ideal S256x704 .f32) (r : Fin 256) (k : Fin 704) :
    k0_pay6 g w a b (ix2 r k) = delta (w (ix2 r k)) (g (ix2 r k)) (a (ix2 r k)) (b (ix2 r k)) := by
  unfold k0_pay6 k0_pay4 k0_pay5 delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg3) := m ((c : Thread nD τ).loc main_arg3)
/-- The mean of the squared gradient as an argument. -/
def aV : Buf (Elt Ideal) ((c : Thread nD τ).loc main_arg4) := m ((c : Thread nD τ).loc main_arg4)
/-- The devices' parts of the gradient. -/
def aP : Buf (Elt Ideal) ((c : Thread nD τ).loc main_arg1) := m ((c : Thread nD τ).loc main_arg1)
/-- The devices' parts of the second layer's gradient. -/
def aQ : Buf (Elt Ideal) ((c : Thread nD τ).loc main_arg2) := m ((c : Thread nD τ).loc main_arg2)

/-- The gradient of the stacked weight: the first layer's rows, then the second's. -/
def gAt (r : Fin 2048) (k : Fin 704) : EReal :=
  if h : r.val < 1024 then ∑ d : Fin 8, (aP m c (ix3 d ⟨r.val, h⟩ k) : EReal) else ∑ d : Fin 8, (aQ m c (ix3 d ⟨r.val - 1024, by omega⟩ k) : EReal)
/-- The step. -/
def dAt (r : Fin 2048) (k : Fin 704) : EReal := delta (aW m c (ix2 r k)) (gAt m c r k) (aM m c (ix2 r k)) (aV m c (ix2 r k))
/-- The first mean. -/
def mAt (r : Fin 2048) (k : Fin 704) : EReal := newM (gAt m c r k) (aM m c (ix2 r k))
/-- The second mean. -/
def vAt (r : Fin 2048) (k : Fin 704) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 8 := by have := t.isLt; have hN : cfg0.N = 8 := N_0; omega

/-- The row of the whole array that row `r` of the tile `t` is. -/
def at_ (t : Fin cfg0.N) (r : Fin 256) : Fin 2048 := ⟨t.val * 256 + r.val, by have := points t; omega⟩

/-- Which tiles the point `t` reads and writes. -/
theorem blocks_at : ∀ t : Fin grid0.N, (win0_0.index t 0 = t.val ∧ win0_0.index t 1 = 0)
    ∧ (win0_3.index t 0 = t.val ∧ win0_3.index t 1 = 0) ∧ (win0_4.index t 0 = t.val ∧ win0_4.index t 1 = 0) := by
  decide +kernel
theorem parts_at : ∀ t : Fin grid0.N, (t.val < 4 → win0_1.index t 0 = 0 ∧ win0_1.index t 1 = t.val ∧ win0_1.index t 2 = 0)
    ∧ (4 ≤ t.val → win0_2.index t 0 = 0 ∧ win0_2.index t 1 = t.val - 4 ∧ win0_2.index t 2 = 0) := by
  decide +kernel
theorem outs_at : ∀ t : Fin grid0.N, (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) := by
  decide +kernel

theorem read_w (t : Fin cfg0.N) (r : Fin 256) (k : Fin 704) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 704 + 1 * k.val = k.val; rw [e.2]; omega

theorem read_m (t : Fin cfg0.N) (r : Fin 256) (k : Fin 704) : iblk m c 3 t (ix2 r k) = aM m c (ix2 (at_ t r) k) := by
  have e := (blocks_at t).2.1
  show V m c main_arg3 _ = m _ _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 704 + 1 * k.val = k.val; rw [e.2]; omega

theorem read_v (t : Fin cfg0.N) (r : Fin 256) (k : Fin 704) : iblk m c 4 t (ix2 r k) = aV m c (ix2 (at_ t r) k) := by
  have e := (blocks_at t).2.2
  show V m c main_arg4 _ = m _ _
  rw [V_main_arg4]
  congr 1
  funext a
  apply Fin.ext
  match a with
  | ⟨0, _⟩ => show win0_4.index t 0 * 256 + 1 * r.val = t.val * 256 + r.val; rw [e.1]; omega
  | ⟨1, _⟩ => show win0_4.index t 1 * 704 + 1 * k.val = k.val; rw [e.2]; omega

theorem read_p (t : Fin cfg0.N) (h : t.val < 4) (d : Fin 8) (r : Fin 256) (k : Fin 704) :
    iblk m c 1 t (ix3 d r k) = aP m c (ix3 d ⟨t.val * 256 + r.val, by omega⟩ k) := by
  have e := (parts_at t).1 h
  show V m c main_arg1 _ = m _ _
  rw [V_main_arg1]
  congr 1
  funext a
  apply Fin.ext
  match a with
  | ⟨0, _⟩ => show win0_1.index t 0 * 8 + 1 * d.val = d.val; rw [e.1]; omega
  | ⟨1, _⟩ => show win0_1.index t 1 * 256 + 1 * r.val = t.val * 256 + r.val; rw [e.2.1]; omega
  | ⟨2, _⟩ => show win0_1.index t 2 * 704 + 1 * k.val = k.val; rw [e.2.2]; omega

theorem read_q (t : Fin cfg0.N) (h : 4 ≤ t.val) (d : Fin 8) (r : Fin 256) (k : Fin 704) :
    iblk m c 2 t (ix3 d r k) = aQ m c (ix3 d ⟨t.val * 256 + r.val - 1024, by have := points t; omega⟩ k) := by
  have e := (parts_at t).2 h
  show V m c main_arg2 _ = m _ _
  rw [V_main_arg2]
  congr 1
  funext a
  apply Fin.ext
  match a with
  | ⟨0, _⟩ => show win0_2.index t 0 * 8 + 1 * d.val = d.val; rw [e.1]; omega
  | ⟨1, _⟩ => show win0_2.index t 1 * 256 + 1 * r.val = t.val * 256 + r.val - 1024; rw [e.2.1]; omega
  | ⟨2, _⟩ => show win0_2.index t 2 * 704 + 1 * k.val = k.val; rw [e.2.2]; omega

theorem gAt_first (t : Fin cfg0.N) (h : t.val < 4) (r : Fin 256) (k : Fin 704) :
    gAt m c (at_ t r) k = Finset.sum (M := EReal) Finset.univ fun d : Fin 8 => iblk m c 1 t (ix3 d r k) := by
  unfold gAt
  have e : (at_ t r).val < 1024 := by show t.val * 256 + r.val < 1024; omega
  exact (dif_pos e).trans (Finset.sum_congr (M := EReal) rfl fun d _ => (read_p m c t h d r k).symm)

theorem gAt_second (t : Fin cfg0.N) (h : 4 ≤ t.val) (r : Fin 256) (k : Fin 704) :
    gAt m c (at_ t r) k = Finset.sum (M := EReal) Finset.univ fun d : Fin 8 => iblk m c 2 t (ix3 d r k) := by
  unfold gAt
  have e : ¬(at_ t r).val < 1024 := by show ¬t.val * 256 + r.val < 1024; omega
  exact (dif_neg e).trans (Finset.sum_congr (M := EReal) rfl fun d _ => (read_q m c t h d r k).symm)

set_option maxHeartbeats 2000000 in
/-- What the point `t` writes back (first layer): its tile of the result. -/
theorem flushed5_A_eq (t : Fin cfg0.N) (h : t.val < 4) :
    (dats m 0 c).flushed 5 t = ((cfg0.win 5).blk t).view.read (Elt Ideal) (resG m c) := by
  have e := (outs_at t).1
  rw [Value.flushed5_A m c t h (by omega)]
  unfold out0_A_5
  rw [View.read_writes_eq_canon _ _ _ (fun _ => cover0_A_5 ..)]
  unfold kernelRun0_A
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := gAt m c (at_ t r) k) ?_ (congrArg₂ (gAt m c) (Fin.ext ?_) (Fin.ext ?_))
  · exact (grad_apply (iblk m c 1 t) r k).trans (gAt_first m c t h r k).symm
  · show t.val * 256 + r.val = win0_5.index t 0 * 256 + 1 * r.val; rw [e.1]; omega
  · show k.val = win0_5.index t 1 * 704 + 1 * k.val; rw [e.2]; omega

set_option maxHeartbeats 2000000 in
/-- What the point `t` writes back (second layer): its tile of the result. -/
theorem flushed5_B_eq (t : Fin cfg0.N) (h : 4 ≤ t.val) :
    (dats m 0 c).flushed 5 t = ((cfg0.win 5).blk t).view.read (Elt Ideal) (resG m c) := by
  have e := (outs_at t).1
  rw [Value.flushed5_B m c t (by omega) h]
  unfold out0_B_5
  rw [View.read_writes_eq_canon _ _ _ (fun _ => cover0_B_5 ..)]
  unfold kernelRun0_B
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := gAt m c (at_ t r) k) ?_ (congrArg₂ (gAt m c) (Fin.ext ?_) (Fin.ext ?_))
  · exact (grad_apply' (iblk m c 2 t) r k).trans (gAt_second m c t h r k).symm
  · show t.val * 256 + r.val = win0_5.index t 0 * 256 + 1 * r.val; rw [e.1]; omega
  · show k.val = win0_5.index t 1 * 704 + 1 * k.val; rw [e.2]; omega

theorem flushed5_eq (t : Fin cfg0.N) : (dats m 0 c).flushed 5 t = ((cfg0.win 5).blk t).view.read (Elt Ideal) (resG m c) :=
  if h : t.val < 4 then flushed5_A_eq m c t h else flushed5_B_eq m c t (by omega)

theorem cover5 (i : S2048x704.Idx) : ∃ t : Fin cfg0.N, (cfg0.win 5).flush t = true ∧ i ∈ ((cfg0.win 5).blk t).view.set := by
  have h0 : (i 0 : Nat) < 2048 := (i 0).isLt
  have h1 : (i 1 : Nat) < 704 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).1
  refine ⟨t, flush0_5 _, ?_⟩
  show i ∈ ((View.whole main_v0_0).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [e.1]; omega
  | ⟨1, _⟩ => show win0_5.index t 1 * 704 ≤ (i 1 : Nat) ∧ (i 1 : Nat) < win0_5.index t 1 * 704 + 704; rw [e.2]; omega

/-- The result array after the run. -/
theorem final5 : (dats m 0 c).arrAt 5 cfg0.N = resG m c :=
  (dats m 0 c).arrAt_eq_of_cover 5 (resG m c) (fun t _ => flushed5_eq m c t) cover5

set_option maxHeartbeats 2000000 in
/-- What the point `t` writes back (first layer): its tile of the result. -/
theorem flushed6_A_eq (t : Fin cfg0.N) (h : t.val < 4) :
    (dats m 0 c).flushed 6 t = ((cfg0.win 6).blk t).view.read (Elt Ideal) (resD m c) := by
  have e := (outs_at t).2.1
  rw [Value.flushed6_A m c t h (by omega)]
  unfold out0_A_6
  rw [View.read_writes_eq_canon _ _ _ (fun _ => cover0_A_6 ..)]
  unfold kernelRun0_A
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := dAt m c (at_ t r) k) ?_ (congrArg₂ (dAt m c) (Fin.ext ?_) (Fin.ext ?_))
  · refine (delta_apply ..).trans ?_
    unfold dAt
    rw [gAt_first m c t h r k, ← grad_apply, ← read_w m c, ← read_m m c, ← read_v m c]
  · show t.val * 256 + r.val = win0_6.index t 0 * 256 + 1 * r.val; rw [e.1]; omega
  · show k.val = win0_6.index t 1 * 704 + 1 * k.val; rw [e.2]; omega

set_option maxHeartbeats 2000000 in
/-- What the point `t` writes back (second layer): its tile of the result. -/
theorem flushed6_B_eq (t : Fin cfg0.N) (h : 4 ≤ t.val) :
    (dats m 0 c).flushed 6 t = ((cfg0.win 6).blk t).view.read (Elt Ideal) (resD m c) := by
  have e := (outs_at t).2.1
  rw [Value.flushed6_B m c t (by omega) h]
  unfold out0_B_6
  rw [View.read_writes_eq_canon _ _ _ (fun _ => cover0_B_6 ..)]
  unfold kernelRun0_B
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := dAt m c (at_ t r) k) ?_ (congrArg₂ (dAt m c) (Fin.ext ?_) (Fin.ext ?_))
  · refine (delta_apply' ..).trans ?_
    unfold dAt
    rw [gAt_second m c t h r k, ← grad_apply', ← read_w m c, ← read_m m c, ← read_v m c]
  · show t.val * 256 + r.val = win0_6.index t 0 * 256 + 1 * r.val; rw [e.1]; omega
  · show k.val = win0_6.index t 1 * 704 + 1 * k.val; rw [e.2]; omega

theorem flushed6_eq (t : Fin cfg0.N) : (dats m 0 c).flushed 6 t = ((cfg0.win 6).blk t).view.read (Elt Ideal) (resD m c) :=
  if h : t.val < 4 then flushed6_A_eq m c t h else flushed6_B_eq m c t (by omega)

theorem cover6 (i : S2048x704.Idx) : ∃ t : Fin cfg0.N, (cfg0.win 6).flush t = true ∧ i ∈ ((cfg0.win 6).blk t).view.set := by
  have h0 : (i 0 : Nat) < 2048 := (i 0).isLt
  have h1 : (i 1 : Nat) < 704 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).2.1
  refine ⟨t, flush0_6 _, ?_⟩
  show i ∈ ((View.whole main_v0_1).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e.1]; omega
  | ⟨1, _⟩ => show win0_6.index t 1 * 704 ≤ (i 1 : Nat) ∧ (i 1 : Nat) < win0_6.index t 1 * 704 + 704; rw [e.2]; omega

/-- The result array after the run. -/
theorem final6 : (dats m 0 c).arrAt 6 cfg0.N = resD m c :=
  (dats m 0 c).arrAt_eq_of_cover 6 (resD m c) (fun t _ => flushed6_eq m c t) cover6

set_option maxHeartbeats 2000000 in
/-- What the point `t` writes back (first layer): its tile of the result. -/
theorem flushed7_A_eq (t : Fin cfg0.N) (h : t.val < 4) :
    (dats m 0 c).flushed 7 t = ((cfg0.win 7).blk t).view.read (Elt Ideal) (resM m c) := by
  have e := (outs_at t).2.2.1
  rw [Value.flushed7_A m c t h (by omega)]
  unfold out0_A_7
  rw [View.read_writes_eq_canon _ _ _ (fun _ => cover0_A_7 ..)]
  unfold kernelRun0_A
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := mAt m c (at_ t r) k) ?_ (congrArg₂ (mAt m c) (Fin.ext ?_) (Fin.ext ?_))
  · refine (newM_apply ..).trans ?_
    unfold mAt
    rw [gAt_first m c t h r k, ← grad_apply, ← read_m m c]
  · show t.val * 256 + r.val = win0_7.index t 0 * 256 + 1 * r.val; rw [e.1]; omega
  · show k.val = win0_7.index t 1 * 704 + 1 * k.val; rw [e.2]; omega

set_option maxHeartbeats 2000000 in
/-- What the point `t` writes back (second layer): its tile of the result. -/
theorem flushed7_B_eq (t : Fin cfg0.N) (h : 4 ≤ t.val) :
    (dats m 0 c).flushed 7 t = ((cfg0.win 7).blk t).view.read (Elt Ideal) (resM m c) := by
  have e := (outs_at t).2.2.1
  rw [Value.flushed7_B m c t (by omega) h]
  unfold out0_B_7
  rw [View.read_writes_eq_canon _ _ _ (fun _ => cover0_B_7 ..)]
  unfold kernelRun0_B
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := mAt m c (at_ t r) k) ?_ (congrArg₂ (mAt m c) (Fin.ext ?_) (Fin.ext ?_))
  · refine (newM_apply' ..).trans ?_
    unfold mAt
    rw [gAt_second m c t h r k, ← grad_apply', ← read_m m c]
  · show t.val * 256 + r.val = win0_7.index t 0 * 256 + 1 * r.val; rw [e.1]; omega
  · show k.val = win0_7.index t 1 * 704 + 1 * k.val; rw [e.2]; omega

theorem flushed7_eq (t : Fin cfg0.N) : (dats m 0 c).flushed 7 t = ((cfg0.win 7).blk t).view.read (Elt Ideal) (resM m c) :=
  if h : t.val < 4 then flushed7_A_eq m c t h else flushed7_B_eq m c t (by omega)

theorem cover7 (i : S2048x704.Idx) : ∃ t : Fin cfg0.N, (cfg0.win 7).flush t = true ∧ i ∈ ((cfg0.win 7).blk t).view.set := by
  have h0 : (i 0 : Nat) < 2048 := (i 0).isLt
  have h1 : (i 1 : Nat) < 704 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).2.2.1
  refine ⟨t, flush0_7 _, ?_⟩
  show i ∈ ((View.whole main_v0_2).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256; rw [e.1]; omega
  | ⟨1, _⟩ => show win0_7.index t 1 * 704 ≤ (i 1 : Nat) ∧ (i 1 : Nat) < win0_7.index t 1 * 704 + 704; rw [e.2]; omega

/-- The result array after the run. -/
theorem final7 : (dats m 0 c).arrAt 7 cfg0.N = resM m c :=
  (dats m 0 c).arrAt_eq_of_cover 7 (resM m c) (fun t _ => flushed7_eq m c t) cover7

set_option maxHeartbeats 2000000 in
/-- What the point `t` writes back (first layer): its tile of the result. -/
theorem flushed8_A_eq (t : Fin cfg0.N) (h : t.val < 4) :
    (dats m 0 c).flushed 8 t = ((cfg0.win 8).blk t).view.read (Elt Ideal) (resV m c) := by
  have e := (outs_at t).2.2.2
  rw [Value.flushed8_A m c t h (by omega)]
  unfold out0_A_8
  rw [View.read_writes_eq_canon _ _ _ (fun _ => cover0_A_8 ..)]
  unfold kernelRun0_A
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := vAt m c (at_ t r) k) ?_ (congrArg₂ (vAt m c) (Fin.ext ?_) (Fin.ext ?_))
  · refine (newV_apply ..).trans ?_
    unfold vAt
    rw [gAt_first m c t h r k, ← grad_apply, ← read_v m c]
  · show t.val * 256 + r.val = win0_8.index t 0 * 256 + 1 * r.val; rw [e.1]; omega
  · show k.val = win0_8.index t 1 * 704 + 1 * k.val; rw [e.2]; omega

set_option maxHeartbeats 2000000 in
/-- What the point `t` writes back (second layer): its tile of the result. -/
theorem flushed8_B_eq (t : Fin cfg0.N) (h : 4 ≤ t.val) :
    (dats m 0 c).flushed 8 t = ((cfg0.win 8).blk t).view.read (Elt Ideal) (resV m c) := by
  have e := (outs_at t).2.2.2
  rw [Value.flushed8_B m c t (by omega) h]
  unfold out0_B_8
  rw [View.read_writes_eq_canon _ _ _ (fun _ => cover0_B_8 ..)]
  unfold kernelRun0_B
  dsimp only
  sl_unfold_words
  simp only [View.canon_unit_zero (S := S256x704) zero_offsets, View.readAt_eq_ld, (hs0_0 t).read_unread, (hs0_1 t).read_unread, (hs0_2 t).read_unread, (hs0_3 t).read_unread, (hs0_4 t).read_unread,
    View.ld_unit_zero (S := S256x704) zero_offsets]
  funext j
  rw [View.read_apply]
  obtain ⟨r, k, rfl⟩ : ∃ (r : Fin 256) (k : Fin 704), j = ix2 r k := idx2 j
  refine Eq.trans (b := vAt m c (at_ t r) k) ?_ (congrArg₂ (vAt m c) (Fin.ext ?_) (Fin.ext ?_))
  · refine (newV_apply' ..).trans ?_
    unfold vAt
    rw [gAt_second m c t h r k, ← grad_apply', ← read_v m c]
  · show t.val * 256 + r.val = win0_8.index t 0 * 256 + 1 * r.val; rw [e.1]; omega
  · show k.val = win0_8.index t 1 * 704 + 1 * k.val; rw [e.2]; omega

theorem flushed8_eq (t : Fin cfg0.N) : (dats m 0 c).flushed 8 t = ((cfg0.win 8).blk t).view.read (Elt Ideal) (resV m c) :=
  if h : t.val < 4 then flushed8_A_eq m c t h else flushed8_B_eq m c t (by omega)

theorem cover8 (i : S2048x704.Idx) : ∃ t : Fin cfg0.N, (cfg0.win 8).flush t = true ∧ i ∈ ((cfg0.win 8).blk t).view.set := by
  have h0 : (i 0 : Nat) < 2048 := (i 0).isLt
  have h1 : (i 1 : Nat) < 704 := (i 1).isLt
  have hN : cfg0.N = 8 := N_0
  obtain ⟨t, ht⟩ : ∃ t : Fin cfg0.N, t.val = (i 0 : Nat) / 256 := ⟨⟨(i 0 : Nat) / 256, by omega⟩, rfl⟩
  have e := (outs_at t).2.2.2
  refine ⟨t, flush0_8 _, ?_⟩
  show i ∈ ((View.whole main_v0_3).slice (win0_8.rect t)).set
  rw [View.set_slice_whole, Rect.mem_set_unit]
  intro a
  match a with
  | ⟨0, _⟩ => show win0_8.index t 0 * 256 ≤ (i 0 : Nat) ∧ (i 0 : Nat) < win0_8.index t 0 * 256 + 256; rw [e.1]; omega
  | ⟨1, _⟩ => show win0_8.index t 1 * 704 ≤ (i 1 : Nat) ∧ (i 1 : Nat) < win0_8.index t 1 * 704 + 704; rw [e.2]; omega

/-- The result array after the run. -/
theorem final8 : (dats m 0 c).arrAt 8 cfg0.N = resV m c :=
  (dats m 0 c).arrAt_eq_of_cover 8 (resV m c) (fun t _ => flushed8_eq m c t) cover8

end Cert.Kernel23Ideal.Result

namespace Cert.Proof.AdamFfnIn

open Cert.Kernel23Ideal.Result

section
open Cert.Reference23Ideal Cert.Reference23Ideal.Gen
set_option maxHeartbeats 2000000 in
/-- The reference's gradient, entry by entry. -/
theorem refG_apply (x1 : FVec Ideal S8x1024x704 .bf16) (x2 : FVec Ideal S8x1024x704 .bf16) (r : Fin 2048) (k : Fin 704) :
    (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0 : FVec Ideal Cert.Reference23Ideal.S2048x704 .f32) (ix2 r k)
      = (if h : r.val < 1024 then ∑ d : Fin 8, (x1 (ix3 d ⟨r.val, h⟩ k) : EReal) else ∑ d : Fin 8, (x2 (ix3 d ⟨r.val - 1024, by omega⟩ k) : EReal)) := by
  pointwise
end

section
open Cert.Reference23Ideal Cert.Reference23Ideal.Gen
set_option maxHeartbeats 2000000 in
/-- The reference's step, entry by entry. -/
theorem refD_apply (x0 : FVec Ideal S2048x704 .f32) (x1 : FVec Ideal S8x1024x704 .bf16) (x2 : FVec Ideal S8x1024x704 .bf16) (x3 : FVec Ideal S2048x704 .f32) (x4 : FVec Ideal S2048x704 .f32) (r : Fin 2048) (k : Fin 704) :
    (mulf (broadcastInDim S2048x704 ![] bcast_S_S2048x704 (constant S_ .f32 0xBA83126F#32)) (addf (Host.divf (Host.divf (addf (mulf (broadcastInDim S2048x704 ![] bcast_S_S2048x704 (constant S_ .f32 0x3F666666#32)) x3) (mulf (broadcastInDim S2048x704 ![] bcast_S_S2048x704 (constant S_ .f32 0x3DCCCCCD#32)) (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0))) (broadcastInDim S2048x704 ![] bcast_S_S2048x704 (constant S_ .f32 0x3F26BD02#32))) (addf (Host.sqrt (Host.divf (addf (mulf (broadcastInDim S2048x704 ![] bcast_S_S2048x704 (constant S_ .f32 0x3F7FBE77#32)) x4) (mulf (broadcastInDim S2048x704 ![] bcast_S_S2048x704 (constant S_ .f32 0x3A83126F#32)) (mulf (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0) (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0)))) (broadcastInDim S2048x704 ![] bcast_S_S2048x704 (constant S_ .f32 0x3C231ACC#32)))) (broadcastInDim S2048x704 ![] bcast_S_S2048x704 (constant S_ .f32 0x322BCC77#32)))) (mulf (broadcastInDim S2048x704 ![] bcast_S_S2048x704 (constant S_ .f32 0x3C23D70A#32)) x0)) : FVec Ideal Cert.Reference23Ideal.S2048x704 .f32) (ix2 r k)
      = delta (x0 (ix2 r k)) (if h : r.val < 1024 then ∑ d : Fin 8, (x1 (ix3 d ⟨r.val, h⟩ k) : EReal) else ∑ d : Fin 8, (x2 (ix3 d ⟨r.val - 1024, by omega⟩ k) : EReal)) (x3 (ix2 r k)) (x4 (ix2 r k)) := by
  unfold delta newM newV
  pointwise
end

section
open Cert.Reference23Ideal Cert.Reference23Ideal.Gen
set_option maxHeartbeats 2000000 in
/-- The reference's first mean, entry by entry. -/
theorem refM_apply (x1 : FVec Ideal S8x1024x704 .bf16) (x2 : FVec Ideal S8x1024x704 .bf16) (x3 : FVec Ideal S2048x704 .f32) (r : Fin 2048) (k : Fin 704) :
    (addf (mulf (broadcastInDim S2048x704 ![] bcast_S_S2048x704 (constant S_ .f32 0x3F666666#32)) x3) (mulf (broadcastInDim S2048x704 ![] bcast_S_S2048x704 (constant S_ .f32 0x3DCCCCCD#32)) (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0)) : FVec Ideal Cert.Reference23Ideal.S2048x704 .f32) (ix2 r k)
      = newM (if h : r.val < 1024 then ∑ d : Fin 8, (x1 (ix3 d ⟨r.val, h⟩ k) : EReal) else ∑ d : Fin 8, (x2 (ix3 d ⟨r.val - 1024, by omega⟩ k) : EReal)) (x3 (ix2 r k)) := by
  unfold newM
  pointwise
end

section
open Cert.Reference23Ideal Cert.Reference23Ideal.Gen
set_option maxHeartbeats 2000000 in
/-- The reference's second mean, entry by entry. -/
theorem refV_apply (x1 : FVec Ideal S8x1024x704 .bf16) (x2 : FVec Ideal S8x1024x704 .bf16) (x4 : FVec Ideal S2048x704 .f32) (r : Fin 2048) (k : Fin 704) :
    (addf (mulf (broadcastInDim S2048x704 ![] bcast_S_S2048x704 (constant S_ .f32 0x3F7FBE77#32)) x4) (mulf (broadcastInDim S2048x704 ![] bcast_S_S2048x704 (constant S_ .f32 0x3A83126F#32)) (mulf (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0) (concatenate S2048x704 0 [⟨S1024x704, (Host.reduceAdd (extf .f32 x1 bitsLt_bf16_f32) (constant S_ .f32 0x00000000#32) reducesTo_S8x1024x704_S1024x704_d0 h_S_)⟩, ⟨S1024x704, (Host.reduceAdd (extf .f32 x2 bitsLt_bf16_f32) (constant S_ .f32 0x00000000#32) reducesTo_S8x1024x704_S1024x704_d0 h_S_)⟩] concatenates_S1024x704_S1024x704_S2048x704_d0))) : FVec Ideal Cert.Reference23Ideal.S2048x704 .f32) (ix2 r k)
      = newV (if h : r.val < 1024 then ∑ d : Fin 8, (x1 (ix3 d ⟨r.val, h⟩ k) : EReal) else ∑ d : Fin 8, (x2 (ix3 d ⟨r.val - 1024, by omega⟩ k) : EReal)) (x4 (ix2 r k)) := by
  unfold newV
  pointwise
end

set_option maxHeartbeats 4000000 in
/-- At exact arithmetic the kernel's results are those of AdamW on the summed gradient. -/
theorem algebraic : Cert.algebraic_Kernel23Ideal_Reference23Ideal := by
  intro m ρ m' ρ' _ agree
  refine ⟨fun c => resG m c, fun c => resD m c, fun c => resM m c, fun c => resV m c,
    (θ_run Cert.Kernel23Ideal.defs _ _).mono (fun _ h c => ⟨(h c).1.trans (final5 m c), (h c).2.1.trans (final6 m c), (h c).2.2.1.trans (final7 m c), (h c).2.2.2.1.trans (final8 m c), (h c).2.2.2.2⟩)
      (Cert.Kernel23Ideal.Value.run_blocks m ρ), ?_⟩
  refine (θ_run Cert.Reference23Ideal.defs _ _).mono (fun _ h c => ⟨(h c).1.trans ?_, (h c).2.1.trans ?_, (h c).2.2.1.trans ?_, (h c).2.2.2.1.trans ?_, (h c).2.2.2.2⟩)
    (Cert.Reference23Ideal.Value.run (F := Ideal) m' ρ')
  · rw [(agree c).2.1, (agree c).2.2.1]
    funext i
    obtain ⟨r, k, rfl⟩ : ∃ (r : Fin 2048) (k : Fin 704), i = ix2 r k := idx2 i
    exact refG_apply ..
  · rw [(agree c).1, (agree c).2.1, (agree c).2.2.1, (agree c).2.2.2.1, (agree c).2.2.2.2.1]
    funext i
    obtain ⟨r, k, rfl⟩ : ∃ (r : Fin 2048) (k : Fin 704), i = ix2 r k := idx2 i
    exact refD_apply ..
  · rw [(agree c).2.1, (agree c).2.2.1, (agree c).2.2.2.1]
    funext i
    obtain ⟨r, k, rfl⟩ : ∃ (r : Fin 2048) (k : Fin 704), i = ix2 r k := idx2 i
    exact refM_apply ..
  · rw [(agree c).2.1, (agree c).2.2.1, (agree c).2.2.2.2.1]
    funext i
    obtain ⟨r, k, rfl⟩ : ∃ (r : Fin 2048) (k : Fin 704), i = ix2 r k := idx2 i
    exact refV_apply ..

end Cert.Proof.AdamFfnIn
-- ==== Proof.AdamFfnOut.lean ====
/-
  The update of the feed-forward's output weight, both layers at once. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel24Ideal.Value
public import proofs.«01_k».proof.Proof.Gen.Reference24Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel24Ideal.Result

open Cert.Kernel24Ideal Cert.Kernel24Ideal.Gen

variable (m : (ℓ : Loc nD τ sig) → Buf (Elt Ideal) ℓ) (c : Dev nD)

/-- The slices of a block of parts, as the kernel loads them. -/
abbrev slice (b : Vec Ideal S8x32x1024 .bf16) (a : Nat)
    (inb : ∀ d : Fin 3, (![a, 0, 0] : Fin 3 → Nat) d + (![1, 32, 1024] : Fin 3 → Nat) d ≤ S8x32x1024.size d) : Vec Ideal S1x32x1024 .bf16 :=
  View.ld b (Rect.unit ![a, 0, 0] ![1, 32, 1024] inb)

/-- The gradient's tile: the devices' parts summed. -/
theorem grad_apply (b : Vec Ideal S8x32x1024 .bf16) (r : Fin 32) (k : Fin 1024) :
    k0_pay7 (slice b 0 inb_S8x32x1024_S1x32x1024_0_0_0) (slice b 1 inb_S8x32x1024_S1x32x1024_1_0_0) (slice b 2 inb_S8x32x1024_S1x32x1024_2_0_0) (slice b 3 inb_S8x32x1024_S1x32x1024_3_0_0) (slice b 4 inb_S8x32x1024_S1x32x1024_4_0_0) (slice b 5 inb_S8x32x1024_S1x32x1024_5_0_0) (slice b 6 inb_S8x32x1024_S1x32x1024_6_0_0) (slice b 7 inb_S8x32x1024_S1x32x1024_7_0_0) (ix2 r k)
      = ∑ d : Fin 8, (b (ix3 d r k) : EReal) := by
  unfold k0_pay7 slice
  pointwise
  rw [Fin.sum_univ_eight]

/-- The first mean's tile. -/
theorem newM_apply (g a : Vec Ideal S32x1024 .f32) (r : Fin 32) (k : Fin 1024) :
    k0_pay1 g a (ix2 r k) = newM (g (ix2 r k)) (a (ix2 r k)) := by
  unfold k0_pay1 newM
  pointwise

/-- The second mean's tile. -/
theorem newV_apply (g b : Vec Ideal S32x1024 .f32) (r : Fin 32) (k : Fin 1024) :
    k0_pay2 g b (ix2 r k) = newV (g (ix2 r k)) (b (ix2 r k)) := by
  unfold k0_pay2 newV
  pointwise

/-- The step's tile. -/
theorem delta_apply (g w a b : Vec Ideal S32x1024 .f32) (r : Fin 32) (k : Fin 1024) :
    k0_pay3 g w a b (ix2 r k) = delta (w (ix2 r k)) (g (ix2 r k)) (a (ix2 r k)) (b (ix2 r k)) := by
  unfold k0_pay3 k0_pay1 k0_pay2 delta newM newV
  pointwise

/-- The gradient's tile: the devices' parts summed. -/
theorem grad_apply' (b : Vec Ideal S8x32x1024 .bf16) (r : Fin 32) (k : Fin 1024) :
    k0_pay8 (slice b 0 inb_S8x32x1024_S1x32x1024_0_0_0) (slice b 1 inb_S8x32x1024_S1x32x1024_1_0_0) (slice b 2 inb_S8x32x1024_S1x32x1024_2_0_0) (slice b 3 inb_S8x32x1024_S1x32x1024_3_0_0) (slice b 4 inb_S8x32x1024_S1x32x1024_4_0_0) (slice b 5 inb_S8x32x1024_S1x32x1024_5_0_0) (slice b 6 inb_S8x32x1024_S1x32x1024_6_0_0) (slice b 7 inb_S8x32x1024_S1x32x1024_7_0_0) (ix2 r k)
      = ∑ d : Fin 8, (b (ix3 d r k) : EReal) := by
  unfold k0_pay8 slice
  pointwise
  rw [Fin.sum_univ_eight]

/-- The first mean's tile. -/
theorem newM_apply' (g a : Vec Ideal S32x1024 .f32) (r : Fin 32) (k : Fin 1024) :
    k0_pay4 g a (ix2 r k) = newM (g (ix2 r k)) (a (ix2 r k)) := by
  unfold k0_pay4 newM
  pointwise

/-- The second mean's tile. -/
theorem newV_apply' (g b : Vec Ideal S32x1024 .f32) (r : Fin 32) (k : Fin 1024) :
    k0_pay5 g b (ix2 r k) = newV (g (ix2 r k)) (b (ix2 r k)) := by
  unfold k0_pay5 newV
  pointwise

/-- The step's tile. -/
theorem delta_apply' (g w a b : Vec Ideal S32x1024 .f32) (r : Fin 32) (k : Fin 1024) :
    k0_pay6 g w a b (ix2 r k) = delta (w (ix2 r k)) (g (ix2 r k)) (a (ix2 r k)) (b (ix2 r k)) := by
  unfold k0_pay6 k0_pay4 k0_pay5 delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg3) := m ((c : Thread nD τ).loc main_arg3)
/-- The mean of the squared gradient as an argument. -/
def aV : Buf (Elt Ideal) ((c : Thread nD τ).loc main_arg4) := m ((c : Thread nD τ).loc main_arg4)
/-- The devices' parts of the gradient. -/
def aP : Buf (Elt Ideal) ((c : Thread nD τ).loc main_arg1) := m ((c : Thread nD τ).loc main_arg1)
/-- The devices' parts of the second layer's gradient. -/
def aQ : Buf (Elt Ideal) ((c : Thread nD τ).loc main_arg2) := m ((c : Thread nD τ).loc main_arg2)

/-- The gradient of the stacked weight: the first layer's rows, then the second's. -/
def gAt (r : Fin 704) (k : Fin 1024) : EReal :=
  if h : r.val < 352 then ∑ d : Fin 8, (aP m c (ix3 d ⟨r.val, h⟩ k) : EReal) else ∑ d : Fin 8, (aQ m c (ix3 d ⟨r.val - 352, by omega⟩ k) : EReal)
/-- The step. -/
def dAt (r : Fin 704) (k : Fin 1024) : EReal := delta (aW m c (ix2 r k)) (gAt m c r k) (aM m c (ix2 r k)) (aV m c (ix2 r k))
/-- The first mean. -/
def mAt (r : Fin 704) (k : Fin 1024) : EReal := newM (gAt m c r k) (aM m c (ix2 r k))
/-- The second mean. -/
def vAt (r : Fin 704) (k : Fin 1024) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 22 := by have := t.isLt; have hN : cfg0.N = 22 := N_0; omega

/-- The row of the whole array that row `r` of the tile `t` is. -/
def at_ (t : Fin cfg0.N) (r : Fin 32) : Fin 704 := ⟨t.val * 32 + r.val, by have := points t; omega⟩

/-- Which tiles the point `t` reads and writes. -/
theorem blocks_at : ∀ t : Fin grid0.N, (win0_0.index t 0 = t.val ∧ win0_0.index t 1 = 0)
    ∧ (win0_3.index t 0 = t.val ∧ win0_3.index t 1 = 0) ∧ (win0_4.index t 0 = t.val ∧ win0_4.index t 1 = 0) := by
  decide +kernel
theorem parts_at : ∀ t : Fin grid0.N, (t.val < 11 → win0_1.index t 0 = 0 ∧ win0_1.index t 1 = t.val ∧ win0_1.index t 2 = 0)
    ∧ (11 ≤ t.val → win0_2.index t 0 = 0 ∧ win0_2.index t 1 = t.val - 11 ∧ win0_2.index t 2 = 0) := by
  decide +kernel
theorem outs_at : ∀ t : Fin grid0.N, (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) := by
  decide +kernel

theorem read_w (t : Fin cfg0.N) (r : Fin 32) (k : Fin 1024) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 32 + 1 * r.val = t.val * 32 + r.val; rw [e.1]; omega
  | ⟨1, _⟩ => show win0_0.index t 1 * 1024 + 1 * k.val = k.val; rw [e.2]; omega

theorem read_m (t : Fin cfg0.N) (r : Fin 32) (k : Fin 1024) : iblk m c 3 t (ix2 r k) = aM m c (ix2 (at_ t r) k) := by
  have e := (blocks_at t).2.1
  show V m c main_arg3 _ = m _ _
  rw [V_main_arg3]
  congr 1
  funext a
  apply Fin.ext
  match a with
  | ⟨0, _⟩ => show win0_3.index t 0 * 32 + 1 * r.val = t.val * 32 + r.val; rw [e.1]; omega
  | ⟨1, _⟩ => show win0_3.index t 1 * 1024 + 1 * k.val = k.val; rw [e.2]; omega

theorem read_v (t : Fin cfg0.N) (r : Fin 32) (k : Fin 1024) : iblk m c 4 t (ix2 r k) = aV m c (ix2 (at_ t r) k) := by
  have e := (blocks_at t).2.2
  show V m c main_arg4 _ = m _ _
  rw [V_main_arg4]
  congr 1
  funext a
  apply Fin.ext
  match a with
  | ⟨0, _⟩ => show win0_4.index t 0 * 32 + 1 * r.val = t.val * 32 + r.val; rw [e.1]; omega
  | ⟨1, _⟩ => show win0_4.index t 1 * 1024 + 1 * k.val = k.val; rw [e.2]; omega

theorem read_p (t : Fin cfg0.N) (h : t.val < 11) (d : Fin 8) (r : Fin 32) (k : Fin 1024) :
    iblk m c 1 t (ix3 d r k) = aP m c (ix3 d ⟨t.val * 32 + r.val, by omega⟩ k) := by
  have e := (parts_at t).1 h
  show V m c main_arg1 _ = m _ _
  rw [V_main_arg1]
  congr 1
  funext a
  apply Fin.ext
  match a with
  | ⟨0, _⟩ => show win0_1.index t 0 * 8 + 1 * d.val = d.val; rw [e.1]; omega
  | ⟨1, _⟩ => show win0_1.index t 1 * 32 + 1 * r.val = t.val * 32 + r.val; rw [e.2.1]; omega
  | ⟨2, _⟩ => show win0_1.index t 2 * 1024 + 1 * k.val = k.val; rw [e.2.2]; omega

theorem read_q (t : Fin cfg0.N) (h : 11 ≤ t.val) (d : Fin 8) (r : Fin 32) (k : Fin 1024) :
    iblk m c 2 t (ix3 d r k) = aQ m c (ix3 d ⟨t.val * 32 + r.val - 352, by have := points t; omega⟩ k) := by
  have e := (parts_at t).2 h
  show V m c main_arg2 _ = m _ _
  rw [V_main_arg2]
  congr 1
  funext a
  apply Fin.ext
  match a with
  | ⟨0, _⟩ => show win0_2.index t 0 * 8 + 1 * d.val = d.val; rw [e.1]; omega
  | ⟨1, _⟩ => show win0_2.index t 1 * 32 + 1 * r.val = t.val * 32 + r.val - 352; rw [e.2.1]; omega
  | ⟨2, _⟩ => show win0_2.index t 2 * 1024 + 1 * k.val = k.val; rw [e.2.2]; omega

theorem gAt_first (t : Fin cfg0.N) (h : t.val < 11) (r : Fin 32) (k : Fin 1024) :
    gAt m c (at_ t r) k = Finset.sum (M := EReal) Finset.univ fun d : Fin 8 => iblk m c 1 t (ix3 d r k) := by
  unfold gAt
  have e : (at_ t r).val < 352 := by show t.val * 32 + r.val < 352; omega
  exact (dif_pos e).trans (Finset.sum_congr (M := EReal) rfl fun d _ => (read_p m c t h d r k).symm)

theorem gAt_second (t : Fin cfg0.N) (h : 11 ≤ t.val) (r : Fin 32) (k : Fin 1024) :
    gAt m c (at_ t r) k = Finset.sum (M := EReal) Finset.univ fun d : Fin 8 => iblk m c 2 t (ix3 d r k) := by
  unfold gAt
  have e : ¬(at_ t r).val < 352 := by show ¬t.val * 32 + r.val < 352; omega
  exact (dif_neg e).trans (Finset.sum_congr (M := EReal) rfl fun d _ => (read_q m c t h d r k).symm)

set_option maxHeartbeats 2000000 in
/-- What the point `t` writes back (first layer): its tile of the result. -/
theorem flushed5_A_eq (t : Fin cfg0.N) (h : t.val < 11) :
    (dats m 0 c).flushed 5 t = ((cfg0.win 5).blk t).view.read (Elt Ideal) (resG m c) := by
  have e := (outs_at t).1
  rw [Value.flushed5_A m c t h (by omega)]
  unfold out0_A_5
  rw [View.read_writes_eq_canon _ _ _ (fun _ => cover0_A_5 ..)]
  unfold kernelRun0_A
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := gAt m c (at_ t r) k) ?_ (congrArg₂ (gAt m c) (Fin.ext ?_) (Fin.ext ?_))
  · exact (grad_apply (iblk m c 1 t) r k).trans (gAt_first m c t h r k).symm
  · show t.val * 32 + r.val = win0_5.index t 0 * 32 + 1 * r.val; rw [e.1]; omega
  · show k.val = win0_5.index t 1 * 1024 + 1 * k.val; rw [e.2]; omega

set_option maxHeartbeats 2000000 in
/-- What the point `t` writes back (second layer): its tile of the result. -/
theorem flushed5_B_eq (t : Fin cfg0.N) (h : 11 ≤ t.val) :
    (dats m 0 c).flushed 5 t = ((cfg0.win 5).blk t).view.read (Elt Ideal) (resG m c) := by
  have e := (outs_at t).1
  rw [Value.flushed5_B m c t (by omega) h]
  unfold out0_B_5
  rw [View.read_writes_eq_canon _ _ _ (fun _ => cover0_B_5 ..)]
  unfold kernelRun0_B
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := gAt m c (at_ t r) k) ?_ (congrArg₂ (gAt m c) (Fin.ext ?_) (Fin.ext ?_))
  · exact (grad_apply' (iblk m c 2 t) r k).trans (gAt_second m c t h r k).symm
  · show t.val * 32 + r.val = win0_5.index t 0 * 32 + 1 * r.val; rw [e.1]; omega
  · show k.val = win0_5.index t 1 * 1024 + 1 * k.val; rw [e.2]; omega

theorem flushed5_eq (t : Fin cfg0.N) : (dats m 0 c).flushed 5 t = ((cfg0.win 5).blk t).view.read (Elt Ideal) (resG m c) :=
  if h : t.val < 11 then flushed5_A_eq m c t h else flushed5_B_eq m c t (by omega)

theorem cover5 (i : S704x1024.Idx) : ∃ t : Fin cfg0.N, (cfg0.win 5).flush t = true ∧ i ∈ ((cfg0.win 5).blk t).view.set := by
  have h0 : (i 0 : Nat) < 704 := (i 0).isLt
  have h1 : (i 1 : Nat) < 1024 := (i 1).isLt
  have hN : cfg0.N = 22 := N_0
  obtain ⟨t, ht⟩ : ∃ t : Fin cfg0.N, t.val = (i 0 : Nat) / 32 := ⟨⟨(i 0 : Nat) / 32, by omega⟩, rfl⟩
  have e := (outs_at t).1
  refine ⟨t, flush0_5 _, ?_⟩
  show i ∈ ((View.whole main_v0_0).slice (win0_5.rect t)).set
  rw [View.set_slice_whole, Rect.mem_set_unit]
  intro a
  match a with
  | ⟨0, _⟩ => show win0_5.index t 0 * 32 ≤ (i 0 : Nat) ∧ (i 0 : Nat) < win0_5.index t 0 * 32 + 32; rw [e.1]; omega
  | ⟨1, _⟩ => show win0_5.index t 1 * 1024 ≤ (i 1 : Nat) ∧ (i 1 : Nat) < win0_5.index t 1 * 1024 + 1024; rw [e.2]; omega

/-- The result array after the run. -/
theorem final5 : (dats m 0 c).arrAt 5 cfg0.N = resG m c :=
  (dats m 0 c).arrAt_eq_of_cover 5 (resG m c) (fun t _ => flushed5_eq m c t) cover5

set_option maxHeartbeats 2000000 in
/-- What the point `t` writes back (first layer): its tile of the result. -/
theorem flushed6_A_eq (t : Fin cfg0.N) (h : t.val < 11) :
    (dats m 0 c).flushed 6 t = ((cfg0.win 6).blk t).view.read (Elt Ideal) (resD m c) := by
  have e := (outs_at t).2.1
  rw [Value.flushed6_A m c t h (by omega)]
  unfold out0_A_6
  rw [View.read_writes_eq_canon _ _ _ (fun _ => cover0_A_6 ..)]
  unfold kernelRun0_A
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := dAt m c (at_ t r) k) ?_ (congrArg₂ (dAt m c) (Fin.ext ?_) (Fin.ext ?_))
  · refine (delta_apply ..).trans ?_
    unfold dAt
    rw [gAt_first m c t h r k, ← grad_apply, ← read_w m c, ← read_m m c, ← read_v m c]
  · show t.val * 32 + r.val = win0_6.index t 0 * 32 + 1 * r.val; rw [e.1]; omega
  · show k.val = win0_6.index t 1 * 1024 + 1 * k.val; rw [e.2]; omega

set_option maxHeartbeats 2000000 in
/-- What the point `t` writes back (second layer): its tile of the result. -/
theorem flushed6_B_eq (t : Fin cfg0.N) (h : 11 ≤ t.val) :
    (dats m 0 c).flushed 6 t = ((cfg0.win 6).blk t).view.read (Elt Ideal) (resD m c) := by
  have e := (outs_at t).2.1
  rw [Value.flushed6_B m c t (by omega) h]
  unfold out0_B_6
  rw [View.read_writes_eq_canon _ _ _ (fun _ => cover0_B_6 ..)]
  unfold kernelRun0_B
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := dAt m c (at_ t r) k) ?_ (congrArg₂ (dAt m c) (Fin.ext ?_) (Fin.ext ?_))
  · refine (delta_apply' ..).trans ?_
    unfold dAt
    rw [gAt_second m c t h r k, ← grad_apply', ← read_w m c, ← read_m m c, ← read_v m c]
  · show t.val * 32 + r.val = win0_6.index t 0 * 32 + 1 * r.val; rw [e.1]; omega
  · show k.val = win0_6.index t 1 * 1024 + 1 * k.val; rw [e.2]; omega

theorem flushed6_eq (t : Fin cfg0.N) : (dats m 0 c).flushed 6 t = ((cfg0.win 6).blk t).view.read (Elt Ideal) (resD m c) :=
  if h : t.val < 11 then flushed6_A_eq m c t h else flushed6_B_eq m c t (by omega)

theorem cover6 (i : S704x1024.Idx) : ∃ t : Fin cfg0.N, (cfg0.win 6).flush t = true ∧ i ∈ ((cfg0.win 6).blk t).view.set := by
  have h0 : (i 0 : Nat) < 704 := (i 0).isLt
  have h1 : (i 1 : Nat) < 1024 := (i 1).isLt
  have hN : cfg0.N = 22 := N_0
  obtain ⟨t, ht⟩ : ∃ t : Fin cfg0.N, t.val = (i 0 : Nat) / 32 := ⟨⟨(i 0 : Nat) / 32, by omega⟩, rfl⟩
  have e := (outs_at t).2.1
  refine ⟨t, flush0_6 _, ?_⟩
  show i ∈ ((View.whole main_v0_1).slice (win0_6.rect t)).set
  rw [View.set_slice_whole, Rect.mem_set_unit]
  intro a
  match a with
  | ⟨0, _⟩ => show win0_6.index t 0 * 32 ≤ (i 0 : Nat) ∧ (i 0 : Nat) < win0_6.index t 0 * 32 + 32; rw [e.1]; omega
  | ⟨1, _⟩ => show win0_6.index t 1 * 1024 ≤ (i 1 : Nat) ∧ (i 1 : Nat) < win0_6.index t 1 * 1024 + 1024; rw [e.2]; omega

/-- The result array after the run. -/
theorem final6 : (dats m 0 c).arrAt 6 cfg0.N = resD m c :=
  (dats m 0 c).arrAt_eq_of_cover 6 (resD m c) (fun t _ => flushed6_eq m c t) cover6

set_option maxHeartbeats 2000000 in
/-- What the point `t` writes back (first layer): its tile of the result. -/
theorem flushed7_A_eq (t : Fin cfg0.N) (h : t.val < 11) :
    (dats m 0 c).flushed 7 t = ((cfg0.win 7).blk t).view.read (Elt Ideal) (resM m c) := by
  have e := (outs_at t).2.2.1
  rw [Value.flushed7_A m c t h (by omega)]
  unfold out0_A_7
  rw [View.read_writes_eq_canon _ _ _ (fun _ => cover0_A_7 ..)]
  unfold kernelRun0_A
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := mAt m c (at_ t r) k) ?_ (congrArg₂ (mAt m c) (Fin.ext ?_) (Fin.ext ?_))
  · refine (newM_apply ..).trans ?_
    unfold mAt
    rw [gAt_first m c t h r k, ← grad_apply, ← read_m m c]
  · show t.val * 32 + r.val = win0_7.index t 0 * 32 + 1 * r.val; rw [e.1]; omega
  · show k.val = win0_7.index t 1 * 1024 + 1 * k.val; rw [e.2]; omega

set_option maxHeartbeats 2000000 in
/-- What the point `t` writes back (second layer): its tile of the result. -/
theorem flushed7_B_eq (t : Fin cfg0.N) (h : 11 ≤ t.val) :
    (dats m 0 c).flushed 7 t = ((cfg0.win 7).blk t).view.read (Elt Ideal) (resM m c) := by
  have e := (outs_at t).2.2.1
  rw [Value.flushed7_B m c t (by omega) h]
  unfold out0_B_7
  rw [View.read_writes_eq_canon _ _ _ (fun _ => cover0_B_7 ..)]
  unfold kernelRun0_B
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := mAt m c (at_ t r) k) ?_ (congrArg₂ (mAt m c) (Fin.ext ?_) (Fin.ext ?_))
  · refine (newM_apply' ..).trans ?_
    unfold mAt
    rw [gAt_second m c t h r k, ← grad_apply', ← read_m m c]
  · show t.val * 32 + r.val = win0_7.index t 0 * 32 + 1 * r.val; rw [e.1]; omega
  · show k.val = win0_7.index t 1 * 1024 + 1 * k.val; rw [e.2]; omega

theorem flushed7_eq (t : Fin cfg0.N) : (dats m 0 c).flushed 7 t = ((cfg0.win 7).blk t).view.read (Elt Ideal) (resM m c) :=
  if h : t.val < 11 then flushed7_A_eq m c t h else flushed7_B_eq m c t (by omega)

theorem cover7 (i : S704x1024.Idx) : ∃ t : Fin cfg0.N, (cfg0.win 7).flush t = true ∧ i ∈ ((cfg0.win 7).blk t).view.set := by
  have h0 : (i 0 : Nat) < 704 := (i 0).isLt
  have h1 : (i 1 : Nat) < 1024 := (i 1).isLt
  have hN : cfg0.N = 22 := N_0
  obtain ⟨t, ht⟩ : ∃ t : Fin cfg0.N, t.val = (i 0 : Nat) / 32 := ⟨⟨(i 0 : Nat) / 32, by omega⟩, rfl⟩
  have e := (outs_at t).2.2.1
  refine ⟨t, flush0_7 _, ?_⟩
  show i ∈ ((View.whole main_v0_2).slice (win0_7.rect t)).set
  rw [View.set_slice_whole, Rect.mem_set_unit]
  intro a
  match a with
  | ⟨0, _⟩ => show win0_7.index t 0 * 32 ≤ (i 0 : Nat) ∧ (i 0 : Nat) < win0_7.index t 0 * 32 + 32; rw [e.1]; omega
  | ⟨1, _⟩ => show win0_7.index t 1 * 1024 ≤ (i 1 : Nat) ∧ (i 1 : Nat) < win0_7.index t 1 * 1024 + 1024; rw [e.2]; omega

/-- The result array after the run. -/
theorem final7 : (dats m 0 c).arrAt 7 cfg0.N = resM m c :=
  (dats m 0 c).arrAt_eq_of_cover 7 (resM m c) (fun t _ => flushed7_eq m c t) cover7

set_option maxHeartbeats 2000000 in
/-- What the point `t` writes back (first layer): its tile of the result. -/
theorem flushed8_A_eq (t : Fin cfg0.N) (h : t.val < 11) :
    (dats m 0 c).flushed 8 t = ((cfg0.win 8).blk t).view.read (Elt Ideal) (resV m c) := by
  have e := (outs_at t).2.2.2
  rw [Value.flushed8_A m c t h (by omega)]
  unfold out0_A_8
  rw [View.read_writes_eq_canon _ _ _ (fun _ => cover0_A_8 ..)]
  unfold kernelRun0_A
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := vAt m c (at_ t r) k) ?_ (congrArg₂ (vAt m c) (Fin.ext ?_) (Fin.ext ?_))
  · refine (newV_apply ..).trans ?_
    unfold vAt
    rw [gAt_first m c t h r k, ← grad_apply, ← read_v m c]
  · show t.val * 32 + r.val = win0_8.index t 0 * 32 + 1 * r.val; rw [e.1]; omega
  · show k.val = win0_8.index t 1 * 1024 + 1 * k.val; rw [e.2]; omega

set_option maxHeartbeats 2000000 in
/-- What the point `t` writes back (second layer): its tile of the result. -/
theorem flushed8_B_eq (t : Fin cfg0.N) (h : 11 ≤ t.val) :
    (dats m 0 c).flushed 8 t = ((cfg0.win 8).blk t).view.read (Elt Ideal) (resV m c) := by
  have e := (outs_at t).2.2.2
  rw [Value.flushed8_B m c t (by omega) h]
  unfold out0_B_8
  rw [View.read_writes_eq_canon _ _ _ (fun _ => cover0_B_8 ..)]
  unfold kernelRun0_B
  dsimp only
  sl_unfold_words
  simp only [View.canon_unit_zero (S := S32x1024) zero_offsets, View.readAt_eq_ld, (hs0_0 t).read_unread, (hs0_1 t).read_unread, (hs0_2 t).read_unread, (hs0_3 t).read_unread, (hs0_4 t).read_unread,
    View.ld_unit_zero (S := S32x1024) zero_offsets]
  funext j
  rw [View.read_apply]
  obtain ⟨r, k, rfl⟩ : ∃ (r : Fin 32) (k : Fin 1024), j = ix2 r k := idx2 j
  refine Eq.trans (b := vAt m c (at_ t r) k) ?_ (congrArg₂ (vAt m c) (Fin.ext ?_) (Fin.ext ?_))
  · refine (newV_apply' ..).trans ?_
    unfold vAt
    rw [gAt_second m c t h r k, ← grad_apply', ← read_v m c]
  · show t.val * 32 + r.val = win0_8.index t 0 * 32 + 1 * r.val; rw [e.1]; omega
  · show k.val = win0_8.index t 1 * 1024 + 1 * k.val; rw [e.2]; omega

theorem flushed8_eq (t : Fin cfg0.N) : (dats m 0 c).flushed 8 t = ((cfg0.win 8).blk t).view.read (Elt Ideal) (resV m c) :=
  if h : t.val < 11 then flushed8_A_eq m c t h else flushed8_B_eq m c t (by omega)

theorem cover8 (i : S704x1024.Idx) : ∃ t : Fin cfg0.N, (cfg0.win 8).flush t = true ∧ i ∈ ((cfg0.win 8).blk t).view.set := by
  have h0 : (i 0 : Nat) < 704 := (i 0).isLt
  have h1 : (i 1 : Nat) < 1024 := (i 1).isLt
  have hN : cfg0.N = 22 := N_0
  obtain ⟨t, ht⟩ : ∃ t : Fin cfg0.N, t.val = (i 0 : Nat) / 32 := ⟨⟨(i 0 : Nat) / 32, by omega⟩, rfl⟩
  have e := (outs_at t).2.2.2
  refine ⟨t, flush0_8 _, ?_⟩
  show i ∈ ((View.whole main_v0_3).slice (win0_8.rect t)).set
  rw [View.set_slice_whole, Rect.mem_set_unit]
  intro a
  match a with
  | ⟨0, _⟩ => show win0_8.index t 0 * 32 ≤ (i 0 : Nat) ∧ (i 0 : Nat) < win0_8.index t 0 * 32 + 32; rw [e.1]; omega
  | ⟨1, _⟩ => show win0_8.index t 1 * 1024 ≤ (i 1 : Nat) ∧ (i 1 : Nat) < win0_8.index t 1 * 1024 + 1024; rw [e.2]; omega

/-- The result array after the run. -/
theorem final8 : (dats m 0 c).arrAt 8 cfg0.N = resV m c :=
  (dats m 0 c).arrAt_eq_of_cover 8 (resV m c) (fun t _ => flushed8_eq m c t) cover8

end Cert.Kernel24Ideal.Result

namespace Cert.Proof.AdamFfnOut

open Cert.Kernel24Ideal.Result

section
open Cert.Reference24Ideal Cert.Reference24Ideal.Gen
set_option maxHeartbeats 2000000 in
/-- The reference's gradient, entry by entry. -/
theorem refG_apply (x1 : FVec Ideal S8x352x1024 .bf16) (x2 : FVec Ideal S8x352x1024 .bf16) (r : Fin 704) (k : Fin 1024) :
    (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0 : FVec Ideal Cert.Reference24Ideal.S704x1024 .f32) (ix2 r k)
      = (if h : r.val < 352 then ∑ d : Fin 8, (x1 (ix3 d ⟨r.val, h⟩ k) : EReal) else ∑ d : Fin 8, (x2 (ix3 d ⟨r.val - 352, by omega⟩ k) : EReal)) := by
  pointwise
end

section
open Cert.Reference24Ideal Cert.Reference24Ideal.Gen
set_option maxHeartbeats 2000000 in
/-- The reference's step, entry by entry. -/
theorem refD_apply (x0 : FVec Ideal S704x1024 .f32) (x1 : FVec Ideal S8x352x1024 .bf16) (x2 : FVec Ideal S8x352x1024 .bf16) (x3 : FVec Ideal S704x1024 .f32) (x4 : FVec Ideal S704x1024 .f32) (r : Fin 704) (k : Fin 1024) :
    (mulf (broadcastInDim S704x1024 ![] bcast_S_S704x1024 (constant S_ .f32 0xBA83126F#32)) (addf (Host.divf (Host.divf (addf (mulf (broadcastInDim S704x1024 ![] bcast_S_S704x1024 (constant S_ .f32 0x3F666666#32)) x3) (mulf (broadcastInDim S704x1024 ![] bcast_S_S704x1024 (constant S_ .f32 0x3DCCCCCD#32)) (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0))) (broadcastInDim S704x1024 ![] bcast_S_S704x1024 (constant S_ .f32 0x3F26BD02#32))) (addf (Host.sqrt (Host.divf (addf (mulf (broadcastInDim S704x1024 ![] bcast_S_S704x1024 (constant S_ .f32 0x3F7FBE77#32)) x4) (mulf (broadcastInDim S704x1024 ![] bcast_S_S704x1024 (constant S_ .f32 0x3A83126F#32)) (mulf (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0) (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0)))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) x0)) : FVec Ideal Cert.Reference24Ideal.S704x1024 .f32) (ix2 r k)
      = delta (x0 (ix2 r k)) (if h : r.val < 352 then ∑ d : Fin 8, (x1 (ix3 d ⟨r.val, h⟩ k) : EReal) else ∑ d : Fin 8, (x2 (ix3 d ⟨r.val - 352, by omega⟩ k) : EReal)) (x3 (ix2 r k)) (x4 (ix2 r k)) := by
  unfold delta newM newV
  pointwise
end

section
open Cert.Reference24Ideal Cert.Reference24Ideal.Gen
set_option maxHeartbeats 2000000 in
/-- The reference's first mean, entry by entry. -/
theorem refM_apply (x1 : FVec Ideal S8x352x1024 .bf16) (x2 : FVec Ideal S8x352x1024 .bf16) (x3 : FVec Ideal S704x1024 .f32) (r : Fin 704) (k : Fin 1024) :
    (addf (mulf (broadcastInDim S704x1024 ![] bcast_S_S704x1024 (constant S_ .f32 0x3F666666#32)) x3) (mulf (broadcastInDim S704x1024 ![] bcast_S_S704x1024 (constant S_ .f32 0x3DCCCCCD#32)) (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0)) : FVec Ideal Cert.Reference24Ideal.S704x1024 .f32) (ix2 r k)
      = newM (if h : r.val < 352 then ∑ d : Fin 8, (x1 (ix3 d ⟨r.val, h⟩ k) : EReal) else ∑ d : Fin 8, (x2 (ix3 d ⟨r.val - 352, by omega⟩ k) : EReal)) (x3 (ix2 r k)) := by
  unfold newM
  pointwise
end

section
open Cert.Reference24Ideal Cert.Reference24Ideal.Gen
set_option maxHeartbeats 2000000 in
/-- The reference's second mean, entry by entry. -/
theorem refV_apply (x1 : FVec Ideal S8x352x1024 .bf16) (x2 : FVec Ideal S8x352x1024 .bf16) (x4 : FVec Ideal S704x1024 .f32) (r : Fin 704) (k : Fin 1024) :
    (addf (mulf (broadcastInDim S704x1024 ![] bcast_S_S704x1024 (constant S_ .f32 0x3F7FBE77#32)) x4) (mulf (broadcastInDim S704x1024 ![] bcast_S_S704x1024 (constant S_ .f32 0x3A83126F#32)) (mulf (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0) (concatenate S704x1024 0 [⟨S352x1024, (Host.reduceAdd (extf .f32 x1 bitsLt_bf16_f32) (constant S_ .f32 0x00000000#32) reducesTo_S8x352x1024_S352x1024_d0 h_S_)⟩, ⟨S352x1024, (Host.reduceAdd (extf .f32 x2 bitsLt_bf16_f32) (constant S_ .f32 0x00000000#32) reducesTo_S8x352x1024_S352x1024_d0 h_S_)⟩] concatenates_S352x1024_S352x1024_S704x1024_d0))) : FVec Ideal Cert.Reference24Ideal.S704x1024 .f32) (ix2 r k)
      = newV (if h : r.val < 352 then ∑ d : Fin 8, (x1 (ix3 d ⟨r.val, h⟩ k) : EReal) else ∑ d : Fin 8, (x2 (ix3 d ⟨r.val - 352, by omega⟩ k) : EReal)) (x4 (ix2 r k)) := by
  unfold newV
  pointwise
end

set_option maxHeartbeats 4000000 in
/-- At exact arithmetic the kernel's results are those of AdamW on the summed gradient. -/
theorem algebraic : Cert.algebraic_Kernel24Ideal_Reference24Ideal := by
  intro m ρ m' ρ' _ agree
  refine ⟨fun c => resG m c, fun c => resD m c, fun c => resM m c, fun c => resV m c,
    (θ_run Cert.Kernel24Ideal.defs _ _).mono (fun _ h c => ⟨(h c).1.trans (final5 m c), (h c).2.1.trans (final6 m c), (h c).2.2.1.trans (final7 m c), (h c).2.2.2.1.trans (final8 m c), (h c).2.2.2.2⟩)
      (Cert.Kernel24Ideal.Value.run_blocks m ρ), ?_⟩
  refine (θ_run Cert.Reference24Ideal.defs _ _).mono (fun _ h c => ⟨(h c).1.trans ?_, (h c).2.1.trans ?_, (h c).2.2.1.trans ?_, (h c).2.2.2.1.trans ?_, (h c).2.2.2.2⟩)
    (Cert.Reference24Ideal.Value.run (F := Ideal) m' ρ')
  · rw [(agree c).2.1, (agree c).2.2.1]
    funext i
    obtain ⟨r, k, rfl⟩ : ∃ (r : Fin 704) (k : Fin 1024), i = ix2 r k := idx2 i
    exact refG_apply ..
  · rw [(agree c).1, (agree c).2.1, (agree c).2.2.1, (agree c).2.2.2.1, (agree c).2.2.2.2.1]
    funext i
    obtain ⟨r, k, rfl⟩ : ∃ (r : Fin 704) (k : Fin 1024), i = ix2 r k := idx2 i
    exact refD_apply ..
  · rw [(agree c).2.1, (agree c).2.2.1, (agree c).2.2.2.1]
    funext i
    obtain ⟨r, k, rfl⟩ : ∃ (r : Fin 704) (k : Fin 1024), i = ix2 r k := idx2 i
    exact refM_apply ..
  · rw [(agree c).2.1, (agree c).2.2.1, (agree c).2.2.2.2.1]
    funext i
    obtain ⟨r, k, rfl⟩ : ∃ (r : Fin 704) (k : Fin 1024), i = ix2 r k := idx2 i
    exact refV_apply ..

end Cert.Proof.AdamFfnOut
-- ==== Proof.AdamSsdIn.lean ====
/-
  The update of the state-space layer's input weight. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel25Ideal.Value
public import proofs.«01_k».proof.Proof.Gen.Reference25Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel25Ideal.Result

open Cert.Kernel25Ideal Cert.Kernel25Ideal.Gen

variable (m : (ℓ : Loc nD τ sig) → Buf (Elt Ideal) ℓ) (c : Dev nD)

/-- The slices of a block of parts, as the kernel loads them. -/
abbrev slice (b : Vec Ideal S8x256x648 .bf16) (a : Nat)
    (inb : ∀ d : Fin 3, (![a, 0, 0] : Fin 3 → Nat) d + (![1, 256, 648] : Fin 3 → Nat) d ≤ S8x256x648.size d) : Vec Ideal S1x256x648 .bf16 :=
  View.ld b (Rect.unit ![a, 0, 0] ![1, 256, 648] inb)

/-- The gradient's tile: the devices' parts summed. -/
theorem grad_apply (b : Vec Ideal S8x256x648 .bf16) (r : Fin 256) (k : Fin 648) :
    k0_pay4 (slice b 0 inb_S8x256x648_S1x256x648_0_0_0) (slice b 1 inb_S8x256x648_S1x256x648_1_0_0) (slice b 2 inb_S8x256x648_S1x256x648_2_0_0) (slice b 3 inb_S8x256x648_S1x256x648_3_0_0) (slice b 4 inb_S8x256x648_S1x256x648_4_0_0) (slice b 5 inb_S8x256x648_S1x256x648_5_0_0) (slice b 6 inb_S8x256x648_S1x256x648_6_0_0) (slice b 7 inb_S8x256x648_S1x256x648_7_0_0) (ix2 r k)
      = ∑ d : Fin 8, (b (ix3 d r k) : EReal) := by
  unfold k0_pay4 slice
  pointwise
  rw [Fin.sum_univ_eight]

/-- The first mean's tile. -/
theorem newM_apply (g a : Vec Ideal S256x648 .f32) (r : Fin 256) (k : Fin 648) :
    k0_pay1 g a (ix2 r k) = newM (g (ix2 r k)) (a (ix2 r k)) := by
  unfold k0_pay1 newM
  pointwise

/-- The second mean's tile. -/
theorem newV_apply (g b : Vec Ideal S256x648 .f32) (r : Fin 256) (k : Fin 648) :
    k0_pay2 g b (ix2 r k) = newV (g (ix2 r k)) (b (ix2 r k)) := by
  unfold k0_pay2 newV
  pointwise

/-- The step's tile. -/
theorem delta_apply (g w a b : Vec Ideal S256x648 .f32) (r : Fin 256) (k : Fin 648) :
    k0_pay3 g w a b (ix2 r k) = delta (w (ix2 r k)) (g (ix2 r k)) (a (ix2 r k)) (b (ix2 r k)) := by
  unfold k0_pay3 k0_pay1 k0_pay2 delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg2) := m ((c : Thread nD τ).loc main_arg2)
/-- The mean of the squared gradient as an argument. -/
def aV : Buf (Elt Ideal) ((c : Thread nD τ).loc main_arg3) := m ((c : Thread nD τ).loc main_arg3)
/-- The devices' parts of the gradient. -/
def aP : Buf (Elt Ideal) ((c : Thread nD τ).loc main_arg1) := m ((c : Thread nD τ).loc main_arg1)

/-- The gradient. -/
def gAt (r : Fin 1024) (k : Fin 648) : EReal := ∑ d : Fin 8, (aP m c (ix3 d r k) : EReal)
/-- The step. -/
def dAt (r : Fin 1024) (k : Fin 648) : EReal := delta (aW m c (ix2 r k)) (gAt m c r k) (aM m c (ix2 r k)) (aV m c (ix2 r k))
/-- The first mean. -/
def mAt (r : Fin 1024) (k : Fin 648) : EReal := newM (gAt m c r k) (aM m c (ix2 r k))
/-- The second mean. -/
def vAt (r : Fin 1024) (k : Fin 648) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 4 := by have := t.isLt; have hN : cfg0.N = 4 := N_0; omega

/-- The row of the whole array that row `r` of the tile `t` is. -/
def at_ (t : Fin cfg0.N) (r : Fin 256) : Fin 1024 := ⟨t.val * 256 + r.val, by have := points t; omega⟩

/-- Which tiles the point `t` reads and writes. -/
theorem blocks_at : ∀ t : Fin grid0.N, (win0_0.index t 0 = t.val ∧ win0_0.index t 1 = 0)
    ∧ (win0_2.index t 0 = t.val ∧ win0_2.index t 1 = 0) ∧ (win0_3.index t 0 = t.val ∧ win0_3.index t 1 = 0) := by
  decide +kernel
theorem parts_at : ∀ t : Fin grid0.N, win0_1.index t 0 = 0 ∧ win0_1.index t 1 = t.val ∧ win0_1.index t 2 = 0 := by
  decide +kernel
theorem outs_at : ∀ t : Fin grid0.N, (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by
  decide +kernel

theorem read_w (t : Fin cfg0.N) (r : Fin 256) (k : Fin 648) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 648 + 1 * k.val = k.val; rw [e.2]; omega

theorem read_m (t : Fin cfg0.N) (r : Fin 256) (k : Fin 648) : iblk m c 2 t (ix2 r k) = aM m c (ix2 (at_ t r) k) := by
  have e := (blocks_at t).2.1
  show V m c main_arg2 _ = m _ _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 648 + 1 * k.val = k.val; rw [e.2]; omega

theorem read_v (t : Fin cfg0.N) (r : Fin 256) (k : Fin 648) : iblk m c 3 t (ix2 r k) = aV m c (ix2 (at_ t r) k) := by
  have e := (blocks_at t).2.2
  show V m c main_arg3 _ = m _ _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 648 + 1 * k.val = k.val; rw [e.2]; omega

theorem read_p (t : Fin cfg0.N) (d : Fin 8) (r : Fin 256) (k : Fin 648) :
    iblk m c 1 t (ix3 d r k) = aP m c (ix3 d (at_ t r) k) := by
  have e := parts_at t
  show V m c main_arg1 _ = m _ _
  rw [V_main_arg1]
  congr 1
  funext a
  apply Fin.ext
  match a with
  | ⟨0, _⟩ => show win0_1.index t 0 * 8 + 1 * d.val = d.val; rw [e.1]; omega
  | ⟨1, _⟩ => show win0_1.index t 1 * 256 + 1 * r.val = t.val * 256 + r.val; rw [e.2.1]; omega
  | ⟨2, _⟩ => show win0_1.index t 2 * 648 + 1 * k.val = k.val; rw [e.2.2]; omega

theorem gAt_tile (t : Fin cfg0.N) (r : Fin 256) (k : Fin 648) :
    gAt m c (at_ t r) k = Finset.sum (M := EReal) Finset.univ fun d : Fin 8 => iblk m c 1 t (ix3 d r k) :=
  Finset.sum_congr (M := EReal) rfl fun d _ => (read_p m c t d r k).symm

set_option maxHeartbeats 2000000 in
/-- What the point `t` writes back: its tile of the result. -/
theorem flushed4_A_eq (t : Fin cfg0.N)  :
    (dats m 0 c).flushed 4 t = ((cfg0.win 4).blk t).view.read (Elt Ideal) (resG m c) := by
  have e := (outs_at t).1
  rw [Value.flushed4_A m c t ]
  unfold out0_A_4
  rw [View.read_writes_eq_canon _ _ _ (fun _ => cover0_A_4 ..)]
  unfold kernelRun0_A
  dsimp only
  sl_unfold_words
  simp only [View.canon_unit_zero (S := S256x648) zero_offsets, View.readAt_eq_ld, (hs0_0 t).read_unread, (hs0_1 t).read_unread, (hs0_2 t).read_unread, (hs0_3 t).read_unread,
    View.ld_unit_zero (S := S256x648) zero_offsets]
  funext j
  rw [View.read_apply]
  obtain ⟨r, k, rfl⟩ : ∃ (r : Fin 256) (k : Fin 648), j = ix2 r k := idx2 j
  refine Eq.trans (b := gAt m c (at_ t r) k) ?_ (congrArg₂ (gAt m c) (Fin.ext ?_) (Fin.ext ?_))
  · exact (grad_apply (iblk m c 1 t) r k).trans (gAt_tile m c t r k).symm
  · show t.val * 256 + r.val = win0_4.index t 0 * 256 + 1 * r.val; rw [e.1]; omega
  · show k.val = win0_4.index t 1 * 648 + 1 * k.val; rw [e.2]; omega

theorem flushed4_eq (t : Fin cfg0.N) : (dats m 0 c).flushed 4 t = ((cfg0.win 4).blk t).view.read (Elt Ideal) (resG m c) :=
  flushed4_A_eq m c t

theorem cover4 (i : S1024x648.Idx) : ∃ t : Fin cfg0.N, (cfg0.win 4).flush t = true ∧ i ∈ ((cfg0.win 4).blk t).view.set := by
  have h0 : (i 0 : Nat) < 1024 := (i 0).isLt
  have h1 : (i 1 : Nat) < 648 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).1
  refine ⟨t, flush0_4 _, ?_⟩
  show i ∈ ((View.whole main_v0_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; rw [e.1]; omega
  | ⟨1, _⟩ => show win0_4.index t 1 * 648 ≤ (i 1 : Nat) ∧ (i 1 : Nat) < win0_4.index t 1 * 648 + 648; rw [e.2]; omega

/-- The result array after the run. -/
theorem final4 : (dats m 0 c).arrAt 4 cfg0.N = resG m c :=
  (dats m 0 c).arrAt_eq_of_cover 4 (resG m c) (fun t _ => flushed4_eq m c t) cover4

set_option maxHeartbeats 2000000 in
/-- What the point `t` writes back: its tile of the result. -/
theorem flushed5_A_eq (t : Fin cfg0.N)  :
    (dats m 0 c).flushed 5 t = ((cfg0.win 5).blk t).view.read (Elt Ideal) (resD m c) := by
  have e := (outs_at t).2.1
  rw [Value.flushed5_A m c t ]
  unfold out0_A_5
  rw [View.read_writes_eq_canon _ _ _ (fun _ => cover0_A_5 ..)]
  unfold kernelRun0_A
  dsimp only
  sl_unfold_words
  simp only [View.canon_unit_zero (S := S256x648) zero_offsets, View.readAt_eq_ld, (hs0_0 t).read_unread, (hs0_1 t).read_unread, (hs0_2 t).read_unread, (hs0_3 t).read_unread,
    View.ld_unit_zero (S := S256x648) zero_offsets]
  funext j
  rw [View.read_apply]
  obtain ⟨r, k, rfl⟩ : ∃ (r : Fin 256) (k : Fin 648), j = ix2 r k := idx2 j
  refine Eq.trans (b := dAt m c (at_ t r) k) ?_ (congrArg₂ (dAt m c) (Fin.ext ?_) (Fin.ext ?_))
  · refine (delta_apply ..).trans ?_
    unfold dAt
    rw [gAt_tile m c t r k, ← grad_apply, ← read_w m c, ← read_m m c, ← read_v m c]
  · show t.val * 256 + r.val = win0_5.index t 0 * 256 + 1 * r.val; rw [e.1]; omega
  · show k.val = win0_5.index t 1 * 648 + 1 * k.val; rw [e.2]; omega

theorem flushed5_eq (t : Fin cfg0.N) : (dats m 0 c).flushed 5 t = ((cfg0.win 5).blk t).view.read (Elt Ideal) (resD m c) :=
  flushed5_A_eq m c t

theorem cover5 (i : S1024x648.Idx) : ∃ t : Fin cfg0.N, (cfg0.win 5).flush t = true ∧ i ∈ ((cfg0.win 5).blk t).view.set := by
  have h0 : (i 0 : Nat) < 1024 := (i 0).isLt
  have h1 : (i 1 : Nat) < 648 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).2.1
  refine ⟨t, flush0_5 _, ?_⟩
  show i ∈ ((View.whole main_v0_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [e.1]; omega
  | ⟨1, _⟩ => show win0_5.index t 1 * 648 ≤ (i 1 : Nat) ∧ (i 1 : Nat) < win0_5.index t 1 * 648 + 648; rw [e.2]; omega

/-- The result array after the run. -/
theorem final5 : (dats m 0 c).arrAt 5 cfg0.N = resD m c :=
  (dats m 0 c).arrAt_eq_of_cover 5 (resD m c) (fun t _ => flushed5_eq m c t) cover5

set_option maxHeartbeats 2000000 in
/-- What the point `t` writes back: its tile of the result. -/
theorem flushed6_A_eq (t : Fin cfg0.N)  :
    (dats m 0 c).flushed 6 t = ((cfg0.win 6).blk t).view.read (Elt Ideal) (resM m c) := by
  have e := (outs_at t).2.2.1
  rw [Value.flushed6_A m c t ]
  unfold out0_A_6
  rw [View.read_writes_eq_canon _ _ _ (fun _ => cover0_A_6 ..)]
  unfold kernelRun0_A
  dsimp only
  sl_unfold_words
  simp only [View.canon_unit_zero (S := S256x648) zero_offsets, View.readAt_eq_ld, (hs0_0 t).read_unread, (hs0_1 t).read_unread, (hs0_2 t).read_unread, (hs0_3 t).read_unread,
    View.ld_unit_zero (S := S256x648) zero_offsets]
  funext j
  rw [View.read_apply]
  obtain ⟨r, k, rfl⟩ : ∃ (r : Fin 256) (k : Fin 648), j = ix2 r k := idx2 j
  refine Eq.trans (b := mAt m c (at_ t r) k) ?_ (congrArg₂ (mAt m c) (Fin.ext ?_) (Fin.ext ?_))
  · refine (newM_apply ..).trans ?_
    unfold mAt
    rw [gAt_tile m c t r k, ← grad_apply, ← read_m m c]
  · show t.val * 256 + r.val = win0_6.index t 0 * 256 + 1 * r.val; rw [e.1]; omega
  · show k.val = win0_6.index t 1 * 648 + 1 * k.val; rw [e.2]; omega

theorem flushed6_eq (t : Fin cfg0.N) : (dats m 0 c).flushed 6 t = ((cfg0.win 6).blk t).view.read (Elt Ideal) (resM m c) :=
  flushed6_A_eq m c t

theorem cover6 (i : S1024x648.Idx) : ∃ t : Fin cfg0.N, (cfg0.win 6).flush t = true ∧ i ∈ ((cfg0.win 6).blk t).view.set := by
  have h0 : (i 0 : Nat) < 1024 := (i 0).isLt
  have h1 : (i 1 : Nat) < 648 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).2.2.1
  refine ⟨t, flush0_6 _, ?_⟩
  show i ∈ ((View.whole main_v0_2).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e.1]; omega
  | ⟨1, _⟩ => show win0_6.index t 1 * 648 ≤ (i 1 : Nat) ∧ (i 1 : Nat) < win0_6.index t 1 * 648 + 648; rw [e.2]; omega

/-- The result array after the run. -/
theorem final6 : (dats m 0 c).arrAt 6 cfg0.N = resM m c :=
  (dats m 0 c).arrAt_eq_of_cover 6 (resM m c) (fun t _ => flushed6_eq m c t) cover6

set_option maxHeartbeats 2000000 in
/-- What the point `t` writes back: its tile of the result. -/
theorem flushed7_A_eq (t : Fin cfg0.N)  :
    (dats m 0 c).flushed 7 t = ((cfg0.win 7).blk t).view.read (Elt Ideal) (resV m c) := by
  have e := (outs_at t).2.2.2
  rw [Value.flushed7_A m c t ]
  unfold out0_A_7
  rw [View.read_writes_eq_canon _ _ _ (fun _ => cover0_A_7 ..)]
  unfold kernelRun0_A
  dsimp only
  sl_unfold_words
  simp only [View.canon_unit_zero (S := S256x648) zero_offsets, View.readAt_eq_ld, (hs0_0 t).read_unread, (hs0_1 t).read_unread, (hs0_2 t).read_unread, (hs0_3 t).read_unread,
    View.ld_unit_zero (S := S256x648) zero_offsets]
  funext j
  rw [View.read_apply]
  obtain ⟨r, k, rfl⟩ : ∃ (r : Fin 256) (k : Fin 648), j = ix2 r k := idx2 j
  refine Eq.trans (b := vAt m c (at_ t r) k) ?_ (congrArg₂ (vAt m c) (Fin.ext ?_) (Fin.ext ?_))
  · refine (newV_apply ..).trans ?_
    unfold vAt
    rw [gAt_tile m c t r k, ← grad_apply, ← read_v m c]
  · show t.val * 256 + r.val = win0_7.index t 0 * 256 + 1 * r.val; rw [e.1]; omega
  · show k.val = win0_7.index t 1 * 648 + 1 * k.val; rw [e.2]; omega

theorem flushed7_eq (t : Fin cfg0.N) : (dats m 0 c).flushed 7 t = ((cfg0.win 7).blk t).view.read (Elt Ideal) (resV m c) :=
  flushed7_A_eq m c t

theorem cover7 (i : S1024x648.Idx) : ∃ t : Fin cfg0.N, (cfg0.win 7).flush t = true ∧ i ∈ ((cfg0.win 7).blk t).view.set := by
  have h0 : (i 0 : Nat) < 1024 := (i 0).isLt
  have h1 : (i 1 : Nat) < 648 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).2.2.2
  refine ⟨t, flush0_7 _, ?_⟩
  show i ∈ ((View.whole main_v0_3).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256; rw [e.1]; omega
  | ⟨1, _⟩ => show win0_7.index t 1 * 648 ≤ (i 1 : Nat) ∧ (i 1 : Nat) < win0_7.index t 1 * 648 + 648; rw [e.2]; omega

/-- The result array after the run. -/
theorem final7 : (dats m 0 c).arrAt 7 cfg0.N = resV m c :=
  (dats m 0 c).arrAt_eq_of_cover 7 (resV m c) (fun t _ => flushed7_eq m c t) cover7

end Cert.Kernel25Ideal.Result

namespace Cert.Proof.AdamSsdIn

open Cert.Kernel25Ideal.Result

section
open Cert.Reference25Ideal Cert.Reference25Ideal.Gen
set_option maxHeartbeats 2000000 in
/-- The reference's gradient, entry by entry. -/
theorem refG_apply (x1 : FVec Ideal S8x1024x648 .bf16) (r : Fin 1024) (k : Fin 648) :
    (Host.reduceAdd (extf .f32 x1 bitsLt_bf16_f32) (constant S_ .f32 0x00000000#32) reducesTo_S8x1024x648_S1024x648_d0 h_S_ : FVec Ideal Cert.Reference25Ideal.S1024x648 .f32) (ix2 r k)
      = (∑ d : Fin 8, (x1 (ix3 d r k) : EReal)) := by
  pointwise
end

section
open Cert.Reference25Ideal Cert.Reference25Ideal.Gen
set_option maxHeartbeats 2000000 in
/-- The reference's step, entry by entry. -/
theorem refD_apply (x0 : FVec Ideal S1024x648 .f32) (x1 : FVec Ideal S8x1024x648 .bf16) (x2 : FVec Ideal S1024x648 .f32) (x3 : FVec Ideal S1024x648 .f32) (r : Fin 1024) (k : Fin 648) :
    (mulf (broadcastInDim S1024x648 ![] bcast_S_S1024x648 (constant S_ .f32 0xBA83126F#32)) (addf (Host.divf (Host.divf (addf (mulf (broadcastInDim S1024x648 ![] bcast_S_S1024x648 (constant S_ .f32 0x3F666666#32)) x2) (mulf (broadcastInDim S1024x648 ![] bcast_S_S1024x648 (constant S_ .f32 0x3DCCCCCD#32)) (Host.reduceAdd (extf .f32 x1 bitsLt_bf16_f32) (constant S_ .f32 0x00000000#32) reducesTo_S8x1024x648_S1024x648_d0 h_S_))) (broadcastInDim S1024x648 ![] bcast_S_S1024x648 (constant S_ .f32 0x3F26BD02#32))) (addf (Host.sqrt (Host.divf (addf (mulf (broadcastInDim S1024x648 ![] bcast_S_S1024x648 (constant S_ .f32 0x3F7FBE77#32)) x3) (mulf (broadcastInDim S1024x648 ![] bcast_S_S1024x648 (constant S_ .f32 0x3A83126F#32)) (mulf (Host.reduceAdd (extf .f32 x1 bitsLt_bf16_f32) (constant S_ .f32 0x00000000#32) reducesTo_S8x1024x648_S1024x648_d0 h_S_) (Host.reduceAdd (extf .f32 x1 bitsLt_bf16_f32) (constant S_ .f32 0x00000000#32) reducesTo_S8x1024x648_S1024x648_d0 h_S_)))) (broadcastInDim S1024x648 ![] bcast_S_S1024x648 (constant S_ .f32 0x3C231ACC#32)))) (broadcastInDim S1024x648 ![] bcast_S_S1024x648 (constant S_ .f32 0x322BCC77#32)))) (mulf (broadcastInDim S1024x648 ![] bcast_S_S1024x648 (constant S_ .f32 0x3C23D70A#32)) x0)) : FVec Ideal Cert.Reference25Ideal.S1024x648 .f32) (ix2 r k)
      = delta (x0 (ix2 r k)) (∑ d : Fin 8, (x1 (ix3 d r k) : EReal)) (x2 (ix2 r k)) (x3 (ix2 r k)) := by
  unfold delta newM newV
  pointwise
end

section
open Cert.Reference25Ideal Cert.Reference25Ideal.Gen
set_option maxHeartbeats 2000000 in
/-- The reference's first mean, entry by entry. -/
theorem refM_apply (x1 : FVec Ideal S8x1024x648 .bf16) (x2 : FVec Ideal S1024x648 .f32) (r : Fin 1024) (k : Fin 648) :
    (addf (mulf (broadcastInDim S1024x648 ![] bcast_S_S1024x648 (constant S_ .f32 0x3F666666#32)) x2) (mulf (broadcastInDim S1024x648 ![] bcast_S_S1024x648 (constant S_ .f32 0x3DCCCCCD#32)) (Host.reduceAdd (extf .f32 x1 bitsLt_bf16_f32) (constant S_ .f32 0x00000000#32) reducesTo_S8x1024x648_S1024x648_d0 h_S_)) : FVec Ideal Cert.Reference25Ideal.S1024x648 .f32) (ix2 r k)
      = newM (∑ d : Fin 8, (x1 (ix3 d r k) : EReal)) (x2 (ix2 r k)) := by
  unfold newM
  pointwise
end

section
open Cert.Reference25Ideal Cert.Reference25Ideal.Gen
set_option maxHeartbeats 2000000 in
/-- The reference's second mean, entry by entry. -/
theorem refV_apply (x1 : FVec Ideal S8x1024x648 .bf16) (x3 : FVec Ideal S1024x648 .f32) (r : Fin 1024) (k : Fin 648) :
    (addf (mulf (broadcastInDim S1024x648 ![] bcast_S_S1024x648 (constant S_ .f32 0x3F7FBE77#32)) x3) (mulf (broadcastInDim S1024x648 ![] bcast_S_S1024x648 (constant S_ .f32 0x3A83126F#32)) (mulf (Host.reduceAdd (extf .f32 x1 bitsLt_bf16_f32) (constant S_ .f32 0x00000000#32) reducesTo_S8x1024x648_S1024x648_d0 h_S_) (Host.reduceAdd (extf .f32 x1 bitsLt_bf16_f32) (constant S_ .f32 0x00000000#32) reducesTo_S8x1024x648_S1024x648_d0 h_S_))) : FVec Ideal Cert.Reference25Ideal.S1024x648 .f32) (ix2 r k)
      = newV (∑ d : Fin 8, (x1 (ix3 d r k) : EReal)) (x3 (ix2 r k)) := by
  unfold newV
  pointwise
end

set_option maxHeartbeats 4000000 in
/-- At exact arithmetic the kernel's results are those of AdamW on the summed gradient. -/
theorem algebraic : Cert.algebraic_Kernel25Ideal_Reference25Ideal := by
  intro m ρ m' ρ' _ agree
  refine ⟨fun c => resG m c, fun c => resD m c, fun c => resM m c, fun c => resV m c,
    (θ_run Cert.Kernel25Ideal.defs _ _).mono (fun _ h c => ⟨(h c).1.trans (final4 m c), (h c).2.1.trans (final5 m c), (h c).2.2.1.trans (final6 m c), (h c).2.2.2.1.trans (final7 m c), (h c).2.2.2.2⟩)
      (Cert.Kernel25Ideal.Value.run_blocks m ρ), ?_⟩
  refine (θ_run Cert.Reference25Ideal.defs _ _).mono (fun _ h c => ⟨(h c).1.trans ?_, (h c).2.1.trans ?_, (h c).2.2.1.trans ?_, (h c).2.2.2.1.trans ?_, (h c).2.2.2.2⟩)
    (Cert.Reference25Ideal.Value.run (F := Ideal) m' ρ')
  · rw [(agree c).2.1]
    funext i
    obtain ⟨r, k, rfl⟩ : ∃ (r : Fin 1024) (k : Fin 648), i = ix2 r k := idx2 i
    exact refG_apply ..
  · rw [(agree c).1, (agree c).2.1, (agree c).2.2.1, (agree c).2.2.2.1]
    funext i
    obtain ⟨r, k, rfl⟩ : ∃ (r : Fin 1024) (k : Fin 648), i = ix2 r k := idx2 i
    exact refD_apply ..
  · rw [(agree c).2.1, (agree c).2.2.1]
    funext i
    obtain ⟨r, k, rfl⟩ : ∃ (r : Fin 1024) (k : Fin 648), i = ix2 r k := idx2 i
    exact refM_apply ..
  · rw [(agree c).2.1, (agree c).2.2.2.1]
    funext i
    obtain ⟨r, k, rfl⟩ : ∃ (r : Fin 1024) (k : Fin 648), i = ix2 r k := idx2 i
    exact refV_apply ..

end Cert.Proof.AdamSsdIn
-- ==== Proof.AdamSsdOut.lean ====
/-
  The update of the state-space layer's output weight. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel26Ideal.Value
public import proofs.«01_k».proof.Proof.Gen.Reference26Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel26Ideal.Result

open Cert.Kernel26Ideal Cert.Kernel26Ideal.Gen

variable (m : (ℓ : Loc nD τ sig) → Buf (Elt Ideal) ℓ) (c : Dev nD)

/-- The slices of a block of parts, as the kernel loads them. -/
abbrev slice (b : Vec Ideal S8x256x1024 .bf16) (a : Nat)
    (inb : ∀ d : Fin 3, (![a, 0, 0] : Fin 3 → Nat) d + (![1, 256, 1024] : Fin 3 → Nat) d ≤ S8x256x1024.size d) : Vec Ideal S1x256x1024 .bf16 :=
  View.ld b (Rect.unit ![a, 0, 0] ![1, 256, 1024] inb)

/-- The gradient's tile: the devices' parts summed. -/
theorem grad_apply (b : Vec Ideal S8x256x1024 .bf16) (r : Fin 256) (k : Fin 1024) :
    k0_pay4 (slice b 0 inb_S8x256x1024_S1x256x1024_0_0_0) (slice b 1 inb_S8x256x1024_S1x256x1024_1_0_0) (slice b 2 inb_S8x256x1024_S1x256x1024_2_0_0) (slice b 3 inb_S8x256x1024_S1x256x1024_3_0_0) (slice b 4 inb_S8x256x1024_S1x256x1024_4_0_0) (slice b 5 inb_S8x256x1024_S1x256x1024_5_0_0) (slice b 6 inb_S8x256x1024_S1x256x1024_6_0_0) (slice b 7 inb_S8x256x1024_S1x256x1024_7_0_0) (ix2 r k)
      = ∑ d : Fin 8, (b (ix3 d r k) : EReal) := by
  unfold k0_pay4 slice
  pointwise
  rw [Fin.sum_univ_eight]

/-- The first mean's tile. -/
theorem newM_apply (g a : Vec Ideal S256x1024 .f32) (r : Fin 256) (k : Fin 1024) :
    k0_pay1 g a (ix2 r k) = newM (g (ix2 r k)) (a (ix2 r k)) := by
  unfold k0_pay1 newM
  pointwise

/-- The second mean's tile. -/
theorem newV_apply (g b : Vec Ideal S256x1024 .f32) (r : Fin 256) (k : Fin 1024) :
    k0_pay2 g b (ix2 r k) = newV (g (ix2 r k)) (b (ix2 r k)) := by
  unfold k0_pay2 newV
  pointwise

/-- The step's tile. -/
theorem delta_apply (g w a b : Vec Ideal S256x1024 .f32) (r : Fin 256) (k : Fin 1024) :
    k0_pay3 g w a b (ix2 r k) = delta (w (ix2 r k)) (g (ix2 r k)) (a (ix2 r k)) (b (ix2 r k)) := by
  unfold k0_pay3 k0_pay1 k0_pay2 delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg2) := m ((c : Thread nD τ).loc main_arg2)
/-- The mean of the squared gradient as an argument. -/
def aV : Buf (Elt Ideal) ((c : Thread nD τ).loc main_arg3) := m ((c : Thread nD τ).loc main_arg3)
/-- The devices' parts of the gradient. -/
def aP : Buf (Elt Ideal) ((c : Thread nD τ).loc main_arg1) := m ((c : Thread nD τ).loc main_arg1)

/-- The gradient. -/
def gAt (r : Fin 256) (k : Fin 1024) : EReal := ∑ d : Fin 8, (aP m c (ix3 d r k) : EReal)
/-- The step. -/
def dAt (r : Fin 256) (k : Fin 1024) : EReal := delta (aW m c (ix2 r k)) (gAt m c r k) (aM m c (ix2 r k)) (aV m c (ix2 r k))
/-- The first mean. -/
def mAt (r : Fin 256) (k : Fin 1024) : EReal := newM (gAt m c r k) (aM m c (ix2 r k))
/-- The second mean. -/
def vAt (r : Fin 256) (k : Fin 1024) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 1 := by have := t.isLt; have hN : cfg0.N = 1 := N_0; omega

/-- The row of the whole array that row `r` of the tile `t` is. -/
def at_ (t : Fin cfg0.N) (r : Fin 256) : Fin 256 := ⟨t.val * 256 + r.val, by have := points t; omega⟩

/-- Which tiles the point `t` reads and writes. -/
theorem blocks_at : ∀ t : Fin grid0.N, (win0_0.index t 0 = t.val ∧ win0_0.index t 1 = 0)
    ∧ (win0_2.index t 0 = t.val ∧ win0_2.index t 1 = 0) ∧ (win0_3.index t 0 = t.val ∧ win0_3.index t 1 = 0) := by
  decide +kernel
theorem parts_at : ∀ t : Fin grid0.N, win0_1.index t 0 = 0 ∧ win0_1.index t 1 = t.val ∧ win0_1.index t 2 = 0 := by
  decide +kernel
theorem outs_at : ∀ t : Fin grid0.N, (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by
  decide +kernel

theorem read_w (t : Fin cfg0.N) (r : Fin 256) (k : Fin 1024) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 1024 + 1 * k.val = k.val; rw [e.2]; omega

theorem read_m (t : Fin cfg0.N) (r : Fin 256) (k : Fin 1024) : iblk m c 2 t (ix2 r k) = aM m c (ix2 (at_ t r) k) := by
  have e := (blocks_at t).2.1
  show V m c main_arg2 _ = m _ _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 1024 + 1 * k.val = k.val; rw [e.2]; omega

theorem read_v (t : Fin cfg0.N) (r : Fin 256) (k : Fin 1024) : iblk m c 3 t (ix2 r k) = aV m c (ix2 (at_ t r) k) := by
  have e := (blocks_at t).2.2
  show V m c main_arg3 _ = m _ _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 1024 + 1 * k.val = k.val; rw [e.2]; omega

theorem read_p (t : Fin cfg0.N) (d : Fin 8) (r : Fin 256) (k : Fin 1024) :
    iblk m c 1 t (ix3 d r k) = aP m c (ix3 d (at_ t r) k) := by
  have e := parts_at t
  show V m c main_arg1 _ = m _ _
  rw [V_main_arg1]
  congr 1
  funext a
  apply Fin.ext
  match a with
  | ⟨0, _⟩ => show win0_1.index t 0 * 8 + 1 * d.val = d.val; rw [e.1]; omega
  | ⟨1, _⟩ => show win0_1.index t 1 * 256 + 1 * r.val = t.val * 256 + r.val; rw [e.2.1]; omega
  | ⟨2, _⟩ => show win0_1.index t 2 * 1024 + 1 * k.val = k.val; rw [e.2.2]; omega

theorem gAt_tile (t : Fin cfg0.N) (r : Fin 256) (k : Fin 1024) :
    gAt m c (at_ t r) k = Finset.sum (M := EReal) Finset.univ fun d : Fin 8 => iblk m c 1 t (ix3 d r k) :=
  Finset.sum_congr (M := EReal) rfl fun d _ => (read_p m c t d r k).symm

set_option maxHeartbeats 2000000 in
/-- What the point `t` writes back: its tile of the result. -/
theorem flushed4_A_eq (t : Fin cfg0.N)  :
    (dats m 0 c).flushed 4 t = ((cfg0.win 4).blk t).view.read (Elt Ideal) (resG m c) := by
  have e := (outs_at t).1
  rw [Value.flushed4_A m c t ]
  unfold out0_A_4
  rw [View.read_writes_eq_canon _ _ _ (fun _ => cover0_A_4 ..)]
  unfold kernelRun0_A
  dsimp only
  sl_unfold_words
  simp only [View.canon_unit_zero (S := S256x1024) zero_offsets, View.readAt_eq_ld, (hs0_0 t).read_unread, (hs0_1 t).read_unread, (hs0_2 t).read_unread, (hs0_3 t).read_unread,
    View.ld_unit_zero (S := S256x1024) zero_offsets]
  funext j
  rw [View.read_apply]
  obtain ⟨r, k, rfl⟩ : ∃ (r : Fin 256) (k : Fin 1024), j = ix2 r k := idx2 j
  refine Eq.trans (b := gAt m c (at_ t r) k) ?_ (congrArg₂ (gAt m c) (Fin.ext ?_) (Fin.ext ?_))
  · exact (grad_apply (iblk m c 1 t) r k).trans (gAt_tile m c t r k).symm
  · show t.val * 256 + r.val = win0_4.index t 0 * 256 + 1 * r.val; rw [e.1]; omega
  · show k.val = win0_4.index t 1 * 1024 + 1 * k.val; rw [e.2]; omega

theorem flushed4_eq (t : Fin cfg0.N) : (dats m 0 c).flushed 4 t = ((cfg0.win 4).blk t).view.read (Elt Ideal) (resG m c) :=
  flushed4_A_eq m c t

theorem cover4 (i : S256x1024.Idx) : ∃ t : Fin cfg0.N, (cfg0.win 4).flush t = true ∧ i ∈ ((cfg0.win 4).blk t).view.set := by
  have h0 : (i 0 : Nat) < 256 := (i 0).isLt
  have h1 : (i 1 : Nat) < 1024 := (i 1).isLt
  have hN : cfg0.N = 1 := N_0
  obtain ⟨t, ht⟩ : ∃ t : Fin cfg0.N, t.val = (i 0 : Nat) / 256 := ⟨⟨(i 0 : Nat) / 256, by omega⟩, rfl⟩
  have e := (outs_at t).1
  refine ⟨t, flush0_4 _, ?_⟩
  show i ∈ ((View.whole main_v0_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; rw [e.1]; omega
  | ⟨1, _⟩ => show win0_4.index t 1 * 1024 ≤ (i 1 : Nat) ∧ (i 1 : Nat) < win0_4.index t 1 * 1024 + 1024; rw [e.2]; omega

/-- The result array after the run. -/
theorem final4 : (dats m 0 c).arrAt 4 cfg0.N = resG m c :=
  (dats m 0 c).arrAt_eq_of_cover 4 (resG m c) (fun t _ => flushed4_eq m c t) cover4

set_option maxHeartbeats 2000000 in
/-- What the point `t` writes back: its tile of the result. -/
theorem flushed5_A_eq (t : Fin cfg0.N)  :
    (dats m 0 c).flushed 5 t = ((cfg0.win 5).blk t).view.read (Elt Ideal) (resD m c) := by
  have e := (outs_at t).2.1
  rw [Value.flushed5_A m c t ]
  unfold out0_A_5
  rw [View.read_writes_eq_canon _ _ _ (fun _ => cover0_A_5 ..)]
  unfold kernelRun0_A
  dsimp only
  sl_unfold_words
  simp only [View.canon_unit_zero (S := S256x1024) zero_offsets, View.readAt_eq_ld, (hs0_0 t).read_unread, (hs0_1 t).read_unread, (hs0_2 t).read_unread, (hs0_3 t).read_unread,
    View.ld_unit_zero (S := S256x1024) zero_offsets]
  funext j
  rw [View.read_apply]
  obtain ⟨r, k, rfl⟩ : ∃ (r : Fin 256) (k : Fin 1024), j = ix2 r k := idx2 j
  refine Eq.trans (b := dAt m c (at_ t r) k) ?_ (congrArg₂ (dAt m c) (Fin.ext ?_) (Fin.ext ?_))
  · refine (delta_apply ..).trans ?_
    unfold dAt
    rw [gAt_tile m c t r k, ← grad_apply, ← read_w m c, ← read_m m c, ← read_v m c]
  · show t.val * 256 + r.val = win0_5.index t 0 * 256 + 1 * r.val; rw [e.1]; omega
  · show k.val = win0_5.index t 1 * 1024 + 1 * k.val; rw [e.2]; omega

theorem flushed5_eq (t : Fin cfg0.N) : (dats m 0 c).flushed 5 t = ((cfg0.win 5).blk t).view.read (Elt Ideal) (resD m c) :=
  flushed5_A_eq m c t

theorem cover5 (i : S256x1024.Idx) : ∃ t : Fin cfg0.N, (cfg0.win 5).flush t = true ∧ i ∈ ((cfg0.win 5).blk t).view.set := by
  have h0 : (i 0 : Nat) < 256 := (i 0).isLt
  have h1 : (i 1 : Nat) < 1024 := (i 1).isLt
  have hN : cfg0.N = 1 := N_0
  obtain ⟨t, ht⟩ : ∃ t : Fin cfg0.N, t.val = (i 0 : Nat) / 256 := ⟨⟨(i 0 : Nat) / 256, by omega⟩, rfl⟩
  have e := (outs_at t).2.1
  refine ⟨t, flush0_5 _, ?_⟩
  show i ∈ ((View.whole main_v0_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [e.1]; omega
  | ⟨1, _⟩ => show win0_5.index t 1 * 1024 ≤ (i 1 : Nat) ∧ (i 1 : Nat) < win0_5.index t 1 * 1024 + 1024; rw [e.2]; omega

/-- The result array after the run. -/
theorem final5 : (dats m 0 c).arrAt 5 cfg0.N = resD m c :=
  (dats m 0 c).arrAt_eq_of_cover 5 (resD m c) (fun t _ => flushed5_eq m c t) cover5

set_option maxHeartbeats 2000000 in
/-- What the point `t` writes back: its tile of the result. -/
theorem flushed6_A_eq (t : Fin cfg0.N)  :
    (dats m 0 c).flushed 6 t = ((cfg0.win 6).blk t).view.read (Elt Ideal) (resM m c) := by
  have e := (outs_at t).2.2.1
  rw [Value.flushed6_A m c t ]
  unfold out0_A_6
  rw [View.read_writes_eq_canon _ _ _ (fun _ => cover0_A_6 ..)]
  unfold kernelRun0_A
  dsimp only
  sl_unfold_words
  simp only [View.canon_unit_zero (S := S256x1024) zero_offsets, View.readAt_eq_ld, (hs0_0 t).read_unread, (hs0_1 t).read_unread, (hs0_2 t).read_unread, (hs0_3 t).read_unread,
    View.ld_unit_zero (S := S256x1024) zero_offsets]
  funext j
  rw [View.read_apply]
  obtain ⟨r, k, rfl⟩ : ∃ (r : Fin 256) (k : Fin 1024), j = ix2 r k := idx2 j
  refine Eq.trans (b := mAt m c (at_ t r) k) ?_ (congrArg₂ (mAt m c) (Fin.ext ?_) (Fin.ext ?_))
  · refine (newM_apply ..).trans ?_
    unfold mAt
    rw [gAt_tile m c t r k, ← grad_apply, ← read_m m c]
  · show t.val * 256 + r.val = win0_6.index t 0 * 256 + 1 * r.val; rw [e.1]; omega
  · show k.val = win0_6.index t 1 * 1024 + 1 * k.val; rw [e.2]; omega

theorem flushed6_eq (t : Fin cfg0.N) : (dats m 0 c).flushed 6 t = ((cfg0.win 6).blk t).view.read (Elt Ideal) (resM m c) :=
  flushed6_A_eq m c t

theorem cover6 (i : S256x1024.Idx) : ∃ t : Fin cfg0.N, (cfg0.win 6).flush t = true ∧ i ∈ ((cfg0.win 6).blk t).view.set := by
  have h0 : (i 0 : Nat) < 256 := (i 0).isLt
  have h1 : (i 1 : Nat) < 1024 := (i 1).isLt
  have hN : cfg0.N = 1 := N_0
  obtain ⟨t, ht⟩ : ∃ t : Fin cfg0.N, t.val = (i 0 : Nat) / 256 := ⟨⟨(i 0 : Nat) / 256, by omega⟩, rfl⟩
  have e := (outs_at t).2.2.1
  refine ⟨t, flush0_6 _, ?_⟩
  show i ∈ ((View.whole main_v0_2).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e.1]; omega
  | ⟨1, _⟩ => show win0_6.index t 1 * 1024 ≤ (i 1 : Nat) ∧ (i 1 : Nat) < win0_6.index t 1 * 1024 + 1024; rw [e.2]; omega

/-- The result array after the run. -/
theorem final6 : (dats m 0 c).arrAt 6 cfg0.N = resM m c :=
  (dats m 0 c).arrAt_eq_of_cover 6 (resM m c) (fun t _ => flushed6_eq m c t) cover6

set_option maxHeartbeats 2000000 in
/-- What the point `t` writes back: its tile of the result. -/
theorem flushed7_A_eq (t : Fin cfg0.N)  :
    (dats m 0 c).flushed 7 t = ((cfg0.win 7).blk t).view.read (Elt Ideal) (resV m c) := by
  have e := (outs_at t).2.2.2
  rw [Value.flushed7_A m c t ]
  unfold out0_A_7
  rw [View.read_writes_eq_canon _ _ _ (fun _ => cover0_A_7 ..)]
  unfold kernelRun0_A
  dsimp only
  sl_unfold_words
  simp only [View.canon_unit_zero (S := S256x1024) zero_offsets, View.readAt_eq_ld, (hs0_0 t).read_unread, (hs0_1 t).read_unread, (hs0_2 t).read_unread, (hs0_3 t).read_unread,
    View.ld_unit_zero (S := S256x1024) zero_offsets]
  funext j
  rw [View.read_apply]
  obtain ⟨r, k, rfl⟩ : ∃ (r : Fin 256) (k : Fin 1024), j = ix2 r k := idx2 j
  refine Eq.trans (b := vAt m c (at_ t r) k) ?_ (congrArg₂ (vAt m c) (Fin.ext ?_) (Fin.ext ?_))
  · refine (newV_apply ..).trans ?_
    unfold vAt
    rw [gAt_tile m c t r k, ← grad_apply, ← read_v m c]
  · show t.val * 256 + r.val = win0_7.index t 0 * 256 + 1 * r.val; rw [e.1]; omega
  · show k.val = win0_7.index t 1 * 1024 + 1 * k.val; rw [e.2]; omega

theorem flushed7_eq (t : Fin cfg0.N) : (dats m 0 c).flushed 7 t = ((cfg0.win 7).blk t).view.read (Elt Ideal) (resV m c) :=
  flushed7_A_eq m c t

theorem cover7 (i : S256x1024.Idx) : ∃ t : Fin cfg0.N, (cfg0.win 7).flush t = true ∧ i ∈ ((cfg0.win 7).blk t).view.set := by
  have h0 : (i 0 : Nat) < 256 := (i 0).isLt
  have h1 : (i 1 : Nat) < 1024 := (i 1).isLt
  have hN : cfg0.N = 1 := N_0
  obtain ⟨t, ht⟩ : ∃ t : Fin cfg0.N, t.val = (i 0 : Nat) / 256 := ⟨⟨(i 0 : Nat) / 256, by omega⟩, rfl⟩
  have e := (outs_at t).2.2.2
  refine ⟨t, flush0_7 _, ?_⟩
  show i ∈ ((View.whole main_v0_3).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256; rw [e.1]; omega
  | ⟨1, _⟩ => show win0_7.index t 1 * 1024 ≤ (i 1 : Nat) ∧ (i 1 : Nat) < win0_7.index t 1 * 1024 + 1024; rw [e.2]; omega

/-- The result array after the run. -/
theorem final7 : (dats m 0 c).arrAt 7 cfg0.N = resV m c :=
  (dats m 0 c).arrAt_eq_of_cover 7 (resV m c) (fun t _ => flushed7_eq m c t) cover7

end Cert.Kernel26Ideal.Result

namespace Cert.Proof.AdamSsdOut

open Cert.Kernel26Ideal.Result

section
open Cert.Reference26Ideal Cert.Reference26Ideal.Gen
set_option maxHeartbeats 2000000 in
/-- The reference's gradient, entry by entry. -/
theorem refG_apply (x1 : FVec Ideal S8x256x1024 .bf16) (r : Fin 256) (k : Fin 1024) :
    (Host.reduceAdd (extf .f32 x1 bitsLt_bf16_f32) (constant S_ .f32 0x00000000#32) reducesTo_S8x256x1024_S256x1024_d0 h_S_ : FVec Ideal Cert.Reference26Ideal.S256x1024 .f32) (ix2 r k)
      = (∑ d : Fin 8, (x1 (ix3 d r k) : EReal)) := by
  pointwise
end

section
open Cert.Reference26Ideal Cert.Reference26Ideal.Gen
set_option maxHeartbeats 2000000 in
/-- The reference's step, entry by entry. -/
theorem refD_apply (x0 : FVec Ideal S256x1024 .f32) (x1 : FVec Ideal S8x256x1024 .bf16) (x2 : FVec Ideal S256x1024 .f32) (x3 : FVec Ideal S256x1024 .f32) (r : Fin 256) (k : Fin 1024) :
    (mulf (broadcastInDim S256x1024 ![] bcast_S_S256x1024 (constant S_ .f32 0xBA83126F#32)) (addf (Host.divf (Host.divf (addf (mulf (broadcastInDim S256x1024 ![] bcast_S_S256x1024 (constant S_ .f32 0x3F666666#32)) x2) (mulf (broadcastInDim S256x1024 ![] bcast_S_S256x1024 (constant S_ .f32 0x3DCCCCCD#32)) (Host.reduceAdd (extf .f32 x1 bitsLt_bf16_f32) (constant S_ .f32 0x00000000#32) reducesTo_S8x256x1024_S256x1024_d0 h_S_))) (broadcastInDim S256x1024 ![] bcast_S_S256x1024 (constant S_ .f32 0x3F26BD02#32))) (addf (Host.sqrt (Host.divf (addf (mulf (broadcastInDim S256x1024 ![] bcast_S_S256x1024 (constant S_ .f32 0x3F7FBE77#32)) x3) (mulf (broadcastInDim S256x1024 ![] bcast_S_S256x1024 (constant S_ .f32 0x3A83126F#32)) (mulf (Host.reduceAdd (extf .f32 x1 bitsLt_bf16_f32) (constant S_ .f32 0x00000000#32) reducesTo_S8x256x1024_S256x1024_d0 h_S_) (Host.reduceAdd (extf .f32 x1 bitsLt_bf16_f32) (constant S_ .f32 0x00000000#32) reducesTo_S8x256x1024_S256x1024_d0 h_S_)))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) x0)) : FVec Ideal Cert.Reference26Ideal.S256x1024 .f32) (ix2 r k)
      = delta (x0 (ix2 r k)) (∑ d : Fin 8, (x1 (ix3 d r k) : EReal)) (x2 (ix2 r k)) (x3 (ix2 r k)) := by
  unfold delta newM newV
  pointwise
end

section
open Cert.Reference26Ideal Cert.Reference26Ideal.Gen
set_option maxHeartbeats 2000000 in
/-- The reference's first mean, entry by entry. -/
theorem refM_apply (x1 : FVec Ideal S8x256x1024 .bf16) (x2 : FVec Ideal S256x1024 .f32) (r : Fin 256) (k : Fin 1024) :
    (addf (mulf (broadcastInDim S256x1024 ![] bcast_S_S256x1024 (constant S_ .f32 0x3F666666#32)) x2) (mulf (broadcastInDim S256x1024 ![] bcast_S_S256x1024 (constant S_ .f32 0x3DCCCCCD#32)) (Host.reduceAdd (extf .f32 x1 bitsLt_bf16_f32) (constant S_ .f32 0x00000000#32) reducesTo_S8x256x1024_S256x1024_d0 h_S_)) : FVec Ideal Cert.Reference26Ideal.S256x1024 .f32) (ix2 r k)
      = newM (∑ d : Fin 8, (x1 (ix3 d r k) : EReal)) (x2 (ix2 r k)) := by
  unfold newM
  pointwise
end

section
open Cert.Reference26Ideal Cert.Reference26Ideal.Gen
set_option maxHeartbeats 2000000 in
/-- The reference's second mean, entry by entry. -/
theorem refV_apply (x1 : FVec Ideal S8x256x1024 .bf16) (x3 : FVec Ideal S256x1024 .f32) (r : Fin 256) (k : Fin 1024) :
    (addf (mulf (broadcastInDim S256x1024 ![] bcast_S_S256x1024 (constant S_ .f32 0x3F7FBE77#32)) x3) (mulf (broadcastInDim S256x1024 ![] bcast_S_S256x1024 (constant S_ .f32 0x3A83126F#32)) (mulf (Host.reduceAdd (extf .f32 x1 bitsLt_bf16_f32) (constant S_ .f32 0x00000000#32) reducesTo_S8x256x1024_S256x1024_d0 h_S_) (Host.reduceAdd (extf .f32 x1 bitsLt_bf16_f32) (constant S_ .f32 0x00000000#32) reducesTo_S8x256x1024_S256x1024_d0 h_S_))) : FVec Ideal Cert.Reference26Ideal.S256x1024 .f32) (ix2 r k)
      = newV (∑ d : Fin 8, (x1 (ix3 d r k) : EReal)) (x3 (ix2 r k)) := by
  unfold newV
  pointwise
end

set_option maxHeartbeats 4000000 in
/-- At exact arithmetic the kernel's results are those of AdamW on the summed gradient. -/
theorem algebraic : Cert.algebraic_Kernel26Ideal_Reference26Ideal := by
  intro m ρ m' ρ' _ agree
  refine ⟨fun c => resG m c, fun c => resD m c, fun c => resM m c, fun c => resV m c,
    (θ_run Cert.Kernel26Ideal.defs _ _).mono (fun _ h c => ⟨(h c).1.trans (final4 m c), (h c).2.1.trans (final5 m c), (h c).2.2.1.trans (final6 m c), (h c).2.2.2.1.trans (final7 m c), (h c).2.2.2.2⟩)
      (Cert.Kernel26Ideal.Value.run_blocks m ρ), ?_⟩
  refine (θ_run Cert.Reference26Ideal.defs _ _).mono (fun _ h c => ⟨(h c).1.trans ?_, (h c).2.1.trans ?_, (h c).2.2.1.trans ?_, (h c).2.2.2.1.trans ?_, (h c).2.2.2.2⟩)
    (Cert.Reference26Ideal.Value.run (F := Ideal) m' ρ')
  · rw [(agree c).2.1]
    funext i
    obtain ⟨r, k, rfl⟩ : ∃ (r : Fin 256) (k : Fin 1024), i = ix2 r k := idx2 i
    exact refG_apply ..
  · rw [(agree c).1, (agree c).2.1, (agree c).2.2.1, (agree c).2.2.2.1]
    funext i
    obtain ⟨r, k, rfl⟩ : ∃ (r : Fin 256) (k : Fin 1024), i = ix2 r k := idx2 i
    exact refD_apply ..
  · rw [(agree c).2.1, (agree c).2.2.1]
    funext i
    obtain ⟨r, k, rfl⟩ : ∃ (r : Fin 256) (k : Fin 1024), i = ix2 r k := idx2 i
    exact refM_apply ..
  · rw [(agree c).2.1, (agree c).2.2.2.1]
    funext i
    obtain ⟨r, k, rfl⟩ : ∃ (r : Fin 256) (k : Fin 1024), i = ix2 r k := idx2 i
    exact refV_apply ..

end Cert.Proof.AdamSsdOut
-- ==== Proof.AdamMixIn.lean ====
/-
  The update of layer 0's input weight. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel27Ideal.Value
public import proofs.«01_k».proof.Proof.Gen.Reference27Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel27Ideal.Result

open Cert.Kernel27Ideal Cert.Kernel27Ideal.Gen

variable (m : (ℓ : Loc nD τ sig) → Buf (Elt Ideal) ℓ) (c : Dev nD)

/-- The slices of a block of parts, as the kernel loads them. -/
abbrev slice (b : Vec Ideal S8x256x324 .bf16) (a : Nat)
    (inb : ∀ d : Fin 3, (![a, 0, 0] : Fin 3 → Nat) d + (![1, 256, 324] : Fin 3 → Nat) d ≤ S8x256x324.size d) : Vec Ideal S1x256x324 .bf16 :=
  View.ld b (Rect.unit ![a, 0, 0] ![1, 256, 324] inb)

/-- The gradient's tile: the devices' parts summed. -/
theorem grad_apply (b : Vec Ideal S8x256x324 .bf16) (r : Fin 256) (k : Fin 324) :
    k0_pay4 (slice b 0 inb_S8x256x324_S1x256x324_0_0_0) (slice b 1 inb_S8x256x324_S1x256x324_1_0_0) (slice b 2 inb_S8x256x324_S1x256x324_2_0_0) (slice b 3 inb_S8x256x324_S1x256x324_3_0_0) (slice b 4 inb_S8x256x324_S1x256x324_4_0_0) (slice b 5 inb_S8x256x324_S1x256x324_5_0_0) (slice b 6 inb_S8x256x324_S1x256x324_6_0_0) (slice b 7 inb_S8x256x324_S1x256x324_7_0_0) (ix2 r k)
      = ∑ d : Fin 8, (b (ix3 d r k) : EReal) := by
  unfold k0_pay4 slice
  pointwise
  rw [Fin.sum_univ_eight]

/-- The first mean's tile. -/
theorem newM_apply (g a : Vec Ideal S256x324 .f32) (r : Fin 256) (k : Fin 324) :
    k0_pay1 g a (ix2 r k) = newM (g (ix2 r k)) (a (ix2 r k)) := by
  unfold k0_pay1 newM
  pointwise

/-- The second mean's tile. -/
theorem newV_apply (g b : Vec Ideal S256x324 .f32) (r : Fin 256) (k : Fin 324) :
    k0_pay2 g b (ix2 r k) = newV (g (ix2 r k)) (b (ix2 r k)) := by
  unfold k0_pay2 newV
  pointwise

/-- The step's tile. -/
theorem delta_apply (g w a b : Vec Ideal S256x324 .f32) (r : Fin 256) (k : Fin 324) :
    k0_pay3 g w a b (ix2 r k) = delta (w (ix2 r k)) (g (ix2 r k)) (a (ix2 r k)) (b (ix2 r k)) := by
  unfold k0_pay3 k0_pay1 k0_pay2 delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg2) := m ((c : Thread nD τ).loc main_arg2)
/-- The mean of the squared gradient as an argument. -/
def aV : Buf (Elt Ideal) ((c : Thread nD τ).loc main_arg3) := m ((c : Thread nD τ).loc main_arg3)
/-- The devices' parts of the gradient. -/
def aP : Buf (Elt Ideal) ((c : Thread nD τ).loc main_arg1) := m ((c : Thread nD τ).loc main_arg1)

/-- The gradient. -/
def gAt (r : Fin 1024) (k : Fin 324) : EReal := ∑ d : Fin 8, (aP m c (ix3 d r k) : EReal)
/-- The step. -/
def dAt (r : Fin 1024) (k : Fin 324) : EReal := delta (aW m c (ix2 r k)) (gAt m c r k) (aM m c (ix2 r k)) (aV m c (ix2 r k))
/-- The first mean. -/
def mAt (r : Fin 1024) (k : Fin 324) : EReal := newM (gAt m c r k) (aM m c (ix2 r k))
/-- The second mean. -/
def vAt (r : Fin 1024) (k : Fin 324) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 4 := by have := t.isLt; have hN : cfg0.N = 4 := N_0; omega

/-- The row of the whole array that row `r` of the tile `t` is. -/
def at_ (t : Fin cfg0.N) (r : Fin 256) : Fin 1024 := ⟨t.val * 256 + r.val, by have := points t; omega⟩

/-- Which tiles the point `t` reads and writes. -/
theorem blocks_at : ∀ t : Fin grid0.N, (win0_0.index t 0 = t.val ∧ win0_0.index t 1 = 0)
    ∧ (win0_2.index t 0 = t.val ∧ win0_2.index t 1 = 0) ∧ (win0_3.index t 0 = t.val ∧ win0_3.index t 1 = 0) := by
  decide +kernel
theorem parts_at : ∀ t : Fin grid0.N, win0_1.index t 0 = 0 ∧ win0_1.index t 1 = t.val ∧ win0_1.index t 2 = 0 := by
  decide +kernel
theorem outs_at : ∀ t : Fin grid0.N, (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by
  decide +kernel

theorem read_w (t : Fin cfg0.N) (r : Fin 256) (k : Fin 324) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 256 + 1 * r.val = t.val * 256 + r.val; rw [e.1]; omega
  | ⟨1, _⟩ => show win0_0.index t 1 * 324 + 1 * k.val = k.val; rw [e.2]; omega

theorem read_m (t : Fin cfg0.N) (r : Fin 256) (k : Fin 324) : iblk m c 2 t (ix2 r k) = aM m c (ix2 (at_ t r) k) := by
  have e := (blocks_at t).2.1
  show V m c main_arg2 _ = m _ _
  rw [V_main_arg2]
  congr 1
  funext a
  apply Fin.ext
  match a with
  | ⟨0, _⟩ => show win0_2.index t 0 * 256 + 1 * r.val = t.val * 256 + r.val; rw [e.1]; omega
  | ⟨1, _⟩ => show win0_2.index t 1 * 324 + 1 * k.val = k.val; rw [e.2]; omega

theorem read_v (t : Fin cfg0.N) (r : Fin 256) (k : Fin 324) : iblk m c 3 t (ix2 r k) = aV m c (ix2 (at_ t r) k) := by
  have e := (blocks_at t).2.2
  show V m c main_arg3 _ = m _ _
  rw [V_main_arg3]
  congr 1
  funext a
  apply Fin.ext
  match a with
  | ⟨0, _⟩ => show win0_3.index t 0 * 256 + 1 * r.val = t.val * 256 + r.val; rw [e.1]; omega
  | ⟨1, _⟩ => show win0_3.index t 1 * 324 + 1 * k.val = k.val; rw [e.2]; omega

theorem read_p (t : Fin cfg0.N) (d : Fin 8) (r : Fin 256) (k : Fin 324) :
    iblk m c 1 t (ix3 d r k) = aP m c (ix3 d (at_ t r) k) := by
  have e := parts_at t
  show V m c main_arg1 _ = m _ _
  rw [V_main_arg1]
  congr 1
  funext a
  apply Fin.ext
  match a with
  | ⟨0, _⟩ => show win0_1.index t 0 * 8 + 1 * d.val = d.val; rw [e.1]; omega
  | ⟨1, _⟩ => show win0_1.index t 1 * 256 + 1 * r.val = t.val * 256 + r.val; rw [e.2.1]; omega
  | ⟨2, _⟩ => show win0_1.index t 2 * 324 + 1 * k.val = k.val; rw [e.2.2]; omega

theorem gAt_tile (t : Fin cfg0.N) (r : Fin 256) (k : Fin 324) :
    gAt m c (at_ t r) k = Finset.sum (M := EReal) Finset.univ fun d : Fin 8 => iblk m c 1 t (ix3 d r k) :=
  Finset.sum_congr (M := EReal) rfl fun d _ => (read_p m c t d r k).symm

set_option maxHeartbeats 2000000 in
/-- What the point `t` writes back: its tile of the result. -/
theorem flushed4_A_eq (t : Fin cfg0.N)  :
    (dats m 0 c).flushed 4 t = ((cfg0.win 4).blk t).view.read (Elt Ideal) (resG m c) := by
  have e := (outs_at t).1
  rw [Value.flushed4_A m c t ]
  unfold out0_A_4
  rw [View.read_writes_eq_canon _ _ _ (fun _ => cover0_A_4 ..)]
  unfold kernelRun0_A
  dsimp only
  sl_unfold_words
  simp only [View.canon_unit_zero (S := S256x324) zero_offsets, View.readAt_eq_ld, (hs0_0 t).read_unread, (hs0_1 t).read_unread, (hs0_2 t).read_unread, (hs0_3 t).read_unread,
    View.ld_unit_zero (S := S256x324) zero_offsets]
  funext j
  rw [View.read_apply]
  obtain ⟨r, k, rfl⟩ : ∃ (r : Fin 256) (k : Fin 324), j = ix2 r k := idx2 j
  refine Eq.trans (b := gAt m c (at_ t r) k) ?_ (congrArg₂ (gAt m c) (Fin.ext ?_) (Fin.ext ?_))
  · exact (grad_apply (iblk m c 1 t) r k).trans (gAt_tile m c t r k).symm
  · show t.val * 256 + r.val = win0_4.index t 0 * 256 + 1 * r.val; rw [e.1]; omega
  · show k.val = win0_4.index t 1 * 324 + 1 * k.val; rw [e.2]; omega

theorem flushed4_eq (t : Fin cfg0.N) : (dats m 0 c).flushed 4 t = ((cfg0.win 4).blk t).view.read (Elt Ideal) (resG m c) :=
  flushed4_A_eq m c t

theorem cover4 (i : S1024x324.Idx) : ∃ t : Fin cfg0.N, (cfg0.win 4).flush t = true ∧ i ∈ ((cfg0.win 4).blk t).view.set := by
  have h0 : (i 0 : Nat) < 1024 := (i 0).isLt
  have h1 : (i 1 : Nat) < 324 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).1
  refine ⟨t, flush0_4 _, ?_⟩
  show i ∈ ((View.whole main_v0_0).slice (win0_4.rect t)).set
  rw [View.set_slice_whole, Rect.mem_set_unit]
  intro a
  match a with
  | ⟨0, _⟩ => show win0_4.index t 0 * 256 ≤ (i 0 : Nat) ∧ (i 0 : Nat) < win0_4.index t 0 * 256 + 256; rw [e.1]; omega
  | ⟨1, _⟩ => show win0_4.index t 1 * 324 ≤ (i 1 : Nat) ∧ (i 1 : Nat) < win0_4.index t 1 * 324 + 324; rw [e.2]; omega

/-- The result array after the run. -/
theorem final4 : (dats m 0 c).arrAt 4 cfg0.N = resG m c :=
  (dats m 0 c).arrAt_eq_of_cover 4 (resG m c) (fun t _ => flushed4_eq m c t) cover4

set_option maxHeartbeats 2000000 in
/-- What the point `t` writes back: its tile of the result. -/
theorem flushed5_A_eq (t : Fin cfg0.N)  :
    (dats m 0 c).flushed 5 t = ((cfg0.win 5).blk t).view.read (Elt Ideal) (resD m c) := by
  have e := (outs_at t).2.1
  rw [Value.flushed5_A m c t ]
  unfold out0_A_5
  rw [View.read_writes_eq_canon _ _ _ (fun _ => cover0_A_5 ..)]
  unfold kernelRun0_A
  dsimp only
  sl_unfold_words
  simp only [View.canon_unit_zero (S := S256x324) zero_offsets, View.readAt_eq_ld, (hs0_0 t).read_unread, (hs0_1 t).read_unread, (hs0_2 t).read_unread, (hs0_3 t).read_unread,
    View.ld_unit_zero (S := S256x324) zero_offsets]
  funext j
  rw [View.read_apply]
  obtain ⟨r, k, rfl⟩ : ∃ (r : Fin 256) (k : Fin 324), j = ix2 r k := idx2 j
  refine Eq.trans (b := dAt m c (at_ t r) k) ?_ (congrArg₂ (dAt m c) (Fin.ext ?_) (Fin.ext ?_))
  · refine (delta_apply ..).trans ?_
    unfold dAt
    rw [gAt_tile m c t r k, ← grad_apply, ← read_w m c, ← read_m m c, ← read_v m c]
  · show t.val * 256 + r.val = win0_5.index t 0 * 256 + 1 * r.val; rw [e.1]; omega
  · show k.val = win0_5.index t 1 * 324 + 1 * k.val; rw [e.2]; omega

theorem flushed5_eq (t : Fin cfg0.N) : (dats m 0 c).flushed 5 t = ((cfg0.win 5).blk t).view.read (Elt Ideal) (resD m c) :=
  flushed5_A_eq m c t

theorem cover5 (i : S1024x324.Idx) : ∃ t : Fin cfg0.N, (cfg0.win 5).flush t = true ∧ i ∈ ((cfg0.win 5).blk t).view.set := by
  have h0 : (i 0 : Nat) < 1024 := (i 0).isLt
  have h1 : (i 1 : Nat) < 324 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).2.1
  refine ⟨t, flush0_5 _, ?_⟩
  show i ∈ ((View.whole main_v0_1).slice (win0_5.rect t)).set
  rw [View.set_slice_whole, Rect.mem_set_unit]
  intro a
  match a with
  | ⟨0, _⟩ => show win0_5.index t 0 * 256 ≤ (i 0 : Nat) ∧ (i 0 : Nat) < win0_5.index t 0 * 256 + 256; rw [e.1]; omega
  | ⟨1, _⟩ => show win0_5.index t 1 * 324 ≤ (i 1 : Nat) ∧ (i 1 : Nat) < win0_5.index t 1 * 324 + 324; rw [e.2]; omega

/-- The result array after the run. -/
theorem final5 : (dats m 0 c).arrAt 5 cfg0.N = resD m c :=
  (dats m 0 c).arrAt_eq_of_cover 5 (resD m c) (fun t _ => flushed5_eq m c t) cover5

set_option maxHeartbeats 2000000 in
/-- What the point `t` writes back: its tile of the result. -/
theorem flushed6_A_eq (t : Fin cfg0.N)  :
    (dats m 0 c).flushed 6 t = ((cfg0.win 6).blk t).view.read (Elt Ideal) (resM m c) := by
  have e := (outs_at t).2.2.1
  rw [Value.flushed6_A m c t ]
  unfold out0_A_6
  rw [View.read_writes_eq_canon _ _ _ (fun _ => cover0_A_6 ..)]
  unfold kernelRun0_A
  dsimp only
  sl_unfold_words
  simp only [View.canon_unit_zero (S := S256x324) zero_offsets, View.readAt_eq_ld, (hs0_0 t).read_unread, (hs0_1 t).read_unread, (hs0_2 t).read_unread, (hs0_3 t).read_unread,
    View.ld_unit_zero (S := S256x324) zero_offsets]
  funext j
  rw [View.read_apply]
  obtain ⟨r, k, rfl⟩ : ∃ (r : Fin 256) (k : Fin 324), j = ix2 r k := idx2 j
  refine Eq.trans (b := mAt m c (at_ t r) k) ?_ (congrArg₂ (mAt m c) (Fin.ext ?_) (Fin.ext ?_))
  · refine (newM_apply ..).trans ?_
    unfold mAt
    rw [gAt_tile m c t r k, ← grad_apply, ← read_m m c]
  · show t.val * 256 + r.val = win0_6.index t 0 * 256 + 1 * r.val; rw [e.1]; omega
  · show k.val = win0_6.index t 1 * 324 + 1 * k.val; rw [e.2]; omega

theorem flushed6_eq (t : Fin cfg0.N) : (dats m 0 c).flushed 6 t = ((cfg0.win 6).blk t).view.read (Elt Ideal) (resM m c) :=
  flushed6_A_eq m c t

theorem cover6 (i : S1024x324.Idx) : ∃ t : Fin cfg0.N, (cfg0.win 6).flush t = true ∧ i ∈ ((cfg0.win 6).blk t).view.set := by
  have h0 : (i 0 : Nat) < 1024 := (i 0).isLt
  have h1 : (i 1 : Nat) < 324 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).2.2.1
  refine ⟨t, flush0_6 _, ?_⟩
  show i ∈ ((View.whole main_v0_2).slice (win0_6.rect t)).set
  rw [View.set_slice_whole, Rect.mem_set_unit]
  intro a
  match a with
  | ⟨0, _⟩ => show win0_6.index t 0 * 256 ≤ (i 0 : Nat) ∧ (i 0 : Nat) < win0_6.index t 0 * 256 + 256; rw [e.1]; omega
  | ⟨1, _⟩ => show win0_6.index t 1 * 324 ≤ (i 1 : Nat) ∧ (i 1 : Nat) < win0_6.index t 1 * 324 + 324; rw [e.2]; omega

/-- The result array after the run. -/
theorem final6 : (dats m 0 c).arrAt 6 cfg0.N = resM m c :=
  (dats m 0 c).arrAt_eq_of_cover 6 (resM m c) (fun t _ => flushed6_eq m c t) cover6

set_option maxHeartbeats 2000000 in
/-- What the point `t` writes back: its tile of the result. -/
theorem flushed7_A_eq (t : Fin cfg0.N)  :
    (dats m 0 c).flushed 7 t = ((cfg0.win 7).blk t).view.read (Elt Ideal) (resV m c) := by
  have e := (outs_at t).2.2.2
  rw [Value.flushed7_A m c t ]
  unfold out0_A_7
  rw [View.read_writes_eq_canon _ _ _ (fun _ => cover0_A_7 ..)]
  unfold kernelRun0_A
  dsimp only
  sl_unfold_words
  simp only [View.canon_unit_zero (S := S256x324) zero_offsets, View.readAt_eq_ld, (hs0_0 t).read_unread, (hs0_1 t).read_unread, (hs0_2 t).read_unread, (hs0_3 t).read_unread,
    View.ld_unit_zero (S := S256x324) zero_offsets]
  funext j
  rw [View.read_apply]
  obtain ⟨r, k, rfl⟩ : ∃ (r : Fin 256) (k : Fin 324), j = ix2 r k := idx2 j
  refine Eq.trans (b := vAt m c (at_ t r) k) ?_ (congrArg₂ (vAt m c) (Fin.ext ?_) (Fin.ext ?_))
  · refine (newV_apply ..).trans ?_
    unfold vAt
    rw [gAt_tile m c t r k, ← grad_apply, ← read_v m c]
  · show t.val * 256 + r.val = win0_7.index t 0 * 256 + 1 * r.val; rw [e.1]; omega
  · show k.val = win0_7.index t 1 * 324 + 1 * k.val; rw [e.2]; omega

theorem flushed7_eq (t : Fin cfg0.N) : (dats m 0 c).flushed 7 t = ((cfg0.win 7).blk t).view.read (Elt Ideal) (resV m c) :=
  flushed7_A_eq m c t

theorem cover7 (i : S1024x324.Idx) : ∃ t : Fin cfg0.N, (cfg0.win 7).flush t = true ∧ i ∈ ((cfg0.win 7).blk t).view.set := by
  have h0 : (i 0 : Nat) < 1024 := (i 0).isLt
  have h1 : (i 1 : Nat) < 324 := (i 1).isLt
  have hN : cfg0.N = 4 := N_0
  obtain ⟨t, ht⟩ : ∃ t : Fin cfg0.N, t.val = (i 0 : Nat) / 256 := ⟨⟨(i 0 : Nat) / 256, by omega⟩, rfl⟩
  have e := (outs_at t).2.2.2
  refine ⟨t, flush0_7 _, ?_⟩
  show i ∈ ((View.whole main_v0_3).slice (win0_7.rect t)).set
  rw [View.set_slice_whole, Rect.mem_set_unit]
  intro a
  match a with
  | ⟨0, _⟩ => show win0_7.index t 0 * 256 ≤ (i 0 : Nat) ∧ (i 0 : Nat) < win0_7.index t 0 * 256 + 256; rw [e.1]; omega
  | ⟨1, _⟩ => show win0_7.index t 1 * 324 ≤ (i 1 : Nat) ∧ (i 1 : Nat) < win0_7.index t 1 * 324 + 324; rw [e.2]; omega

/-- The result array after the run. -/
theorem final7 : (dats m 0 c).arrAt 7 cfg0.N = resV m c :=
  (dats m 0 c).arrAt_eq_of_cover 7 (resV m c) (fun t _ => flushed7_eq m c t) cover7

end Cert.Kernel27Ideal.Result

namespace Cert.Proof.AdamMixIn

open Cert.Kernel27Ideal.Result

section
open Cert.Reference27Ideal Cert.Reference27Ideal.Gen
set_option maxHeartbeats 2000000 in
/-- The reference's gradient, entry by entry. -/
theorem refG_apply (x1 : FVec Ideal S8x1024x324 .bf16) (r : Fin 1024) (k : Fin 324) :
    (Host.reduceAdd (extf .f32 x1 bitsLt_bf16_f32) (constant S_ .f32 0x00000000#32) reducesTo_S8x1024x324_S1024x324_d0 h_S_ : FVec Ideal Cert.Reference27Ideal.S1024x324 .f32) (ix2 r k)
      = (∑ d : Fin 8, (x1 (ix3 d r k) : EReal)) := by
  pointwise
end

section
open Cert.Reference27Ideal Cert.Reference27Ideal.Gen
set_option maxHeartbeats 2000000 in
/-- The reference's step, entry by entry. -/
theorem refD_apply (x0 : FVec Ideal S1024x324 .f32) (x1 : FVec Ideal S8x1024x324 .bf16) (x2 : FVec Ideal S1024x324 .f32) (x3 : FVec Ideal S1024x324 .f32) (r : Fin 1024) (k : Fin 324) :
    (mulf (broadcastInDim S1024x324 ![] bcast_S_S1024x324 (constant S_ .f32 0xBA83126F#32)) (addf (Host.divf (Host.divf (addf (mulf (broadcastInDim S1024x324 ![] bcast_S_S1024x324 (constant S_ .f32 0x3F666666#32)) x2) (mulf (broadcastInDim S1024x324 ![] bcast_S_S1024x324 (constant S_ .f32 0x3DCCCCCD#32)) (Host.reduceAdd (extf .f32 x1 bitsLt_bf16_f32) (constant S_ .f32 0x00000000#32) reducesTo_S8x1024x324_S1024x324_d0 h_S_))) (broadcastInDim S1024x324 ![] bcast_S_S1024x324 (constant S_ .f32 0x3F26BD02#32))) (addf (Host.sqrt (Host.divf (addf (mulf (broadcastInDim S1024x324 ![] bcast_S_S1024x324 (constant S_ .f32 0x3F7FBE77#32)) x3) (mulf (broadcastInDim S1024x324 ![] bcast_S_S1024x324 (constant S_ .f32 0x3A83126F#32)) (mulf (Host.reduceAdd (extf .f32 x1 bitsLt_bf16_f32) (constant S_ .f32 0x00000000#32) reducesTo_S8x1024x324_S1024x324_d0 h_S_) (Host.reduceAdd (extf .f32 x1 bitsLt_bf16_f32) (constant S_ .f32 0x00000000#32) reducesTo_S8x1024x324_S1024x324_d0 h_S_)))) (broadcastInDim S1024x324 ![] bcast_S_S1024x324 (constant S_ .f32 0x3C231ACC#32)))) (broadcastInDim S1024x324 ![] bcast_S_S1024x324 (constant S_ .f32 0x322BCC77#32)))) (mulf (broadcastInDim S1024x324 ![] bcast_S_S1024x324 (constant S_ .f32 0x3C23D70A#32)) x0)) : FVec Ideal Cert.Reference27Ideal.S1024x324 .f32) (ix2 r k)
      = delta (x0 (ix2 r k)) (∑ d : Fin 8, (x1 (ix3 d r k) : EReal)) (x2 (ix2 r k)) (x3 (ix2 r k)) := by
  unfold delta newM newV
  pointwise
end

section
open Cert.Reference27Ideal Cert.Reference27Ideal.Gen
set_option maxHeartbeats 2000000 in
/-- The reference's first mean, entry by entry. -/
theorem refM_apply (x1 : FVec Ideal S8x1024x324 .bf16) (x2 : FVec Ideal S1024x324 .f32) (r : Fin 1024) (k : Fin 324) :
    (addf (mulf (broadcastInDim S1024x324 ![] bcast_S_S1024x324 (constant S_ .f32 0x3F666666#32)) x2) (mulf (broadcastInDim S1024x324 ![] bcast_S_S1024x324 (constant S_ .f32 0x3DCCCCCD#32)) (Host.reduceAdd (extf .f32 x1 bitsLt_bf16_f32) (constant S_ .f32 0x00000000#32) reducesTo_S8x1024x324_S1024x324_d0 h_S_)) : FVec Ideal Cert.Reference27Ideal.S1024x324 .f32) (ix2 r k)
      = newM (∑ d : Fin 8, (x1 (ix3 d r k) : EReal)) (x2 (ix2 r k)) := by
  unfold newM
  pointwise
end

section
open Cert.Reference27Ideal Cert.Reference27Ideal.Gen
set_option maxHeartbeats 2000000 in
/-- The reference's second mean, entry by entry. -/
theorem refV_apply (x1 : FVec Ideal S8x1024x324 .bf16) (x3 : FVec Ideal S1024x324 .f32) (r : Fin 1024) (k : Fin 324) :
    (addf (mulf (broadcastInDim S1024x324 ![] bcast_S_S1024x324 (constant S_ .f32 0x3F7FBE77#32)) x3) (mulf (broadcastInDim S1024x324 ![] bcast_S_S1024x324 (constant S_ .f32 0x3A83126F#32)) (mulf (Host.reduceAdd (extf .f32 x1 bitsLt_bf16_f32) (constant S_ .f32 0x00000000#32) reducesTo_S8x1024x324_S1024x324_d0 h_S_) (Host.reduceAdd (extf .f32 x1 bitsLt_bf16_f32) (constant S_ .f32 0x00000000#32) reducesTo_S8x1024x324_S1024x324_d0 h_S_))) : FVec Ideal Cert.Reference27Ideal.S1024x324 .f32) (ix2 r k)
      = newV (∑ d : Fin 8, (x1 (ix3 d r k) : EReal)) (x3 (ix2 r k)) := by
  unfold newV
  pointwise
end

set_option maxHeartbeats 4000000 in
/-- At exact arithmetic the kernel's results are those of AdamW on the summed gradient. -/
theorem algebraic : Cert.algebraic_Kernel27Ideal_Reference27Ideal := by
  intro m ρ m' ρ' _ agree
  refine ⟨fun c => resG m c, fun c => resD m c, fun c => resM m c, fun c => resV m c,
    (θ_run Cert.Kernel27Ideal.defs _ _).mono (fun _ h c => ⟨(h c).1.trans (final4 m c), (h c).2.1.trans (final5 m c), (h c).2.2.1.trans (final6 m c), (h c).2.2.2.1.trans (final7 m c), (h c).2.2.2.2⟩)
      (Cert.Kernel27Ideal.Value.run_blocks m ρ), ?_⟩
  refine (θ_run Cert.Reference27Ideal.defs _ _).mono (fun _ h c => ⟨(h c).1.trans ?_, (h c).2.1.trans ?_, (h c).2.2.1.trans ?_, (h c).2.2.2.1.trans ?_, (h c).2.2.2.2⟩)
    (Cert.Reference27Ideal.Value.run (F := Ideal) m' ρ')
  · rw [(agree c).2.1]
    funext i
    obtain ⟨r, k, rfl⟩ : ∃ (r : Fin 1024) (k : Fin 324), i = ix2 r k := idx2 i
    exact refG_apply ..
  · rw [(agree c).1, (agree c).2.1, (agree c).2.2.1, (agree c).2.2.2.1]
    funext i
    obtain ⟨r, k, rfl⟩ : ∃ (r : Fin 1024) (k : Fin 324), i = ix2 r k := idx2 i
    exact refD_apply ..
  · rw [(agree c).2.1, (agree c).2.2.1]
    funext i
    obtain ⟨r, k, rfl⟩ : ∃ (r : Fin 1024) (k : Fin 324), i = ix2 r k := idx2 i
    exact refM_apply ..
  · rw [(agree c).2.1, (agree c).2.2.2.1]
    funext i
    obtain ⟨r, k, rfl⟩ : ∃ (r : Fin 1024) (k : Fin 324), i = ix2 r k := idx2 i
    exact refV_apply ..

end Cert.Proof.AdamMixIn
-- ==== Proof.AdamMixOut.lean ====
/-
  The update of layer 0's output weight. The kernel's tiles are the blocks of AdamW applied entry by entry to the summed parts of the gradient.
-/
module

public import proofs.«01_k».proof.Defs
public import proofs.«01_k».proof.Proof.Products
public import proofs.«01_k».proof.Proof.Adam
public import proofs.«01_k».proof.Proof.Gen.Kernel28Ideal.Value
public import proofs.«01_k».proof.Proof.Gen.Reference28Ideal.Run
public import Idealize.ShloMosaic.Lib.Pipeline.Value
public import Idealize.ShloMosaic.Lib.Pipeline.ValueKit.Tiles
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel28Ideal.Result

open Cert.Kernel28Ideal Cert.Kernel28Ideal.Gen

variable (m : (ℓ : Loc nD τ sig) → Buf (Elt Ideal) ℓ) (c : Dev nD)

/-- The slices of a block of parts, as the kernel loads them. -/
abbrev slice (b : Vec Ideal S8x128x1024 .bf16) (a : Nat)
    (inb : ∀ d : Fin 3, (![a, 0, 0] : Fin 3 → Nat) d + (![1, 128, 1024] : Fin 3 → Nat) d ≤ S8x128x1024.size d) : Vec Ideal S1x128x1024 .bf16 :=
  View.ld b (Rect.unit ![a, 0, 0] ![1, 128, 1024] inb)

/-- The gradient's tile: the devices' parts summed. -/
theorem grad_apply (b : Vec Ideal S8x128x1024 .bf16) (r : Fin 128) (k : Fin 1024) :
    k0_pay4 (slice b 0 inb_S8x128x1024_S1x128x1024_0_0_0) (slice b 1 inb_S8x128x1024_S1x128x1024_1_0_0) (slice b 2 inb_S8x128x1024_S1x128x1024_2_0_0) (slice b 3 inb_S8x128x1024_S1x128x1024_3_0_0) (slice b 4 inb_S8x128x1024_S1x128x1024_4_0_0) (slice b 5 inb_S8x128x1024_S1x128x1024_5_0_0) (slice b 6 inb_S8x128x1024_S1x128x1024_6_0_0) (slice b 7 inb_S8x128x1024_S1x128x1024_7_0_0) (ix2 r k)
      = ∑ d : Fin 8, (b (ix3 d r k) : EReal) := by
  unfold k0_pay4 slice
  pointwise
  rw [Fin.sum_univ_eight]

/-- The first mean's tile. -/
theorem newM_apply (g a : Vec Ideal S128x1024 .f32) (r : Fin 128) (k : Fin 1024) :
    k0_pay1 g a (ix2 r k) = newM (g (ix2 r k)) (a (ix2 r k)) := by
  unfold k0_pay1 newM
  pointwise

/-- The second mean's tile. -/
theorem newV_apply (g b : Vec Ideal S128x1024 .f32) (r : Fin 128) (k : Fin 1024) :
    k0_pay2 g b (ix2 r k) = newV (g (ix2 r k)) (b (ix2 r k)) := by
  unfold k0_pay2 newV
  pointwise

/-- The step's tile. -/
theorem delta_apply (g w a b : Vec Ideal S128x1024 .f32) (r : Fin 128) (k : Fin 1024) :
    k0_pay3 g w a b (ix2 r k) = delta (w (ix2 r k)) (g (ix2 r k)) (a (ix2 r k)) (b (ix2 r k)) := by
  unfold k0_pay3 k0_pay1 k0_pay2 delta newM newV
  pointwise

/-- The weight's matrix as an argument. -/
def aW : Buf (Elt Ideal) ((c : Thread nD τ).loc main_arg0) := m ((c : Thread nD τ).loc main_arg0)
/-- The mean of the gradient as an argument. -/
def aM : Buf (Elt Ideal) ((c : Thread nD τ).loc main_arg2) := m ((c : Thread nD τ).loc main_arg2)
/-- The mean of the squared gradient as an argument. -/
def aV : Buf (Elt Ideal) ((c : Thread nD τ).loc main_arg3) := m ((c : Thread nD τ).loc main_arg3)
/-- The devices' parts of the gradient. -/
def aP : Buf (Elt Ideal) ((c : Thread nD τ).loc main_arg1) := m ((c : Thread nD τ).loc main_arg1)

/-- The gradient. -/
def gAt (r : Fin 128) (k : Fin 1024) : EReal := ∑ d : Fin 8, (aP m c (ix3 d r k) : EReal)
/-- The step. -/
def dAt (r : Fin 128) (k : Fin 1024) : EReal := delta (aW m c (ix2 r k)) (gAt m c r k) (aM m c (ix2 r k)) (aV m c (ix2 r k))
/-- The first mean. -/
def mAt (r : Fin 128) (k : Fin 1024) : EReal := newM (gAt m c r k) (aM m c (ix2 r k))
/-- The second mean. -/
def vAt (r : Fin 128) (k : Fin 1024) : EReal := newV (gAt m c r k) (aV m c (ix2 r k))

/-- The four result arrays. -/
def resG : Buf (Elt Ideal) ((c : Thread nD τ).loc main_v0_0) := fun i => gAt m c (i 0) (i 1)
def resD : Buf (Elt Ideal) ((c : Thread nD τ).loc main_v0_1) := fun i => dAt m c (i 0) (i 1)
def resM : Buf (Elt Ideal) ((c : Thread nD τ).loc main_v0_2) := fun i => mAt m c (i 0) (i 1)
def resV : Buf (Elt Ideal) ((c : Thread nD τ).loc main_v0_3) := fun i => vAt m c (i 0) (i 1)

theorem points (t : Fin cfg0.N) : t.val < 1 := by have := t.isLt; have hN : cfg0.N = 1 := N_0; omega

/-- The row of the whole array that row `r` of the tile `t` is. -/
def at_ (t : Fin cfg0.N) (r : Fin 128) : Fin 128 := ⟨t.val * 128 + r.val, by have := points t; omega⟩

/-- Which tiles the point `t` reads and writes. -/
theorem blocks_at : ∀ t : Fin grid0.N, (win0_0.index t 0 = t.val ∧ win0_0.index t 1 = 0)
    ∧ (win0_2.index t 0 = t.val ∧ win0_2.index t 1 = 0) ∧ (win0_3.index t 0 = t.val ∧ win0_3.index t 1 = 0) := by
  decide +kernel
theorem parts_at : ∀ t : Fin grid0.N, win0_1.index t 0 = 0 ∧ win0_1.index t 1 = t.val ∧ win0_1.index t 2 = 0 := by
  decide +kernel
theorem outs_at : ∀ t : Fin grid0.N, (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by
  decide +kernel

theorem read_w (t : Fin cfg0.N) (r : Fin 128) (k : Fin 1024) : iblk m c 0 t (ix2 r k) = aW m c (ix2 (at_ t r) k) := by
  have e := (blocks_at t).1
  show V m c main_arg0 _ = m _ _
  rw [V_main_arg0]
  congr 1
  funext a
  apply Fin.ext
  match a with
  | ⟨0, _⟩ => show win0_0.index t 0 * 128 + 1 * r.val = t.val * 128 + r.val; rw [e.1]; omega
  | ⟨1, _⟩ => show win0_0.index t 1 * 1024 + 1 * k.val = k.val; rw [e.2]; omega

theorem read_m (t : Fin cfg0.N) (r : Fin 128) (k : Fin 1024) : iblk m c 2 t (ix2 r k) = aM m c (ix2 (at_ t r) k) := by
  have e := (blocks_at t).2.1
  show V m c main_arg2 _ = m _ _
  rw [V_main_arg2]
  congr 1
  funext a
  apply Fin.ext
  match a with
  | ⟨0, _⟩ => show win0_2.index t 0 * 128 + 1 * r.val = t.val * 128 + r.val; rw [e.1]; omega
  | ⟨1, _⟩ => show win0_2.index t 1 * 1024 + 1 * k.val = k.val; rw [e.2]; omega

theorem read_v (t : Fin cfg0.N) (r : Fin 128) (k : Fin 1024) : iblk m c 3 t (ix2 r k) = aV m c (ix2 (at_ t r) k) := by
  have e := (blocks_at t).2.2
  show V m c main_arg3 _ = m _ _
  rw [V_main_arg3]
  congr 1
  funext a
  apply Fin.ext
  match a with
  | ⟨0, _⟩ => show win0_3.index t 0 * 128 + 1 * r.val = t.val * 128 + r.val; rw [e.1]; omega
  | ⟨1, _⟩ => show win0_3.index t 1 * 1024 + 1 * k.val = k.val; rw [e.2]; omega

theorem read_p (t : Fin cfg0.N) (d : Fin 8) (r : Fin 128) (k : Fin 1024) :
    iblk m c 1 t (ix3 d r k) = aP m c (ix3 d (at_ t r) k) := by
  have e := parts_at t
  show V m c main_arg1 _ = m _ _
  rw [V_main_arg1]
  congr 1
  funext a
  apply Fin.ext
  match a with
  | ⟨0, _⟩ => show win0_1.index t 0 * 8 + 1 * d.val = d.val; rw [e.1]; omega
  | ⟨1, _⟩ => show win0_1.index t 1 * 128 + 1 * r.val = t.val * 128 + r.val; rw [e.2.1]; omega
  | ⟨2, _⟩ => show win0_1.index t 2 * 1024 + 1 * k.val = k.val; rw [e.2.2]; omega

theorem gAt_tile (t : Fin cfg0.N) (r : Fin 128) (k : Fin 1024) :
    gAt m c (at_ t r) k = Finset.sum (M := EReal) Finset.univ fun d : Fin 8 => iblk m c 1 t (ix3 d r k) :=
  Finset.sum_congr (M := EReal) rfl fun d _ => (read_p m c t d r k).symm

set_option maxHeartbeats 2000000 in
/-- What the point `t` writes back: its tile of the result. -/
theorem flushed4_A_eq (t : Fin cfg0.N)  :
    (dats m 0 c).flushed 4 t = ((cfg0.win 4).blk t).view.read (Elt Ideal) (resG m c) := by
  have e := (outs_at t).1
  rw [Value.flushed4_A m c t ]
  unfold out0_A_4
  rw [View.read_writes_eq_canon _ _ _ (fun _ => cover0_A_4 ..)]
  unfold kernelRun0_A
  dsimp only
  sl_unfold_words
  simp only [View.canon_unit_zero (S := S128x1024) zero_offsets, View.readAt_eq_ld, (hs0_0 t).read_unread, (hs0_1 t).read_unread, (hs0_2 t).read_unread, (hs0_3 t).read_unread,
    View.ld_unit_zero (S := S128x1024) zero_offsets]
  funext j
  rw [View.read_apply]
  obtain ⟨r, k, rfl⟩ : ∃ (r : Fin 128) (k : Fin 1024), j = ix2 r k := idx2 j
  refine Eq.trans (b := gAt m c (at_ t r) k) ?_ (congrArg₂ (gAt m c) (Fin.ext ?_) (Fin.ext ?_))
  · exact (grad_apply (iblk m c 1 t) r k).trans (gAt_tile m c t r k).symm
  · show t.val * 128 + r.val = win0_4.index t 0 * 128 + 1 * r.val; rw [e.1]; omega
  · show k.val = win0_4.index t 1 * 1024 + 1 * k.val; rw [e.2]; omega

theorem flushed4_eq (t : Fin cfg0.N) : (dats m 0 c).flushed 4 t = ((cfg0.win 4).blk t).view.read (Elt Ideal) (resG m c) :=
  flushed4_A_eq m c t

theorem cover4 (i : S128x1024.Idx) : ∃ t : Fin cfg0.N, (cfg0.win 4).flush t = true ∧ i ∈ ((cfg0.win 4).blk t).view.set := by
  have h0 : (i 0 : Nat) < 128 := (i 0).isLt
  have h1 : (i 1 : Nat) < 1024 := (i 1).isLt
  have hN : cfg0.N = 1 := N_0
  obtain ⟨t, ht⟩ : ∃ t : Fin cfg0.N, t.val = (i 0 : Nat) / 128 := ⟨⟨(i 0 : Nat) / 128, by omega⟩, rfl⟩
  have e := (outs_at t).1
  refine ⟨t, flush0_4 _, ?_⟩
  show i ∈ ((View.whole main_v0_0).slice (win0_4.rect t)).set
  rw [View.set_slice_whole, Rect.mem_set_unit]
  intro a
  match a with
  | ⟨0, _⟩ => show win0_4.index t 0 * 128 ≤ (i 0 : Nat) ∧ (i 0 : Nat) < win0_4.index t 0 * 128 + 128; rw [e.1]; omega
  | ⟨1, _⟩ => show win0_4.index t 1 * 1024 ≤ (i 1 : Nat) ∧ (i 1 : Nat) < win0_4.index t 1 * 1024 + 1024; rw [e.2]; omega

/-- The result array after the run. -/
theorem final4 : (dats m 0 c).arrAt 4 cfg0.N = resG m c :=
  (dats m 0 c).arrAt_eq_of_cover 4 (resG m c) (fun t _ => flushed4_eq m c t) cover4

set_option maxHeartbeats 2000000 in
/-- What the point `t` writes back: its tile of the result. -/
theorem flushed5_A_eq (t : Fin cfg0.N)  :
    (dats m 0 c).flushed 5 t = ((cfg0.win 5).blk t).view.read (Elt Ideal) (resD m c) := by
  have e := (outs_at t).2.1
  rw [Value.flushed5_A m c t ]
  unfold out0_A_5
  rw [View.read_writes_eq_canon _ _ _ (fun _ => cover0_A_5 ..)]
  unfold kernelRun0_A
  dsimp only
  sl_unfold_words
  simp only [View.canon_unit_zero (S := S128x1024) zero_offsets, View.readAt_eq_ld, (hs0_0 t).read_unread, (hs0_1 t).read_unread, (hs0_2 t).read_unread, (hs0_3 t).read_unread,
    View.ld_unit_zero (S := S128x1024) zero_offsets]
  funext j
  rw [View.read_apply]
  obtain ⟨r, k, rfl⟩ : ∃ (r : Fin 128) (k : Fin 1024), j = ix2 r k := idx2 j
  refine Eq.trans (b := dAt m c (at_ t r) k) ?_ (congrArg₂ (dAt m c) (Fin.ext ?_) (Fin.ext ?_))
  · refine (delta_apply ..).trans ?_
    unfold dAt
    rw [gAt_tile m c t r k, ← grad_apply, ← read_w m c, ← read_m m c, ← read_v m c]
  · show t.val * 128 + r.val = win0_5.index t 0 * 128 + 1 * r.val; rw [e.1]; omega
  · show k.val = win0_5.index t 1 * 1024 + 1 * k.val; rw [e.2]; omega

theorem flushed5_eq (t : Fin cfg0.N) : (dats m 0 c).flushed 5 t = ((cfg0.win 5).blk t).view.read (Elt Ideal) (resD m c) :=
  flushed5_A_eq m c t

theorem cover5 (i : S128x1024.Idx) : ∃ t : Fin cfg0.N, (cfg0.win 5).flush t = true ∧ i ∈ ((cfg0.win 5).blk t).view.set := by
  have h0 : (i 0 : Nat) < 128 := (i 0).isLt
  have h1 : (i 1 : Nat) < 1024 := (i 1).isLt
  have hN : cfg0.N = 1 := N_0
  obtain ⟨t, ht⟩ : ∃ t : Fin cfg0.N, t.val = (i 0 : Nat) / 128 := ⟨⟨(i 0 : Nat) / 128, by omega⟩, rfl⟩
  have e := (outs_at t).2.1
  refine ⟨t, flush0_5 _, ?_⟩
  show i ∈ ((View.whole main_v0_1).slice (win0_5.rect t)).set
  rw [View.set_slice_whole, Rect.mem_set_unit]
  intro a
  match a with
  | ⟨0, _⟩ => show win0_5.index t 0 * 128 ≤ (i 0 : Nat) ∧ (i 0 : Nat) < win0_5.index t 0 * 128 + 128; rw [e.1]; omega
  | ⟨1, _⟩ => show win0_5.index t 1 * 1024 ≤ (i 1 : Nat) ∧ (i 1 : Nat) < win0_5.index t 1 * 1024 + 1024; rw [e.2]; omega

/-- The result array after the run. -/
theorem final5 : (dats m 0 c).arrAt 5 cfg0.N = resD m c :=
  (dats m 0 c).arrAt_eq_of_cover 5 (resD m c) (fun t _ => flushed5_eq m c t) cover5

set_option maxHeartbeats 2000000 in
/-- What the point `t` writes back: its tile of the result. -/
theorem flushed6_A_eq (t : Fin cfg0.N)  :
    (dats m 0 c).flushed 6 t = ((cfg0.win 6).blk t).view.read (Elt Ideal) (resM m c) := by
  have e := (outs_at t).2.2.1
  rw [Value.flushed6_A m c t ]
  unfold out0_A_6
  rw [View.read_writes_eq_canon _ _ _ (fun _ => cover0_A_6 ..)]
  unfold kernelRun0_A
  dsimp only
  sl_unfold_words
  simp only [View.canon_unit_zero (S := S128x1024) zero_offsets, View.readAt_eq_ld, (hs0_0 t).read_unread, (hs0_1 t).read_unread, (hs0_2 t).read_unread, (hs0_3 t).read_unread,
    View.ld_unit_zero (S := S128x1024) zero_offsets]
  funext j
  rw [View.read_apply]
  obtain ⟨r, k, rfl⟩ : ∃ (r : Fin 128) (k : Fin 1024), j = ix2 r k := idx2 j
  refine Eq.trans (b := mAt m c (at_ t r) k) ?_ (congrArg₂ (mAt m c) (Fin.ext ?_) (Fin.ext ?_))
  · refine (newM_apply ..).trans ?_
    unfold mAt
    rw [gAt_tile m c t r k, ← grad_apply, ← read_m m c]
  · show t.val * 128 + r.val = win0_6.index t 0 * 128 + 1 * r.val; rw [e.1]; omega
  · show k.val = win0_6.index t 1 * 1024 + 1 * k.val; rw [e.2]; omega

theorem flushed6_eq (t : Fin cfg0.N) : (dats m 0 c).flushed 6 t = ((cfg0.win 6).blk t).view.read (Elt Ideal) (resM m c) :=
  flushed6_A_eq m c t

theorem cover6 (i : S128x1024.Idx) : ∃ t : Fin cfg0.N, (cfg0.win 6).flush t = true ∧ i ∈ ((cfg0.win 6).blk t).view.set := by
  have h0 : (i 0 : Nat) < 128 := (i 0).isLt
  have h1 : (i 1 : Nat) < 1024 := (i 1).isLt
  have hN : cfg0.N = 1 := N_0
  obtain ⟨t, ht⟩ : ∃ t : Fin cfg0.N, t.val = (i 0 : Nat) / 128 := ⟨⟨(i 0 : Nat) / 128, by omega⟩, rfl⟩
  have e := (outs_at t).2.2.1
  refine ⟨t, flush0_6 _, ?_⟩
  show i ∈ ((View.whole main_v0_2).slice (win0_6.rect t)).set
  rw [View.set_slice_whole, Rect.mem_set_unit]
  intro a
  match a with
  | ⟨0, _⟩ => show win0_6.index t 0 * 128 ≤ (i 0 : Nat) ∧ (i 0 : Nat) < win0_6.index t 0 * 128 + 128; rw [e.1]; omega
  | ⟨1, _⟩ => show win0_6.index t 1 * 1024 ≤ (i 1 : Nat) ∧ (i 1 : Nat) < win0_6.index t 1 * 1024 + 1024; rw [e.2]; omega

/-- The result array after the run. -/
theorem final6 : (dats m 0 c).arrAt 6 cfg0.N = resM m c :=
  (dats m 0 c).arrAt_eq_of_cover 6 (resM m c) (fun t _ => flushed6_eq m c t) cover6

set_option maxHeartbeats 2000000 in
/-- What the point `t` writes back: its tile of the result. -/
theorem flushed7_A_eq (t : Fin cfg0.N)  :
    (dats m 0 c).flushed 7 t = ((cfg0.win 7).blk t).view.read (Elt Ideal) (resV m c) := by
  have e := (outs_at t).2.2.2
  rw [Value.flushed7_A m c t ]
  unfold out0_A_7
  rw [View.read_writes_eq_canon _ _ _ (fun _ => cover0_A_7 ..)]
  unfold kernelRun0_A
  dsimp only
  sl_unfold_words
  simp only [View.canon_unit_zero (S := S128x1024) zero_offsets, View.readAt_eq_ld, (hs0_0 t).read_unread, (hs0_1 t).read_unread, (hs0_2 t).read_unread, (hs0_3 t).read_unread,
    View.ld_unit_zero (S := S128x1024) zero_offsets]
  funext j
  rw [View.read_apply]
  obtain ⟨r, k, rfl⟩ : ∃ (r : Fin 128) (k : Fin 1024), j = ix2 r k := idx2 j
  refine Eq.trans (b := vAt m c (at_ t r) k) ?_ (congrArg₂ (vAt m c) (Fin.ext ?_) (Fin.ext ?_))
  · refine (newV_apply ..).trans ?_
    unfold vAt
    rw [gAt_tile m c t r k, ← grad_apply, ← read_v m c]
  · show t.val * 128 + r.val = win0_7.index t 0 * 128 + 1 * r.val; rw [e.1]; omega
  · show k.val = win0_7.index t 1 * 1024 + 1 * k.val; rw [e.2]; omega

theorem flushed7_eq (t : Fin cfg0.N) : (dats m 0 c).flushed 7 t = ((cfg0.win 7).blk t).view.read (Elt Ideal) (resV m c) :=
  flushed7_A_eq m c t

theorem cover7 (i : S128x1024.Idx) : ∃ t : Fin cfg0.N, (cfg0.win 7).flush t = true ∧ i ∈ ((cfg0.win 7).blk t).view.set := by
  have h0 : (i 0 : Nat) < 128 := (i 0).isLt
  have h1 : (i 1 : Nat) < 1024 := (i 1).isLt
  have hN : cfg0.N = 1 := N_0
  obtain ⟨t, ht⟩ : ∃ t : Fin cfg0.N, t.val = (i 0 : Nat) / 128 := ⟨⟨(i 0 : Nat) / 128, by omega⟩, rfl⟩
  have e := (outs_at t).2.2.2
  refine ⟨t, flush0_7 _, ?_⟩
  show i ∈ ((View.whole main_v0_3).slice (win0_7.rect t)).set
  rw [View.set_slice_whole, Rect.mem_set_unit]
  intro a
  match a with
  | ⟨0, _⟩ => show win0_7.index t 0 * 128 ≤ (i 0 : Nat) ∧ (i 0 : Nat) < win0_7.index t 0 * 128 + 128; rw [e.1]; omega
  | ⟨1, _⟩ => show win0_7.index t 1 * 1024 ≤ (i 1 : Nat) ∧ (i 1 : Nat) < win0_7.index t 1 * 1024 + 1024; rw [e.2]; omega

/-- The result array after the run. -/
theorem final7 : (dats m 0 c).arrAt 7 cfg0.N = resV m c :=
  (dats m 0 c).arrAt_eq_of_cover 7 (resV m c) (fun t _ => flushed7_eq m c t) cover7

end Cert.Kernel28Ideal.Result

namespace Cert.Proof.AdamMixOut

open Cert.Kernel28Ideal.Result

section
open Cert.Reference28Ideal Cert.Reference28Ideal.Gen
set_option maxHeartbeats 2000000 in
/-- The reference's gradient, entry by entry. -/
theorem refG_apply (x1 : FVec Ideal S8x128x1024 .bf16) (r : Fin 128) (k : Fin 1024) :
    (Host.reduceAdd (extf .f32 x1 bitsLt_bf16_f32) (constant S_ .f32 0x00000000#32) reducesTo_S8x128x1024_S128x1024_d0 h_S_ : FVec Ideal Cert.Reference28Ideal.S128x1024 .f32) (ix2 r k)
      = (∑ d : Fin 8, (x1 (ix3 d r k) : EReal)) := by
  pointwise
end

section
open Cert.Reference28Ideal Cert.Reference28Ideal.Gen
set_option maxHeartbeats 2000000 in
/-- The reference's step, entry by entry. -/
theorem refD_apply (x0 : FVec Ideal S128x1024 .f32) (x1 : FVec Ideal S8x128x1024 .bf16) (x2 : FVec Ideal S128x1024 .f32) (x3 : FVec Ideal S128x1024 .f32) (r : Fin 128) (k : Fin 1024) :
    (mulf (broadcastInDim S128x1024 ![] bcast_S_S128x1024 (constant S_ .f32 0xBA83126F#32)) (addf (Host.divf (Host.divf (addf (mulf (broadcastInDim S128x1024 ![] bcast_S_S128x1024 (constant S_ .f32 0x3F666666#32)) x2) (mulf (broadcastInDim S128x1024 ![] bcast_S_S128x1024 (constant S_ .f32 0x3DCCCCCD#32)) (Host.reduceAdd (extf .f32 x1 bitsLt_bf16_f32) (constant S_ .f32 0x00000000#32) reducesTo_S8x128x1024_S128x1024_d0 h_S_))) (broadcastInDim S128x1024 ![] bcast_S_S128x1024 (constant S_ .f32 0x3F26BD02#32))) (addf (Host.sqrt (Host.divf (addf (mulf (broadcastInDim S128x1024 ![] bcast_S_S128x1024 (constant S_ .f32 0x3F7FBE77#32)) x3) (mulf (broadcastInDim S128x1024 ![] bcast_S_S128x1024 (constant S_ .f32 0x3A83126F#32)) (mulf (Host.reduceAdd (extf .f32 x1 bitsLt_bf16_f32) (constant S_ .f32 0x00000000#32) reducesTo_S8x128x1024_S128x1024_d0 h_S_) (Host.reduceAdd (extf .f32 x1 bitsLt_bf16_f32) (constant S_ .f32 0x00000000#32) reducesTo_S8x128x1024_S128x1024_d0 h_S_)))) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) x0)) : FVec Ideal Cert.Reference28Ideal.S128x1024 .f32) (ix2 r k)
      = delta (x0 (ix2 r k)) (∑ d : Fin 8, (x1 (ix3 d r k) : EReal)) (x2 (ix2 r k)) (x3 (ix2 r k)) := by
  unfold delta newM newV
  pointwise
end

section
open Cert.Reference28Ideal Cert.Reference28Ideal.Gen
set_option maxHeartbeats 2000000 in
/-- The reference's first mean, entry by entry. -/
theorem refM_apply (x1 : FVec Ideal S8x128x1024 .bf16) (x2 : FVec Ideal S128x1024 .f32) (r : Fin 128) (k : Fin 1024) :
    (addf (mulf (broadcastInDim S128x1024 ![] bcast_S_S128x1024 (constant S_ .f32 0x3F666666#32)) x2) (mulf (broadcastInDim S128x1024 ![] bcast_S_S128x1024 (constant S_ .f32 0x3DCCCCCD#32)) (Host.reduceAdd (extf .f32 x1 bitsLt_bf16_f32) (constant S_ .f32 0x00000000#32) reducesTo_S8x128x1024_S128x1024_d0 h_S_)) : FVec Ideal Cert.Reference28Ideal.S128x1024 .f32) (ix2 r k)
      = newM (∑ d : Fin 8, (x1 (ix3 d r k) : EReal)) (x2 (ix2 r k)) := by
  unfold newM
  pointwise
end

section
open Cert.Reference28Ideal Cert.Reference28Ideal.Gen
set_option maxHeartbeats 2000000 in
/-- The reference's second mean, entry by entry. -/
theorem refV_apply (x1 : FVec Ideal S8x128x1024 .bf16) (x3 : FVec Ideal S128x1024 .f32) (r : Fin 128) (k : Fin 1024) :
    (addf (mulf (broadcastInDim S128x1024 ![] bcast_S_S128x1024 (constant S_ .f32 0x3F7FBE77#32)) x3) (mulf (broadcastInDim S128x1024 ![] bcast_S_S128x1024 (constant S_ .f32 0x3A83126F#32)) (mulf (Host.reduceAdd (extf .f32 x1 bitsLt_bf16_f32) (constant S_ .f32 0x00000000#32) reducesTo_S8x128x1024_S128x1024_d0 h_S_) (Host.reduceAdd (extf .f32 x1 bitsLt_bf16_f32) (constant S_ .f32 0x00000000#32) reducesTo_S8x128x1024_S128x1024_d0 h_S_))) : FVec Ideal Cert.Reference28Ideal.S128x1024 .f32) (ix2 r k)
      = newV (∑ d : Fin 8, (x1 (ix3 d r k) : EReal)) (x3 (ix2 r k)) := by
  unfold newV
  pointwise
end

set_option maxHeartbeats 4000000 in
/-- At exact arithmetic the kernel's results are those of AdamW on the summed gradient. -/
theorem algebraic : Cert.algebraic_Kernel28Ideal_Reference28Ideal := by
  intro m ρ m' ρ' _ agree
  refine ⟨fun c => resG m c, fun c => resD m c, fun c => resM m c, fun c => resV m c,
    (θ_run Cert.Kernel28Ideal.defs _ _).mono (fun _ h c => ⟨(h c).1.trans (final4 m c), (h c).2.1.trans (final5 m c), (h c).2.2.1.trans (final6 m c), (h c).2.2.2.1.trans (final7 m c), (h c).2.2.2.2⟩)
      (Cert.Kernel28Ideal.Value.run_blocks m ρ), ?_⟩
  refine (θ_run Cert.Reference28Ideal.defs _ _).mono (fun _ h c => ⟨(h c).1.trans ?_, (h c).2.1.trans ?_, (h c).2.2.1.trans ?_, (h c).2.2.2.1.trans ?_, (h c).2.2.2.2⟩)
    (Cert.Reference28Ideal.Value.run (F := Ideal) m' ρ')
  · rw [(agree c).2.1]
    funext i
    obtain ⟨r, k, rfl⟩ : ∃ (r : Fin 128) (k : Fin 1024), i = ix2 r k := idx2 i
    exact refG_apply ..
  · rw [(agree c).1, (agree c).2.1, (agree c).2.2.1, (agree c).2.2.2.1]
    funext i
    obtain ⟨r, k, rfl⟩ : ∃ (r : Fin 128) (k : Fin 1024), i = ix2 r k := idx2 i
    exact refD_apply ..
  · rw [(agree c).2.1, (agree c).2.2.1]
    funext i
    obtain ⟨r, k, rfl⟩ : ∃ (r : Fin 128) (k : Fin 1024), i = ix2 r k := idx2 i
    exact refM_apply ..
  · rw [(agree c).2.1, (agree c).2.2.2.1]
    funext i
    obtain ⟨r, k, rfl⟩ : ∃ (r : Fin 128) (k : Fin 1024), i = ix2 r k := idx2 i
    exact refV_apply ..

end Cert.Proof.AdamMixOut
-- ==== Proof.AdamRows.lean ====
/-
  Pieces laid one behind another, an entry at a time, and the update of a zero weight.
-/
module

public import proofs.«01_k».proof.Proof.Products
public import proofs.«01_k».proof.Proof.Adam
public import Idealize.ShloMosaic.Lib.Pipeline.Value
public import Idealize.ShloMosaic.Lib.Pipeline.ValueKit.Tiles
public import Idealize.ShloMosaic.Lib.KernelVsHost
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Rows

/-- A function of every entry of the pieces, read through their concatenation: the function of the concatenation's entry. -/
theorem concatAt_comp {α β : Type} (f : α → β) (t : Shape) (a : Fin t.rank) (j : t.Idx) :
    ∀ (xs : List ((s : Shape) × (s.Idx → α))) (hs) (c : Nat) (hc) (hs') (hc'),
      concatenateAt t a j (xs.map fun p => ⟨p.1, fun i => f (p.2 i)⟩) hs' c hc' = f (concatenateAt t a j xs hs c hc)
  | [], _, _, hc, _, _ => absurd hc (Nat.not_lt_zero _)
  | [p], _, _, _, _, _ => rfl
  | p :: q :: xs, hs, c, hc, hs', hc' => by
    simp only [List.map_cons]
    rw [concatenateAt, concatenateAt]
    split
    · rfl
    · exact concatAt_comp f t a j (q :: xs) _ _ _ _ _

theorem concat_comp {α β : Type} (f : α → β) (t : Shape) (a : Fin t.rank) (xs : List ((s : Shape) × (s.Idx → α)))
    (h : Shape.Concatenates (xs.map (·.1)) t a)
    (h' : Shape.Concatenates ((xs.map fun p => (⟨p.1, fun i => f (p.2 i)⟩ : (s : Shape) × (s.Idx → β))).map (·.1)) t a) (j : t.Idx) :
    concatenate t a (xs.map fun p => ⟨p.1, fun i => f (p.2 i)⟩) h' j = f (concatenate t a xs h j) := by
  rw [concatenate_apply, concatenate_apply]
  exact concatAt_comp f t a j xs _ _ _ _ _

/-- A vector of 85728 entries followed by zeros. -/
def filled (x : (⟨1, ![85728]⟩ : Shape).Idx → EReal) : (⟨1, ![90112]⟩ : Shape).Idx → EReal :=
  fun j => if h : (j 0).val < 85728 then x (ix1 ⟨(j 0).val, h⟩) else 0

/-- The update of a zero weight with zero gradient and means. -/
theorem newM_zero : newM 0 0 = 0 := by unfold newM; simp
theorem newV_zero : newV 0 0 = 0 := by unfold newV; simp

theorem delta_zero : delta 0 0 0 0 = 0 := by
  unfold delta
  rw [newM_zero, newV_zero]
  have e : ∀ y : EReal, y ≠ 0 → Ideal.div 0 y = 0 := by
    intro y hy
    unfold Ideal.div
    rw [if_neg hy, zero_mul]
  have e1 : Ideal.ofBits FTy.f32 0x3F26BD02#32 ≠ 0 := by
    have : Ideal.ofBits FTy.f32 0x3F26BD02#32 = (((10927362 : ℝ) / 16777216 : ℝ) : EReal) := by
      simp [Ideal.ofBits, Ideal.ieee, -EReal.coe_mul]; norm_num
    rw [this]
    exact fun h => absurd (EReal.coe_eq_zero.mp h) (by norm_num)
  have e2 : Ideal.ofBits FTy.f32 0x3C231ACC#32 ≠ 0 := by
    have : Ideal.ofBits FTy.f32 0x3C231ACC#32 = (((10689228 : ℝ) / 1073741824 : ℝ) : EReal) := by
      simp [Ideal.ofBits, Ideal.ieee, -EReal.coe_mul]; norm_num
    rw [this]
    exact fun h => absurd (EReal.coe_eq_zero.mp h) (by norm_num)
  have e3 : Ideal.sqrt 0 + Ideal.ofBits FTy.f32 0x322BCC77#32 ≠ 0 := by
    have : Ideal.ofBits FTy.f32 0x322BCC77#32 = (((11258999 : ℝ) / 1125899906842624 : ℝ) : EReal) := by
      simp [Ideal.ofBits, Ideal.ieee, -EReal.coe_mul]; norm_num
    have s : Ideal.sqrt 0 = 0 := by
      rw [show (0 : EReal) = ((0 : ℝ) : EReal) by norm_cast, Ideal.sqrt_coe]
      simp
    rw [this, s, zero_add]
    exact fun h => absurd (EReal.coe_eq_zero.mp h) (by norm_num)
  rw [e _ e1, e _ e2, e _ e3]
  simp

/-- Zeros put behind a vector by padding. -/
theorem pad_filled (x : (⟨1, ![85728]⟩ : Shape).Idx → EReal) (h hu) :
    pad (⟨1, ![90112]⟩ : Shape) ![0] ![4384] ![0] x (sitofp (F := Ideal) .f32 (constantI (⟨0, ![]⟩ : Shape) 32 0#32)) h hu = filled x := by
  funext j
  unfold filled pad
  have e : (sitofp (F := Ideal) .f32 (constantI (⟨0, ![]⟩ : Shape) 32 0#32) : FVec Ideal (⟨0, ![]⟩ : Shape) .f32) (Shape.Idx.first hu) = (0 : EReal) := by
    show (((0#32 : BitVec 32).toInt : ℝ) : EReal) = 0
    simp
  by_cases hj : (j 0).val < 85728
  · rw [dif_pos hj, dif_pos (by intro a; fin_cases a; refine ⟨Nat.zero_le _, Nat.mod_one _, ?_⟩; show ((j 0).val - 0) / 1 < 85728; omega)]
    congr 1
    funext a
    fin_cases a
    apply Fin.ext
    show ((j 0).val - 0) / 1 = (j 0).val
    omega
  · rw [dif_neg hj, dif_neg (by intro hin; have := (hin 0).2.2; exact hj (by change ((j 0).val - 0) / 1 < 85728 at this; omega))]
    exact e

/-- Zeros put behind a vector by concatenation. -/
theorem concat_filled (x : (⟨1, ![85728]⟩ : Shape).Idx → EReal) (z : (⟨1, ![4384]⟩ : Shape).Idx → EReal) (hz : ∀ i, z i = 0) (h) :
    concatenate (⟨1, ![90112]⟩ : Shape) 0 [⟨(⟨1, ![85728]⟩ : Shape), x⟩, ⟨(⟨1, ![4384]⟩ : Shape), z⟩] h = filled x := by
  funext j
  unfold filled
  rw [concatenate_apply, concatenateAt]
  split
  next hlt =>
    rw [dif_pos (show (j 0).val < 85728 from hlt)]
    show x _ = x _
    congr 1
    funext a
    fin_cases a
    rfl
  next hlt =>
    rw [dif_neg (show ¬(j 0).val < 85728 from hlt), concatenateAt]
    exact hz _

/-- The same pieces, laid one behind another. -/
theorem concat_congr {α : Type} (S : Shape) (a : Fin S.rank) {l l' : List ((s : Shape) × (s.Idx → α))} (e : l = l') (h h') :
    concatenate S a l h = concatenate S a l' h' := by
  subst e
  rfl

end Cert.Rows
-- ==== Proof.AdamSmall.lean ====
/-
  The update of the small weights. The kernel lays the sixteen of them, their gradients and their means in rows of 1024, the
  rest of the last row filled with zeros, and updates the rows entry by entry; AdamW applied to each weight and then laid in
  rows is the same, as the update of a zero is a zero.
-/
module

public import proofs.«01_k».proof.Defs
public import proofs.«01_k».proof.Proof.Products
public import proofs.«01_k».proof.Proof.Adam
public import proofs.«01_k».proof.Proof.AdamRows
public import proofs.«01_k».proof.Proof.Gen.Kernel29Ideal.Value
public import proofs.«01_k».proof.Proof.Gen.Reference29Ideal.Run
public import Idealize.ShloMosaic.Lib.Pipeline.Value
public import Idealize.ShloMosaic.Lib.Pipeline.ValueKit.Tiles
public import Idealize.ShloMosaic.Lib.KernelVsHost
public import Idealize.ShloMosaic.Lib.Quiescent

@[expose] public section

noncomputable section

open Idealize.ShloMosaic Idealize.ShloMosaic.TcCoe Idealize.SL.Sem
open Idealize.ShloMosaic.Pipeline (Dat)
open Cert.Products (zero_offsets)
open Cert.PreNorm (idx2)
open Cert.Adam

namespace Cert.Kernel29Ideal.Result

open Cert.Rows
open Cert.Kernel29Ideal Cert.Kernel29Ideal.Gen

variable (m : (ℓ : Loc nD τ sig) → Buf (Elt Ideal) ℓ) (c : Dev nD)

/-- The sixteen weights, each entry together with its gradient and its two means. -/
def quads : List ((s : Shape) × (s.Idx → EReal × EReal × EReal × EReal)) :=
  [⟨S1024, fun i => ((m ((c.tc : Thread nD τ).loc main_arg0) : FVec Ideal S1024 .f32) i, (m ((c.tc : Thread nD τ).loc main_arg16) : FVec Ideal S1024 .f32) i, (m ((c.tc : Thread nD τ).loc main_arg32) : FVec Ideal S1024 .f32) i, (m ((c.tc : Thread nD τ).loc main_arg48) : FVec Ideal S1024 .f32) i)⟩,
    ⟨S12288, fun i => ((shapeCast S12288 (m ((c.tc : Thread nD τ).loc main_arg1) : FVec Ideal S2x6144 .f32) shapeCasts_S2x6144_S12288 : FVec Ideal S12288 .f32) i, (shapeCast S12288 (m ((c.tc : Thread nD τ).loc main_arg17) : FVec Ideal S2x6144 .f32) shapeCasts_S2x6144_S12288 : FVec Ideal S12288 .f32) i, (shapeCast S12288 (m ((c.tc : Thread nD τ).loc main_arg33) : FVec Ideal S2x6144 .f32) shapeCasts_S2x6144_S12288 : FVec Ideal S12288 .f32) i, (shapeCast S12288 (m ((c.tc : Thread nD τ).loc main_arg49) : FVec Ideal S2x6144 .f32) shapeCasts_S2x6144_S12288 : FVec Ideal S12288 .f32) i)⟩,
    ⟨S512, fun i => ((shapeCast S512 (m ((c.tc : Thread nD τ).loc main_arg2) : FVec Ideal S2x2x128 .f32) shapeCasts_S2x2x128_S512 : FVec Ideal S512 .f32) i, (shapeCast S512 (m ((c.tc : Thread nD τ).loc main_arg18) : FVec Ideal S2x2x128 .f32) shapeCasts_S2x2x128_S512 : FVec Ideal S512 .f32) i, (shapeCast S512 (m ((c.tc : Thread nD τ).loc main_arg34) : FVec Ideal S2x2x128 .f32) shapeCasts_S2x2x128_S512 : FVec Ideal S512 .f32) i, (shapeCast S512 (m ((c.tc : Thread nD τ).loc main_arg50) : FVec Ideal S2x2x128 .f32) shapeCasts_S2x2x128_S512 : FVec Ideal S512 .f32) i)⟩,
    ⟨S1024, fun i => ((shapeCast S1024 (m ((c.tc : Thread nD τ).loc main_arg3) : FVec Ideal S1x2x16x32 .f32) shapeCasts_S1x2x16x32_S1024 : FVec Ideal S1024 .f32) i, (shapeCast S1024 (m ((c.tc : Thread nD τ).loc main_arg19) : FVec Ideal S1x2x16x32 .f32) shapeCasts_S1x2x16x32_S1024 : FVec Ideal S1024 .f32) i, (shapeCast S1024 (m ((c.tc : Thread nD τ).loc main_arg35) : FVec Ideal S1x2x16x32 .f32) shapeCasts_S1x2x16x32_S1024 : FVec Ideal S1024 .f32) i, (shapeCast S1024 (m ((c.tc : Thread nD τ).loc main_arg51) : FVec Ideal S1x2x16x32 .f32) shapeCasts_S1x2x16x32_S1024 : FVec Ideal S1024 .f32) i)⟩,
    ⟨S64, fun i => ((shapeCast S64 (m ((c.tc : Thread nD τ).loc main_arg4) : FVec Ideal S1x2x32 .f32) shapeCasts_S1x2x32_S64 : FVec Ideal S64 .f32) i, (shapeCast S64 (m ((c.tc : Thread nD τ).loc main_arg20) : FVec Ideal S1x2x32 .f32) shapeCasts_S1x2x32_S64 : FVec Ideal S64 .f32) i, (shapeCast S64 (m ((c.tc : Thread nD τ).loc main_arg36) : FVec Ideal S1x2x32 .f32) shapeCasts_S1x2x32_S64 : FVec Ideal S64 .f32) i, (shapeCast S64 (m ((c.tc : Thread nD τ).loc main_arg52) : FVec Ideal S1x2x32 .f32) shapeCasts_S1x2x32_S64 : FVec Ideal S64 .f32) i)⟩,
    ⟨S512, fun i => ((shapeCast S512 (m ((c.tc : Thread nD τ).loc main_arg5) : FVec Ideal S1x512 .f32) shapeCasts_S1x512_S512 : FVec Ideal S512 .f32) i, (shapeCast S512 (m ((c.tc : Thread nD τ).loc main_arg21) : FVec Ideal S1x512 .f32) shapeCasts_S1x512_S512 : FVec Ideal S512 .f32) i, (shapeCast S512 (m ((c.tc : Thread nD τ).loc main_arg37) : FVec Ideal S1x512 .f32) shapeCasts_S1x512_S512 : FVec Ideal S512 .f32) i, (shapeCast S512 (m ((c.tc : Thread nD τ).loc main_arg53) : FVec Ideal S1x512 .f32) shapeCasts_S1x512_S512 : FVec Ideal S512 .f32) i)⟩,
    ⟨S512, fun i => ((shapeCast S512 (m ((c.tc : Thread nD τ).loc main_arg6) : FVec Ideal S1x512 .f32) shapeCasts_S1x512_S512 : FVec Ideal S512 .f32) i, (shapeCast S512 (m ((c.tc : Thread nD τ).loc main_arg22) : FVec Ideal S1x512 .f32) shapeCasts_S1x512_S512 : FVec Ideal S512 .f32) i, (shapeCast S512 (m ((c.tc : Thread nD τ).loc main_arg38) : FVec Ideal S1x512 .f32) shapeCasts_S1x512_S512 : FVec Ideal S512 .f32) i, (shapeCast S512 (m ((c.tc : Thread nD τ).loc main_arg54) : FVec Ideal S1x512 .f32) shapeCasts_S1x512_S512 : FVec Ideal S512 .f32) i)⟩,
    ⟨S65536, fun i => ((shapeCast S65536 (m ((c.tc : Thread nD τ).loc main_arg7) : FVec Ideal S1x4x128x128 .f32) shapeCasts_S1x4x128x128_S65536 : FVec Ideal S65536 .f32) i, (shapeCast S65536 (m ((c.tc : Thread nD τ).loc main_arg23) : FVec Ideal S1x4x128x128 .f32) shapeCasts_S1x4x128x128_S65536 : FVec Ideal S65536 .f32) i, (shapeCast S65536 (m ((c.tc : Thread nD τ).loc main_arg39) : FVec Ideal S1x4x128x128 .f32) shapeCasts_S1x4x128x128_S65536 : FVec Ideal S65536 .f32) i, (shapeCast S65536 (m ((c.tc : Thread nD τ).loc main_arg55) : FVec Ideal S1x4x128x128 .f32) shapeCasts_S1x4x128x128_S65536 : FVec Ideal S65536 .f32) i)⟩,
    ⟨S512, fun i => ((shapeCast S512 (m ((c.tc : Thread nD τ).loc main_arg8) : FVec Ideal S1x4x128 .f32) shapeCasts_S1x4x128_S512 : FVec Ideal S512 .f32) i, (shapeCast S512 (m ((c.tc : Thread nD τ).loc main_arg24) : FVec Ideal S1x4x128 .f32) shapeCasts_S1x4x128_S512 : FVec Ideal S512 .f32) i, (shapeCast S512 (m ((c.tc : Thread nD τ).loc main_arg40) : FVec Ideal S1x4x128 .f32) shapeCasts_S1x4x128_S512 : FVec Ideal S512 .f32) i, (shapeCast S512 (m ((c.tc : Thread nD τ).loc main_arg56) : FVec Ideal S1x4x128 .f32) shapeCasts_S1x4x128_S512 : FVec Ideal S512 .f32) i)⟩,
    ⟨S1920, fun i => ((shapeCast S1920 (m ((c.tc : Thread nD τ).loc main_arg9) : FVec Ideal S1x5x384 .f32) shapeCasts_S1x5x384_S1920 : FVec Ideal S1920 .f32) i, (shapeCast S1920 (m ((c.tc : Thread nD τ).loc main_arg25) : FVec Ideal S1x5x384 .f32) shapeCasts_S1x5x384_S1920 : FVec Ideal S1920 .f32) i, (shapeCast S1920 (m ((c.tc : Thread nD τ).loc main_arg41) : FVec Ideal S1x5x384 .f32) shapeCasts_S1x5x384_S1920 : FVec Ideal S1920 .f32) i, (shapeCast S1920 (m ((c.tc : Thread nD τ).loc main_arg57) : FVec Ideal S1x5x384 .f32) shapeCasts_S1x5x384_S1920 : FVec Ideal S1920 .f32) i)⟩,
    ⟨S384, fun i => ((shapeCast S384 (m ((c.tc : Thread nD τ).loc main_arg10) : FVec Ideal S1x384 .f32) shapeCasts_S1x384_S384 : FVec Ideal S384 .f32) i, (shapeCast S384 (m ((c.tc : Thread nD τ).loc main_arg26) : FVec Ideal S1x384 .f32) shapeCasts_S1x384_S384 : FVec Ideal S384 .f32) i, (shapeCast S384 (m ((c.tc : Thread nD τ).loc main_arg42) : FVec Ideal S1x384 .f32) shapeCasts_S1x384_S384 : FVec Ideal S384 .f32) i, (shapeCast S384 (m ((c.tc : Thread nD τ).loc main_arg58) : FVec Ideal S1x384 .f32) shapeCasts_S1x384_S384 : FVec Ideal S384 .f32) i)⟩,
    ⟨S64, fun i => ((shapeCast S64 (m ((c.tc : Thread nD τ).loc main_arg11) : FVec Ideal S1x2x32 .f32) shapeCasts_S1x2x32_S64 : FVec Ideal S64 .f32) i, (shapeCast S64 (m ((c.tc : Thread nD τ).loc main_arg27) : FVec Ideal S1x2x32 .f32) shapeCasts_S1x2x32_S64 : FVec Ideal S64 .f32) i, (shapeCast S64 (m ((c.tc : Thread nD τ).loc main_arg43) : FVec Ideal S1x2x32 .f32) shapeCasts_S1x2x32_S64 : FVec Ideal S64 .f32) i, (shapeCast S64 (m ((c.tc : Thread nD τ).loc main_arg59) : FVec Ideal S1x2x32 .f32) shapeCasts_S1x2x32_S64 : FVec Ideal S64 .f32) i)⟩,
    ⟨S64, fun i => ((shapeCast S64 (m ((c.tc : Thread nD τ).loc main_arg12) : FVec Ideal S1x2x32 .f32) shapeCasts_S1x2x32_S64 : FVec Ideal S64 .f32) i, (shapeCast S64 (m ((c.tc : Thread nD τ).loc main_arg28) : FVec Ideal S1x2x32 .f32) shapeCasts_S1x2x32_S64 : FVec Ideal S64 .f32) i, (shapeCast S64 (m ((c.tc : Thread nD τ).loc main_arg44) : FVec Ideal S1x2x32 .f32) shapeCasts_S1x2x32_S64 : FVec Ideal S64 .f32) i, (shapeCast S64 (m ((c.tc : Thread nD τ).loc main_arg60) : FVec Ideal S1x2x32 .f32) shapeCasts_S1x2x32_S64 : FVec Ideal S64 .f32) i)⟩,
    ⟨S32, fun i => ((shapeCast S32 (m ((c.tc : Thread nD τ).loc main_arg13) : FVec Ideal S1x32 .f32) shapeCasts_S1x32_S32 : FVec Ideal S32 .f32) i, (shapeCast S32 (m ((c.tc : Thread nD τ).loc main_arg29) : FVec Ideal S1x32 .f32) shapeCasts_S1x32_S32 : FVec Ideal S32 .f32) i, (shapeCast S32 (m ((c.tc : Thread nD τ).loc main_arg45) : FVec Ideal S1x32 .f32) shapeCasts_S1x32_S32 : FVec Ideal S32 .f32) i, (shapeCast S32 (m ((c.tc : Thread nD τ).loc main_arg61) : FVec Ideal S1x32 .f32) shapeCasts_S1x32_S32 : FVec Ideal S32 .f32) i)⟩,
    ⟨S256, fun i => ((shapeCast S256 (m ((c.tc : Thread nD τ).loc main_arg14) : FVec Ideal S1x256 .f32) shapeCasts_S1x256_S256 : FVec Ideal S256 .f32) i, (shapeCast S256 (m ((c.tc : Thread nD τ).loc main_arg30) : FVec Ideal S1x256 .f32) shapeCasts_S1x256_S256 : FVec Ideal S256 .f32) i, (shapeCast S256 (m ((c.tc : Thread nD τ).loc main_arg46) : FVec Ideal S1x256 .f32) shapeCasts_S1x256_S256 : FVec Ideal S256 .f32) i, (shapeCast S256 (m ((c.tc : Thread nD τ).loc main_arg62) : FVec Ideal S1x256 .f32) shapeCasts_S1x256_S256 : FVec Ideal S256 .f32) i)⟩,
    ⟨S1024, fun i => ((m ((c.tc : Thread nD τ).loc main_arg15) : FVec Ideal S1024 .f32) i, (m ((c.tc : Thread nD τ).loc main_arg31) : FVec Ideal S1024 .f32) i, (m ((c.tc : Thread nD τ).loc main_arg47) : FVec Ideal S1024 .f32) i, (m ((c.tc : Thread nD τ).loc main_arg63) : FVec Ideal S1024 .f32) i)⟩]

/-- A function of the entries of every weight. -/
def pieces (f : EReal × EReal × EReal × EReal → EReal) : List ((s : Shape) × (s.Idx → EReal)) :=
  (quads m c).map fun p => ⟨p.1, fun i => f (p.2 i)⟩

theorem fits0 : Shape.Concatenates ((quads m c).map (·.1)) S85728 0 := by
  unfold quads
  exact concatenates_S1024_S12288_S512_S1024_S64_S512_S512_S65536_S512_S1920_S384_S64_S64_S32_S256_S1024_S85728_d0

theorem fits (f : EReal × EReal × EReal × EReal → EReal) : Shape.Concatenates ((pieces m c f).map (·.1)) S85728 0 := by
  unfold pieces quads
  exact concatenates_S1024_S12288_S512_S1024_S64_S512_S512_S65536_S512_S1920_S384_S64_S64_S32_S256_S1024_S85728_d0

/-- A function of the entries, laid in rows. -/
def laid (f : EReal × EReal × EReal × EReal → EReal) : FVec Ideal S88x1024 .f32 :=
  shapeCast S88x1024 (filled (concatenate S85728 0 (pieces m c f) (fits m c f))) shapeCasts_S90112_S88x1024

theorem rows_eq {x y : (⟨1, ![85728]⟩ : Shape).Idx → EReal} (e : x = y) :
    shapeCast S88x1024 (filled x) shapeCasts_S90112_S88x1024 = shapeCast S88x1024 (filled y) shapeCasts_S90112_S88x1024 := by
  rw [e]

/-- One entry of the rows. -/
theorem laid_apply (f : EReal × EReal × EReal × EReal → EReal) (i : S88x1024.Idx) :
    laid m c f i = if h : (Shape.reshapeEquiv shapeCasts_S90112_S88x1024 i 0).val < 85728 then
      f (concatenate S85728 0 (quads m c) (fits0 m c) (ix1 ⟨_, h⟩)) else 0 := by
  unfold laid shapeCast filled
  split
  · exact concat_comp f S85728 0 (quads m c) (fits0 m c) (fits m c f) _
  · rfl

set_option maxHeartbeats 4000000 in
/-- The rows of the weights, as the host lays them. -/
theorem rows_main_v16 : V m c main_v16 = laid m c (fun q => q.1) := by
  unfold laid
  rw [← pad_filled _ pads_S85728_S90112_043840 h_S_]
  simp only [V, hostOps0, hostOps0_1, hostOps0_2, hostOps0_3, hostOps0_4, hostOps0_5, hostOps0_6, hostOps0_7, hostOps0_8, List.flatten_cons, List.flatten_nil, List.append_nil, List.cons_append, List.nil_append]
  open StableHlo in after_results_simp
  rfl

set_option maxHeartbeats 4000000 in
/-- The rows of the gradients, as the host lays them. -/
theorem rows_main_v34 : V m c main_v34 = (fun i => laid m c (fun q => q.2.1) (ix2 (i 1) (i 2)) : FVec Ideal S1x88x1024 .f32) := by
  have e : ∀ x : FVec Ideal S88x1024 .f32, broadcastInDim S1x88x1024 ![1, 2] bcast_S88x1024_S1x88x1024_1_2 x = (fun i => x (ix2 (i 1) (i 2)) : FVec Ideal S1x88x1024 .f32) := by
    intro x
    funext i
    obtain ⟨d, r, k, rfl⟩ : ∃ (d : Fin 1) (r : Fin 88) (k : Fin 1024), i = ix3 d r k := ⟨i 0, i 1, i 2, by funext a; match a with | ⟨0, _⟩ => rfl | ⟨1, _⟩ => rfl | ⟨2, _⟩ => rfl⟩
    pointwise
  rw [← e]
  unfold laid
  rw [← pad_filled _ pads_S85728_S90112_043840 h_S_]
  simp only [V, hostOps0, hostOps0_1, hostOps0_2, hostOps0_3, hostOps0_4, hostOps0_5, hostOps0_6, hostOps0_7, hostOps0_8, List.flatten_cons, List.flatten_nil, List.append_nil, List.cons_append, List.nil_append]
  open StableHlo in after_results_simp
  rfl

set_option maxHeartbeats 4000000 in
/-- The rows of the first means, as the host lays them. -/
theorem rows_main_v51 : V m c main_v51 = laid m c (fun q => q.2.2.1) := by
  unfold laid
  rw [← pad_filled _ pads_S85728_S90112_043840 h_S_]
  simp only [V, hostOps0, hostOps0_1, hostOps0_2, hostOps0_3, hostOps0_4, hostOps0_5, hostOps0_6, hostOps0_7, hostOps0_8, List.flatten_cons, List.flatten_nil, List.append_nil, List.cons_append, List.nil_append]
  open StableHlo in after_results_simp
  rfl

set_option maxHeartbeats 4000000 in
/-- The rows of the second means, as the host lays them. -/
theorem rows_main_v68 : V m c main_v68 = laid m c (fun q => q.2.2.2) := by
  unfold laid
  rw [← pad_filled _ pads_S85728_S90112_043840 h_S_]
  simp only [V, hostOps0, hostOps0_1, hostOps0_2, hostOps0_3, hostOps0_4, hostOps0_5, hostOps0_6, hostOps0_7, hostOps0_8, List.flatten_cons, List.flatten_nil, List.append_nil, List.cons_append, List.nil_append]
  open StableHlo in after_results_simp
  rfl

theorem zero_offsets3 : (![0, 0, 0] : Fin 3 → Nat) = fun _ => 0 := funext fun a => by fin_cases a <;> rfl

/-- The gradient's tile. -/
theorem grad_apply (p : Vec Ideal S1x88x1024 .f32) (r : Fin 88) (k : Fin 1024) : k0_pay1 p (ix2 r k) = ∑ d : Fin 1, p (ix3 d r k) := by
  unfold k0_pay1
  pointwise
  rw [Fin.sum_univ_one]

/-- The first mean's tile. -/
theorem newM_apply (p : Vec Ideal S1x88x1024 .f32) (a : Vec Ideal S88x1024 .f32) (r : Fin 88) (k : Fin 1024) :
    k0_pay2 p a (ix2 r k) = newM (k0_pay1 p (ix2 r k)) (a (ix2 r k)) := by
  unfold k0_pay2
  generalize k0_pay1 p = g
  unfold newM
  pointwise

/-- The second mean's tile. -/
theorem newV_apply (p : Vec Ideal S1x88x1024 .f32) (b : Vec Ideal S88x1024 .f32) (r : Fin 88) (k : Fin 1024) :
    k0_pay3 p b (ix2 r k) = newV (k0_pay1 p (ix2 r k)) (b (ix2 r k)) := by
  unfold k0_pay3
  generalize k0_pay1 p = g
  unfold newV
  pointwise

/-- The step's tile. -/
theorem delta_apply (p : Vec Ideal S1x88x1024 .f32) (w a b : Vec Ideal S88x1024 .f32) (r : Fin 88) (k : Fin 1024) :
    k0_pay4 p w a b (ix2 r k) = delta (w (ix2 r k)) (k0_pay1 p (ix2 r k)) (a (ix2 r k)) (b (ix2 r k)) := by
  unfold k0_pay4 k0_pay2 k0_pay3
  generalize k0_pay1 p = g
  unfold delta newM newV
  pointwise

/-- The arguments in rows. -/
def aW : Vec Ideal S88x1024 .f32 := laid m c fun q => q.1
def aM : Vec Ideal S88x1024 .f32 := laid m c fun q => q.2.2.1
def aV : Vec Ideal S88x1024 .f32 := laid m c fun q => q.2.2.2
def aP : Vec Ideal S1x88x1024 .f32 := fun i => laid m c (fun q => q.2.1) (ix2 (i 1) (i 2))

/-- The gradient. -/
def gAt (r : Fin 88) (k : Fin 1024) : EReal := ∑ d : Fin 1, (aP m c (ix3 d r k) : EReal)
/-- The step. -/
def dAt (r : Fin 88) (k : Fin 1024) : EReal := delta (aW m c (ix2 r k)) (gAt m c r k) (aM m c (ix2 r k)) (aV m c (ix2 r k))
/-- The first mean. -/
def mAt (r : Fin 88) (k : Fin 1024) : EReal := newM (gAt m c r k) (aM m c (ix2 r k))
/-- The second mean. -/
def vAt (r : Fin 88) (k : Fin 1024) : EReal := newV (gAt m c r k) (aV m c (ix2 r k))

/-- The four result arrays. -/
def resG : Buf (Elt Ideal) ((c : Thread nD τ).loc main_v69_0) := fun i => gAt m c (i 0) (i 1)
def resD : Buf (Elt Ideal) ((c : Thread nD τ).loc main_v69_1) := fun i => dAt m c (i 0) (i 1)
def resM : Buf (Elt Ideal) ((c : Thread nD τ).loc main_v69_2) := fun i => mAt m c (i 0) (i 1)
def resV : Buf (Elt Ideal) ((c : Thread nD τ).loc main_v69_3) := fun i => vAt m c (i 0) (i 1)

theorem points (t : Fin cfg0.N) : t.val < 1 := by have := t.isLt; have hN : cfg0.N = 1 := N_0; omega

/-- The row of the whole array that row `r` of the tile `t` is. -/
def at_ (t : Fin cfg0.N) (r : Fin 88) : Fin 88 := ⟨t.val * 88 + r.val, by have := points t; omega⟩

/-- Which tiles the point `t` reads and writes. -/
theorem blocks_at : ∀ t : Fin grid0.N, (win0_0.index t 0 = t.val ∧ win0_0.index t 1 = 0)
    ∧ (win0_2.index t 0 = t.val ∧ win0_2.index t 1 = 0) ∧ (win0_3.index t 0 = t.val ∧ win0_3.index t 1 = 0) := by
  decide +kernel
theorem parts_at : ∀ t : Fin grid0.N, win0_1.index t 0 = 0 ∧ win0_1.index t 1 = t.val ∧ win0_1.index t 2 = 0 := by
  decide +kernel
theorem outs_at : ∀ t : Fin grid0.N, (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) := by
  decide +kernel

theorem read_w (t : Fin cfg0.N) (r : Fin 88) (k : Fin 1024) : iblk m c 0 t (ix2 r k) = aW m c (ix2 (at_ t r) k) := by
  have e := (blocks_at t).1
  show V m c main_v16 _ = aW m c _
  rw [rows_main_v16]
  show aW m c _ = aW m c _
  congr 1
  funext a
  apply Fin.ext
  match a with
  | ⟨0, _⟩ => show win0_0.index t 0 * 88 + 1 * r.val = t.val * 88 + r.val; rw [e.1]; omega
  | ⟨1, _⟩ => show win0_0.index t 1 * 1024 + 1 * k.val = k.val; rw [e.2]; omega

theorem read_m (t : Fin cfg0.N) (r : Fin 88) (k : Fin 1024) : iblk m c 2 t (ix2 r k) = aM m c (ix2 (at_ t r) k) := by
  have e := (blocks_at t).2.1
  show V m c main_v51 _ = aM m c _
  rw [rows_main_v51]
  show aM m c _ = aM m c _
  congr 1
  funext a
  apply Fin.ext
  match a with
  | ⟨0, _⟩ => show win0_2.index t 0 * 88 + 1 * r.val = t.val * 88 + r.val; rw [e.1]; omega
  | ⟨1, _⟩ => show win0_2.index t 1 * 1024 + 1 * k.val = k.val; rw [e.2]; omega

theorem read_v (t : Fin cfg0.N) (r : Fin 88) (k : Fin 1024) : iblk m c 3 t (ix2 r k) = aV m c (ix2 (at_ t r) k) := by
  have e := (blocks_at t).2.2
  show V m c main_v68 _ = aV m c _
  rw [rows_main_v68]
  show aV m c _ = aV m c _
  congr 1
  funext a
  apply Fin.ext
  match a with
  | ⟨0, _⟩ => show win0_3.index t 0 * 88 + 1 * r.val = t.val * 88 + r.val; rw [e.1]; omega
  | ⟨1, _⟩ => show win0_3.index t 1 * 1024 + 1 * k.val = k.val; rw [e.2]; omega

theorem read_p (t : Fin cfg0.N) (d : Fin 1) (r : Fin 88) (k : Fin 1024) :
    iblk m c 1 t (ix3 d r k) = aP m c (ix3 d (at_ t r) k) := by
  have e := parts_at t
  show V m c main_v34 _ = aP m c _
  rw [rows_main_v34]
  show aP m c _ = aP m c _
  congr 1
  funext a
  apply Fin.ext
  match a with
  | ⟨0, _⟩ => show win0_1.index t 0 * 1 + 1 * d.val = d.val; rw [e.1]; omega
  | ⟨1, _⟩ => show win0_1.index t 1 * 88 + 1 * r.val = t.val * 88 + r.val; rw [e.2.1]; omega
  | ⟨2, _⟩ => show win0_1.index t 2 * 1024 + 1 * k.val = k.val; rw [e.2.2]; omega

theorem gAt_tile (t : Fin cfg0.N) (r : Fin 88) (k : Fin 1024) :
    gAt m c (at_ t r) k = Finset.sum (M := EReal) Finset.univ fun d : Fin 1 => iblk m c 1 t (ix3 d r k) :=
  Finset.sum_congr (M := EReal) rfl fun d _ => (read_p m c t d r k).symm

set_option maxHeartbeats 2000000 in
/-- What the point `t` writes back: its tile of the result. -/
theorem flushed4_A_eq (t : Fin cfg0.N)  :
    (dats m 0 c).flushed 4 t = ((cfg0.win 4).blk t).view.read (Elt Ideal) (resG m c) := by
  have e := (outs_at t).1
  rw [Value.flushed4_A m c t ]
  unfold out0_A_4
  rw [View.read_writes_eq_canon _ _ _ (fun _ => cover0_A_4 ..)]
  unfold kernelRun0_A
  dsimp only
  sl_unfold_words
  simp only [View.canon_unit_zero (S := S88x1024) zero_offsets, View.readAt_eq_ld, (hs0_0 t).read_unread, (hs0_1 t).read_unread, (hs0_2 t).read_unread, (hs0_3 t).read_unread,
    View.ld_unit_zero (S := S88x1024) zero_offsets, View.ld_unit_zero (S := S1x88x1024) zero_offsets3]
  funext j
  rw [View.read_apply]
  obtain ⟨r, k, rfl⟩ : ∃ (r : Fin 88) (k : Fin 1024), j = ix2 r k := idx2 j
  refine Eq.trans (b := gAt m c (at_ t r) k) ?_ (congrArg₂ (gAt m c) (Fin.ext ?_) (Fin.ext ?_))
  · exact (grad_apply (iblk m c 1 t) r k).trans (gAt_tile m c t r k).symm
  · show t.val * 88 + r.val = win0_4.index t 0 * 88 + 1 * r.val; rw [e.1]; omega
  · show k.val = win0_4.index t 1 * 1024 + 1 * k.val; rw [e.2]; omega

theorem flushed4_eq (t : Fin cfg0.N) : (dats m 0 c).flushed 4 t = ((cfg0.win 4).blk t).view.read (Elt Ideal) (resG m c) :=
  flushed4_A_eq m c t

theorem cover4 (i : S88x1024.Idx) : ∃ t : Fin cfg0.N, (cfg0.win 4).flush t = true ∧ i ∈ ((cfg0.win 4).blk t).view.set := by
  have h0 : (i 0 : Nat) < 88 := (i 0).isLt
  have h1 : (i 1 : Nat) < 1024 := (i 1).isLt
  have hN : cfg0.N = 1 := N_0
  obtain ⟨t, ht⟩ : ∃ t : Fin cfg0.N, t.val = (i 0 : Nat) / 88 := ⟨⟨(i 0 : Nat) / 88, by omega⟩, rfl⟩
  have e := (outs_at t).1
  refine ⟨t, flush0_4 _, ?_⟩
  show i ∈ ((View.whole main_v69_0).slice (win0_4.rect t)).set
  rw [View.set_slice_whole, Rect.mem_set_unit]
  intro a
  match a with
  | ⟨0, _⟩ => show win0_4.index t 0 * 88 ≤ (i 0 : Nat) ∧ (i 0 : Nat) < win0_4.index t 0 * 88 + 88; rw [e.1]; omega
  | ⟨1, _⟩ => show win0_4.index t 1 * 1024 ≤ (i 1 : Nat) ∧ (i 1 : Nat) < win0_4.index t 1 * 1024 + 1024; rw [e.2]; omega

/-- The result array after the run. -/
theorem final4 : (dats m 0 c).arrAt 4 cfg0.N = resG m c :=
  (dats m 0 c).arrAt_eq_of_cover 4 (resG m c) (fun t _ => flushed4_eq m c t) cover4

set_option maxHeartbeats 2000000 in
/-- What the point `t` writes back: its tile of the result. -/
theorem flushed5_A_eq (t : Fin cfg0.N)  :
    (dats m 0 c).flushed 5 t = ((cfg0.win 5).blk t).view.read (Elt Ideal) (resD m c) := by
  have e := (outs_at t).2.1
  rw [Value.flushed5_A m c t ]
  unfold out0_A_5
  rw [View.read_writes_eq_canon _ _ _ (fun _ => cover0_A_5 ..)]
  unfold kernelRun0_A
  dsimp only
  sl_unfold_words
  simp only [View.canon_unit_zero (S := S88x1024) zero_offsets, View.readAt_eq_ld, (hs0_0 t).read_unread, (hs0_1 t).read_unread, (hs0_2 t).read_unread, (hs0_3 t).read_unread,
    View.ld_unit_zero (S := S88x1024) zero_offsets, View.ld_unit_zero (S := S1x88x1024) zero_offsets3]
  funext j
  rw [View.read_apply]
  obtain ⟨r, k, rfl⟩ : ∃ (r : Fin 88) (k : Fin 1024), j = ix2 r k := idx2 j
  refine Eq.trans (b := dAt m c (at_ t r) k) ?_ (congrArg₂ (dAt m c) (Fin.ext ?_) (Fin.ext ?_))
  · refine (delta_apply ..).trans ?_
    unfold dAt
    rw [gAt_tile m c t r k, ← grad_apply, ← read_w m c, ← read_m m c, ← read_v m c]
  · show t.val * 88 + r.val = win0_5.index t 0 * 88 + 1 * r.val; rw [e.1]; omega
  · show k.val = win0_5.index t 1 * 1024 + 1 * k.val; rw [e.2]; omega

theorem flushed5_eq (t : Fin cfg0.N) : (dats m 0 c).flushed 5 t = ((cfg0.win 5).blk t).view.read (Elt Ideal) (resD m c) :=
  flushed5_A_eq m c t

theorem cover5 (i : S88x1024.Idx) : ∃ t : Fin cfg0.N, (cfg0.win 5).flush t = true ∧ i ∈ ((cfg0.win 5).blk t).view.set := by
  have h0 : (i 0 : Nat) < 88 := (i 0).isLt
  have h1 : (i 1 : Nat) < 1024 := (i 1).isLt
  have hN : cfg0.N = 1 := N_0
  obtain ⟨t, ht⟩ : ∃ t : Fin cfg0.N, t.val = (i 0 : Nat) / 88 := ⟨⟨(i 0 : Nat) / 88, by omega⟩, rfl⟩
  have e := (outs_at t).2.1
  refine ⟨t, flush0_5 _, ?_⟩
  show i ∈ ((View.whole main_v69_1).slice (win0_5.rect t)).set
  rw [View.set_slice_whole, Rect.mem_set_unit]
  intro a
  match a with
  | ⟨0, _⟩ => show win0_5.index t 0 * 88 ≤ (i 0 : Nat) ∧ (i 0 : Nat) < win0_5.index t 0 * 88 + 88; rw [e.1]; omega
  | ⟨1, _⟩ => show win0_5.index t 1 * 1024 ≤ (i 1 : Nat) ∧ (i 1 : Nat) < win0_5.index t 1 * 1024 + 1024; rw [e.2]; omega

/-- The result array after the run. -/
theorem final5 : (dats m 0 c).arrAt 5 cfg0.N = resD m c :=
  (dats m 0 c).arrAt_eq_of_cover 5 (resD m c) (fun t _ => flushed5_eq m c t) cover5

set_option maxHeartbeats 2000000 in
/-- What the point `t` writes back: its tile of the result. -/
theorem flushed6_A_eq (t : Fin cfg0.N)  :
    (dats m 0 c).flushed 6 t = ((cfg0.win 6).blk t).view.read (Elt Ideal) (resM m c) := by
  have e := (outs_at t).2.2.1
  rw [Value.flushed6_A m c t ]
  unfold out0_A_6
  rw [View.read_writes_eq_canon _ _ _ (fun _ => cover0_A_6 ..)]
  unfold kernelRun0_A
  dsimp only
  sl_unfold_words
  simp only [View.canon_unit_zero (S := S88x1024) zero_offsets, View.readAt_eq_ld, (hs0_0 t).read_unread, (hs0_1 t).read_unread, (hs0_2 t).read_unread, (hs0_3 t).read_unread,
    View.ld_unit_zero (S := S88x1024) zero_offsets, View.ld_unit_zero (S := S1x88x1024) zero_offsets3]
  funext j
  rw [View.read_apply]
  obtain ⟨r, k, rfl⟩ : ∃ (r : Fin 88) (k : Fin 1024), j = ix2 r k := idx2 j
  refine Eq.trans (b := mAt m c (at_ t r) k) ?_ (congrArg₂ (mAt m c) (Fin.ext ?_) (Fin.ext ?_))
  · refine (newM_apply ..).trans ?_
    unfold mAt
    rw [gAt_tile m c t r k, ← grad_apply, ← read_m m c]
  · show t.val * 88 + r.val = win0_6.index t 0 * 88 + 1 * r.val; rw [e.1]; omega
  · show k.val = win0_6.index t 1 * 1024 + 1 * k.val; rw [e.2]; omega

theorem flushed6_eq (t : Fin cfg0.N) : (dats m 0 c).flushed 6 t = ((cfg0.win 6).blk t).view.read (Elt Ideal) (resM m c) :=
  flushed6_A_eq m c t

theorem cover6 (i : S88x1024.Idx) : ∃ t : Fin cfg0.N, (cfg0.win 6).flush t = true ∧ i ∈ ((cfg0.win 6).blk t).view.set := by
  have h0 : (i 0 : Nat) < 88 := (i 0).isLt
  have h1 : (i 1 : Nat) < 1024 := (i 1).isLt
  have hN : cfg0.N = 1 := N_0
  obtain ⟨t, ht⟩ : ∃ t : Fin cfg0.N, t.val = (i 0 : Nat) / 88 := ⟨⟨(i 0 : Nat) / 88, by omega⟩, rfl⟩
  have e := (outs_at t).2.2.1
  refine ⟨t, flush0_6 _, ?_⟩
  show i ∈ ((View.whole main_v69_2).slice (win0_6.rect t)).set
  rw [View.set_slice_whole, Rect.mem_set_unit]
  intro a
  match a with
  | ⟨0, _⟩ => show win0_6.index t 0 * 88 ≤ (i 0 : Nat) ∧ (i 0 : Nat) < win0_6.index t 0 * 88 + 88; rw [e.1]; omega
  | ⟨1, _⟩ => show win0_6.index t 1 * 1024 ≤ (i 1 : Nat) ∧ (i 1 : Nat) < win0_6.index t 1 * 1024 + 1024; rw [e.2]; omega

/-- The result array after the run. -/
theorem final6 : (dats m 0 c).arrAt 6 cfg0.N = resM m c :=
  (dats m 0 c).arrAt_eq_of_cover 6 (resM m c) (fun t _ => flushed6_eq m c t) cover6

set_option maxHeartbeats 2000000 in
/-- What the point `t` writes back: its tile of the result. -/
theorem flushed7_A_eq (t : Fin cfg0.N)  :
    (dats m 0 c).flushed 7 t = ((cfg0.win 7).blk t).view.read (Elt Ideal) (resV m c) := by
  have e := (outs_at t).2.2.2
  rw [Value.flushed7_A m c t ]
  unfold out0_A_7
  rw [View.read_writes_eq_canon _ _ _ (fun _ => cover0_A_7 ..)]
  unfold kernelRun0_A
  dsimp only
  sl_unfold_words
  simp only [View.canon_unit_zero (S := S88x1024) zero_offsets, View.readAt_eq_ld, (hs0_0 t).read_unread, (hs0_1 t).read_unread, (hs0_2 t).read_unread, (hs0_3 t).read_unread,
    View.ld_unit_zero (S := S88x1024) zero_offsets, View.ld_unit_zero (S := S1x88x1024) zero_offsets3]
  funext j
  rw [View.read_apply]
  obtain ⟨r, k, rfl⟩ : ∃ (r : Fin 88) (k : Fin 1024), j = ix2 r k := idx2 j
  refine Eq.trans (b := vAt m c (at_ t r) k) ?_ (congrArg₂ (vAt m c) (Fin.ext ?_) (Fin.ext ?_))
  · refine (newV_apply ..).trans ?_
    unfold vAt
    rw [gAt_tile m c t r k, ← grad_apply, ← read_v m c]
  · show t.val * 88 + r.val = win0_7.index t 0 * 88 + 1 * r.val; rw [e.1]; omega
  · show k.val = win0_7.index t 1 * 1024 + 1 * k.val; rw [e.2]; omega

theorem flushed7_eq (t : Fin cfg0.N) : (dats m 0 c).flushed 7 t = ((cfg0.win 7).blk t).view.read (Elt Ideal) (resV m c) :=
  flushed7_A_eq m c t

theorem cover7 (i : S88x1024.Idx) : ∃ t : Fin cfg0.N, (cfg0.win 7).flush t = true ∧ i ∈ ((cfg0.win 7).blk t).view.set := by
  have h0 : (i 0 : Nat) < 88 := (i 0).isLt
  have h1 : (i 1 : Nat) < 1024 := (i 1).isLt
  have hN : cfg0.N = 1 := N_0
  obtain ⟨t, ht⟩ : ∃ t : Fin cfg0.N, t.val = (i 0 : Nat) / 88 := ⟨⟨(i 0 : Nat) / 88, by omega⟩, rfl⟩
  have e := (outs_at t).2.2.2
  refine ⟨t, flush0_7 _, ?_⟩
  show i ∈ ((View.whole main_v69_3).slice (win0_7.rect t)).set
  rw [View.set_slice_whole, Rect.mem_set_unit]
  intro a
  match a with
  | ⟨0, _⟩ => show win0_7.index t 0 * 88 ≤ (i 0 : Nat) ∧ (i 0 : Nat) < win0_7.index t 0 * 88 + 88; rw [e.1]; omega
  | ⟨1, _⟩ => show win0_7.index t 1 * 1024 ≤ (i 1 : Nat) ∧ (i 1 : Nat) < win0_7.index t 1 * 1024 + 1024; rw [e.2]; omega

/-- The result array after the run. -/
theorem final7 : (dats m 0 c).arrAt 7 cfg0.N = resV m c :=
  (dats m 0 c).arrAt_eq_of_cover 7 (resV m c) (fun t _ => flushed7_eq m c t) cover7

/-- The results in rows, as functions of the entries. -/
theorem resG_eq : resG m c = laid m c fun q => q.2.1 := by
  funext i
  obtain ⟨r, k, rfl⟩ : ∃ (r : Fin 88) (k : Fin 1024), i = ix2 r k := idx2 i
  show gAt m c r k = _
  unfold gAt aP
  rw [Fin.sum_univ_one]
  rfl

theorem gAt_eq (r : Fin 88) (k : Fin 1024) : gAt m c r k = laid m c (fun q => q.2.1) (ix2 r k) := by
  unfold gAt aP
  rw [Fin.sum_univ_one]
  rfl

theorem resD_eq : resD m c = laid m c fun q => delta q.1 q.2.1 q.2.2.1 q.2.2.2 := by
  funext i
  obtain ⟨r, k, rfl⟩ : ∃ (r : Fin 88) (k : Fin 1024), i = ix2 r k := idx2 i
  show dAt m c r k = _
  unfold dAt aW aM aV
  rw [gAt_eq]
  simp only [laid_apply]
  split
  · rfl
  · exact delta_zero

theorem resM_eq : resM m c = laid m c fun q => newM q.2.1 q.2.2.1 := by
  funext i
  obtain ⟨r, k, rfl⟩ : ∃ (r : Fin 88) (k : Fin 1024), i = ix2 r k := idx2 i
  show mAt m c r k = _
  unfold mAt aM
  rw [gAt_eq]
  simp only [laid_apply]
  split
  · rfl
  · exact newM_zero

theorem resV_eq : resV m c = laid m c fun q => newV q.2.1 q.2.2.2 := by
  funext i
  obtain ⟨r, k, rfl⟩ : ∃ (r : Fin 88) (k : Fin 1024), i = ix2 r k := idx2 i
  show vAt m c r k = _
  unfold vAt aV
  rw [gAt_eq]
  simp only [laid_apply]
  split
  · rfl
  · exact newV_zero

end Cert.Kernel29Ideal.Result

namespace Cert.Reference29Ideal.Result

open Cert.Rows
open Cert.Reference29Ideal Cert.Reference29Ideal.Gen Cert.Reference29Ideal.Value
open Idealize.ShloMosaic.StableHlo (launchContents)

variable (m : (ℓ : Loc nD τ sig) → Buf (Elt Ideal) ℓ) (c : Dev nD)

/-- The sixteen weights of the reference, each entry together with its gradient and its two means. -/
def quads : List ((s : Shape) × (s.Idx → EReal × EReal × EReal × EReal)) :=
  [⟨S1024, fun i => ((m ((c.tc : Thread nD τ).loc main_arg0) : FVec Ideal S1024 .f32) i, (m ((c.tc : Thread nD τ).loc main_arg16) : FVec Ideal S1024 .f32) i, (m ((c.tc : Thread nD τ).loc main_arg32) : FVec Ideal S1024 .f32) i, (m ((c.tc : Thread nD τ).loc main_arg48) : FVec Ideal S1024 .f32) i)⟩,
    ⟨S12288, fun i => ((shapeCast S12288 (m ((c.tc : Thread nD τ).loc main_arg1) : FVec Ideal S2x6144 .f32) shapeCasts_S2x6144_S12288 : FVec Ideal S12288 .f32) i, (shapeCast S12288 (m ((c.tc : Thread nD τ).loc main_arg17) : FVec Ideal S2x6144 .f32) shapeCasts_S2x6144_S12288 : FVec Ideal S12288 .f32) i, (shapeCast S12288 (m ((c.tc : Thread nD τ).loc main_arg33) : FVec Ideal S2x6144 .f32) shapeCasts_S2x6144_S12288 : FVec Ideal S12288 .f32) i, (shapeCast S12288 (m ((c.tc : Thread nD τ).loc main_arg49) : FVec Ideal S2x6144 .f32) shapeCasts_S2x6144_S12288 : FVec Ideal S12288 .f32) i)⟩,
    ⟨S512, fun i => ((shapeCast S512 (m ((c.tc : Thread nD τ).loc main_arg2) : FVec Ideal S2x2x128 .f32) shapeCasts_S2x2x128_S512 : FVec Ideal S512 .f32) i, (shapeCast S512 (m ((c.tc : Thread nD τ).loc main_arg18) : FVec Ideal S2x2x128 .f32) shapeCasts_S2x2x128_S512 : FVec Ideal S512 .f32) i, (shapeCast S512 (m ((c.tc : Thread nD τ).loc main_arg34) : FVec Ideal S2x2x128 .f32) shapeCasts_S2x2x128_S512 : FVec Ideal S512 .f32) i, (shapeCast S512 (m ((c.tc : Thread nD τ).loc main_arg50) : FVec Ideal S2x2x128 .f32) shapeCasts_S2x2x128_S512 : FVec Ideal S512 .f32) i)⟩,
    ⟨S1024, fun i => ((shapeCast S1024 (m ((c.tc : Thread nD τ).loc main_arg3) : FVec Ideal S1x2x16x32 .f32) shapeCasts_S1x2x16x32_S1024 : FVec Ideal S1024 .f32) i, (shapeCast S1024 (m ((c.tc : Thread nD τ).loc main_arg19) : FVec Ideal S1x2x16x32 .f32) shapeCasts_S1x2x16x32_S1024 : FVec Ideal S1024 .f32) i, (shapeCast S1024 (m ((c.tc : Thread nD τ).loc main_arg35) : FVec Ideal S1x2x16x32 .f32) shapeCasts_S1x2x16x32_S1024 : FVec Ideal S1024 .f32) i, (shapeCast S1024 (m ((c.tc : Thread nD τ).loc main_arg51) : FVec Ideal S1x2x16x32 .f32) shapeCasts_S1x2x16x32_S1024 : FVec Ideal S1024 .f32) i)⟩,
    ⟨S64, fun i => ((shapeCast S64 (m ((c.tc : Thread nD τ).loc main_arg4) : FVec Ideal S1x2x32 .f32) shapeCasts_S1x2x32_S64 : FVec Ideal S64 .f32) i, (shapeCast S64 (m ((c.tc : Thread nD τ).loc main_arg20) : FVec Ideal S1x2x32 .f32) shapeCasts_S1x2x32_S64 : FVec Ideal S64 .f32) i, (shapeCast S64 (m ((c.tc : Thread nD τ).loc main_arg36) : FVec Ideal S1x2x32 .f32) shapeCasts_S1x2x32_S64 : FVec Ideal S64 .f32) i, (shapeCast S64 (m ((c.tc : Thread nD τ).loc main_arg52) : FVec Ideal S1x2x32 .f32) shapeCasts_S1x2x32_S64 : FVec Ideal S64 .f32) i)⟩,
    ⟨S512, fun i => ((shapeCast S512 (m ((c.tc : Thread nD τ).loc main_arg5) : FVec Ideal S1x512 .f32) shapeCasts_S1x512_S512 : FVec Ideal S512 .f32) i, (shapeCast S512 (m ((c.tc : Thread nD τ).loc main_arg21) : FVec Ideal S1x512 .f32) shapeCasts_S1x512_S512 : FVec Ideal S512 .f32) i, (shapeCast S512 (m ((c.tc : Thread nD τ).loc main_arg37) : FVec Ideal S1x512 .f32) shapeCasts_S1x512_S512 : FVec Ideal S512 .f32) i, (shapeCast S512 (m ((c.tc : Thread nD τ).loc main_arg53) : FVec Ideal S1x512 .f32) shapeCasts_S1x512_S512 : FVec Ideal S512 .f32) i)⟩,
    ⟨S512, fun i => ((shapeCast S512 (m ((c.tc : Thread nD τ).loc main_arg6) : FVec Ideal S1x512 .f32) shapeCasts_S1x512_S512 : FVec Ideal S512 .f32) i, (shapeCast S512 (m ((c.tc : Thread nD τ).loc main_arg22) : FVec Ideal S1x512 .f32) shapeCasts_S1x512_S512 : FVec Ideal S512 .f32) i, (shapeCast S512 (m ((c.tc : Thread nD τ).loc main_arg38) : FVec Ideal S1x512 .f32) shapeCasts_S1x512_S512 : FVec Ideal S512 .f32) i, (shapeCast S512 (m ((c.tc : Thread nD τ).loc main_arg54) : FVec Ideal S1x512 .f32) shapeCasts_S1x512_S512 : FVec Ideal S512 .f32) i)⟩,
    ⟨S65536, fun i => ((shapeCast S65536 (m ((c.tc : Thread nD τ).loc main_arg7) : FVec Ideal S1x4x128x128 .f32) shapeCasts_S1x4x128x128_S65536 : FVec Ideal S65536 .f32) i, (shapeCast S65536 (m ((c.tc : Thread nD τ).loc main_arg23) : FVec Ideal S1x4x128x128 .f32) shapeCasts_S1x4x128x128_S65536 : FVec Ideal S65536 .f32) i, (shapeCast S65536 (m ((c.tc : Thread nD τ).loc main_arg39) : FVec Ideal S1x4x128x128 .f32) shapeCasts_S1x4x128x128_S65536 : FVec Ideal S65536 .f32) i, (shapeCast S65536 (m ((c.tc : Thread nD τ).loc main_arg55) : FVec Ideal S1x4x128x128 .f32) shapeCasts_S1x4x128x128_S65536 : FVec Ideal S65536 .f32) i)⟩,
    ⟨S512, fun i => ((shapeCast S512 (m ((c.tc : Thread nD τ).loc main_arg8) : FVec Ideal S1x4x128 .f32) shapeCasts_S1x4x128_S512 : FVec Ideal S512 .f32) i, (shapeCast S512 (m ((c.tc : Thread nD τ).loc main_arg24) : FVec Ideal S1x4x128 .f32) shapeCasts_S1x4x128_S512 : FVec Ideal S512 .f32) i, (shapeCast S512 (m ((c.tc : Thread nD τ).loc main_arg40) : FVec Ideal S1x4x128 .f32) shapeCasts_S1x4x128_S512 : FVec Ideal S512 .f32) i, (shapeCast S512 (m ((c.tc : Thread nD τ).loc main_arg56) : FVec Ideal S1x4x128 .f32) shapeCasts_S1x4x128_S512 : FVec Ideal S512 .f32) i)⟩,
    ⟨S1920, fun i => ((shapeCast S1920 (m ((c.tc : Thread nD τ).loc main_arg9) : FVec Ideal S1x5x384 .f32) shapeCasts_S1x5x384_S1920 : FVec Ideal S1920 .f32) i, (shapeCast S1920 (m ((c.tc : Thread nD τ).loc main_arg25) : FVec Ideal S1x5x384 .f32) shapeCasts_S1x5x384_S1920 : FVec Ideal S1920 .f32) i, (shapeCast S1920 (m ((c.tc : Thread nD τ).loc main_arg41) : FVec Ideal S1x5x384 .f32) shapeCasts_S1x5x384_S1920 : FVec Ideal S1920 .f32) i, (shapeCast S1920 (m ((c.tc : Thread nD τ).loc main_arg57) : FVec Ideal S1x5x384 .f32) shapeCasts_S1x5x384_S1920 : FVec Ideal S1920 .f32) i)⟩,
    ⟨S384, fun i => ((shapeCast S384 (m ((c.tc : Thread nD τ).loc main_arg10) : FVec Ideal S1x384 .f32) shapeCasts_S1x384_S384 : FVec Ideal S384 .f32) i, (shapeCast S384 (m ((c.tc : Thread nD τ).loc main_arg26) : FVec Ideal S1x384 .f32) shapeCasts_S1x384_S384 : FVec Ideal S384 .f32) i, (shapeCast S384 (m ((c.tc : Thread nD τ).loc main_arg42) : FVec Ideal S1x384 .f32) shapeCasts_S1x384_S384 : FVec Ideal S384 .f32) i, (shapeCast S384 (m ((c.tc : Thread nD τ).loc main_arg58) : FVec Ideal S1x384 .f32) shapeCasts_S1x384_S384 : FVec Ideal S384 .f32) i)⟩,
    ⟨S64, fun i => ((shapeCast S64 (m ((c.tc : Thread nD τ).loc main_arg11) : FVec Ideal S1x2x32 .f32) shapeCasts_S1x2x32_S64 : FVec Ideal S64 .f32) i, (shapeCast S64 (m ((c.tc : Thread nD τ).loc main_arg27) : FVec Ideal S1x2x32 .f32) shapeCasts_S1x2x32_S64 : FVec Ideal S64 .f32) i, (shapeCast S64 (m ((c.tc : Thread nD τ).loc main_arg43) : FVec Ideal S1x2x32 .f32) shapeCasts_S1x2x32_S64 : FVec Ideal S64 .f32) i, (shapeCast S64 (m ((c.tc : Thread nD τ).loc main_arg59) : FVec Ideal S1x2x32 .f32) shapeCasts_S1x2x32_S64 : FVec Ideal S64 .f32) i)⟩,
    ⟨S64, fun i => ((shapeCast S64 (m ((c.tc : Thread nD τ).loc main_arg12) : FVec Ideal S1x2x32 .f32) shapeCasts_S1x2x32_S64 : FVec Ideal S64 .f32) i, (shapeCast S64 (m ((c.tc : Thread nD τ).loc main_arg28) : FVec Ideal S1x2x32 .f32) shapeCasts_S1x2x32_S64 : FVec Ideal S64 .f32) i, (shapeCast S64 (m ((c.tc : Thread nD τ).loc main_arg44) : FVec Ideal S1x2x32 .f32) shapeCasts_S1x2x32_S64 : FVec Ideal S64 .f32) i, (shapeCast S64 (m ((c.tc : Thread nD τ).loc main_arg60) : FVec Ideal S1x2x32 .f32) shapeCasts_S1x2x32_S64 : FVec Ideal S64 .f32) i)⟩,
    ⟨S32, fun i => ((shapeCast S32 (m ((c.tc : Thread nD τ).loc main_arg13) : FVec Ideal S1x32 .f32) shapeCasts_S1x32_S32 : FVec Ideal S32 .f32) i, (shapeCast S32 (m ((c.tc : Thread nD τ).loc main_arg29) : FVec Ideal S1x32 .f32) shapeCasts_S1x32_S32 : FVec Ideal S32 .f32) i, (shapeCast S32 (m ((c.tc : Thread nD τ).loc main_arg45) : FVec Ideal S1x32 .f32) shapeCasts_S1x32_S32 : FVec Ideal S32 .f32) i, (shapeCast S32 (m ((c.tc : Thread nD τ).loc main_arg61) : FVec Ideal S1x32 .f32) shapeCasts_S1x32_S32 : FVec Ideal S32 .f32) i)⟩,
    ⟨S256, fun i => ((shapeCast S256 (m ((c.tc : Thread nD τ).loc main_arg14) : FVec Ideal S1x256 .f32) shapeCasts_S1x256_S256 : FVec Ideal S256 .f32) i, (shapeCast S256 (m ((c.tc : Thread nD τ).loc main_arg30) : FVec Ideal S1x256 .f32) shapeCasts_S1x256_S256 : FVec Ideal S256 .f32) i, (shapeCast S256 (m ((c.tc : Thread nD τ).loc main_arg46) : FVec Ideal S1x256 .f32) shapeCasts_S1x256_S256 : FVec Ideal S256 .f32) i, (shapeCast S256 (m ((c.tc : Thread nD τ).loc main_arg62) : FVec Ideal S1x256 .f32) shapeCasts_S1x256_S256 : FVec Ideal S256 .f32) i)⟩,
    ⟨S1024, fun i => ((m ((c.tc : Thread nD τ).loc main_arg15) : FVec Ideal S1024 .f32) i, (m ((c.tc : Thread nD τ).loc main_arg31) : FVec Ideal S1024 .f32) i, (m ((c.tc : Thread nD τ).loc main_arg47) : FVec Ideal S1024 .f32) i, (m ((c.tc : Thread nD τ).loc main_arg63) : FVec Ideal S1024 .f32) i)⟩]

/-- A function of the entries of every weight. -/
def pieces (f : EReal × EReal × EReal × EReal → EReal) : List ((s : Shape) × (s.Idx → EReal)) :=
  (quads m c).map fun p => ⟨p.1, fun i => f (p.2 i)⟩

theorem fits0 : Shape.Concatenates ((quads m c).map (·.1)) S85728 0 := by
  unfold quads
  exact concatenates_S1024_S12288_S512_S1024_S64_S512_S512_S65536_S512_S1920_S384_S64_S64_S32_S256_S1024_S85728_d0

theorem fits (f : EReal × EReal × EReal × EReal → EReal) : Shape.Concatenates ((pieces m c f).map (·.1)) S85728 0 := by
  unfold pieces quads
  exact concatenates_S1024_S12288_S512_S1024_S64_S512_S512_S65536_S512_S1920_S384_S64_S64_S32_S256_S1024_S85728_d0

/-- A function of the entries, laid in rows. -/
def laid (f : EReal × EReal × EReal × EReal → EReal) : FVec Ideal S88x1024 .f32 :=
  shapeCast S88x1024 (filled (concatenate S85728 0 (pieces m c f) (fits m c f))) shapeCasts_S90112_S88x1024

theorem zeros (i : S4384.Idx) : (broadcastInDim S4384 ![] bcast_S_S4384 (constant (F := Ideal) S_ .f32 0x00000000#32) : FVec Ideal S4384 .f32) i = (0 : EReal) := by
  obtain ⟨r, rfl⟩ : ∃ r : Fin 4384, i = ix1 r := ⟨i 0, by funext a; match a with | ⟨0, _⟩ => rfl⟩
  pointwise

set_option maxHeartbeats 8000000 in
/-- The reference's rows. -/
theorem refG (X : FVec Ideal S88x1024 .f32) (h : X = (shapeCast _ (concatenate S90112 0 [⟨S85728, ((concatenate S85728 0 [⟨S1024, (((launchContents m c) (Proc.devRef .tc main_arg16)) : (⟨S1024, .f32⟩ : BufTy).Contents (Elt Ideal))⟩, ⟨S12288, ((shapeCast _ ((launchContents m c) (Proc.devRef .tc main_arg17)) shapeCasts_S2x6144_S12288) : (⟨S12288, .f32⟩ : BufTy).Contents (Elt Ideal))⟩, ⟨S512, ((shapeCast _ ((launchContents m c) (Proc.devRef .tc main_arg18)) shapeCasts_S2x2x128_S512) : (⟨S512, .f32⟩ : BufTy).Contents (Elt Ideal))⟩, ⟨S1024, ((shapeCast _ ((launchContents m c) (Proc.devRef .tc main_arg19)) shapeCasts_S1x2x16x32_S1024) : (⟨S1024, .f32⟩ : BufTy).Contents (Elt Ideal))⟩, ⟨S64, ((shapeCast _ ((launchContents m c) (Proc.devRef .tc main_arg20)) shapeCasts_S1x2x32_S64) : (⟨S64, .f32⟩ : BufTy).Contents (Elt Ideal))⟩, ⟨S512, ((shapeCast _ ((launchContents m c) (Proc.devRef .tc main_arg21)) shapeCasts_S1x512_S512) : (⟨S512, .f32⟩ : BufTy).Contents (Elt Ideal))⟩, ⟨S512, ((shapeCast _ ((launchContents m c) (Proc.devRef .tc main_arg22)) shapeCasts_S1x512_S512) : (⟨S512, .f32⟩ : BufTy).Contents (Elt Ideal))⟩, ⟨S65536, ((shapeCast _ ((launchContents m c) (Proc.devRef .tc main_arg23)) shapeCasts_S1x4x128x128_S65536) : (⟨S65536, .f32⟩ : BufTy).Contents (Elt Ideal))⟩, ⟨S512, ((shapeCast _ ((launchContents m c) (Proc.devRef .tc main_arg24)) shapeCasts_S1x4x128_S512) : (⟨S512, .f32⟩ : BufTy).Contents (Elt Ideal))⟩, ⟨S1920, ((shapeCast _ ((launchContents m c) (Proc.devRef .tc main_arg25)) shapeCasts_S1x5x384_S1920) : (⟨S1920, .f32⟩ : BufTy).Contents (Elt Ideal))⟩, ⟨S384, ((shapeCast _ ((launchContents m c) (Proc.devRef .tc main_arg26)) shapeCasts_S1x384_S384) : (⟨S384, .f32⟩ : BufTy).Contents (Elt Ideal))⟩, ⟨S64, ((shapeCast _ ((launchContents m c) (Proc.devRef .tc main_arg27)) shapeCasts_S1x2x32_S64) : (⟨S64, .f32⟩ : BufTy).Contents (Elt Ideal))⟩, ⟨S64, ((shapeCast _ ((launchContents m c) (Proc.devRef .tc main_arg28)) shapeCasts_S1x2x32_S64) : (⟨S64, .f32⟩ : BufTy).Contents (Elt Ideal))⟩, ⟨S32, ((shapeCast _ ((launchContents m c) (Proc.devRef .tc main_arg29)) shapeCasts_S1x32_S32) : (⟨S32, .f32⟩ : BufTy).Contents (Elt Ideal))⟩, ⟨S256, ((shapeCast _ ((launchContents m c) (Proc.devRef .tc main_arg30)) shapeCasts_S1x256_S256) : (⟨S256, .f32⟩ : BufTy).Contents (Elt Ideal))⟩, ⟨S1024, (((launchContents m c) (Proc.devRef .tc main_arg31)) : (⟨S1024, .f32⟩ : BufTy).Contents (Elt Ideal))⟩] concatenates_S1024_S12288_S512_S1024_S64_S512_S512_S65536_S512_S1920_S384_S64_S64_S32_S256_S1024_S85728_d0 : (⟨S85728, .f32⟩ : BufTy).Contents (Elt Ideal)))⟩, ⟨S4384, (broadcastInDim S4384 ![] bcast_S_S4384 (constant S_ .f32 0x00000000#32))⟩] concatenates_S85728_S4384_S90112_d0) shapeCasts_S90112_S88x1024 : FVec Ideal S88x1024 .f32)) :
    X = laid m c fun q => q.2.1 := by
  rw [h]
  unfold laid
  rw [← concat_filled _ _ zeros concatenates_S85728_S4384_S90112_d0]
  rfl

set_option maxHeartbeats 8000000 in
/-- The reference's rows. -/
theorem refD (X : FVec Ideal S88x1024 .f32) (h : X = (shapeCast _ (concatenate S90112 0 [⟨S85728, (res_main_v416 (launchContents m c))⟩, ⟨S4384, (broadcastInDim S4384 ![] bcast_S_S4384 (constant S_ .f32 0x00000000#32))⟩] concatenates_S85728_S4384_S90112_d0) shapeCasts_S90112_S88x1024 : FVec Ideal S88x1024 .f32)) :
    X = laid m c fun q => delta q.1 q.2.1 q.2.2.1 q.2.2.2 := by
  rw [h]
  unfold laid
  rw [← concat_filled _ _ zeros concatenates_S85728_S4384_S90112_d0]
  rfl

set_option maxHeartbeats 8000000 in
/-- The reference's rows. -/
theorem refM (X : FVec Ideal S88x1024 .f32) (h : X = (shapeCast _ (concatenate S90112 0 [⟨S85728, ((concatenate S85728 0 [⟨S1024, ((res_main_v4 (launchContents m c)) : (⟨S1024, .f32⟩ : BufTy).Contents (Elt Ideal))⟩, ⟨S12288, ((shapeCast _ (res_main_v28 (launchContents m c)) shapeCasts_S2x6144_S12288) : (⟨S12288, .f32⟩ : BufTy).Contents (Elt Ideal))⟩, ⟨S512, ((shapeCast _ (res_main_v52 (launchContents m c)) shapeCasts_S2x2x128_S512) : (⟨S512, .f32⟩ : BufTy).Contents (Elt Ideal))⟩, ⟨S1024, ((shapeCast _ (res_main_v76 (launchContents m c)) shapeCasts_S1x2x16x32_S1024) : (⟨S1024, .f32⟩ : BufTy).Contents (Elt Ideal))⟩, ⟨S64, ((shapeCast _ (res_main_v100 (launchContents m c)) shapeCasts_S1x2x32_S64) : (⟨S64, .f32⟩ : BufTy).Contents (Elt Ideal))⟩, ⟨S512, ((shapeCast _ (res_main_v124 (launchContents m c)) shapeCasts_S1x512_S512) : (⟨S512, .f32⟩ : BufTy).Contents (Elt Ideal))⟩, ⟨S512, ((shapeCast _ (res_main_v148 (launchContents m c)) shapeCasts_S1x512_S512) : (⟨S512, .f32⟩ : BufTy).Contents (Elt Ideal))⟩, ⟨S65536, ((shapeCast _ (res_main_v172 (launchContents m c)) shapeCasts_S1x4x128x128_S65536) : (⟨S65536, .f32⟩ : BufTy).Contents (Elt Ideal))⟩, ⟨S512, ((shapeCast _ (res_main_v196 (launchContents m c)) shapeCasts_S1x4x128_S512) : (⟨S512, .f32⟩ : BufTy).Contents (Elt Ideal))⟩, ⟨S1920, ((shapeCast _ (res_main_v220 (launchContents m c)) shapeCasts_S1x5x384_S1920) : (⟨S1920, .f32⟩ : BufTy).Contents (Elt Ideal))⟩, ⟨S384, ((shapeCast _ (res_main_v244 (launchContents m c)) shapeCasts_S1x384_S384) : (⟨S384, .f32⟩ : BufTy).Contents (Elt Ideal))⟩, ⟨S64, ((shapeCast _ (res_main_v268 (launchContents m c)) shapeCasts_S1x2x32_S64) : (⟨S64, .f32⟩ : BufTy).Contents (Elt Ideal))⟩, ⟨S64, ((shapeCast _ (res_main_v292 (launchContents m c)) shapeCasts_S1x2x32_S64) : (⟨S64, .f32⟩ : BufTy).Contents (Elt Ideal))⟩, ⟨S32, ((shapeCast _ (res_main_v316 (launchContents m c)) shapeCasts_S1x32_S32) : (⟨S32, .f32⟩ : BufTy).Contents (Elt Ideal))⟩, ⟨S256, ((shapeCast _ (res_main_v340 (launchContents m c)) shapeCasts_S1x256_S256) : (⟨S256, .f32⟩ : BufTy).Contents (Elt Ideal))⟩, ⟨S1024, ((res_main_v364 (launchContents m c)) : (⟨S1024, .f32⟩ : BufTy).Contents (Elt Ideal))⟩] concatenates_S1024_S12288_S512_S1024_S64_S512_S512_S65536_S512_S1920_S384_S64_S64_S32_S256_S1024_S85728_d0 : (⟨S85728, .f32⟩ : BufTy).Contents (Elt Ideal)))⟩, ⟨S4384, (broadcastInDim S4384 ![] bcast_S_S4384 (constant S_ .f32 0x00000000#32))⟩] concatenates_S85728_S4384_S90112_d0) shapeCasts_S90112_S88x1024 : FVec Ideal S88x1024 .f32)) :
    X = laid m c fun q => newM q.2.1 q.2.2.1 := by
  rw [h]
  unfold laid
  rw [← concat_filled _ _ zeros concatenates_S85728_S4384_S90112_d0]
  rfl

set_option maxHeartbeats 8000000 in
/-- The reference's rows. -/
theorem refV (X : FVec Ideal S88x1024 .f32) (h : X = (shapeCast _ (concatenate S90112 0 [⟨S85728, ((concatenate S85728 0 [⟨S1024, ((res_main_v10 (launchContents m c)) : (⟨S1024, .f32⟩ : BufTy).Contents (Elt Ideal))⟩, ⟨S12288, ((shapeCast _ (res_main_v34 (launchContents m c)) shapeCasts_S2x6144_S12288) : (⟨S12288, .f32⟩ : BufTy).Contents (Elt Ideal))⟩, ⟨S512, ((shapeCast _ (res_main_v58 (launchContents m c)) shapeCasts_S2x2x128_S512) : (⟨S512, .f32⟩ : BufTy).Contents (Elt Ideal))⟩, ⟨S1024, ((shapeCast _ (res_main_v82 (launchContents m c)) shapeCasts_S1x2x16x32_S1024) : (⟨S1024, .f32⟩ : BufTy).Contents (Elt Ideal))⟩, ⟨S64, ((shapeCast _ (res_main_v106 (launchContents m c)) shapeCasts_S1x2x32_S64) : (⟨S64, .f32⟩ : BufTy).Contents (Elt Ideal))⟩, ⟨S512, ((shapeCast _ (res_main_v130 (launchContents m c)) shapeCasts_S1x512_S512) : (⟨S512, .f32⟩ : BufTy).Contents (Elt Ideal))⟩, ⟨S512, ((shapeCast _ (res_main_v154 (launchContents m c)) shapeCasts_S1x512_S512) : (⟨S512, .f32⟩ : BufTy).Contents (Elt Ideal))⟩, ⟨S65536, ((shapeCast _ (res_main_v178 (launchContents m c)) shapeCasts_S1x4x128x128_S65536) : (⟨S65536, .f32⟩ : BufTy).Contents (Elt Ideal))⟩, ⟨S512, ((shapeCast _ (res_main_v202 (launchContents m c)) shapeCasts_S1x4x128_S512) : (⟨S512, .f32⟩ : BufTy).Contents (Elt Ideal))⟩, ⟨S1920, ((shapeCast _ (res_main_v226 (launchContents m c)) shapeCasts_S1x5x384_S1920) : (⟨S1920, .f32⟩ : BufTy).Contents (Elt Ideal))⟩, ⟨S384, ((shapeCast _ (res_main_v250 (launchContents m c)) shapeCasts_S1x384_S384) : (⟨S384, .f32⟩ : BufTy).Contents (Elt Ideal))⟩, ⟨S64, ((shapeCast _ (res_main_v274 (launchContents m c)) shapeCasts_S1x2x32_S64) : (⟨S64, .f32⟩ : BufTy).Contents (Elt Ideal))⟩, ⟨S64, ((shapeCast _ (res_main_v298 (launchContents m c)) shapeCasts_S1x2x32_S64) : (⟨S64, .f32⟩ : BufTy).Contents (Elt Ideal))⟩, ⟨S32, ((shapeCast _ (res_main_v322 (launchContents m c)) shapeCasts_S1x32_S32) : (⟨S32, .f32⟩ : BufTy).Contents (Elt Ideal))⟩, ⟨S256, ((shapeCast _ (res_main_v346 (launchContents m c)) shapeCasts_S1x256_S256) : (⟨S256, .f32⟩ : BufTy).Contents (Elt Ideal))⟩, ⟨S1024, ((res_main_v370 (launchContents m c)) : (⟨S1024, .f32⟩ : BufTy).Contents (Elt Ideal))⟩] concatenates_S1024_S12288_S512_S1024_S64_S512_S512_S65536_S512_S1920_S384_S64_S64_S32_S256_S1024_S85728_d0 : (⟨S85728, .f32⟩ : BufTy).Contents (Elt Ideal)))⟩, ⟨S4384, (broadcastInDim S4384 ![] bcast_S_S4384 (constant S_ .f32 0x00000000#32))⟩] concatenates_S85728_S4384_S90112_d0) shapeCasts_S90112_S88x1024 : FVec Ideal S88x1024 .f32)) :
    X = laid m c fun q => newV q.2.1 q.2.2.2 := by
  rw [h]
  unfold laid
  rw [← concat_filled _ _ zeros concatenates_S85728_S4384_S90112_d0]
  rfl

end Cert.Reference29Ideal.Result

namespace Cert.Proof.AdamSmall

open Cert.Kernel29Ideal.Result

variable (m : (ℓ : Loc Cert.Kernel29Ideal.nD Cert.Kernel29Ideal.τ Cert.Kernel29Ideal.sig) → Buf (Elt Ideal) ℓ)
variable (m' : (ℓ : Loc Cert.Reference29Ideal.nD Cert.Reference29Ideal.τ Cert.Reference29Ideal.sig) → Buf (Elt Ideal) ℓ) (c : Dev Cert.Kernel29Ideal.nD)

/-- The two runs start from the same arguments. -/
def Agree : Prop :=
  m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
  ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
  ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
  ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
  ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
  ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
  ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
  ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)
  ∧ m' ((c.tc : Thread Cert.Reference29Ideal.nD Cert.Reference29Ideal.τ).loc Cert.Reference29Ideal.main_arg8) = m ((c.tc : Thread Cert.Kernel29Ideal.nD Cert.Kernel29Ideal.τ).loc Cert.Kernel29Ideal.main_arg8)
  ∧ m' ((c.tc : Thread Cert.Reference29Ideal.nD Cert.Reference29Ideal.τ).loc Cert.Reference29Ideal.main_arg9) = m ((c.tc : Thread Cert.Kernel29Ideal.nD Cert.Kernel29Ideal.τ).loc Cert.Kernel29Ideal.main_arg9)
  ∧ m' ((c.tc : Thread Cert.Reference29Ideal.nD Cert.Reference29Ideal.τ).loc Cert.Reference29Ideal.main_arg10) = m ((c.tc : Thread Cert.Kernel29Ideal.nD Cert.Kernel29Ideal.τ).loc Cert.Kernel29Ideal.main_arg10)
  ∧ m' ((c.tc : Thread Cert.Reference29Ideal.nD Cert.Reference29Ideal.τ).loc Cert.Reference29Ideal.main_arg11) = m ((c.tc : Thread Cert.Kernel29Ideal.nD Cert.Kernel29Ideal.τ).loc Cert.Kernel29Ideal.main_arg11)
  ∧ m' ((c.tc : Thread Cert.Reference29Ideal.nD Cert.Reference29Ideal.τ).loc Cert.Reference29Ideal.main_arg12) = m ((c.tc : Thread Cert.Kernel29Ideal.nD Cert.Kernel29Ideal.τ).loc Cert.Kernel29Ideal.main_arg12)
  ∧ m' ((c.tc : Thread Cert.Reference29Ideal.nD Cert.Reference29Ideal.τ).loc Cert.Reference29Ideal.main_arg13) = m ((c.tc : Thread Cert.Kernel29Ideal.nD Cert.Kernel29Ideal.τ).loc Cert.Kernel29Ideal.main_arg13)
  ∧ m' ((c.tc : Thread Cert.Reference29Ideal.nD Cert.Reference29Ideal.τ).loc Cert.Reference29Ideal.main_arg14) = m ((c.tc : Thread Cert.Kernel29Ideal.nD Cert.Kernel29Ideal.τ).loc Cert.Kernel29Ideal.main_arg14)
  ∧ m' ((c.tc : Thread Cert.Reference29Ideal.nD Cert.Reference29Ideal.τ).loc Cert.Reference29Ideal.main_arg15) = m ((c.tc : Thread Cert.Kernel29Ideal.nD Cert.Kernel29Ideal.τ).loc Cert.Kernel29Ideal.main_arg15)
  ∧ m' ((c.tc : Thread Cert.Reference29Ideal.nD Cert.Reference29Ideal.τ).loc Cert.Reference29Ideal.main_arg16) = m ((c.tc : Thread Cert.Kernel29Ideal.nD Cert.Kernel29Ideal.τ).loc Cert.Kernel29Ideal.main_arg16)
  ∧ m' ((c.tc : Thread Cert.Reference29Ideal.nD Cert.Reference29Ideal.τ).loc Cert.Reference29Ideal.main_arg17) = m ((c.tc : Thread Cert.Kernel29Ideal.nD Cert.Kernel29Ideal.τ).loc Cert.Kernel29Ideal.main_arg17)
  ∧ m' ((c.tc : Thread Cert.Reference29Ideal.nD Cert.Reference29Ideal.τ).loc Cert.Reference29Ideal.main_arg18) = m ((c.tc : Thread Cert.Kernel29Ideal.nD Cert.Kernel29Ideal.τ).loc Cert.Kernel29Ideal.main_arg18)
  ∧ m' ((c.tc : Thread Cert.Reference29Ideal.nD Cert.Reference29Ideal.τ).loc Cert.Reference29Ideal.main_arg19) = m ((c.tc : Thread Cert.Kernel29Ideal.nD Cert.Kernel29Ideal.τ).loc Cert.Kernel29Ideal.main_arg19)
  ∧ m' ((c.tc : Thread Cert.Reference29Ideal.nD Cert.Reference29Ideal.τ).loc Cert.Reference29Ideal.main_arg20) = m ((c.tc : Thread Cert.Kernel29Ideal.nD Cert.Kernel29Ideal.τ).loc Cert.Kernel29Ideal.main_arg20)
  ∧ m' ((c.tc : Thread Cert.Reference29Ideal.nD Cert.Reference29Ideal.τ).loc Cert.Reference29Ideal.main_arg21) = m ((c.tc : Thread Cert.Kernel29Ideal.nD Cert.Kernel29Ideal.τ).loc Cert.Kernel29Ideal.main_arg21)
  ∧ m' ((c.tc : Thread Cert.Reference29Ideal.nD Cert.Reference29Ideal.τ).loc Cert.Reference29Ideal.main_arg22) = m ((c.tc : Thread Cert.Kernel29Ideal.nD Cert.Kernel29Ideal.τ).loc Cert.Kernel29Ideal.main_arg22)
  ∧ m' ((c.tc : Thread Cert.Reference29Ideal.nD Cert.Reference29Ideal.τ).loc Cert.Reference29Ideal.main_arg23) = m ((c.tc : Thread Cert.Kernel29Ideal.nD Cert.Kernel29Ideal.τ).loc Cert.Kernel29Ideal.main_arg23)
  ∧ m' ((c.tc : Thread Cert.Reference29Ideal.nD Cert.Reference29Ideal.τ).loc Cert.Reference29Ideal.main_arg24) = m ((c.tc : Thread Cert.Kernel29Ideal.nD Cert.Kernel29Ideal.τ).loc Cert.Kernel29Ideal.main_arg24)
  ∧ m' ((c.tc : Thread Cert.Reference29Ideal.nD Cert.Reference29Ideal.τ).loc Cert.Reference29Ideal.main_arg25) = m ((c.tc : Thread Cert.Kernel29Ideal.nD Cert.Kernel29Ideal.τ).loc Cert.Kernel29Ideal.main_arg25)
  ∧ m' ((c.tc : Thread Cert.Reference29Ideal.nD Cert.Reference29Ideal.τ).loc Cert.Reference29Ideal.main_arg26) = m ((c.tc : Thread Cert.Kernel29Ideal.nD Cert.Kernel29Ideal.τ).loc Cert.Kernel29Ideal.main_arg26)
  ∧ m' ((c.tc : Thread Cert.Reference29Ideal.nD Cert.Reference29Ideal.τ).loc Cert.Reference29Ideal.main_arg27) = m ((c.tc : Thread Cert.Kernel29Ideal.nD Cert.Kernel29Ideal.τ).loc Cert.Kernel29Ideal.main_arg27)
  ∧ m' ((c.tc : Thread Cert.Reference29Ideal.nD Cert.Reference29Ideal.τ).loc Cert.Reference29Ideal.main_arg28) = m ((c.tc : Thread Cert.Kernel29Ideal.nD Cert.Kernel29Ideal.τ).loc Cert.Kernel29Ideal.main_arg28)
  ∧ m' ((c.tc : Thread Cert.Reference29Ideal.nD Cert.Reference29Ideal.τ).loc Cert.Reference29Ideal.main_arg29) = m ((c.tc : Thread Cert.Kernel29Ideal.nD Cert.Kernel29Ideal.τ).loc Cert.Kernel29Ideal.main_arg29)
  ∧ m' ((c.tc : Thread Cert.Reference29Ideal.nD Cert.Reference29Ideal.τ).loc Cert.Reference29Ideal.main_arg30) = m ((c.tc : Thread Cert.Kernel29Ideal.nD Cert.Kernel29Ideal.τ).loc Cert.Kernel29Ideal.main_arg30)
  ∧ m' ((c.tc : Thread Cert.Reference29Ideal.nD Cert.Reference29Ideal.τ).loc Cert.Reference29Ideal.main_arg31) = m ((c.tc : Thread Cert.Kernel29Ideal.nD Cert.Kernel29Ideal.τ).loc Cert.Kernel29Ideal.main_arg31)
  ∧ m' ((c.tc : Thread Cert.Reference29Ideal.nD Cert.Reference29Ideal.τ).loc Cert.Reference29Ideal.main_arg32) = m ((c.tc : Thread Cert.Kernel29Ideal.nD Cert.Kernel29Ideal.τ).loc Cert.Kernel29Ideal.main_arg32)
  ∧ m' ((c.tc : Thread Cert.Reference29Ideal.nD Cert.Reference29Ideal.τ).loc Cert.Reference29Ideal.main_arg33) = m ((c.tc : Thread Cert.Kernel29Ideal.nD Cert.Kernel29Ideal.τ).loc Cert.Kernel29Ideal.main_arg33)
  ∧ m' ((c.tc : Thread Cert.Reference29Ideal.nD Cert.Reference29Ideal.τ).loc Cert.Reference29Ideal.main_arg34) = m ((c.tc : Thread Cert.Kernel29Ideal.nD Cert.Kernel29Ideal.τ).loc Cert.Kernel29Ideal.main_arg34)
  ∧ m' ((c.tc : Thread Cert.Reference29Ideal.nD Cert.Reference29Ideal.τ).loc Cert.Reference29Ideal.main_arg35) = m ((c.tc : Thread Cert.Kernel29Ideal.nD Cert.Kernel29Ideal.τ).loc Cert.Kernel29Ideal.main_arg35)
  ∧ m' ((c.tc : Thread Cert.Reference29Ideal.nD Cert.Reference29Ideal.τ).loc Cert.Reference29Ideal.main_arg36) = m ((c.tc : Thread Cert.Kernel29Ideal.nD Cert.Kernel29Ideal.τ).loc Cert.Kernel29Ideal.main_arg36)
  ∧ m' ((c.tc : Thread Cert.Reference29Ideal.nD Cert.Reference29Ideal.τ).loc Cert.Reference29Ideal.main_arg37) = m ((c.tc : Thread Cert.Kernel29Ideal.nD Cert.Kernel29Ideal.τ).loc Cert.Kernel29Ideal.main_arg37)
  ∧ m' ((c.tc : Thread Cert.Reference29Ideal.nD Cert.Reference29Ideal.τ).loc Cert.Reference29Ideal.main_arg38) = m ((c.tc : Thread Cert.Kernel29Ideal.nD Cert.Kernel29Ideal.τ).loc Cert.Kernel29Ideal.main_arg38)
  ∧ m' ((c.tc : Thread Cert.Reference29Ideal.nD Cert.Reference29Ideal.τ).loc Cert.Reference29Ideal.main_arg39) = m ((c.tc : Thread Cert.Kernel29Ideal.nD Cert.Kernel29Ideal.τ).loc Cert.Kernel29Ideal.main_arg39)
  ∧ m' ((c.tc : Thread Cert.Reference29Ideal.nD Cert.Reference29Ideal.τ).loc Cert.Reference29Ideal.main_arg40) = m ((c.tc : Thread Cert.Kernel29Ideal.nD Cert.Kernel29Ideal.τ).loc Cert.Kernel29Ideal.main_arg40)
  ∧ m' ((c.tc : Thread Cert.Reference29Ideal.nD Cert.Reference29Ideal.τ).loc Cert.Reference29Ideal.main_arg41) = m ((c.tc : Thread Cert.Kernel29Ideal.nD Cert.Kernel29Ideal.τ).loc Cert.Kernel29Ideal.main_arg41)
  ∧ m' ((c.tc : Thread Cert.Reference29Ideal.nD Cert.Reference29Ideal.τ).loc Cert.Reference29Ideal.main_arg42) = m ((c.tc : Thread Cert.Kernel29Ideal.nD Cert.Kernel29Ideal.τ).loc Cert.Kernel29Ideal.main_arg42)
  ∧ m' ((c.tc : Thread Cert.Reference29Ideal.nD Cert.Reference29Ideal.τ).loc Cert.Reference29Ideal.main_arg43) = m ((c.tc : Thread Cert.Kernel29Ideal.nD Cert.Kernel29Ideal.τ).loc Cert.Kernel29Ideal.main_arg43)
  ∧ m' ((c.tc : Thread Cert.Reference29Ideal.nD Cert.Reference29Ideal.τ).loc Cert.Reference29Ideal.main_arg44) = m ((c.tc : Thread Cert.Kernel29Ideal.nD Cert.Kernel29Ideal.τ).loc Cert.Kernel29Ideal.main_arg44)
  ∧ m' ((c.tc : Thread Cert.Reference29Ideal.nD Cert.Reference29Ideal.τ).loc Cert.Reference29Ideal.main_arg45) = m ((c.tc : Thread Cert.Kernel29Ideal.nD Cert.Kernel29Ideal.τ).loc Cert.Kernel29Ideal.main_arg45)
  ∧ m' ((c.tc : Thread Cert.Reference29Ideal.nD Cert.Reference29Ideal.τ).loc Cert.Reference29Ideal.main_arg46) = m ((c.tc : Thread Cert.Kernel29Ideal.nD Cert.Kernel29Ideal.τ).loc Cert.Kernel29Ideal.main_arg46)
  ∧ m' ((c.tc : Thread Cert.Reference29Ideal.nD Cert.Reference29Ideal.τ).loc Cert.Reference29Ideal.main_arg47) = m ((c.tc : Thread Cert.Kernel29Ideal.nD Cert.Kernel29Ideal.τ).loc Cert.Kernel29Ideal.main_arg47)
  ∧ m' ((c.tc : Thread Cert.Reference29Ideal.nD Cert.Reference29Ideal.τ).loc Cert.Reference29Ideal.main_arg48) = m ((c.tc : Thread Cert.Kernel29Ideal.nD Cert.Kernel29Ideal.τ).loc Cert.Kernel29Ideal.main_arg48)
  ∧ m' ((c.tc : Thread Cert.Reference29Ideal.nD Cert.Reference29Ideal.τ).loc Cert.Reference29Ideal.main_arg49) = m ((c.tc : Thread Cert.Kernel29Ideal.nD Cert.Kernel29Ideal.τ).loc Cert.Kernel29Ideal.main_arg49)
  ∧ m' ((c.tc : Thread Cert.Reference29Ideal.nD Cert.Reference29Ideal.τ).loc Cert.Reference29Ideal.main_arg50) = m ((c.tc : Thread Cert.Kernel29Ideal.nD Cert.Kernel29Ideal.τ).loc Cert.Kernel29Ideal.main_arg50)
  ∧ m' ((c.tc : Thread Cert.Reference29Ideal.nD Cert.Reference29Ideal.τ).loc Cert.Reference29Ideal.main_arg51) = m ((c.tc : Thread Cert.Kernel29Ideal.nD Cert.Kernel29Ideal.τ).loc Cert.Kernel29Ideal.main_arg51)
  ∧ m' ((c.tc : Thread Cert.Reference29Ideal.nD Cert.Reference29Ideal.τ).loc Cert.Reference29Ideal.main_arg52) = m ((c.tc : Thread Cert.Kernel29Ideal.nD Cert.Kernel29Ideal.τ).loc Cert.Kernel29Ideal.main_arg52)
  ∧ m' ((c.tc : Thread Cert.Reference29Ideal.nD Cert.Reference29Ideal.τ).loc Cert.Reference29Ideal.main_arg53) = m ((c.tc : Thread Cert.Kernel29Ideal.nD Cert.Kernel29Ideal.τ).loc Cert.Kernel29Ideal.main_arg53)
  ∧ m' ((c.tc : Thread Cert.Reference29Ideal.nD Cert.Reference29Ideal.τ).loc Cert.Reference29Ideal.main_arg54) = m ((c.tc : Thread Cert.Kernel29Ideal.nD Cert.Kernel29Ideal.τ).loc Cert.Kernel29Ideal.main_arg54)
  ∧ m' ((c.tc : Thread Cert.Reference29Ideal.nD Cert.Reference29Ideal.τ).loc Cert.Reference29Ideal.main_arg55) = m ((c.tc : Thread Cert.Kernel29Ideal.nD Cert.Kernel29Ideal.τ).loc Cert.Kernel29Ideal.main_arg55)
  ∧ m' ((c.tc : Thread Cert.Reference29Ideal.nD Cert.Reference29Ideal.τ).loc Cert.Reference29Ideal.main_arg56) = m ((c.tc : Thread Cert.Kernel29Ideal.nD Cert.Kernel29Ideal.τ).loc Cert.Kernel29Ideal.main_arg56)
  ∧ m' ((c.tc : Thread Cert.Reference29Ideal.nD Cert.Reference29Ideal.τ).loc Cert.Reference29Ideal.main_arg57) = m ((c.tc : Thread Cert.Kernel29Ideal.nD Cert.Kernel29Ideal.τ).loc Cert.Kernel29Ideal.main_arg57)
  ∧ m' ((c.tc : Thread Cert.Reference29Ideal.nD Cert.Reference29Ideal.τ).loc Cert.Reference29Ideal.main_arg58) = m ((c.tc : Thread Cert.Kernel29Ideal.nD Cert.Kernel29Ideal.τ).loc Cert.Kernel29Ideal.main_arg58)
  ∧ m' ((c.tc : Thread Cert.Reference29Ideal.nD Cert.Reference29Ideal.τ).loc Cert.Reference29Ideal.main_arg59) = m ((c.tc : Thread Cert.Kernel29Ideal.nD Cert.Kernel29Ideal.τ).loc Cert.Kernel29Ideal.main_arg59)
  ∧ m' ((c.tc : Thread Cert.Reference29Ideal.nD Cert.Reference29Ideal.τ).loc Cert.Reference29Ideal.main_arg60) = m ((c.tc : Thread Cert.Kernel29Ideal.nD Cert.Kernel29Ideal.τ).loc Cert.Kernel29Ideal.main_arg60)
  ∧ m' ((c.tc : Thread Cert.Reference29Ideal.nD Cert.Reference29Ideal.τ).loc Cert.Reference29Ideal.main_arg61) = m ((c.tc : Thread Cert.Kernel29Ideal.nD Cert.Kernel29Ideal.τ).loc Cert.Kernel29Ideal.main_arg61)
  ∧ m' ((c.tc : Thread Cert.Reference29Ideal.nD Cert.Reference29Ideal.τ).loc Cert.Reference29Ideal.main_arg62) = m ((c.tc : Thread Cert.Kernel29Ideal.nD Cert.Kernel29Ideal.τ).loc Cert.Kernel29Ideal.main_arg62)
  ∧ m' ((c.tc : Thread Cert.Reference29Ideal.nD Cert.Reference29Ideal.τ).loc Cert.Reference29Ideal.main_arg63) = m ((c.tc : Thread Cert.Kernel29Ideal.nD Cert.Kernel29Ideal.τ).loc Cert.Kernel29Ideal.main_arg63)
  ∧ m' ((c.tc : Thread Cert.Reference29Ideal.nD Cert.Reference29Ideal.τ).loc Cert.Reference29Ideal.main_arg64) = m ((c.tc : Thread Cert.Kernel29Ideal.nD Cert.Kernel29Ideal.τ).loc Cert.Kernel29Ideal.main_arg64)

/-- So their entries are the same. -/
theorem quads_eq (h : Agree m m' c) : Cert.Reference29Ideal.Result.quads m' c = quads m c := by
  unfold Agree at h
  obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63, h64⟩ := h
  unfold Cert.Reference29Ideal.Result.quads quads
  rw [h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54, h55, h56, h57, h58, h59, h60, h61, h62, h63]

theorem laid_eq (h : Agree m m' c) (f : EReal × EReal × EReal × EReal → EReal) : Cert.Reference29Ideal.Result.laid m' c f = laid m c f := by
  have e := quads_eq m m' c h
  have e' : Cert.Reference29Ideal.Result.pieces m' c f = pieces m c f := by
    unfold Cert.Reference29Ideal.Result.pieces pieces
    rw [e]
  unfold Cert.Reference29Ideal.Result.laid laid
  exact rows_eq (Cert.Rows.concat_congr Cert.Kernel29Ideal.S85728 0 e' _ _)

set_option maxHeartbeats 4000000 in
/-- At exact arithmetic the kernel's rows are those of AdamW on each small weight. -/
theorem algebraic : Cert.algebraic_Kernel29Ideal_Reference29Ideal := by
  intro m ρ m' ρ' _ agree
  refine ⟨fun c => resG m c, fun c => resD m c, fun c => resM m c, fun c => resV m c,
    (θ_run Cert.Kernel29Ideal.defs _ _).mono (fun _ h c => ⟨(h c).1.trans (final4 m c), (h c).2.1.trans (final5 m c), (h c).2.2.1.trans (final6 m c), (h c).2.2.2.1.trans (final7 m c), (h c).2.2.2.2⟩)
      (Cert.Kernel29Ideal.Value.run_blocks m ρ), ?_⟩
  exact (θ_run Cert.Reference29Ideal.defs _ _).mono (fun _ h c => ⟨(Cert.Reference29Ideal.Result.refG m' c _ (h c).1).trans ((laid_eq m m' c (agree c) _).trans (resG_eq m c).symm),
      (Cert.Reference29Ideal.Result.refD m' c _ (h c).2.1).trans ((laid_eq m m' c (agree c) _).trans (resD_eq m c).symm),
      (Cert.Reference29Ideal.Result.refM m' c _ (h c).2.2.1).trans ((laid_eq m m' c (agree c) _).trans (resM_eq m c).symm),
      (Cert.Reference29Ideal.Result.refV m' c _ (h c).2.2.2.1).trans ((laid_eq m m' c (agree c) _).trans (resV_eq m c).symm), (h c).2.2.2.2⟩)
    (Cert.Reference29Ideal.Value.run (F := Ideal) m' ρ')

end Cert.Proof.AdamSmall
-- ==== Proof.lean ====
/-
  The certificate: every program runs to the end and leaves its arguments and its counters as they were, and each
  kernel's results are its reference's at exact arithmetic. The mathematics is in the modules imported from Proof/.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Value
public import proofs.«01_k».proof.Proof.Gen.Reference14Ideal
public import proofs.«01_k».proof.Proof.Gen.Reference14Ideal.Run
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Frame
public import proofs.«01_k».proof.Proof.Gen.Kernel26Ideal
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Frame
public import proofs.«01_k».proof.Proof.Gen.Kernel27Ideal
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Frame
public import proofs.«01_k».proof.Proof.Gen.Kernel28Ideal
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Frame
public import proofs.«01_k».proof.Proof.Gen.Kernel29Ideal
public import proofs.«01_k».proof.Proof.Gen.Kernel29Ideal.Value
public import proofs.«01_k».proof.Proof.Gen.Reference29Ideal
public import proofs.«01_k».proof.Proof.Gen.Reference29Ideal.Run
public import proofs.«01_k».proof.Proof.Gen.Pre_finite2
public import proofs.«01_k».proof.Proof.Gen.Pre_finite12
public import proofs.«01_k».proof.Proof.GateGrad
public import proofs.«01_k».proof.Proof.FfnIn1
public import proofs.«01_k».proof.Proof.ScanIn1
public import proofs.«01_k».proof.Proof.FfnIn0
public import proofs.«01_k».proof.Proof.FfnOut1
public import proofs.«01_k».proof.Proof.FfnOut0
public import proofs.«01_k».proof.Proof.ScanOut1
public import proofs.«01_k».proof.Proof.MixIn0
public import proofs.«01_k».proof.Proof.MixOut0
public import proofs.«01_k».proof.Proof.MixBack0
public import proofs.«01_k».proof.Proof.GateGrad0
public import proofs.«01_k».proof.Proof.FfnEntry1
public import proofs.«01_k».proof.Proof.ScanEntry1
public import proofs.«01_k».proof.Proof.FfnEntry0
public import proofs.«01_k».proof.Proof.FfnGate1
public import proofs.«01_k».proof.Proof.FfnExit1
public import proofs.«01_k».proof.Proof.FfnGate0
public import proofs.«01_k».proof.Proof.FfnExit0
public import proofs.«01_k».proof.Proof.MixExit0
public import proofs.«01_k».proof.Proof.MixEntry0
public import proofs.«01_k».proof.Proof.AdamMod
public import proofs.«01_k».proof.Proof.AdamFfnIn
public import proofs.«01_k».proof.Proof.AdamFfnOut
public import proofs.«01_k».proof.Proof.AdamSsdIn
public import proofs.«01_k».proof.Proof.AdamSsdOut
public import proofs.«01_k».proof.Proof.AdamMixIn
public import proofs.«01_k».proof.Proof.AdamMixOut
public import proofs.«01_k».proof.Proof.AdamSmall
public import Idealize.ShloMosaic.Lib.Quiescent

@[expose] public section

noncomputable section

namespace Cert.Proof

open Idealize.ShloMosaic Idealize.SL.Sem

theorem frame_ReferenceIdeal : Cert.quiescent_ReferenceIdeal := fun m ρ _ =>
  (θ_run Cert.ReferenceIdeal.defs _ _).mono (fun r h => ⟨fun c => (h c).2.2.2.2.2.2.2.2, sem_eq_zero_of_no_sems rfl r.2⟩) (Cert.ReferenceIdeal.Value.run (F := Ideal) m ρ)

theorem frame_Reference2Ideal : Cert.quiescent_Reference2Ideal := fun m ρ _ =>
  (θ_run Cert.Reference2Ideal.defs _ _).mono (fun r h => ⟨fun c => (h c).2, sem_eq_zero_of_no_sems rfl r.2⟩) (Cert.Reference2Ideal.Value.run (F := Ideal) m ρ)

theorem frame_Reference3Ideal : Cert.quiescent_Reference3Ideal := fun m ρ _ =>
  (θ_run Cert.Reference3Ideal.defs _ _).mono (fun r h => ⟨fun c => (h c).2, sem_eq_zero_of_no_sems rfl r.2⟩) (Cert.Reference3Ideal.Value.run (F := Ideal) m ρ)

theorem frame_Reference4Ideal : Cert.quiescent_Reference4Ideal := fun m ρ _ =>
  (θ_run Cert.Reference4Ideal.defs _ _).mono (fun r h => ⟨fun c => (h c).2, sem_eq_zero_of_no_sems rfl r.2⟩) (Cert.Reference4Ideal.Value.run (F := Ideal) m ρ)

theorem frame_Reference5Ideal : Cert.quiescent_Reference5Ideal := fun m ρ _ =>
  (θ_run Cert.Reference5Ideal.defs _ _).mono (fun r h => ⟨fun c => (h c).2, sem_eq_zero_of_no_sems rfl r.2⟩) (Cert.Reference5Ideal.Value.run (F := Ideal) m ρ)

theorem frame_Reference6Ideal : Cert.quiescent_Reference6Ideal := fun m ρ _ =>
  (θ_run Cert.Reference6Ideal.defs _ _).mono (fun r h => ⟨fun c => (h c).2, sem_eq_zero_of_no_sems rfl r.2⟩) (Cert.Reference6Ideal.Value.run (F := Ideal) m ρ)

theorem frame_Reference7Ideal : Cert.quiescent_Reference7Ideal := fun m ρ _ =>
  (θ_run Cert.Reference7Ideal.defs _ _).mono (fun r h => ⟨fun c => (h c).2, sem_eq_zero_of_no_sems rfl r.2⟩) (Cert.Reference7Ideal.Value.run (F := Ideal) m ρ)

theorem frame_Reference8Ideal : Cert.quiescent_Reference8Ideal := fun m ρ _ =>
  (θ_run Cert.Reference8Ideal.defs _ _).mono (fun r h => ⟨fun c => (h c).2, sem_eq_zero_of_no_sems rfl r.2⟩) (Cert.Reference8Ideal.Value.run (F := Ideal) m ρ)

theorem frame_Reference9Ideal : Cert.quiescent_Reference9Ideal := fun m ρ _ =>
  (θ_run Cert.Reference9Ideal.defs _ _).mono (fun r h => ⟨fun c => (h c).2, sem_eq_zero_of_no_sems rfl r.2⟩) (Cert.Reference9Ideal.Value.run (F := Ideal) m ρ)

theorem frame_Reference10Ideal : Cert.quiescent_Reference10Ideal := fun m ρ _ =>
  (θ_run Cert.Reference10Ideal.defs _ _).mono (fun r h => ⟨fun c => (h c).2, sem_eq_zero_of_no_sems rfl r.2⟩) (Cert.Reference10Ideal.Value.run (F := Ideal) m ρ)

theorem frame_Reference11Ideal : Cert.quiescent_Reference11Ideal := fun m ρ _ =>
  (θ_run Cert.Reference11Ideal.defs _ _).mono (fun r h => ⟨fun c => (h c).2, sem_eq_zero_of_no_sems rfl r.2⟩) (Cert.Reference11Ideal.Value.run (F := Ideal) m ρ)

theorem frame_Reference12Ideal : Cert.quiescent_Reference12Ideal := fun m ρ _ =>
  (θ_run Cert.Reference12Ideal.defs _ _).mono (fun r h => ⟨fun c => (h c).2, sem_eq_zero_of_no_sems rfl r.2⟩) (Cert.Reference12Ideal.Value.run (F := Ideal) m ρ)

theorem frame_Reference13Ideal : Cert.quiescent_Reference13Ideal := fun m ρ _ =>
  (θ_run Cert.Reference13Ideal.defs _ _).mono (fun r h => ⟨fun c => (h c).2.2.2.2.2, sem_eq_zero_of_no_sems rfl r.2⟩) (Cert.Reference13Ideal.Value.run (F := Ideal) m ρ)

theorem frame_Reference14Ideal : Cert.quiescent_Reference14Ideal := fun m ρ _ =>
  (θ_run Cert.Reference14Ideal.defs _ _).mono (fun r h => ⟨fun c => (h c).2.2.2, sem_eq_zero_of_no_sems rfl r.2⟩) (Cert.Reference14Ideal.Value.run (F := Ideal) m ρ)

theorem frame_Reference15Ideal : Cert.quiescent_Reference15Ideal := fun m ρ _ =>
  (θ_run Cert.Reference15Ideal.defs _ _).mono (fun r h => ⟨fun c => (h c).2.2.2.2.2, sem_eq_zero_of_no_sems rfl r.2⟩) (Cert.Reference15Ideal.Value.run (F := Ideal) m ρ)

theorem frame_Reference16Ideal : Cert.quiescent_Reference16Ideal := fun m ρ _ =>
  (θ_run Cert.Reference16Ideal.defs _ _).mono (fun r h => ⟨fun c => (h c).2.2, sem_eq_zero_of_no_sems rfl r.2⟩) (Cert.Reference16Ideal.Value.run (F := Ideal) m ρ)

theorem frame_Reference17Ideal : Cert.quiescent_Reference17Ideal := fun m ρ _ =>
  (θ_run Cert.Reference17Ideal.defs _ _).mono (fun r h => ⟨fun c => (h c).2, sem_eq_zero_of_no_sems rfl r.2⟩) (Cert.Reference17Ideal.Value.run (F := Ideal) m ρ)

theorem frame_Reference18Ideal : Cert.quiescent_Reference18Ideal := fun m ρ _ =>
  (θ_run Cert.Reference18Ideal.defs _ _).mono (fun r h => ⟨fun c => (h c).2.2, sem_eq_zero_of_no_sems rfl r.2⟩) (Cert.Reference18Ideal.Value.run (F := Ideal) m ρ)

theorem frame_Reference19Ideal : Cert.quiescent_Reference19Ideal := fun m ρ _ =>
  (θ_run Cert.Reference19Ideal.defs _ _).mono (fun r h => ⟨fun c => (h c).2, sem_eq_zero_of_no_sems rfl r.2⟩) (Cert.Reference19Ideal.Value.run (F := Ideal) m ρ)

theorem frame_Reference20Ideal : Cert.quiescent_Reference20Ideal := fun m ρ _ =>
  (θ_run Cert.Reference20Ideal.defs _ _).mono (fun r h => ⟨fun c => (h c).2, sem_eq_zero_of_no_sems rfl r.2⟩) (Cert.Reference20Ideal.Value.run (F := Ideal) m ρ)

theorem frame_Reference21Ideal : Cert.quiescent_Reference21Ideal := fun m ρ _ =>
  (θ_run Cert.Reference21Ideal.defs _ _).mono (fun r h => ⟨fun c => (h c).2.2, sem_eq_zero_of_no_sems rfl r.2⟩) (Cert.Reference21Ideal.Value.run (F := Ideal) m ρ)

theorem frame_Reference22Ideal : Cert.quiescent_Reference22Ideal := fun m ρ _ =>
  (θ_run Cert.Reference22Ideal.defs _ _).mono (fun r h => ⟨fun c => (h c).2.2.2.2, sem_eq_zero_of_no_sems rfl r.2⟩) (Cert.Reference22Ideal.Value.run (F := Ideal) m ρ)

theorem frame_Reference23Ideal : Cert.quiescent_Reference23Ideal := fun m ρ _ =>
  (θ_run Cert.Reference23Ideal.defs _ _).mono (fun r h => ⟨fun c => (h c).2.2.2.2, sem_eq_zero_of_no_sems rfl r.2⟩) (Cert.Reference23Ideal.Value.run (F := Ideal) m ρ)

theorem frame_Reference24Ideal : Cert.quiescent_Reference24Ideal := fun m ρ _ =>
  (θ_run Cert.Reference24Ideal.defs _ _).mono (fun r h => ⟨fun c => (h c).2.2.2.2, sem_eq_zero_of_no_sems rfl r.2⟩) (Cert.Reference24Ideal.Value.run (F := Ideal) m ρ)

theorem frame_Reference25Ideal : Cert.quiescent_Reference25Ideal := fun m ρ _ =>
  (θ_run Cert.Reference25Ideal.defs _ _).mono (fun r h => ⟨fun c => (h c).2.2.2.2, sem_eq_zero_of_no_sems rfl r.2⟩) (Cert.Reference25Ideal.Value.run (F := Ideal) m ρ)

theorem frame_Reference26Ideal : Cert.quiescent_Reference26Ideal := fun m ρ _ =>
  (θ_run Cert.Reference26Ideal.defs _ _).mono (fun r h => ⟨fun c => (h c).2.2.2.2, sem_eq_zero_of_no_sems rfl r.2⟩) (Cert.Reference26Ideal.Value.run (F := Ideal) m ρ)

theorem frame_Reference27Ideal : Cert.quiescent_Reference27Ideal := fun m ρ _ =>
  (θ_run Cert.Reference27Ideal.defs _ _).mono (fun r h => ⟨fun c => (h c).2.2.2.2, sem_eq_zero_of_no_sems rfl r.2⟩) (Cert.Reference27Ideal.Value.run (F := Ideal) m ρ)

theorem frame_Reference28Ideal : Cert.quiescent_Reference28Ideal := fun m ρ _ =>
  (θ_run Cert.Reference28Ideal.defs _ _).mono (fun r h => ⟨fun c => (h c).2.2.2.2, sem_eq_zero_of_no_sems rfl r.2⟩) (Cert.Reference28Ideal.Value.run (F := Ideal) m ρ)

theorem frame_Reference29Ideal : Cert.quiescent_Reference29Ideal := fun m ρ _ =>
  (θ_run Cert.Reference29Ideal.defs _ _).mono (fun r h => ⟨fun c => (h c).2.2.2.2, sem_eq_zero_of_no_sems rfl r.2⟩) (Cert.Reference29Ideal.Value.run (F := Ideal) m ρ)

/-- The programs' facts, the frames, and the claims of value. -/
theorem claim : Cert.Claim :=
  ⟨Cert.Kernel.Gen.facts,
   Cert.KernelIdeal.Gen.facts,
   Cert.ReferenceIdeal.Gen.facts,
   Cert.Kernel2.Gen.facts,
   Cert.Kernel2Ideal.Gen.facts,
   Cert.Reference2Ideal.Gen.facts,
   Cert.Kernel3.Gen.facts,
   Cert.Kernel3Ideal.Gen.facts,
   Cert.Reference3Ideal.Gen.facts,
   Cert.Kernel4.Gen.facts,
   Cert.Kernel4Ideal.Gen.facts,
   Cert.Reference4Ideal.Gen.facts,
   Cert.Kernel5.Gen.facts,
   Cert.Kernel5Ideal.Gen.facts,
   Cert.Reference5Ideal.Gen.facts,
   Cert.Kernel6.Gen.facts,
   Cert.Kernel6Ideal.Gen.facts,
   Cert.Reference6Ideal.Gen.facts,
   Cert.Kernel7.Gen.facts,
   Cert.Kernel7Ideal.Gen.facts,
   Cert.Reference7Ideal.Gen.facts,
   Cert.Kernel8.Gen.facts,
   Cert.Kernel8Ideal.Gen.facts,
   Cert.Reference8Ideal.Gen.facts,
   Cert.Kernel9.Gen.facts,
   Cert.Kernel9Ideal.Gen.facts,
   Cert.Reference9Ideal.Gen.facts,
   Cert.Kernel10.Gen.facts,
   Cert.Kernel10Ideal.Gen.facts,
   Cert.Reference10Ideal.Gen.facts,
   Cert.Kernel11.Gen.facts,
   Cert.Kernel11Ideal.Gen.facts,
   Cert.Reference11Ideal.Gen.facts,
   Cert.Kernel12.Gen.facts,
   Cert.Kernel12Ideal.Gen.facts,
   Cert.Reference12Ideal.Gen.facts,
   Cert.Kernel13.Gen.facts,
   Cert.Kernel13Ideal.Gen.facts,
   Cert.Reference13Ideal.Gen.facts,
   Cert.Kernel14.Gen.facts,
   Cert.Kernel14Ideal.Gen.facts,
   Cert.Reference14Ideal.Gen.facts,
   Cert.Kernel15.Gen.facts,
   Cert.Kernel15Ideal.Gen.facts,
   Cert.Reference15Ideal.Gen.facts,
   Cert.Kernel16.Gen.facts,
   Cert.Kernel16Ideal.Gen.facts,
   Cert.Reference16Ideal.Gen.facts,
   Cert.Kernel17.Gen.facts,
   Cert.Kernel17Ideal.Gen.facts,
   Cert.Reference17Ideal.Gen.facts,
   Cert.Kernel18.Gen.facts,
   Cert.Kernel18Ideal.Gen.facts,
   Cert.Reference18Ideal.Gen.facts,
   Cert.Kernel19.Gen.facts,
   Cert.Kernel19Ideal.Gen.facts,
   Cert.Reference19Ideal.Gen.facts,
   Cert.Kernel20.Gen.facts,
   Cert.Kernel20Ideal.Gen.facts,
   Cert.Reference20Ideal.Gen.facts,
   Cert.Kernel21.Gen.facts,
   Cert.Kernel21Ideal.Gen.facts,
   Cert.Reference21Ideal.Gen.facts,
   Cert.Kernel22.Gen.facts,
   Cert.Kernel22Ideal.Gen.facts,
   Cert.Reference22Ideal.Gen.facts,
   Cert.Kernel23.Gen.facts,
   Cert.Kernel23Ideal.Gen.facts,
   Cert.Reference23Ideal.Gen.facts,
   Cert.Kernel24.Gen.facts,
   Cert.Kernel24Ideal.Gen.facts,
   Cert.Reference24Ideal.Gen.facts,
   Cert.Kernel25.Gen.facts,
   Cert.Kernel25Ideal.Gen.facts,
   Cert.Reference25Ideal.Gen.facts,
   Cert.Kernel26.Gen.facts,
   Cert.Kernel26Ideal.Gen.facts,
   Cert.Reference26Ideal.Gen.facts,
   Cert.Kernel27.Gen.facts,
   Cert.Kernel27Ideal.Gen.facts,
   Cert.Reference27Ideal.Gen.facts,
   Cert.Kernel28.Gen.facts,
   Cert.Kernel28Ideal.Gen.facts,
   Cert.Reference28Ideal.Gen.facts,
   Cert.Kernel29.Gen.facts,
   Cert.Kernel29Ideal.Gen.facts,
   Cert.Reference29Ideal.Gen.facts,
   Cert.Pre_finite2.Gen.facts,
   Cert.Pre_finite12.Gen.facts,
   (fun m ρ _ => Cert.Kernel.Gen.frame m ρ),
   (fun m ρ _ => Cert.KernelIdeal.Gen.frame m ρ),
   frame_ReferenceIdeal,
   (fun m ρ _ => Cert.Kernel2.Gen.frame m ρ),
   (fun m ρ _ => Cert.Kernel2Ideal.Gen.frame m ρ),
   (fun m ρ _ => Cert.Kernel2Ideal.Gen.frame m ρ),
   frame_Reference2Ideal,
   (fun m ρ _ => frame_Reference2Ideal m ρ trivial),
   (fun m ρ _ => Cert.Kernel3.Gen.frame m ρ),
   (fun m ρ _ => Cert.Kernel3Ideal.Gen.frame m ρ),
   frame_Reference3Ideal,
   (fun m ρ _ => Cert.Kernel4.Gen.frame m ρ),
   (fun m ρ _ => Cert.Kernel4Ideal.Gen.frame m ρ),
   frame_Reference4Ideal,
   (fun m ρ _ => Cert.Kernel5.Gen.frame m ρ),
   (fun m ρ _ => Cert.Kernel5Ideal.Gen.frame m ρ),
   frame_Reference5Ideal,
   (fun m ρ _ => Cert.Kernel6.Gen.frame m ρ),
   (fun m ρ _ => Cert.Kernel6Ideal.Gen.frame m ρ),
   frame_Reference6Ideal,
   (fun m ρ _ => Cert.Kernel7.Gen.frame m ρ),
   (fun m ρ _ => Cert.Kernel7Ideal.Gen.frame m ρ),
   frame_Reference7Ideal,
   (fun m ρ _ => Cert.Kernel8.Gen.frame m ρ),
   (fun m ρ _ => Cert.Kernel8Ideal.Gen.frame m ρ),
   frame_Reference8Ideal,
   (fun m ρ _ => Cert.Kernel9.Gen.frame m ρ),
   (fun m ρ _ => Cert.Kernel9Ideal.Gen.frame m ρ),
   frame_Reference9Ideal,
   (fun m ρ _ => Cert.Kernel10.Gen.frame m ρ),
   (fun m ρ _ => Cert.Kernel10Ideal.Gen.frame m ρ),
   frame_Reference10Ideal,
   (fun m ρ _ => Cert.Kernel11.Gen.frame m ρ),
   (fun m ρ _ => Cert.Kernel11Ideal.Gen.frame m ρ),
   frame_Reference11Ideal,
   (fun m ρ _ => Cert.Kernel12.Gen.frame m ρ),
   (fun m ρ _ => Cert.Kernel12Ideal.Gen.frame m ρ),
   (fun m ρ _ => Cert.Kernel12Ideal.Gen.frame m ρ),
   frame_Reference12Ideal,
   (fun m ρ _ => frame_Reference12Ideal m ρ trivial),
   (fun m ρ _ => Cert.Kernel13.Gen.frame m ρ),
   (fun m ρ _ => Cert.Kernel13Ideal.Gen.frame m ρ),
   frame_Reference13Ideal,
   (fun m ρ _ => Cert.Kernel14.Gen.frame m ρ),
   (fun m ρ _ => Cert.Kernel14Ideal.Gen.frame m ρ),
   frame_Reference14Ideal,
   (fun m ρ _ => Cert.Kernel15.Gen.frame m ρ),
   (fun m ρ _ => Cert.Kernel15Ideal.Gen.frame m ρ),
   frame_Reference15Ideal,
   (fun m ρ _ => Cert.Kernel16.Gen.frame m ρ),
   (fun m ρ _ => Cert.Kernel16Ideal.Gen.frame m ρ),
   frame_Reference16Ideal,
   (fun m ρ _ => Cert.Kernel17.Gen.frame m ρ),
   (fun m ρ _ => Cert.Kernel17Ideal.Gen.frame m ρ),
   frame_Reference17Ideal,
   (fun m ρ _ => Cert.Kernel18.Gen.frame m ρ),
   (fun m ρ _ => Cert.Kernel18Ideal.Gen.frame m ρ),
   frame_Reference18Ideal,
   (fun m ρ _ => Cert.Kernel19.Gen.frame m ρ),
   (fun m ρ _ => Cert.Kernel19Ideal.Gen.frame m ρ),
   frame_Reference19Ideal,
   (fun m ρ _ => Cert.Kernel20.Gen.frame m ρ),
   (fun m ρ _ => Cert.Kernel20Ideal.Gen.frame m ρ),
   frame_Reference20Ideal,
   (fun m ρ _ => Cert.Kernel21.Gen.frame m ρ),
   (fun m ρ _ => Cert.Kernel21Ideal.Gen.frame m ρ),
   frame_Reference21Ideal,
   (fun m ρ _ => Cert.Kernel22.Gen.frame m ρ),
   (fun m ρ _ => Cert.Kernel22Ideal.Gen.frame m ρ),
   frame_Reference22Ideal,
   (fun m ρ _ => Cert.Kernel23.Gen.frame m ρ),
   (fun m ρ _ => Cert.Kernel23Ideal.Gen.frame m ρ),
   frame_Reference23Ideal,
   (fun m ρ _ => Cert.Kernel24.Gen.frame m ρ),
   (fun m ρ _ => Cert.Kernel24Ideal.Gen.frame m ρ),
   frame_Reference24Ideal,
   (fun m ρ _ => Cert.Kernel25.Gen.frame m ρ),
   (fun m ρ _ => Cert.Kernel25Ideal.Gen.frame m ρ),
   frame_Reference25Ideal,
   (fun m ρ _ => Cert.Kernel26.Gen.frame m ρ),
   (fun m ρ _ => Cert.Kernel26Ideal.Gen.frame m ρ),
   frame_Reference26Ideal,
   (fun m ρ _ => Cert.Kernel27.Gen.frame m ρ),
   (fun m ρ _ => Cert.Kernel27Ideal.Gen.frame m ρ),
   frame_Reference27Ideal,
   (fun m ρ _ => Cert.Kernel28.Gen.frame m ρ),
   (fun m ρ _ => Cert.Kernel28Ideal.Gen.frame m ρ),
   frame_Reference28Ideal,
   (fun m ρ _ => Cert.Kernel29.Gen.frame m ρ),
   (fun m ρ _ => Cert.Kernel29Ideal.Gen.frame m ρ),
   frame_Reference29Ideal,
   trivial,
   trivial,
   GateGrad.algebraic,
   trivial,
   FfnIn1.algebraic,
   trivial,
   ScanIn1.algebraic,
   trivial,
   FfnIn0.algebraic,
   trivial,
   FfnOut1.algebraic,
   trivial,
   FfnOut0.algebraic,
   trivial,
   ScanOut1.algebraic,
   trivial,
   MixIn0.algebraic,
   trivial,
   MixOut0.algebraic,
   trivial,
   MixBack0.algebraic,
   trivial,
   GateGrad0.algebraic,
   trivial,
   FfnEntry1.algebraic,
   trivial,
   ScanEntry1.algebraic,
   trivial,
   FfnEntry0.algebraic,
   trivial,
   FfnGate1.algebraic,
   trivial,
   FfnExit1.algebraic,
   trivial,
   FfnGate0.algebraic,
   trivial,
   FfnExit0.algebraic,
   trivial,
   MixExit0.algebraic,
   trivial,
   MixEntry0.algebraic,
   trivial,
   AdamMod.algebraic,
   trivial,
   AdamFfnIn.algebraic,
   trivial,
   AdamFfnOut.algebraic,
   trivial,
   AdamSsdIn.algebraic,
   trivial,
   AdamSsdOut.algebraic,
   trivial,
   AdamMixIn.algebraic,
   trivial,
   AdamMixOut.algebraic,
   trivial,
   AdamSmall.algebraic⟩

end Cert.Proof

end
